-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v4_0)) (v1 : (c : Dev Cert.MlpIdeal.nD) → Buf (Elt Ideal) ((c.tc : Thread Cert.MlpIdeal.nD Cert.MlpIdeal.τ).loc Cert.MlpIdeal.main_v4_1)) (v2 : (c : Dev Cert.MlpIdeal.nD) → Buf (Elt Ideal) ((c.tc : Thread Cert.MlpIdeal.nD Cert.MlpIdeal.τ).loc Cert.MlpIdeal.main_v4_2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4_0) = v0 c
          ∧ r.2.mem ((c.tc : Thread Cert.MlpIdeal.nD Cert.MlpIdeal.τ).loc Cert.MlpIdeal.main_v4_1) = v1 c
          ∧ r.2.mem ((c.tc : Thread Cert.MlpIdeal.nD Cert.MlpIdeal.τ).loc Cert.MlpIdeal.main_v4_2) = v2 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v1_0) = v0 c
          ∧ r.2.mem ((c.tc : Thread Cert.MlpRefIdeal.nD Cert.MlpRefIdeal.τ).loc Cert.MlpRefIdeal.main_v1_1) = v1 c
          ∧ r.2.mem ((c.tc : Thread Cert.MlpRefIdeal.nD Cert.MlpRefIdeal.τ).loc Cert.MlpRefIdeal.main_v1_2) = v2 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v4_0)) (v1 : (c : Dev Cert.OprojIdeal.nD) → Buf (Elt Ideal) ((c.tc : Thread Cert.OprojIdeal.nD Cert.OprojIdeal.τ).loc Cert.OprojIdeal.main_v4_1)) (v2 : (c : Dev Cert.OprojIdeal.nD) → Buf (Elt Ideal) ((c.tc : Thread Cert.OprojIdeal.nD Cert.OprojIdeal.τ).loc Cert.OprojIdeal.main_v4_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v4_0) = v0 c
          ∧ r.2.mem ((c.tc : Thread Cert.OprojIdeal.nD Cert.OprojIdeal.τ).loc Cert.OprojIdeal.main_v4_1) = v1 c
          ∧ r.2.mem ((c.tc : Thread Cert.OprojIdeal.nD Cert.OprojIdeal.τ).loc Cert.OprojIdeal.main_v4_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v3_0) = v0 c
          ∧ r.2.mem ((c.tc : Thread Cert.OprojRefIdeal.nD Cert.OprojRefIdeal.τ).loc Cert.OprojRefIdeal.main_v3_1) = v1 c
          ∧ r.2.mem ((c.tc : Thread Cert.OprojRefIdeal.nD Cert.OprojRefIdeal.τ).loc Cert.OprojRefIdeal.main_v3_2) = v2 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v5_0)) (v1 : (c : Dev Cert.QkvIdeal.nD) → Buf (Elt Ideal) ((c.tc : Thread Cert.QkvIdeal.nD Cert.QkvIdeal.τ).loc Cert.QkvIdeal.main_v5_1)) (v2 : (c : Dev Cert.QkvIdeal.nD) → Buf (Elt Ideal) ((c.tc : Thread Cert.QkvIdeal.nD Cert.QkvIdeal.τ).loc Cert.QkvIdeal.main_v5_3)) (v3 : (c : Dev Cert.QkvIdeal.nD) → Buf (Elt Ideal) ((c.tc : Thread Cert.QkvIdeal.nD Cert.QkvIdeal.τ).loc Cert.QkvIdeal.main_v5_4)) (v4 : (c : Dev Cert.QkvIdeal.nD) → Buf (Elt Ideal) ((c.tc : Thread Cert.QkvIdeal.nD Cert.QkvIdeal.τ).loc Cert.QkvIdeal.main_v5_5)) (v5 : (c : Dev Cert.QkvIdeal.nD) → Buf (Elt Ideal) ((c.tc : Thread Cert.QkvIdeal.nD Cert.QkvIdeal.τ).loc Cert.QkvIdeal.main_v5_6)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v5_0) = v0 c
          ∧ r.2.mem ((c.tc : Thread Cert.QkvIdeal.nD Cert.QkvIdeal.τ).loc Cert.QkvIdeal.main_v5_1) = v1 c
          ∧ r.2.mem ((c.tc : Thread Cert.QkvIdeal.nD Cert.QkvIdeal.τ).loc Cert.QkvIdeal.main_v5_3) = v2 c
          ∧ r.2.mem ((c.tc : Thread Cert.QkvIdeal.nD Cert.QkvIdeal.τ).loc Cert.QkvIdeal.main_v5_4) = v3 c
          ∧ r.2.mem ((c.tc : Thread Cert.QkvIdeal.nD Cert.QkvIdeal.τ).loc Cert.QkvIdeal.main_v5_5) = v4 c
          ∧ r.2.mem ((c.tc : Thread Cert.QkvIdeal.nD Cert.QkvIdeal.τ).loc Cert.QkvIdeal.main_v5_6) = v5 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v3_0) = v0 c
          ∧ r.2.mem ((c.tc : Thread Cert.QkvRefIdeal.nD Cert.QkvRefIdeal.τ).loc Cert.QkvRefIdeal.main_v3_1) = v1 c
          ∧ r.2.mem ((c.tc : Thread Cert.QkvRefIdeal.nD Cert.QkvRefIdeal.τ).loc Cert.QkvRefIdeal.main_v3_2) = v2 c
          ∧ r.2.mem ((c.tc : Thread Cert.QkvRefIdeal.nD Cert.QkvRefIdeal.τ).loc Cert.QkvRefIdeal.main_v3_3) = v3 c
          ∧ r.2.mem ((c.tc : Thread Cert.QkvRefIdeal.nD Cert.QkvRefIdeal.τ).loc Cert.QkvRefIdeal.main_v3_4) = v4 c
          ∧ r.2.mem ((c.tc : Thread Cert.QkvRefIdeal.nD Cert.QkvRefIdeal.τ).loc Cert.QkvRefIdeal.main_v3_5) = v5 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5))

def Claim : Prop :=
  ∃ (hMlp : Cert.Mlp.Facts) (hMlpIdeal : Cert.MlpIdeal.Facts) (hMlpRefIdeal : Cert.MlpRefIdeal.Facts) (hOproj : Cert.Oproj.Facts) (hOprojIdeal : Cert.OprojIdeal.Facts) (hOprojRefIdeal : Cert.OprojRefIdeal.Facts) (hQkv : Cert.Qkv.Facts) (hQkvIdeal : Cert.QkvIdeal.Facts) (hQkvRefIdeal : Cert.QkvRefIdeal.Facts),
    quiescent_Mlp (hMlp := hMlp)
    ∧ quiescent_MlpIdeal (hMlpIdeal := hMlpIdeal)
    ∧ quiescent_MlpRefIdeal (hMlpRefIdeal := hMlpRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Qkv (hQkv := hQkv)
    ∧ quiescent_QkvIdeal (hQkvIdeal := hQkvIdeal)
    ∧ quiescent_QkvRefIdeal (hQkvRefIdeal := hQkvRefIdeal)
    ∧ preserves_Mlp_MlpIdeal
    ∧ algebraic_MlpIdeal_MlpRefIdeal (hMlpIdeal := hMlpIdeal) (hMlpRefIdeal := hMlpRefIdeal)
    ∧ preserves_Oproj_OprojIdeal
    ∧ algebraic_OprojIdeal_OprojRefIdeal (hOprojIdeal := hOprojIdeal) (hOprojRefIdeal := hOprojRefIdeal)
    ∧ preserves_Qkv_QkvIdeal
    ∧ algebraic_QkvIdeal_QkvRefIdeal (hQkvIdeal := hQkvIdeal) (hQkvRefIdeal := hQkvRefIdeal)
-- ==== Mlp.lean ====
abbrev S4608x2048 : Shape := ⟨2, ![4608, 2048]⟩
abbrev S4608x1 : Shape := ⟨2, ![4608, 1]⟩
abbrev S2048x2x6144 : Shape := ⟨3, ![2048, 2, 6144]⟩
abbrev S2x6144 : Shape := ⟨2, ![2, 6144]⟩
abbrev S6144x2048 : Shape := ⟨2, ![6144, 2048]⟩
abbrev S2048 : Shape := ⟨1, ![2048]⟩
abbrev S4608x128 : Shape := ⟨2, ![4608, 128]⟩
abbrev S2x2048x6144 : Shape := ⟨3, ![2, 2048, 6144]⟩
abbrev S1x12288 : Shape := ⟨2, ![1, 12288]⟩
abbrev S1x2048 : Shape := ⟨2, ![1, 2048]⟩
abbrev S4608x6144 : Shape := ⟨2, ![4608, 6144]⟩
abbrev S9x1x512 : Shape := ⟨3, ![9, 1, 512]⟩
abbrev S512x2048 : Shape := ⟨2, ![512, 2048]⟩
abbrev S1x2048x512 : Shape := ⟨3, ![1, 2048, 512]⟩
abbrev S1x512 : Shape := ⟨2, ![1, 512]⟩
abbrev S512x128 : Shape := ⟨2, ![512, 128]⟩
abbrev S512x512 : Shape := ⟨2, ![512, 512]⟩
abbrev S1x1x512 : Shape := ⟨3, ![1, 1, 512]⟩
abbrev S12x512x512 : Shape := ⟨3, ![12, 512, 512]⟩
abbrev S1x2048x256 : Shape := ⟨3, ![1, 2048, 256]⟩
abbrev S2048x256 : Shape := ⟨2, ![2048, 256]⟩
abbrev S512x256 : Shape := ⟨2, ![512, 256]⟩
abbrev S1x128 : Shape := ⟨2, ![1, 128]⟩
abbrev S1x512x128 : Shape := ⟨3, ![1, 512, 128]⟩
abbrev S32x1 : Shape := ⟨2, ![32, 1]⟩
abbrev S32x2048 : Shape := ⟨2, ![32, 2048]⟩
abbrev S512 : Shape := ⟨1, ![512]⟩
abbrev S512x1 : Shape := ⟨2, ![512, 1]⟩
abbrev S128x512 : Shape := ⟨2, ![128, 512]⟩

abbrev nBuf : Space → Nat
  | .hbm => 14
  | .vmem => 27
  | .smem => 0
  | _ => 0

abbrev bufTy : (tb : Table) → Fin (tcTables nBuf tb) → BufTy
  | .hbm, ⟨0, _⟩ => ⟨S4608x2048, .i8⟩
  | .hbm, ⟨1, _⟩ => ⟨S4608x1, .f32⟩
  | .hbm, ⟨2, _⟩ => ⟨S2048x2x6144, .i8⟩
  | .hbm, ⟨3, _⟩ => ⟨S2x6144, .f32⟩
  | .hbm, ⟨4, _⟩ => ⟨S6144x2048, .i8⟩
  | .hbm, ⟨5, _⟩ => ⟨S2048, .f32⟩
  | .hbm, ⟨6, _⟩ => ⟨S4608x2048, .f32⟩
  | .hbm, ⟨7, _⟩ => ⟨S4608x128, .f32⟩
  | .hbm, ⟨8, _⟩ => ⟨S2x2048x6144, .i8⟩
  | .hbm, ⟨9, _⟩ => ⟨S1x12288, .f32⟩
  | .hbm, ⟨10, _⟩ => ⟨S1x2048, .f32⟩
  | .hbm, ⟨11, _⟩ => ⟨S4608x2048, .bf16⟩
  | .hbm, ⟨12, _⟩ => ⟨S4608x6144, .i8⟩
  | .hbm, ⟨13, _⟩ => ⟨S9x1x512, .f32⟩
  | .local _ .vmem, ⟨0, _⟩ => ⟨S512x2048, .i8⟩
  | .local _ .vmem, ⟨1, _⟩ => ⟨S512x2048, .i8⟩
  | .local _ .vmem, ⟨2, _⟩ => ⟨S1x2048x512, .i8⟩
  | .local _ .vmem, ⟨3, _⟩ => ⟨S1x2048x512, .i8⟩
  | .local _ .vmem, ⟨4, _⟩ => ⟨S1x2048x512, .i8⟩
  | .local _ .vmem, ⟨5, _⟩ => ⟨S1x2048x512, .i8⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x128, .f32⟩
  | .local _ .vmem, ⟨11, _⟩ => ⟨S512x128, .f32⟩
  | .local _ .vmem, ⟨12, _⟩ => ⟨S512x2048, .i8⟩
  | .local _ .vmem, ⟨13, _⟩ => ⟨S512x2048, .i8⟩
  | .local _ .vmem, ⟨14, _⟩ => ⟨S1x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | .local _ .vmem, ⟨18, _⟩ => ⟨S512x512, .i8⟩
  | .local _ .vmem, ⟨19, _⟩ => ⟨S512x512, .i8⟩
  | .local _ .vmem, ⟨20, _⟩ => ⟨S1x1x512, .f32⟩
  | .local _ .vmem, ⟨21, _⟩ => ⟨S1x1x512, .f32⟩
  | .local _ .vmem, ⟨22, _⟩ => ⟨S512x2048, .bf16⟩
  | .local _ .vmem, ⟨23, _⟩ => ⟨S12x512x512, .f32⟩
  | .local _ .vmem, ⟨24, _⟩ => ⟨S512x128, .f32⟩
  | .local _ .vmem, ⟨25, _⟩ => ⟨S512x128, .f32⟩
  | .local _ .vmem, ⟨26, _⟩ => ⟨S512x2048, .f32⟩
  | _, _ => ⟨S4608x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![10, 12], ![false, false]⟩

def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let v6 : BitVec 32 := Scalar.extui v5
  let c0_i32_2 : BitVec 32 := 0#32
  let v7 : BitVec 1 := Scalar.cmpi .ne v6 c0_i32_2
  v7

def k0_off1 (i : grid0.Coords) : Fin 3 → Nat :=
  let arg1 : BitVec 32 := BitVec.ofNat 32 (i 1).val
  let v56 : Index := Scalar.indexCast arg1
  let c0_31 : Index := 0#32
  let c0_32 : Index := 0#32
  ![v56.toNat, 0, 0]
def k0_off2 (i : grid0.Coords) : Fin 3 → Nat :=
  let arg1 : BitVec 32 := BitVec.ofNat 32 (i 1).val
  let v77 : Index := Scalar.indexCast arg1
  let c0_36 : Index := 0#32
  let c128_37 : Index := 128#32
  ![v77.toNat, 0, 128]
def k0_off3 (i : grid0.Coords) : Fin 3 → Nat :=
  let arg1 : BitVec 32 := BitVec.ofNat 32 (i 1).val
  let v106 : Index := Scalar.indexCast arg1
  let c0_49 : Index := 0#32
  let c256_50 : Index := 256#32
  ![v106.toNat, 0, 256]
def k0_off4 (i : grid0.Coords) : Fin 3 → Nat :=
  let arg1 : BitVec 32 := BitVec.ofNat 32 (i 1).val
  let v127 : Index := Scalar.indexCast arg1
  let c0_54 : Index := 0#32
  let c384_55 : Index := 384#32
  ![v127.toNat, 0, 384]
def k0_cond3 (i : grid0.Coords) : BitVec 1 :=
  let arg0 : BitVec 32 := BitVec.ofNat 32 (i 0).val
  let c0_i32_3 : BitVec 32 := 0#32
  let v8 : BitVec 1 := Scalar.cmpi .sgt arg0 c0_i32_3
  let c9_i32_4 : BitVec 32 := 9#32
  let v9 : BitVec 1 := Scalar.cmpi .slt arg0 c9_i32_4
  let v10 : BitVec 1 := Scalar.andi v8 v9
  let v11 : BitVec 32 := Scalar.extui v10
  let c0_i32_5 : BitVec 32 := 0#32
  let v12 : BitVec 1 := Scalar.cmpi .ne v11 c0_i32_5
  v12

def k0_off5 (i : grid0.Coords) : Fin 3 → Nat :=
  let arg1 : BitVec 32 := BitVec.ofNat 32 (i 1).val
  let v26 : Index := Scalar.indexCast arg1
  let c0 : Index := 0#32
  let c0_13 : Index := 0#32
  ![v26.toNat, 0, 0]
def k0_off6 (i : grid0.Coords) : Fin 3 → Nat :=
  let arg1 : BitVec 32 := BitVec.ofNat 32 (i 1).val
  let v39 : Index := Scalar.indexCast arg1
  let c0_19 : Index := 0#32
  let c128 : Index := 128#32
  ![v39.toNat, 0, 128]
def k0_off7 (i : grid0.Coords) : Fin 3 → Nat :=
  let arg1 : BitVec 32 := BitVec.ofNat 32 (i 1).val
  let v52 : Index := Scalar.indexCast arg1
  let c0_26 : Index := 0#32
  let c256 : Index := 256#32
  ![v52.toNat, 0, 256]
def k0_off8 (i : grid0.Coords) : Fin 3 → Nat :=
  let arg1 : BitVec 32 := BitVec.ofNat 32 (i 1).val
  let v65 : Index := Scalar.indexCast arg1
  let c0_33 : Index := 0#32
  let c384 : Index := 384#32
  ![v65.toNat, 0, 384]
def k0_cond4 (i : grid0.Coords) : BitVec 1 :=
  let arg0 : BitVec 32 := BitVec.ofNat 32 (i 0).val
  let c9_i32_6 : BitVec 32 := 9#32
  let v13 : BitVec 1 := Scalar.cmpi .eq arg0 c9_i32_6
  let v14 : BitVec 32 := Scalar.extui v13
  let c0_i32_7 : BitVec 32 := 0#32
  let v15 : BitVec 1 := Scalar.cmpi .ne v14 c0_i32_7
  v15

def k0_off9 (i : grid0.Coords) : Fin 3 → Nat :=
  let arg1 : BitVec 32 := BitVec.ofNat 32 (i 1).val
  let v26 : Index := Scalar.indexCast arg1
  let c0 : Index := 0#32
  let c0_13 : Index := 0#32
  ![v26.toNat, 0, 0]
def k0_off10 (i : grid0.Coords) : Fin 3 → Nat :=
  let arg1 : BitVec 32 := BitVec.ofNat 32 (i 1).val
  let v39 : Index := Scalar.indexCast arg1
  let c0_19 : Index := 0#32
  let c128 : Index := 128#32
  ![v39.toNat, 0, 128]
def k0_off11 (i : grid0.Coords) : Fin 3 → Nat :=
  let arg1 : BitVec 32 := BitVec.ofNat 32 (i 1).val
  let v52 : Index := Scalar.indexCast arg1
  let c0_26 : Index := 0#32
  let c256 : Index := 256#32
  ![v52.toNat, 0, 256]
def k0_off12 (i : grid0.Coords) : Fin 3 → Nat :=
  let arg1 : BitVec 32 := BitVec.ofNat 32 (i 1).val
  let v65 : Index := Scalar.indexCast arg1
  let c0_33 : Index := 0#32
  let c384 : Index := 384#32
  ![v65.toNat, 0, 384]
def k0_cond5 (i : grid0.Coords) : BitVec 1 :=
  let arg1 : BitVec 32 := BitVec.ofNat 32 (i 1).val
  let c11_i32 : BitVec 32 := 11#32
  let v16 : BitVec 1 := Scalar.cmpi .eq arg1 c11_i32
  let arg0 : BitVec 32 := BitVec.ofNat 32 (i 0).val
  let c0_i32_8 : BitVec 32 := 0#32
  let v17 : BitVec 1 := Scalar.cmpi .sgt arg0 c0_i32_8
  let v18 : BitVec 1 := Scalar.andi v16 v17
  let v19 : BitVec 32 := Scalar.extui v18
  let c0_i32_9 : BitVec 32 := 0#32
  let v20 : BitVec 1 := Scalar.cmpi .ne v19 c0_i32_9
  v20

def k0_cond6 (i : grid0.Coords) : BitVec 1 :=
  let arg1 : BitVec 32 := BitVec.ofNat 32 (i 1).val
  let c11_i32_10 : BitVec 32 := 11#32
  let v21 : BitVec 1 := Scalar.cmpi .eq arg1 c11_i32_10
  let arg0 : BitVec 32 := BitVec.ofNat 32 (i 0).val
  let c9_i32_11 : BitVec 32 := 9#32
  let v22 : BitVec 1 := Scalar.cmpi .slt arg0 c9_i32_11
  let v23 : BitVec 1 := Scalar.andi v21 v22
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 1 := Scalar.cmpi .slt arg0 c9_i32
  let c11_i32 : BitVec 32 := 11#32
  let v1 : BitVec 32 := Scalar.select v0 arg1 c11_i32
  let c0_i32 : BitVec 32 := 0#32
  let c0_i32_0 : BitVec 32 := 0#32
  let c0_i32_1 : BitVec 32 := 0#32
  ![c0_i32.toNat, c0_i32_0.toNat, v1.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 1 := Scalar.cmpi .slt arg0 c9_i32
  let c11_i32 : BitVec 32 := 11#32
  let v1 : BitVec 32 := Scalar.select v0 arg1 c11_i32
  let c1_i32 : BitVec 32 := 1#32
  let c0_i32 : BitVec 32 := 0#32
  let c0_i32_0 : BitVec 32 := 0#32
  ![c1_i32.toNat, c0_i32.toNat, v1.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .slt arg0 c9_i32
  let c11_i32 : BitVec 32 := 11#32
  let v1 : BitVec 32 := Scalar.select v0 arg1 c11_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .slt arg0 c9_i32
  let c11_i32 : BitVec 32 := 11#32
  let v1 : BitVec 32 := Scalar.select v0 arg1 c11_i32
  let c12_i32 : BitVec 32 := 12#32
  let v2 : BitVec 32 := Scalar.addi c12_i32 v1
  let c0_i32 : BitVec 32 := 0#32
  let c0_i32_0 : BitVec 32 := 0#32
  ![c0_i32.toNat, v2.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S512x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== MlpRefIdeal.lean ====
abbrev S4608x2048 : Shape := ⟨2, ![4608, 2048]⟩
abbrev S4608x1 : Shape := ⟨2, ![4608, 1]⟩
abbrev S2048x2x6144 : Shape := ⟨3, ![2048, 2, 6144]⟩
abbrev S2x6144 : Shape := ⟨2, ![2, 6144]⟩
abbrev S6144x2048 : Shape := ⟨2, ![6144, 2048]⟩
abbrev S2048 : Shape := ⟨1, ![2048]⟩
abbrev S1x2048 : Shape := ⟨2, ![1, 2048]⟩
abbrev S4608x6144 : Shape := ⟨2, ![4608, 6144]⟩
abbrev S9x1x512 : Shape := ⟨3, ![9, 1, 512]⟩
abbrev S2048x1x6144 : Shape := ⟨3, ![2048, 1, 6144]⟩
abbrev S2048x6144 : Shape := ⟨2, ![2048, 6144]⟩
abbrev S1x6144 : Shape := ⟨2, ![1, 6144]⟩
abbrev S4608 : Shape := ⟨1, ![4608]⟩

abbrev nBuf : Space → Nat
  | .hbm => 11
  | .vmem => 10
  | .smem => 0
  | _ => 0

abbrev bufTy : (tb : Table) → Fin (tcTables nBuf tb) → BufTy
  | .hbm, ⟨0, _⟩ => ⟨S4608x2048, .i8⟩
  | .hbm, ⟨1, _⟩ => ⟨S4608x1, .f32⟩
  | .hbm, ⟨2, _⟩ => ⟨S2048x2x6144, .i8⟩
  | .hbm, ⟨3, _⟩ => ⟨S2x6144, .f32⟩
  | .hbm, ⟨4, _⟩ => ⟨S6144x2048, .i8⟩
  | .hbm, ⟨5, _⟩ => ⟨S2048, .f32⟩
  | .hbm, ⟨6, _⟩ => ⟨S4608x2048, .f32⟩
  | .hbm, ⟨7, _⟩ => ⟨S1x2048, .f32⟩
  | .hbm, ⟨8, _⟩ => ⟨S4608x2048, .bf16⟩
  | .hbm, ⟨9, _⟩ => ⟨S4608x6144, .i8⟩
  | .hbm, ⟨10, _⟩ => ⟨S9x1x512, .f32⟩
  | .local _ .vmem, ⟨0, _⟩ => ⟨S4608x2048, .i8⟩
  | .local _ .vmem, ⟨1, _⟩ => ⟨S4608x1, .f32⟩
  | .local _ .vmem, ⟨2, _⟩ => ⟨S2048x2x6144, .i8⟩
  | .local _ .vmem, ⟨3, _⟩ => ⟨S2x6144, .f32⟩
  | .local _ .vmem, ⟨4, _⟩ => ⟨S6144x2048, .i8⟩
  | .local _ .vmem, ⟨5, _⟩ => ⟨S1x2048, .f32⟩
  | .local _ .vmem, ⟨6, _⟩ => ⟨S4608x2048, .f32⟩
  | .local _ .vmem, ⟨7, _⟩ => ⟨S4608x2048, .bf16⟩
  | .local _ .vmem, ⟨8, _⟩ => ⟨S4608x6144, .i8⟩
  | .local _ .vmem, ⟨9, _⟩ => ⟨S9x1x512, .f32⟩
  | _, _ => ⟨S4608x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4608x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2x6144 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x2048 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4608x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4608x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4608x6144 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S9x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Oproj.lean ====
abbrev S4608x2048 : Shape := ⟨2, ![4608, 2048]⟩
abbrev S4608x1 : Shape := ⟨2, ![4608, 1]⟩
abbrev S16x128x2048 : Shape := ⟨3, ![16, 128, 2048]⟩
abbrev S2048 : Shape := ⟨1, ![2048]⟩
abbrev S4608x128 : Shape := ⟨2, ![4608, 128]⟩
abbrev S2048x2048 : Shape := ⟨2, ![2048, 2048]⟩
abbrev S1x2048 : Shape := ⟨2, ![1, 2048]⟩
abbrev S18x1x256 : Shape := ⟨3, ![18, 1, 256]⟩
abbrev S256x2048 : Shape := ⟨2, ![256, 2048]⟩
abbrev S256x128 : Shape := ⟨2, ![256, 128]⟩
abbrev S1x1x256 : Shape := ⟨3, ![1, 1, 256]⟩
abbrev S2x256x2048 : Shape := ⟨3, ![2, 256, 2048]⟩
abbrev S2048x256 : Shape := ⟨2, ![2048, 256]⟩
abbrev S256x256 : Shape := ⟨2, ![256, 256]⟩
abbrev S1x256x256 : Shape := ⟨3, ![1, 256, 256]⟩
abbrev S32x1 : Shape := ⟨2, ![32, 1]⟩
abbrev S32x2048 : Shape := ⟨2, ![32, 2048]⟩
abbrev S1x32x2048 : Shape := ⟨3, ![1, 32, 2048]⟩
abbrev S32 : Shape := ⟨1, ![32]⟩
abbrev S32x128 : Shape := ⟨2, ![32, 128]⟩
abbrev S128x256 : Shape := ⟨2, ![128, 256]⟩
abbrev S1x256 : Shape := ⟨2, ![1, 256]⟩

abbrev nBuf : Space → Nat
  | .hbm => 14
  | .vmem => 18
  | .smem => 0
  | _ => 0

abbrev bufTy : (tb : Table) → Fin (tcTables nBuf tb) → BufTy
  | .hbm, ⟨0, _⟩ => ⟨S4608x2048, .i8⟩
  | .hbm, ⟨1, _⟩ => ⟨S4608x1, .f32⟩
  | .hbm, ⟨2, _⟩ => ⟨S16x128x2048, .i8⟩
  | .hbm, ⟨3, _⟩ => ⟨S2048, .f32⟩
  | .hbm, ⟨4, _⟩ => ⟨S4608x2048, .bf16⟩
  | .hbm, ⟨5, _⟩ => ⟨S2048, .f32⟩
  | .hbm, ⟨6, _⟩ => ⟨S4608x128, .f32⟩
  | .hbm, ⟨7, _⟩ => ⟨S2048x2048, .i8⟩
  | .hbm, ⟨8, _⟩ => ⟨S1x2048, .f32⟩
  | .hbm, ⟨9, _⟩ => ⟨S1x2048, .f32⟩
  | .hbm, ⟨10, _⟩ => ⟨S4608x2048, .f32⟩
  | .hbm, ⟨11, _⟩ => ⟨S4608x2048, .i8⟩
  | .hbm, ⟨12, _⟩ => ⟨S18x1x256, .f32⟩
  | .hbm, ⟨13, _⟩ => ⟨S4608x128, .f32⟩
  | .local _ .vmem, ⟨0, _⟩ => ⟨S256x2048, .i8⟩
  | .local _ .vmem, ⟨1, _⟩ => ⟨S256x2048, .i8⟩
  | .local _ .vmem, ⟨2, _⟩ => ⟨S2048x2048, .i8⟩
  | .local _ .vmem, ⟨3, _⟩ => ⟨S256x128, .f32⟩
  | .local _ .vmem, ⟨4, _⟩ => ⟨S256x128, .f32⟩
  | .local _ .vmem, ⟨5, _⟩ => ⟨S1x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .i8⟩
  | .local _ .vmem, ⟨12, _⟩ => ⟨S256x2048, .i8⟩
  | .local _ .vmem, ⟨13, _⟩ => ⟨S1x1x256, .f32⟩
  | .local _ .vmem, ⟨14, _⟩ => ⟨S1x1x256, .f32⟩
  | .local _ .vmem, ⟨15, _⟩ => ⟨S256x128, .f32⟩
  | .local _ .vmem, ⟨16, _⟩ => ⟨S256x128, .f32⟩
  | .local _ .vmem, ⟨17, _⟩ => ⟨S2x256x2048, .f32⟩
  | _, _ => ⟨S4608x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![19], ![false]⟩

def k0_cond1 (i : grid0.Coords) : BitVec 1 :=
  let arg0 : BitVec 32 := BitVec.ofNat 32 (i 0).val
  let c0_i32_10 : BitVec 32 := 0#32
  let v21 : BitVec 1 := Scalar.cmpi .eq arg0 c0_i32_10
  let v22 : BitVec 32 := Scalar.extui v21
  let c0_i32_11 : BitVec 32 := 0#32
  let v23 : BitVec 1 := Scalar.cmpi .ne v22 c0_i32_11
  v23

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v33 : Index := Scalar.indexCast v9
  let c0_17 : Index := 0#32
  let c0_18 : Index := 0#32
  ![v33.toNat, 0, 0]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v41 : Index := Scalar.indexCast v9
  let c0_21 : Index := 0#32
  let c256_22 : Index := 256#32
  ![v41.toNat, 0, 256]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v49 : Index := Scalar.indexCast v9
  let c0_25 : Index := 0#32
  let c512_26 : Index := 512#32
  ![v49.toNat, 0, 512]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v57 : Index := Scalar.indexCast v9
  let c0_29 : Index := 0#32
  let c768_30 : Index := 768#32
  ![v57.toNat, 0, 768]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v65 : Index := Scalar.indexCast v9
  let c0_33 : Index := 0#32
  let c1024_34 : Index := 1024#32
  ![v65.toNat, 0, 1024]
def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v73 : Index := Scalar.indexCast v9
  let c0_37 : Index := 0#32
  let c1280_38 : Index := 1280#32
  ![v73.toNat, 0, 1280]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v81 : Index := Scalar.indexCast v9
  let c0_41 : Index := 0#32
  let c1536_42 : Index := 1536#32
  ![v81.toNat, 0, 1536]
def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v89 : Index := Scalar.indexCast v9
  let c0_45 : Index := 0#32
  let c1792_46 : Index := 1792#32
  ![v89.toNat, 0, 1792]
def k0_cond2 (i : grid0.Coords) : BitVec 1 :=
  let arg0 : BitVec 32 := BitVec.ofNat 32 (i 0).val
  let c0_i32_12 : BitVec 32 := 0#32
  let v24 : BitVec 1 := Scalar.cmpi .sgt arg0 c0_i32_12
  let v25 : BitVec 32 := Scalar.extui v24
  let c0_i32_13 : BitVec 32 := 0#32
  let v26 : BitVec 1 := Scalar.cmpi .ne v25 c0_i32_13
  v26

def k0_off9 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v33 : Index := Scalar.indexCast v9
  let c0_17 : Index := 0#32
  let c0_18 : Index := 0#32
  ![v33.toNat, 0, 0]
def k0_off10 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v41 : Index := Scalar.indexCast v9
  let c0_21 : Index := 0#32
  let c256_22 : Index := 256#32
  ![v41.toNat, 0, 256]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v49 : Index := Scalar.indexCast v9
  let c0_25 : Index := 0#32
  let c512_26 : Index := 512#32
  ![v49.toNat, 0, 512]
def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v57 : Index := Scalar.indexCast v9
  let c0_29 : Index := 0#32
  let c768_30 : Index := 768#32
  ![v57.toNat, 0, 768]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v65 : Index := Scalar.indexCast v9
  let c0_33 : Index := 0#32
  let c1024_34 : Index := 1024#32
  ![v65.toNat, 0, 1024]
def k0_off14 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v73 : Index := Scalar.indexCast v9
  let c0_37 : Index := 0#32
  let c1280_38 : Index := 1280#32
  ![v73.toNat, 0, 1280]
def k0_off15 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v81 : Index := Scalar.indexCast v9
  let c0_41 : Index := 0#32
  let c1536_42 : Index := 1536#32
  ![v81.toNat, 0, 1536]
def k0_off16 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v89 : Index := Scalar.indexCast v9
  let c0_45 : Index := 0#32
  let c1792_46 : Index := 1792#32
  ![v89.toNat, 0, 1792]
def k0_off17 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v101 : Index := Scalar.indexCast v20
  let c0_55 : Index := 0#32
  let c0_56 : Index := 0#32
  ![v101.toNat, 0, 0]
def k0_off18 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v147 : Index := Scalar.indexCast v20
  let c32_75 : Index := 32#32
  let c0_76 : Index := 0#32
  ![v147.toNat, 32, 0]
def k0_off19 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v193 : Index := Scalar.indexCast v20
  let c64_95 : Index := 64#32
  let c0_96 : Index := 0#32
  ![v193.toNat, 64, 0]
def k0_off20 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v239 : Index := Scalar.indexCast v20
  let c96_115 : Index := 96#32
  let c0_116 : Index := 0#32
  ![v239.toNat, 96, 0]
def k0_off21 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v285 : Index := Scalar.indexCast v20
  let c128_135 : Index := 128#32
  let c0_136 : Index := 0#32
  ![v285.toNat, 128, 0]
def k0_off22 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v331 : Index := Scalar.indexCast v20
  let c160_155 : Index := 160#32
  let c0_156 : Index := 0#32
  ![v331.toNat, 160, 0]
def k0_off23 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v377 : Index := Scalar.indexCast v20
  let c192_175 : Index := 192#32
  let c0_176 : Index := 0#32
  ![v377.toNat, 192, 0]
def k0_off24 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v423 : Index := Scalar.indexCast v20
  let c224_195 : Index := 224#32
  let c0_196 : Index := 0#32
  ![v423.toNat, 224, 0]
def cc0_transform_0 (i : grid0.Coords) : Fin 2 → Nat :=
  let arg0 : BitVec 32 := BitVec.ofNat 32 (i 0).val
  let c17_i32 : BitVec 32 := 17#32
  let v0 : BitVec 32 := Scalar.minsi arg0 c17_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OprojRefIdeal.lean ====
abbrev S4608x2048 : Shape := ⟨2, ![4608, 2048]⟩
abbrev S4608x1 : Shape := ⟨2, ![4608, 1]⟩
abbrev S16x128x2048 : Shape := ⟨3, ![16, 128, 2048]⟩
abbrev S2048 : Shape := ⟨1, ![2048]⟩
abbrev S2048x2048 : Shape := ⟨2, ![2048, 2048]⟩
abbrev S1x2048 : Shape := ⟨2, ![1, 2048]⟩
abbrev S18x1x256 : Shape := ⟨3, ![18, 1, 256]⟩
abbrev S4608 : Shape := ⟨1, ![4608]⟩

abbrev nBuf : Space → Nat
  | .hbm => 12
  | .vmem => 9
  | .smem => 0
  | _ => 0

abbrev bufTy : (tb : Table) → Fin (tcTables nBuf tb) → BufTy
  | .hbm, ⟨0, _⟩ => ⟨S4608x2048, .i8⟩
  | .hbm, ⟨1, _⟩ => ⟨S4608x1, .f32⟩
  | .hbm, ⟨2, _⟩ => ⟨S16x128x2048, .i8⟩
  | .hbm, ⟨3, _⟩ => ⟨S2048, .f32⟩
  | .hbm, ⟨4, _⟩ => ⟨S4608x2048, .bf16⟩
  | .hbm, ⟨5, _⟩ => ⟨S2048, .f32⟩
  | .hbm, ⟨6, _⟩ => ⟨S2048x2048, .i8⟩
  | .hbm, ⟨7, _⟩ => ⟨S1x2048, .f32⟩
  | .hbm, ⟨8, _⟩ => ⟨S1x2048, .f32⟩
  | .hbm, ⟨9, _⟩ => ⟨S4608x2048, .f32⟩
  | .hbm, ⟨10, _⟩ => ⟨S4608x2048, .i8⟩
  | .hbm, ⟨11, _⟩ => ⟨S18x1x256, .f32⟩
  | .local _ .vmem, ⟨0, _⟩ => ⟨S4608x2048, .i8⟩
  | .local _ .vmem, ⟨1, _⟩ => ⟨S4608x1, .f32⟩
  | .local _ .vmem, ⟨2, _⟩ => ⟨S2048x2048, .i8⟩
  | .local _ .vmem, ⟨3, _⟩ => ⟨S1x2048, .f32⟩
  | .local _ .vmem, ⟨4, _⟩ => ⟨S4608x2048, .bf16⟩
  | .local _ .vmem, ⟨5, _⟩ => ⟨S1x2048, .f32⟩
  | .local _ .vmem, ⟨6, _⟩ => ⟨S4608x2048, .f32⟩
  | .local _ .vmem, ⟨7, _⟩ => ⟨S4608x2048, .i8⟩
  | .local _ .vmem, ⟨8, _⟩ => ⟨S18x1x256, .f32⟩
  | _, _ => ⟨S4608x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4608x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4608x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4608x2048 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S18x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Qkv.lean ====
abbrev S4608x2048 : Shape := ⟨2, ![4608, 2048]⟩
abbrev S2048 : Shape := ⟨1, ![2048]⟩
abbrev S2048x3x16x128 : Shape := ⟨4, ![2048, 3, 16, 128]⟩
abbrev S3x16x128 : Shape := ⟨3, ![3, 16, 128]⟩
abbrev S24x192x64 : Shape := ⟨3, ![24, 192, 64]⟩
abbrev S1x2048 : Shape := ⟨2, ![1, 2048]⟩
abbrev S2048x6144 : Shape := ⟨2, ![2048, 6144]⟩
abbrev S1x6144 : Shape := ⟨2, ![1, 6144]⟩
abbrev S24x64x192 : Shape := ⟨3, ![24, 64, 192]⟩
abbrev S24x1x192 : Shape := ⟨3, ![24, 1, 192]⟩
abbrev S24x192x16x128 : Shape := ⟨4, ![24, 192, 16, 128]⟩
abbrev S24x16x192 : Shape := ⟨3, ![24, 16, 192]⟩
abbrev S384x2048 : Shape := ⟨2, ![384, 2048]⟩
abbrev S2x64x192 : Shape := ⟨3, ![2, 64, 192]⟩
abbrev S2x1x192 : Shape := ⟨3, ![2, 1, 192]⟩
abbrev S2x192x16x128 : Shape := ⟨4, ![2, 192, 16, 128]⟩
abbrev S2x16x192 : Shape := ⟨3, ![2, 16, 192]⟩
abbrev S2x384x2048 : Shape := ⟨3, ![2, 384, 2048]⟩
abbrev S2x384x128 : Shape := ⟨3, ![2, 384, 128]⟩
abbrev S32x2048 : Shape := ⟨2, ![32, 2048]⟩
abbrev S32 : Shape := ⟨1, ![32]⟩
abbrev S32x1 : Shape := ⟨2, ![32, 1]⟩
abbrev S1x32x2048 : Shape := ⟨3, ![1, 32, 2048]⟩
abbrev S32x128 : Shape := ⟨2, ![32, 128]⟩
abbrev S1x32x128 : Shape := ⟨3, ![1, 32, 128]⟩
abbrev S1x192x128 : Shape := ⟨3, ![1, 192, 128]⟩
abbrev S192x128 : Shape := ⟨2, ![192, 128]⟩
abbrev S128x192 : Shape := ⟨2, ![128, 192]⟩
abbrev S1x192 : Shape := ⟨2, ![1, 192]⟩
abbrev S1x1x192 : Shape := ⟨3, ![1, 1, 192]⟩
abbrev S1x64x192 : Shape := ⟨3, ![1, 64, 192]⟩
abbrev S64x192 : Shape := ⟨2, ![64, 192]⟩
abbrev S384x128 : Shape := ⟨2, ![384, 128]⟩
abbrev S1x384x2048 : Shape := ⟨3, ![1, 384, 2048]⟩
abbrev S1x384x128 : Shape := ⟨3, ![1, 384, 128]⟩
abbrev S2048x512 : Shape := ⟨2, ![2048, 512]⟩
abbrev S384x512 : Shape := ⟨2, ![384, 512]⟩
abbrev S1x128 : Shape := ⟨2, ![1, 128]⟩
abbrev S384 : Shape := ⟨1, ![384]⟩
abbrev S384x1 : Shape := ⟨2, ![384, 1]⟩
abbrev S192x1x128 : Shape := ⟨3, ![192, 1, 128]⟩
abbrev S192x4x128 : Shape := ⟨3, ![192, 4, 128]⟩
abbrev S1x192x4x128 : Shape := ⟨4, ![1, 192, 4, 128]⟩
abbrev S16x192 : Shape := ⟨2, ![16, 192]⟩
abbrev S1x16x192 : Shape := ⟨3, ![1, 16, 192]⟩

abbrev nBuf : Space → Nat
  | .hbm => 18
  | .vmem => 25
  | .smem => 0
  | _ => 0

abbrev bufTy : (tb : Table) → Fin (tcTables nBuf tb) → BufTy
  | .hbm, ⟨0, _⟩ => ⟨S4608x2048, .bf16⟩
  | .hbm, ⟨1, _⟩ => ⟨S2048, .f32⟩
  | .hbm, ⟨2, _⟩ => ⟨S2048x3x16x128, .i8⟩
  | .hbm, ⟨3, _⟩ => ⟨S3x16x128, .f32⟩
  | .hbm, ⟨4, _⟩ => ⟨S24x192x64, .f32⟩
  | .hbm, ⟨5, _⟩ => ⟨S24x192x64, .f32⟩
  | .hbm, ⟨6, _⟩ => ⟨S1x2048, .f32⟩
  | .hbm, ⟨7, _⟩ => ⟨S2048x6144, .i8⟩
  | .hbm, ⟨8, _⟩ => ⟨S1x6144, .f32⟩
  | .hbm, ⟨9, _⟩ => ⟨S24x64x192, .f32⟩
  | .hbm, ⟨10, _⟩ => ⟨S24x64x192, .f32⟩
  | .hbm, ⟨11, _⟩ => ⟨S4608x2048, .i8⟩
  | .hbm, ⟨12, _⟩ => ⟨S24x1x192, .f32⟩
  | .hbm, ⟨13, _⟩ => ⟨S4608x2048, .bf16⟩
  | .hbm, ⟨14, _⟩ => ⟨S24x192x16x128, .i8⟩
  | .hbm, ⟨15, _⟩ => ⟨S24x16x192, .f32⟩
  | .hbm, ⟨16, _⟩ => ⟨S24x192x16x128, .i8⟩
  | .hbm, ⟨17, _⟩ => ⟨S24x16x192, .f32⟩
  | .local _ .vmem, ⟨0, _⟩ => ⟨S384x2048, .bf16⟩
  | .local _ .vmem, ⟨1, _⟩ => ⟨S384x2048, .bf16⟩
  | .local _ .vmem, ⟨2, _⟩ => ⟨S1x2048, .f32⟩
  | .local _ .vmem, ⟨3, _⟩ => ⟨S2048x6144, .i8⟩
  | .local _ .vmem, ⟨4, _⟩ => ⟨S1x6144, .f32⟩
  | .local _ .vmem, ⟨5, _⟩ => ⟨S2x64x192, .f32⟩
  | .local _ .vmem, ⟨6, _⟩ => ⟨S2x64x192, .f32⟩
  | .local _ .vmem, ⟨7, _⟩ => ⟨S2x64x192, .f32⟩
  | .local _ .vmem, ⟨8, _⟩ => ⟨S2x64x192, .f32⟩
  | .local _ .vmem, ⟨9, _⟩ => ⟨S384x2048, .i8⟩
  | .local _ .vmem, ⟨10, _⟩ => ⟨S384x2048, .i8⟩
  | .local _ .vmem, ⟨11, _⟩ => ⟨S2x1x192, .f32⟩
  | .local _ .vmem, ⟨12, _⟩ => ⟨S2x1x192, .f32⟩
  | .local _ .vmem, ⟨13, _⟩ => ⟨S384x2048, .bf16⟩
  | .local _ .vmem, ⟨14, _⟩ => ⟨S384x2048, .bf16⟩
  | .local _ .vmem, ⟨15, _⟩ => ⟨S2x192x16x128, .i8⟩
  | .local _ .vmem, ⟨16, _⟩ => ⟨S2x192x16x128, .i8⟩
  | .local _ .vmem, ⟨17, _⟩ => ⟨S2x16x192, .f32⟩
  | .local _ .vmem, ⟨18, _⟩ => ⟨S2x16x192, .f32⟩
  | .local _ .vmem, ⟨19, _⟩ => ⟨S2x192x16x128, .i8⟩
  | .local _ .vmem, ⟨20, _⟩ => ⟨S2x192x16x128, .i8⟩
  | .local _ .vmem, ⟨21, _⟩ => ⟨S2x16x192, .f32⟩
  | .local _ .vmem, ⟨22, _⟩ => ⟨S2x16x192, .f32⟩
  | .local _ .vmem, ⟨23, _⟩ => ⟨S2x384x2048, .bf16⟩
  | .local _ .vmem, ⟨24, _⟩ => ⟨S2x384x128, .f32⟩
  | _, _ => ⟨S4608x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev main_v5_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c0_i32_10 : BitVec 32 := 0#32
  let v21 : BitVec 1 := Scalar.cmpi .eq arg0 c0_i32_10
  let v22 : BitVec 32 := Scalar.extui v21
  let c0_i32_11 : BitVec 32 := 0#32
  let v23 : BitVec 1 := Scalar.cmpi .ne v22 c0_i32_11
  v23

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : Index := Scalar.indexCast v9
  let c0_25 : Index := 0#32
  let c0_26 : Index := 0#32
  ![v60.toNat, 0, 0]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v68 : Index := Scalar.indexCast v9
  let c0_29 : Index := 0#32
  let c0_30 : Index := 0#32
  ![v68.toNat, 0, 0]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v103 : Index := Scalar.indexCast v9
  let c32_41 : Index := 32#32
  let c0_42 : Index := 0#32
  ![v103.toNat, 32, 0]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v111 : Index := Scalar.indexCast v9
  let c32_45 : Index := 32#32
  let c0_46 : Index := 0#32
  ![v111.toNat, 32, 0]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v146 : Index := Scalar.indexCast v9
  let c64_57 : Index := 64#32
  let c0_58 : Index := 0#32
  ![v146.toNat, 64, 0]
def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : Index := Scalar.indexCast v9
  let c64_61 : Index := 64#32
  let c0_62 : Index := 0#32
  ![v154.toNat, 64, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v189 : Index := Scalar.indexCast v9
  let c96_73 : Index := 96#32
  let c0_74 : Index := 0#32
  ![v189.toNat, 96, 0]
def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v197 : Index := Scalar.indexCast v9
  let c96_77 : Index := 96#32
  let c0_78 : Index := 0#32
  ![v197.toNat, 96, 0]
def k0_off9 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v232 : Index := Scalar.indexCast v9
  let c128_89 : Index := 128#32
  let c0_90 : Index := 0#32
  ![v232.toNat, 128, 0]
def k0_off10 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v240 : Index := Scalar.indexCast v9
  let c128_93 : Index := 128#32
  let c0_94 : Index := 0#32
  ![v240.toNat, 128, 0]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v275 : Index := Scalar.indexCast v9
  let c160_105 : Index := 160#32
  let c0_106 : Index := 0#32
  ![v275.toNat, 160, 0]
def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v283 : Index := Scalar.indexCast v9
  let c160_109 : Index := 160#32
  let c0_110 : Index := 0#32
  ![v283.toNat, 160, 0]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v318 : Index := Scalar.indexCast v9
  let c192_121 : Index := 192#32
  let c0_122 : Index := 0#32
  ![v318.toNat, 192, 0]
def k0_off14 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v326 : Index := Scalar.indexCast v9
  let c192_125 : Index := 192#32
  let c0_126 : Index := 0#32
  ![v326.toNat, 192, 0]
def k0_off15 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v361 : Index := Scalar.indexCast v9
  let c224_137 : Index := 224#32
  let c0_138 : Index := 0#32
  ![v361.toNat, 224, 0]
def k0_off16 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v369 : Index := Scalar.indexCast v9
  let c224_141 : Index := 224#32
  let c0_142 : Index := 0#32
  ![v369.toNat, 224, 0]
def k0_off17 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v404 : Index := Scalar.indexCast v9
  let c256_153 : Index := 256#32
  let c0_154 : Index := 0#32
  ![v404.toNat, 256, 0]
def k0_off18 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v412 : Index := Scalar.indexCast v9
  let c256_157 : Index := 256#32
  let c0_158 : Index := 0#32
  ![v412.toNat, 256, 0]
def k0_off19 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v447 : Index := Scalar.indexCast v9
  let c288_169 : Index := 288#32
  let c0_170 : Index := 0#32
  ![v447.toNat, 288, 0]
def k0_off20 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v455 : Index := Scalar.indexCast v9
  let c288_173 : Index := 288#32
  let c0_174 : Index := 0#32
  ![v455.toNat, 288, 0]
def k0_off21 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v490 : Index := Scalar.indexCast v9
  let c320_185 : Index := 320#32
  let c0_186 : Index := 0#32
  ![v490.toNat, 320, 0]
def k0_off22 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v498 : Index := Scalar.indexCast v9
  let c320_189 : Index := 320#32
  let c0_190 : Index := 0#32
  ![v498.toNat, 320, 0]
def k0_off23 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v533 : Index := Scalar.indexCast v9
  let c352_201 : Index := 352#32
  let c0_202 : Index := 0#32
  ![v533.toNat, 352, 0]
def k0_off24 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v541 : Index := Scalar.indexCast v9
  let c352_205 : Index := 352#32
  let c0_206 : Index := 0#32
  ![v541.toNat, 352, 0]
def k0_off25 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v545 : Index := Scalar.indexCast v9
  let c0_207 : Index := 0#32
  let c0_208 : Index := 0#32
  ![v545.toNat, 0, 0]
def k0_off26 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v553 : Index := Scalar.indexCast v9
  let c192_212 : Index := 192#32
  let c0_213 : Index := 0#32
  ![v553.toNat, 192, 0]
def k0_cond2 (i : grid0.Coords) : BitVec 1 :=
  let arg0 : BitVec 32 := BitVec.ofNat 32 (i 0).val
  let c0_i32_12 : BitVec 32 := 0#32
  let v24 : BitVec 1 := Scalar.cmpi .sgt arg0 c0_i32_12
  let v25 : BitVec 32 := Scalar.extui v24
  let c0_i32_13 : BitVec 32 := 0#32
  let v26 : BitVec 1 := Scalar.cmpi .ne v25 c0_i32_13
  v26

def k0_off27 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v60 : Index := Scalar.indexCast v9
  let c0_25 : Index := 0#32
  let c0_26 : Index := 0#32
  ![v60.toNat, 0, 0]
def k0_off28 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v68 : Index := Scalar.indexCast v9
  let c0_29 : Index := 0#32
  let c0_30 : Index := 0#32
  ![v68.toNat, 0, 0]
def k0_off29 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v103 : Index := Scalar.indexCast v9
  let c32_41 : Index := 32#32
  let c0_42 : Index := 0#32
  ![v103.toNat, 32, 0]
def k0_off30 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v111 : Index := Scalar.indexCast v9
  let c32_45 : Index := 32#32
  let c0_46 : Index := 0#32
  ![v111.toNat, 32, 0]
def k0_off31 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v146 : Index := Scalar.indexCast v9
  let c64_57 : Index := 64#32
  let c0_58 : Index := 0#32
  ![v146.toNat, 64, 0]
def k0_off32 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : Index := Scalar.indexCast v9
  let c64_61 : Index := 64#32
  let c0_62 : Index := 0#32
  ![v154.toNat, 64, 0]
def k0_off33 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v189 : Index := Scalar.indexCast v9
  let c96_73 : Index := 96#32
  let c0_74 : Index := 0#32
  ![v189.toNat, 96, 0]
def k0_off34 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v197 : Index := Scalar.indexCast v9
  let c96_77 : Index := 96#32
  let c0_78 : Index := 0#32
  ![v197.toNat, 96, 0]
def k0_off35 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v232 : Index := Scalar.indexCast v9
  let c128_89 : Index := 128#32
  let c0_90 : Index := 0#32
  ![v232.toNat, 128, 0]
def k0_off36 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v240 : Index := Scalar.indexCast v9
  let c128_93 : Index := 128#32
  let c0_94 : Index := 0#32
  ![v240.toNat, 128, 0]
def k0_off37 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v275 : Index := Scalar.indexCast v9
  let c160_105 : Index := 160#32
  let c0_106 : Index := 0#32
  ![v275.toNat, 160, 0]
def k0_off38 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v283 : Index := Scalar.indexCast v9
  let c160_109 : Index := 160#32
  let c0_110 : Index := 0#32
  ![v283.toNat, 160, 0]
def k0_off39 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v318 : Index := Scalar.indexCast v9
  let c192_121 : Index := 192#32
  let c0_122 : Index := 0#32
  ![v318.toNat, 192, 0]
def k0_off40 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v326 : Index := Scalar.indexCast v9
  let c192_125 : Index := 192#32
  let c0_126 : Index := 0#32
  ![v326.toNat, 192, 0]
def k0_off41 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v361 : Index := Scalar.indexCast v9
  let c224_137 : Index := 224#32
  let c0_138 : Index := 0#32
  ![v361.toNat, 224, 0]
def k0_off42 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v369 : Index := Scalar.indexCast v9
  let c224_141 : Index := 224#32
  let c0_142 : Index := 0#32
  ![v369.toNat, 224, 0]
def k0_off43 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v404 : Index := Scalar.indexCast v9
  let c256_153 : Index := 256#32
  let c0_154 : Index := 0#32
  ![v404.toNat, 256, 0]
def k0_off44 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v412 : Index := Scalar.indexCast v9
  let c256_157 : Index := 256#32
  let c0_158 : Index := 0#32
  ![v412.toNat, 256, 0]
def k0_off45 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v447 : Index := Scalar.indexCast v9
  let c288_169 : Index := 288#32
  let c0_170 : Index := 0#32
  ![v447.toNat, 288, 0]
def k0_off46 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v455 : Index := Scalar.indexCast v9
  let c288_173 : Index := 288#32
  let c0_174 : Index := 0#32
  ![v455.toNat, 288, 0]
def k0_off47 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v490 : Index := Scalar.indexCast v9
  let c320_185 : Index := 320#32
  let c0_186 : Index := 0#32
  ![v490.toNat, 320, 0]
def k0_off48 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v498 : Index := Scalar.indexCast v9
  let c320_189 : Index := 320#32
  let c0_190 : Index := 0#32
  ![v498.toNat, 320, 0]
def k0_off49 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v533 : Index := Scalar.indexCast v9
  let c352_201 : Index := 352#32
  let c0_202 : Index := 0#32
  ![v533.toNat, 352, 0]
def k0_off50 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v541 : Index := Scalar.indexCast v9
  let c352_205 : Index := 352#32
  let c0_206 : Index := 0#32
  ![v541.toNat, 352, 0]
def k0_off51 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v545 : Index := Scalar.indexCast v9
  let c0_207 : Index := 0#32
  let c0_208 : Index := 0#32
  ![v545.toNat, 0, 0]
def k0_off52 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v553 : Index := Scalar.indexCast v9
  let c192_212 : Index := 192#32
  let c0_213 : Index := 0#32
  ![v553.toNat, 192, 0]
def k0_off53 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v583 : Index := Scalar.indexCast v20
  let c0_230 : Index := 0#32
  let c0_231 : Index := 0#32
  ![v583.toNat, 0, 0]
def k0_off54 (i : grid0.Coords) : Fin 3 → Nat :=
  let arg0 : BitVec 32 := BitVec.ofNat 32 (i 0).val
  let c1_i32_3 : BitVec 32 := 1#32
  let v10 : BitVec 32 := Scalar.addi arg0 c1_i32_3
  let c2_i32_4 : BitVec 32 := 2#32
  let c0_i32_5 : BitVec 32 := 0#32
  let v11 : BitVec 1 := Scalar.cmpi .eq c2_i32_4 c0_i32_5
  let c1_i32_6 : BitVec 32 := 1#32
  let v12 : BitVec 32 := Scalar.select v11 c1_i32_6 c2_i32_4
  let v13 : BitVec 32 := Scalar.remsi v10 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let v586 : Index := Scalar.indexCast v20
  let c0_232 : Index := 0#32
  let c0_233 : Index := 0#32
  ![v586.toNat, 0, 0]
def cc0_transform_0 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_6 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_10 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_11 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_12 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x6144 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x64x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x64x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x2048 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x192x16x128 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x16x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x192x16x128 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x16x192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== QkvRefIdeal.lean ====
abbrev S4608x2048 : Shape := ⟨2, ![4608, 2048]⟩
abbrev S2048 : Shape := ⟨1, ![2048]⟩
abbrev S2048x3x16x128 : Shape := ⟨4, ![2048, 3, 16, 128]⟩
abbrev S3x16x128 : Shape := ⟨3, ![3, 16, 128]⟩
abbrev S24x192x64 : Shape := ⟨3, ![24, 192, 64]⟩
abbrev S1x2048 : Shape := ⟨2, ![1, 2048]⟩
abbrev S2048x3x2048 : Shape := ⟨3, ![2048, 3, 2048]⟩
abbrev S3x2048 : Shape := ⟨2, ![3, 2048]⟩
abbrev S24x1x192 : Shape := ⟨3, ![24, 1, 192]⟩
abbrev S24x192x16x128 : Shape := ⟨4, ![24, 192, 16, 128]⟩
abbrev S24x16x192 : Shape := ⟨3, ![24, 16, 192]⟩
abbrev S4608 : Shape := ⟨1, ![4608]⟩
abbrev S4608x1 : Shape := ⟨2, ![4608, 1]⟩
abbrev S2048x1x2048 : Shape := ⟨3, ![2048, 1, 2048]⟩
abbrev S2048x2048 : Shape := ⟨2, ![2048, 2048]⟩
abbrev S4608x16x128 : Shape := ⟨3, ![4608, 16, 128]⟩
abbrev S4608x16x64 : Shape := ⟨3, ![4608, 16, 64]⟩
abbrev S4608x1x64 : Shape := ⟨3, ![4608, 1, 64]⟩
abbrev S4608x16 : Shape := ⟨2, ![4608, 16]⟩
abbrev S4608x16x1 : Shape := ⟨3, ![4608, 16, 1]⟩
abbrev S24x192x16 : Shape := ⟨3, ![24, 192, 16]⟩

abbrev nBuf : Space → Nat
  | .hbm => 15
  | .vmem => 12
  | .smem => 0
  | _ => 0

abbrev bufTy : (tb : Table) → Fin (tcTables nBuf tb) → BufTy
  | .hbm, ⟨0, _⟩ => ⟨S4608x2048, .bf16⟩
  | .hbm, ⟨1, _⟩ => ⟨S2048, .f32⟩
  | .hbm, ⟨2, _⟩ => ⟨S2048x3x16x128, .i8⟩
  | .hbm, ⟨3, _⟩ => ⟨S3x16x128, .f32⟩
  | .hbm, ⟨4, _⟩ => ⟨S24x192x64, .f32⟩
  | .hbm, ⟨5, _⟩ => ⟨S24x192x64, .f32⟩
  | .hbm, ⟨6, _⟩ => ⟨S1x2048, .f32⟩
  | .hbm, ⟨7, _⟩ => ⟨S2048x3x2048, .i8⟩
  | .hbm, ⟨8, _⟩ => ⟨S3x2048, .f32⟩
  | .hbm, ⟨9, _⟩ => ⟨S4608x2048, .i8⟩
  | .hbm, ⟨10, _⟩ => ⟨S24x1x192, .f32⟩
  | .hbm, ⟨11, _⟩ => ⟨S24x192x16x128, .i8⟩
  | .hbm, ⟨12, _⟩ => ⟨S24x16x192, .f32⟩
  | .hbm, ⟨13, _⟩ => ⟨S24x192x16x128, .i8⟩
  | .hbm, ⟨14, _⟩ => ⟨S24x16x192, .f32⟩
  | .local _ .vmem, ⟨0, _⟩ => ⟨S4608x2048, .bf16⟩
  | .local _ .vmem, ⟨1, _⟩ => ⟨S1x2048, .f32⟩
  | .local _ .vmem, ⟨2, _⟩ => ⟨S2048x3x2048, .i8⟩
  | .local _ .vmem, ⟨3, _⟩ => ⟨S3x2048, .f32⟩
  | .local _ .vmem, ⟨4, _⟩ => ⟨S24x192x64, .f32⟩
  | .local _ .vmem, ⟨5, _⟩ => ⟨S24x192x64, .f32⟩
  | .local _ .vmem, ⟨6, _⟩ => ⟨S4608x2048, .i8⟩
  | .local _ .vmem, ⟨7, _⟩ => ⟨S24x1x192, .f32⟩
  | .local _ .vmem, ⟨8, _⟩ => ⟨S24x192x16x128, .i8⟩
  | .local _ .vmem, ⟨9, _⟩ => ⟨S24x16x192, .f32⟩
  | .local _ .vmem, ⟨10, _⟩ => ⟨S24x192x16x128, .i8⟩
  | .local _ .vmem, ⟨11, _⟩ => ⟨S24x16x192, .f32⟩
  | _, _ => ⟨S4608x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S4608x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x3x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x192x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4608x2048 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x1x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x192x16x128 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x16x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24x192x16x128 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S24x16x192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.MlpIdealSeg.lean ====
/-
  The body of the gated MLP kernel, cut at its six conditionals: each is a program of its own, followed by what remains.
-/
module

public import proofs.«01_k».proof.Proof.Gen.MlpIdeal.Frame
public import proofs.«01_k».proof.Proof.Gen.MlpIdeal.Skeleton
public import Idealize.ShloMosaic.Lib.Tactic
public import Idealize.ShloMosaic.Lib.VecWindow

@[expose] public section

set_option maxRecDepth 65536

noncomputable section

namespace Cert.MlpIdeal.Hand

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section

variable (i : grid0.Coords) (arg2 : Memref sig .tc .vmem S512x2048 .i8) (harg2 : arg2.IsWhole) (arg3 : Memref sig .tc .vmem S1x2048x512 .i8) (harg3 : arg3.IsWhole) (arg4 : Memref sig .tc .vmem S1x2048x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S512x2048 .i8) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S512x512 .i8) (harg12 : arg12.IsWhole) (arg13 : Memref sig .tc .vmem S1x1x512 .f32) (harg13 : arg13.IsWhole) (arg14 : Memref sig .tc .vmem S512x2048 .bf16) (harg14 : arg14.IsWhole) (arg15 : Memref sig .tc .vmem S12x512x512 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x2048 .f32) (harg18 : arg18.IsWhole)
include i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18

/-- Conditional 1 of the body, followed by `rest`. -/
def seg1 (i : grid0.Coords) (arg2 : Memref sig .tc .vmem S512x2048 .i8) (harg2 : arg2.IsWhole) (arg3 : Memref sig .tc .vmem S1x2048x512 .i8) (harg3 : arg3.IsWhole) (arg4 : Memref sig .tc .vmem S1x2048x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S512x2048 .i8) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S512x512 .i8) (harg12 : arg12.IsWhole) (arg13 : Memref sig .tc .vmem S1x1x512 .f32) (harg13 : arg13.IsWhole) (arg14 : Memref sig .tc .vmem S512x2048 .bf16) (harg14 : arg14.IsWhole) (arg15 : Memref sig .tc .vmem S12x512x512 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x2048 .f32) (harg18 : arg18.IsWhole) (rest : Prog (TpuEff nD τ sig (Elt F) Λ₀ .tc) PUnit) : Prog (TpuEff nD τ sig (Elt F) Λ₀ .tc) PUnit := do
  let arg0 : BitVec 32 := BitVec.ofNat 32 (i 0).val
  let arg1 : BitVec 32 := BitVec.ofNat 32 (i 1).val
  let v0 : BitVec 1 := Scalar.cmpi .eq arg1 0#32
  let v1 : BitVec 1 := Scalar.cmpi .slt arg0 9#32
  let v2 : BitVec 1 := Scalar.andi v0 v1
  let v3 : BitVec 32 := Scalar.extui v2
  let v4 : BitVec 1 := Scalar.cmpi .ne v3 0#32
  if k0_h1 : v4 = 1#1 then do
    let v26 : Vec F S512x2048 .i8 ← Prog.lift (.load arg2 (Rect.unit (s := S512x2048) ![0, 0] S512x2048.size inb_S512x2048_S512x2048_0_0).toLoadRect (View.loadsAt_vmem h_S512x2048))
    let v28 : Vec F S512x2048 .bf16 ← Prog.lift (.load arg14 (Rect.unit (s := S512x2048) ![0, 0] S512x2048.size inb_S512x2048_S512x2048_0_0).toLoadRect (View.loadsAt_vmem h_S512x2048))
    Prog.lift (.store arg14 (Rect.unit (s := S512x2048) ![0, 0] S512x2048.size inb_S512x2048_S512x2048_0_0) (k0_pay1 v26) Finset.univ (View.stores_vmem h_S512x2048 (harg14.storeExact_slice rfl _ packedbf16_S512x2048_S512x2048_0_0) (fun _ => rfl)) (.inl rfl))
    rest
  else do
    rest

/-- Conditional 2 of the body, followed by `rest`. -/
def seg2 (rest : Prog (TpuEff nD τ sig (Elt F) Λ₀ .tc) PUnit) : Prog (TpuEff nD τ sig (Elt F) Λ₀ .tc) PUnit := do
  let arg1 : BitVec 32 := BitVec.ofNat 32 (i 1).val
  if k0_h2 : k0_cond2 i = 1#1 then do
    let ⟨v26, v28, v40, v61, v62⟩ : Σ' (v26 : Vec F S512x2048 .bf16) (v28 : FVec F S512x128 .f32) (v40 : FVec F S512x256 .f32) (v61 : FVec F S512x128 .f32), FVec F S512x128 .f32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 k0_h2
    let ⟨v82, v86, v90, v96, v102, v103⟩ : Σ' (v82 : FVec F S512x128 .f32) (v86 : FVec F S512x256 .f32) (v90 : FVec F S512x256 .f32) (v96 : FVec F S512x128 .f32) (v102 : FVec F S512x128 .f32), FVec F S512x128 .f32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 k0_h2 v26 v28 v40 v61 v62
    let v107 : Vec F S1x512x128 .f32 ← Prog.lift (.load arg15 (Rect.unit (s := S12x512x512) (k0_off3 i) S1x512x128.size (k0_off3_inb i k0_h2)).toLoadRect (View.loadsAt_vmem h_S1x512x128))
    Prog.lift (.store arg15 (Rect.unit (s := S12x512x512) (k0_off3 i) S1x512x128.size (k0_off3_inb i k0_h2)) (k0_pay3 v96 v102 v103) Finset.univ (View.stores_vmem_bits_univ h_S1x512x128 rfl) (.inl rfl))
    let v114 : Vec F S1x128 .f32 ← Prog.lift (.load arg5 (Rect.unit (s := S1x512) ![0, 384] S1x128.size inb_S1x512_S1x128_0_384).toLoadRect (View.loadsAt_vmem h_S1x128))
    let v120 : Vec F S1x128 .f32 ← Prog.lift (.load arg6 (Rect.unit (s := S1x512) ![0, 384] S1x128.size inb_S1x512_S1x128_0_384).toLoadRect (View.loadsAt_vmem h_S1x128))
    let v128 : Vec F S1x512x128 .f32 ← Prog.lift (.load arg15 (Rect.unit (s := S12x512x512) (k0_off4 i) S1x512x128.size (k0_off4_inb i k0_h2)).toLoadRect (View.loadsAt_vmem h_S1x512x128))
    Prog.lift (.store arg15 (Rect.unit (s := S12x512x512) (k0_off4 i) S1x512x128.size (k0_off4_inb i k0_h2)) (k0_pay5 v28 v86 v90 v114 v120) Finset.univ (View.stores_vmem_bits_univ h_S1x512x128 rfl) (.inl rfl))
    let v133 : Vec F S512x128 .f32 ← Prog.lift (.load arg16 (Rect.unit (s := S512x128) ![0, 0] S512x128.size inb_S512x128_S512x128_0_0).toLoadRect (View.loadsAt_vmem h_S512x128))
    Prog.lift (.store arg16 (Rect.unit (s := S512x128) ![0, 0] S512x128.size inb_S512x128_S512x128_0_0) (k0_pay6 v28 v82 v86 v90 v96 v102 v103 v114 v120) Finset.univ (View.stores_vmem_bits_univ h_S512x128 rfl) (.inl rfl))
    rest
  else do
    rest

/-- Conditional 3 of the body, followed by `rest`. -/
def seg3 (rest : Prog (TpuEff nD τ sig (Elt F) Λ₀ .tc) PUnit) : Prog (TpuEff nD τ sig (Elt F) Λ₀ .tc) PUnit := do
  let arg1 : BitVec 32 := BitVec.ofNat 32 (i 1).val
  if k0_h3 : k0_cond3 i = 1#1 then do
    let ⟨v38, v51, v61⟩ : Σ' (v38 : FVec F S512x128 .bf16) (v51 : FVec F S512x128 .bf16), FVec F S512x128 .f32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 k0_h3
    let ⟨v78, v91, v92, v94⟩ : Σ' (v78 : FVec F S512x512 .bf16) (v91 : FVec F S512x256 .f32) (v92 : BitVec 1), FVec F S512x256 .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 k0_h3 v38 v51 v61
    let v125 : FVec F S512x256 .f32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v78 v91 v92 v94
    let v158 : FVec F S512x256 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v78 v125
    let ⟨v159, v161, v169, v173, v194⟩ : Σ' (v159 : Vec F S512x2048 .bf16) (v161 : FVec F S512x128 .f32) (v169 : FVec F S512x256 .f32) (v173 : FVec F S512x256 .f32), FVec F S512x128 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 k0_h3 v158
    let ⟨v215, v219, v223, v229, v235⟩ : Σ' (v215 : FVec F S512x128 .f32) (v219 : FVec F S512x256 .f32) (v223 : FVec F S512x256 .f32) (v229 : FVec F S512x128 .f32), FVec F S512x128 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 k0_h3 v159 v161 v169 v173 v194
    let v240 : Vec F S1x512x128 .f32 ← Prog.lift (.load arg15 (Rect.unit (s := S12x512x512) (k0_off7 i) S1x512x128.size (k0_off7_inb i k0_h3)).toLoadRect (View.loadsAt_vmem h_S1x512x128))
    Prog.lift (.store arg15 (Rect.unit (s := S12x512x512) (k0_off7 i) S1x512x128.size (k0_off7_inb i k0_h3)) (k0_pay8 v229 v235) Finset.univ (View.stores_vmem_bits_univ h_S1x512x128 rfl) (.inl rfl))
    let v247 : Vec F S1x128 .f32 ← Prog.lift (.load arg5 (Rect.unit (s := S1x512) ![0, 384] S1x128.size inb_S1x512_S1x128_0_384).toLoadRect (View.loadsAt_vmem h_S1x128))
    let v253 : Vec F S1x128 .f32 ← Prog.lift (.load arg6 (Rect.unit (s := S1x512) ![0, 384] S1x128.size inb_S1x512_S1x128_0_384).toLoadRect (View.loadsAt_vmem h_S1x128))
    let v261 : Vec F S1x512x128 .f32 ← Prog.lift (.load arg15 (Rect.unit (s := S12x512x512) (k0_off8 i) S1x512x128.size (k0_off8_inb i k0_h3)).toLoadRect (View.loadsAt_vmem h_S1x512x128))
    Prog.lift (.store arg15 (Rect.unit (s := S12x512x512) (k0_off8 i) S1x512x128.size (k0_off8_inb i k0_h3)) (k0_pay10 v161 v219 v223 v247 v253) Finset.univ (View.stores_vmem_bits_univ h_S1x512x128 rfl) (.inl rfl))
    let v266 : Vec F S512x128 .f32 ← Prog.lift (.load arg16 (Rect.unit (s := S512x128) ![0, 0] S512x128.size inb_S512x128_S512x128_0_0).toLoadRect (View.loadsAt_vmem h_S512x128))
    Prog.lift (.store arg16 (Rect.unit (s := S512x128) ![0, 0] S512x128.size inb_S512x128_S512x128_0_0) (k0_pay11 v161 v215 v219 v223 v229 v235 v247 v253) Finset.univ (View.stores_vmem_bits_univ h_S512x128 rfl) (.inl rfl))
    rest
  else do
    rest

/-- Conditional 4 of the body, followed by `rest`. -/
def seg4 (rest : Prog (TpuEff nD τ sig (Elt F) Λ₀ .tc) PUnit) : Prog (TpuEff nD τ sig (Elt F) Λ₀ .tc) PUnit := do
  let arg1 : BitVec 32 := BitVec.ofNat 32 (i 1).val
  if k0_h4 : k0_cond4 i = 1#1 then do
    let ⟨v38, v51, v61⟩ : Σ' (v38 : FVec F S512x128 .bf16) (v51 : FVec F S512x128 .bf16), FVec F S512x128 .f32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 k0_h4
    let ⟨v78, v91, v92, v94⟩ : Σ' (v78 : FVec F S512x512 .bf16) (v91 : FVec F S512x256 .f32) (v92 : BitVec 1), FVec F S512x256 .f32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 k0_h4 v38 v51 v61
    let v125 : FVec F S512x256 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v78 v91 v92 v94
    let v158 : FVec F S512x256 .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v78 v125
    Prog.lift (.store arg18 (Rect.unit (s := S512x2048) ![0, 1792] S512x256.size inb_S512x2048_S512x256_0_1792) v158 Finset.univ (View.stores_vmem_bits_univ h_S512x256 rfl) (.inl rfl))
    rest
  else do
    rest

/-- Conditional 5 of the body, followed by `rest`. -/
def seg5 (rest : Prog (TpuEff nD τ sig (Elt F) Λ₀ .tc) PUnit) : Prog (TpuEff nD τ sig (Elt F) Λ₀ .tc) PUnit := do
  if k0_h5 : k0_cond5 i = 1#1 then do
    let ⟨v51, v54, v55⟩ : Σ' (v51 : Vec F S32x2048 .f32) (v54 : FVec F S32x2048 .f32), Vec F S1x2048 .f32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    let v86 : Vec F S32x1 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v51 v54 v55
    let v120 : FVec F S32x2048 .bf16 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v86
    let ⟨v147, v148, v149⟩ : Σ' (v147 : Vec F S32x2048 .f32) (v148 : Vec F S32x2048 .f32), FVec F S32x2048 .f32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v120
    k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v147 v148 v149
    let ⟨v207, v210, v212⟩ : Σ' (v207 : Vec F S32x2048 .f32) (v210 : FVec F S32x2048 .f32), FVec F S1x2048 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    let v217 : Vec F S32x2048 .bf16 ← Prog.lift (.load arg11 (Rect.unit (s := S512x2048) ![480, 0] S32x2048.size inb_S512x2048_S32x2048_480_0).toLoadRect (View.loadsAt_vmem h_S32x2048))
    Prog.lift (.store arg11 (Rect.unit (s := S512x2048) ![480, 0] S32x2048.size inb_S512x2048_S32x2048_480_0) (k0_pay12 v207 v210 v212) Finset.univ (View.stores_vmem h_S32x2048 (harg11.storeExact_slice rfl _ packedbf16_S512x2048_S32x2048_480_0) (fun _ => rfl)) (.inl rfl))
    rest
  else do
    rest

/-- Conditional 6 of the body, followed by `rest`. -/
def seg6 (i : grid0.Coords) (arg2 : Memref sig .tc .vmem S512x2048 .i8) (harg2 : arg2.IsWhole) (arg3 : Memref sig .tc .vmem S1x2048x512 .i8) (harg3 : arg3.IsWhole) (arg4 : Memref sig .tc .vmem S1x2048x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S512x2048 .i8) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S512x512 .i8) (harg12 : arg12.IsWhole) (arg13 : Memref sig .tc .vmem S1x1x512 .f32) (harg13 : arg13.IsWhole) (arg14 : Memref sig .tc .vmem S512x2048 .bf16) (harg14 : arg14.IsWhole) (arg15 : Memref sig .tc .vmem S12x512x512 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x2048 .f32) (harg18 : arg18.IsWhole) (rest : Prog (TpuEff nD τ sig (Elt F) Λ₀ .tc) PUnit) : Prog (TpuEff nD τ sig (Elt F) Λ₀ .tc) PUnit := do
  if k0_h6 : k0_cond6 i = 1#1 then do
    let v26 : Vec F S512x128 .f32 ← Prog.lift (.load arg16 (Rect.unit (s := S512x128) ![0, 0] S512x128.size inb_S512x128_S512x128_0_0).toLoadRect (View.loadsAt_vmem h_S512x128))
    let v37 : Vec F S512x128 .f32 ← Prog.lift (.load arg17 (Rect.unit (s := S512x128) ![0, 0] S512x128.size inb_S512x128_S512x128_0_0).toLoadRect (View.loadsAt_vmem h_S512x128))
    Prog.lift (.store arg17 (Rect.unit (s := S512x128) ![0, 0] S512x128.size inb_S512x128_S512x128_0_0) (k0_pay14 v26) Finset.univ (View.stores_vmem_bits_univ h_S512x128 rfl) (.inl rfl))
    let v42 : Vec F S1x1x512 .f32 ← Prog.lift (.load arg13 (Rect.unit (s := S1x1x512) ![0, 0, 0] S1x1x512.size inb_S1x1x512_S1x1x512_0_0_0).toLoadRect (View.loadsAt_vmem h_S1x1x512))
    Prog.lift (.store arg13 (Rect.unit (s := S1x1x512) ![0, 0, 0] S1x1x512.size inb_S1x1x512_S1x1x512_0_0_0) (k0_pay15 v26) Finset.univ (View.stores_vmem_bits_univ h_S1x1x512 rfl) (.inl rfl))
    rest
  else do
    rest

/-- The body is its six conditionals in order. -/
theorem skel_eq : cc0_mlp_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = (seg1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (seg2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (seg3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (seg4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (seg5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (seg6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (pure ⟨⟩))))))) := rfl

end

end Cert.MlpIdeal.Hand

end
-- ==== Proof.MlpIdealStep.lean ====
/-
  What one point of the gated MLP kernel computes, as functions of the contents of its buffers: the gate and up
  products with their SiLU (`up…`), the quantised down product (`down…`), the final block of the result and the scale.
-/
module

public import proofs.«01_k».proof.Proof.MlpIdealSeg

@[expose] public section

set_option maxRecDepth 65536

noncomputable section

namespace Cert.MlpIdeal.Hand

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The contents of the kernel's input windows at one point. -/
structure Ins (F : FTy → Type) where
  xc : Vec F S512x2048 .i8
  wg : Vec F S1x2048x512 .i8
  wu : Vec F S1x2048x512 .i8
  sg : Vec F S1x512 .f32
  su : Vec F S1x512 .f32
  xs : Vec F S512x128 .f32
  wd : Vec F S512x2048 .i8
  sd : Vec F S1x2048 .f32
  h1 : Vec F S512x2048 .f32

/-- The contents of the kernel's output windows and of its scratch buffers. -/
@[ext] structure St (F : FTy → Type) where
  y : Vec F S512x2048 .bf16
  hc : Vec F S512x512 .i8
  hs : Vec F S1x1x512 .f32
  xb : Vec F S512x2048 .bf16
  h : Vec F S12x512x512 .f32
  am : Vec F S512x128 .f32
  hsc : Vec F S512x128 .f32
  acc : Vec F S512x2048 .f32

/-- Whether a point is the first of its row of points. -/
def first (i : grid0.Coords) : BitVec 1 := Scalar.cmpi .eq (BitVec.ofNat 32 (i 1).val) 0#32

/-- A 128-column tile of the scratch of activations lies inside it. -/
theorem cell_inb (i : grid0.Coords) (o : ℕ) (ho : o + 128 ≤ 512) :
    ∀ a, (![(i 1).val, 0, o] : Fin 3 → ℕ) a + S1x512x128.size a ≤ S12x512x512.size a := by
  have h : (i 1).val < 12 := (i 1).isLt
  intro a
  fin_cases a
  · show (i 1).val + 1 ≤ 12; omega
  · show 0 + 512 ≤ 512; omega
  · show o + 128 ≤ 512; omega

/-! ## The gate and up products -/

/-- The product of the activations with 256 columns of a weight. -/
def dotUp (xb : Vec F S512x2048 .bf16) (w : Vec F S1x2048x256 .i8) : FVec F S512x256 .f32 :=
  matmul dot_S512x2048_S2048x256_S512x256_1_0_0_1_n_n none xb
    (sitofp .bf16 (shapeCast S2048x256 w shapeCasts_S1x2048x256_S2048x256)) (constant S512x256 .f32 0x00000000#32)

/-- The left 128 columns of a product, scaled by rows and by columns. -/
def scaledL (d : FVec F S512x256 .f32) (xs : Vec F S512x128 .f32) (s : Vec F S1x128 .f32) : FVec F S512x128 .f32 :=
  mulf (mulf (extractStridedSlice S512x128 ![0, 0] d slices_S512x256_o0_0_S512x128)
    (shapeCast S512x128 xs shapeCasts_S512x128_S512x128))
    (broadcastTo S512x128 (shapeCast S1x128 s shapeCasts_S1x128_S1x128) broadcasts_S1x128_S512x128)

/-- The right 128 columns of a product, scaled by rows and by columns. -/
def scaledR (d : FVec F S512x256 .f32) (xs : Vec F S512x128 .f32) (s : Vec F S1x128 .f32) : FVec F S512x128 .f32 :=
  mulf (mulf (extractStridedSlice S512x128 ![0, 128] d slices_S512x256_o0_128_S512x128)
    (shapeCast S512x128 xs shapeCasts_S512x128_S512x128))
    (broadcastTo S512x128 (shapeCast S1x128 s shapeCasts_S1x128_S1x128) broadcasts_S1x128_S512x128)

/-- The gated activation: `g · logistic g · u`. -/
def act (g u : FVec F S512x128 .f32) : FVec F S512x128 .f32 := mulf (mulf g (logistic g)) u

/-- Columns 0–255 of a weight block. -/
def wL (w : Vec F S1x2048x512 .i8) : Vec F S1x2048x256 .i8 :=
  VecWindow.window w ![0, 0, 0] S1x2048x256.size inb_S1x2048x512_S1x2048x256_0_0_0

/-- Columns 256–511 of a weight block. -/
def wR (w : Vec F S1x2048x512 .i8) : Vec F S1x2048x256 .i8 :=
  VecWindow.window w ![0, 0, 256] S1x2048x256.size inb_S1x2048x512_S1x2048x256_0_0_256

/-- Columns 0–127 of the block of activations of one point. -/
def hT0 (xb : Vec F S512x2048 .bf16) (x : Ins F) : FVec F S512x128 .f32 :=
  act (scaledL (dotUp xb (wL x.wg)) x.xs (VecWindow.window x.sg ![0, 0] S1x128.size inb_S1x512_S1x128_0_0))
    (scaledL (dotUp xb (wL x.wu)) x.xs (VecWindow.window x.su ![0, 0] S1x128.size inb_S1x512_S1x128_0_0))

/-- Columns 128–255 of the block of activations of one point. -/
def hT1 (xb : Vec F S512x2048 .bf16) (x : Ins F) : FVec F S512x128 .f32 :=
  act (scaledR (dotUp xb (wL x.wg)) x.xs (VecWindow.window x.sg ![0, 128] S1x128.size inb_S1x512_S1x128_0_128))
    (scaledR (dotUp xb (wL x.wu)) x.xs (VecWindow.window x.su ![0, 128] S1x128.size inb_S1x512_S1x128_0_128))

/-- Columns 256–383 of the block of activations of one point. -/
def hT2 (xb : Vec F S512x2048 .bf16) (x : Ins F) : FVec F S512x128 .f32 :=
  act (scaledL (dotUp xb (wR x.wg)) x.xs (VecWindow.window x.sg ![0, 256] S1x128.size inb_S1x512_S1x128_0_256))
    (scaledL (dotUp xb (wR x.wu)) x.xs (VecWindow.window x.su ![0, 256] S1x128.size inb_S1x512_S1x128_0_256))

/-- Columns 384–511 of the block of activations of one point. -/
def hT3 (xb : Vec F S512x2048 .bf16) (x : Ins F) : FVec F S512x128 .f32 :=
  act (scaledR (dotUp xb (wR x.wg)) x.xs (VecWindow.window x.sg ![0, 384] S1x128.size inb_S1x512_S1x128_0_384))
    (scaledR (dotUp xb (wR x.wu)) x.xs (VecWindow.window x.su ![0, 384] S1x128.size inb_S1x512_S1x128_0_384))

/-- The scratch of activations after the gate and up products of one point. -/
def upH (i : grid0.Coords) (xb : Vec F S512x2048 .bf16) (x : Ins F) (h : Vec F S12x512x512 .f32) : Vec F S12x512x512 .f32 :=
  VecWindow.put (VecWindow.put (VecWindow.put (VecWindow.put (h) ![(i 1).val, 0, 0] S1x512x128.size (shapeCast S1x512x128 (hT0 xb x) shapeCasts_S512x128_S1x512x128)) ![(i 1).val, 0, 128] S1x512x128.size (shapeCast S1x512x128 (hT1 xb x) shapeCasts_S512x128_S1x512x128)) ![(i 1).val, 0, 256] S1x512x128.size (shapeCast S1x512x128 (hT2 xb x) shapeCasts_S512x128_S1x512x128)) ![(i 1).val, 0, 384] S1x512x128.size (shapeCast S1x512x128 (hT3 xb x) shapeCasts_S512x128_S1x512x128)

/-- The running row maxima (in 128 lanes) after the gate and up products of one point. -/
def upAm (i : grid0.Coords) (xb : Vec F S512x2048 .bf16) (x : Ins F) (am : Vec F S512x128 .f32) : Vec F S512x128 .f32 :=
  shapeCast S512x128 (maximumf (maximumf (maximumf (maximumf
    (Scalar.select (first i) (broadcast S512x128 (Scalar.ofBits .f32 0x00000000#32 : F .f32)) am)
    (absf (hT0 xb x))) (absf (hT1 xb x))) (absf (hT2 xb x))) (absf (hT3 xb x))) shapeCasts_S512x128_S512x128

/-! ## The down product -/

/-- A tile of activations divided by its row scales, rounded and clipped. -/
def quant (t : Vec F S1x512x128 .f32) (hsc : Vec F S512x128 .f32) : FVec F S512x128 .f32 :=
  minimumf (broadcast S512x128 (Scalar.ofBits .f32 0x42FE0000#32 : F .f32))
    (maximumf (broadcast S512x128 (Scalar.ofBits .f32 0xC2FE0000#32 : F .f32))
      (roundeven (divf (shapeCast S512x128 t shapeCasts_S1x512x128_S512x128) hsc)))

/-- The codes of columns 0–127 of the activations a point reads back, before their conversion. -/
def qT0 (i : grid0.Coords) (h : Vec F S12x512x512 .f32) (hsc : Vec F S512x128 .f32) : FVec F S512x128 .f32 :=
  quant (VecWindow.window h ![(i 1).val, 0, 0] S1x512x128.size (cell_inb i 0 (by decide))) hsc

/-- The codes of columns 128–255 of the activations a point reads back, before their conversion. -/
def qT1 (i : grid0.Coords) (h : Vec F S12x512x512 .f32) (hsc : Vec F S512x128 .f32) : FVec F S512x128 .f32 :=
  quant (VecWindow.window h ![(i 1).val, 0, 128] S1x512x128.size (cell_inb i 128 (by decide))) hsc

/-- The codes of columns 256–383 of the activations a point reads back, before their conversion. -/
def qT2 (i : grid0.Coords) (h : Vec F S12x512x512 .f32) (hsc : Vec F S512x128 .f32) : FVec F S512x128 .f32 :=
  quant (VecWindow.window h ![(i 1).val, 0, 256] S1x512x128.size (cell_inb i 256 (by decide))) hsc

/-- The codes of columns 384–511 of the activations a point reads back, before their conversion. -/
def qT3 (i : grid0.Coords) (h : Vec F S12x512x512 .f32) (hsc : Vec F S512x128 .f32) : FVec F S512x128 .f32 :=
  quant (VecWindow.window h ![(i 1).val, 0, 384] S1x512x128.size (cell_inb i 384 (by decide))) hsc

/-- The block of codes the down product of one point writes. -/
def downHc (i : grid0.Coords) (h : Vec F S12x512x512 .f32) (hsc : Vec F S512x128 .f32) (hc : Vec F S512x512 .i8) : Vec F S512x512 .i8 :=
  VecWindow.put (VecWindow.put (VecWindow.put (VecWindow.put (hc) ![0, 0] S512x128.size (fptosi 8 (qT0 i h hsc))) ![0, 128] S512x128.size (fptosi 8 (qT1 i h hsc))) ![0, 256] S512x128.size (fptosi 8 (qT2 i h hsc))) ![0, 384] S512x128.size (fptosi 8 (qT3 i h hsc))

/-- The four tiles of codes side by side, as the down product takes them. -/
def codes (i : grid0.Coords) (h : Vec F S12x512x512 .f32) (hsc : Vec F S512x128 .f32) : FVec F S512x512 .bf16 :=
  concatenate S512x512 1 [⟨S512x128, truncf .bf16 (qT0 i h hsc) bitsLt_bf16_f32⟩, ⟨S512x128, truncf .bf16 (qT1 i h hsc) bitsLt_bf16_f32⟩,
    ⟨S512x128, truncf .bf16 (qT2 i h hsc) bitsLt_bf16_f32⟩, ⟨S512x128, truncf .bf16 (qT3 i h hsc) bitsLt_bf16_f32⟩]
    concatenates_S512x128_S512x128_S512x128_S512x128_S512x512_d1

/-- The product of a block of codes with 256 columns of the down weight. -/
def dotDown (q : FVec F S512x512 .bf16) (w : Vec F S512x256 .i8) : FVec F S512x256 .f32 :=
  matmul dot_S512x512_S512x256_S512x256_1_0_0_1_n_n none q (sitofp .bf16 w) (constant S512x256 .f32 0x00000000#32)

/-- The accumulator's next 256 columns: the product itself at the first point of a row, else added to what was there. -/
def accT (i : grid0.Coords) (q : FVec F S512x512 .bf16) (w : Vec F S512x256 .i8) (a : Vec F S512x256 .f32) : FVec F S512x256 .f32 :=
  shapeCast S512x256 (Scalar.select (first i) (dotDown q w) (addf a (dotDown q w))) shapeCasts_S512x256_S512x256

/-- The accumulator after the down product of one point, whose codes are `q`. -/
def downAcc (i : grid0.Coords) (q : FVec F S512x512 .bf16) (x : Ins F) (acc : Vec F S512x2048 .f32) : Vec F S512x2048 .f32 :=
  VecWindow.put (VecWindow.put (VecWindow.put (VecWindow.put (VecWindow.put (VecWindow.put (VecWindow.put (VecWindow.put (acc) ![0, 0] S512x256.size
    (accT i q (VecWindow.window x.wd ![0, 0] S512x256.size inb_S512x2048_S512x256_0_0) (VecWindow.window acc ![0, 0] S512x256.size inb_S512x2048_S512x256_0_0))) ![0, 256] S512x256.size
    (accT i q (VecWindow.window x.wd ![0, 256] S512x256.size inb_S512x2048_S512x256_0_256) (VecWindow.window acc ![0, 256] S512x256.size inb_S512x2048_S512x256_0_256))) ![0, 512] S512x256.size
    (accT i q (VecWindow.window x.wd ![0, 512] S512x256.size inb_S512x2048_S512x256_0_512) (VecWindow.window acc ![0, 512] S512x256.size inb_S512x2048_S512x256_0_512))) ![0, 768] S512x256.size
    (accT i q (VecWindow.window x.wd ![0, 768] S512x256.size inb_S512x2048_S512x256_0_768) (VecWindow.window acc ![0, 768] S512x256.size inb_S512x2048_S512x256_0_768))) ![0, 1024] S512x256.size
    (accT i q (VecWindow.window x.wd ![0, 1024] S512x256.size inb_S512x2048_S512x256_0_1024) (VecWindow.window acc ![0, 1024] S512x256.size inb_S512x2048_S512x256_0_1024))) ![0, 1280] S512x256.size
    (accT i q (VecWindow.window x.wd ![0, 1280] S512x256.size inb_S512x2048_S512x256_0_1280) (VecWindow.window acc ![0, 1280] S512x256.size inb_S512x2048_S512x256_0_1280))) ![0, 1536] S512x256.size
    (accT i q (VecWindow.window x.wd ![0, 1536] S512x256.size inb_S512x2048_S512x256_0_1536) (VecWindow.window acc ![0, 1536] S512x256.size inb_S512x2048_S512x256_0_1536))) ![0, 1792] S512x256.size
    (accT i q (VecWindow.window x.wd ![0, 1792] S512x256.size inb_S512x2048_S512x256_0_1792) (VecWindow.window acc ![0, 1792] S512x256.size inb_S512x2048_S512x256_0_1792))

/-! ## The result and the scale -/

/-- 32 rows of the result: the residual plus the accumulator, scaled by rows and by columns. -/
def yT (s : Vec F S32x1 .f32) (h1 acc : Vec F S32x2048 .f32) (sd : Vec F S1x2048 .f32) : FVec F S32x2048 .bf16 :=
  truncf .bf16 (addf h1 (mulf (mulf acc (broadcastTo S32x2048 s broadcasts_S32x1_S32x2048))
    (broadcastTo S32x2048 (shapeCast S1x2048 sd shapeCasts_S1x2048_S1x2048) broadcasts_S1x2048_S32x2048))) bitsLt_bf16_f32

/-- The block of the result. -/
def outY (x : Ins F) (hsc : Vec F S512x128 .f32) (acc : Vec F S512x2048 .f32) (y : Vec F S512x2048 .bf16) : Vec F S512x2048 .bf16 :=
  VecWindow.put (VecWindow.put (VecWindow.put (VecWindow.put (VecWindow.put (VecWindow.put (VecWindow.put (VecWindow.put (VecWindow.put (VecWindow.put (VecWindow.put (VecWindow.put (VecWindow.put (VecWindow.put (VecWindow.put (VecWindow.put (y) ![0, 0] S32x2048.size
    (yT (VecWindow.window hsc ![0, 0] S32x1.size inb_S512x128_S32x1_0_0) (VecWindow.window x.h1 ![0, 0] S32x2048.size inb_S512x2048_S32x2048_0_0)
      (VecWindow.window acc ![0, 0] S32x2048.size inb_S512x2048_S32x2048_0_0) x.sd)) ![32, 0] S32x2048.size
    (yT (VecWindow.window hsc ![32, 0] S32x1.size inb_S512x128_S32x1_32_0) (VecWindow.window x.h1 ![32, 0] S32x2048.size inb_S512x2048_S32x2048_32_0)
      (VecWindow.window acc ![32, 0] S32x2048.size inb_S512x2048_S32x2048_32_0) x.sd)) ![64, 0] S32x2048.size
    (yT (VecWindow.window hsc ![64, 0] S32x1.size inb_S512x128_S32x1_64_0) (VecWindow.window x.h1 ![64, 0] S32x2048.size inb_S512x2048_S32x2048_64_0)
      (VecWindow.window acc ![64, 0] S32x2048.size inb_S512x2048_S32x2048_64_0) x.sd)) ![96, 0] S32x2048.size
    (yT (VecWindow.window hsc ![96, 0] S32x1.size inb_S512x128_S32x1_96_0) (VecWindow.window x.h1 ![96, 0] S32x2048.size inb_S512x2048_S32x2048_96_0)
      (VecWindow.window acc ![96, 0] S32x2048.size inb_S512x2048_S32x2048_96_0) x.sd)) ![128, 0] S32x2048.size
    (yT (VecWindow.window hsc ![128, 0] S32x1.size inb_S512x128_S32x1_128_0) (VecWindow.window x.h1 ![128, 0] S32x2048.size inb_S512x2048_S32x2048_128_0)
      (VecWindow.window acc ![128, 0] S32x2048.size inb_S512x2048_S32x2048_128_0) x.sd)) ![160, 0] S32x2048.size
    (yT (VecWindow.window hsc ![160, 0] S32x1.size inb_S512x128_S32x1_160_0) (VecWindow.window x.h1 ![160, 0] S32x2048.size inb_S512x2048_S32x2048_160_0)
      (VecWindow.window acc ![160, 0] S32x2048.size inb_S512x2048_S32x2048_160_0) x.sd)) ![192, 0] S32x2048.size
    (yT (VecWindow.window hsc ![192, 0] S32x1.size inb_S512x128_S32x1_192_0) (VecWindow.window x.h1 ![192, 0] S32x2048.size inb_S512x2048_S32x2048_192_0)
      (VecWindow.window acc ![192, 0] S32x2048.size inb_S512x2048_S32x2048_192_0) x.sd)) ![224, 0] S32x2048.size
    (yT (VecWindow.window hsc ![224, 0] S32x1.size inb_S512x128_S32x1_224_0) (VecWindow.window x.h1 ![224, 0] S32x2048.size inb_S512x2048_S32x2048_224_0)
      (VecWindow.window acc ![224, 0] S32x2048.size inb_S512x2048_S32x2048_224_0) x.sd)) ![256, 0] S32x2048.size
    (yT (VecWindow.window hsc ![256, 0] S32x1.size inb_S512x128_S32x1_256_0) (VecWindow.window x.h1 ![256, 0] S32x2048.size inb_S512x2048_S32x2048_256_0)
      (VecWindow.window acc ![256, 0] S32x2048.size inb_S512x2048_S32x2048_256_0) x.sd)) ![288, 0] S32x2048.size
    (yT (VecWindow.window hsc ![288, 0] S32x1.size inb_S512x128_S32x1_288_0) (VecWindow.window x.h1 ![288, 0] S32x2048.size inb_S512x2048_S32x2048_288_0)
      (VecWindow.window acc ![288, 0] S32x2048.size inb_S512x2048_S32x2048_288_0) x.sd)) ![320, 0] S32x2048.size
    (yT (VecWindow.window hsc ![320, 0] S32x1.size inb_S512x128_S32x1_320_0) (VecWindow.window x.h1 ![320, 0] S32x2048.size inb_S512x2048_S32x2048_320_0)
      (VecWindow.window acc ![320, 0] S32x2048.size inb_S512x2048_S32x2048_320_0) x.sd)) ![352, 0] S32x2048.size
    (yT (VecWindow.window hsc ![352, 0] S32x1.size inb_S512x128_S32x1_352_0) (VecWindow.window x.h1 ![352, 0] S32x2048.size inb_S512x2048_S32x2048_352_0)
      (VecWindow.window acc ![352, 0] S32x2048.size inb_S512x2048_S32x2048_352_0) x.sd)) ![384, 0] S32x2048.size
    (yT (VecWindow.window hsc ![384, 0] S32x1.size inb_S512x128_S32x1_384_0) (VecWindow.window x.h1 ![384, 0] S32x2048.size inb_S512x2048_S32x2048_384_0)
      (VecWindow.window acc ![384, 0] S32x2048.size inb_S512x2048_S32x2048_384_0) x.sd)) ![416, 0] S32x2048.size
    (yT (VecWindow.window hsc ![416, 0] S32x1.size inb_S512x128_S32x1_416_0) (VecWindow.window x.h1 ![416, 0] S32x2048.size inb_S512x2048_S32x2048_416_0)
      (VecWindow.window acc ![416, 0] S32x2048.size inb_S512x2048_S32x2048_416_0) x.sd)) ![448, 0] S32x2048.size
    (yT (VecWindow.window hsc ![448, 0] S32x1.size inb_S512x128_S32x1_448_0) (VecWindow.window x.h1 ![448, 0] S32x2048.size inb_S512x2048_S32x2048_448_0)
      (VecWindow.window acc ![448, 0] S32x2048.size inb_S512x2048_S32x2048_448_0) x.sd)) ![480, 0] S32x2048.size
    (yT (VecWindow.window hsc ![480, 0] S32x1.size inb_S512x128_S32x1_480_0) (VecWindow.window x.h1 ![480, 0] S32x2048.size inb_S512x2048_S32x2048_480_0)
      (VecWindow.window acc ![480, 0] S32x2048.size inb_S512x2048_S32x2048_480_0) x.sd)

/-- The row scales in 128 equal lanes, from the row maxima of the lanes. -/
def wide (am : Vec F S512x128 .f32) : FVec F S512x128 .f32 := k0_pay13 am

/-! ## The six conditionals, as steps of the buffers -/

/-- The condition of conditional 1: the first point of a row, except in the last row. -/
def cond1 (i : grid0.Coords) : BitVec 1 :=
  let arg0 : BitVec 32 := BitVec.ofNat 32 (i 0).val
  let arg1 : BitVec 32 := BitVec.ofNat 32 (i 1).val
  let v0 : BitVec 1 := Scalar.cmpi .eq arg1 0#32
  let v1 : BitVec 1 := Scalar.cmpi .slt arg0 9#32
  let v2 : BitVec 1 := Scalar.andi v0 v1
  let v3 : BitVec 32 := Scalar.extui v2
  Scalar.cmpi .ne v3 0#32

/-- Conditional 1: the codes of a new block of rows, converted. -/
def step1 (i : grid0.Coords) (x : Ins F) (s : St F) : St F :=
  if cond1 i = 1#1 then
    { s with xb := k0_pay1 x.xc } else s

/-- Conditional 2: only the gate and up products. -/
def step2 (i : grid0.Coords) (x : Ins F) (s : St F) : St F :=
  if k0_cond2 i = 1#1 then { s with h := upH i s.xb x s.h, am := upAm i s.xb x s.am } else s

/-- Conditional 3: the down product of the block before, then the gate and up products of this one. -/
def step3 (i : grid0.Coords) (x : Ins F) (s : St F) : St F :=
  if k0_cond3 i = 1#1 then { s with hc := downHc i s.h s.hsc s.hc, acc := downAcc i (codes i s.h s.hsc) x s.acc, h := upH i s.xb x s.h, am := upAm i s.xb x s.am } else s

/-- Conditional 4: only the down product. -/
def step4 (i : grid0.Coords) (x : Ins F) (s : St F) : St F :=
  if k0_cond4 i = 1#1 then { s with hc := downHc i s.h s.hsc s.hc, acc := downAcc i (codes i s.h s.hsc) x s.acc } else s

/-- Conditional 5: the block of the result. -/
def step5 (i : grid0.Coords) (x : Ins F) (s : St F) : St F :=
  if k0_cond5 i = 1#1 then { s with y := outY x s.hsc s.acc s.y } else s

/-- Conditional 6: the scales of the block just completed. -/
def step6 (i : grid0.Coords) (x : Ins F) (s : St F) : St F :=
  if k0_cond6 i = 1#1 then { s with hsc := shapeCast S512x128 (wide s.am) shapeCasts_S512x128_S512x128, hs := k0_pay15 s.am } else s

/-- One point of the kernel. -/
def step (i : grid0.Coords) (x : Ins F) (s : St F) : St F :=
  step6 i x (step5 i x (step4 i x (step3 i x (step2 i x (step1 i x s)))))

end Cert.MlpIdeal.Hand

end
-- ==== Proof.MlpIdealBody.lean ====
/-
  Each conditional of the body takes the buffers where the step functions say, and so does the whole body.
-/
module

public import proofs.«01_k».proof.Proof.MlpIdealStep

@[expose] public section

set_option maxRecDepth 65536

noncomputable section

namespace Cert.MlpIdeal.Hand

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The kernel's seventeen buffers hold the contents `x` and `s`. -/
def Res (c : Dev nD) (arg2 : Memref sig .tc .vmem S512x2048 .i8) (arg3 : Memref sig .tc .vmem S1x2048x512 .i8) (arg4 : Memref sig .tc .vmem S1x2048x512 .i8) (arg5 : Memref sig .tc .vmem S1x512 .f32) (arg6 : Memref sig .tc .vmem S1x512 .f32) (arg7 : Memref sig .tc .vmem S512x128 .f32) (arg8 : Memref sig .tc .vmem S512x2048 .i8) (arg9 : Memref sig .tc .vmem S1x2048 .f32) (arg10 : Memref sig .tc .vmem S512x2048 .f32) (arg11 : Memref sig .tc .vmem S512x2048 .bf16) (arg12 : Memref sig .tc .vmem S512x512 .i8) (arg13 : Memref sig .tc .vmem S1x1x512 .f32) (arg14 : Memref sig .tc .vmem S512x2048 .bf16) (arg15 : Memref sig .tc .vmem S12x512x512 .f32) (arg16 : Memref sig .tc .vmem S512x128 .f32) (arg17 : Memref sig .tc .vmem S512x128 .f32) (arg18 : Memref sig .tc .vmem S512x2048 .f32) (x : Ins F) (s : St F) : sProp (MT nD τ sig Unit (Elt F) ℕ (UR sig nD τ) ℕ) :=
  iprop(owns (c : Thread nD τ) arg2 fullShare x.xc ∗ owns (c : Thread nD τ) arg3 fullShare x.wg ∗ owns (c : Thread nD τ) arg4 fullShare x.wu ∗ owns (c : Thread nD τ) arg5 fullShare x.sg ∗ owns (c : Thread nD τ) arg6 fullShare x.su ∗ owns (c : Thread nD τ) arg7 fullShare x.xs ∗ owns (c : Thread nD τ) arg8 fullShare x.wd ∗ owns (c : Thread nD τ) arg9 fullShare x.sd ∗ owns (c : Thread nD τ) arg10 fullShare x.h1 ∗ owns (c : Thread nD τ) arg11 fullShare s.y ∗ owns (c : Thread nD τ) arg12 fullShare s.hc ∗ owns (c : Thread nD τ) arg13 fullShare s.hs ∗ owns (c : Thread nD τ) arg14 fullShare s.xb ∗ owns (c : Thread nD τ) arg15 fullShare s.h ∗ owns (c : Thread nD τ) arg16 fullShare s.am ∗ owns (c : Thread nD τ) arg17 fullShare s.hsc ∗ owns (c : Thread nD τ) arg18 fullShare s.acc)

/-- `put` of equal contents. -/
theorem put_congr {s : Shape} {α : Type} {x x' : s.Idx → α} {off size : Fin s.rank → ℕ} {w w' : ((a : Fin s.rank) → Fin (size a)) → α}
    (hx : x = x') (hw : w = w') : VecWindow.put x off size w = VecWindow.put x' off size w' := by rw [hx, hw]

/-- A point's second coordinate is below 12, so as a word it is itself. -/
theorem toNat_lane (i : grid0.Coords) : (Scalar.indexCast (BitVec.ofNat 32 (i 1).val)).toNat = (i 1).val := by
  have h : (i 1).val < 12 := (i 1).isLt
  show (BitVec.ofNat 32 (i 1).val).toNat = (i 1).val
  rw [BitVec.toNat_ofNat]
  exact Nat.mod_eq_of_lt (by omega)

theorem k0_off1_eq (i : grid0.Coords) : k0_off1 i = ![(i 1).val, 0, 0] := by
  rw [← toNat_lane i]; rfl

theorem k0_off2_eq (i : grid0.Coords) : k0_off2 i = ![(i 1).val, 0, 128] := by
  rw [← toNat_lane i]; rfl

theorem k0_off3_eq (i : grid0.Coords) : k0_off3 i = ![(i 1).val, 0, 256] := by
  rw [← toNat_lane i]; rfl

theorem k0_off4_eq (i : grid0.Coords) : k0_off4 i = ![(i 1).val, 0, 384] := by
  rw [← toNat_lane i]; rfl

theorem k0_off5_eq (i : grid0.Coords) : k0_off5 i = ![(i 1).val, 0, 0] := by
  rw [← toNat_lane i]; rfl

theorem k0_off6_eq (i : grid0.Coords) : k0_off6 i = ![(i 1).val, 0, 128] := by
  rw [← toNat_lane i]; rfl

theorem k0_off7_eq (i : grid0.Coords) : k0_off7 i = ![(i 1).val, 0, 256] := by
  rw [← toNat_lane i]; rfl

theorem k0_off8_eq (i : grid0.Coords) : k0_off8 i = ![(i 1).val, 0, 384] := by
  rw [← toNat_lane i]; rfl

theorem k0_off9_eq (i : grid0.Coords) : k0_off9 i = ![(i 1).val, 0, 0] := by
  rw [← toNat_lane i]; rfl

theorem k0_off10_eq (i : grid0.Coords) : k0_off10 i = ![(i 1).val, 0, 128] := by
  rw [← toNat_lane i]; rfl

theorem k0_off11_eq (i : grid0.Coords) : k0_off11 i = ![(i 1).val, 0, 256] := by
  rw [← toNat_lane i]; rfl

theorem k0_off12_eq (i : grid0.Coords) : k0_off12 i = ![(i 1).val, 0, 384] := by
  rw [← toNat_lane i]; rfl

section

variable (c : Dev nD) (i : grid0.Coords) (arg2 : Memref sig .tc .vmem S512x2048 .i8) (harg2 : arg2.IsWhole) (arg3 : Memref sig .tc .vmem S1x2048x512 .i8) (harg3 : arg3.IsWhole) (arg4 : Memref sig .tc .vmem S1x2048x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S512x128 .f32) (harg7 : arg7.IsWhole) (arg8 : Memref sig .tc .vmem S512x2048 .i8) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S512x512 .i8) (harg12 : arg12.IsWhole) (arg13 : Memref sig .tc .vmem S1x1x512 .f32) (harg13 : arg13.IsWhole) (arg14 : Memref sig .tc .vmem S512x2048 .bf16) (harg14 : arg14.IsWhole) (arg15 : Memref sig .tc .vmem S12x512x512 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S512x2048 .f32) (harg18 : arg18.IsWhole)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18

set_option maxHeartbeats 400000 in
/-- Conditional 1 takes the buffers from `s` to `step1 i x s`. -/
theorem seg1_run (x : Ins F) (s : St F) (rest : Prog (TpuEff nD τ sig (Elt F) Λ₀ .tc) PUnit) (K : PUnit → sProp 𝕄) :
    iprop(Res c arg2 arg3 arg4 arg5 arg6 arg7 arg8 arg9 arg10 arg11 arg12 arg13 arg14 arg15 arg16 arg17 arg18 x s ∗ (Res c arg2 arg3 arg4 arg5 arg6 arg7 arg8 arg9 arg10 arg11 arg12 arg13 arg14 arg15 arg16 arg17 arg18 x (step1 i x s) -∗ wp frame (wpE (defs₀ (F := F)) Variants.none c none) Set.univ rest K))
      ⊢ wp frame (wpE (defs₀ (F := F)) Variants.none c none) Set.univ (seg1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 rest) K := by
  by_cases hc : cond1 i = 1#1
  · unfold seg1 step1
    have hc1 := hc; unfold cond1 at hc1; dsimp only at hc1 ⊢
    rw [dif_pos hc1, if_pos hc]

    obtain ⟨xc, wg, wu, sg, su, xs, wd, sd, h1⟩ := x
    obtain ⟨y, hc0, hs, xb, h, am, hsc, acc⟩ := s
    unfold Res owns
    dsimp only
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
    subst hf2 hf3 hf4 hf5 hf6 hf7 hf8 hf9 hf10 hf11 hf12 hf13 hf14 hf15 hf16 hf17 hf18
    have e2 : arg2.view.readAt (Elt F) (Rect.unit (s := S512x2048) ![0, 0] ![512, 2048] inb_S512x2048_S512x2048_0_0).toLoadRect f2 = arg2.view.read (Elt F) f2 := View.readAt_full _ _ _
    sl_exec

    iapply Hk
    isplitl [H2]; swap; isplitl [H3]; swap; isplitl [H4]; swap; isplitl [H5]; swap; isplitl [H6]; swap; isplitl [H7]; swap
    isplitl [H8]; swap; isplitl [H9]; swap; isplitl [H10]; swap; isplitl [H11]; swap; isplitl [H12]; swap; isplitl [H13]; swap
    isplitl [H14]
    · iexists _; isplitr; swap; · iexact H14
      ipureintro; refine (View.read_writes_full _ _ _ _ _).trans ?_; first | (rw [e2]; rfl) | rfl
    isplitl [H15]; swap; isplitl [H16]; swap; isplitl [H17]; swap
    · iexists _; isplitr; swap; · iexact H18
      ipureintro; rfl
    all_goals (iexists _; isplitr; swap; · iassumption)
    all_goals ipureintro; rfl
  · unfold seg1 step1
    have hc1 := hc; unfold cond1 at hc1; dsimp only at hc1 ⊢
    rw [dif_neg hc1, if_neg hc]
    iintro ⟨H, Hk⟩

    iapply Hk
    iexact H

set_option maxHeartbeats 400000 in
/-- Conditional 2 takes the buffers from `s` to `step2 i x s`. -/
theorem seg2_run (x : Ins F) (s : St F) (rest : Prog (TpuEff nD τ sig (Elt F) Λ₀ .tc) PUnit) (K : PUnit → sProp 𝕄) :
    iprop(Res c arg2 arg3 arg4 arg5 arg6 arg7 arg8 arg9 arg10 arg11 arg12 arg13 arg14 arg15 arg16 arg17 arg18 x s ∗ (Res c arg2 arg3 arg4 arg5 arg6 arg7 arg8 arg9 arg10 arg11 arg12 arg13 arg14 arg15 arg16 arg17 arg18 x (step2 i x s) -∗ wp frame (wpE (defs₀ (F := F)) Variants.none c none) Set.univ rest K))
      ⊢ wp frame (wpE (defs₀ (F := F)) Variants.none c none) Set.univ (seg2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 rest) K := by
  by_cases hc : k0_cond2 i = 1#1
  · unfold seg2 step2

    rw [dif_pos hc, if_pos hc]
    simp only [k0_part1_eq_skeleton, k0_part2_eq_skeleton]
    obtain ⟨xc, wg, wu, sg, su, xs, wd, sd, h1⟩ := x
    obtain ⟨y, hc0, hs, xb, h, am, hsc, acc⟩ := s
    unfold Res owns
    dsimp only
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
    subst hf2 hf3 hf4 hf5 hf6 hf7 hf8 hf9 hf10 hf11 hf12 hf13 hf14 hf15 hf16 hf17 hf18
    have e7 : arg7.view.readAt (Elt F) (Rect.unit (s := S512x128) ![0, 0] ![512, 128] inb_S512x128_S512x128_0_0).toLoadRect f7 = arg7.view.read (Elt F) f7 := View.readAt_full _ _ _
    have e14 : arg14.view.readAt (Elt F) (Rect.unit (s := S512x2048) ![0, 0] ![512, 2048] inb_S512x2048_S512x2048_0_0).toLoadRect f14 = arg14.view.read (Elt F) f14 := View.readAt_full _ _ _
    have e16 : arg16.view.readAt (Elt F) (Rect.unit (s := S512x128) ![0, 0] ![512, 128] inb_S512x128_S512x128_0_0).toLoadRect f16 = arg16.view.read (Elt F) f16 := View.readAt_full _ _ _
    sl_exec

    iapply Hk
    isplitl [H2]; swap; isplitl [H3]; swap; isplitl [H4]; swap; isplitl [H5]; swap; isplitl [H6]; swap; isplitl [H7]; swap
    isplitl [H8]; swap; isplitl [H9]; swap; isplitl [H10]; swap; isplitl [H11]; swap; isplitl [H12]; swap; isplitl [H13]; swap
    isplitl [H14]; swap
    isplitl [H15]
    · iexists _; isplitr; swap; · iexact H15
      ipureintro; unfold upH; rw [View.read_writes_cons_put _ _ _ _ _ (k0_off4_eq i), View.read_writes_cons_put _ _ _ _ _ (k0_off3_eq i), View.read_writes_cons_put _ _ _ _ _ (k0_off2_eq i), View.read_writes_cons_put _ _ _ _ _ (k0_off1_eq i), View.writes_nil]; refine put_congr (put_congr (put_congr (put_congr rfl ?_) ?_) ?_) ?_ <;> (sl_unfold_run_names; simp only [e7, e14, e16]; rfl)
    isplitl [H16]
    · iexists _; isplitr; swap; · iexact H16
      ipureintro; refine (View.read_writes_full _ _ _ _ _).trans ?_; ( sl_unfold_run_names; simp only [e7, e14, e16]; rfl)
    isplitl [H17]; swap
    · iexists _; isplitr; swap; · iexact H18
      ipureintro; rfl
    all_goals (iexists _; isplitr; swap; · iassumption)
    all_goals ipureintro; rfl
  · unfold seg2 step2

    rw [dif_neg hc, if_neg hc]
    iintro ⟨H, Hk⟩

    iapply Hk
    iexact H

set_option maxHeartbeats 400000 in
/-- Conditional 3 takes the buffers from `s` to `step3 i x s`. -/
theorem seg3_run (x : Ins F) (s : St F) (rest : Prog (TpuEff nD τ sig (Elt F) Λ₀ .tc) PUnit) (K : PUnit → sProp 𝕄) :
    iprop(Res c arg2 arg3 arg4 arg5 arg6 arg7 arg8 arg9 arg10 arg11 arg12 arg13 arg14 arg15 arg16 arg17 arg18 x s ∗ (Res c arg2 arg3 arg4 arg5 arg6 arg7 arg8 arg9 arg10 arg11 arg12 arg13 arg14 arg15 arg16 arg17 arg18 x (step3 i x s) -∗ wp frame (wpE (defs₀ (F := F)) Variants.none c none) Set.univ rest K))
      ⊢ wp frame (wpE (defs₀ (F := F)) Variants.none c none) Set.univ (seg3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 rest) K := by
  by_cases hc : k0_cond3 i = 1#1
  · unfold seg3 step3

    rw [dif_pos hc, if_pos hc]
    simp only [k0_part3_eq_skeleton, k0_part4_eq_skeleton, k0_part5_eq_skeleton, k0_part6_eq_skeleton, k0_part7_eq_skeleton, k0_part8_eq_skeleton]
    obtain ⟨xc, wg, wu, sg, su, xs, wd, sd, h1⟩ := x
    obtain ⟨y, hc0, hs, xb, h, am, hsc, acc⟩ := s
    unfold Res owns
    dsimp only
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
    subst hf2 hf3 hf4 hf5 hf6 hf7 hf8 hf9 hf10 hf11 hf12 hf13 hf14 hf15 hf16 hf17 hf18
    have e7 : arg7.view.readAt (Elt F) (Rect.unit (s := S512x128) ![0, 0] ![512, 128] inb_S512x128_S512x128_0_0).toLoadRect f7 = arg7.view.read (Elt F) f7 := View.readAt_full _ _ _
    have e14 : arg14.view.readAt (Elt F) (Rect.unit (s := S512x2048) ![0, 0] ![512, 2048] inb_S512x2048_S512x2048_0_0).toLoadRect f14 = arg14.view.read (Elt F) f14 := View.readAt_full _ _ _
    have e16 : arg16.view.readAt (Elt F) (Rect.unit (s := S512x128) ![0, 0] ![512, 128] inb_S512x128_S512x128_0_0).toLoadRect f16 = arg16.view.read (Elt F) f16 := View.readAt_full _ _ _
    have e17 : arg17.view.readAt (Elt F) (Rect.unit (s := S512x128) ![0, 0] ![512, 128] inb_S512x128_S512x128_0_0).toLoadRect f17 = arg17.view.read (Elt F) f17 := View.readAt_full _ _ _
    sl_exec

    iapply Hk
    isplitl [H2]; swap; isplitl [H3]; swap; isplitl [H4]; swap; isplitl [H5]; swap; isplitl [H6]; swap; isplitl [H7]; swap
    isplitl [H8]; swap; isplitl [H9]; swap; isplitl [H10]; swap; isplitl [H11]; swap
    isplitl [H12]
    · iexists _; isplitr; swap; · iexact H12
      ipureintro; unfold downHc; (iterate 4 rw [View.read_writes_cons_put _ _ _ _ _ rfl]); rw [View.writes_nil]; refine put_congr (put_congr (put_congr (put_congr rfl ?_) ?_) ?_) ?_ <;> (sl_unfold_run_names; simp only [e7, e14, e16, e17, View.readAt_unit arg15.view _ _ (k0_off5_eq i) (cell_inb i 0 (by decide)), View.readAt_unit arg15.view _ _ (k0_off6_eq i) (cell_inb i 128 (by decide)), View.readAt_unit arg15.view _ _ (k0_off7_eq i) (cell_inb i 256 (by decide)), View.readAt_unit arg15.view _ _ (k0_off8_eq i) (cell_inb i 384 (by decide))]; rfl)
    isplitl [H13]; swap; isplitl [H14]; swap
    isplitl [H15]
    · iexists _; isplitr; swap; · iexact H15
      ipureintro; unfold upH; rw [View.read_writes_cons_put _ _ _ _ _ (k0_off8_eq i), View.read_writes_cons_put _ _ _ _ _ (k0_off7_eq i), View.read_writes_cons_put _ _ _ _ _ (k0_off6_eq i), View.read_writes_cons_put _ _ _ _ _ (k0_off5_eq i), View.writes_nil]; refine put_congr (put_congr (put_congr (put_congr rfl ?_) ?_) ?_) ?_ <;> (sl_unfold_run_names; simp only [e7, e14, e16, e17]; rfl)
    isplitl [H16]
    · iexists _; isplitr; swap; · iexact H16
      ipureintro; refine (View.read_writes_full _ _ _ _ _).trans ?_; ( sl_unfold_run_names; simp only [e7, e14, e16, e17]; rfl)
    isplitl [H17]; swap
    · iexists _; isplitr; swap; · iexact H18
      ipureintro; unfold downAcc; (iterate 8 rw [View.read_writes_cons_put _ _ _ _ _ rfl]); rw [View.writes_nil]; refine put_congr (put_congr (put_congr (put_congr (put_congr (put_congr (put_congr (put_congr rfl ?_) ?_) ?_) ?_) ?_) ?_) ?_) ?_ <;> (sl_unfold_run_names; simp only [e7, e14, e16, e17, View.readAt_unit arg15.view _ _ (k0_off5_eq i) (cell_inb i 0 (by decide)), View.readAt_unit arg15.view _ _ (k0_off6_eq i) (cell_inb i 128 (by decide)), View.readAt_unit arg15.view _ _ (k0_off7_eq i) (cell_inb i 256 (by decide)), View.readAt_unit arg15.view _ _ (k0_off8_eq i) (cell_inb i 384 (by decide))]; rfl)
    all_goals (iexists _; isplitr; swap; · iassumption)
    all_goals ipureintro; rfl
  · unfold seg3 step3

    rw [dif_neg hc, if_neg hc]
    iintro ⟨H, Hk⟩

    iapply Hk
    iexact H

set_option maxHeartbeats 400000 in
/-- Conditional 4 takes the buffers from `s` to `step4 i x s`. -/
theorem seg4_run (x : Ins F) (s : St F) (rest : Prog (TpuEff nD τ sig (Elt F) Λ₀ .tc) PUnit) (K : PUnit → sProp 𝕄) :
    iprop(Res c arg2 arg3 arg4 arg5 arg6 arg7 arg8 arg9 arg10 arg11 arg12 arg13 arg14 arg15 arg16 arg17 arg18 x s ∗ (Res c arg2 arg3 arg4 arg5 arg6 arg7 arg8 arg9 arg10 arg11 arg12 arg13 arg14 arg15 arg16 arg17 arg18 x (step4 i x s) -∗ wp frame (wpE (defs₀ (F := F)) Variants.none c none) Set.univ rest K))
      ⊢ wp frame (wpE (defs₀ (F := F)) Variants.none c none) Set.univ (seg4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 rest) K := by
  by_cases hc : k0_cond4 i = 1#1
  · unfold seg4 step4

    rw [dif_pos hc, if_pos hc]
    simp only [k0_part9_eq_skeleton, k0_part10_eq_skeleton, k0_part11_eq_skeleton, k0_part12_eq_skeleton]
    obtain ⟨xc, wg, wu, sg, su, xs, wd, sd, h1⟩ := x
    obtain ⟨y, hc0, hs, xb, h, am, hsc, acc⟩ := s
    unfold Res owns
    dsimp only
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
    subst hf2 hf3 hf4 hf5 hf6 hf7 hf8 hf9 hf10 hf11 hf12 hf13 hf14 hf15 hf16 hf17 hf18
    have e17 : arg17.view.readAt (Elt F) (Rect.unit (s := S512x128) ![0, 0] ![512, 128] inb_S512x128_S512x128_0_0).toLoadRect f17 = arg17.view.read (Elt F) f17 := View.readAt_full _ _ _
    sl_exec

    iapply Hk
    isplitl [H2]; swap; isplitl [H3]; swap; isplitl [H4]; swap; isplitl [H5]; swap; isplitl [H6]; swap; isplitl [H7]; swap
    isplitl [H8]; swap; isplitl [H9]; swap; isplitl [H10]; swap; isplitl [H11]; swap
    isplitl [H12]
    · iexists _; isplitr; swap; · iexact H12
      ipureintro; unfold downHc; (iterate 4 rw [View.read_writes_cons_put _ _ _ _ _ rfl]); rw [View.writes_nil]; refine put_congr (put_congr (put_congr (put_congr rfl ?_) ?_) ?_) ?_ <;> (sl_unfold_run_names; simp only [e17, View.readAt_unit arg15.view _ _ (k0_off9_eq i) (cell_inb i 0 (by decide)), View.readAt_unit arg15.view _ _ (k0_off10_eq i) (cell_inb i 128 (by decide)), View.readAt_unit arg15.view _ _ (k0_off11_eq i) (cell_inb i 256 (by decide)), View.readAt_unit arg15.view _ _ (k0_off12_eq i) (cell_inb i 384 (by decide))]; rfl)
    isplitl [H13]; swap; isplitl [H14]; swap; isplitl [H15]; swap; isplitl [H16]; swap; isplitl [H17]; swap
    · iexists _; isplitr; swap; · iexact H18
      ipureintro; unfold downAcc; (iterate 8 rw [View.read_writes_cons_put _ _ _ _ _ rfl]); rw [View.writes_nil]; refine put_congr (put_congr (put_congr (put_congr (put_congr (put_congr (put_congr (put_congr rfl ?_) ?_) ?_) ?_) ?_) ?_) ?_) ?_ <;> (sl_unfold_run_names; simp only [e17, View.readAt_unit arg15.view _ _ (k0_off9_eq i) (cell_inb i 0 (by decide)), View.readAt_unit arg15.view _ _ (k0_off10_eq i) (cell_inb i 128 (by decide)), View.readAt_unit arg15.view _ _ (k0_off11_eq i) (cell_inb i 256 (by decide)), View.readAt_unit arg15.view _ _ (k0_off12_eq i) (cell_inb i 384 (by decide))]; rfl)
    all_goals (iexists _; isplitr; swap; · iassumption)
    all_goals ipureintro; rfl
  · unfold seg4 step4

    rw [dif_neg hc, if_neg hc]
    iintro ⟨H, Hk⟩

    iapply Hk
    iexact H

set_option maxHeartbeats 400000 in
/-- Conditional 5 takes the buffers from `s` to `step5 i x s`. -/
theorem seg5_run (x : Ins F) (s : St F) (rest : Prog (TpuEff nD τ sig (Elt F) Λ₀ .tc) PUnit) (K : PUnit → sProp 𝕄) :
    iprop(Res c arg2 arg3 arg4 arg5 arg6 arg7 arg8 arg9 arg10 arg11 arg12 arg13 arg14 arg15 arg16 arg17 arg18 x s ∗ (Res c arg2 arg3 arg4 arg5 arg6 arg7 arg8 arg9 arg10 arg11 arg12 arg13 arg14 arg15 arg16 arg17 arg18 x (step5 i x s) -∗ wp frame (wpE (defs₀ (F := F)) Variants.none c none) Set.univ rest K))
      ⊢ wp frame (wpE (defs₀ (F := F)) Variants.none c none) Set.univ (seg5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 rest) K := by
  by_cases hc : k0_cond5 i = 1#1
  · unfold seg5 step5

    rw [dif_pos hc, if_pos hc]
    simp only [k0_part13_eq_skeleton, k0_part14_eq_skeleton, k0_part15_eq_skeleton, k0_part16_eq_skeleton, k0_part17_eq_skeleton, k0_part18_eq_skeleton]
    obtain ⟨xc, wg, wu, sg, su, xs, wd, sd, h1⟩ := x
    obtain ⟨y, hc0, hs, xb, h, am, hsc, acc⟩ := s
    unfold Res owns
    dsimp only
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
    subst hf2 hf3 hf4 hf5 hf6 hf7 hf8 hf9 hf10 hf11 hf12 hf13 hf14 hf15 hf16 hf17 hf18
    have e9 : arg9.view.readAt (Elt F) (Rect.unit (s := S1x2048) ![0, 0] ![1, 2048] inb_S1x2048_S1x2048_0_0).toLoadRect f9 = arg9.view.read (Elt F) f9 := View.readAt_full _ _ _
    sl_exec

    iapply Hk
    isplitl [H2]; swap; isplitl [H3]; swap; isplitl [H4]; swap; isplitl [H5]; swap; isplitl [H6]; swap; isplitl [H7]; swap
    isplitl [H8]; swap; isplitl [H9]; swap; isplitl [H10]; swap
    isplitl [H11]
    · iexists _; isplitr; swap; · iexact H11
      ipureintro; unfold outY; (iterate 16 rw [View.read_writes_cons_put _ _ _ _ _ rfl]); rw [View.writes_nil]; refine put_congr (put_congr (put_congr (put_congr (put_congr (put_congr (put_congr (put_congr (put_congr (put_congr (put_congr (put_congr (put_congr (put_congr (put_congr (put_congr rfl ?_) ?_) ?_) ?_) ?_) ?_) ?_) ?_) ?_) ?_) ?_) ?_) ?_) ?_) ?_) ?_ <;> (sl_unfold_run_names; simp only [e9]; rfl)
    isplitl [H12]; swap; isplitl [H13]; swap; isplitl [H14]; swap; isplitl [H15]; swap; isplitl [H16]; swap; isplitl [H17]; swap
    · iexists _; isplitr; swap; · iexact H18
      ipureintro; rfl
    all_goals (iexists _; isplitr; swap; · iassumption)
    all_goals ipureintro; rfl
  · unfold seg5 step5

    rw [dif_neg hc, if_neg hc]
    iintro ⟨H, Hk⟩

    iapply Hk
    iexact H

set_option maxHeartbeats 400000 in
/-- Conditional 6 takes the buffers from `s` to `step6 i x s`. -/
theorem seg6_run (x : Ins F) (s : St F) (rest : Prog (TpuEff nD τ sig (Elt F) Λ₀ .tc) PUnit) (K : PUnit → sProp 𝕄) :
    iprop(Res c arg2 arg3 arg4 arg5 arg6 arg7 arg8 arg9 arg10 arg11 arg12 arg13 arg14 arg15 arg16 arg17 arg18 x s ∗ (Res c arg2 arg3 arg4 arg5 arg6 arg7 arg8 arg9 arg10 arg11 arg12 arg13 arg14 arg15 arg16 arg17 arg18 x (step6 i x s) -∗ wp frame (wpE (defs₀ (F := F)) Variants.none c none) Set.univ rest K))
      ⊢ wp frame (wpE (defs₀ (F := F)) Variants.none c none) Set.univ (seg6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 rest) K := by
  by_cases hc : k0_cond6 i = 1#1
  · unfold seg6 step6

    rw [dif_pos hc, if_pos hc]

    obtain ⟨xc, wg, wu, sg, su, xs, wd, sd, h1⟩ := x
    obtain ⟨y, hc0, hs, xb, h, am, hsc, acc⟩ := s
    unfold Res owns
    dsimp only
    iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩⟩, Hk⟩
    subst hf2 hf3 hf4 hf5 hf6 hf7 hf8 hf9 hf10 hf11 hf12 hf13 hf14 hf15 hf16 hf17 hf18
    have e16 : arg16.view.readAt (Elt F) (Rect.unit (s := S512x128) ![0, 0] ![512, 128] inb_S512x128_S512x128_0_0).toLoadRect f16 = arg16.view.read (Elt F) f16 := View.readAt_full _ _ _
    sl_exec

    iapply Hk
    isplitl [H2]; swap; isplitl [H3]; swap; isplitl [H4]; swap; isplitl [H5]; swap; isplitl [H6]; swap; isplitl [H7]; swap
    isplitl [H8]; swap; isplitl [H9]; swap; isplitl [H10]; swap; isplitl [H11]; swap; isplitl [H12]; swap
    isplitl [H13]
    · iexists _; isplitr; swap; · iexact H13
      ipureintro; refine (View.read_writes_full _ _ _ _ _).trans ?_; first | (sl_unfold_run_names; done) | (sl_unfold_run_names; exact congrArg k0_pay15 e16) | (rw [e16]; rfl) | rfl
    isplitl [H14]; swap; isplitl [H15]; swap; isplitl [H16]; swap
    isplitl [H17]
    · iexists _; isplitr; swap; · iexact H17
      ipureintro; refine (View.read_writes_full _ _ _ _ _).trans ?_; first | (sl_unfold_run_names; done) | (sl_unfold_run_names; exact congrArg k0_pay14 e16) | (rw [e16]; rfl) | rfl
    · iexists _; isplitr; swap; · iexact H18
      ipureintro; rfl
    all_goals (iexists _; isplitr; swap; · iassumption)
    all_goals ipureintro; rfl
  · unfold seg6 step6

    rw [dif_neg hc, if_neg hc]
    iintro ⟨H, Hk⟩

    iapply Hk
    iexact H

/-- The body of the kernel at one point takes the buffers from `s` to `step i x s`. -/
theorem body_run (x : Ins F) (s : St F) (K : PUnit → sProp 𝕄) :
    iprop(Res c arg2 arg3 arg4 arg5 arg6 arg7 arg8 arg9 arg10 arg11 arg12 arg13 arg14 arg15 arg16 arg17 arg18 x s ∗ (Res c arg2 arg3 arg4 arg5 arg6 arg7 arg8 arg9 arg10 arg11 arg12 arg13 arg14 arg15 arg16 arg17 arg18 x (step i x s) -∗ K ⟨⟩))
      ⊢ wp frame (wpE (defs₀ (F := F)) Variants.none c none) Set.univ (cc0_mlp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [cc0_mlp_eq_skeleton, skel_eq]
  iintro ⟨H, Hk⟩
  iapply seg1_run
  isplitl [H]; · iexact H
  iintro H
  iapply seg2_run
  isplitl [H]; · iexact H
  iintro H
  iapply seg3_run
  isplitl [H]; · iexact H
  iintro H
  iapply seg4_run
  isplitl [H]; · iexact H
  iintro H
  iapply seg5_run
  isplitl [H]; · iexact H
  iintro H
  iapply seg6_run
  isplitl [H]; · iexact H
  iintro H
  sl_step
  iapply Hk
  iexact H

end

end Cert.MlpIdeal.Hand

end
-- ==== Proof.MlpIdealRun.lean ====
/-
  The whole pipeline of the kernel, from any invariant of its scratch buffers that each point keeps and any relations
  of its three result blocks that each point establishes.
-/
module

public import proofs.«01_k».proof.Proof.MlpIdealBody

@[expose] public section

set_option maxRecDepth 65536

noncomputable section

namespace Cert.MlpIdeal.Hand

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (RDat)

local notation "𝕄" => MT nD τ sig Unit (Elt F) ℕ (UR sig nD τ) ℕ

variable (m : (ℓ : Loc nD τ sig) → Buf (Elt F) ℓ) (ρ : Dev nD → PrngReg)

/-- The contents of the input windows at point `t`: the arrays' blocks there. -/
def ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t⟩

/-- What a proof says of the pipeline: of the scratch buffers before each point (`inv`), and, of each result window's
    buffer, what the body leaves at a point given what it found there. -/
structure Sch (F : FTy → Type) where
  inv : Dev nD → Fin (cfg0.N + 1) → Vec F S512x2048 .bf16 → Vec F S12x512x512 .f32 → Vec F S512x128 .f32 → Vec F S512x128 .f32 → Vec F S512x2048 .f32 → Prop
  r9 : Dev nD → Fin cfg0.N → (Y X : Vec F S512x2048 .bf16) → Prop
  r10 : Dev nD → Fin cfg0.N → (Y X : Vec F S512x512 .i8) → Prop
  r11 : Dev nD → Fin cfg0.N → (Y X : Vec F S1x1x512 .f32) → Prop

/-- The invariant before point `t`: the scratch buffers at some contents of which `inv` holds, and the generator register. -/
def InvP (S : Sch F) (c : Dev nD) (t : Fin (cfg0.N + 1)) : sProp 𝕄 :=
  iprop((∃ (xb : Vec F S512x2048 .bf16) (h : Vec F S12x512x512 .f32) (am : Vec F S512x128 .f32) (hsc : Vec F S512x128 .f32) (acc : Vec F S512x2048 .f32),
      ⌜S.inv c t xb h am hsc acc⌝ ∗ owns (c : Thread nD τ) (Memref.whole cc0_scratch0) fullShare xb ∗ owns (c : Thread nD τ) (Memref.whole cc0_scratch1) fullShare h ∗ owns (c : Thread nD τ) (Memref.whole cc0_scratch2) fullShare am ∗ owns (c : Thread nD τ) (Memref.whole cc0_scratch3) fullShare hsc ∗ owns (c : Thread nD τ) (Memref.whole cc0_scratch4) fullShare acc)
    ∗ ∃ r, prngReg c r)

/-- The proof data: inputs kept as found, results in the stated relations, the scratch buffers at some contents of which
    the invariant holds. -/
def rd (S : Sch F) (c : Dev nD) : RDat τ (Elt F) Unit ℕ (UR sig nD τ) ℕ cfg0 c where
  A w := V m c (Pipeline.arrRef spec0 w)
  after w t := match w with
    | 0 => fun Y X => X = Y
    | 1 => fun Y X => X = Y
    | 2 => fun Y X => X = Y
    | 3 => fun Y X => X = Y
    | 4 => fun Y X => X = Y
    | 5 => fun Y X => X = Y
    | 6 => fun Y X => X = Y
    | 7 => fun Y X => X = Y
    | 8 => fun Y X => X = Y
    | 9 => fun Y X => S.r9 c t Y X
    | 10 => fun Y X => S.r10 c t Y X
    | 11 => fun Y X => S.r11 c t Y X
  Φ t := InvP S c t
  q w := Pipeline.shareOf spec0 w
  owed _ := 0

/-- Every point keeps the invariant and establishes the relations. -/
def Sch.Keeps (S : Sch F) : Prop := ∀ (c : Dev nD) (t : Fin cfg0.N) (s : St F), S.inv c t.castSucc s.xb s.h s.am s.hsc s.acc →
  S.inv c t.succ (step (grid0.coords t) (ins m c t) s).xb (step (grid0.coords t) (ins m c t) s).h (step (grid0.coords t) (ins m c t) s).am
      (step (grid0.coords t) (ins m c t) s).hsc (step (grid0.coords t) (ins m c t) s).acc
    ∧ S.r9 c t s.y (step (grid0.coords t) (ins m c t) s).y ∧ S.r10 c t s.hc (step (grid0.coords t) (ins m c t) s).hc
    ∧ S.r11 c t s.hs (step (grid0.coords t) (ins m c t) s).hs

/-- At every point input window 0's buffer holds its array's block there. -/
theorem finds_0 (S : Sch F) (c : Dev nD) (t : Fin cfg0.N) (Y : (cfg0.win 0).block.Idx → Elt F (cfg0.win 0).elt)
    (h : (rd m S c).Finds 0 t Y) : Y = (ins m c t).xc := by
  obtain ⟨d, hd⟩ := (rd m S c).finds_in_eq_fetched 0 rfl (fun _ _ _ => rfl) (fun _ _ _ h => h) t Y h
  exact hd

/-- At every point input window 1's buffer holds its array's block there. -/
theorem finds_1 (S : Sch F) (c : Dev nD) (t : Fin cfg0.N) (Y : (cfg0.win 1).block.Idx → Elt F (cfg0.win 1).elt)
    (h : (rd m S c).Finds 1 t Y) : Y = (ins m c t).wg := by
  obtain ⟨d, hd⟩ := (rd m S c).finds_in_eq_fetched 1 rfl (fun _ _ _ => rfl) (fun _ _ _ h => h) t Y h
  exact hd

/-- At every point input window 2's buffer holds its array's block there. -/
theorem finds_2 (S : Sch F) (c : Dev nD) (t : Fin cfg0.N) (Y : (cfg0.win 2).block.Idx → Elt F (cfg0.win 2).elt)
    (h : (rd m S c).Finds 2 t Y) : Y = (ins m c t).wu := by
  obtain ⟨d, hd⟩ := (rd m S c).finds_in_eq_fetched 2 rfl (fun _ _ _ => rfl) (fun _ _ _ h => h) t Y h
  exact hd

/-- At every point input window 3's buffer holds its array's block there. -/
theorem finds_3 (S : Sch F) (c : Dev nD) (t : Fin cfg0.N) (Y : (cfg0.win 3).block.Idx → Elt F (cfg0.win 3).elt)
    (h : (rd m S c).Finds 3 t Y) : Y = (ins m c t).sg := by
  obtain ⟨d, hd⟩ := (rd m S c).finds_in_eq_fetched 3 rfl (fun _ _ _ => rfl) (fun _ _ _ h => h) t Y h
  exact hd

/-- At every point input window 4's buffer holds its array's block there. -/
theorem finds_4 (S : Sch F) (c : Dev nD) (t : Fin cfg0.N) (Y : (cfg0.win 4).block.Idx → Elt F (cfg0.win 4).elt)
    (h : (rd m S c).Finds 4 t Y) : Y = (ins m c t).su := by
  obtain ⟨d, hd⟩ := (rd m S c).finds_in_eq_fetched 4 rfl (fun _ _ _ => rfl) (fun _ _ _ h => h) t Y h
  exact hd

/-- At every point input window 5's buffer holds its array's block there. -/
theorem finds_5 (S : Sch F) (c : Dev nD) (t : Fin cfg0.N) (Y : (cfg0.win 5).block.Idx → Elt F (cfg0.win 5).elt)
    (h : (rd m S c).Finds 5 t Y) : Y = (ins m c t).xs := by
  obtain ⟨d, hd⟩ := (rd m S c).finds_in_eq_fetched 5 rfl (fun _ _ _ => rfl) (fun _ _ _ h => h) t Y h
  exact hd

/-- At every point input window 6's buffer holds its array's block there. -/
theorem finds_6 (S : Sch F) (c : Dev nD) (t : Fin cfg0.N) (Y : (cfg0.win 6).block.Idx → Elt F (cfg0.win 6).elt)
    (h : (rd m S c).Finds 6 t Y) : Y = (ins m c t).wd := by
  obtain ⟨d, hd⟩ := (rd m S c).finds_in_eq_fetched 6 rfl (fun _ _ _ => rfl) (fun _ _ _ h => h) t Y h
  exact hd

/-- At every point input window 7's buffer holds its array's block there. -/
theorem finds_7 (S : Sch F) (c : Dev nD) (t : Fin cfg0.N) (Y : (cfg0.win 7).block.Idx → Elt F (cfg0.win 7).elt)
    (h : (rd m S c).Finds 7 t Y) : Y = (ins m c t).sd := by
  obtain ⟨d, hd⟩ := (rd m S c).finds_in_eq_fetched 7 rfl (fun _ _ _ => rfl) (fun _ _ _ h => h) t Y h
  exact hd

/-- At every point input window 8's buffer holds its array's block there. -/
theorem finds_8 (S : Sch F) (c : Dev nD) (t : Fin cfg0.N) (Y : (cfg0.win 8).block.Idx → Elt F (cfg0.win 8).elt)
    (h : (rd m S c).Finds 8 t Y) : Y = (ins m c t).h1 := by
  obtain ⟨d, hd⟩ := (rd m S c).finds_in_eq_fetched 8 rfl (fun _ _ _ => rfl) (fun _ _ _ h => h) t Y h
  exact hd

theorem defs₀_row (t : Fin cfg0.N) : defs₀ (F := F) .tc cfg0.body (cfg0.bodyArgs t (cfg0.slots t)) = bodyAt0 t := by
  unfold defs₀; rw [Defs.onTc_tc]

set_option maxHeartbeats 1000000 in
/-- The body at one point, from the invariant and the windows' buffers to the same at the next point. -/
theorem body_at (S : Sch F) (hS : S.Keeps m) (c : Dev nD) (t : Fin cfg0.N) (Y : (w : Fin cfg0.W) → (cfg0.win w).block.Idx → Elt F (cfg0.win w).elt)
    (hY : ∀ w, (rd m S c).Finds w t (Y w)) :
    iprop((rd m S c).Φ t.castSucc ∗ (rd m S c).owesAt () t.castSucc
        ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9) ∗ owns (c : Thread nD τ) (win0_10.stage (cfg0.slots t 10)) fullShare (Y 10) ∗ owns (c : Thread nD τ) (win0_11.stage (cfg0.slots t 11)) fullShare (Y 11))
      ⊢ wp frame (wpE (defs₀ (F := F)) Variants.none c none) Set.univ (bodyAt0 t) fun _ =>
        iprop((rd m S c).Φ t.succ ∗ (rd m S c).owesAt () t.succ
          ∗ (∃ X, ⌜(rd m S c).after 0 t (Y 0) X⌝ ∗ owns (c : Thread nD τ) (win0_0.stage (cfg0.slots t 0)) fullShare X) ∗ (∃ X, ⌜(rd m S c).after 1 t (Y 1) X⌝ ∗ owns (c : Thread nD τ) (win0_1.stage (cfg0.slots t 1)) fullShare X) ∗ (∃ X, ⌜(rd m S c).after 2 t (Y 2) X⌝ ∗ owns (c : Thread nD τ) (win0_2.stage (cfg0.slots t 2)) fullShare X) ∗ (∃ X, ⌜(rd m S c).after 3 t (Y 3) X⌝ ∗ owns (c : Thread nD τ) (win0_3.stage (cfg0.slots t 3)) fullShare X) ∗ (∃ X, ⌜(rd m S c).after 4 t (Y 4) X⌝ ∗ owns (c : Thread nD τ) (win0_4.stage (cfg0.slots t 4)) fullShare X) ∗ (∃ X, ⌜(rd m S c).after 5 t (Y 5) X⌝ ∗ owns (c : Thread nD τ) (win0_5.stage (cfg0.slots t 5)) fullShare X) ∗ (∃ X, ⌜(rd m S c).after 6 t (Y 6) X⌝ ∗ owns (c : Thread nD τ) (win0_6.stage (cfg0.slots t 6)) fullShare X) ∗ (∃ X, ⌜(rd m S c).after 7 t (Y 7) X⌝ ∗ owns (c : Thread nD τ) (win0_7.stage (cfg0.slots t 7)) fullShare X) ∗ (∃ X, ⌜(rd m S c).after 8 t (Y 8) X⌝ ∗ owns (c : Thread nD τ) (win0_8.stage (cfg0.slots t 8)) fullShare X) ∗ (∃ X, ⌜(rd m S c).after 9 t (Y 9) X⌝ ∗ owns (c : Thread nD τ) (win0_9.stage (cfg0.slots t 9)) fullShare X) ∗ (∃ X, ⌜(rd m S c).after 10 t (Y 10) X⌝ ∗ owns (c : Thread nD τ) (win0_10.stage (cfg0.slots t 10)) fullShare X) ∗ (∃ X, ⌜(rd m S c).after 11 t (Y 11) X⌝ ∗ owns (c : Thread nD τ) (win0_11.stage (cfg0.slots t 11)) fullShare X)) := by
  have h0 := finds_0 m S c t (Y 0) (hY 0); have h1 := finds_1 m S c t (Y 1) (hY 1); have h2 := finds_2 m S c t (Y 2) (hY 2); have h3 := finds_3 m S c t (Y 3) (hY 3); have h4 := finds_4 m S c t (Y 4) (hY 4); have h5 := finds_5 m S c t (Y 5) (hY 5); have h6 := finds_6 m S c t (Y 6) (hY 6); have h7 := finds_7 m S c t (Y 7) (hY 7); have h8 := finds_8 m S c t (Y 8) (hY 8)
  rw [h0, h1, h2, h3, h4, h5, h6, h7, h8]
  unfold bodyAt0 Pipeline.RDat.owesAt Pipeline.owesWithin
  rw [show (rd m S c).Φ t.castSucc = InvP S c t.castSucc from rfl, show (rd m S c).Φ t.succ = InvP S c t.succ from rfl]
  unfold InvP
  rw [show (rd m S c).owed t.castSucc = 0 from rfl, show (rd m S c).owed t.succ = 0 from rfl]
  iintro ⟨⟨⟨%xb, %h, %am, %hsc, %acc, %hi, S0, S1, S2, S3, S4⟩, Hg⟩, ⟨%W, %hW, HO⟩, W0, W1, W2, W3, W4, W5, W6, W7, W8, W9, W10, W11⟩
  obtain ⟨hi', k9, k10, k11⟩ := hS c t ⟨Y 9, Y 10, Y 11, xb, h, am, hsc, acc⟩ hi
  iapply (body_run c (grid0.coords t) _ _ _ _ _ _ _ _ _ _ _ _ _ _ _ _ _ _ _ _ _ _ _ _ _ _ _ _ _ _ _ _ _ _ (ins m c t) ⟨Y 9, Y 10, Y 11, xb, h, am, hsc, acc⟩)
  isplitl [S0 S1 S2 S3 S4 W0 W1 W2 W3 W4 W5 W6 W7 W8 W9 W10 W11]
  · unfold Res
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [S0]; · iexact S0
    isplitl [S1]; · iexact S1
    isplitl [S2]; · iexact S2
    isplitl [S3]; · iexact S3
    iexact S4
  unfold Res
  iintro ⟨W0, W1, W2, W3, W4, W5, W6, W7, W8, W9, W10, W11, S0, S1, S2, S3, S4⟩
  isplitl [S0 S1 S2 S3 S4 Hg]
  · isplitl [S0 S1 S2 S3 S4]
    · iexists _, _, _, _, _
      isplitr; swap
      · isplitl [S0]; · iexact S0
        isplitl [S1]; · iexact S1
        isplitl [S2]; · iexact S2
        isplitl [S3]; · iexact S3
        iexact S4
      ipureintro; exact hi'
    iexact Hg
  isplitl [HO]
  · iexists W; isplitr; · ipureintro; exact fun _ _ => Or.inl trivial
    iexact HO
  isplitl [W0]
  · iexists _; isplitr; swap; · iexact W0
    ipureintro; exact rfl
  isplitl [W1]
  · iexists _; isplitr; swap; · iexact W1
    ipureintro; exact rfl
  isplitl [W2]
  · iexists _; isplitr; swap; · iexact W2
    ipureintro; exact rfl
  isplitl [W3]
  · iexists _; isplitr; swap; · iexact W3
    ipureintro; exact rfl
  isplitl [W4]
  · iexists _; isplitr; swap; · iexact W4
    ipureintro; exact rfl
  isplitl [W5]
  · iexists _; isplitr; swap; · iexact W5
    ipureintro; exact rfl
  isplitl [W6]
  · iexists _; isplitr; swap; · iexact W6
    ipureintro; exact rfl
  isplitl [W7]
  · iexists _; isplitr; swap; · iexact W7
    ipureintro; exact rfl
  isplitl [W8]
  · iexists _; isplitr; swap; · iexact W8
    ipureintro; exact rfl
  isplitl [W9]
  · iexists _; isplitr; swap; · iexact W9
    ipureintro; exact k9
  isplitl [W10]
  · iexists _; isplitr; swap; · iexact W10
    ipureintro; exact k10
  iexists _; isplitr; swap; · iexact W11
  ipureintro; exact k11

/-- The library's body obligation. -/
theorem body_obligation (S : Sch F) (hS : S.Keeps m) (c : Dev nD) : (rd m S c).BodyObligation (defs₀ (F := F)) Variants.none () Set.univ :=
  fun t Y hY => by
    rw [bigSep_W0, bigSep_W0, defs₀_row]
    exact triple_restated (body_at m S hS c t Y hY) rfl .rfl fun _ => .rfl

/-- The scratch buffers at any contents are the invariant's scratch buffers at some contents. -/
theorem inv_in (S : Sch F) (h0 : ∀ c xb h am hsc acc, S.inv c 0 xb h am hsc acc) (c : Dev nD) :
    (Pipeline.ΦA spec0 c : sProp 𝕄) ⊢ (rd m S c).Φ 0 := by
  rw [show (rd m S c).Φ 0 = InvP S c 0 from rfl]
  unfold Pipeline.ΦA InvP
  rw [scopedRest0_eq]
  iintro ⟨⟨⟨%f0, H0⟩, ⟨%f1, H1⟩, ⟨%f2, H2⟩, ⟨%f3, H3⟩, ⟨%f4, H4⟩⟩, Hg⟩
  isplitl [H0 H1 H2 H3 H4]
  · iexists f0, f1, f2, f3, f4
    rw [owns_whole, owns_whole, owns_whole, owns_whole, owns_whole]
    isplitr; · ipureintro; exact h0 _ _ _ _ _ _
    isplitl [H0]; · iexact H0
    isplitl [H1]; · iexact H1
    isplitl [H2]; · iexact H2
    isplitl [H3]; · iexact H3
    iexact H4
  iexact Hg

/-- And back. -/
theorem inv_out (S : Sch F) (c : Dev nD) : (rd m S c).Φ (Fin.last cfg0.N) ⊢ (Pipeline.ΦA spec0 c : sProp 𝕄) := by
  rw [show (rd m S c).Φ (Fin.last cfg0.N) = InvP S c (Fin.last cfg0.N) from rfl]
  unfold Pipeline.ΦA InvP
  rw [scopedRest0_eq]
  simp only [owns_whole]
  iintro ⟨⟨%xb, %h, %am, %hsc, %acc, -, H0, H1, H2, H3, H4⟩, Hg⟩
  isplitl [H0 H1 H2 H3 H4]
  · isplitl [H0]; · iexists _; iexact H0
    isplitl [H1]; · iexists _; iexact H1
    isplitl [H2]; · iexists _; iexact H2
    isplitl [H3]; · iexists _; iexact H3
    iexists _; iexact H4
  iexact Hg

set_option backward.isDefEq.respectTransparency.types false in
/-- The run: from any memory with zero counters, every weakly fair execution terminates with every counter at zero and with the
    windows' arrays as the relations say. -/
theorem run_main (S : Sch F) (hS : S.Keeps m) (h0 : ∀ c xb h am hsc acc, S.inv c 0 xb h am hsc acc) :
    θ_run defs (onTc (τ := τ) (main (F := F))) (s₀ m ρ)
      (fun r => RDat.FramePost (cfgs 0) (rd m S) (V m) r ∧ r.2.sem = fun _ => 0) :=
  Pipeline.RDat.θ_run_frame_track_shared (Q' := _) cfgs (0 : Fin 1) launch₀0 defs₀ Variants.none (rd m S) m ρ main
    (hbody := body_obligation m S hS) (hq := fun _ _ _ => rfl) (howed := fun _ _ => rfl) (V := V m) (hmain := hmain m Variants.none)
    (hA := fun _ _ => rfl) (hin := inv_in m S h0) (hout := inv_out m S) (hQ' := fun _ h => h)

/-- The run leaves the kernel's arguments as launched. -/
theorem args_kept {S : Sch F} {r : PUnit × MemSt nD τ sig (Elt F)} (h : RDat.FramePost (cfgs 0) (rd m S) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h.arr_in c 0 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (h.arr_in c 6 rfl).trans (V_main_arg4 m c),
    ((h c).2 main_arg5 (Pipeline.mem_restRefs_of main_arg5 (by decide) (by decide))).trans (V_main_arg5 m c),
    (h.arr_in c 8 rfl).trans (V_main_arg6 m c)⟩

/-- Nothing said of scratch and results. -/
def anySch : Sch F := ⟨fun _ _ _ _ _ _ _ => True, fun _ _ _ _ => True, fun _ _ _ _ => True, fun _ _ _ _ => True⟩

/-- The frame: the run terminates, leaves its arguments as launched and every counter at zero. -/
theorem frame_run : θ_run defs (onTc (τ := τ) (main (F := F))) (s₀ m ρ) (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨args_kept m h.1, h.2⟩)
    (run_main m ρ anySch (fun _ _ _ _ => ⟨trivial, trivial, trivial, trivial⟩) fun _ _ _ _ _ _ => trivial)

end Cert.MlpIdeal.Hand

end
-- ==== Proof.MlpSame.lean ====
/-
  The MLP over the machine's floats is the same program as over the extended reals, so its frame is the same.
-/
module

public import proofs.«01_k».proof.Proof.Gen.Mlp.Frame
public import proofs.«01_k».proof.Proof.MlpIdealRun

@[expose] public section

set_option maxRecDepth 65536

noncomputable section

namespace Cert.Mlp.Hand

open Idealize.ShloMosaic Idealize.ShloMosaic.TcCoe Idealize.SL.Sem

variable {F : FTy → Type} [FloatOps F]

theorem body_eq : Cert.Mlp.cc0_mlp (F := F) = Cert.MlpIdeal.cc0_mlp (F := F) := rfl

theorem main_eq : Cert.Mlp.main (F := F) = Cert.MlpIdeal.main (F := F) := rfl

set_option maxHeartbeats 4000000 in
theorem defs₀_eq : Cert.Mlp.defs₀ (F := F) = Cert.MlpIdeal.defs₀ (F := F) := by
  unfold Cert.Mlp.defs₀ Cert.MlpIdeal.defs₀
  refine congrArg _ ?_
  funext l x
  match l, x with
  | 0, (t, s) =>
    show Cert.Mlp.cc0_mlp (F := F) _ _ _ _ _ _ _ _ _ _ _ _ _ _ _ _ _ _ _ _ _ _ _ _ _ _ _ _ _ _ _ _ _ _ _ = _
    rw [body_eq]
    rfl

theorem defs_eq : Cert.Mlp.defs (F := F) = Cert.MlpIdeal.defs (F := F) := by
  unfold Cert.Mlp.defs Cert.MlpIdeal.defs
  exact congrArg (Pipeline.defs _) defs₀_eq

/-- The frame of the kernel. -/
theorem frame_run (m : (ℓ : Loc Cert.Mlp.nD Cert.Mlp.τ Cert.Mlp.sig) → Buf (Elt F) ℓ) (ρ : Dev Cert.Mlp.nD → PrngReg) :
    θ_run (Cert.Mlp.defs (F := F)) (onTc (τ := Cert.Mlp.τ) (Cert.Mlp.main (F := F))) ⟨m, fun _ => 0, ρ⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0) := by
  rw [defs_eq, main_eq]
  exact Cert.MlpIdeal.Hand.frame_run m ρ

end Cert.Mlp.Hand

end
-- ==== Proof.MlpSpec.lean ====
/-
  The gated MLP over the extended reals, entry by entry, and the two ways its row maximum and its down product are taken:
  tile by tile, and at once.
-/
module

public import Idealize.ShloMosaic.PureOps.Ideal.Laws
public import Idealize.ShloMosaic.Lib.ValueIdx

@[expose] public section

noncomputable section

namespace Cert.MlpSpec

open Idealize.ShloMosaic Idealize.ShloMosaic.ValueIdx
open Finset

/-- The arguments, as functions of natural indices: the codes `x` and row scales `xs` of the activations, the codes `w` and
    column scales `sg` of the gate (0) and up (1) weights, those of the down weight, and the residual. -/
structure Arr where
  x : ℕ → ℕ → EReal
  xs : ℕ → EReal
  w : ℕ → ℕ → ℕ → EReal
  sg : ℕ → ℕ → EReal
  wd : ℕ → ℕ → EReal
  sd : ℕ → EReal
  h1 : ℕ → ℕ → EReal

/-- An f32 constant. -/
abbrev lit (b : BitVec 32) : EReal := Ideal.ofBits .f32 b

variable (a : Arr)

/-- The gate (`e = 0`) or up (`e = 1`) product, scaled by its row and by its column. -/
def pre (e r f : ℕ) : EReal := (lit 0x00000000#32 + ∑ k ∈ range 2048, a.x r k * a.w e k f) * a.xs r * a.sg e f

/-- The gated activation. -/
def av (r f : ℕ) : EReal := pre a 0 r f * Ideal.logistic (pre a 0 r f) * pre a 1 r f

/-- The absolute value. -/
def aabs (v : EReal) : EReal := max v (-v)

/-- A row's largest absolute activation. -/
def amax (r : ℕ) : EReal := Finset.fold max (lit 0xFF800000#32) (fun f : Fin 6144 => aabs (av a r f)) univ

/-- A scale from a largest absolute value. -/
def scaleOf (m : EReal) : EReal :=
  Scalar.select (Ideal.cmp .oeq m (lit 0x00000000#32)) (lit 0x3F800000#32) (Ideal.div m (lit 0x42FE0000#32))

/-- A row's scale. -/
def sc (r : ℕ) : EReal := scaleOf (amax a r)

/-- A value divided by its scale, rounded and clipped. -/
def quantOf (v s : EReal) : EReal :=
  min (lit 0x42FE0000#32) (max (lit 0xC2FE0000#32) (Ideal.liftRound Ideal.roundHalfEven (Ideal.div v s)))

/-- The codes, as numbers. -/
def q (r f : ℕ) : EReal := quantOf (av a r f) (sc a r)

/-- The result. -/
def y (r d : ℕ) : EReal :=
  a.h1 r d + (lit 0x00000000#32 + ∑ f ∈ range 6144, q a r f * a.wd f d) * sc a r * a.sd d

/-! ## The row maximum by lanes -/

/-- The largest absolute activation of lane `l` among the first `n` tiles of 128 columns, from zero. -/
def amN (r l : ℕ) : ℕ → EReal
  | 0 => lit 0x00000000#32
  | n + 1 => max (amN r l n) (aabs (av a r (128 * n + l)))

theorem lit_zero : lit 0x00000000#32 = 0 := Ideal.ofBits_zero_f32

theorem lit_negInf : lit 0xFF800000#32 = ⊥ := by
  simp [lit, Ideal.ofBits, Ideal.ieee]

theorem aabs_nonneg (v : EReal) : 0 ≤ aabs v := by
  unfold aabs
  rcases le_total 0 v with h | h
  · exact le_max_of_le_left h
  · exact le_max_of_le_right (EReal.neg_nonneg.mpr h)

theorem le_amax (r f : ℕ) (hf : f < 6144) : aabs (av a r f) ≤ amax a r :=
  (Finset.le_fold_max _).mpr (Or.inr ⟨⟨f, hf⟩, mem_univ _, le_rfl⟩)

theorem amN_le (r l n : ℕ) (hl : l < 128) (hn : n ≤ 48) : amN a r l n ≤ amax a r := by
  induction n with
  | zero => exact lit_zero.trans_le ((aabs_nonneg _).trans (le_amax a r 0 (by decide)))
  | succ n ih => exact max_le (ih (by omega)) (le_amax a r _ (by omega))

theorem le_amN (r l n k : ℕ) (hk : k < n) : aabs (av a r (128 * k + l)) ≤ amN a r l n := by
  induction n with
  | zero => omega
  | succ n ih =>
    rcases Nat.lt_succ_iff_lt_or_eq.mp hk with h | h
    · exact le_max_of_le_left (ih h)
    · subst h; exact le_max_right _ _

/-- The largest of the 128 lanes' maxima over all 48 tiles is the row's. -/
theorem amax_lanes (r : ℕ) : Finset.fold max (lit 0xFF800000#32) (fun l : Fin 128 => amN a r l 48) univ = amax a r := by
  apply le_antisymm
  · refine (Finset.fold_max_le _).mpr ⟨lit_negInf.trans_le bot_le, fun l _ => amN_le a r l 48 l.isLt le_rfl⟩
  · refine (Finset.fold_max_le _).mpr ⟨lit_negInf.trans_le bot_le, fun f _ => ?_⟩
    refine (Finset.le_fold_max _).mpr (Or.inr ⟨⟨f.val % 128, Nat.mod_lt _ (by decide)⟩, mem_univ _, ?_⟩)
    have h := le_amN a r (f.val % 128) 48 (f.val / 128) (by have := f.isLt; omega)
    rwa [Nat.div_add_mod] at h

/-! ## The down product by blocks -/

/-- The down product over the first `n` blocks of 512 columns. -/
def accN (r d : ℕ) : ℕ → EReal
  | 0 => 0
  | n + 1 => accN r d n + (lit 0x00000000#32 + ∑ f ∈ range 512, q a r (512 * n + f) * a.wd (512 * n + f) d)

theorem accN_eq (r d n : ℕ) : accN a r d n = ∑ f ∈ range (512 * n), q a r f * a.wd f d := by
  induction n with
  | zero => rfl
  | succ n ih =>
    rw [accN, ih, lit_zero, zero_add, Nat.mul_succ, Finset.sum_range_add]

/-- After the first block the down product is that block's. -/
theorem accN_one (r d : ℕ) : lit 0x00000000#32 + ∑ f ∈ range 512, q a r (512 * 0 + f) * a.wd (512 * 0 + f) d = accN a r d 1 := by
  rw [accN, accN, zero_add]

theorem y_eq (r d : ℕ) : y a r d = a.h1 r d + accN a r d 12 * sc a r * a.sd d := by
  rw [y, accN_eq, lit_zero, zero_add]

/-! ## Codes are integers -/

/-- Converting a code to an 8-bit integer and back changes nothing. -/
theorem sitofp_quantOf (v s : EReal) : (((Ideal.fptosi 8 (quantOf v s)).toInt : ℝ) : EReal) = quantOf v s := by
  have e127 : lit 0x42FE0000#32 = ((127 : ℝ) : EReal) := by simp [lit, Ideal.ofBits, Ideal.ieee]; rw [← EReal.coe_mul]; norm_num
  have em127 : lit 0xC2FE0000#32 = ((-127 : ℝ) : EReal) := by simp [lit, Ideal.ofBits, Ideal.ieee]; rw [← EReal.coe_mul]; norm_num
  have key : ∃ n : ℤ, -127 ≤ n ∧ n ≤ 127 ∧ quantOf v s = ((n : ℝ) : EReal) := by
    unfold quantOf
    rw [e127, em127]
    generalize Ideal.div v s = z
    induction z using EReal.rec with
    | bot =>
      refine ⟨-127, by decide, by decide, ?_⟩
      rw [Ideal.liftRound_bot, max_eq_left bot_le, min_eq_right (by exact_mod_cast (by norm_num : (-127 : ℝ) ≤ 127))]
      norm_num
    | top =>
      refine ⟨127, by decide, by decide, ?_⟩
      rw [Ideal.liftRound_top, max_eq_right le_top, min_eq_left le_top]
      norm_num
    | coe x =>
      refine ⟨min 127 (max (-127) (Ideal.roundHalfEven x)), by omega, by omega, ?_⟩
      rw [Ideal.liftRound_coe, ← EReal.coe_strictMono.monotone.map_max, ← EReal.coe_strictMono.monotone.map_min]
      norm_num
  obtain ⟨n, h1, h2, e⟩ := key
  rw [e, Ideal.fptosi, Ideal.toIntClamped_coe]
  have hf : (if (0 : ℝ) ≤ (n : ℝ) then ⌊(n : ℝ)⌋ else ⌈(n : ℝ)⌉) = n := by split <;> simp
  rw [hf]
  have hc : max (-((2 ^ (8 - 1) : ℕ) : ℤ)) (min (((2 ^ (8 - 1) : ℕ) : ℤ) - 1) n) = n := by norm_num; omega
  rw [hc]
  have ht : (BitVec.ofInt 8 n).toInt = n := by
    rw [BitVec.toInt_ofInt, Int.bmod_def]; norm_num; omega
  rw [ht]

end Cert.MlpSpec

end
-- ==== Proof.MlpArr.lean ====
/-
  The arguments of the gated MLP, as functions of natural indices.
-/
module

public import proofs.«01_k».proof.Proof.MlpSpec

@[expose] public section

noncomputable section

namespace Cert.MlpSpec

open Idealize.ShloMosaic Idealize.ShloMosaic.ValueIdx

/-- An 8-bit code as a number. -/
def num (b : BitVec 8) : EReal := ((b.toInt : ℝ) : EReal)

/-- A matrix as a function of natural indices. -/
def ext2 {P Q : ℕ} (X : Fin P → Fin Q → EReal) (r c : ℕ) : EReal := if h : r < P ∧ c < Q then X ⟨r, h.1⟩ ⟨c, h.2⟩ else 0

theorem ext2_of {P Q : ℕ} (X : Fin P → Fin Q → EReal) {r c : ℕ} (hr : r < P) (hc : c < Q) : ext2 X r c = X ⟨r, hr⟩ ⟨c, hc⟩ := dif_pos ⟨hr, hc⟩

theorem ext2_fin {P Q : ℕ} (X : Fin P → Fin Q → EReal) (r : Fin P) (c : Fin Q) : ext2 X r c = X r c := ext2_of X r.isLt c.isLt

/-- The seven argument arrays as one `Arr`. -/
def arrOf (A0 : Vec Ideal (⟨2, ![4608, 2048]⟩ : Shape) .i8) (A1 : Vec Ideal (⟨2, ![4608, 1]⟩ : Shape) .f32)
    (A2 : Vec Ideal (⟨3, ![2048, 2, 6144]⟩ : Shape) .i8) (A3 : Vec Ideal (⟨2, ![2, 6144]⟩ : Shape) .f32)
    (A4 : Vec Ideal (⟨2, ![6144, 2048]⟩ : Shape) .i8) (A5 : Vec Ideal (⟨1, ![2048]⟩ : Shape) .f32)
    (A6 : Vec Ideal (⟨2, ![4608, 2048]⟩ : Shape) .f32) : Arr where
  x r k := ext2 (fun r k => num (A0 (ix2 r k))) r k
  xs r := ext2 (fun r k => A1 (ix2 r k)) r 0
  w e k f := ext2 (fun k f => ext2 (P := 2) (Q := 1) (fun e _ => num (A2 (ix3 k e f))) e 0) k f
  sg e f := ext2 (fun e f => A3 (ix2 e f)) e f
  wd f d := ext2 (fun f d => num (A4 (ix2 f d))) f d
  sd d := ext2 (P := 2048) (Q := 1) (fun d _ => A5 (ix1 d)) d 0
  h1 r d := ext2 (fun r d => A6 (ix2 r d)) r d

/-- The three results, as arrays: the block's output, the codes, and the scales in blocks of 512 rows. -/
def resY (a : Arr) : Vec Ideal (⟨2, ![4608, 2048]⟩ : Shape) .bf16 := fun e => y a (e 0).val (e 1).val
def resHc (a : Arr) : Vec Ideal (⟨2, ![4608, 6144]⟩ : Shape) .i8 := fun e => Ideal.fptosi 8 (q a (e 0).val (e 1).val)
def resHs (a : Arr) : Vec Ideal (⟨3, ![9, 1, 512]⟩ : Shape) .f32 := fun e => sc a (512 * (e 0).val + (e 2).val)

end Cert.MlpSpec

end
-- ==== Proof.Cells.lean ====
/-
  Windows of arrays of rank two and three, read and written at an index; casts, slices and products of matrices at an index.
-/
module

public import Idealize.ShloMosaic.Lib.VecWindow
public import Idealize.ShloMosaic.Lib.ValueIdx
public import Idealize.ShloMosaic.Lib.MatmulPlain
public import Idealize.ShloMosaic.Lib.Pipeline.Value

@[expose] public section

noncomputable section

namespace Cert.Cells

open Idealize.ShloMosaic Idealize.ShloMosaic.ValueIdx
open Finset

variable {α : Type}

/-- A window put into a matrix, read at an index, when its contents are `G` at their place. -/
theorem put2 {A B P Q : ℕ} (x : (⟨2, ![A, B]⟩ : Shape).Idx → α) (o0 o1 : ℕ) (w : (⟨2, ![P, Q]⟩ : Shape).Idx → α) (G : ℕ → ℕ → α)
    (hw : ∀ (r : Fin P) (c : Fin Q), w (ix2 r c) = G (o0 + r) (o1 + c)) (r : Fin A) (c : Fin B) :
    VecWindow.put x ![o0, o1] (⟨2, ![P, Q]⟩ : Shape).size w (ix2 r c)
      = if o0 ≤ r.val ∧ r.val < o0 + P ∧ o1 ≤ c.val ∧ c.val < o1 + Q then G r c else x (ix2 r c) := by
  unfold VecWindow.put
  by_cases h : o0 ≤ r.val ∧ r.val < o0 + P ∧ o1 ≤ c.val ∧ c.val < o1 + Q
  · have h' : ∀ a : Fin 2, (![o0, o1] : Fin 2 → ℕ) a ≤ ((ix2 r c : (⟨2, ![A, B]⟩ : Shape).Idx) a).val
        ∧ ((ix2 r c : (⟨2, ![A, B]⟩ : Shape).Idx) a).val < (![o0, o1] : Fin 2 → ℕ) a + (⟨2, ![P, Q]⟩ : Shape).size a := by
      intro a; fin_cases a
      · exact ⟨h.1, h.2.1⟩
      · exact ⟨h.2.2.1, h.2.2.2⟩
    rw [if_pos h, dif_pos h']
    have e := hw ⟨r.val - o0, by omega⟩ ⟨c.val - o1, by omega⟩
    rw [Nat.add_sub_cancel' h.1, Nat.add_sub_cancel' h.2.2.1] at e
    rw [← e]
    congr 1
    funext a; fin_cases a <;> rfl
  · rw [if_neg h, dif_neg (fun h' => h ⟨(h' 0).1, (h' 0).2, (h' 1).1, (h' 1).2⟩)]

/-- The same for an array of rank three. -/
theorem put3 {A B C P Q R : ℕ} (x : (⟨3, ![A, B, C]⟩ : Shape).Idx → α) (o0 o1 o2 : ℕ) (w : (⟨3, ![P, Q, R]⟩ : Shape).Idx → α) (G : ℕ → ℕ → ℕ → α)
    (hw : ∀ (b : Fin P) (r : Fin Q) (c : Fin R), w (ix3 b r c) = G (o0 + b) (o1 + r) (o2 + c)) (b : Fin A) (r : Fin B) (c : Fin C) :
    VecWindow.put x ![o0, o1, o2] (⟨3, ![P, Q, R]⟩ : Shape).size w (ix3 b r c)
      = if o0 ≤ b.val ∧ b.val < o0 + P ∧ o1 ≤ r.val ∧ r.val < o1 + Q ∧ o2 ≤ c.val ∧ c.val < o2 + R then G b r c else x (ix3 b r c) := by
  unfold VecWindow.put
  by_cases h : o0 ≤ b.val ∧ b.val < o0 + P ∧ o1 ≤ r.val ∧ r.val < o1 + Q ∧ o2 ≤ c.val ∧ c.val < o2 + R
  · have h' : ∀ a : Fin 3, (![o0, o1, o2] : Fin 3 → ℕ) a ≤ ((ix3 b r c : (⟨3, ![A, B, C]⟩ : Shape).Idx) a).val
        ∧ ((ix3 b r c : (⟨3, ![A, B, C]⟩ : Shape).Idx) a).val < (![o0, o1, o2] : Fin 3 → ℕ) a + (⟨3, ![P, Q, R]⟩ : Shape).size a := by
      intro a; fin_cases a
      · exact ⟨h.1, h.2.1⟩
      · exact ⟨h.2.2.1, h.2.2.2.1⟩
      · exact ⟨h.2.2.2.2.1, h.2.2.2.2.2⟩
    rw [if_pos h, dif_pos h']
    have e := hw ⟨b.val - o0, by omega⟩ ⟨r.val - o1, by omega⟩ ⟨c.val - o2, by omega⟩
    rw [Nat.add_sub_cancel' h.1, Nat.add_sub_cancel' h.2.2.1, Nat.add_sub_cancel' h.2.2.2.2.1] at e
    rw [← e]
    congr 1
    funext a; fin_cases a <;> rfl
  · rw [if_neg h, dif_neg (fun h' => h ⟨(h' 0).1, (h' 0).2, (h' 1).1, (h' 1).2, (h' 2).1, (h' 2).2⟩)]

/-- A window of a matrix, read at an index. -/
theorem window2 {A B P Q : ℕ} (x : (⟨2, ![A, B]⟩ : Shape).Idx → α) (o0 o1 : ℕ) (inb) (r : Fin P) (c : Fin Q) (h0 : o0 + r.val < A) (h1 : o1 + c.val < B) :
    VecWindow.window x ![o0, o1] (⟨2, ![P, Q]⟩ : Shape).size inb (ix2 r c) = x (ix2 ⟨o0 + r, h0⟩ ⟨o1 + c, h1⟩) := by
  unfold VecWindow.window
  congr 1
  funext a; apply Fin.ext
  fin_cases a
  · show o0 + 1 * r.val = o0 + r.val; omega
  · show o1 + 1 * c.val = o1 + c.val; omega

/-- A window of an array of rank three, read at an index. -/
theorem window3 {A B C P Q R : ℕ} (x : (⟨3, ![A, B, C]⟩ : Shape).Idx → α) (o0 o1 o2 : ℕ) (inb) (b : Fin P) (r : Fin Q) (c : Fin R)
    (h0 : o0 + b.val < A) (h1 : o1 + r.val < B) (h2 : o2 + c.val < C) :
    VecWindow.window x ![o0, o1, o2] (⟨3, ![P, Q, R]⟩ : Shape).size inb (ix3 b r c) = x (ix3 ⟨o0 + b, h0⟩ ⟨o1 + r, h1⟩ ⟨o2 + c, h2⟩) := by
  unfold VecWindow.window
  congr 1
  funext a; apply Fin.ext
  fin_cases a
  · show o0 + 1 * b.val = o0 + b.val; omega
  · show o1 + 1 * r.val = o1 + r.val; omega
  · show o2 + 1 * c.val = o2 + c.val; omega

/-- A matrix cast to its own shape. -/
theorem cast22 {A B : ℕ} (x : (⟨2, ![A, B]⟩ : Shape).Idx → α) (h) (r : Fin A) (c : Fin B) : shapeCast ⟨2, ![A, B]⟩ x h (ix2 r c) = x (ix2 r c) :=
  shapeCast_apply x h _ _ rfl

/-- A leading axis of one dropped. -/
theorem cast32 {A B : ℕ} (x : (⟨3, ![1, A, B]⟩ : Shape).Idx → α) (h) (r : Fin A) (c : Fin B) :
    shapeCast ⟨2, ![A, B]⟩ x h (ix2 r c) = x (ix3 0 r c) :=
  shapeCast_apply x h _ _ (by rw [Shape.rowMajor_val_two, Shape.rowMajor_val_three]; show (0 * A + r.val) * B + c.val = r.val * B + c.val; rw [Nat.zero_mul, Nat.zero_add])

/-- A leading axis of one added. -/
theorem cast23 {A B : ℕ} (x : (⟨2, ![A, B]⟩ : Shape).Idx → α) (h) (b : Fin 1) (r : Fin A) (c : Fin B) :
    shapeCast ⟨3, ![1, A, B]⟩ x h (ix3 b r c) = x (ix2 r c) :=
  shapeCast_apply x h _ _ (by
    rw [Shape.rowMajor_val_two, Shape.rowMajor_val_three]
    have hb : b.val = 0 := by omega
    show r.val * B + c.val = (b.val * A + r.val) * B + c.val; rw [hb, Nat.zero_mul, Nat.zero_add])

/-- A row broadcast down the rows. -/
theorem bcastRow {A B : ℕ} (x : (⟨2, ![1, B]⟩ : Shape).Idx → α) (h) (r : Fin A) (c : Fin B) :
    broadcastTo ⟨2, ![A, B]⟩ x h (ix2 r c) = x (ix2 0 c) := by
  unfold broadcastTo
  congr 1
  funext a; apply Fin.ext
  fin_cases a
  · rfl
  · show (if h1 : B = 1 then (⟨0, _⟩ : Fin B) else ⟨c.val, _⟩).val = c.val
    split
    · show 0 = c.val; omega
    · rfl

/-- A column broadcast along the rows. -/
theorem bcastCol {A B : ℕ} (x : (⟨2, ![A, 1]⟩ : Shape).Idx → α) (h) (r : Fin A) (c : Fin B) :
    broadcastTo ⟨2, ![A, B]⟩ x h (ix2 r c) = x (ix2 r 0) := by
  unfold broadcastTo
  congr 1
  funext a; apply Fin.ext
  fin_cases a
  · show (if h1 : A = 1 then (⟨0, _⟩ : Fin A) else ⟨r.val, _⟩).val = r.val
    split
    · show 0 = r.val; omega
    · rfl
  · rfl

/-- A slice of a matrix's columns, read at an index. -/
theorem sliceCols {A B Q : ℕ} (o : ℕ) (x : (⟨2, ![A, B]⟩ : Shape).Idx → α) (h) (r : Fin A) (c : Fin Q) (hc : o + c.val < B) :
    extractStridedSlice ⟨2, ![A, Q]⟩ ![0, o] x h (ix2 r c) = x (ix2 r ⟨o + c, hc⟩) := by
  unfold extractStridedSlice
  congr 1
  funext a; apply Fin.ext
  fin_cases a
  · show 0 + r.val = r.val; omega
  · show o + c.val = o + c.val; rfl

end Cert.Cells

end
-- ==== Proof.MlpIdealUp.lean ====
/-
  The gate and up products of one point, entry by entry: the block of activations it writes and the row maxima it keeps.
-/
module

public import proofs.«01_k».proof.Proof.MlpIdealStep
public import proofs.«01_k».proof.Proof.MlpArr
public import proofs.«01_k».proof.Proof.Cells

@[expose] public section

set_option maxRecDepth 65536

noncomputable section

namespace Cert.MlpIdeal.Hand

open Cert.MlpIdeal Cert.MlpIdeal.Gen Cert.MlpSpec Cert.Cells
open Idealize.ShloMosaic Idealize.ShloMosaic.ValueIdx
open Finset

/-- The input windows at block row `i` and block column `j` hold the arguments' blocks there. -/
structure Good (a : Arr) (i j : ℕ) (x : Ins Ideal) : Prop where
  xc : i < 9 → ∀ (r : Fin 512) (k : Fin 2048), num (x.xc (ix2 r k)) = a.x (512 * i + r) k
  wg : i < 9 → ∀ (k : Fin 2048) (f : Fin 512), num (x.wg (ix3 0 k f)) = a.w 0 k (512 * j + f)
  wu : i < 9 → ∀ (k : Fin 2048) (f : Fin 512), num (x.wu (ix3 0 k f)) = a.w 1 k (512 * j + f)
  sg : i < 9 → ∀ f : Fin 512, x.sg (ix2 0 f) = a.sg 0 (512 * j + f)
  su : i < 9 → ∀ f : Fin 512, x.su (ix2 0 f) = a.sg 1 (512 * j + f)
  xs : i < 9 → ∀ (r : Fin 512) (l : Fin 128), x.xs (ix2 r l) = a.xs (512 * i + r)
  wd : 0 < i → ∀ (f : Fin 512) (d : Fin 2048), num (x.wd (ix2 f d)) = a.wd (512 * j + f) d
  sd : ∀ d : Fin 2048, x.sd (ix2 0 d) = a.sd d
  h1 : 0 < i → ∀ (r : Fin 512) (d : Fin 2048), x.h1 (ix2 r d) = a.h1 (512 * (i - 1) + r) d

/-- A product with 256 columns of a weight, at an entry. -/
theorem dotUp_apply (xb : Vec Ideal S512x2048 .bf16) (w : Vec Ideal S1x2048x256 .i8) (r : Fin 512) (c : Fin 256) :
    dotUp xb w (ix2 r c) = lit 0x00000000#32 + ∑ k : Fin 2048, xb (ix2 r k) * num (w (ix3 0 k c)) := by
  unfold dotUp
  refine (Ideal.matmul_plain_apply (M := 512) (K := 2048) (N := 256) none _ _ _ r c).trans ?_
  refine congrArg (lit 0x00000000#32 + ·) (Finset.sum_congr rfl fun k _ => ?_)
  refine congrArg (xb (ix2 r k) * ·) ?_
  show num (shapeCast S2048x256 w shapeCasts_S1x2048x256_S2048x256 (ix2 k c)) = _
  exact congrArg num (cast32 w shapeCasts_S1x2048x256_S2048x256 k c)

variable {a : Arr}

/-- The left half of a scaled product is the reference's product. -/
theorem scaledL_pre (e R C : ℕ) (xb : Vec Ideal S512x2048 .bf16) (w : Vec Ideal S1x2048x256 .i8) (xs : Vec Ideal S512x128 .f32) (s : Vec Ideal S1x128 .f32)
    (hxb : ∀ (r : Fin 512) (k : Fin 2048), xb (ix2 r k) = a.x (R + r) k)
    (hw : ∀ (k : Fin 2048) (c : Fin 256), num (w (ix3 0 k c)) = a.w e k (C + c))
    (hxs : ∀ (r : Fin 512) (l : Fin 128), xs (ix2 r l) = a.xs (R + r))
    (hs : ∀ c : Fin 128, s (ix2 0 c) = a.sg e (C + c)) (r : Fin 512) (c : Fin 128) :
    scaledL (dotUp xb w) xs s (ix2 r c) = pre a e (R + r) (C + c) := by
  have h1 : extractStridedSlice S512x128 ![0, 0] (dotUp xb w) slices_S512x256_o0_0_S512x128 (ix2 r c) = dotUp xb w (ix2 r ⟨0 + c.val, by omega⟩) :=
    sliceCols 0 _ _ r c _
  have h2 : shapeCast S512x128 xs shapeCasts_S512x128_S512x128 (ix2 r c) = xs (ix2 r c) := cast22 xs _ r c
  have h3 : broadcastTo S512x128 (shapeCast S1x128 s shapeCasts_S1x128_S1x128) broadcasts_S1x128_S512x128 (ix2 r c) = s (ix2 0 c) :=
    (bcastRow _ _ r c).trans (cast22 s _ 0 c)
  show (extractStridedSlice S512x128 ![0, 0] (dotUp xb w) slices_S512x256_o0_0_S512x128 (ix2 r c) * shapeCast S512x128 xs shapeCasts_S512x128_S512x128 (ix2 r c))
    * broadcastTo S512x128 (shapeCast S1x128 s shapeCasts_S1x128_S1x128) broadcasts_S1x128_S512x128 (ix2 r c) = _
  rw [h1, h2, h3, dotUp_apply, hxs, hs, pre, Finset.sum_range]
  congr 3
  refine Finset.sum_congr rfl fun k _ => ?_
  rw [hxb, hw]
  congr 3; show 0 + c.val = c.val; omega

/-- The right half of a scaled product is the reference's product. -/
theorem scaledR_pre (e R C : ℕ) (xb : Vec Ideal S512x2048 .bf16) (w : Vec Ideal S1x2048x256 .i8) (xs : Vec Ideal S512x128 .f32) (s : Vec Ideal S1x128 .f32)
    (hxb : ∀ (r : Fin 512) (k : Fin 2048), xb (ix2 r k) = a.x (R + r) k)
    (hw : ∀ (k : Fin 2048) (c : Fin 256), num (w (ix3 0 k c)) = a.w e k (C + c))
    (hxs : ∀ (r : Fin 512) (l : Fin 128), xs (ix2 r l) = a.xs (R + r))
    (hs : ∀ c : Fin 128, s (ix2 0 c) = a.sg e (C + (128 + c))) (r : Fin 512) (c : Fin 128) :
    scaledR (dotUp xb w) xs s (ix2 r c) = pre a e (R + r) (C + (128 + c)) := by
  have h1 : extractStridedSlice S512x128 ![0, 128] (dotUp xb w) slices_S512x256_o0_128_S512x128 (ix2 r c) = dotUp xb w (ix2 r ⟨128 + c.val, by omega⟩) :=
    sliceCols 128 _ _ r c _
  have h2 : shapeCast S512x128 xs shapeCasts_S512x128_S512x128 (ix2 r c) = xs (ix2 r c) := cast22 xs _ r c
  have h3 : broadcastTo S512x128 (shapeCast S1x128 s shapeCasts_S1x128_S1x128) broadcasts_S1x128_S512x128 (ix2 r c) = s (ix2 0 c) :=
    (bcastRow _ _ r c).trans (cast22 s _ 0 c)
  show (extractStridedSlice S512x128 ![0, 128] (dotUp xb w) slices_S512x256_o0_128_S512x128 (ix2 r c) * shapeCast S512x128 xs shapeCasts_S512x128_S512x128 (ix2 r c))
    * broadcastTo S512x128 (shapeCast S1x128 s shapeCasts_S1x128_S1x128) broadcasts_S1x128_S512x128 (ix2 r c) = _
  rw [h1, h2, h3, dotUp_apply, hxs, hs, pre, Finset.sum_range]
  congr 3
  refine Finset.sum_congr rfl fun k _ => ?_
  rw [hxb, hw]

/-- The gated activation at an entry. -/
theorem act_apply (g u : FVec Ideal S512x128 .f32) (z : S512x128.Idx) : act g u z = g z * Ideal.logistic (g z) * u z := rfl

section
variable {i j : ℕ} {x : Ins Ideal} (hx : Good a i j x) (hi : i < 9) (xb : Vec Ideal S512x2048 .bf16)
  (hxb : ∀ (r : Fin 512) (k : Fin 2048), xb (ix2 r k) = a.x (512 * i + r) k)
include hx hi hxb

/-- Columns 0–255 of the gate weight's block. -/
theorem wL_g (k : Fin 2048) (c : Fin 256) : num (wL x.wg (ix3 0 k c)) = a.w 0 k (512 * j + c) := by
  refine (congrArg num (window3 x.wg 0 0 0 inb_S1x2048x512_S1x2048x256_0_0_0 0 k c (by decide) (by omega) (by omega))).trans ?_
  refine (hx.wg hi ⟨0 + k.val, by omega⟩ ⟨0 + c.val, by omega⟩).trans ?_
  show a.w 0 (0 + k.val) (512 * j + (0 + c.val)) = _; rw [Nat.zero_add, Nat.zero_add]

/-- Columns 0–255 of the up weight's block. -/
theorem wL_u (k : Fin 2048) (c : Fin 256) : num (wL x.wu (ix3 0 k c)) = a.w 1 k (512 * j + c) := by
  refine (congrArg num (window3 x.wu 0 0 0 inb_S1x2048x512_S1x2048x256_0_0_0 0 k c (by decide) (by omega) (by omega))).trans ?_
  refine (hx.wu hi ⟨0 + k.val, by omega⟩ ⟨0 + c.val, by omega⟩).trans ?_
  show a.w 1 (0 + k.val) (512 * j + (0 + c.val)) = _; rw [Nat.zero_add, Nat.zero_add]

/-- Columns 256–511 of the gate weight's block. -/
theorem wR_g (k : Fin 2048) (c : Fin 256) : num (wR x.wg (ix3 0 k c)) = a.w 0 k (512 * j + 256 + c) := by
  refine (congrArg num (window3 x.wg 0 0 256 inb_S1x2048x512_S1x2048x256_0_0_256 0 k c (by decide) (by omega) (by omega))).trans ?_
  refine (hx.wg hi ⟨0 + k.val, by omega⟩ ⟨256 + c.val, by omega⟩).trans ?_
  congr 1
  · exact Nat.zero_add _
  · show 512 * j + (256 + c.val) = _; omega

/-- Columns 256–511 of the up weight's block. -/
theorem wR_u (k : Fin 2048) (c : Fin 256) : num (wR x.wu (ix3 0 k c)) = a.w 1 k (512 * j + 256 + c) := by
  refine (congrArg num (window3 x.wu 0 0 256 inb_S1x2048x512_S1x2048x256_0_0_256 0 k c (by decide) (by omega) (by omega))).trans ?_
  refine (hx.wu hi ⟨0 + k.val, by omega⟩ ⟨256 + c.val, by omega⟩).trans ?_
  congr 1
  · exact Nat.zero_add _
  · show 512 * j + (256 + c.val) = _; omega

/-- 128 column scales of the gate weight. -/
theorem sg_at (o : ℕ) (ho : o + 128 ≤ 512) (inb) (c : Fin 128) : VecWindow.window x.sg ![0, o] S1x128.size inb (ix2 0 c) = a.sg 0 (512 * j + (o + c)) :=
  (window2 x.sg 0 o inb 0 c (by decide) (by omega)).trans (hx.sg hi ⟨o + c.val, by omega⟩)

/-- 128 column scales of the up weight. -/
theorem su_at (o : ℕ) (ho : o + 128 ≤ 512) (inb) (c : Fin 128) : VecWindow.window x.su ![0, o] S1x128.size inb (ix2 0 c) = a.sg 1 (512 * j + (o + c)) :=
  (window2 x.su 0 o inb 0 c (by decide) (by omega)).trans (hx.su hi ⟨o + c.val, by omega⟩)

/-- Tile 0 of the activations. -/
theorem hT0_eq (r : Fin 512) (c : Fin 128) : hT0 xb x (ix2 r c) = av a (512 * i + r) (512 * j + (0 + c)) := by
  have eg := scaledL_pre (a := a) 0 (512 * i) (512 * j) xb (wL x.wg) x.xs (VecWindow.window x.sg ![0, 0] S1x128.size inb_S1x512_S1x128_0_0) hxb
    (wL_g hx hi xb hxb) (hx.xs hi) (fun c => (sg_at hx hi xb hxb 0 (by decide) _ c).trans (by rw [Nat.zero_add])) r c
  have eu := scaledL_pre (a := a) 1 (512 * i) (512 * j) xb (wL x.wu) x.xs (VecWindow.window x.su ![0, 0] S1x128.size inb_S1x512_S1x128_0_0) hxb
    (wL_u hx hi xb hxb) (hx.xs hi) (fun c => (su_at hx hi xb hxb 0 (by decide) _ c).trans (by rw [Nat.zero_add])) r c
  rw [hT0, act_apply, eg, eu, Nat.zero_add]; rfl

/-- Tile 1 of the activations. -/
theorem hT1_eq (r : Fin 512) (c : Fin 128) : hT1 xb x (ix2 r c) = av a (512 * i + r) (512 * j + (128 + c)) := by
  have eg := scaledR_pre (a := a) 0 (512 * i) (512 * j) xb (wL x.wg) x.xs (VecWindow.window x.sg ![0, 128] S1x128.size inb_S1x512_S1x128_0_128) hxb
    (wL_g hx hi xb hxb) (hx.xs hi) (sg_at hx hi xb hxb 128 (by decide) _) r c
  have eu := scaledR_pre (a := a) 1 (512 * i) (512 * j) xb (wL x.wu) x.xs (VecWindow.window x.su ![0, 128] S1x128.size inb_S1x512_S1x128_0_128) hxb
    (wL_u hx hi xb hxb) (hx.xs hi) (su_at hx hi xb hxb 128 (by decide) _) r c
  rw [hT1, act_apply, eg, eu]; rfl

/-- Tile 2 of the activations. -/
theorem hT2_eq (r : Fin 512) (c : Fin 128) : hT2 xb x (ix2 r c) = av a (512 * i + r) (512 * j + (256 + c)) := by
  have eg := scaledL_pre (a := a) 0 (512 * i) (512 * j + 256) xb (wR x.wg) x.xs (VecWindow.window x.sg ![0, 256] S1x128.size inb_S1x512_S1x128_0_256) hxb
    (wR_g hx hi xb hxb) (hx.xs hi) (fun c => (sg_at hx hi xb hxb 256 (by decide) _ c).trans (by rw [Nat.add_assoc])) r c
  have eu := scaledL_pre (a := a) 1 (512 * i) (512 * j + 256) xb (wR x.wu) x.xs (VecWindow.window x.su ![0, 256] S1x128.size inb_S1x512_S1x128_0_256) hxb
    (wR_u hx hi xb hxb) (hx.xs hi) (fun c => (su_at hx hi xb hxb 256 (by decide) _ c).trans (by rw [Nat.add_assoc])) r c
  rw [hT2, act_apply, eg, eu, Nat.add_assoc]; rfl

/-- Tile 3 of the activations. -/
theorem hT3_eq (r : Fin 512) (c : Fin 128) : hT3 xb x (ix2 r c) = av a (512 * i + r) (512 * j + (384 + c)) := by
  have eg := scaledR_pre (a := a) 0 (512 * i) (512 * j + 256) xb (wR x.wg) x.xs (VecWindow.window x.sg ![0, 384] S1x128.size inb_S1x512_S1x128_0_384) hxb
    (wR_g hx hi xb hxb) (hx.xs hi) (fun c => (sg_at hx hi xb hxb 384 (by decide) _ c).trans (by congr 1; omega)) r c
  have eu := scaledR_pre (a := a) 1 (512 * i) (512 * j + 256) xb (wR x.wu) x.xs (VecWindow.window x.su ![0, 384] S1x128.size inb_S1x512_S1x128_0_384) hxb
    (wR_u hx hi xb hxb) (hx.xs hi) (fun c => (su_at hx hi xb hxb 384 (by decide) _ c).trans (by congr 1; omega)) r c
  rw [hT3, act_apply, eg, eu, show 512 * j + 256 + (128 + c.val) = 512 * j + (384 + c.val) by omega]; rfl

/-- After the gate and up products of a point the scratch holds its block of activations, and the others as before. -/
theorem upH_eq (g : grid0.Coords) (hg : (g 1).val = j) (h : Vec Ideal S12x512x512 .f32) (b : Fin 12) (r f : Fin 512) :
    upH g xb x h (ix3 b r f) = if b.val = j then av a (512 * i + r) (512 * j + f) else h (ix3 b r f) := by
  have tile : ∀ (o : ℕ) (t : FVec Ideal S512x128 .f32) (ht : ∀ (r : Fin 512) (c : Fin 128), t (ix2 r c) = av a (512 * i + r) (512 * j + (o + c)))
      (h' : Vec Ideal S12x512x512 .f32),
      VecWindow.put h' ![(g 1).val, 0, o] S1x512x128.size (shapeCast S1x512x128 t shapeCasts_S512x128_S1x512x128) (ix3 b r f)
        = if j ≤ b.val ∧ b.val < j + 1 ∧ 0 ≤ r.val ∧ r.val < 0 + 512 ∧ o ≤ f.val ∧ f.val < o + 128 then av a (512 * i + r) (512 * j + f) else h' (ix3 b r f) := by
    intro o t ht h'
    rw [hg]
    refine put3 h' j 0 o _ (fun _ r f => av a (512 * i + r) (512 * j + f)) (fun b' r' c' => ?_) b r f
    refine (cast23 t _ b' r' c').trans ((ht r' c').trans ?_)
    show _ = av a (512 * i + (0 + r'.val)) (512 * j + (o + c'.val))
    rw [Nat.zero_add]
  have hf := f.isLt; have hr := r.isLt
  unfold upH
  rw [tile 384 _ (hT3_eq hx hi xb hxb), tile 256 _ (hT2_eq hx hi xb hxb), tile 128 _ (hT1_eq hx hi xb hxb), tile 0 _ (hT0_eq hx hi xb hxb)]
  split_ifs <;> first | rfl | omega

/-- After the gate and up products of a point the row maxima are those of the first `4 (j + 1)` tiles. -/
theorem upAm_eq (g : grid0.Coords) (hg : first g = if j = 0 then 1#1 else 0#1) (am : Vec Ideal S512x128 .f32)
    (ham : 0 < j → ∀ (r : Fin 512) (l : Fin 128), am (ix2 r l) = amN a (512 * i + r) l (4 * j)) (r : Fin 512) (l : Fin 128) :
    upAm g xb x am (ix2 r l) = amN a (512 * i + r) l (4 * (j + 1)) := by
  have h0 : Scalar.select (first g) (broadcast S512x128 (Scalar.ofBits .f32 0x00000000#32 : Ideal .f32)) am (ix2 r l) = amN a (512 * i + r) l (4 * j) := by
    rw [hg]
    by_cases hj : j = 0
    · subst hj; rw [if_pos rfl]; rfl
    · rw [if_neg hj]; exact ham (by omega) r l
  unfold upAm
  refine (cast22 _ _ r l).trans ?_
  show max (max (max (max (Scalar.select (first g) (broadcast S512x128 (Scalar.ofBits .f32 0x00000000#32 : Ideal .f32)) am (ix2 r l)) (aabs (hT0 xb x (ix2 r l))))
    (aabs (hT1 xb x (ix2 r l)))) (aabs (hT2 xb x (ix2 r l)))) (aabs (hT3 xb x (ix2 r l))) = _
  rw [h0, hT0_eq hx hi xb hxb, hT1_eq hx hi xb hxb, hT2_eq hx hi xb hxb, hT3_eq hx hi xb hxb,
    show 4 * (j + 1) = 4 * j + 3 + 1 by omega, amN, amN, amN, amN,
    show 512 * j + (0 + l.val) = 128 * (4 * j) + l.val by omega, show 512 * j + (128 + l.val) = 128 * (4 * j + 1) + l.val by omega,
    show 512 * j + (256 + l.val) = 128 * (4 * j + 2) + l.val by omega, show 512 * j + (384 + l.val) = 128 * (4 * j + 3) + l.val by omega]

end

end Cert.MlpIdeal.Hand

end
-- ==== Proof.Concat4.lean ====
/-
  Four tiles side by side or stacked, at an entry.
-/
module

public import Idealize.ShloMosaic.PureOps.Ideal.Laws
public import Idealize.ShloMosaic.Lib.ValueIdx
import Idealize.ShloMosaic.Lib.Pointwise.SelectCore

@[expose] public section

namespace Cert.Cells

open Idealize.ShloMosaic

/-- Four tiles of `Q` columns side by side: if each holds its part of a function of the column, so does the whole. -/
theorem concat4 {α : Type} {P Q N : ℕ} (t0 t1 t2 t3 : (⟨2, ![P, Q]⟩ : Shape).Idx → α)
    (h : Shape.Concatenates [⟨2, ![P, Q]⟩, ⟨2, ![P, Q]⟩, ⟨2, ![P, Q]⟩, ⟨2, ![P, Q]⟩] (⟨2, ![P, N]⟩ : Shape) 1)
    (r : Fin P) (f : Fin N) (hN : N = Q + Q + Q + Q) (G : ℕ → α)
    (h0 : ∀ c : Fin Q, t0 (ValueIdx.ix2 r c) = G (0 + c)) (h1 : ∀ c : Fin Q, t1 (ValueIdx.ix2 r c) = G (Q + c))
    (h2 : ∀ c : Fin Q, t2 (ValueIdx.ix2 r c) = G (Q + Q + c)) (h3 : ∀ c : Fin Q, t3 (ValueIdx.ix2 r c) = G (Q + Q + Q + c)) :
    concatenate (⟨2, ![P, N]⟩ : Shape) 1 [⟨⟨2, ![P, Q]⟩, t0⟩, ⟨⟨2, ![P, Q]⟩, t1⟩, ⟨⟨2, ![P, Q]⟩, t2⟩, ⟨⟨2, ![P, Q]⟩, t3⟩] h (ValueIdx.ix2 r f) = G f := by
  have hf := f.isLt
  have pick : ∀ (o : ℕ) (t : (⟨2, ![P, Q]⟩ : Shape).Idx → α) (ht : ∀ c : Fin Q, t (ValueIdx.ix2 r c) = G (o + c))
      (k : (⟨2, ![P, Q]⟩ : Shape).Idx) (k0 : (k 0).val = r.val) (k1 : o + (k 1).val = f.val), t k = G f := by
    intro o t ht k k0 k1
    have e : k = ValueIdx.ix2 r (⟨(k 1).val, (k 1).isLt⟩ : Fin Q) := by
      funext d; apply Fin.ext
      fin_cases d
      · exact k0
      · rfl
    exact (congrArg t e).trans ((ht _).trans (congrArg G k1))
  rw [concatenate_cons_apply]
  simp only [concatenateAt_cons, concatenateAt_singleton]
  split_ifs with c1 c2 c3
  · exact pick 0 t0 h0 _ rfl (Nat.zero_add _)
  · replace c1 : ¬ f.val < Q := c1
    exact pick Q t1 h1 _ rfl (by show Q + (f.val - Q) = f.val; omega)
  · replace c1 : ¬ f.val < Q := c1
    replace c2 : ¬ f.val - Q < Q := c2
    exact pick (Q + Q) t2 h2 _ rfl (by show Q + Q + (f.val - Q - Q) = f.val; omega)
  · replace c1 : ¬ f.val < Q := c1
    replace c2 : ¬ f.val - Q < Q := c2
    replace c3 : ¬ f.val - Q - Q < Q := c3
    exact pick (Q + Q + Q) t3 h3 _ rfl (by show Q + Q + Q + (f.val - Q - Q - Q) = f.val; omega)

/-- Four matrices stacked along a new middle axis, read at an index. -/
theorem stack4 {α : Type} {A B : ℕ} (t0 t1 t2 t3 : (⟨3, ![A, 1, B]⟩ : Shape).Idx → α)
    (h : Shape.Concatenates [⟨3, ![A, 1, B]⟩, ⟨3, ![A, 1, B]⟩, ⟨3, ![A, 1, B]⟩, ⟨3, ![A, 1, B]⟩] (⟨3, ![A, 4, B]⟩ : Shape) 1)
    (r : Fin A) (j : Fin 4) (c : Fin B) (G : ℕ → α)
    (h0 : t0 (ValueIdx.ix3 r 0 c) = G 0) (h1 : t1 (ValueIdx.ix3 r 0 c) = G 1) (h2 : t2 (ValueIdx.ix3 r 0 c) = G 2) (h3 : t3 (ValueIdx.ix3 r 0 c) = G 3) :
    concatenate (⟨3, ![A, 4, B]⟩ : Shape) 1 [⟨⟨3, ![A, 1, B]⟩, t0⟩, ⟨⟨3, ![A, 1, B]⟩, t1⟩, ⟨⟨3, ![A, 1, B]⟩, t2⟩, ⟨⟨3, ![A, 1, B]⟩, t3⟩] h (ValueIdx.ix3 r j c) = G j := by
  have hj := j.isLt
  have pick : ∀ (o : ℕ) (t : (⟨3, ![A, 1, B]⟩ : Shape).Idx → α) (ht : t (ValueIdx.ix3 r 0 c) = G o)
      (k : (⟨3, ![A, 1, B]⟩ : Shape).Idx) (k0 : (k 0).val = r.val) (k2 : (k 2).val = c.val) (ho : o = j.val), t k = G j := by
    intro o t ht k k0 k2 ho
    subst ho
    rw [← ht]
    refine congrArg t ?_
    funext d; apply Fin.ext
    fin_cases d
    · exact k0
    · have := (k 1).isLt
      show (k 1).val = 0
      have h1 : (k 1).val < 1 := this
      omega
    · exact k2
  rw [concatenate_cons_apply]
  simp only [concatenateAt_cons, concatenateAt_singleton]
  split_ifs with c1 c2 c3
  · exact pick 0 t0 h0 _ rfl rfl (by have : j.val < 1 := c1; omega)
  · replace c1 : ¬ j.val < 1 := c1
    exact pick 1 t1 h1 _ rfl rfl (by have : j.val - 1 < 1 := c2; omega)
  · replace c1 : ¬ j.val < 1 := c1
    replace c2 : ¬ j.val - 1 < 1 := c2
    exact pick 2 t2 h2 _ rfl rfl (by have : j.val - 1 - 1 < 1 := c3; omega)
  · replace c1 : ¬ j.val < 1 := c1
    replace c2 : ¬ j.val - 1 < 1 := c2
    replace c3 : ¬ j.val - 1 - 1 < 1 := c3
    exact pick 3 t3 h3 _ rfl rfl (by omega)

end Cert.Cells
-- ==== Proof.RowMax.lean ====
/-
  The maximum along a row, at an entry.
-/
module

public import Idealize.ShloMosaic.PureOps.Ideal.Laws
public import Idealize.ShloMosaic.Lib.ValueIdx

@[expose] public section

noncomputable section

namespace Cert.Cells

open Idealize.ShloMosaic Idealize.ShloMosaic.ValueIdx

/-- The maximum of each row of a matrix is the fold of the row's entries. -/
theorem rowMax {P Q : ℕ} (src : FVec Ideal (⟨2, ![P, Q]⟩ : Shape) .f32) (acc : BitVec 32)
    (h : (⟨2, ![P, Q]⟩ : Shape).Reduces [1] (⟨1, ![P]⟩ : Shape)) (hφ : FKind.Formats .f32) (hacc : acc = FKind.maximumf.neutral .f32 hφ)
    (r : Fin P) (g : Fin Q → EReal) (hg : ∀ c, src (ix2 r c) = g c) :
    multiReduction .maximumf [1] (⟨1, ![P]⟩ : Shape) src acc h hφ hacc (ix1 r)
      = Finset.fold max (Ideal.ofBits .f32 acc) g Finset.univ := by
  refine (Ideal.multiReduction_maximumf_single src acc h hφ hacc (ix1 r)).trans ?_
  have e : src ∘ h.lift (ix1 r) = g := by
    funext k
    refine Eq.trans (congrArg src ?_) (hg k)
    funext d; apply Fin.ext
    fin_cases d <;> rfl
  rw [e]
  rfl

end Cert.Cells

end
-- ==== Proof.MlpIdealDown.lean ====
/-
  The down product of one point, entry by entry: the codes it writes and the sum it keeps; the block of the result; the scale.
-/
module

public import proofs.«01_k».proof.Proof.MlpIdealUp
public import proofs.«01_k».proof.Proof.Concat4
public import proofs.«01_k».proof.Proof.RowMax

@[expose] public section

set_option maxRecDepth 65536

noncomputable section

namespace Cert.MlpIdeal.Hand

open Cert.MlpIdeal Cert.MlpIdeal.Gen Cert.MlpSpec Cert.Cells
open Idealize.ShloMosaic Idealize.ShloMosaic.ValueIdx
open Finset

variable {a : Arr}

/-- A tile's codes at an entry. -/
theorem quant_apply (t : Vec Ideal S1x512x128 .f32) (hsc : Vec Ideal S512x128 .f32) (r : Fin 512) (l : Fin 128) :
    quant t hsc (ix2 r l) = quantOf (t (ix3 0 r l)) (hsc (ix2 r l)) := by
  have h := cast32 t shapeCasts_S1x512x128_S512x128 r l
  show quantOf (shapeCast S512x128 t shapeCasts_S1x512x128_S512x128 (ix2 r l)) (hsc (ix2 r l)) = _
  rw [h]

section
variable {R j : ℕ} (hj : j < 12) (g : grid0.Coords) (hg : (g 1).val = j) (h : Vec Ideal S12x512x512 .f32) (hsc : Vec Ideal S512x128 .f32)
  (hh : ∀ r f : Fin 512, h (ix3 ⟨j, hj⟩ r f) = av a (R + r) (512 * j + f))
  (hs : ∀ (r : Fin 512) (l : Fin 128), hsc (ix2 r l) = sc a (R + r))
include hg hh hs

/-- The codes of one tile. -/
theorem tileQ (o : ℕ) (ho : o + 128 ≤ 512) (inb) (r : Fin 512) (l : Fin 128) :
    quant (VecWindow.window h ![(g 1).val, 0, o] S1x512x128.size inb) hsc (ix2 r l) = q a (R + r) (512 * j + (o + l)) := by
  rw [quant_apply, hs]
  have e := window3 h (g 1).val 0 o inb (0 : Fin 1) r l (by rw [hg]; exact hj) (by omega) (by omega)
  have e' : (ix3 (⟨(g 1).val + (0 : Fin 1).val, by rw [hg]; exact hj⟩ : Fin 12) (⟨0 + r.val, by omega⟩ : Fin 512) (⟨o + l.val, by omega⟩ : Fin 512) : S12x512x512.Idx)
      = ix3 ⟨j, hj⟩ r ⟨o + l.val, by omega⟩ := by
    funext d; apply Fin.ext
    fin_cases d
    · exact hg
    · exact Nat.zero_add _
    · rfl
  rw [e', hh] at e
  exact congrArg (quantOf · (sc a (R + r))) e

theorem qT0_eq (r : Fin 512) (l : Fin 128) : qT0 g h hsc (ix2 r l) = q a (R + r) (512 * j + (0 + l)) := tileQ hj g hg h hsc hh hs 0 (by decide) _ r l
theorem qT1_eq (r : Fin 512) (l : Fin 128) : qT1 g h hsc (ix2 r l) = q a (R + r) (512 * j + (128 + l)) := tileQ hj g hg h hsc hh hs 128 (by decide) _ r l
theorem qT2_eq (r : Fin 512) (l : Fin 128) : qT2 g h hsc (ix2 r l) = q a (R + r) (512 * j + (256 + l)) := tileQ hj g hg h hsc hh hs 256 (by decide) _ r l
theorem qT3_eq (r : Fin 512) (l : Fin 128) : qT3 g h hsc (ix2 r l) = q a (R + r) (512 * j + (384 + l)) := tileQ hj g hg h hsc hh hs 384 (by decide) _ r l

/-- The block of codes written. -/
theorem downHc_eq (hc : Vec Ideal S512x512 .i8) (r f : Fin 512) :
    downHc g h hsc hc (ix2 r f) = Ideal.fptosi 8 (q a (R + r) (512 * j + f)) := by
  have tile : ∀ (o : ℕ) (t : FVec Ideal S512x128 .f32) (ht : ∀ (r : Fin 512) (c : Fin 128), t (ix2 r c) = q a (R + r) (512 * j + (o + c)))
      (h' : Vec Ideal S512x512 .i8),
      VecWindow.put h' ![0, o] S512x128.size (fptosi 8 t) (ix2 r f)
        = if 0 ≤ r.val ∧ r.val < 0 + 512 ∧ o ≤ f.val ∧ f.val < o + 128 then Ideal.fptosi 8 (q a (R + r) (512 * j + f)) else h' (ix2 r f) := by
    intro o t ht h'
    refine put2 h' 0 o _ (fun r f => Ideal.fptosi 8 (q a (R + r) (512 * j + f))) (fun r' c' => ?_) r f
    refine (congrArg (Ideal.fptosi 8) (ht r' c')).trans ?_
    show _ = Ideal.fptosi 8 (q a (R + (0 + r'.val)) (512 * j + (o + c'.val)))
    rw [Nat.zero_add]
  have hf := f.isLt; have hr := r.isLt
  unfold downHc
  rw [tile 384 _ (qT3_eq hj g hg h hsc hh hs), tile 256 _ (qT2_eq hj g hg h hsc hh hs), tile 128 _ (qT1_eq hj g hg h hsc hh hs),
    tile 0 _ (qT0_eq hj g hg h hsc hh hs)]
  split_ifs <;> first | rfl | omega

/-- The codes the down product takes. -/
theorem codes_eq (r f : Fin 512) : codes g h hsc (ix2 r f) = q a (R + r) (512 * j + f) := by
  exact concat4 _ _ _ _ concatenates_S512x128_S512x128_S512x128_S512x128_S512x512_d1 r f rfl (fun n => q a (R + r) (512 * j + n))
    (qT0_eq hj g hg h hsc hh hs r) (qT1_eq hj g hg h hsc hh hs r) (qT2_eq hj g hg h hsc hh hs r) (qT3_eq hj g hg h hsc hh hs r)

end

/-- A product with 256 columns of the down weight, at an entry. -/
theorem dotDown_apply (p : FVec Ideal S512x512 .bf16) (w : Vec Ideal S512x256 .i8) (r : Fin 512) (c : Fin 256) :
    dotDown p w (ix2 r c) = lit 0x00000000#32 + ∑ f : Fin 512, p (ix2 r f) * num (w (ix2 f c)) := by
  unfold dotDown
  exact Ideal.matmul_plain_apply (M := 512) (K := 512) (N := 256) none _ _ _ r c

/-- After the down product of a point the accumulator holds the sum over the first `j + 1` blocks. -/
theorem downAcc_eq {i j : ℕ} {x : Ins Ideal} (hx : Good a i j x) (hi : 0 < i) (R : ℕ) (g : grid0.Coords) (hg : first g = if j = 0 then 1#1 else 0#1)
    (p : FVec Ideal S512x512 .bf16) (hp : ∀ r f : Fin 512, p (ix2 r f) = q a (R + r) (512 * j + f))
    (acc : Vec Ideal S512x2048 .f32) (hacc : 0 < j → ∀ (r : Fin 512) (d : Fin 2048), acc (ix2 r d) = accN a (R + r) d j)
    (r : Fin 512) (d : Fin 2048) : downAcc g p x acc (ix2 r d) = accN a (R + r) d (j + 1) := by
  have tile : ∀ (o : ℕ) (ho : o + 256 ≤ 2048) (i1 i2) (h' : Vec Ideal S512x2048 .f32),
      VecWindow.put h' ![0, o] S512x256.size (accT g p (VecWindow.window x.wd ![0, o] S512x256.size i1) (VecWindow.window acc ![0, o] S512x256.size i2)) (ix2 r d)
        = if 0 ≤ r.val ∧ r.val < 0 + 512 ∧ o ≤ d.val ∧ d.val < o + 256 then accN a (R + r) d (j + 1) else h' (ix2 r d) := by
    intro o ho i1 i2 h'
    refine put2 h' 0 o _ (fun r d => accN a (R + r) d (j + 1)) (fun r' c' => ?_) r d
    show _ = accN a (R + (0 + r'.val)) (o + c'.val) (j + 1)
    have ew : ∀ f : Fin 512, num (VecWindow.window x.wd ![0, o] S512x256.size i1 (ix2 f c')) = a.wd (512 * j + f) (o + c') := fun f =>
      (congrArg num (window2 x.wd 0 o i1 f c' (by omega) (by omega))).trans
        ((hx.wd hi ⟨0 + f.val, by omega⟩ ⟨o + c'.val, by omega⟩).trans (by show a.wd (512 * j + (0 + f.val)) _ = _; rw [Nat.zero_add]))
    have ed : dotDown p (VecWindow.window x.wd ![0, o] S512x256.size i1) (ix2 r' c')
        = lit 0x00000000#32 + ∑ f ∈ range 512, q a (R + r') (512 * j + f) * a.wd (512 * j + f) (o + c') := by
      rw [dotDown_apply, Finset.sum_range]
      refine congrArg _ (Finset.sum_congr rfl fun f _ => ?_)
      rw [hp, ew]
    rw [Nat.zero_add]
    unfold accT
    refine (cast22 _ _ r' c').trans ?_
    rw [hg]
    by_cases hj : j = 0
    · subst hj
      rw [if_pos rfl]
      refine ed.trans (accN_one a (R + r') (o + c'))
    · rw [if_neg hj]
      show VecWindow.window acc ![0, o] S512x256.size i2 (ix2 r' c') + dotDown p (VecWindow.window x.wd ![0, o] S512x256.size i1) (ix2 r' c') = _
      rw [ed, accN]
      refine congrArg (· + _) ?_
      refine (window2 acc 0 o i2 r' c' (by omega) (by omega)).trans ((hacc (by omega) ⟨0 + r'.val, by omega⟩ ⟨o + c'.val, by omega⟩).trans ?_)
      show accN a (R + (0 + r'.val)) (o + c'.val) j = _
      rw [Nat.zero_add]
  have hd := d.isLt; have hr := r.isLt
  unfold downAcc
  rw [tile 1792 (by decide), tile 1536 (by decide), tile 1280 (by decide), tile 1024 (by decide), tile 768 (by decide), tile 512 (by decide),
    tile 256 (by decide), tile 0 (by decide)]
  split_ifs <;> first | rfl | omega

/-- The block of the result. -/
theorem outY_eq {i j : ℕ} {x : Ins Ideal} (hx : Good a i j x) (hi : 0 < i) (hsc : Vec Ideal S512x128 .f32) (acc : Vec Ideal S512x2048 .f32)
    (hs : ∀ (r : Fin 512) (l : Fin 128), hsc (ix2 r l) = sc a (512 * (i - 1) + r))
    (hacc : ∀ (r : Fin 512) (d : Fin 2048), acc (ix2 r d) = accN a (512 * (i - 1) + r) d 12) (y' : Vec Ideal S512x2048 .bf16)
    (r : Fin 512) (d : Fin 2048) : outY x hsc acc y' (ix2 r d) = y a (512 * (i - 1) + r) d := by
  have tile : ∀ (o : ℕ) (ho : o + 32 ≤ 512) (i1 i2 i3) (h' : Vec Ideal S512x2048 .bf16)
      (hlt : r.val < o + 32) (hrest : r.val < o → h' (ix2 r d) = y a (512 * (i - 1) + r) d),
      VecWindow.put h' ![o, 0] S32x2048.size (yT (VecWindow.window hsc ![o, 0] S32x1.size i1) (VecWindow.window x.h1 ![o, 0] S32x2048.size i2)
          (VecWindow.window acc ![o, 0] S32x2048.size i3) x.sd) (ix2 r d)
        = y a (512 * (i - 1) + r) d := by
    intro o ho i1 i2 i3 h' hlt hrest
    have hd := d.isLt
    refine (put2 h' o 0 _ (fun r d => y a (512 * (i - 1) + r) d) (fun r' c' => ?_) r d).trans ?_
    swap
    · by_cases c : o ≤ r.val
      · exact if_pos ⟨c, hlt, Nat.zero_le _, by omega⟩
      · exact (if_neg fun k => c k.1).trans (hrest (by omega))
    show _ = y a (512 * (i - 1) + (o + r'.val)) (0 + c'.val)
    rw [y_eq, Nat.zero_add]
    have e1 : broadcastTo S32x2048 (VecWindow.window hsc ![o, 0] S32x1.size i1) broadcasts_S32x1_S32x2048 (ix2 r' c') = sc a (512 * (i - 1) + (o + r')) :=
      (bcastCol _ _ r' c').trans ((window2 hsc o 0 i1 r' (0 : Fin 1) (by omega) (by decide)).trans (hs ⟨o + r'.val, by omega⟩ ⟨0, by decide⟩))
    have e2 : VecWindow.window x.h1 ![o, 0] S32x2048.size i2 (ix2 r' c') = a.h1 (512 * (i - 1) + (o + r')) c' :=
      (window2 x.h1 o 0 i2 r' c' (by omega) (by omega)).trans ((hx.h1 hi ⟨o + r'.val, by omega⟩ ⟨0 + c'.val, by omega⟩).trans
        (by show a.h1 _ (0 + c'.val) = _; rw [Nat.zero_add]))
    have e3 : VecWindow.window acc ![o, 0] S32x2048.size i3 (ix2 r' c') = accN a (512 * (i - 1) + (o + r')) c' 12 :=
      (window2 acc o 0 i3 r' c' (by omega) (by omega)).trans ((hacc ⟨o + r'.val, by omega⟩ ⟨0 + c'.val, by omega⟩).trans
        (by show accN a _ (0 + c'.val) 12 = _; rw [Nat.zero_add]))
    have e4 : broadcastTo S32x2048 (shapeCast S1x2048 x.sd shapeCasts_S1x2048_S1x2048) broadcasts_S1x2048_S32x2048 (ix2 r' c') = a.sd c' :=
      (bcastRow _ _ r' c').trans ((cast22 x.sd _ 0 c').trans (hx.sd c'))
    show VecWindow.window x.h1 ![o, 0] S32x2048.size i2 (ix2 r' c') + (VecWindow.window acc ![o, 0] S32x2048.size i3 (ix2 r' c')
      * broadcastTo S32x2048 (VecWindow.window hsc ![o, 0] S32x1.size i1) broadcasts_S32x1_S32x2048 (ix2 r' c'))
      * broadcastTo S32x2048 (shapeCast S1x2048 x.sd shapeCasts_S1x2048_S1x2048) broadcasts_S1x2048_S32x2048 (ix2 r' c') = _
    rw [e1, e2, e3, e4]
  have hr := r.isLt
  unfold outY
  refine tile 480 (by decide) _ _ _ _ (by omega) fun h15 => ?_
  refine tile 448 (by decide) _ _ _ _ (by omega) fun h14 => ?_
  refine tile 416 (by decide) _ _ _ _ (by omega) fun h13 => ?_
  refine tile 384 (by decide) _ _ _ _ (by omega) fun h12 => ?_
  refine tile 352 (by decide) _ _ _ _ (by omega) fun h11 => ?_
  refine tile 320 (by decide) _ _ _ _ (by omega) fun h10 => ?_
  refine tile 288 (by decide) _ _ _ _ (by omega) fun h9 => ?_
  refine tile 256 (by decide) _ _ _ _ (by omega) fun h8 => ?_
  refine tile 224 (by decide) _ _ _ _ (by omega) fun h7 => ?_
  refine tile 192 (by decide) _ _ _ _ (by omega) fun h6 => ?_
  refine tile 160 (by decide) _ _ _ _ (by omega) fun h5 => ?_
  refine tile 128 (by decide) _ _ _ _ (by omega) fun h4 => ?_
  refine tile 96 (by decide) _ _ _ _ (by omega) fun h3 => ?_
  refine tile 64 (by decide) _ _ _ _ (by omega) fun h2 => ?_
  refine tile 32 (by decide) _ _ _ _ (by omega) fun h1 => ?_
  refine tile 0 (by decide) _ _ _ _ (by omega) fun h0 => ?_
  omega

/-- The scales from the lanes' maxima of a whole row. -/
theorem wide_eq {R : ℕ} (am : Vec Ideal S512x128 .f32) (ham : ∀ (r : Fin 512) (l : Fin 128), am (ix2 r l) = amN a (R + r) l 48) (r : Fin 512) (l : Fin 128) :
    wide am (ix2 r l) = sc a (R + r) := by
  have e0 : multiReduction (F := Ideal) (φ := .f32) .maximumf [1] S512 am 0xFF800000#32 reduces_S512x128_S512 (.inl rfl) rfl (ix1 r) = amax a (R + r) := by
    rw [← amax_lanes]
    exact rowMax am _ _ _ _ r _ (fun l => ham r l)
  have e1 : shapeCast S512x1 (multiReduction (F := Ideal) (φ := .f32) .maximumf [1] S512 am 0xFF800000#32 reduces_S512x128_S512 (.inl rfl) rfl) shapeCasts_S512_S512x1 (ix2 r 0) = amax a (R + r) :=
    (shapeCast_apply _ _ (ix2 r 0) (ix1 r) (by rw [Shape.rowMajor_val_two, Shape.rowMajor_val_one]; show r.val = r.val * 1 + 0; omega)).trans e0
  unfold wide k0_pay13
  refine (bcastCol _ _ r l).trans ((cast22 _ _ r 0).trans ?_)
  revert e1
  generalize shapeCast S512x1 (multiReduction (F := Ideal) (φ := .f32) .maximumf [1] S512 am 0xFF800000#32 reduces_S512x128_S512 (.inl rfl) rfl) shapeCasts_S512_S512x1 = X
  intro e1
  exact congrArg scaleOf e1

/-- The row of scales written. -/
theorem scaleRow_eq {R : ℕ} (am : Vec Ideal S512x128 .f32) (ham : ∀ (r : Fin 512) (l : Fin 128), am (ix2 r l) = amN a (R + r) l 48) (u v : Fin 1) (r : Fin 512) :
    k0_pay15 am (ix3 u v r) = sc a (R + r) := by
  unfold k0_pay15
  refine (cast23 _ _ u v r).trans ?_
  refine Eq.trans ?_ (wide_eq am ham r 0)
  unfold extractStridedSlice transpose wide
  refine congrArg (k0_pay13 am) ?_
  funext d; apply Fin.ext
  fin_cases d
  · show 0 + r.val = r.val; omega
  · show 0 + v.val = 0; omega

end Cert.MlpIdeal.Hand

end
-- ==== Proof.MlpIdealInv.lean ====
/-
  What the scratch buffers hold before each point, and that one point keeps it and leaves in the result blocks what the
  reference says.
-/
module

public import proofs.«01_k».proof.Proof.MlpIdealDown

@[expose] public section

set_option maxRecDepth 65536

noncomputable section

namespace Cert.MlpIdeal.Hand

open Cert.MlpIdeal Cert.MlpIdeal.Gen Cert.MlpSpec Cert.Cells
open Idealize.ShloMosaic Idealize.ShloMosaic.ValueIdx
open Finset

variable {a : Arr}

/-- Before point `(i, j)`: the converted codes of block row `i` (once its first point is past); the activations, of block
    row `i` in the blocks before `j` and of the row before in the rest; the lanes' maxima over the blocks before `j`; the
    scales of the block row before; its down product over the blocks before `j`. -/
structure Inv (a : Arr) (i j : ℕ) (xb : Vec Ideal S512x2048 .bf16) (h : Vec Ideal S12x512x512 .f32) (am hsc : Vec Ideal S512x128 .f32)
    (acc : Vec Ideal S512x2048 .f32) : Prop where
  xb : i < 9 → 0 < j → ∀ (r : Fin 512) (k : Fin 2048), xb (ix2 r k) = a.x (512 * i + r) k
  hnew : i < 9 → ∀ (b : Fin 12) (r f : Fin 512), b.val < j → h (ix3 b r f) = av a (512 * i + r) (512 * b + f)
  hold : 0 < i → i ≤ 9 → ∀ (b : Fin 12) (r f : Fin 512), j ≤ b.val → h (ix3 b r f) = av a (512 * (i - 1) + r) (512 * b + f)
  am : i < 9 → 0 < j → ∀ (r : Fin 512) (l : Fin 128), am (ix2 r l) = amN a (512 * i + r) l (4 * j)
  hsc : 0 < i → i ≤ 9 → ∀ (r : Fin 512) (l : Fin 128), hsc (ix2 r l) = sc a (512 * (i - 1) + r)
  acc : 0 < i → 0 < j → ∀ (r : Fin 512) (d : Fin 2048), acc (ix2 r d) = accN a (512 * (i - 1) + r) d j

/-- The point `(i, j)` of the grid: its coordinates and which of the six conditionals it takes. -/
structure At (g : grid0.Coords) (i j : ℕ) : Prop where
  i_le : i ≤ 9
  j_lt : j < 12
  col : (g 1).val = j
  first : first g = if j = 0 then 1#1 else 0#1
  c1 : cond1 g = 1#1 ↔ j = 0 ∧ i < 9
  c2 : k0_cond2 g = 1#1 ↔ i = 0
  c3 : k0_cond3 g = 1#1 ↔ 0 < i ∧ i < 9
  c4 : k0_cond4 g = 1#1 ↔ i = 9
  c5 : k0_cond5 g = 1#1 ↔ j = 11 ∧ 0 < i
  c6 : k0_cond6 g = 1#1 ↔ j = 11 ∧ i < 9

/-- What the middle of a point (conditionals 2, 3 and 4) leaves. -/
structure Mid (a : Arr) (i j : ℕ) (s s' : St Ideal) : Prop where
  y : s'.y = s.y
  hs : s'.hs = s.hs
  xb : s'.xb = s.xb
  hsc : s'.hsc = s.hsc
  hnew : i < 9 → ∀ (b : Fin 12) (r f : Fin 512), b.val < j + 1 → s'.h (ix3 b r f) = av a (512 * i + r) (512 * b + f)
  hold : 0 < i → i ≤ 9 → ∀ (b : Fin 12) (r f : Fin 512), j + 1 ≤ b.val → s'.h (ix3 b r f) = av a (512 * (i - 1) + r) (512 * b + f)
  am : i < 9 → ∀ (r : Fin 512) (l : Fin 128), s'.am (ix2 r l) = amN a (512 * i + r) l (4 * (j + 1))
  acc : 0 < i → ∀ (r : Fin 512) (d : Fin 2048), s'.acc (ix2 r d) = accN a (512 * (i - 1) + r) d (j + 1)
  hc : 0 < i → ∀ r f : Fin 512, s'.hc (ix2 r f) = Ideal.fptosi 8 (q a (512 * (i - 1) + r) (512 * j + f))

variable {i j : ℕ} {g : grid0.Coords} {x : Ins Ideal}

/-- The middle of a point. -/
theorem mid (hg : At g i j) (hx : Good a i j x) (s : St Ideal) (hI : Inv a i j s.xb s.h s.am s.hsc s.acc)
    (hxb : i < 9 → ∀ (r : Fin 512) (k : Fin 2048), s.xb (ix2 r k) = a.x (512 * i + r) k) :
    Mid a i j s (step4 g x (step3 g x (step2 g x s))) := by
  have hi := hg.i_le
  have up : i < 9 → ∀ (b : Fin 12) (r f : Fin 512), upH g s.xb x s.h (ix3 b r f) = if b.val = j then av a (512 * i + r) (512 * j + f) else s.h (ix3 b r f) :=
    fun h9 => upH_eq hx h9 s.xb (hxb h9) g hg.col s.h
  have upn : i < 9 → ∀ (b : Fin 12) (r f : Fin 512), b.val < j + 1 → upH g s.xb x s.h (ix3 b r f) = av a (512 * i + r) (512 * b + f) := by
    intro h9 b r f hb
    rw [up h9]
    by_cases e : b.val = j
    · rw [if_pos e, e]
    · rw [if_neg e]; exact hI.hnew h9 b r f (by omega)
  have upo : 0 < i → i < 9 → ∀ (b : Fin 12) (r f : Fin 512), j + 1 ≤ b.val → upH g s.xb x s.h (ix3 b r f) = av a (512 * (i - 1) + r) (512 * b + f) := by
    intro h0 h9 b r f hb
    rw [up h9, if_neg (by omega)]
    exact hI.hold h0 hi b r f (by omega)
  have upam : i < 9 → ∀ (r : Fin 512) (l : Fin 128), upAm g s.xb x s.am (ix2 r l) = amN a (512 * i + r) l (4 * (j + 1)) :=
    fun h9 => upAm_eq hx h9 s.xb (hxb h9) g hg.first s.am (hI.am h9)
  have hh : 0 < i → ∀ r f : Fin 512, s.h (ix3 ⟨j, hg.j_lt⟩ r f) = av a (512 * (i - 1) + r) (512 * j + f) :=
    fun h0 r f => hI.hold h0 hi ⟨j, hg.j_lt⟩ r f (le_refl _)
  have dacc : 0 < i → ∀ (r : Fin 512) (d : Fin 2048), downAcc g (codes g s.h s.hsc) x s.acc (ix2 r d) = accN a (512 * (i - 1) + r) d (j + 1) :=
    fun h0 => downAcc_eq hx h0 _ g hg.first _ (codes_eq hg.j_lt g hg.col s.h s.hsc (hh h0) (hI.hsc h0 hi)) s.acc (hI.acc h0)
  have dhc : 0 < i → ∀ r f : Fin 512, downHc g s.h s.hsc s.hc (ix2 r f) = Ideal.fptosi 8 (q a (512 * (i - 1) + r) (512 * j + f)) :=
    fun h0 => downHc_eq hg.j_lt g hg.col s.h s.hsc (hh h0) (hI.hsc h0 hi) s.hc
  by_cases h0 : i = 0
  · have e : step4 g x (step3 g x (step2 g x s)) = { s with h := upH g s.xb x s.h, am := upAm g s.xb x s.am } := by
      unfold step4 step3 step2
      rw [if_neg (fun k => absurd (hg.c4.1 k) (by omega)), if_neg (fun k => absurd (hg.c3.1 k) (by omega)), if_pos (hg.c2.2 h0)]
    rw [e]
    exact ⟨rfl, rfl, rfl, rfl, fun k => upn k, fun k => absurd k (by omega), fun k => upam k, fun k => absurd k (by omega), fun k => absurd k (by omega)⟩
  by_cases h9 : i = 9
  · have e : step4 g x (step3 g x (step2 g x s)) = { s with hc := downHc g s.h s.hsc s.hc, acc := downAcc g (codes g s.h s.hsc) x s.acc } := by
      unfold step4 step3 step2
      rw [if_pos (hg.c4.2 h9), if_neg (fun k => absurd (hg.c3.1 k) (by omega)), if_neg (fun k => absurd (hg.c2.1 k) (by omega))]
    rw [e]
    exact ⟨rfl, rfl, rfl, rfl, fun k => absurd k (by omega), fun k k' b r f hb => hI.hold k k' b r f (by omega), fun k => absurd k (by omega), fun k => dacc k, fun k => dhc k⟩
  · have e : step4 g x (step3 g x (step2 g x s)) = { s with hc := downHc g s.h s.hsc s.hc, acc := downAcc g (codes g s.h s.hsc) x s.acc, h := upH g s.xb x s.h, am := upAm g s.xb x s.am } := by
      unfold step4 step3 step2
      rw [if_neg (fun k => absurd (hg.c4.1 k) (by omega)), if_pos (hg.c3.2 ⟨by omega, by omega⟩), if_neg (fun k => absurd (hg.c2.1 k) (by omega))]
    rw [e]
    exact ⟨rfl, rfl, rfl, rfl, fun k => upn k, fun k _ => upo k (by omega), fun k => upam k, fun k => dacc k, fun k => dhc k⟩

/-- The converted codes after conditional 1, and that it changes nothing else. -/
theorem step1_xb (hg : At g i j) (hx : Good a i j x) (s : St Ideal) (hI : Inv a i j s.xb s.h s.am s.hsc s.acc) :
    i < 9 → ∀ (r : Fin 512) (k : Fin 2048), (step1 g x s).xb (ix2 r k) = a.x (512 * i + r) k := by
  intro h9 r k
  unfold step1
  by_cases e : cond1 g = 1#1
  · rw [if_pos e]
    show k0_pay1 x.xc (ix2 r k) = _
    unfold k0_pay1
    exact (cast22 _ _ r k).trans (hx.xc h9 r k)
  · rw [if_neg e]
    exact hI.xb h9 (by by_contra k; exact e (hg.c1.2 ⟨by omega, h9⟩)) r k

theorem step1_rest (s : St Ideal) : (step1 g x s).h = s.h ∧ (step1 g x s).am = s.am ∧ (step1 g x s).hsc = s.hsc ∧ (step1 g x s).acc = s.acc
    ∧ (step1 g x s).y = s.y ∧ (step1 g x s).hc = s.hc ∧ (step1 g x s).hs = s.hs := by
  unfold step1; split_ifs <;> exact ⟨rfl, rfl, rfl, rfl, rfl, rfl, rfl⟩

theorem step5_rest (s : St Ideal) : (step5 g x s).h = s.h ∧ (step5 g x s).am = s.am ∧ (step5 g x s).hsc = s.hsc ∧ (step5 g x s).acc = s.acc
    ∧ (step5 g x s).xb = s.xb ∧ (step5 g x s).hc = s.hc ∧ (step5 g x s).hs = s.hs := by
  unfold step5; split_ifs <;> exact ⟨rfl, rfl, rfl, rfl, rfl, rfl, rfl⟩

theorem step6_rest (s : St Ideal) : (step6 g x s).h = s.h ∧ (step6 g x s).am = s.am ∧ (step6 g x s).acc = s.acc
    ∧ (step6 g x s).xb = s.xb ∧ (step6 g x s).hc = s.hc ∧ (step6 g x s).y = s.y := by
  unfold step6; split_ifs <;> exact ⟨rfl, rfl, rfl, rfl, rfl, rfl⟩

theorem step6_hsc (s : St Ideal) (h : k0_cond6 g = 1#1) : (step6 g x s).hsc = shapeCast S512x128 (wide s.am) shapeCasts_S512x128_S512x128 := by
  unfold step6; rw [if_pos h]

theorem step6_hs (s : St Ideal) (h : k0_cond6 g = 1#1) : (step6 g x s).hs = k0_pay15 s.am := by
  unfold step6; rw [if_pos h]

/-- The scales kept by conditional 6. -/
theorem hsc_eq {R : ℕ} (am : Vec Ideal S512x128 .f32) (ham : ∀ (r : Fin 512) (l : Fin 128), am (ix2 r l) = amN a (R + r) l 48) (r : Fin 512) (l : Fin 128) :
    shapeCast S512x128 (wide am) shapeCasts_S512x128_S512x128 (ix2 r l) = sc a (R + r) := by
  have h := wide_eq am ham r l
  generalize wide am = w at h ⊢
  exact (cast22 w _ r l).trans h

/-- One point: the invariant at the next point, and the blocks of the three results. -/
theorem step_keeps (hg : At g i j) (hx : Good a i j x) (s : St Ideal) (hI : Inv a i j s.xb s.h s.am s.hsc s.acc) :
    Inv a (if j = 11 then i + 1 else i) (if j = 11 then 0 else j + 1) (step g x s).xb (step g x s).h (step g x s).am (step g x s).hsc (step g x s).acc
    ∧ (j = 11 ∧ 0 < i → ∀ (r : Fin 512) (d : Fin 2048), (step g x s).y (ix2 r d) = y a (512 * (i - 1) + r) d)
    ∧ (0 < i → ∀ r f : Fin 512, (step g x s).hc (ix2 r f) = Ideal.fptosi 8 (q a (512 * (i - 1) + r) (512 * j + f)))
    ∧ (j = 11 ∧ i < 9 → ∀ (u v : Fin 1) (r : Fin 512), (step g x s).hs (ix3 u v r) = sc a (512 * i + r))
    ∧ (i = 9 → (step g x s).hs = s.hs) := by
  have hi := hg.i_le
  have hj := hg.j_lt
  have e1 := step1_xb hg hx s hI
  obtain ⟨k1h, k1am, k1hsc, k1acc, k1y, k1hc, k1hs⟩ := step1_rest (g := g) (x := x) s
  have hI1 : Inv a i j (step1 g x s).xb (step1 g x s).h (step1 g x s).am (step1 g x s).hsc (step1 g x s).acc := by
    rw [k1h, k1am, k1hsc, k1acc]
    exact ⟨fun h9 _ => e1 h9, hI.hnew, hI.hold, hI.am, hI.hsc, hI.acc⟩
  have m := mid hg hx (step1 g x s) hI1 e1
  unfold step
  generalize step4 g x (step3 g x (step2 g x (step1 g x s))) = s4 at m ⊢
  obtain ⟨k5h, k5am, k5hsc, k5acc, k5xb, k5hc, k5hs⟩ := step5_rest (g := g) (x := x) s4
  obtain ⟨k6h, k6am, k6acc, k6xb, k6hc, k6y⟩ := step6_rest (g := g) (x := x) (step5 g x s4)
  have hsc6 : j = 11 ∧ i < 9 → ∀ (r : Fin 512) (l : Fin 128), (step6 g x (step5 g x s4)).hsc (ix2 r l) = sc a (512 * i + r) := by
    intro c r l
    rw [step6_hsc _ (hg.c6.2 c)]
    have ham : ∀ (r : Fin 512) (l : Fin 128), (step5 g x s4).am (ix2 r l) = amN a (512 * i + r) l 48 := by
      have e48 : 4 * (j + 1) = 48 := by omega
      intro r' l'; rw [k5am, m.am c.2, e48]
    exact hsc_eq _ ham r l
  have hscn : ¬ (j = 11 ∧ i < 9) → (step6 g x (step5 g x s4)) = step5 g x s4 := by
    intro c; unfold step6; rw [if_neg (fun k => c (hg.c6.1 k))]
  refine ⟨?_, ?_, ?_, ?_, ?_⟩
  · by_cases j11 : j = 11
    · rw [if_pos j11, if_pos j11, k6h, k6am, k6acc, k6xb, k5h, k5am, k5acc, k5xb]
      refine ⟨fun _ k => absurd k (by omega), fun _ b r f k => absurd k (by omega), fun _ k b r f _ => ?_, fun _ k => absurd k (by omega), fun _ k => ?_,
        fun _ k => absurd k (by omega)⟩
      · exact m.hnew (by omega) b r f (by omega)
      · exact hsc6 ⟨j11, by omega⟩
    · rw [if_neg j11, if_neg j11, k6h, k6am, k6acc, k6xb, k5h, k5am, k5acc, k5xb, hscn (fun k => j11 k.1), k5hsc, m.hsc, m.xb, k1hsc]
      exact ⟨fun h9 _ => e1 h9, m.hnew, m.hold, fun h9 _ => m.am h9, hI.hsc, fun h0 _ => m.acc h0⟩
  · intro c r d
    rw [k6y]
    unfold step5
    rw [if_pos (hg.c5.2 c)]
    refine outY_eq hx c.2 _ _ ?_ ?_ _ r d
    · rw [m.hsc, k1hsc]; exact hI.hsc c.2 hi
    · have e12 : j + 1 = 12 := by omega
      intro r d; rw [m.acc c.2, e12]
  · intro h0 r f
    rw [k6hc, k5hc]
    exact m.hc h0 r f
  · intro c u v r
    rw [step6_hs _ (hg.c6.2 c)]
    have ham : ∀ (r : Fin 512) (l : Fin 128), (step5 g x s4).am (ix2 r l) = amN a (512 * i + r) l 48 := by
      have e48 : 4 * (j + 1) = 48 := by omega
      intro r' l'; rw [k5am, m.am c.2, e48]
    exact scaleRow_eq _ ham u v r
  · intro h9
    rw [hscn (by omega), k5hs, m.hs, k1hs]

/-- Each point of the grid by its coordinates. -/
theorem at_coords : ∀ t : Fin grid0.N, At (grid0.coords t) (t.val / 12) (t.val % 12) := by
  have H : ∀ t : Fin grid0.N, ((grid0.coords t) 1).val = t.val % 12 ∧ (first (grid0.coords t) = if t.val % 12 = 0 then 1#1 else 0#1)
      ∧ (cond1 (grid0.coords t) = 1#1 ↔ t.val % 12 = 0 ∧ t.val / 12 < 9)
      ∧ (k0_cond2 (grid0.coords t) = 1#1 ↔ t.val / 12 = 0)
      ∧ (k0_cond3 (grid0.coords t) = 1#1 ↔ 0 < t.val / 12 ∧ t.val / 12 < 9)
      ∧ (k0_cond4 (grid0.coords t) = 1#1 ↔ t.val / 12 = 9)
      ∧ (k0_cond5 (grid0.coords t) = 1#1 ↔ t.val % 12 = 11 ∧ 0 < t.val / 12)
      ∧ (k0_cond6 (grid0.coords t) = 1#1 ↔ t.val % 12 = 11 ∧ t.val / 12 < 9) := by decide +kernel
  intro t
  obtain ⟨a1, a2, a3, a4, a5, a6, a7, a8⟩ := H t
  have ht : t.val < 120 := t.isLt
  exact ⟨by omega, by omega, a1, a2, a3, a4, a5, a6, a7, a8⟩

end Cert.MlpIdeal.Hand

end
-- ==== Proof.MlpIdealIn.lean ====
/-
  The input windows at each point hold the arguments' blocks.
-/
module

public import proofs.«01_k».proof.Proof.MlpIdealRun
public import proofs.«01_k».proof.Proof.MlpIdealInv
public import Idealize.ShloMosaic.Lib.Pipeline.ValueKit.Geometry
public import Idealize.ShloMosaic.Lib.Pipeline.ValueKit.Point

@[expose] public section

set_option maxRecDepth 65536

noncomputable section

namespace Cert.MlpIdeal.Hand

open Cert.MlpIdeal Cert.MlpIdeal.Gen Cert.MlpSpec
open Idealize.ShloMosaic Idealize.ShloMosaic.TcCoe

variable (m : (ℓ : Loc nD τ sig) → Buf (Elt Ideal) ℓ) (c : Dev nD)

/-- The launched arguments. -/
def arr : Arr := arrOf (m (c, main_arg0)) (m (c, main_arg1)) (m (c, main_arg2)) (m (c, main_arg3)) (m (c, main_arg4)) (m (c, main_arg5)) (m (c, main_arg6))

theorem N120 (t : Fin cfg0.N) : t.val < 120 := t.isLt

theorem idx0 : ∀ t : Fin grid0.N, win0_0.index t 0 = min (t.val / 12) 8 ∧ win0_0.index t 1 = 0 := by decide +kernel
theorem idx1 : ∀ t : Fin grid0.N, win0_1.index t 0 = 0 ∧ win0_1.index t 1 = 0 ∧ (t.val / 12 < 9 → win0_1.index t 2 = t.val % 12) := by decide +kernel
theorem idx2 : ∀ t : Fin grid0.N, win0_2.index t 0 = 1 ∧ win0_2.index t 1 = 0 ∧ (t.val / 12 < 9 → win0_2.index t 2 = t.val % 12) := by decide +kernel
theorem idx3 : ∀ t : Fin grid0.N, win0_3.index t 0 = 0 ∧ (t.val / 12 < 9 → win0_3.index t 1 = t.val % 12) := by decide +kernel
theorem idx4 : ∀ t : Fin grid0.N, win0_4.index t 0 = 0 ∧ (t.val / 12 < 9 → win0_4.index t 1 = 12 + t.val % 12) := by decide +kernel
theorem idx5 : ∀ t : Fin grid0.N, win0_5.index t 0 = min (t.val / 12) 8 ∧ win0_5.index t 1 = 0 := by decide +kernel
theorem idx6 : ∀ t : Fin grid0.N, (0 < t.val / 12 → win0_6.index t 0 = t.val % 12) ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = t.val / 12 - 1 ∧ win0_8.index t 1 = 0 := by decide +kernel

theorem read0 (t : Fin cfg0.N) (h9 : t.val / 12 < 9) (r : Fin 512) (k : Fin 2048) :
    iblk m c 0 t (ValueIdx.ix2 r k) = m (c, main_arg0) (ValueIdx.ix2 ⟨512 * (t.val / 12) + r.val, by omega⟩ k) := by
  have e := idx0 t
  blk_ext [iblk, V]
  · show win0_0.index t 0 * 512 + r.val = 512 * (t.val / 12) + r.val; rw [e.1]; omega
  · show win0_0.index t 1 * 2048 + k.val = k.val; rw [e.2]; omega

/-- The gate and up weights as the host swaps them, at an entry. -/
theorem swapped (X : Vec Ideal S2048x2x6144 .i8) (e : Fin 2) (k : Fin 2048) (f : Fin 6144) :
    transpose S2x2048x6144 [1, 0, 2] X transposes_S2048x2x6144_S2x2048x6144_1_0_2 (ValueIdx.ix3 e k f) = X (ValueIdx.ix3 k e f) := by
  unfold transpose
  refine congrArg X ?_
  funext a; apply Fin.ext
  fin_cases a <;> rfl

theorem read1 (t : Fin cfg0.N) (h9 : t.val / 12 < 9) (k : Fin 2048) (f : Fin 512) :
    iblk m c 1 t (ValueIdx.ix3 0 k f) = m (c, main_arg2) (ValueIdx.ix3 k 0 ⟨512 * (t.val % 12) + f.val, by omega⟩) := by
  have e := idx1 t
  have e' : ((cfg0.win 1).blk t).view.emb (ValueIdx.ix3 0 k f) = ValueIdx.ix3 0 k ⟨512 * (t.val % 12) + f.val, by omega⟩ := by
    blk_ext
    · show win0_1.index t 1 * 2048 + k.val = k.val; rw [e.2.1]; omega
    · show win0_1.index t 2 * 512 + f.val = 512 * (t.val % 12) + f.val; rw [e.2.2 h9]; omega
  show V m c main_v1 (((cfg0.win 1).blk t).view.emb (ValueIdx.ix3 0 k f)) = _
  rw [e']
  entry_read
  exact swapped _ 0 k _

theorem read2 (t : Fin cfg0.N) (h9 : t.val / 12 < 9) (k : Fin 2048) (f : Fin 512) :
    iblk m c 2 t (ValueIdx.ix3 0 k f) = m (c, main_arg2) (ValueIdx.ix3 k 1 ⟨512 * (t.val % 12) + f.val, by omega⟩) := by
  have e := idx2 t
  have e' : ((cfg0.win 2).blk t).view.emb (ValueIdx.ix3 0 k f) = ValueIdx.ix3 1 k ⟨512 * (t.val % 12) + f.val, by omega⟩ := by
    blk_ext
    · show win0_2.index t 1 * 2048 + k.val = k.val; rw [e.2.1]; omega
    · show win0_2.index t 2 * 512 + f.val = 512 * (t.val % 12) + f.val; rw [e.2.2 h9]; omega
  show V m c main_v1 (((cfg0.win 2).blk t).view.emb (ValueIdx.ix3 0 k f)) = _
  rw [e']
  entry_read
  exact swapped _ 1 k _

/-- The two rows of column scales laid out in one, at an entry. -/
theorem inARow (X : Vec Ideal S2x6144 .f32) (e : Fin 2) (f : Fin 6144) (o : Fin 12288) (ho : o.val = 6144 * e.val + f.val) :
    shapeCast S1x12288 X shapeCasts_S2x6144_S1x12288 (ValueIdx.ix2 0 o) = X (ValueIdx.ix2 e f) :=
  shapeCast_apply X _ (ValueIdx.ix2 0 o) (ValueIdx.ix2 e f) (by
    rw [Shape.rowMajor_val_two, Shape.rowMajor_val_two]; show e.val * 6144 + f.val = 0 * 12288 + o.val; omega)

theorem read3 (t : Fin cfg0.N) (h9 : t.val / 12 < 9) (f : Fin 512) :
    iblk m c 3 t (ValueIdx.ix2 0 f) = m (c, main_arg3) (ValueIdx.ix2 0 ⟨512 * (t.val % 12) + f.val, by omega⟩) := by
  have e := idx3 t
  have e' : ((cfg0.win 3).blk t).view.emb (ValueIdx.ix2 0 f) = ValueIdx.ix2 0 ⟨512 * (t.val % 12) + f.val, by omega⟩ := by
    blk_ext
    all_goals first
      | (show win0_3.index t 0 * 1 + 0 = 0; rw [e.1])
      | (show win0_3.index t 1 * 512 + f.val = 512 * (t.val % 12) + f.val; rw [e.2 h9]; omega)
  show V m c main_v2 (((cfg0.win 3).blk t).view.emb (ValueIdx.ix2 0 f)) = _
  rw [e']
  entry_read
  exact inARow _ 0 _ _ (by show 512 * (t.val % 12) + f.val = 6144 * 0 + (512 * (t.val % 12) + f.val); omega)

theorem read4 (t : Fin cfg0.N) (h9 : t.val / 12 < 9) (f : Fin 512) :
    iblk m c 4 t (ValueIdx.ix2 0 f) = m (c, main_arg3) (ValueIdx.ix2 1 ⟨512 * (t.val % 12) + f.val, by omega⟩) := by
  have e := idx4 t
  have e' : ((cfg0.win 4).blk t).view.emb (ValueIdx.ix2 0 f) = ValueIdx.ix2 0 ⟨6144 + (512 * (t.val % 12) + f.val), by omega⟩ := by
    blk_ext
    all_goals first
      | (show win0_4.index t 0 * 1 + 0 = 0; rw [e.1])
      | (show win0_4.index t 1 * 512 + f.val = 6144 + (512 * (t.val % 12) + f.val); rw [e.2 h9]; omega)
  show V m c main_v2 (((cfg0.win 4).blk t).view.emb (ValueIdx.ix2 0 f)) = _
  rw [e']
  entry_read
  exact inARow _ 1 _ _ (by show 6144 + (512 * (t.val % 12) + f.val) = 6144 * 1 + (512 * (t.val % 12) + f.val); omega)

theorem read5 (t : Fin cfg0.N) (h9 : t.val / 12 < 9) (r : Fin 512) (l : Fin 128) :
    iblk m c 5 t (ValueIdx.ix2 r l) = m (c, main_arg1) (ValueIdx.ix2 ⟨512 * (t.val / 12) + r.val, by omega⟩ 0) := by
  have e := idx5 t
  have e' : ((cfg0.win 5).blk t).view.emb (ValueIdx.ix2 r l) = ValueIdx.ix2 ⟨512 * (t.val / 12) + r.val, by omega⟩ l := by
    blk_ext
    · show win0_5.index t 0 * 512 + r.val = 512 * (t.val / 12) + r.val; rw [e.1]; omega
    · show win0_5.index t 1 * 128 + l.val = l.val; rw [e.2]; omega
  show V m c main_v0 (((cfg0.win 5).blk t).view.emb (ValueIdx.ix2 r l)) = _
  rw [e']
  entry_read
  refine congrArg (m (c, main_arg1)) ?_
  funext a; apply Fin.ext
  fin_cases a <;> rfl

theorem read6 (t : Fin cfg0.N) (h0 : 0 < t.val / 12) (f : Fin 512) (d : Fin 2048) :
    iblk m c 6 t (ValueIdx.ix2 f d) = m (c, main_arg4) (ValueIdx.ix2 ⟨512 * (t.val % 12) + f.val, by omega⟩ d) := by
  have e := idx6 t
  blk_ext [iblk, V]
  · show win0_6.index t 0 * 512 + f.val = 512 * (t.val % 12) + f.val; rw [e.1 h0]; omega
  · show win0_6.index t 1 * 2048 + d.val = d.val; rw [e.2]; omega

theorem read7 (t : Fin cfg0.N) (d : Fin 2048) :
    iblk m c 7 t (ValueIdx.ix2 0 d) = m (c, main_arg5) (ValueIdx.ix1 d) := by
  have e := idx7 t
  have e' : ((cfg0.win 7).blk t).view.emb (ValueIdx.ix2 0 d) = ValueIdx.ix2 0 d := by
    blk_ext
    all_goals first
      | (show win0_7.index t 0 * 1 + 0 = 0; rw [e.1])
      | (show win0_7.index t 1 * 2048 + d.val = d.val; rw [e.2]; omega)
  show V m c main_v3 (((cfg0.win 7).blk t).view.emb (ValueIdx.ix2 0 d)) = _
  rw [e']
  entry_read
  exact shapeCast_apply _ _ (ValueIdx.ix2 0 d) (ValueIdx.ix1 d) (by
    rw [Shape.rowMajor_val_two, Shape.rowMajor_val_one]; show d.val = 0 * 2048 + d.val; omega)

theorem read8 (t : Fin cfg0.N) (r : Fin 512) (d : Fin 2048) :
    iblk m c 8 t (ValueIdx.ix2 r d) = m (c, main_arg6) (ValueIdx.ix2 ⟨512 * (t.val / 12 - 1) + r.val, by have := N120 t; omega⟩ d) := by
  have e := idx8 t
  blk_ext [iblk, V]
  · show win0_8.index t 0 * 512 + r.val = 512 * (t.val / 12 - 1) + r.val; rw [e.1]; omega
  · show win0_8.index t 1 * 2048 + d.val = d.val; rw [e.2]; omega

/-- At every point the input windows hold the arguments' blocks. -/
theorem good (t : Fin cfg0.N) : Good (arr m c) (t.val / 12) (t.val % 12) (ins m c t) where
  xc h9 r k := by
    refine (congrArg num (read0 m c t h9 r k)).trans ?_
    exact (ext2_of (fun r k => num (m (c, main_arg0) (ValueIdx.ix2 r k))) _ k.isLt).symm
  wg h9 k f := by
    refine (congrArg num (read1 m c t h9 k f)).trans ?_
    have h := ext2_of (P := 2048) (Q := 6144) (fun k f => ext2 (P := 2) (Q := 1) (fun e _ => num (m (c, main_arg2) (ValueIdx.ix3 k e f))) 0 0) k.isLt
      (show 512 * (t.val % 12) + f.val < 6144 by omega)
    exact (h.trans (ext2_of (P := 2) (Q := 1) _ (by decide) (by decide))).symm
  wu h9 k f := by
    refine (congrArg num (read2 m c t h9 k f)).trans ?_
    have h := ext2_of (P := 2048) (Q := 6144) (fun k f => ext2 (P := 2) (Q := 1) (fun e _ => num (m (c, main_arg2) (ValueIdx.ix3 k e f))) 1 0) k.isLt
      (show 512 * (t.val % 12) + f.val < 6144 by omega)
    exact (h.trans (ext2_of (P := 2) (Q := 1) _ (by decide) (by decide))).symm
  sg h9 f := (read3 m c t h9 f).trans (ext2_of (P := 2) (fun e f => m (c, main_arg3) (ValueIdx.ix2 e f)) (by decide) _).symm
  su h9 f := (read4 m c t h9 f).trans (ext2_of (P := 2) (fun e f => m (c, main_arg3) (ValueIdx.ix2 e f)) (by decide) _).symm
  xs h9 r l := (read5 m c t h9 r l).trans (ext2_of (Q := 1) (fun r l => m (c, main_arg1) (ValueIdx.ix2 r l)) _ (by decide)).symm
  wd h0 f d := by
    refine (congrArg num (read6 m c t h0 f d)).trans ?_
    exact (ext2_of (fun r k => num (m (c, main_arg4) (ValueIdx.ix2 r k))) _ d.isLt).symm
  sd d := (read7 m c t d).trans (ext2_of (Q := 1) (fun d _ => m (c, main_arg5) (ValueIdx.ix1 d)) d.isLt (by decide)).symm
  h1 h0 r d := (read8 m c t r d).trans (ext2_of (fun r d => m (c, main_arg6) (ValueIdx.ix2 r d)) _ d.isLt).symm

end Cert.MlpIdeal.Hand
end
-- ==== Proof.MlpIdealOut.lean ====
/-
  The kernel's three result arrays are the reference's functions of its arguments.
-/
module

public import proofs.«01_k».proof.Proof.MlpIdealIn
public import Idealize.ShloMosaic.Lib.Pipeline.ArrRel

@[expose] public section

set_option maxRecDepth 65536

noncomputable section

namespace Cert.MlpIdeal.Hand

open Cert.MlpIdeal Cert.MlpIdeal.Gen Cert.MlpSpec
open Idealize.ShloMosaic Idealize.ShloMosaic.TcCoe
open Idealize.SL Idealize.SL.RA Idealize.SL.Sem
open Idealize.ShloMosaic.Pipeline (RDat Dat)

attribute [local irreducible] MlpSpec.sc MlpSpec.q MlpSpec.y

variable (m : (ℓ : Loc nD τ sig) → Buf (Elt Ideal) ℓ) (ρ : Dev nD → PrngReg)

/-- What is kept of the scratch buffers, and what each point leaves in the result blocks: the output's block at the last
    point of each row of points but the first, the codes' block at each point after the first row, the scales' block at the
    last point of each row but the last, after which it stays. -/
def sch : Sch Ideal where
  inv c t xb h am hsc acc := Inv (arr m c) (t.val / 12) (t.val % 12) xb h am hsc acc
  r9 c t _ X := t.val % 12 = 11 ∧ 0 < t.val / 12 → ∀ (r : Fin 512) (d : Fin 2048), X (ValueIdx.ix2 r d) = y (arr m c) (512 * (t.val / 12 - 1) + r) d
  r10 c t _ X := 0 < t.val / 12 → ∀ r f : Fin 512, X (ValueIdx.ix2 r f) = Ideal.fptosi 8 (q (arr m c) (512 * (t.val / 12 - 1) + r) (512 * (t.val % 12) + f))
  r11 c t Y X := (t.val % 12 = 11 ∧ t.val / 12 < 9 → ∀ (u v : Fin 1) (r : Fin 512), X (ValueIdx.ix3 u v r) = sc (arr m c) (512 * (t.val / 12) + r))
    ∧ (t.val / 12 = 9 → X = Y)

/-- Every point keeps it. -/
theorem keeps : (sch m).Keeps m := by
  intro c t s hI
  have ht := N120 t
  have k := step_keeps (at_coords t) (good m c t) s hI
  have e1 : (t.val + 1) / 12 = if t.val % 12 = 11 then t.val / 12 + 1 else t.val / 12 := by split_ifs <;> omega
  have e2 : (t.val + 1) % 12 = if t.val % 12 = 11 then 0 else t.val % 12 + 1 := by split_ifs <;> omega
  refine ⟨?_, k.2.1, k.2.2.1, k.2.2.2⟩
  show Inv (arr m c) ((t.val + 1) / 12) ((t.val + 1) % 12) _ _ _ _ _
  rw [e1, e2]
  exact k.1

theorem start (c : Dev nD) (xb h am hsc acc) : (sch m).inv c 0 xb h am hsc acc :=
  ⟨fun _ k => absurd k (by decide), fun _ b r f k => absurd k (Nat.not_lt_zero _), fun k => absurd k (by decide), fun _ k => absurd k (by decide),
    fun k => absurd k (by decide), fun k => absurd k (by decide)⟩

theorem idx9 : ∀ t : Fin grid0.N, win0_9.index t 0 = t.val / 12 - 1 ∧ win0_9.index t 1 = 0 ∧ (win0_9.flush t = true → t.val % 12 = 11 ∧ 0 < t.val / 12) := by decide +kernel
theorem idx10 : ∀ t : Fin grid0.N, (0 < t.val / 12 → win0_10.index t 0 = t.val / 12 - 1 ∧ win0_10.index t 1 = t.val % 12) ∧ (win0_10.flush t = true → 0 < t.val / 12) := by decide +kernel
theorem idx11 : ∀ t : Fin grid0.N, win0_11.index t 0 = min (t.val / 12) 8 ∧ win0_11.index t 1 = 0 ∧ win0_11.index t 2 = 0
    ∧ (win0_11.flush t = true → t.val % 12 = 11 ∧ t.val / 12 < 9 ∨ t.val = 119) ∧ (107 ≤ t.val → t.val < 119 → win0_11.flush t = false) := by decide +kernel
theorem fetch11 : ∀ t : Fin grid0.N, win0_11.fetch t = false := by decide +kernel

/-- The scales' block of the last row of points: it is as the row before left it. -/
theorem last_hs (c : Dev nD) : ∀ (n : ℕ) (h : 107 + n < cfg0.N) (X : S1x1x512.Idx → Elt Ideal .f32), (rd m (sch m) c).Leaves 11 ⟨107 + n, h⟩ X →
    ∀ (u v : Fin 1) (r : Fin 512), X (ValueIdx.ix3 u v r) = sc (arr m c) (512 * 8 + r) := by
  intro n
  induction n with
  | zero =>
    intro h X hX
    obtain ⟨Y, _, hY⟩ := hX
    intro u v r
    have k : X (ValueIdx.ix3 u v r) = sc (arr m c) (512 * ((107 + 0) / 12) + r) := hY.1 ⟨by show (107 + 0) % 12 = 11; decide, by show (107 + 0) / 12 < 9; decide⟩ u v r
    rw [k, show (107 + 0) / 12 = 8 from rfl]
  | succ n ih =>
    intro h X hX
    have h120 : 107 + (n + 1) < 120 := h
    obtain ⟨Y, hF, hY⟩ := hX
    have e : X = Y := hY.2 (by show (107 + (n + 1)) / 12 = 9; omega)
    rw [e]
    have h' : 107 + n < cfg0.N := by show 107 + n < 120; omega
    rcases ((rd m (sch m) c).finds_of_pos (w := 11) (t := ⟨107 + (n + 1), h⟩) (fetch11 _) (by show 107 + (n + 1) ≠ 0; omega) Y).1 hF with k | k
    · have := (idx11 ⟨107 + n, h'⟩).2.2.2.2 (by show 107 ≤ 107 + n; omega) (by show 107 + n < 119; omega)
      exact absurd (k.symm.trans this) (by decide)
    · exact ih h' Y k

section
variable {m}
variable {r : PUnit × MemSt nD τ sig (Elt Ideal)} (h : RDat.FramePost (cfgs 0) (rd m (sch m)) (V m) r) (c : Dev nD)
include h

/-- The output. -/
theorem final_y : r.2.mem ((c.tc : Thread nD τ).loc main_v4_0) = resY (arr m c) := by
  obtain ⟨after, hL, hA⟩ := h.exists_exact c
  refine (hA 9).trans ?_
  refine Dat.arrAt_eq_of_covers (cfg := cfg0) ((rd m (sch m) c).withAfter after) 9 (resY (arr m c)) (by decide +kernel) fun t hf e => ?_
  obtain ⟨Y, _, hY⟩ := hL 9 t hf
  have i9 := idx9 t
  have ht := N120 t
  have hY' := hY (i9.2.2 hf)
  have k : ∀ (r : Fin 512) (d : Fin 2048), (ValueIdx.ix2 r d : S512x2048.Idx) = e →
      ((win0_9.blk t).view.emb e : S4608x2048.Idx) = ValueIdx.ix2 ⟨512 * (t.val / 12 - 1) + r.val, by omega⟩ d := by
    rintro r d rfl
    blk_ext
    · show win0_9.index t 0 * 512 + r.val = 512 * (t.val / 12 - 1) + r.val; rw [i9.1]; omega
    · show win0_9.index t 1 * 2048 + d.val = d.val; rw [i9.2.1]; omega
  obtain ⟨r, d, hrd⟩ : ∃ (r : Fin 512) (d : Fin 2048), (ValueIdx.ix2 r d : S512x2048.Idx) = e := ⟨e 0, e 1, by funext a; fin_cases a <;> rfl⟩
  have k' := k r d hrd
  blk_simp
  refine Eq.trans ?_ ((hY' r d).trans ?_)
  · rw [hrd]; rfl
  · exact (congrArg (resY (arr m c)) k').symm

/-- The codes. -/
theorem final_hc : r.2.mem ((c.tc : Thread nD τ).loc main_v4_1) = resHc (arr m c) := by
  obtain ⟨after, hL, hA⟩ := h.exists_exact c
  refine (hA 10).trans ?_
  refine Dat.arrAt_eq_of_covers (cfg := cfg0) ((rd m (sch m) c).withAfter after) 10 (resHc (arr m c)) (by decide +kernel) fun t hf e => ?_
  obtain ⟨Y, _, hY⟩ := hL 10 t hf
  have i10 := idx10 t
  have ht := N120 t
  have h0 := i10.2 hf
  have hY' := hY h0
  have k : ∀ (r f : Fin 512), (ValueIdx.ix2 r f : S512x512.Idx) = e →
      ((win0_10.blk t).view.emb e : S4608x6144.Idx) = ValueIdx.ix2 ⟨512 * (t.val / 12 - 1) + r.val, by omega⟩ ⟨512 * (t.val % 12) + f.val, by omega⟩ := by
    rintro r f rfl
    blk_ext
    · show win0_10.index t 0 * 512 + r.val = 512 * (t.val / 12 - 1) + r.val; rw [(i10.1 h0).1]; omega
    · show win0_10.index t 1 * 512 + f.val = 512 * (t.val % 12) + f.val; rw [(i10.1 h0).2]; omega
  obtain ⟨r, f, hrf⟩ : ∃ (r f : Fin 512), (ValueIdx.ix2 r f : S512x512.Idx) = e := ⟨e 0, e 1, by funext a; fin_cases a <;> rfl⟩
  have k' := k r f hrf
  blk_simp
  refine Eq.trans ?_ ((hY' r f).trans ?_)
  · rw [hrf]; rfl
  · exact (congrArg (resHc (arr m c)) k').symm

/-- The scales. -/
theorem final_hs : r.2.mem ((c.tc : Thread nD τ).loc main_v4_2) = resHs (arr m c) := by
  obtain ⟨after, hL, hA⟩ := h.exists_exact c
  refine (hA 11).trans ?_
  refine Dat.arrAt_eq_of_covers (cfg := cfg0) ((rd m (sch m) c).withAfter after) 11 (resHs (arr m c)) (by decide +kernel) fun t hf e => ?_
  have hX := hL 11 t hf
  have i11 := idx11 t
  have ht := N120 t
  have hY' : ∀ (u v : Fin 1) (r : Fin 512), after 11 t (ValueIdx.ix3 u v r) = sc (arr m c) (512 * min (t.val / 12) 8 + r) := by
    intro u v r
    rcases i11.2.2.2.1 hf with k | k
    · obtain ⟨Y, _, hY⟩ := hX
      have e9 : min (t.val / 12) 8 = t.val / 12 := by omega
      rw [e9]
      exact hY.1 k u v r
    · have e8 : min (t.val / 12) 8 = 8 := by omega
      rw [e8]
      have et : t = ⟨107 + 12, by decide⟩ := Fin.ext k
      subst et
      exact last_hs m c 12 _ _ hX u v r
  have k : ∀ (u v : Fin 1) (r : Fin 512), (ValueIdx.ix3 u v r : S1x1x512.Idx) = e →
      ((win0_11.blk t).view.emb e : S9x1x512.Idx) = ValueIdx.ix3 ⟨min (t.val / 12) 8, by omega⟩ 0 r := by
    rintro u v r rfl
    blk_ext
    show win0_11.index t 2 * 512 + r.val = r.val; rw [i11.2.2.1]; omega
  obtain ⟨u, v, r, huv⟩ : ∃ (u v : Fin 1) (r : Fin 512), (ValueIdx.ix3 u v r : S1x1x512.Idx) = e := ⟨e 0, e 1, e 2, by funext a; fin_cases a <;> rfl⟩
  have k' := k u v r huv
  blk_simp
  refine Eq.trans ?_ ((hY' u v r).trans ?_)
  · rw [huv]; rfl
  · exact (congrArg (resHs (arr m c)) k').symm

end

/-- The run: it terminates, leaves in the three results the reference's functions of the arguments, and the arguments as
    launched. -/
theorem value_run : θ_run defs (onTc (τ := τ) (main (F := Ideal))) (s₀ m ρ) (fun r => ∀ c : Dev nD,
    (r.2.mem ((c.tc : Thread nD τ).loc main_v4_0) = resY (arr m c)
      ∧ r.2.mem ((c.tc : Thread nD τ).loc main_v4_1) = resHc (arr m c)
      ∧ r.2.mem ((c.tc : Thread nD τ).loc main_v4_2) = resHs (arr m c))
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨⟨final_y h.1 c, final_hc h.1 c, final_hs h.1 c⟩, args_kept m h.1 c⟩)
    (run_main m ρ (sch m) (keeps m) (start m))

end Cert.MlpIdeal.Hand
end
-- ==== Proof.MlpRefPay.lean ====
/-
  What the reference's body computes, entry by entry.
-/
module

public import proofs.«01_k».proof.Proof.Gen.MlpRefIdeal.Skeleton
public import proofs.«01_k».proof.Proof.MlpArr
public import proofs.«01_k».proof.Proof.Cells
public import proofs.«01_k».proof.Proof.RowMax

@[expose] public section

set_option maxRecDepth 65536

noncomputable section

namespace Cert.MlpRefIdeal.Hand

open Cert.MlpRefIdeal Cert.MlpRefIdeal.Gen Cert.MlpSpec Cert.Cells
open Idealize.ShloMosaic Idealize.ShloMosaic.ValueIdx
open Finset

/-- A middle axis of one dropped. -/
theorem castMid {α : Type} {A B : ℕ} (x : (⟨3, ![A, 1, B]⟩ : Shape).Idx → α) (h) (r : Fin A) (c : Fin B) :
    shapeCast ⟨2, ![A, B]⟩ x h (ix2 r c) = x (ix3 r 0 c) :=
  shapeCast_apply x h _ _ (by
    rw [Shape.rowMajor_val_two, Shape.rowMajor_val_three]
    show (r.val * 1 + 0) * B + c.val = r.val * B + c.val; rw [Nat.mul_one, Nat.add_zero])

/-- The values the body loads before the first product are the arguments. -/
structure Loads (a : Arr) (v0 : Vec Ideal S4608x2048 .i8) (v1 : Vec Ideal S4608x1 .f32) (v2 : Vec Ideal S2048x1x6144 .i8) (v4 : Vec Ideal S1x6144 .f32)
    (v12 : Vec Ideal S2048x1x6144 .i8) (v14 : Vec Ideal S1x6144 .f32) : Prop where
  x : ∀ (r : Fin 4608) (k : Fin 2048), num (v0 (ix2 r k)) = a.x r k
  xs : ∀ r : Fin 4608, v1 (ix2 r 0) = a.xs r
  wg : ∀ (k : Fin 2048) (f : Fin 6144), num (v2 (ix3 k 0 f)) = a.w 0 k f
  sg : ∀ f : Fin 6144, v4 (ix2 0 f) = a.sg 0 f
  wu : ∀ (k : Fin 2048) (f : Fin 6144), num (v12 (ix3 k 0 f)) = a.w 1 k f
  su : ∀ f : Fin 6144, v14 (ix2 0 f) = a.sg 1 f

/-- A product scaled by its row and by its column, as the body computes it. -/
def scaled (v0 : Vec Ideal S4608x2048 .i8) (v1 : Vec Ideal S4608x1 .f32) (w : Vec Ideal S2048x1x6144 .i8) (s : Vec Ideal S1x6144 .f32) : FVec Ideal S4608x6144 .f32 :=
  mulf (mulf (matmul dot_S4608x2048_S2048x6144_S4608x6144_1_0_0_1_n_n none (sitofp (F := Ideal) .bf16 v0)
      (sitofp (F := Ideal) .bf16 (shapeCast S2048x6144 w shapeCasts_S2048x1x6144_S2048x6144)) (constant (F := Ideal) S4608x6144 .f32 0x00000000#32))
    (broadcastTo S4608x6144 v1 broadcasts_S4608x1_S4608x6144)) (broadcastTo S4608x6144 s broadcasts_S1x6144_S4608x6144)

theorem scaled_eq {a : Arr} (e : ℕ) {v0 : Vec Ideal S4608x2048 .i8} {v1 : Vec Ideal S4608x1 .f32} {w : Vec Ideal S2048x1x6144 .i8} {s : Vec Ideal S1x6144 .f32}
    (hx : ∀ (r : Fin 4608) (k : Fin 2048), num (v0 (ix2 r k)) = a.x r k) (hxs : ∀ r : Fin 4608, v1 (ix2 r 0) = a.xs r)
    (hw : ∀ (k : Fin 2048) (f : Fin 6144), num (w (ix3 k 0 f)) = a.w e k f) (hs : ∀ f : Fin 6144, s (ix2 0 f) = a.sg e f)
    (r : Fin 4608) (f : Fin 6144) : scaled v0 v1 w s (ix2 r f) = pre a e r f := by
  have h1 : matmul (F := Ideal) dot_S4608x2048_S2048x6144_S4608x6144_1_0_0_1_n_n none (sitofp (F := Ideal) .bf16 v0)
      (sitofp (F := Ideal) .bf16 (shapeCast S2048x6144 w shapeCasts_S2048x1x6144_S2048x6144)) (constant (F := Ideal) S4608x6144 .f32 0x00000000#32) (ix2 r f)
      = lit 0x00000000#32 + ∑ k ∈ range 2048, a.x r k * a.w e k f := by
    rw [Finset.sum_range]
    refine (Ideal.matmul_plain_apply (M := 4608) (K := 2048) (N := 6144) none _ _ _ r f).trans ?_
    refine congrArg (lit 0x00000000#32 + ·) (Finset.sum_congr rfl fun k _ => ?_)
    refine congrArg₂ (· * ·) (hx r k) ?_
    exact (congrArg num (castMid w shapeCasts_S2048x1x6144_S2048x6144 k f)).trans (hw k f)
  have h2 : broadcastTo S4608x6144 v1 broadcasts_S4608x1_S4608x6144 (ix2 r f) = a.xs r := (bcastCol _ _ r f).trans (hxs r)
  have h3 : broadcastTo S4608x6144 s broadcasts_S1x6144_S4608x6144 (ix2 r f) = a.sg e f := (bcastRow _ _ r f).trans (hs f)
  unfold pre
  exact congrArg₂ (· * ·) (congrArg₂ (· * ·) h1 h2) h3

/-- The gated activation at an entry. -/
theorem act_apply (g u : FVec Ideal S4608x6144 .f32) (z : S4608x6144.Idx) : mulf (mulf g (logistic g)) u z = g z * Ideal.logistic (g z) * u z := rfl

theorem pay4_scaled (v0 : Vec Ideal S4608x2048 .i8) (v1 : Vec Ideal S4608x1 .f32) (v2 : Vec Ideal S2048x1x6144 .i8) (v4 : Vec Ideal S1x6144 .f32)
    (v12 : Vec Ideal S2048x1x6144 .i8) (v14 : Vec Ideal S1x6144 .f32) : k0_pay4 v0 v1 v2 v4 v12 v14
      = mulf (mulf (scaled v0 v1 v2 v4) (logistic (scaled v0 v1 v2 v4))) (scaled v0 v1 v12 v14) := rfl

/-- The rows' largest absolute values as a column. -/
def colOf (A : FVec Ideal S4608x6144 .f32) : FVec Ideal S4608x1 .f32 :=
  shapeCast S4608x1 (multiReduction (F := Ideal) (φ := .f32) .maximumf [1] S4608 (absf A) 0xFF800000#32 reduces_S4608x6144_S4608 (.inl rfl) rfl) shapeCasts_S4608_S4608x1

/-- The scales from the column of largest absolute values. -/
def scaleCol (X : FVec Ideal S4608x1 .f32) : FVec Ideal S4608x1 .f32 :=
  select (cmpf .oeq X (broadcast S4608x1 (Scalar.ofBits .f32 0x00000000#32))) (broadcast S4608x1 (Scalar.ofBits .f32 0x3F800000#32))
    (divf X (broadcast S4608x1 (Scalar.ofBits .f32 0x42FE0000#32)))

theorem scaleCol_apply (X : FVec Ideal S4608x1 .f32) (z : S4608x1.Idx) : scaleCol X z = scaleOf (X z) := rfl

theorem colOf_apply (A : FVec Ideal S4608x6144 .f32) (r : Fin 4608) (g : Fin 6144 → EReal) (hg : ∀ f, aabs (A (ix2 r f)) = g f) :
    colOf A (ix2 r 0) = Finset.fold max (lit 0xFF800000#32) g univ := by
  unfold colOf
  refine (shapeCast_apply _ _ (ix2 r 0) (ix1 r) (by rw [Shape.rowMajor_val_two, Shape.rowMajor_val_one]; show r.val = r.val * 1 + 0; omega)).trans ?_
  exact rowMax (absf A) _ _ _ _ r g hg

theorem pay5_eq (v0 : Vec Ideal S4608x2048 .i8) (v1 : Vec Ideal S4608x1 .f32) (v2 : Vec Ideal S2048x1x6144 .i8) (v4 : Vec Ideal S1x6144 .f32)
    (v12 : Vec Ideal S2048x1x6144 .i8) (v14 : Vec Ideal S1x6144 .f32) : k0_pay5 v0 v1 v2 v4 v12 v14 = scaleCol (colOf (k0_pay4 v0 v1 v2 v4 v12 v14)) := rfl

/-- Codes from activations and scales. -/
def codesOf (A : FVec Ideal S4608x6144 .f32) (S : FVec Ideal S4608x1 .f32) : IVec S4608x6144 8 :=
  k0_pay1 (roundeven (divf A (broadcastTo S4608x6144 S broadcasts_S4608x1_S4608x6144))) (Scalar.ofBits .f32 0x42FE0000#32) (k0_pay7 (F := Ideal))

theorem pay1_apply (A B : FVec Ideal S4608x6144 .f32) (z : S4608x6144.Idx) :
    k0_pay1 (roundeven (divf A B)) (Scalar.ofBits .f32 0x42FE0000#32) (k0_pay7 (F := Ideal)) z = Ideal.fptosi 8 (quantOf (A z) (B z)) := rfl

theorem codesOf_apply (A : FVec Ideal S4608x6144 .f32) (S : FVec Ideal S4608x1 .f32) (r : Fin 4608) (f : Fin 6144) :
    codesOf A S (ix2 r f) = Ideal.fptosi 8 (quantOf (A (ix2 r f)) (S (ix2 r 0))) := by
  unfold codesOf
  rw [pay1_apply, bcastCol]

theorem codes_pay (v0 : Vec Ideal S4608x2048 .i8) (v1 : Vec Ideal S4608x1 .f32) (v2 : Vec Ideal S2048x1x6144 .i8) (v4 : Vec Ideal S1x6144 .f32)
    (v12 : Vec Ideal S2048x1x6144 .i8) (v14 : Vec Ideal S1x6144 .f32) :
    k0_pay1 (k0_pay6 v0 v1 v2 v4 v12 v14) (Scalar.ofBits .f32 0x42FE0000#32) (k0_pay7 (F := Ideal))
      = codesOf (k0_pay4 v0 v1 v2 v4 v12 v14) (k0_pay5 v0 v1 v2 v4 v12 v14) := rfl

/-- The residual plus the product of the codes with the down weight, scaled by row and by column. -/
def outOf (C : IVec S4608x6144 8) (S : FVec Ideal S4608x1 .f32) (v45 : Vec Ideal S4608x2048 .f32) (v46 : Vec Ideal S6144x2048 .i8) (v47 : Vec Ideal S1x2048 .f32) :
    FVec Ideal S4608x2048 .f32 :=
  addf v45 (mulf (mulf (matmul (F := Ideal) dot_S4608x6144_S6144x2048_S4608x2048_1_0_0_1_n_n none (sitofp (F := Ideal) .bf16 C)
      (sitofp (F := Ideal) .bf16 v46) (constant (F := Ideal) S4608x2048 .f32 0x00000000#32)) (broadcastTo S4608x2048 S broadcasts_S4608x1_S4608x2048))
    (broadcastTo S4608x2048 (shapeCast S1x2048 v47 shapeCasts_S1x2048_S1x2048) broadcasts_S1x2048_S4608x2048))

theorem pay3_eq (S : FVec Ideal S4608x1 .f32) (v36 : FVec Ideal S4608x6144 .f32) (cst : Ideal .f32) (v37 : FVec Ideal S4608x6144 .f32)
    (v45 : Vec Ideal S4608x2048 .f32) (v46 : Vec Ideal S6144x2048 .i8) (v47 : Vec Ideal S1x2048 .f32) :
    k0_pay3 S v36 cst v37 v45 v46 v47 = truncf .bf16 (outOf (k0_pay1 v36 cst v37) S v45 v46 v47) bitsLt_bf16_f32 := rfl

theorem outForm (X P Q : FVec Ideal S4608x2048 .f32) (R : FVec Ideal S4608x2048 .f32) (z : S4608x2048.Idx) :
    addf X (mulf (mulf P Q) R) z = X z + P z * Q z * R z := rfl

theorem down_apply (C : IVec S4608x6144 8) (v46 : Vec Ideal S6144x2048 .i8) (r : Fin 4608) (d : Fin 2048) :
    matmul (F := Ideal) dot_S4608x6144_S6144x2048_S4608x2048_1_0_0_1_n_n none (sitofp (F := Ideal) .bf16 C)
      (sitofp (F := Ideal) .bf16 v46) (constant (F := Ideal) S4608x2048 .f32 0x00000000#32) (ix2 r d)
      = lit 0x00000000#32 + ∑ f : Fin 6144, num (C (ix2 r f)) * num (v46 (ix2 f d)) :=
  (Ideal.matmul_plain_apply (M := 4608) (K := 6144) (N := 2048) none _ _ _ r d)

theorem truncf_apply (X : FVec Ideal S4608x2048 .f32) (z : S4608x2048.Idx) : truncf .bf16 X bitsLt_bf16_f32 z = X z := rfl

section
variable {a : Arr} {v0 : Vec Ideal S4608x2048 .i8} {v1 : Vec Ideal S4608x1 .f32} {v2 : Vec Ideal S2048x1x6144 .i8} {v4 : Vec Ideal S1x6144 .f32}
  {v12 : Vec Ideal S2048x1x6144 .i8} {v14 : Vec Ideal S1x6144 .f32} (h : Loads a v0 v1 v2 v4 v12 v14)
include h

/-- The gated activations. -/
theorem act_eq (r : Fin 4608) (f : Fin 6144) : k0_pay4 v0 v1 v2 v4 v12 v14 (ix2 r f) = av a r f := by
  rw [pay4_scaled, act_apply, scaled_eq 0 h.x h.xs h.wg h.sg r f, scaled_eq 1 h.x h.xs h.wu h.su r f, av]

/-- The rows' scales. -/
theorem scale_eq (r : Fin 4608) : k0_pay5 v0 v1 v2 v4 v12 v14 (ix2 r 0) = sc a r := by
  rw [pay5_eq, scaleCol_apply, colOf_apply _ r (fun f : Fin 6144 => aabs (av a r f)) (fun f => by rw [act_eq h]), sc, amax]

/-- The codes. -/
theorem codes_eq (r : Fin 4608) (f : Fin 6144) :
    k0_pay1 (k0_pay6 v0 v1 v2 v4 v12 v14) (Scalar.ofBits .f32 0x42FE0000#32) (k0_pay7 (F := Ideal)) (ix2 r f) = Ideal.fptosi 8 (q a r f) := by
  rw [codes_pay, codesOf_apply, act_eq h, scale_eq h, q]

/-- The scales laid out in blocks of 512 rows. -/
theorem scaleRows_eq (i : Fin 9) (u : Fin 1) (r : Fin 512) : k0_pay2 (k0_pay5 v0 v1 v2 v4 v12 v14) (ix3 i u r) = sc a (512 * i + r) := by
  refine Eq.trans ?_ (scale_eq h ⟨512 * i.val + r.val, by omega⟩)
  unfold k0_pay2
  generalize k0_pay5 v0 v1 v2 v4 v12 v14 = S
  exact shapeCast_apply _ shapeCasts_S4608x1_S9x1x512 (ix3 i u r) (ix2 ⟨512 * i.val + r.val, by omega⟩ 0) (by
    rw [Shape.rowMajor_val_two, Shape.rowMajor_val_three]
    show (512 * i.val + r.val) * 1 + 0 = (i.val * 1 + u.val) * 512 + r.val; omega)

/-- The output. -/
theorem out_eq (v45 : Vec Ideal S4608x2048 .f32) (v46 : Vec Ideal S6144x2048 .i8) (v47 : Vec Ideal S1x2048 .f32)
    (h45 : ∀ (r : Fin 4608) (d : Fin 2048), v45 (ix2 r d) = a.h1 r d) (h46 : ∀ (f : Fin 6144) (d : Fin 2048), num (v46 (ix2 f d)) = a.wd f d)
    (h47 : ∀ d : Fin 2048, v47 (ix2 0 d) = a.sd d) (r : Fin 4608) (d : Fin 2048) :
    k0_pay3 (k0_pay5 v0 v1 v2 v4 v12 v14) (k0_pay6 v0 v1 v2 v4 v12 v14) (Scalar.ofBits .f32 0x42FE0000#32) (k0_pay7 (F := Ideal)) v45 v46 v47 (ix2 r d) = y a r d := by
  have hC : ∀ f : Fin 6144, num (k0_pay1 (k0_pay6 v0 v1 v2 v4 v12 v14) (Scalar.ofBits .f32 0x42FE0000#32) (k0_pay7 (F := Ideal)) (ix2 r f)) = q a r f :=
    fun f => (congrArg num (codes_eq h r f)).trans (sitofp_quantOf _ _)
  have hS := scale_eq h r
  rw [pay3_eq, truncf_apply, outOf, outForm, down_apply, bcastCol, bcastRow, cast22, h45, h47, hS, y, Finset.sum_range]
  rw [Finset.sum_congr rfl fun f _ => congrArg₂ (· * ·) (hC f) (h46 f d)]

end

end Cert.MlpRefIdeal.Hand

end
-- ==== Proof.MlpRefOut.lean ====
/-
  The reference's three result arrays are functions of its arguments.
-/
module

public import proofs.«01_k».proof.Proof.Gen.MlpRefIdeal.Frame
public import proofs.«01_k».proof.Proof.MlpRefPay
public import Idealize.ShloMosaic.Lib.Pipeline.ValueKit.Basic
public import Idealize.ShloMosaic.Lib.Pipeline.ValueKit.Geometry
public import Idealize.ShloMosaic.Lib.Pipeline.ValueKit.Point

@[expose] public section

set_option maxRecDepth 65536

noncomputable section

namespace Cert.MlpRefIdeal.Hand

open Cert.MlpRefIdeal Cert.MlpRefIdeal.Gen Cert.MlpSpec Cert.Cells
open Idealize.ShloMosaic Idealize.ShloMosaic.TcCoe
open Idealize.SL.Sem
open Idealize.ShloMosaic.Pipeline (Dat)

attribute [local irreducible] MlpSpec.sc MlpSpec.q MlpSpec.y

variable (m : (ℓ : Loc nD τ sig) → Buf (Elt Ideal) ℓ) (ρ : Dev nD → PrngReg) (c : Dev nD)

/-- The launched arguments. -/
def arr : Arr := arrOf (m (c, main_arg0)) (m (c, main_arg1)) (m (c, main_arg2)) (m (c, main_arg3)) (m (c, main_arg4)) (m (c, main_arg5)) (m (c, main_arg6))

theorem idx0 : ∀ t : Fin grid0.N, win0_0.index t 0 = 0 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 ∧ win0_2.index t 2 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = 0 ∧ win0_9.index t 1 = 0 ∧ win0_9.index t 2 = 0 := by decide +kernel

theorem read0 (t : Fin cfg0.N) (r : Fin 4608) (k : Fin 2048) : iblk m c 0 t (ValueIdx.ix2 r k) = m (c, main_arg0) (ValueIdx.ix2 r k) := by
  have e := idx0 t
  blk_ext [iblk, V]

theorem read1 (t : Fin cfg0.N) (r : Fin 4608) : iblk m c 1 t (ValueIdx.ix2 r 0) = m (c, main_arg1) (ValueIdx.ix2 r 0) := by
  have e := idx1 t
  blk_ext [iblk, V]

theorem read2 (t : Fin cfg0.N) (k : Fin 2048) (e : Fin 2) (f : Fin 6144) : iblk m c 2 t (ValueIdx.ix3 k e f) = m (c, main_arg2) (ValueIdx.ix3 k e f) := by
  have e := idx2 t
  blk_ext [iblk, V]

theorem read3 (t : Fin cfg0.N) (e : Fin 2) (f : Fin 6144) : iblk m c 3 t (ValueIdx.ix2 e f) = m (c, main_arg3) (ValueIdx.ix2 e f) := by
  have e := idx3 t
  blk_ext [iblk, V]

theorem read4 (t : Fin cfg0.N) (f : Fin 6144) (d : Fin 2048) : iblk m c 4 t (ValueIdx.ix2 f d) = m (c, main_arg4) (ValueIdx.ix2 f d) := by
  have e := idx4 t
  blk_ext [iblk, V]

theorem read5 (t : Fin cfg0.N) (d : Fin 2048) : iblk m c 5 t (ValueIdx.ix2 0 d) = m (c, main_arg5) (ValueIdx.ix1 d) := by
  have e := idx5 t
  have e' : ((cfg0.win 5).blk t).view.emb (ValueIdx.ix2 0 d) = ValueIdx.ix2 0 d := by
    blk_ext
  show V m c main_v0 (((cfg0.win 5).blk t).view.emb (ValueIdx.ix2 0 d)) = _
  rw [e']
  entry_read
  exact shapeCast_apply _ _ (ValueIdx.ix2 0 d) (ValueIdx.ix1 d) (by
    rw [Shape.rowMajor_val_two, Shape.rowMajor_val_one]; show d.val = 0 * 2048 + d.val; omega)

theorem read6 (t : Fin cfg0.N) (r : Fin 4608) (d : Fin 2048) : iblk m c 6 t (ValueIdx.ix2 r d) = m (c, main_arg6) (ValueIdx.ix2 r d) := by
  have e := idx6 t
  blk_ext [iblk, V]

/-- A load of a whole block is the block. -/
theorem whole0 {Val : EltTy → Type} {e : EltTy} (X : S4608x2048.Idx → Val e) : View.ld X r0_0 = X := View.ld_unit_lit _ X (by decide)
theorem whole1 {Val : EltTy → Type} {e : EltTy} (X : S4608x1.Idx → Val e) : View.ld X r0_1 = X := View.ld_unit_lit _ X (by decide)
theorem whole8 {Val : EltTy → Type} {e : EltTy} (X : S6144x2048.Idx → Val e) : View.ld X r0_8 = X := View.ld_unit_lit _ X (by decide)
theorem whole9 {Val : EltTy → Type} {e : EltTy} (X : S1x2048.Idx → Val e) : View.ld X r0_9 = X := View.ld_unit_lit _ X (by decide)

/-- What the body loads first are the arguments. -/
theorem loads (t : Fin cfg0.N) : Loads (arr m c) (View.ld (iblk m c 0 t) r0_0) (View.ld (iblk m c 1 t) r0_1) (View.ld (iblk m c 2 t) r0_2)
    (View.ld (iblk m c 3 t) r0_3) (View.ld (iblk m c 2 t) r0_4) (View.ld (iblk m c 3 t) r0_5) where
  x r k := by
    refine (congrArg num (congrFun (whole0 (iblk m c 0 t)) (ValueIdx.ix2 r k))).trans ?_
    exact (congrArg num (read0 m c t r k)).trans (ext2_fin (fun r k => num (m (c, main_arg0) (ValueIdx.ix2 r k))) r k).symm
  xs r := by
    refine (congrFun (whole1 (iblk m c 1 t)) (ValueIdx.ix2 r 0)).trans ?_
    exact (read1 m c t r).trans (ext2_of (Q := 1) (fun r l => m (c, main_arg1) (ValueIdx.ix2 r l)) r.isLt (by decide)).symm
  wg k f := by
    have e : r0_2.idx (ValueIdx.ix3 k 0 f) = ValueIdx.ix3 k 0 f := by
      funext a; apply Fin.ext
      fin_cases a
      · show 0 + 1 * k.val = k.val; omega
      · rfl
      · show 0 + 1 * f.val = f.val; omega
    have h : View.ld (iblk m c 2 t) r0_2 (ValueIdx.ix3 k 0 f) = m (c, main_arg2) (ValueIdx.ix3 k 0 f) :=
      (congrArg (iblk m c 2 t) e).trans (read2 m c t k 0 f)
    refine (congrArg num h).trans ?_
    have h := ext2_of (P := 2048) (Q := 6144) (fun k f => ext2 (P := 2) (Q := 1) (fun e _ => num (m (c, main_arg2) (ValueIdx.ix3 k e f))) 0 0) k.isLt f.isLt
    exact (h.trans (ext2_of (P := 2) (Q := 1) _ (by decide) (by decide))).symm
  wu k f := by
    have e : r0_4.idx (ValueIdx.ix3 k 0 f) = ValueIdx.ix3 k 1 f := by
      funext a; apply Fin.ext
      fin_cases a
      · show 0 + 1 * k.val = k.val; omega
      · rfl
      · show 0 + 1 * f.val = f.val; omega
    have h : View.ld (iblk m c 2 t) r0_4 (ValueIdx.ix3 k 0 f) = m (c, main_arg2) (ValueIdx.ix3 k 1 f) :=
      (congrArg (iblk m c 2 t) e).trans (read2 m c t k 1 f)
    refine (congrArg num h).trans ?_
    have h := ext2_of (P := 2048) (Q := 6144) (fun k f => ext2 (P := 2) (Q := 1) (fun e _ => num (m (c, main_arg2) (ValueIdx.ix3 k e f))) 1 0) k.isLt f.isLt
    exact (h.trans (ext2_of (P := 2) (Q := 1) _ (by decide) (by decide))).symm
  sg f := by
    have e : r0_3.idx (ValueIdx.ix2 0 f) = ValueIdx.ix2 0 f := by
      funext a; apply Fin.ext
      fin_cases a
      · rfl
      · show 0 + 1 * f.val = f.val; omega
    have h : View.ld (iblk m c 3 t) r0_3 (ValueIdx.ix2 0 f) = m (c, main_arg3) (ValueIdx.ix2 0 f) := (congrArg (iblk m c 3 t) e).trans (read3 m c t 0 f)
    exact h.trans (ext2_of (P := 2) (fun e f => m (c, main_arg3) (ValueIdx.ix2 e f)) (by decide) f.isLt).symm
  su f := by
    have e : r0_5.idx (ValueIdx.ix2 0 f) = ValueIdx.ix2 1 f := by
      funext a; apply Fin.ext
      fin_cases a
      · rfl
      · show 0 + 1 * f.val = f.val; omega
    have h : View.ld (iblk m c 3 t) r0_5 (ValueIdx.ix2 0 f) = m (c, main_arg3) (ValueIdx.ix2 1 f) := (congrArg (iblk m c 3 t) e).trans (read3 m c t 1 f)
    exact h.trans (ext2_of (P := 2) (fun e f => m (c, main_arg3) (ValueIdx.ix2 e f)) (by decide) f.isLt).symm

/-- The block of the output. -/
theorem after_y (t : Fin cfg0.N) (r : Fin 4608) (d : Fin 2048) : (dats m 0 c).after 7 t (ValueIdx.ix2 r d) = y (arr m c) r d := by
  rw [after0_7]
  unfold out0_7 k0_pay8 k0_pay9 k0_pay10
  rw [View.canon_cons_unit_lit _ _ _ (by decide)]
  have h45 : ∀ (r : Fin 4608) (d : Fin 2048), View.ld (iblk m c 6 t) r0_0 (ValueIdx.ix2 r d) = (arr m c).h1 r d := fun r d => by
    refine (congrFun (whole0 (iblk m c 6 t)) (ValueIdx.ix2 r d)).trans ?_
    exact (read6 m c t r d).trans (ext2_fin (fun r d => m (c, main_arg6) (ValueIdx.ix2 r d)) r d).symm
  have h46 : ∀ (f : Fin 6144) (d : Fin 2048), num (View.ld (iblk m c 4 t) r0_8 (ValueIdx.ix2 f d)) = (arr m c).wd f d := fun f d => by
    refine (congrArg num (congrFun (whole8 (iblk m c 4 t)) (ValueIdx.ix2 f d))).trans ?_
    exact (congrArg num (read4 m c t f d)).trans (ext2_fin (fun f d => num (m (c, main_arg4) (ValueIdx.ix2 f d))) f d).symm
  have h47 : ∀ d : Fin 2048, View.ld (iblk m c 5 t) r0_9 (ValueIdx.ix2 0 d) = (arr m c).sd d := fun d => by
    refine (congrFun (whole9 (iblk m c 5 t)) (ValueIdx.ix2 0 d)).trans ?_
    exact (read5 m c t d).trans (ext2_of (Q := 1) (fun d _ => m (c, main_arg5) (ValueIdx.ix1 d)) d.isLt (by decide)).symm
  exact out_eq (loads m c t) _ _ _ h45 h46 h47 r d

/-- The block of the codes. -/
theorem after_hc (t : Fin cfg0.N) (r : Fin 4608) (f : Fin 6144) : (dats m 0 c).after 8 t (ValueIdx.ix2 r f) = Ideal.fptosi 8 (q (arr m c) r f) := by
  rw [after0_8]
  unfold out0_8 k0_pay9 k0_pay10
  rw [View.canon_cons_unit_lit _ _ _ (by decide)]
  exact codes_eq (loads m c t) r f

/-- The block of the scales. -/
theorem after_hs (t : Fin cfg0.N) (i : Fin 9) (u : Fin 1) (r : Fin 512) : (dats m 0 c).after 9 t (ValueIdx.ix3 i u r) = sc (arr m c) (512 * i + r) := by
  rw [after0_9]
  unfold out0_9 k0_pay8
  rw [View.canon_cons_unit_lit _ _ _ (by decide)]
  exact scaleRows_eq (loads m c t) i u r

/-- The output. -/
theorem final_y : (dats m 0 c).arrAt 7 cfg0.N = resY (arr m c) := by
  refine Dat.arrAt_eq_of_covers (cfg := cfg0) (dats m 0 c) 7 (resY (arr m c)) (by decide +kernel) fun t hf e => ?_
  have i7 := idx7 t
  have k : ∀ (r : Fin 4608) (d : Fin 2048), (ValueIdx.ix2 r d : S4608x2048.Idx) = e →
      ((win0_7.blk t).view.emb e : S4608x2048.Idx) = ValueIdx.ix2 r d := by
    rintro r d rfl
    blk_ext
  obtain ⟨r, d, hrd⟩ : ∃ (r : Fin 4608) (d : Fin 2048), (ValueIdx.ix2 r d : S4608x2048.Idx) = e := ⟨e 0, e 1, by funext a; fin_cases a <;> rfl⟩
  have k' := k r d hrd
  blk_simp
  refine Eq.trans ?_ ((after_y m c t r d).trans ?_)
  · rw [hrd]
  · exact (congrArg (resY (arr m c)) k').symm

/-- The codes. -/
theorem final_hc : (dats m 0 c).arrAt 8 cfg0.N = resHc (arr m c) := by
  refine Dat.arrAt_eq_of_covers (cfg := cfg0) (dats m 0 c) 8 (resHc (arr m c)) (by decide +kernel) fun t hf e => ?_
  have i8 := idx8 t
  have k : ∀ (r : Fin 4608) (f : Fin 6144), (ValueIdx.ix2 r f : S4608x6144.Idx) = e →
      ((win0_8.blk t).view.emb e : S4608x6144.Idx) = ValueIdx.ix2 r f := by
    rintro r f rfl
    blk_ext
  obtain ⟨r, f, hrf⟩ : ∃ (r : Fin 4608) (f : Fin 6144), (ValueIdx.ix2 r f : S4608x6144.Idx) = e := ⟨e 0, e 1, by funext a; fin_cases a <;> rfl⟩
  have k' := k r f hrf
  blk_simp
  refine Eq.trans ?_ ((after_hc m c t r f).trans ?_)
  · rw [hrf]
  · exact (congrArg (resHc (arr m c)) k').symm

/-- The scales. -/
theorem final_hs : (dats m 0 c).arrAt 9 cfg0.N = resHs (arr m c) := by
  refine Dat.arrAt_eq_of_covers (cfg := cfg0) (dats m 0 c) 9 (resHs (arr m c)) (by decide +kernel) fun t hf e => ?_
  have i9 := idx9 t
  have k : ∀ (i : Fin 9) (u : Fin 1) (r : Fin 512), (ValueIdx.ix3 i u r : S9x1x512.Idx) = e →
      ((win0_9.blk t).view.emb e : S9x1x512.Idx) = ValueIdx.ix3 i u r := by
    rintro i u r rfl
    blk_ext
  obtain ⟨i, u, r, hur⟩ : ∃ (i : Fin 9) (u : Fin 1) (r : Fin 512), (ValueIdx.ix3 i u r : S9x1x512.Idx) = e := ⟨e 0, e 1, e 2, by funext a; fin_cases a <;> rfl⟩
  have k' := k i u r hur
  blk_simp
  refine Eq.trans ?_ ((after_hs m c t i u r).trans ?_)
  · rw [hur]
  · exact (congrArg (resHs (arr m c)) k').symm

/-- The run leaves the arguments as launched. -/
theorem args_kept {r : PUnit × MemSt nD τ sig (Elt Ideal)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have kept : ∀ w : Fin cfg0.W, (cfg0.win w).isOut = false → r.2.mem ((c : Thread nD τ).loc (Pipeline.arrRef spec0 w)) = V m c (Pipeline.arrRef spec0 w) :=
    fun w hw => ((h c).1 w).trans (((dats m 0 c).arrAt_in w hw _).trans (A_eq m c w))
  exact ⟨(kept 0 rfl).trans (V_main_arg0 m c), (kept 1 rfl).trans (V_main_arg1 m c), (kept 2 rfl).trans (V_main_arg2 m c), (kept 3 rfl).trans (V_main_arg3 m c),
    (kept 4 rfl).trans (V_main_arg4 m c),
    ((h c).2 main_arg5 (Pipeline.mem_restRefs_of main_arg5 (by decide) (by decide))).trans (V_main_arg5 m c), (kept 6 rfl).trans (V_main_arg6 m c)⟩

/-- The run: it terminates, leaves in the three results the functions of the arguments, and the arguments as launched. -/
theorem value_run : θ_run defs (onTc (τ := τ) (main (F := Ideal))) (s₀ m ρ) (fun r => ∀ c : Dev nD,
    (r.2.mem ((c.tc : Thread nD τ).loc main_v1_0) = resY (arr m c)
      ∧ r.2.mem ((c.tc : Thread nD τ).loc main_v1_1) = resHc (arr m c)
      ∧ r.2.mem ((c.tc : Thread nD τ).loc main_v1_2) = resHs (arr m c))
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ⟨⟨((h c).1 7).trans (final_y m c), ((h c).1 8).trans (final_hc m c), ((h c).1 9).trans (final_hs m c)⟩, args_kept m h c⟩) (run_main m ρ)

end Cert.MlpRefIdeal.Hand

end
-- ==== Proof.MlpEq.lean ====
/-
  Kernel and reference of the gated MLP leave the same results.
-/
module

public import proofs.«01_k».proof.Defs
public import proofs.«01_k».proof.Proof.MlpIdealOut
public import proofs.«01_k».proof.Proof.MlpRefOut
public import proofs.«01_k».proof.Proof.MlpIdealRun

@[expose] public section

set_option maxRecDepth 65536

noncomputable section

namespace Cert.MlpHand

open Idealize.ShloMosaic Idealize.SL.Sem

/-- The reference's run terminates, leaves the arguments as launched, and every semaphore at zero. -/
theorem ref_frame (hF : Cert.MlpRefIdeal.Facts) : Cert.quiescent_MlpRefIdeal (hMlpRefIdeal := hF) := by
  intro m g _
  refine (θ_run _ _ _).mono (fun r h => ⟨fun c => ?_, h.2⟩) (Cert.MlpRefIdeal.Gen.run_main_quiescent m g)
  exact Cert.MlpRefIdeal.Hand.args_kept m h.1 c

/-- From the same arguments the two runs end with equal results. -/
theorem equal : Cert.algebraic_MlpIdeal_MlpRefIdeal (hMlpIdeal := Cert.MlpIdeal.Gen.facts) (hMlpRefIdeal := Cert.MlpRefIdeal.Gen.facts) := by
  intro m g m' g' _ hm
  have e : ∀ c, Cert.MlpRefIdeal.Hand.arr m' c = Cert.MlpIdeal.Hand.arr m c := by
    intro c
    obtain ⟨h0, h1, h2, h3, h4, h5, h6⟩ := hm c
    unfold Cert.MlpRefIdeal.Hand.arr Cert.MlpIdeal.Hand.arr
    exact congr (congr (congr (congr (congr (congr (congrArg Cert.MlpSpec.arrOf h0) h1) h2) h3) h4) h5) h6
  refine ⟨fun c => Cert.MlpSpec.resY (Cert.MlpIdeal.Hand.arr m c), fun c => Cert.MlpSpec.resHc (Cert.MlpIdeal.Hand.arr m c),
    fun c => Cert.MlpSpec.resHs (Cert.MlpIdeal.Hand.arr m c), ?_, ?_⟩
  · refine (θ_run _ _ _).mono (fun r h c => ?_) (Cert.MlpIdeal.Hand.value_run m g)
    exact ⟨(h c).1.1, (h c).1.2.1, (h c).1.2.2, (h c).2⟩
  · refine (θ_run _ _ _).mono (fun r h c => ?_) (Cert.MlpRefIdeal.Hand.value_run m' g')
    have k := h c
    rw [e c] at k
    exact ⟨k.1.1, k.1.2.1, k.1.2.2, k.2⟩

end Cert.MlpHand

end
-- ==== Proof.OprojIdealSeg.lean ====
/-
  The body of the output projection kernel, cut into four: the product of the first point, the product of a later point,
  the normalised result of the rows before, and their row of scales. Each is a program of its own, followed by what remains.
-/
module

public import proofs.«01_k».proof.Proof.Gen.OprojIdeal.Frame
public import proofs.«01_k».proof.Proof.Gen.OprojIdeal.Skeleton
public import Idealize.ShloMosaic.Lib.Tactic
public import Idealize.ShloMosaic.Lib.VecWindow

@[expose] public section

set_option maxRecDepth 65536

noncomputable section

namespace Cert.OprojIdeal.Hand

open Cert.OprojIdeal Cert.OprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section

variable (i : grid0.Coords) (arg1 : Memref sig .tc .vmem S256x2048 .i8) (harg1 : arg1.IsWhole) (arg2 : Memref sig .tc .vmem S2048x2048 .i8) (harg2 : arg2.IsWhole) (arg3 : Memref sig .tc .vmem S256x128 .f32) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .i8) (harg8 : arg8.IsWhole) (arg9 : Memref sig .tc .vmem S1x1x256 .f32) (harg9 : arg9.IsWhole) (arg10 : Memref sig .tc .vmem S256x128 .f32) (harg10 : arg10.IsWhole) (arg11 : Memref sig .tc .vmem S2x256x2048 .f32) (harg11 : arg11.IsWhole)
include i arg1 harg1 arg2 harg2 arg3 harg3 arg4 harg4 arg5 harg5 arg6 harg6 arg7 harg7 arg8 harg8 arg9 harg9 arg10 harg10 arg11 harg11

/-- The product of the first point, followed by `rest`. -/
def seg1 (rest : Prog (TpuEff nD τ sig (Elt F) Λ₀ .tc) PUnit) : Prog (TpuEff nD τ sig (Elt F) Λ₀ .tc) PUnit := do
  let arg0 : BitVec 32 := BitVec.ofNat 32 (i 0).val
  let v0 : BitVec 1 := Scalar.cmpi .eq 2#32 0#32
  let v1 : BitVec 32 := Scalar.select v0 1#32 2#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  if k0_h1 : k0_cond1 i = 1#1 then do
    let v28 : FVec F S256x2048 .bf16 ← k0_part1 i arg1 harg1 arg2 harg2 arg3 harg3 arg4 harg4 arg5 harg5 arg6 harg6 arg7 harg7 arg8 harg8 arg9 harg9 arg10 harg10 arg11 harg11 v9 k0_h1
    let v61 : Vec F S2048x256 .i8 ← Prog.lift (.load arg2 (Rect.unit (s := S2048x2048) ![0, 1024] S2048x256.size inb_S2048x2048_S2048x256_0_1024).toLoadRect (View.loadsAt_vmem h_S2048x256))
    let v66 : Vec F S1x256x256 .f32 ← Prog.lift (.load arg11 (Rect.unit (s := S2x256x2048) (k0_off5 i) S1x256x256.size (k0_off5_inb i k0_h1)).toLoadRect (View.loadsAt_vmem h_S1x256x256))
    Prog.lift (.store arg11 (Rect.unit (s := S2x256x2048) (k0_off5 i) S1x256x256.size (k0_off5_inb i k0_h1)) (k0_pay1 v28 v61) Finset.univ (View.stores_vmem_bits_univ h_S1x256x256 rfl) (.inl rfl))
    let v69 : Vec F S2048x256 .i8 ← Prog.lift (.load arg2 (Rect.unit (s := S2048x2048) ![0, 1280] S2048x256.size inb_S2048x2048_S2048x256_0_1280).toLoadRect (View.loadsAt_vmem h_S2048x256))
    let v74 : Vec F S1x256x256 .f32 ← Prog.lift (.load arg11 (Rect.unit (s := S2x256x2048) (k0_off6 i) S1x256x256.size (k0_off6_inb i k0_h1)).toLoadRect (View.loadsAt_vmem h_S1x256x256))
    Prog.lift (.store arg11 (Rect.unit (s := S2x256x2048) (k0_off6 i) S1x256x256.size (k0_off6_inb i k0_h1)) (k0_pay2 v28 v69) Finset.univ (View.stores_vmem_bits_univ h_S1x256x256 rfl) (.inl rfl))
    let v77 : Vec F S2048x256 .i8 ← Prog.lift (.load arg2 (Rect.unit (s := S2048x2048) ![0, 1536] S2048x256.size inb_S2048x2048_S2048x256_0_1536).toLoadRect (View.loadsAt_vmem h_S2048x256))
    let v82 : Vec F S1x256x256 .f32 ← Prog.lift (.load arg11 (Rect.unit (s := S2x256x2048) (k0_off7 i) S1x256x256.size (k0_off7_inb i k0_h1)).toLoadRect (View.loadsAt_vmem h_S1x256x256))
    Prog.lift (.store arg11 (Rect.unit (s := S2x256x2048) (k0_off7 i) S1x256x256.size (k0_off7_inb i k0_h1)) (k0_pay3 v28 v77) Finset.univ (View.stores_vmem_bits_univ h_S1x256x256 rfl) (.inl rfl))
    let v85 : Vec F S2048x256 .i8 ← Prog.lift (.load arg2 (Rect.unit (s := S2048x2048) ![0, 1792] S2048x256.size inb_S2048x2048_S2048x256_0_1792).toLoadRect (View.loadsAt_vmem h_S2048x256))
    let v90 : Vec F S1x256x256 .f32 ← Prog.lift (.load arg11 (Rect.unit (s := S2x256x2048) (k0_off8 i) S1x256x256.size (k0_off8_inb i k0_h1)).toLoadRect (View.loadsAt_vmem h_S1x256x256))
    Prog.lift (.store arg11 (Rect.unit (s := S2x256x2048) (k0_off8 i) S1x256x256.size (k0_off8_inb i k0_h1)) (k0_pay4 v28 v85) Finset.univ (View.stores_vmem_bits_univ h_S1x256x256 rfl) (.inl rfl))
    rest
  else do
    rest

/-- The product of a later point, followed by `rest`. -/
def seg2 (rest : Prog (TpuEff nD τ sig (Elt F) Λ₀ .tc) PUnit) : Prog (TpuEff nD τ sig (Elt F) Λ₀ .tc) PUnit := do
  let arg0 : BitVec 32 := BitVec.ofNat 32 (i 0).val
  let v0 : BitVec 1 := Scalar.cmpi .eq 2#32 0#32
  let v1 : BitVec 32 := Scalar.select v0 1#32 2#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  if k0_h2 : k0_cond2 i = 1#1 then do
    let v28 : FVec F S256x2048 .bf16 ← k0_part2 i arg1 harg1 arg2 harg2 arg3 harg3 arg4 harg4 arg5 harg5 arg6 harg6 arg7 harg7 arg8 harg8 arg9 harg9 arg10 harg10 arg11 harg11 v9 k0_h2
    let v61 : Vec F S2048x256 .i8 ← Prog.lift (.load arg2 (Rect.unit (s := S2048x2048) ![0, 1024] S2048x256.size inb_S2048x2048_S2048x256_0_1024).toLoadRect (View.loadsAt_vmem h_S2048x256))
    let v66 : Vec F S1x256x256 .f32 ← Prog.lift (.load arg11 (Rect.unit (s := S2x256x2048) (k0_off13 i) S1x256x256.size (k0_off13_inb i k0_h2)).toLoadRect (View.loadsAt_vmem h_S1x256x256))
    Prog.lift (.store arg11 (Rect.unit (s := S2x256x2048) (k0_off13 i) S1x256x256.size (k0_off13_inb i k0_h2)) (k0_pay19 v28 v61) Finset.univ (View.stores_vmem_bits_univ h_S1x256x256 rfl) (.inl rfl))
    let v69 : Vec F S2048x256 .i8 ← Prog.lift (.load arg2 (Rect.unit (s := S2048x2048) ![0, 1280] S2048x256.size inb_S2048x2048_S2048x256_0_1280).toLoadRect (View.loadsAt_vmem h_S2048x256))
    let v74 : Vec F S1x256x256 .f32 ← Prog.lift (.load arg11 (Rect.unit (s := S2x256x2048) (k0_off14 i) S1x256x256.size (k0_off14_inb i k0_h2)).toLoadRect (View.loadsAt_vmem h_S1x256x256))
    Prog.lift (.store arg11 (Rect.unit (s := S2x256x2048) (k0_off14 i) S1x256x256.size (k0_off14_inb i k0_h2)) (k0_pay20 v28 v69) Finset.univ (View.stores_vmem_bits_univ h_S1x256x256 rfl) (.inl rfl))
    let v77 : Vec F S2048x256 .i8 ← Prog.lift (.load arg2 (Rect.unit (s := S2048x2048) ![0, 1536] S2048x256.size inb_S2048x2048_S2048x256_0_1536).toLoadRect (View.loadsAt_vmem h_S2048x256))
    let v82 : Vec F S1x256x256 .f32 ← Prog.lift (.load arg11 (Rect.unit (s := S2x256x2048) (k0_off15 i) S1x256x256.size (k0_off15_inb i k0_h2)).toLoadRect (View.loadsAt_vmem h_S1x256x256))
    Prog.lift (.store arg11 (Rect.unit (s := S2x256x2048) (k0_off15 i) S1x256x256.size (k0_off15_inb i k0_h2)) (k0_pay21 v28 v77) Finset.univ (View.stores_vmem_bits_univ h_S1x256x256 rfl) (.inl rfl))
    let v85 : Vec F S2048x256 .i8 ← Prog.lift (.load arg2 (Rect.unit (s := S2048x2048) ![0, 1792] S2048x256.size inb_S2048x2048_S2048x256_0_1792).toLoadRect (View.loadsAt_vmem h_S2048x256))
    let v90 : Vec F S1x256x256 .f32 ← Prog.lift (.load arg11 (Rect.unit (s := S2x256x2048) (k0_off16 i) S1x256x256.size (k0_off16_inb i k0_h2)).toLoadRect (View.loadsAt_vmem h_S1x256x256))
    Prog.lift (.store arg11 (Rect.unit (s := S2x256x2048) (k0_off16 i) S1x256x256.size (k0_off16_inb i k0_h2)) (k0_pay22 v28 v85) Finset.univ (View.stores_vmem_bits_univ h_S1x256x256 rfl) (.inl rfl))
    rest
  else do
    rest

/-- The results of the rows the point before multiplied, followed by `rest`. -/
def seg3 (rest : Prog (TpuEff nD τ sig (Elt F) Λ₀ .tc) PUnit) : Prog (TpuEff nD τ sig (Elt F) Λ₀ .tc) PUnit := do
  let arg0 : BitVec 32 := BitVec.ofNat 32 (i 0).val
  let v10 : BitVec 32 := Scalar.addi arg0 1#32
  let v11 : BitVec 1 := Scalar.cmpi .eq 2#32 0#32
  let v12 : BitVec 32 := Scalar.select v11 1#32 2#32
  let v13 : BitVec 32 := Scalar.remsi v10 v12
  let v14 : BitVec 1 := Scalar.cmpi .ne v13 0#32
  let v15 : BitVec 1 := Scalar.cmpi .slt v13 0#32
  let v16 : BitVec 1 := Scalar.cmpi .slt v12 0#32
  let v17 : BitVec 1 := Scalar.xori v15 v16
  let v18 : BitVec 1 := Scalar.andi v17 v14
  let v19 : BitVec 32 := Scalar.addi v13 v12
  let v20 : BitVec 32 := Scalar.select v18 v19 v13
  if k0_h2 : k0_cond2 i = 1#1 then do
    let v93 : Vec F S1x2048 .f32 ← Prog.lift (.load arg4 (Rect.unit (s := S1x2048) ![0, 0] S1x2048.size inb_S1x2048_S1x2048_0_0).toLoadRect (View.loadsAt_vmem h_S1x2048))
    have v94 : FVec F S1x2048 .f32 := k0_pay23 v93
    let ⟨v96, v130, v133, cst_67, v134⟩ : Σ' (v96 : FVec F S1x2048 .f32) (v130 : FVec F S32x1 .f32) (v133 : FVec F S32x2048 .f32) (cst_67 : F .f32), FVec F S32x2048 .f32 ← k0_part4 i arg1 harg1 arg2 harg2 arg3 harg3 arg4 harg4 arg5 harg5 arg6 harg6 arg7 harg7 arg8 harg8 arg9 harg9 arg10 harg10 arg11 harg11 v20 k0_h2 v94
    let ⟨v167, v170, v172, v173⟩ : Σ' (v167 : FVec F S32x2048 .f32) (v170 : FVec F S32x1 .f32) (v172 : IVec S32x1 1), FVec F S32x1 .f32 ← k0_part5 i arg1 harg1 arg2 harg2 arg3 harg3 arg4 harg4 arg5 harg5 arg6 harg6 arg7 harg7 arg8 harg8 arg9 harg9 arg10 harg10 arg11 harg11 v20 k0_h2 v94 v96 v130 v133 cst_67 v134
    let ⟨v211, v212⟩ : Σ' (v211 : FVec F S32x2048 .f32), FVec F S32x2048 .f32 ← k0_part6 i arg1 harg1 arg2 harg2 arg3 harg3 arg4 harg4 arg5 harg5 arg6 harg6 arg7 harg7 arg8 harg8 arg9 harg9 arg10 harg10 arg11 harg11 v20 k0_h2 v94 v96 v167 v170 v172 v173
    let ⟨v246, v250⟩ : Σ' (v246 : FVec F S32x2048 .f32), FVec F S32x1 .f32 ← k0_part7 i arg1 harg1 arg2 harg2 arg3 harg3 arg4 harg4 arg5 harg5 arg6 harg6 arg7 harg7 arg8 harg8 arg9 harg9 arg10 harg10 arg11 harg11 v20 k0_h2 v94 v211 v212
    let ⟨v284, v289, v290⟩ : Σ' (v284 : FVec F S32x2048 .f32) (v289 : FVec F S32x2048 .f32), FVec F S32x2048 .f32 ← k0_part8 i arg1 harg1 arg2 harg2 arg3 harg3 arg4 harg4 arg5 harg5 arg6 harg6 arg7 harg7 arg8 harg8 arg9 harg9 arg10 harg10 arg11 harg11 v20 k0_h2 v94 v96 v246 v250
    let v328 : FVec F S32x1 .f32 ← k0_part9 i arg1 harg1 arg2 harg2 arg3 harg3 arg4 harg4 arg5 harg5 arg6 harg6 arg7 harg7 arg8 harg8 arg9 harg9 arg10 harg10 arg11 harg11 v96 v284 v289 v290
    let v371 : FVec F S32x128 .f32 ← k0_part10 i arg1 harg1 arg2 harg2 arg3 harg3 arg4 harg4 arg5 harg5 arg6 harg6 arg7 harg7 arg8 harg8 arg9 harg9 arg10 harg10 arg11 harg11 v20 k0_h2 v94 v96 v328
    let ⟨v406, v409, cst_187, v410⟩ : Σ' (v406 : FVec F S32x1 .f32) (v409 : FVec F S32x2048 .f32) (cst_187 : F .f32), FVec F S32x2048 .f32 ← k0_part11 i arg1 harg1 arg2 harg2 arg3 harg3 arg4 harg4 arg5 harg5 arg6 harg6 arg7 harg7 arg8 harg8 arg9 harg9 arg10 harg10 arg11 harg11 v20 k0_h2 v94 v96 v371
    let ⟨v443, v446, v448, v449⟩ : Σ' (v443 : FVec F S32x2048 .f32) (v446 : FVec F S32x1 .f32) (v448 : IVec S32x1 1), FVec F S32x1 .f32 ← k0_part12 i arg1 harg1 arg2 harg2 arg3 harg3 arg4 harg4 arg5 harg5 arg6 harg6 arg7 harg7 arg8 harg8 arg9 harg9 arg10 harg10 arg11 harg11 v20 k0_h2 v94 v96 v406 v409 cst_187 v410
    let v461 : Vec F S32x2048 .i8 ← Prog.lift (.load arg8 (Rect.unit (s := S256x2048) ![224, 0] S32x2048.size inb_S256x2048_S32x2048_224_0).toLoadRect (View.loadsAt_vmem h_S32x2048))
    Prog.lift (.store arg8 (Rect.unit (s := S256x2048) ![224, 0] S32x2048.size inb_S256x2048_S32x2048_224_0) (k0_pay6 v443 v446 v448 v449) Finset.univ (View.stores_vmem h_S32x2048 (harg8.storeExact_slice rfl _ packedi8_S256x2048_S32x2048_224_0) (fun _ => rfl)) (.inl rfl))
    let v464 : Vec F S32x128 .f32 ← Prog.lift (.load arg10 (Rect.unit (s := S256x128) ![224, 0] S32x128.size inb_S256x128_S32x128_224_0).toLoadRect (View.loadsAt_vmem h_S32x128))
    Prog.lift (.store arg10 (Rect.unit (s := S256x128) ![224, 0] S32x128.size inb_S256x128_S32x128_224_0) (k0_pay7 v446 v448 v449) Finset.univ (View.stores_vmem_bits_univ h_S32x128 rfl) (.inl rfl))
    rest
  else do
    rest

/-- The row of their scales, followed by `rest`. -/
def seg4 (i : grid0.Coords) (arg1 : Memref sig .tc .vmem S256x2048 .i8) (harg1 : arg1.IsWhole) (arg2 : Memref sig .tc .vmem S2048x2048 .i8) (harg2 : arg2.IsWhole) (arg3 : Memref sig .tc .vmem S256x128 .f32) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .i8) (harg8 : arg8.IsWhole) (arg9 : Memref sig .tc .vmem S1x1x256 .f32) (harg9 : arg9.IsWhole) (arg10 : Memref sig .tc .vmem S256x128 .f32) (harg10 : arg10.IsWhole) (arg11 : Memref sig .tc .vmem S2x256x2048 .f32) (harg11 : arg11.IsWhole) (rest : Prog (TpuEff nD τ sig (Elt F) Λ₀ .tc) PUnit) : Prog (TpuEff nD τ sig (Elt F) Λ₀ .tc) PUnit := do
  if k0_h2 : k0_cond2 i = 1#1 then do
    let v465 : Vec F S256x128 .f32 ← Prog.lift (.load arg10 (Rect.unit (s := S256x128) ![0, 0] S256x128.size inb_S256x128_S256x128_0_0).toLoadRect (View.loadsAt_vmem h_S256x128))
    let v469 : Vec F S1x1x256 .f32 ← Prog.lift (.load arg9 (Rect.unit (s := S1x1x256) ![0, 0, 0] S1x1x256.size inb_S1x1x256_S1x1x256_0_0_0).toLoadRect (View.loadsAt_vmem h_S1x1x256))
    Prog.lift (.store arg9 (Rect.unit (s := S1x1x256) ![0, 0, 0] S1x1x256.size inb_S1x1x256_S1x1x256_0_0_0) (k0_pay8 v465) Finset.univ (View.stores_vmem_bits_univ h_S1x1x256 rfl) (.inl rfl))
    rest
  else do
    rest

/-- The whole second conditional, followed by `rest`. -/
def seg0 (rest : Prog (TpuEff nD τ sig (Elt F) Λ₀ .tc) PUnit) : Prog (TpuEff nD τ sig (Elt F) Λ₀ .tc) PUnit := do
  let arg0 : BitVec 32 := BitVec.ofNat 32 (i 0).val
  let v0 : BitVec 1 := Scalar.cmpi .eq 2#32 0#32
  let v1 : BitVec 32 := Scalar.select v0 1#32 2#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  let v10 : BitVec 32 := Scalar.addi arg0 1#32
  let v11 : BitVec 1 := Scalar.cmpi .eq 2#32 0#32
  let v12 : BitVec 32 := Scalar.select v11 1#32 2#32
  let v13 : BitVec 32 := Scalar.remsi v10 v12
  let v14 : BitVec 1 := Scalar.cmpi .ne v13 0#32
  let v15 : BitVec 1 := Scalar.cmpi .slt v13 0#32
  let v16 : BitVec 1 := Scalar.cmpi .slt v12 0#32
  let v17 : BitVec 1 := Scalar.xori v15 v16
  let v18 : BitVec 1 := Scalar.andi v17 v14
  let v19 : BitVec 32 := Scalar.addi v13 v12
  let v20 : BitVec 32 := Scalar.select v18 v19 v13
  if k0_h2 : k0_cond2 i = 1#1 then do
    let v28 : FVec F S256x2048 .bf16 ← k0_part2 i arg1 harg1 arg2 harg2 arg3 harg3 arg4 harg4 arg5 harg5 arg6 harg6 arg7 harg7 arg8 harg8 arg9 harg9 arg10 harg10 arg11 harg11 v9 k0_h2
    let v94 : FVec F S1x2048 .f32 ← k0_part3 i arg1 harg1 arg2 harg2 arg3 harg3 arg4 harg4 arg5 harg5 arg6 harg6 arg7 harg7 arg8 harg8 arg9 harg9 arg10 harg10 arg11 harg11 v9 k0_h2 v28
    let ⟨v96, v130, v133, cst_67, v134⟩ : Σ' (v96 : FVec F S1x2048 .f32) (v130 : FVec F S32x1 .f32) (v133 : FVec F S32x2048 .f32) (cst_67 : F .f32), FVec F S32x2048 .f32 ← k0_part4 i arg1 harg1 arg2 harg2 arg3 harg3 arg4 harg4 arg5 harg5 arg6 harg6 arg7 harg7 arg8 harg8 arg9 harg9 arg10 harg10 arg11 harg11 v20 k0_h2 v94
    let ⟨v167, v170, v172, v173⟩ : Σ' (v167 : FVec F S32x2048 .f32) (v170 : FVec F S32x1 .f32) (v172 : IVec S32x1 1), FVec F S32x1 .f32 ← k0_part5 i arg1 harg1 arg2 harg2 arg3 harg3 arg4 harg4 arg5 harg5 arg6 harg6 arg7 harg7 arg8 harg8 arg9 harg9 arg10 harg10 arg11 harg11 v20 k0_h2 v94 v96 v130 v133 cst_67 v134
    let ⟨v211, v212⟩ : Σ' (v211 : FVec F S32x2048 .f32), FVec F S32x2048 .f32 ← k0_part6 i arg1 harg1 arg2 harg2 arg3 harg3 arg4 harg4 arg5 harg5 arg6 harg6 arg7 harg7 arg8 harg8 arg9 harg9 arg10 harg10 arg11 harg11 v20 k0_h2 v94 v96 v167 v170 v172 v173
    let ⟨v246, v250⟩ : Σ' (v246 : FVec F S32x2048 .f32), FVec F S32x1 .f32 ← k0_part7 i arg1 harg1 arg2 harg2 arg3 harg3 arg4 harg4 arg5 harg5 arg6 harg6 arg7 harg7 arg8 harg8 arg9 harg9 arg10 harg10 arg11 harg11 v20 k0_h2 v94 v211 v212
    let ⟨v284, v289, v290⟩ : Σ' (v284 : FVec F S32x2048 .f32) (v289 : FVec F S32x2048 .f32), FVec F S32x2048 .f32 ← k0_part8 i arg1 harg1 arg2 harg2 arg3 harg3 arg4 harg4 arg5 harg5 arg6 harg6 arg7 harg7 arg8 harg8 arg9 harg9 arg10 harg10 arg11 harg11 v20 k0_h2 v94 v96 v246 v250
    let v328 : FVec F S32x1 .f32 ← k0_part9 i arg1 harg1 arg2 harg2 arg3 harg3 arg4 harg4 arg5 harg5 arg6 harg6 arg7 harg7 arg8 harg8 arg9 harg9 arg10 harg10 arg11 harg11 v96 v284 v289 v290
    let v371 : FVec F S32x128 .f32 ← k0_part10 i arg1 harg1 arg2 harg2 arg3 harg3 arg4 harg4 arg5 harg5 arg6 harg6 arg7 harg7 arg8 harg8 arg9 harg9 arg10 harg10 arg11 harg11 v20 k0_h2 v94 v96 v328
    let ⟨v406, v409, cst_187, v410⟩ : Σ' (v406 : FVec F S32x1 .f32) (v409 : FVec F S32x2048 .f32) (cst_187 : F .f32), FVec F S32x2048 .f32 ← k0_part11 i arg1 harg1 arg2 harg2 arg3 harg3 arg4 harg4 arg5 harg5 arg6 harg6 arg7 harg7 arg8 harg8 arg9 harg9 arg10 harg10 arg11 harg11 v20 k0_h2 v94 v96 v371
    let ⟨v443, v446, v448, v449⟩ : Σ' (v443 : FVec F S32x2048 .f32) (v446 : FVec F S32x1 .f32) (v448 : IVec S32x1 1), FVec F S32x1 .f32 ← k0_part12 i arg1 harg1 arg2 harg2 arg3 harg3 arg4 harg4 arg5 harg5 arg6 harg6 arg7 harg7 arg8 harg8 arg9 harg9 arg10 harg10 arg11 harg11 v20 k0_h2 v94 v96 v406 v409 cst_187 v410
    let v461 : Vec F S32x2048 .i8 ← Prog.lift (.load arg8 (Rect.unit (s := S256x2048) ![224, 0] S32x2048.size inb_S256x2048_S32x2048_224_0).toLoadRect (View.loadsAt_vmem h_S32x2048))
    Prog.lift (.store arg8 (Rect.unit (s := S256x2048) ![224, 0] S32x2048.size inb_S256x2048_S32x2048_224_0) (k0_pay6 v443 v446 v448 v449) Finset.univ (View.stores_vmem h_S32x2048 (harg8.storeExact_slice rfl _ packedi8_S256x2048_S32x2048_224_0) (fun _ => rfl)) (.inl rfl))
    let v464 : Vec F S32x128 .f32 ← Prog.lift (.load arg10 (Rect.unit (s := S256x128) ![224, 0] S32x128.size inb_S256x128_S32x128_224_0).toLoadRect (View.loadsAt_vmem h_S32x128))
    Prog.lift (.store arg10 (Rect.unit (s := S256x128) ![224, 0] S32x128.size inb_S256x128_S32x128_224_0) (k0_pay7 v446 v448 v449) Finset.univ (View.stores_vmem_bits_univ h_S32x128 rfl) (.inl rfl))
    let v465 : Vec F S256x128 .f32 ← Prog.lift (.load arg10 (Rect.unit (s := S256x128) ![0, 0] S256x128.size inb_S256x128_S256x128_0_0).toLoadRect (View.loadsAt_vmem h_S256x128))
    let v469 : Vec F S1x1x256 .f32 ← Prog.lift (.load arg9 (Rect.unit (s := S1x1x256) ![0, 0, 0] S1x1x256.size inb_S1x1x256_S1x1x256_0_0_0).toLoadRect (View.loadsAt_vmem h_S1x1x256))
    Prog.lift (.store arg9 (Rect.unit (s := S1x1x256) ![0, 0, 0] S1x1x256.size inb_S1x1x256_S1x1x256_0_0_0) (k0_pay8 v465) Finset.univ (View.stores_vmem_bits_univ h_S1x1x256 rfl) (.inl rfl))
    rest
  else do
    rest

/-- The body is its two conditionals in order. -/
theorem skel_eq₀ : cc0_oproj_skel (F := F) i arg1 harg1 arg2 harg2 arg3 harg3 arg4 harg4 arg5 harg5 arg6 harg6 arg7 harg7 arg8 harg8 arg9 harg9 arg10 harg10 arg11 harg11 = seg1 i arg1 harg1 arg2 harg2 arg3 harg3 arg4 harg4 arg5 harg5 arg6 harg6 arg7 harg7 arg8 harg8 arg9 harg9 arg10 harg10 arg11 harg11 (seg0 i arg1 harg1 arg2 harg2 arg3 harg3 arg4 harg4 arg5 harg5 arg6 harg6 arg7 harg7 arg8 harg8 arg9 harg9 arg10 harg10 arg11 harg11 (pure ⟨⟩)) := rfl

/-- The second conditional is its three pieces in order. -/
theorem seg0_eq (rest : Prog (TpuEff nD τ sig (Elt F) Λ₀ .tc) PUnit) : seg0 i arg1 harg1 arg2 harg2 arg3 harg3 arg4 harg4 arg5 harg5 arg6 harg6 arg7 harg7 arg8 harg8 arg9 harg9 arg10 harg10 arg11 harg11 rest = seg2 i arg1 harg1 arg2 harg2 arg3 harg3 arg4 harg4 arg5 harg5 arg6 harg6 arg7 harg7 arg8 harg8 arg9 harg9 arg10 harg10 arg11 harg11 (seg3 i arg1 harg1 arg2 harg2 arg3 harg3 arg4 harg4 arg5 harg5 arg6 harg6 arg7 harg7 arg8 harg8 arg9 harg9 arg10 harg10 arg11 harg11 (seg4 i arg1 harg1 arg2 harg2 arg3 harg3 arg4 harg4 arg5 harg5 arg6 harg6 arg7 harg7 arg8 harg8 arg9 harg9 arg10 harg10 arg11 harg11 rest)) := by
  unfold seg0 seg2 seg3 seg4
  by_cases hc : k0_cond2 i = 1#1
  · simp only [dif_pos hc, k0_part2_eq_skeleton, k0_part3_eq_skeleton]
    rfl
  · simp only [dif_neg hc]

/-- The body is its four pieces in order. -/
theorem skel_eq : cc0_oproj_skel (F := F) i arg1 harg1 arg2 harg2 arg3 harg3 arg4 harg4 arg5 harg5 arg6 harg6 arg7 harg7 arg8 harg8 arg9 harg9 arg10 harg10 arg11 harg11 = seg1 i arg1 harg1 arg2 harg2 arg3 harg3 arg4 harg4 arg5 harg5 arg6 harg6 arg7 harg7 arg8 harg8 arg9 harg9 arg10 harg10 arg11 harg11 (seg2 i arg1 harg1 arg2 harg2 arg3 harg3 arg4 harg4 arg5 harg5 arg6 harg6 arg7 harg7 arg8 harg8 arg9 harg9 arg10 harg10 arg11 harg11 (seg3 i arg1 harg1 arg2 harg2 arg3 harg3 arg4 harg4 arg5 harg5 arg6 harg6 arg7 harg7 arg8 harg8 arg9 harg9 arg10 harg10 arg11 harg11 (seg4 i arg1 harg1 arg2 harg2 arg3 harg3 arg4 harg4 arg5 harg5 arg6 harg6 arg7 harg7 arg8 harg8 arg9 harg9 arg10 harg10 arg11 harg11 (pure ⟨⟩)))) := by
  rw [skel_eq₀, seg0_eq]

end

end Cert.OprojIdeal.Hand

end
-- ==== Proof.OprojIdealStep.lean ====
/-
  What one point of the output projection kernel computes, as functions of the contents of its buffers.
-/
module

public import proofs.«01_k».proof.Proof.OprojIdealSeg

@[expose] public section

set_option maxRecDepth 65536

noncomputable section

namespace Cert.OprojIdeal.Hand

open Cert.OprojIdeal Cert.OprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The contents of the kernel's input windows at one point. -/
structure Ins (F : FTy → Type) where
  a : Vec F S256x2048 .i8
  w : Vec F S2048x2048 .i8
  asb : Vec F S256x128 .f32
  so : Vec F S1x2048 .f32
  x : Vec F S256x2048 .bf16
  g : Vec F S1x2048 .f32

/-- The contents of the kernel's output windows and of its scratch buffer. -/
@[ext] structure St (F : FTy → Type) where
  h1 : Vec F S256x2048 .f32
  xc : Vec F S256x2048 .i8
  xs : Vec F S1x1x256 .f32
  xsb : Vec F S256x128 .f32
  acc : Vec F S2x256x2048 .f32

/-- The half of the scratch buffer a point writes. -/
def cur (i : grid0.Coords) : ℕ := (i 0).val % 2

/-- The half of the scratch buffer a point reads. -/
def prev (i : grid0.Coords) : ℕ := ((i 0).val + 1) % 2

/-- 32 rows of the half a point reads lie in the scratch buffer. -/
theorem row_inb (i : grid0.Coords) (o : ℕ) (ho : o + 32 ≤ 256) :
    ∀ a, (![prev i, o, 0] : Fin 3 → ℕ) a + S1x32x2048.size a ≤ S2x256x2048.size a := by
  have h : prev i < 2 := Nat.mod_lt _ (by decide)
  intro a
  fin_cases a
  · show prev i + 1 ≤ 2; omega
  · show o + 32 ≤ 256; omega
  · show 0 + 2048 ≤ 2048; omega

/-- The product of a block of codes with 256 columns of the weight. -/
def dotO (a : Vec F S256x2048 .i8) (w : Vec F S2048x256 .i8) : FVec F S256x256 .f32 :=
  matmul dot_S256x2048_S2048x256_S256x256_1_0_0_1_n_n none (sitofp .bf16 a)
    (sitofp .bf16 (shapeCast S2048x256 w shapeCasts_S2048x256_S2048x256)) (constant S256x256 .f32 0x00000000#32)

/-- 32 rows of the residual stream: the input plus the product, scaled by rows and by columns. -/
def resid (asc : Vec F S32x1 .f32) (x : Vec F S32x2048 .bf16) (acc : Vec F S1x32x2048 .f32) (so : Vec F S1x2048 .f32) : FVec F S32x2048 .f32 :=
  addf (extf .f32 x bitsLt_bf16_f32) (mulf (mulf (shapeCast S32x2048 acc shapeCasts_S1x32x2048_S32x2048)
    (broadcastTo S32x2048 (shapeCast S32x1 asc shapeCasts_S32x1_S32x1) broadcasts_S32x1_S32x2048))
    (broadcastTo S32x2048 (shapeCast S1x2048 so shapeCasts_S1x2048_S1x2048) broadcasts_S1x2048_S32x2048))

/-- The root of a row's mean square plus a small constant. -/
def rms (h : FVec F S32x2048 .f32) : FVec F S32x1 .f32 :=
  sqrt (addf (divf (shapeCast S32x1 (multiReduction .add [1] S32 (mulf h h) 0x00000000#32 reduces_S32x2048_S32 (.inl rfl) rfl) shapeCasts_S32_S32x1)
    (broadcast S32x1 (Scalar.ofBits .f32 0x45000000#32 : F .f32))) (broadcast S32x1 (Scalar.ofBits .f32 0x3727C5AC#32 : F .f32)))

/-- The rows divided by that root, times the gains of the columns. -/
def normed (h : FVec F S32x2048 .f32) (g : Vec F S1x2048 .f32) : FVec F S32x2048 .f32 :=
  mulf (divf h (broadcastTo S32x2048 (rms h) broadcasts_S32x1_S32x2048))
    (broadcastTo S32x2048 (shapeCast S1x2048 g shapeCasts_S1x2048_S1x2048) broadcasts_S1x2048_S32x2048)

/-- The largest magnitude of each row. -/
def rowAmax (v : FVec F S32x2048 .f32) : FVec F S32x1 .f32 :=
  shapeCast S32x1 (multiReduction .maximumf [1] S32 (absf v) 0xFF800000#32 reduces_S32x2048_S32 (.inl rfl) rfl) shapeCasts_S32_S32x1

/-- The scale of each row. -/
def scl (v : FVec F S32x2048 .f32) : FVec F S32x1 .f32 :=
  select (cmpf .oeq (rowAmax v) (broadcast S32x1 (Scalar.ofBits .f32 0x00000000#32 : F .f32)))
    (broadcast S32x1 (Scalar.ofBits .f32 0x3F800000#32 : F .f32)) (divf (rowAmax v) (broadcast S32x1 (Scalar.ofBits .f32 0x42FE0000#32 : F .f32)))

/-- The rows divided by their scales, rounded, clipped and converted. -/
def code (v : FVec F S32x2048 .f32) : IVec S32x2048 8 :=
  fptosi 8 (minimumf (broadcast S32x2048 (Scalar.ofBits .f32 0x42FE0000#32 : F .f32))
    (maximumf (broadcast S32x2048 (Scalar.ofBits .f32 0xC2FE0000#32 : F .f32))
      (roundeven (divf v (broadcastTo S32x2048 (scl v) broadcasts_S32x1_S32x2048)))))

/-- The scales in 128 equal lanes. -/
def lanes (v : FVec F S32x2048 .f32) : FVec F S32x128 .f32 :=
  broadcastTo S32x128 (shapeCast S32x1 (scl v) shapeCasts_S32x1_S32x1) broadcasts_S32x1_S32x128

/-- The scratch buffer after the product of one point. -/
def prod (i : grid0.Coords) (x : Ins F) (acc : Vec F S2x256x2048 .f32) : Vec F S2x256x2048 .f32 :=
  VecWindow.put (VecWindow.put (VecWindow.put (VecWindow.put (VecWindow.put (VecWindow.put (VecWindow.put (VecWindow.put (acc) ![cur i, 0, 0] S1x256x256.size
    (shapeCast S1x256x256 (dotO x.a (VecWindow.window x.w ![0, 0] S2048x256.size inb_S2048x2048_S2048x256_0_0)) shapeCasts_S256x256_S1x256x256)) ![cur i, 0, 256] S1x256x256.size
    (shapeCast S1x256x256 (dotO x.a (VecWindow.window x.w ![0, 256] S2048x256.size inb_S2048x2048_S2048x256_0_256)) shapeCasts_S256x256_S1x256x256)) ![cur i, 0, 512] S1x256x256.size
    (shapeCast S1x256x256 (dotO x.a (VecWindow.window x.w ![0, 512] S2048x256.size inb_S2048x2048_S2048x256_0_512)) shapeCasts_S256x256_S1x256x256)) ![cur i, 0, 768] S1x256x256.size
    (shapeCast S1x256x256 (dotO x.a (VecWindow.window x.w ![0, 768] S2048x256.size inb_S2048x2048_S2048x256_0_768)) shapeCasts_S256x256_S1x256x256)) ![cur i, 0, 1024] S1x256x256.size
    (shapeCast S1x256x256 (dotO x.a (VecWindow.window x.w ![0, 1024] S2048x256.size inb_S2048x2048_S2048x256_0_1024)) shapeCasts_S256x256_S1x256x256)) ![cur i, 0, 1280] S1x256x256.size
    (shapeCast S1x256x256 (dotO x.a (VecWindow.window x.w ![0, 1280] S2048x256.size inb_S2048x2048_S2048x256_0_1280)) shapeCasts_S256x256_S1x256x256)) ![cur i, 0, 1536] S1x256x256.size
    (shapeCast S1x256x256 (dotO x.a (VecWindow.window x.w ![0, 1536] S2048x256.size inb_S2048x2048_S2048x256_0_1536)) shapeCasts_S256x256_S1x256x256)) ![cur i, 0, 1792] S1x256x256.size
    (shapeCast S1x256x256 (dotO x.a (VecWindow.window x.w ![0, 1792] S2048x256.size inb_S2048x2048_S2048x256_0_1792)) shapeCasts_S256x256_S1x256x256)

/-- Rows 0–31 of the residual stream. -/
def hT0 (i : grid0.Coords) (x : Ins F) (acc : Vec F S2x256x2048 .f32) : FVec F S32x2048 .f32 :=
  resid (VecWindow.window x.asb ![0, 0] S32x1.size inb_S256x128_S32x1_0_0) (VecWindow.window x.x ![0, 0] S32x2048.size inb_S256x2048_S32x2048_0_0)
    (VecWindow.window acc ![prev i, 0, 0] S1x32x2048.size (row_inb i 0 (by decide))) x.so

/-- Rows 32–63 of the residual stream. -/
def hT1 (i : grid0.Coords) (x : Ins F) (acc : Vec F S2x256x2048 .f32) : FVec F S32x2048 .f32 :=
  resid (VecWindow.window x.asb ![32, 0] S32x1.size inb_S256x128_S32x1_32_0) (VecWindow.window x.x ![32, 0] S32x2048.size inb_S256x2048_S32x2048_32_0)
    (VecWindow.window acc ![prev i, 32, 0] S1x32x2048.size (row_inb i 32 (by decide))) x.so

/-- Rows 64–95 of the residual stream. -/
def hT2 (i : grid0.Coords) (x : Ins F) (acc : Vec F S2x256x2048 .f32) : FVec F S32x2048 .f32 :=
  resid (VecWindow.window x.asb ![64, 0] S32x1.size inb_S256x128_S32x1_64_0) (VecWindow.window x.x ![64, 0] S32x2048.size inb_S256x2048_S32x2048_64_0)
    (VecWindow.window acc ![prev i, 64, 0] S1x32x2048.size (row_inb i 64 (by decide))) x.so

/-- Rows 96–127 of the residual stream. -/
def hT3 (i : grid0.Coords) (x : Ins F) (acc : Vec F S2x256x2048 .f32) : FVec F S32x2048 .f32 :=
  resid (VecWindow.window x.asb ![96, 0] S32x1.size inb_S256x128_S32x1_96_0) (VecWindow.window x.x ![96, 0] S32x2048.size inb_S256x2048_S32x2048_96_0)
    (VecWindow.window acc ![prev i, 96, 0] S1x32x2048.size (row_inb i 96 (by decide))) x.so

/-- Rows 128–159 of the residual stream. -/
def hT4 (i : grid0.Coords) (x : Ins F) (acc : Vec F S2x256x2048 .f32) : FVec F S32x2048 .f32 :=
  resid (VecWindow.window x.asb ![128, 0] S32x1.size inb_S256x128_S32x1_128_0) (VecWindow.window x.x ![128, 0] S32x2048.size inb_S256x2048_S32x2048_128_0)
    (VecWindow.window acc ![prev i, 128, 0] S1x32x2048.size (row_inb i 128 (by decide))) x.so

/-- Rows 160–191 of the residual stream. -/
def hT5 (i : grid0.Coords) (x : Ins F) (acc : Vec F S2x256x2048 .f32) : FVec F S32x2048 .f32 :=
  resid (VecWindow.window x.asb ![160, 0] S32x1.size inb_S256x128_S32x1_160_0) (VecWindow.window x.x ![160, 0] S32x2048.size inb_S256x2048_S32x2048_160_0)
    (VecWindow.window acc ![prev i, 160, 0] S1x32x2048.size (row_inb i 160 (by decide))) x.so

/-- Rows 192–223 of the residual stream. -/
def hT6 (i : grid0.Coords) (x : Ins F) (acc : Vec F S2x256x2048 .f32) : FVec F S32x2048 .f32 :=
  resid (VecWindow.window x.asb ![192, 0] S32x1.size inb_S256x128_S32x1_192_0) (VecWindow.window x.x ![192, 0] S32x2048.size inb_S256x2048_S32x2048_192_0)
    (VecWindow.window acc ![prev i, 192, 0] S1x32x2048.size (row_inb i 192 (by decide))) x.so

/-- Rows 224–255 of the residual stream. -/
def hT7 (i : grid0.Coords) (x : Ins F) (acc : Vec F S2x256x2048 .f32) : FVec F S32x2048 .f32 :=
  resid (VecWindow.window x.asb ![224, 0] S32x1.size inb_S256x128_S32x1_224_0) (VecWindow.window x.x ![224, 0] S32x2048.size inb_S256x2048_S32x2048_224_0)
    (VecWindow.window acc ![prev i, 224, 0] S1x32x2048.size (row_inb i 224 (by decide))) x.so

/-- The block of the residual stream. -/
def fin_h1 (i : grid0.Coords) (x : Ins F) (acc : Vec F S2x256x2048 .f32) (h1 : Vec F S256x2048 .f32) : Vec F S256x2048 .f32 :=
  VecWindow.put (VecWindow.put (VecWindow.put (VecWindow.put (VecWindow.put (VecWindow.put (VecWindow.put (VecWindow.put (h1) ![0, 0] S32x2048.size
    (hT0 i x acc)) ![32, 0] S32x2048.size
    (hT1 i x acc)) ![64, 0] S32x2048.size
    (hT2 i x acc)) ![96, 0] S32x2048.size
    (hT3 i x acc)) ![128, 0] S32x2048.size
    (hT4 i x acc)) ![160, 0] S32x2048.size
    (hT5 i x acc)) ![192, 0] S32x2048.size
    (hT6 i x acc)) ![224, 0] S32x2048.size
    (hT7 i x acc)

/-- The block of the codes. -/
def fin_xc (i : grid0.Coords) (x : Ins F) (acc : Vec F S2x256x2048 .f32) (xc : Vec F S256x2048 .i8) : Vec F S256x2048 .i8 :=
  VecWindow.put (VecWindow.put (VecWindow.put (VecWindow.put (VecWindow.put (VecWindow.put (VecWindow.put (VecWindow.put (xc) ![0, 0] S32x2048.size
    (code (normed (hT0 i x acc) x.g))) ![32, 0] S32x2048.size
    (code (normed (hT1 i x acc) x.g))) ![64, 0] S32x2048.size
    (code (normed (hT2 i x acc) x.g))) ![96, 0] S32x2048.size
    (code (normed (hT3 i x acc) x.g))) ![128, 0] S32x2048.size
    (code (normed (hT4 i x acc) x.g))) ![160, 0] S32x2048.size
    (code (normed (hT5 i x acc) x.g))) ![192, 0] S32x2048.size
    (code (normed (hT6 i x acc) x.g))) ![224, 0] S32x2048.size
    (code (normed (hT7 i x acc) x.g))

/-- The block of the scales in lanes. -/
def fin_xsb (i : grid0.Coords) (x : Ins F) (acc : Vec F S2x256x2048 .f32) (xsb : Vec F S256x128 .f32) : Vec F S256x128 .f32 :=
  VecWindow.put (VecWindow.put (VecWindow.put (VecWindow.put (VecWindow.put (VecWindow.put (VecWindow.put (VecWindow.put (xsb) ![0, 0] S32x128.size
    (lanes (normed (hT0 i x acc) x.g))) ![32, 0] S32x128.size
    (lanes (normed (hT1 i x acc) x.g))) ![64, 0] S32x128.size
    (lanes (normed (hT2 i x acc) x.g))) ![96, 0] S32x128.size
    (lanes (normed (hT3 i x acc) x.g))) ![128, 0] S32x128.size
    (lanes (normed (hT4 i x acc) x.g))) ![160, 0] S32x128.size
    (lanes (normed (hT5 i x acc) x.g))) ![192, 0] S32x128.size
    (lanes (normed (hT6 i x acc) x.g))) ![224, 0] S32x128.size
    (lanes (normed (hT7 i x acc) x.g))

/-- The product of the first point. -/
def step1 (i : grid0.Coords) (x : Ins F) (s : St F) : St F :=
  if k0_cond1 i = 1#1 then { s with acc := prod i x s.acc } else s

/-- The product of a later point. -/
def step2 (i : grid0.Coords) (x : Ins F) (s : St F) : St F :=
  if k0_cond2 i = 1#1 then { s with acc := prod i x s.acc } else s

/-- The results of the rows the point before multiplied. -/
def step3 (i : grid0.Coords) (x : Ins F) (s : St F) : St F :=
  if k0_cond2 i = 1#1 then { s with h1 := fin_h1 i x s.acc s.h1, xc := fin_xc i x s.acc s.xc, xsb := fin_xsb i x s.acc s.xsb } else s

/-- The row of their scales. -/
def step4 (i : grid0.Coords) (x : Ins F) (s : St F) : St F :=
  if k0_cond2 i = 1#1 then { s with xs := k0_pay8 s.xsb } else s

/-- One point of the kernel. -/
def step (i : grid0.Coords) (x : Ins F) (s : St F) : St F :=
  step4 i x (step3 i x (step2 i x (step1 i x s)))

end Cert.OprojIdeal.Hand

end
-- ==== Proof.OprojIdealBody.lean ====
/-
  Each piece of the body takes the buffers where the step functions say, and so does the whole body.
-/
module

public import proofs.«01_k».proof.Proof.OprojIdealStep

@[expose] public section

set_option maxRecDepth 65536

noncomputable section

namespace Cert.OprojIdeal.Hand

open Cert.OprojIdeal Cert.OprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The kernel's eleven buffers hold the contents `x` and `s`. -/
def Res (c : Dev nD) (arg1 : Memref sig .tc .vmem S256x2048 .i8) (arg2 : Memref sig .tc .vmem S2048x2048 .i8) (arg3 : Memref sig .tc .vmem S256x128 .f32) (arg4 : Memref sig .tc .vmem S1x2048 .f32) (arg5 : Memref sig .tc .vmem S256x2048 .bf16) (arg6 : Memref sig .tc .vmem S1x2048 .f32) (arg7 : Memref sig .tc .vmem S256x2048 .f32) (arg8 : Memref sig .tc .vmem S256x2048 .i8) (arg9 : Memref sig .tc .vmem S1x1x256 .f32) (arg10 : Memref sig .tc .vmem S256x128 .f32) (arg11 : Memref sig .tc .vmem S2x256x2048 .f32) (x : Ins F) (s : St F) : sProp (MT nD τ sig Unit (Elt F) ℕ (UR sig nD τ) ℕ) :=
  iprop(owns (c : Thread nD τ) arg1 fullShare x.a ∗ owns (c : Thread nD τ) arg2 fullShare x.w ∗ owns (c : Thread nD τ) arg3 fullShare x.asb ∗ owns (c : Thread nD τ) arg4 fullShare x.so ∗ owns (c : Thread nD τ) arg5 fullShare x.x ∗ owns (c : Thread nD τ) arg6 fullShare x.g ∗ owns (c : Thread nD τ) arg7 fullShare s.h1 ∗ owns (c : Thread nD τ) arg8 fullShare s.xc ∗ owns (c : Thread nD τ) arg9 fullShare s.xs ∗ owns (c : Thread nD τ) arg10 fullShare s.xsb ∗ owns (c : Thread nD τ) arg11 fullShare s.acc)

/-- `put` of equal contents. -/
theorem put_congr {s : Shape} {α : Type} {x x' : s.Idx → α} {off size : Fin s.rank → ℕ} {w w' : ((a : Fin s.rank) → Fin (size a)) → α}
    (hx : x = x') (hw : w = w') : VecWindow.put x off size w = VecWindow.put x' off size w' := by rw [hx, hw]

/-- The half a point writes, as the kernel's words compute it. -/
theorem cur_word (i : grid0.Coords) : k0_off1 i = ![cur i, 0, 0] := by
  have h : ∀ n : Fin 19, k0_off1 (fun a => ⟨n.val, by fin_cases a; exact n.isLt⟩) 0 = n.val % 2 := by decide +kernel
  have e : i = fun a => ⟨(i 0).val, by fin_cases a; exact (i 0).isLt⟩ := by
    funext a; fin_cases a; rfl
  have h0 : k0_off1 i 0 = cur i := by rw [e]; exact h (i 0)
  rw [← h0]; rfl

/-- The half a point reads, as the kernel's words compute it. -/
theorem prev_word (i : grid0.Coords) : k0_off17 i = ![prev i, 0, 0] := by
  have h : ∀ n : Fin 19, k0_off17 (fun a => ⟨n.val, by fin_cases a; exact n.isLt⟩) 0 = (n.val + 1) % 2 := by decide +kernel
  have e : i = fun a => ⟨(i 0).val, by fin_cases a; exact (i 0).isLt⟩ := by
    funext a; fin_cases a; rfl
  have h0 : k0_off17 i 0 = prev i := by rw [e]; exact h (i 0)
  rw [← h0]; rfl

theorem k0_off1_eq (i : grid0.Coords) : k0_off1 i = ![cur i, 0, 0] := by
  have h := congrFun (cur_word i) 0
  show ![k0_off1 i 0, 0, 0] = _
  rw [h]; rfl

theorem k0_off2_eq (i : grid0.Coords) : k0_off2 i = ![cur i, 0, 256] := by
  have h := congrFun (cur_word i) 0
  show ![k0_off1 i 0, 0, 256] = _
  rw [h]; rfl

theorem k0_off3_eq (i : grid0.Coords) : k0_off3 i = ![cur i, 0, 512] := by
  have h := congrFun (cur_word i) 0
  show ![k0_off1 i 0, 0, 512] = _
  rw [h]; rfl

theorem k0_off4_eq (i : grid0.Coords) : k0_off4 i = ![cur i, 0, 768] := by
  have h := congrFun (cur_word i) 0
  show ![k0_off1 i 0, 0, 768] = _
  rw [h]; rfl

theorem k0_off5_eq (i : grid0.Coords) : k0_off5 i = ![cur i, 0, 1024] := by
  have h := congrFun (cur_word i) 0
  show ![k0_off1 i 0, 0, 1024] = _
  rw [h]; rfl

theorem k0_off6_eq (i : grid0.Coords) : k0_off6 i = ![cur i, 0, 1280] := by
  have h := congrFun (cur_word i) 0
  show ![k0_off1 i 0, 0, 1280] = _
  rw [h]; rfl

theorem k0_off7_eq (i : grid0.Coords) : k0_off7 i = ![cur i, 0, 1536] := by
  have h := congrFun (cur_word i) 0
  show ![k0_off1 i 0, 0, 1536] = _
  rw [h]; rfl

theorem k0_off8_eq (i : grid0.Coords) : k0_off8 i = ![cur i, 0, 1792] := by
  have h := congrFun (cur_word i) 0
  show ![k0_off1 i 0, 0, 1792] = _
  rw [h]; rfl

theorem k0_off9_eq (i : grid0.Coords) : k0_off9 i = ![cur i, 0, 0] := by
  have h := congrFun (cur_word i) 0
  show ![k0_off1 i 0, 0, 0] = _
  rw [h]; rfl

theorem k0_off10_eq (i : grid0.Coords) : k0_off10 i = ![cur i, 0, 256] := by
  have h := congrFun (cur_word i) 0
  show ![k0_off1 i 0, 0, 256] = _
  rw [h]; rfl

theorem k0_off11_eq (i : grid0.Coords) : k0_off11 i = ![cur i, 0, 512] := by
  have h := congrFun (cur_word i) 0
  show ![k0_off1 i 0, 0, 512] = _
  rw [h]; rfl

theorem k0_off12_eq (i : grid0.Coords) : k0_off12 i = ![cur i, 0, 768] := by
  have h := congrFun (cur_word i) 0
  show ![k0_off1 i 0, 0, 768] = _
  rw [h]; rfl

theorem k0_off13_eq (i : grid0.Coords) : k0_off13 i = ![cur i, 0, 1024] := by
  have h := congrFun (cur_word i) 0
  show ![k0_off1 i 0, 0, 1024] = _
  rw [h]; rfl

theorem k0_off14_eq (i : grid0.Coords) : k0_off14 i = ![cur i, 0, 1280] := by
  have h := congrFun (cur_word i) 0
  show ![k0_off1 i 0, 0, 1280] = _
  rw [h]; rfl

theorem k0_off15_eq (i : grid0.Coords) : k0_off15 i = ![cur i, 0, 1536] := by
  have h := congrFun (cur_word i) 0
  show ![k0_off1 i 0, 0, 1536] = _
  rw [h]; rfl

theorem k0_off16_eq (i : grid0.Coords) : k0_off16 i = ![cur i, 0, 1792] := by
  have h := congrFun (cur_word i) 0
  show ![k0_off1 i 0, 0, 1792] = _
  rw [h]; rfl

theorem k0_off17_eq (i : grid0.Coords) : k0_off17 i = ![prev i, 0, 0] := by
  have h := congrFun (prev_word i) 0
  show ![k0_off17 i 0, 0, 0] = _
  rw [h]; rfl

theorem k0_off18_eq (i : grid0.Coords) : k0_off18 i = ![prev i, 32, 0] := by
  have h := congrFun (prev_word i) 0
  show ![k0_off17 i 0, 32, 0] = _
  rw [h]; rfl

theorem k0_off19_eq (i : grid0.Coords) : k0_off19 i = ![prev i, 64, 0] := by
  have h := congrFun (prev_word i) 0
  show ![k0_off17 i 0, 64, 0] = _
  rw [h]; rfl

theorem k0_off20_eq (i : grid0.Coords) : k0_off20 i = ![prev i, 96, 0] := by
  have h := congrFun (prev_word i) 0
  show ![k0_off17 i 0, 96, 0] = _
  rw [h]; rfl

theorem k0_off21_eq (i : grid0.Coords) : k0_off21 i = ![prev i, 128, 0] := by
  have h := congrFun (prev_word i) 0
  show ![k0_off17 i 0, 128, 0] = _
  rw [h]; rfl

theorem k0_off22_eq (i : grid0.Coords) : k0_off22 i = ![prev i, 160, 0] := by
  have h := congrFun (prev_word i) 0
  show ![k0_off17 i 0, 160, 0] = _
  rw [h]; rfl

theorem k0_off23_eq (i : grid0.Coords) : k0_off23 i = ![prev i, 192, 0] := by
  have h := congrFun (prev_word i) 0
  show ![k0_off17 i 0, 192, 0] = _
  rw [h]; rfl

theorem k0_off24_eq (i : grid0.Coords) : k0_off24 i = ![prev i, 224, 0] := by
  have h := congrFun (prev_word i) 0
  show ![k0_off17 i 0, 224, 0] = _
  rw [h]; rfl

section

variable (c : Dev nD) (i : grid0.Coords) (arg1 : Memref sig .tc .vmem S256x2048 .i8) (harg1 : arg1.IsWhole) (arg2 : Memref sig .tc .vmem S2048x2048 .i8) (harg2 : arg2.IsWhole) (arg3 : Memref sig .tc .vmem S256x128 .f32) (harg3 : arg3.IsWhole) (arg4 : Memref sig .tc .vmem S1x2048 .f32) (harg4 : arg4.IsWhole) (arg5 : Memref sig .tc .vmem S256x2048 .bf16) (harg5 : arg5.IsWhole) (arg6 : Memref sig .tc .vmem S1x2048 .f32) (harg6 : arg6.IsWhole) (arg7 : Memref sig .tc .vmem S256x2048 .f32) (harg7 : arg7.IsWhole) (arg8 : Memref sig .tc .vmem S256x2048 .i8) (harg8 : arg8.IsWhole) (arg9 : Memref sig .tc .vmem S1x1x256 .f32) (harg9 : arg9.IsWhole) (arg10 : Memref sig .tc .vmem S256x128 .f32) (harg10 : arg10.IsWhole) (arg11 : Memref sig .tc .vmem S2x256x2048 .f32) (harg11 : arg11.IsWhole)
include c i arg1 harg1 arg2 harg2 arg3 harg3 arg4 harg4 arg5 harg5 arg6 harg6 arg7 harg7 arg8 harg8 arg9 harg9 arg10 harg10 arg11 harg11

set_option maxHeartbeats 800000 in
/-- Piece 1 takes the buffers from `s` to `step1 i x s`. -/
theorem seg1_run (x : Ins F) (s : St F) (rest : Prog (TpuEff nD τ sig (Elt F) Λ₀ .tc) PUnit) (K : PUnit → sProp 𝕄) :
    iprop(Res c arg1 arg2 arg3 arg4 arg5 arg6 arg7 arg8 arg9 arg10 arg11 x s ∗ (Res c arg1 arg2 arg3 arg4 arg5 arg6 arg7 arg8 arg9 arg10 arg11 x (step1 i x s) -∗ wp frame (wpE (defs₀ (F := F)) Variants.none c none) Set.univ rest K))
      ⊢ wp frame (wpE (defs₀ (F := F)) Variants.none c none) Set.univ (seg1 i arg1 harg1 arg2 harg2 arg3 harg3 arg4 harg4 arg5 harg5 arg6 harg6 arg7 harg7 arg8 harg8 arg9 harg9 arg10 harg10 arg11 harg11 rest) K := by
  by_cases hc : k0_cond1 i = 1#1
  · unfold seg1 step1
    rw [dif_pos hc, if_pos hc]
    simp only [k0_part1_eq_skeleton]
    obtain ⟨a, w, asb, so, x, g⟩ := x
    obtain ⟨h1, xc, xs, xsb, acc⟩ := s
    unfold Res owns
    dsimp only
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
    subst hf1 hf2 hf3 hf4 hf5 hf6 hf7 hf8 hf9 hf10 hf11
    have e1 : arg1.view.readAt (Elt F) (Rect.unit (s := S256x2048) ![0, 0] ![256, 2048] inb_S256x2048_S256x2048_0_0).toLoadRect f1 = arg1.view.read (Elt F) f1 := View.readAt_full _ _ _
    sl_exec
    iapply Hk
    isplitl [H1]; swap; isplitl [H2]; swap; isplitl [H3]; swap; isplitl [H4]; swap; isplitl [H5]; swap; isplitl [H6]; swap
    isplitl [H7]; swap; isplitl [H8]; swap; isplitl [H9]; swap; isplitl [H10]; swap
    · iexists _; isplitr; swap; · iexact H11
      ipureintro; unfold prod; rw [View.read_writes_cons_put _ _ _ _ _ (k0_off8_eq i), View.read_writes_cons_put _ _ _ _ _ (k0_off7_eq i), View.read_writes_cons_put _ _ _ _ _ (k0_off6_eq i), View.read_writes_cons_put _ _ _ _ _ (k0_off5_eq i), View.read_writes_cons_put _ _ _ _ _ (k0_off4_eq i), View.read_writes_cons_put _ _ _ _ _ (k0_off3_eq i), View.read_writes_cons_put _ _ _ _ _ (k0_off2_eq i), View.read_writes_cons_put _ _ _ _ _ (k0_off1_eq i), View.writes_nil]; refine put_congr (put_congr (put_congr (put_congr (put_congr (put_congr (put_congr (put_congr rfl ?_) ?_) ?_) ?_) ?_) ?_) ?_) ?_ <;> (sl_unfold_run_names; simp only [e1]; rfl)
    all_goals (iexists _; isplitr; swap; · iassumption)
    all_goals ipureintro; rfl
  · unfold seg1 step1
    rw [dif_neg hc, if_neg hc]
    iintro ⟨H, Hk⟩
    iapply Hk
    iexact H

set_option maxHeartbeats 800000 in
/-- Piece 2 takes the buffers from `s` to `step2 i x s`. -/
theorem seg2_run (x : Ins F) (s : St F) (rest : Prog (TpuEff nD τ sig (Elt F) Λ₀ .tc) PUnit) (K : PUnit → sProp 𝕄) :
    iprop(Res c arg1 arg2 arg3 arg4 arg5 arg6 arg7 arg8 arg9 arg10 arg11 x s ∗ (Res c arg1 arg2 arg3 arg4 arg5 arg6 arg7 arg8 arg9 arg10 arg11 x (step2 i x s) -∗ wp frame (wpE (defs₀ (F := F)) Variants.none c none) Set.univ rest K))
      ⊢ wp frame (wpE (defs₀ (F := F)) Variants.none c none) Set.univ (seg2 i arg1 harg1 arg2 harg2 arg3 harg3 arg4 harg4 arg5 harg5 arg6 harg6 arg7 harg7 arg8 harg8 arg9 harg9 arg10 harg10 arg11 harg11 rest) K := by
  by_cases hc : k0_cond2 i = 1#1
  · unfold seg2 step2
    rw [dif_pos hc, if_pos hc]
    simp only [k0_part2_eq_skeleton]
    obtain ⟨a, w, asb, so, x, g⟩ := x
    obtain ⟨h1, xc, xs, xsb, acc⟩ := s
    unfold Res owns
    dsimp only
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
    subst hf1 hf2 hf3 hf4 hf5 hf6 hf7 hf8 hf9 hf10 hf11
    have e1 : arg1.view.readAt (Elt F) (Rect.unit (s := S256x2048) ![0, 0] ![256, 2048] inb_S256x2048_S256x2048_0_0).toLoadRect f1 = arg1.view.read (Elt F) f1 := View.readAt_full _ _ _
    sl_exec
    iapply Hk
    isplitl [H1]; swap; isplitl [H2]; swap; isplitl [H3]; swap; isplitl [H4]; swap; isplitl [H5]; swap; isplitl [H6]; swap
    isplitl [H7]; swap; isplitl [H8]; swap; isplitl [H9]; swap; isplitl [H10]; swap
    · iexists _; isplitr; swap; · iexact H11
      ipureintro; unfold prod; rw [View.read_writes_cons_put _ _ _ _ _ (k0_off16_eq i), View.read_writes_cons_put _ _ _ _ _ (k0_off15_eq i), View.read_writes_cons_put _ _ _ _ _ (k0_off14_eq i), View.read_writes_cons_put _ _ _ _ _ (k0_off13_eq i), View.read_writes_cons_put _ _ _ _ _ (k0_off12_eq i), View.read_writes_cons_put _ _ _ _ _ (k0_off11_eq i), View.read_writes_cons_put _ _ _ _ _ (k0_off10_eq i), View.read_writes_cons_put _ _ _ _ _ (k0_off9_eq i), View.writes_nil]; refine put_congr (put_congr (put_congr (put_congr (put_congr (put_congr (put_congr (put_congr rfl ?_) ?_) ?_) ?_) ?_) ?_) ?_) ?_ <;> (sl_unfold_run_names; simp only [e1]; rfl)
    all_goals (iexists _; isplitr; swap; · iassumption)
    all_goals ipureintro; rfl
  · unfold seg2 step2
    rw [dif_neg hc, if_neg hc]
    iintro ⟨H, Hk⟩
    iapply Hk
    iexact H

set_option maxHeartbeats 800000 in
/-- Piece 3 takes the buffers from `s` to `step3 i x s`. -/
theorem seg3_run (x : Ins F) (s : St F) (rest : Prog (TpuEff nD τ sig (Elt F) Λ₀ .tc) PUnit) (K : PUnit → sProp 𝕄) :
    iprop(Res c arg1 arg2 arg3 arg4 arg5 arg6 arg7 arg8 arg9 arg10 arg11 x s ∗ (Res c arg1 arg2 arg3 arg4 arg5 arg6 arg7 arg8 arg9 arg10 arg11 x (step3 i x s) -∗ wp frame (wpE (defs₀ (F := F)) Variants.none c none) Set.univ rest K))
      ⊢ wp frame (wpE (defs₀ (F := F)) Variants.none c none) Set.univ (seg3 i arg1 harg1 arg2 harg2 arg3 harg3 arg4 harg4 arg5 harg5 arg6 harg6 arg7 harg7 arg8 harg8 arg9 harg9 arg10 harg10 arg11 harg11 rest) K := by
  by_cases hc : k0_cond2 i = 1#1
  · unfold seg3 step3
    rw [dif_pos hc, if_pos hc]
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    obtain ⟨a, w, asb, so, x, g⟩ := x
    obtain ⟨h1, xc, xs, xsb, acc⟩ := s
    unfold Res owns
    dsimp only
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
    subst hf1 hf2 hf3 hf4 hf5 hf6 hf7 hf8 hf9 hf10 hf11
    have e4 : arg4.view.readAt (Elt F) (Rect.unit (s := S1x2048) ![0, 0] ![1, 2048] inb_S1x2048_S1x2048_0_0).toLoadRect f4 = arg4.view.read (Elt F) f4 := View.readAt_full _ _ _
    have e6 : arg6.view.readAt (Elt F) (Rect.unit (s := S1x2048) ![0, 0] ![1, 2048] inb_S1x2048_S1x2048_0_0).toLoadRect f6 = arg6.view.read (Elt F) f6 := View.readAt_full _ _ _
    sl_exec
    iapply Hk
    isplitl [H1]; swap; isplitl [H2]; swap; isplitl [H3]; swap; isplitl [H4]; swap; isplitl [H5]; swap; isplitl [H6]; swap
    isplitl [H7]
    · iexists _; isplitr; swap; · iexact H7
      ipureintro; unfold fin_h1; (iterate 8 rw [View.read_writes_cons_put _ _ _ _ _ rfl]); rw [View.writes_nil]; refine put_congr (put_congr (put_congr (put_congr (put_congr (put_congr (put_congr (put_congr rfl ?_) ?_) ?_) ?_) ?_) ?_) ?_) ?_ <;> (sl_unfold_run_names; simp only [e4, e6, View.readAt_unit arg11.view _ _ (k0_off17_eq i) (row_inb i 0 (by decide)), View.readAt_unit arg11.view _ _ (k0_off18_eq i) (row_inb i 32 (by decide)), View.readAt_unit arg11.view _ _ (k0_off19_eq i) (row_inb i 64 (by decide)), View.readAt_unit arg11.view _ _ (k0_off20_eq i) (row_inb i 96 (by decide)), View.readAt_unit arg11.view _ _ (k0_off21_eq i) (row_inb i 128 (by decide)), View.readAt_unit arg11.view _ _ (k0_off22_eq i) (row_inb i 160 (by decide)), View.readAt_unit arg11.view _ _ (k0_off23_eq i) (row_inb i 192 (by decide)), View.readAt_unit arg11.view _ _ (k0_off24_eq i) (row_inb i 224 (by decide))]; rfl)
    isplitl [H8]
    · iexists _; isplitr; swap; · iexact H8
      ipureintro; unfold fin_xc; (iterate 8 rw [View.read_writes_cons_put _ _ _ _ _ rfl]); rw [View.writes_nil]; refine put_congr (put_congr (put_congr (put_congr (put_congr (put_congr (put_congr (put_congr rfl ?_) ?_) ?_) ?_) ?_) ?_) ?_) ?_ <;> (sl_unfold_run_names; simp only [e4, e6, View.readAt_unit arg11.view _ _ (k0_off17_eq i) (row_inb i 0 (by decide)), View.readAt_unit arg11.view _ _ (k0_off18_eq i) (row_inb i 32 (by decide)), View.readAt_unit arg11.view _ _ (k0_off19_eq i) (row_inb i 64 (by decide)), View.readAt_unit arg11.view _ _ (k0_off20_eq i) (row_inb i 96 (by decide)), View.readAt_unit arg11.view _ _ (k0_off21_eq i) (row_inb i 128 (by decide)), View.readAt_unit arg11.view _ _ (k0_off22_eq i) (row_inb i 160 (by decide)), View.readAt_unit arg11.view _ _ (k0_off23_eq i) (row_inb i 192 (by decide)), View.readAt_unit arg11.view _ _ (k0_off24_eq i) (row_inb i 224 (by decide))]; rfl)
    isplitl [H9]; swap
    isplitl [H10]
    · iexists _; isplitr; swap; · iexact H10
      ipureintro; unfold fin_xsb; (iterate 8 rw [View.read_writes_cons_put _ _ _ _ _ rfl]); rw [View.writes_nil]; refine put_congr (put_congr (put_congr (put_congr (put_congr (put_congr (put_congr (put_congr rfl ?_) ?_) ?_) ?_) ?_) ?_) ?_) ?_ <;> (sl_unfold_run_names; simp only [e4, e6, View.readAt_unit arg11.view _ _ (k0_off17_eq i) (row_inb i 0 (by decide)), View.readAt_unit arg11.view _ _ (k0_off18_eq i) (row_inb i 32 (by decide)), View.readAt_unit arg11.view _ _ (k0_off19_eq i) (row_inb i 64 (by decide)), View.readAt_unit arg11.view _ _ (k0_off20_eq i) (row_inb i 96 (by decide)), View.readAt_unit arg11.view _ _ (k0_off21_eq i) (row_inb i 128 (by decide)), View.readAt_unit arg11.view _ _ (k0_off22_eq i) (row_inb i 160 (by decide)), View.readAt_unit arg11.view _ _ (k0_off23_eq i) (row_inb i 192 (by decide)), View.readAt_unit arg11.view _ _ (k0_off24_eq i) (row_inb i 224 (by decide))]; rfl)
    · iexists _; isplitr; swap; · iexact H11
      ipureintro; rfl
    all_goals (iexists _; isplitr; swap; · iassumption)
    all_goals ipureintro; rfl
  · unfold seg3 step3
    rw [dif_neg hc, if_neg hc]
    iintro ⟨H, Hk⟩
    iapply Hk
    iexact H

set_option maxHeartbeats 800000 in
/-- Piece 4 takes the buffers from `s` to `step4 i x s`. -/
theorem seg4_run (x : Ins F) (s : St F) (rest : Prog (TpuEff nD τ sig (Elt F) Λ₀ .tc) PUnit) (K : PUnit → sProp 𝕄) :
    iprop(Res c arg1 arg2 arg3 arg4 arg5 arg6 arg7 arg8 arg9 arg10 arg11 x s ∗ (Res c arg1 arg2 arg3 arg4 arg5 arg6 arg7 arg8 arg9 arg10 arg11 x (step4 i x s) -∗ wp frame (wpE (defs₀ (F := F)) Variants.none c none) Set.univ rest K))
      ⊢ wp frame (wpE (defs₀ (F := F)) Variants.none c none) Set.univ (seg4 i arg1 harg1 arg2 harg2 arg3 harg3 arg4 harg4 arg5 harg5 arg6 harg6 arg7 harg7 arg8 harg8 arg9 harg9 arg10 harg10 arg11 harg11 rest) K := by
  by_cases hc : k0_cond2 i = 1#1
  · unfold seg4 step4
    rw [dif_pos hc, if_pos hc]

    obtain ⟨a, w, asb, so, x, g⟩ := x
    obtain ⟨h1, xc, xs, xsb, acc⟩ := s
    unfold Res owns
    dsimp only
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, Hk⟩
    subst hf1 hf2 hf3 hf4 hf5 hf6 hf7 hf8 hf9 hf10 hf11
    have e10 : arg10.view.readAt (Elt F) (Rect.unit (s := S256x128) ![0, 0] ![256, 128] inb_S256x128_S256x128_0_0).toLoadRect f10 = arg10.view.read (Elt F) f10 := View.readAt_full _ _ _
    sl_exec
    iapply Hk
    isplitl [H1]; swap; isplitl [H2]; swap; isplitl [H3]; swap; isplitl [H4]; swap; isplitl [H5]; swap; isplitl [H6]; swap
    isplitl [H7]; swap; isplitl [H8]; swap
    isplitl [H9]
    · iexists _; isplitr; swap; · iexact H9
      ipureintro; refine (View.read_writes_full _ _ _ _ _).trans ?_; first | (sl_unfold_run_names; done) | (sl_unfold_run_names; exact congrArg k0_pay8 e10) | (rw [e10]; rfl) | rfl
    isplitl [H10]; swap
    · iexists _; isplitr; swap; · iexact H11
      ipureintro; rfl
    all_goals (iexists _; isplitr; swap; · iassumption)
    all_goals ipureintro; rfl
  · unfold seg4 step4
    rw [dif_neg hc, if_neg hc]
    iintro ⟨H, Hk⟩
    iapply Hk
    iexact H

/-- The body of the kernel at one point takes the buffers from `s` to `step i x s`. -/
theorem body_run (x : Ins F) (s : St F) (K : PUnit → sProp 𝕄) :
    iprop(Res c arg1 arg2 arg3 arg4 arg5 arg6 arg7 arg8 arg9 arg10 arg11 x s ∗ (Res c arg1 arg2 arg3 arg4 arg5 arg6 arg7 arg8 arg9 arg10 arg11 x (step i x s) -∗ K ⟨⟩))
      ⊢ wp frame (wpE (defs₀ (F := F)) Variants.none c none) Set.univ (cc0_oproj i arg1 harg1 arg2 harg2 arg3 harg3 arg4 harg4 arg5 harg5 arg6 harg6 arg7 harg7 arg8 harg8 arg9 harg9 arg10 harg10 arg11 harg11) K := by
  rw [cc0_oproj_eq_skeleton, skel_eq]
  iintro ⟨H, Hk⟩
  iapply seg1_run
  isplitl [H]; · iexact H
  iintro H
  iapply seg2_run
  isplitl [H]; · iexact H
  iintro H
  iapply seg3_run
  isplitl [H]; · iexact H
  iintro H
  iapply seg4_run
  isplitl [H]; · iexact H
  iintro H
  sl_step
  iapply Hk
  iexact H

end

end Cert.OprojIdeal.Hand

end
-- ==== Proof.OprojIdealRun.lean ====
/-
  The whole pipeline of the kernel, from any invariant of its scratch buffer that each point keeps and any relations
  of its result blocks that each point establishes.
-/
module

public import proofs.«01_k».proof.Proof.OprojIdealBody

@[expose] public section

set_option maxRecDepth 65536

noncomputable section

namespace Cert.OprojIdeal.Hand

open Cert.OprojIdeal Cert.OprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (RDat)

local notation "𝕄" => MT nD τ sig Unit (Elt F) ℕ (UR sig nD τ) ℕ

variable (m : (ℓ : Loc nD τ sig) → Buf (Elt F) ℓ) (ρ : Dev nD → PrngReg)

/-- The contents of the input windows at point `t`: the arrays' blocks there. -/
def ins (c : Dev nD) (t : Fin cfg0.N) : Ins F :=
  ⟨iblk m c 0 t, iblk m c 1 t, iblk m c 2 t, iblk m c 3 t, iblk m c 4 t, iblk m c 5 t⟩

/-- What a proof says of the pipeline: of the scratch buffer before each point (`inv`), and, of each result window's
    buffer, what the body leaves at a point given what it found there. -/
structure Sch (F : FTy → Type) where
  inv : Dev nD → Fin (cfg0.N + 1) → Vec F S2x256x2048 .f32 → Prop
  r6 : Dev nD → Fin cfg0.N → (Y X : Vec F S256x2048 .f32) → Prop
  r7 : Dev nD → Fin cfg0.N → (Y X : Vec F S256x2048 .i8) → Prop
  r8 : Dev nD → Fin cfg0.N → (Y X : Vec F S1x1x256 .f32) → Prop
  r9 : Dev nD → Fin cfg0.N → (Y X : Vec F S256x128 .f32) → Prop

/-- The invariant before point `t`: the scratch buffer at some contents of which `inv` holds, and the generator register. -/
def InvP (S : Sch F) (c : Dev nD) (t : Fin (cfg0.N + 1)) : sProp 𝕄 :=
  iprop((∃ (acc : Vec F S2x256x2048 .f32), ⌜S.inv c t acc⌝ ∗ owns (c : Thread nD τ) (Memref.whole cc0_scratch0) fullShare acc)
    ∗ ∃ r, prngReg c r)

/-- The proof data: inputs kept as found, results in the stated relations, the scratch buffer at some contents of which
    the invariant holds. -/
def rd (S : Sch F) (c : Dev nD) : RDat τ (Elt F) Unit ℕ (UR sig nD τ) ℕ cfg0 c where
  A w := V m c (Pipeline.arrRef spec0 w)
  after w t := match w with
    | 0 => fun Y X => X = Y
    | 1 => fun Y X => X = Y
    | 2 => fun Y X => X = Y
    | 3 => fun Y X => X = Y
    | 4 => fun Y X => X = Y
    | 5 => fun Y X => X = Y
    | 6 => fun Y X => S.r6 c t Y X
    | 7 => fun Y X => S.r7 c t Y X
    | 8 => fun Y X => S.r8 c t Y X
    | 9 => fun Y X => S.r9 c t Y X
  Φ t := InvP S c t
  q w := Pipeline.shareOf spec0 w
  owed _ := 0

/-- Every point keeps the invariant and establishes the relations. -/
def Sch.Keeps (S : Sch F) : Prop := ∀ (c : Dev nD) (t : Fin cfg0.N) (s : St F), S.inv c t.castSucc s.acc →
  S.inv c t.succ (step (grid0.coords t) (ins m c t) s).acc
    ∧ S.r6 c t s.h1 (step (grid0.coords t) (ins m c t) s).h1
    ∧ S.r7 c t s.xc (step (grid0.coords t) (ins m c t) s).xc
    ∧ S.r8 c t s.xs (step (grid0.coords t) (ins m c t) s).xs
    ∧ S.r9 c t s.xsb (step (grid0.coords t) (ins m c t) s).xsb

/-- At every point input window 0's buffer holds its array's block there. -/
theorem finds_0 (S : Sch F) (c : Dev nD) (t : Fin cfg0.N) (Y : (cfg0.win 0).block.Idx → Elt F (cfg0.win 0).elt)
    (h : (rd m S c).Finds 0 t Y) : Y = (ins m c t).a := by
  obtain ⟨d, hd⟩ := (rd m S c).finds_in_eq_fetched 0 rfl (fun _ _ _ => rfl) (fun _ _ _ h => h) t Y h
  exact hd

/-- At every point input window 1's buffer holds its array's block there. -/
theorem finds_1 (S : Sch F) (c : Dev nD) (t : Fin cfg0.N) (Y : (cfg0.win 1).block.Idx → Elt F (cfg0.win 1).elt)
    (h : (rd m S c).Finds 1 t Y) : Y = (ins m c t).w := by
  obtain ⟨d, hd⟩ := (rd m S c).finds_in_eq_fetched 1 rfl (fun _ _ _ => rfl) (fun _ _ _ h => h) t Y h
  exact hd

/-- At every point input window 2's buffer holds its array's block there. -/
theorem finds_2 (S : Sch F) (c : Dev nD) (t : Fin cfg0.N) (Y : (cfg0.win 2).block.Idx → Elt F (cfg0.win 2).elt)
    (h : (rd m S c).Finds 2 t Y) : Y = (ins m c t).asb := by
  obtain ⟨d, hd⟩ := (rd m S c).finds_in_eq_fetched 2 rfl (fun _ _ _ => rfl) (fun _ _ _ h => h) t Y h
  exact hd

/-- At every point input window 3's buffer holds its array's block there. -/
theorem finds_3 (S : Sch F) (c : Dev nD) (t : Fin cfg0.N) (Y : (cfg0.win 3).block.Idx → Elt F (cfg0.win 3).elt)
    (h : (rd m S c).Finds 3 t Y) : Y = (ins m c t).so := by
  obtain ⟨d, hd⟩ := (rd m S c).finds_in_eq_fetched 3 rfl (fun _ _ _ => rfl) (fun _ _ _ h => h) t Y h
  exact hd

/-- At every point input window 4's buffer holds its array's block there. -/
theorem finds_4 (S : Sch F) (c : Dev nD) (t : Fin cfg0.N) (Y : (cfg0.win 4).block.Idx → Elt F (cfg0.win 4).elt)
    (h : (rd m S c).Finds 4 t Y) : Y = (ins m c t).x := by
  obtain ⟨d, hd⟩ := (rd m S c).finds_in_eq_fetched 4 rfl (fun _ _ _ => rfl) (fun _ _ _ h => h) t Y h
  exact hd

/-- At every point input window 5's buffer holds its array's block there. -/
theorem finds_5 (S : Sch F) (c : Dev nD) (t : Fin cfg0.N) (Y : (cfg0.win 5).block.Idx → Elt F (cfg0.win 5).elt)
    (h : (rd m S c).Finds 5 t Y) : Y = (ins m c t).g := by
  obtain ⟨d, hd⟩ := (rd m S c).finds_in_eq_fetched 5 rfl (fun _ _ _ => rfl) (fun _ _ _ h => h) t Y h
  exact hd

theorem defs₀_row (t : Fin cfg0.N) : defs₀ (F := F) .tc cfg0.body (cfg0.bodyArgs t (cfg0.slots t)) = bodyAt0 t := by
  unfold defs₀; rw [Defs.onTc_tc]

set_option maxHeartbeats 1000000 in
/-- The body at one point, from the invariant and the windows' buffers to the same at the next point. -/
theorem body_at (S : Sch F) (hS : S.Keeps m) (c : Dev nD) (t : Fin cfg0.N) (Y : (w : Fin cfg0.W) → (cfg0.win w).block.Idx → Elt F (cfg0.win w).elt)
    (hY : ∀ w, (rd m S c).Finds w t (Y w)) :
    iprop((rd m S c).Φ t.castSucc ∗ (rd m S c).owesAt () t.castSucc
        ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9))
      ⊢ wp frame (wpE (defs₀ (F := F)) Variants.none c none) Set.univ (bodyAt0 t) fun _ =>
        iprop((rd m S c).Φ t.succ ∗ (rd m S c).owesAt () t.succ
          ∗ (∃ X, ⌜(rd m S c).after 0 t (Y 0) X⌝ ∗ owns (c : Thread nD τ) (win0_0.stage (cfg0.slots t 0)) fullShare X) ∗ (∃ X, ⌜(rd m S c).after 1 t (Y 1) X⌝ ∗ owns (c : Thread nD τ) (win0_1.stage (cfg0.slots t 1)) fullShare X) ∗ (∃ X, ⌜(rd m S c).after 2 t (Y 2) X⌝ ∗ owns (c : Thread nD τ) (win0_2.stage (cfg0.slots t 2)) fullShare X) ∗ (∃ X, ⌜(rd m S c).after 3 t (Y 3) X⌝ ∗ owns (c : Thread nD τ) (win0_3.stage (cfg0.slots t 3)) fullShare X) ∗ (∃ X, ⌜(rd m S c).after 4 t (Y 4) X⌝ ∗ owns (c : Thread nD τ) (win0_4.stage (cfg0.slots t 4)) fullShare X) ∗ (∃ X, ⌜(rd m S c).after 5 t (Y 5) X⌝ ∗ owns (c : Thread nD τ) (win0_5.stage (cfg0.slots t 5)) fullShare X) ∗ (∃ X, ⌜(rd m S c).after 6 t (Y 6) X⌝ ∗ owns (c : Thread nD τ) (win0_6.stage (cfg0.slots t 6)) fullShare X) ∗ (∃ X, ⌜(rd m S c).after 7 t (Y 7) X⌝ ∗ owns (c : Thread nD τ) (win0_7.stage (cfg0.slots t 7)) fullShare X) ∗ (∃ X, ⌜(rd m S c).after 8 t (Y 8) X⌝ ∗ owns (c : Thread nD τ) (win0_8.stage (cfg0.slots t 8)) fullShare X) ∗ (∃ X, ⌜(rd m S c).after 9 t (Y 9) X⌝ ∗ owns (c : Thread nD τ) (win0_9.stage (cfg0.slots t 9)) fullShare X)) := by
  have h0 := finds_0 m S c t (Y 0) (hY 0); have h1 := finds_1 m S c t (Y 1) (hY 1); have h2 := finds_2 m S c t (Y 2) (hY 2); have h3 := finds_3 m S c t (Y 3) (hY 3); have h4 := finds_4 m S c t (Y 4) (hY 4); have h5 := finds_5 m S c t (Y 5) (hY 5)
  rw [h0, h1, h2, h3, h4, h5]
  unfold bodyAt0 Pipeline.RDat.owesAt Pipeline.owesWithin
  rw [show (rd m S c).Φ t.castSucc = InvP S c t.castSucc from rfl, show (rd m S c).Φ t.succ = InvP S c t.succ from rfl]
  unfold InvP
  rw [show (rd m S c).owed t.castSucc = 0 from rfl, show (rd m S c).owed t.succ = 0 from rfl]
  iintro ⟨⟨⟨%acc, %hi, S0⟩, Hg⟩, ⟨%W, %hW, HO⟩, W0, W1, W2, W3, W4, W5, W6, W7, W8, W9⟩
  obtain ⟨hi', k6, k7, k8, k9⟩ := hS c t ⟨Y 6, Y 7, Y 8, Y 9, acc⟩ hi
  iapply (body_run c (grid0.coords t) _ _ _ _ _ _ _ _ _ _ _ _ _ _ _ _ _ _ _ _ _ _ (ins m c t) ⟨Y 6, Y 7, Y 8, Y 9, acc⟩)
  isplitl [S0 W0 W1 W2 W3 W4 W5 W6 W7 W8 W9]
  · unfold Res
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    iexact S0
  unfold Res
  iintro ⟨W0, W1, W2, W3, W4, W5, W6, W7, W8, W9, S0⟩
  isplitl [S0 Hg]
  · isplitl [S0]
    · iexists _
      isplitr; swap
      · iexact S0
      ipureintro; exact hi'
    iexact Hg
  isplitl [HO]
  · iexists W; isplitr; · ipureintro; exact fun _ _ => Or.inl trivial
    iexact HO
  isplitl [W0]
  · iexists _; isplitr; swap; · iexact W0
    ipureintro; exact rfl
  isplitl [W1]
  · iexists _; isplitr; swap; · iexact W1
    ipureintro; exact rfl
  isplitl [W2]
  · iexists _; isplitr; swap; · iexact W2
    ipureintro; exact rfl
  isplitl [W3]
  · iexists _; isplitr; swap; · iexact W3
    ipureintro; exact rfl
  isplitl [W4]
  · iexists _; isplitr; swap; · iexact W4
    ipureintro; exact rfl
  isplitl [W5]
  · iexists _; isplitr; swap; · iexact W5
    ipureintro; exact rfl
  isplitl [W6]
  · iexists _; isplitr; swap; · iexact W6
    ipureintro; exact k6
  isplitl [W7]
  · iexists _; isplitr; swap; · iexact W7
    ipureintro; exact k7
  isplitl [W8]
  · iexists _; isplitr; swap; · iexact W8
    ipureintro; exact k8
  iexists _; isplitr; swap; · iexact W9
  ipureintro; exact k9

/-- The library's body obligation. -/
theorem body_obligation (S : Sch F) (hS : S.Keeps m) (c : Dev nD) : (rd m S c).BodyObligation (defs₀ (F := F)) Variants.none () Set.univ :=
  fun t Y hY => by
    rw [bigSep_W0, bigSep_W0, defs₀_row]
    exact triple_restated (body_at m S hS c t Y hY) rfl .rfl fun _ => .rfl

/-- The scratch buffer at any contents is the invariant's scratch buffer at some contents. -/
theorem inv_in (S : Sch F) (h0 : ∀ c acc, S.inv c 0 acc) (c : Dev nD) :
    (Pipeline.ΦA spec0 c : sProp 𝕄) ⊢ (rd m S c).Φ 0 := by
  rw [show (rd m S c).Φ 0 = InvP S c 0 from rfl]
  unfold Pipeline.ΦA InvP
  rw [scopedRest0_eq]
  iintro ⟨⟨%f0, H0⟩, Hg⟩
  isplitl [H0]
  · iexists f0
    rw [owns_whole]
    isplitr; · ipureintro; exact h0 _ _
    iexact H0
  iexact Hg

/-- And back. -/
theorem inv_out (S : Sch F) (c : Dev nD) : (rd m S c).Φ (Fin.last cfg0.N) ⊢ (Pipeline.ΦA spec0 c : sProp 𝕄) := by
  rw [show (rd m S c).Φ (Fin.last cfg0.N) = InvP S c (Fin.last cfg0.N) from rfl]
  unfold Pipeline.ΦA InvP
  rw [scopedRest0_eq]
  simp only [owns_whole]
  iintro ⟨⟨%acc, -, H0⟩, Hg⟩
  isplitl [H0]
  · iexists _; iexact H0
  iexact Hg

set_option backward.isDefEq.respectTransparency.types false in
/-- The run: from any memory with zero counters, every weakly fair execution terminates with every counter at zero and with the
    windows' arrays as the relations say. -/
theorem run_main (S : Sch F) (hS : S.Keeps m) (h0 : ∀ c acc, S.inv c 0 acc) :
    θ_run defs (onTc (τ := τ) (main (F := F))) (s₀ m ρ)
      (fun r => RDat.FramePost (cfgs 0) (rd m S) (V m) r ∧ r.2.sem = fun _ => 0) :=
  Pipeline.RDat.θ_run_frame_track_shared (Q' := _) cfgs (0 : Fin 1) launch0.to₀ defs₀ Variants.none (rd m S) m ρ main
    (hbody := body_obligation m S hS) (hq := fun _ _ _ => rfl) (howed := fun _ _ => rfl) (V := V m) (hmain := hmain m Variants.none)
    (hA := fun _ _ => rfl) (hin := inv_in m S h0) (hout := inv_out m S) (hQ' := fun _ h => h)

/-- The run leaves the kernel's arguments as launched. -/
theorem args_kept {S : Sch F} {r : PUnit × MemSt nD τ sig (Elt F)} (h : RDat.FramePost (cfgs 0) (rd m S) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (h.arr_in c 4 rfl).trans (V_main_arg4 m c),
    ((h c).2 main_arg5 (Pipeline.mem_restRefs_of main_arg5 (by decide) (by decide))).trans (V_main_arg5 m c)⟩

/-- Nothing said of scratch and results. -/
def anySch : Sch F := ⟨fun _ _ _ => True, fun _ _ _ _ => True, fun _ _ _ _ => True, fun _ _ _ _ => True, fun _ _ _ _ => True⟩

/-- The frame: the run terminates, leaves its arguments as launched and every counter at zero. -/
theorem frame_run : θ_run defs (onTc (τ := τ) (main (F := F))) (s₀ m ρ) (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨args_kept m h.1, h.2⟩)
    (run_main m ρ anySch (fun _ _ _ _ => ⟨trivial, trivial, trivial, trivial, trivial⟩) fun _ _ => trivial)

end Cert.OprojIdeal.Hand

end
-- ==== Proof.OprojSame.lean ====
/-
  The output projection over the machine's floats is the same program as over the extended reals, so its frame is the same.
-/
module

public import proofs.«01_k».proof.Proof.Gen.Oproj.Frame
public import proofs.«01_k».proof.Proof.OprojIdealRun

@[expose] public section

set_option maxRecDepth 65536

noncomputable section

namespace Cert.Oproj.Hand

open Idealize.ShloMosaic Idealize.ShloMosaic.TcCoe Idealize.SL.Sem

variable {F : FTy → Type} [FloatOps F]

theorem body_eq : Cert.Oproj.cc0_oproj (F := F) = Cert.OprojIdeal.cc0_oproj (F := F) := rfl

theorem main_eq : Cert.Oproj.main (F := F) = Cert.OprojIdeal.main (F := F) := rfl

set_option maxHeartbeats 4000000 in
theorem defs₀_eq : Cert.Oproj.defs₀ (F := F) = Cert.OprojIdeal.defs₀ (F := F) := by
  unfold Cert.Oproj.defs₀ Cert.OprojIdeal.defs₀
  refine congrArg _ ?_
  funext l x
  match l, x with
  | 0, (t, s) =>
    show Cert.Oproj.cc0_oproj (F := F) _ _ _ _ _ _ _ _ _ _ _ _ _ _ _ _ _ _ _ _ _ _ _ = _
    rw [body_eq]
    rfl

theorem defs_eq : Cert.Oproj.defs (F := F) = Cert.OprojIdeal.defs (F := F) := by
  unfold Cert.Oproj.defs Cert.OprojIdeal.defs
  exact congrArg (Pipeline.defs _) defs₀_eq

/-- The frame of the kernel. -/
theorem frame_run (m : (ℓ : Loc Cert.Oproj.nD Cert.Oproj.τ Cert.Oproj.sig) → Buf (Elt F) ℓ) (ρ : Dev Cert.Oproj.nD → PrngReg) :
    θ_run (Cert.Oproj.defs (F := F)) (onTc (τ := Cert.Oproj.τ) (Cert.Oproj.main (F := F))) ⟨m, fun _ => 0, ρ⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0) := by
  rw [defs_eq, main_eq]
  exact Cert.OprojIdeal.Hand.frame_run m ρ

end Cert.Oproj.Hand

end
-- ==== Proof.OprojSpec.lean ====
/-
  What the output projection computes, as functions of its arguments at natural indices: the residual stream, its rows
  normalised by their root mean square, their scales, and their codes.
-/
module

public import proofs.«01_k».proof.Proof.MlpArr
public import proofs.«01_k».proof.Proof.Cells

@[expose] public section

noncomputable section

namespace Cert.OprojSpec

open Cert.MlpSpec (lit aabs scaleOf quantOf num ext2)
open Idealize.ShloMosaic Idealize.ShloMosaic.ValueIdx
open Finset

/-- The arguments: the codes `c` and row scales `s` of the attention output, the codes `w` and column scales `so` of the
    weight, the residual input `x`, and the gains `g`. -/
structure Arr where
  c : ℕ → ℕ → EReal
  s : ℕ → EReal
  w : ℕ → ℕ → EReal
  so : ℕ → EReal
  x : ℕ → ℕ → EReal
  g : ℕ → EReal

variable (a : Arr)

/-- The product of the codes. -/
def dot (r d : ℕ) : EReal := lit 0x00000000#32 + ∑ k ∈ range 2048, a.c r k * a.w k d

/-- The residual stream after the projection. -/
def h1 (r d : ℕ) : EReal := a.x r d + dot a r d * a.s r * a.so d

/-- The root of a mean square plus a small constant, from the sum of squares. -/
def rootOf (m : EReal) : EReal := Ideal.sqrt (Ideal.div m (lit 0x45000000#32) + lit 0x3727C5AC#32)

/-- The normalised rows. -/
def v (r d : ℕ) : EReal := Ideal.div (h1 a r d) (rootOf (∑ k : Fin 2048, h1 a r k * h1 a r k)) * a.g d

/-- A row's scale. -/
def sc (r : ℕ) : EReal := scaleOf (Finset.fold max (lit 0xFF800000#32) (fun d : Fin 2048 => aabs (v a r d)) univ)

/-- The codes, as numbers. -/
def q (r d : ℕ) : EReal := quantOf (v a r d) (sc a r)

/-- The six argument arrays as one `Arr`. -/
def arrOf (A0 : Vec Ideal (⟨2, ![4608, 2048]⟩ : Shape) .i8) (A1 : Vec Ideal (⟨2, ![4608, 1]⟩ : Shape) .f32)
    (A2 : Vec Ideal (⟨3, ![16, 128, 2048]⟩ : Shape) .i8) (A3 : Vec Ideal (⟨1, ![2048]⟩ : Shape) .f32)
    (A4 : Vec Ideal (⟨2, ![4608, 2048]⟩ : Shape) .bf16) (A5 : Vec Ideal (⟨1, ![2048]⟩ : Shape) .f32) : Arr where
  c r k := ext2 (fun r k => num (A0 (ix2 r k))) r k
  s r := ext2 (fun r k => A1 (ix2 r k)) r 0
  w k d := ext2 (P := 2048) (Q := 2048) (fun k d => num (A2 (ix3 ⟨k.val / 128, by omega⟩ ⟨k.val % 128, by omega⟩ d))) k d
  so d := ext2 (P := 2048) (Q := 1) (fun d _ => A3 (ix1 d)) d 0
  x r d := ext2 (fun r d => A4 (ix2 r d)) r d
  g d := ext2 (P := 2048) (Q := 1) (fun d _ => A5 (ix1 d)) d 0

/-- The three results, as arrays: the residual stream, the codes, and the scales in blocks of 256 rows. -/
def resH (a : Arr) : Vec Ideal (⟨2, ![4608, 2048]⟩ : Shape) .f32 := fun e => h1 a (e 0).val (e 1).val
def resXc (a : Arr) : Vec Ideal (⟨2, ![4608, 2048]⟩ : Shape) .i8 := fun e => Ideal.fptosi 8 (q a (e 0).val (e 1).val)
def resXs (a : Arr) : Vec Ideal (⟨3, ![18, 1, 256]⟩ : Shape) .f32 := fun e => sc a (256 * (e 0).val + (e 2).val)

/-- The weight with its two leading axes joined, at an entry. -/
theorem joined {α : Type} (X : (⟨3, ![16, 128, 2048]⟩ : Shape).Idx → α) (h) (k d : Fin 2048) :
    shapeCast (⟨2, ![2048, 2048]⟩ : Shape) X h (ix2 k d) = X (ix3 ⟨k.val / 128, by omega⟩ ⟨k.val % 128, by omega⟩ d) :=
  shapeCast_apply X _ (ix2 k d) (ix3 ⟨k.val / 128, by omega⟩ ⟨k.val % 128, by omega⟩ d) (by
    rw [Shape.rowMajor_val_three, Shape.rowMajor_val_two]
    show (k.val / 128 * 128 + k.val % 128) * 2048 + d.val = k.val * 2048 + d.val
    rw [Nat.div_add_mod'])

end Cert.OprojSpec

end
-- ==== Proof.OprojRows.lean ====
/-
  Rows of a matrix normalised by their root mean square and quantised, at an entry, for any number of rows.
-/
module

public import proofs.«01_k».proof.Proof.OprojSpec
public import proofs.«01_k».proof.Proof.Cells
public import proofs.«01_k».proof.Proof.RowMax

@[expose] public section

set_option maxRecDepth 65536

noncomputable section

namespace Cert.OprojSpec

open Cert.MlpSpec (lit aabs scaleOf quantOf num)
open Cert.Cells
open Idealize.ShloMosaic Idealize.ShloMosaic.ValueIdx
open Finset

/-- The sum of each row of a matrix. -/
theorem rowSum {P Q : ℕ} (src : FVec Ideal (⟨2, ![P, Q]⟩ : Shape) .f32) (acc : BitVec 32)
    (h : (⟨2, ![P, Q]⟩ : Shape).Reduces [1] (⟨1, ![P]⟩ : Shape)) (hφ : FKind.Formats .f32) (hacc : acc = FKind.add.neutral .f32 hφ)
    (r : Fin P) (g : Fin Q → EReal) (hg : ∀ c, src (ix2 r c) = g c) :
    multiReduction .add [1] (⟨1, ![P]⟩ : Shape) src acc h hφ hacc (ix1 r) = ∑ c, g c := by
  refine (Ideal.multiReduction_add_single src acc h hφ hacc (ix1 r)).trans ?_
  refine Finset.sum_congr rfl fun k _ => ?_
  refine Eq.trans (congrArg src ?_) (hg k)
  funext d; apply Fin.ext
  fin_cases d <;> rfl

variable {P : ℕ}

/-- A vector as a column. -/
theorem asColumn {α : Type} (x : (⟨1, ![P]⟩ : Shape).Idx → α) (h) (r : Fin P) : shapeCast (⟨2, ![P, 1]⟩ : Shape) x h (ix2 r 0) = x (ix1 r) :=
  shapeCast_apply x h (ix2 r 0) (ix1 r) (by rw [Shape.rowMajor_val_two, Shape.rowMajor_val_one]; show r.val = r.val * 1 + 0; omega)

theorem root_form (X : FVec Ideal (⟨2, ![P, 1]⟩ : Shape) .f32) (z) :
    sqrt (addf (divf X (broadcast (⟨2, ![P, 1]⟩ : Shape) (Scalar.ofBits .f32 0x45000000#32))) (broadcast (⟨2, ![P, 1]⟩ : Shape) (Scalar.ofBits .f32 0x3727C5AC#32))) z
      = rootOf (X z) := rfl

theorem sq_form (X : FVec Ideal (⟨2, ![P, 2048]⟩ : Shape) .f32) (z) : mulf X X z = X z * X z := rfl

/-- The roots of the rows' mean squares, as a column. -/
theorem root_apply (H : FVec Ideal (⟨2, ![P, 2048]⟩ : Shape) .f32) (hr hφ hacc hc) (r : Fin P) (f : Fin 2048 → EReal) (hf : ∀ d, H (ix2 r d) = f d) :
    sqrt (addf (divf (shapeCast (⟨2, ![P, 1]⟩ : Shape) (multiReduction (F := Ideal) (φ := .f32) .add [1] (⟨1, ![P]⟩ : Shape) (mulf H H) 0x00000000#32 hr hφ hacc) hc)
        (broadcast (⟨2, ![P, 1]⟩ : Shape) (Scalar.ofBits .f32 0x45000000#32))) (broadcast (⟨2, ![P, 1]⟩ : Shape) (Scalar.ofBits .f32 0x3727C5AC#32))) (ix2 r 0)
      = rootOf (∑ d, f d * f d) := by
  rw [root_form, asColumn, rowSum (mulf H H) _ hr hφ hacc r (fun d => f d * f d) (fun d => by rw [sq_form, hf])]

theorem norm_form (H R G : FVec Ideal (⟨2, ![P, 2048]⟩ : Shape) .f32) (z) : mulf (divf H R) G z = Ideal.div (H z) (R z) * G z := rfl

/-- The normalised rows. -/
theorem norm_apply (H : FVec Ideal (⟨2, ![P, 2048]⟩ : Shape) .f32) (R : FVec Ideal (⟨2, ![P, 1]⟩ : Shape) .f32) (g : FVec Ideal (⟨2, ![1, 2048]⟩ : Shape) .f32)
    (hb hs hb') (r : Fin P) (d : Fin 2048) :
    mulf (divf H (broadcastTo (⟨2, ![P, 2048]⟩ : Shape) R hb)) (broadcastTo (⟨2, ![P, 2048]⟩ : Shape) (shapeCast (⟨2, ![1, 2048]⟩ : Shape) g hs) hb') (ix2 r d)
      = Ideal.div (H (ix2 r d)) (R (ix2 r 0)) * g (ix2 0 d) := by
  rw [norm_form, bcastCol, bcastRow, cast22]

theorem abs_form (X : FVec Ideal (⟨2, ![P, 2048]⟩ : Shape) .f32) (z) : absf X z = aabs (X z) := rfl

/-- The rows' largest magnitudes, as a column. -/
theorem amax_apply (V : FVec Ideal (⟨2, ![P, 2048]⟩ : Shape) .f32) (hr hφ hacc hc) (r : Fin P) (f : Fin 2048 → EReal) (hf : ∀ d, V (ix2 r d) = f d) :
    shapeCast (⟨2, ![P, 1]⟩ : Shape) (multiReduction (F := Ideal) (φ := .f32) .maximumf [1] (⟨1, ![P]⟩ : Shape) (absf V) 0xFF800000#32 hr hφ hacc) hc (ix2 r 0)
      = Finset.fold max (lit 0xFF800000#32) (fun d => aabs (f d)) univ := by
  rw [asColumn]
  exact rowMax (absf V) _ hr hφ hacc r (fun d => aabs (f d)) (fun d => by rw [abs_form, hf])

/-- The scales from the largest magnitudes. -/
theorem scale_form (X : FVec Ideal (⟨2, ![P, 1]⟩ : Shape) .f32) (z) :
    select (cmpf .oeq X (broadcast (⟨2, ![P, 1]⟩ : Shape) (Scalar.ofBits .f32 0x00000000#32))) (broadcast (⟨2, ![P, 1]⟩ : Shape) (Scalar.ofBits .f32 0x3F800000#32))
      (divf X (broadcast (⟨2, ![P, 1]⟩ : Shape) (Scalar.ofBits .f32 0x42FE0000#32))) z = scaleOf (X z) := rfl

theorem code_form (V B : FVec Ideal (⟨2, ![P, 2048]⟩ : Shape) .f32) (z) :
    fptosi 8 (minimumf (broadcast (⟨2, ![P, 2048]⟩ : Shape) (Scalar.ofBits .f32 0x42FE0000#32))
      (maximumf (broadcast (⟨2, ![P, 2048]⟩ : Shape) (Scalar.ofBits .f32 0xC2FE0000#32)) (roundeven (divf V B)))) z = Ideal.fptosi 8 (quantOf (V z) (B z)) := rfl

/-- The codes from the rows and their scales. -/
theorem code_apply (V : FVec Ideal (⟨2, ![P, 2048]⟩ : Shape) .f32) (S : FVec Ideal (⟨2, ![P, 1]⟩ : Shape) .f32) (hb) (r : Fin P) (d : Fin 2048) :
    fptosi 8 (minimumf (broadcast (⟨2, ![P, 2048]⟩ : Shape) (Scalar.ofBits .f32 0x42FE0000#32))
      (maximumf (broadcast (⟨2, ![P, 2048]⟩ : Shape) (Scalar.ofBits .f32 0xC2FE0000#32)) (roundeven (divf V (broadcastTo (⟨2, ![P, 2048]⟩ : Shape) S hb))))) (ix2 r d)
      = Ideal.fptosi 8 (quantOf (V (ix2 r d)) (S (ix2 r 0))) := by
  rw [code_form, bcastCol]

theorem resid_form (X D A S : FVec Ideal (⟨2, ![P, 2048]⟩ : Shape) .f32) (z) : addf X (mulf (mulf D A) S) z = X z + D z * A z * S z := rfl

theorem extf_form (X : FVec Ideal (⟨2, ![P, 2048]⟩ : Shape) .bf16) (h) (z) : extf .f32 X h z = X z := rfl

end Cert.OprojSpec

end
-- ==== Proof.OprojIdealVal.lean ====
/-
  One point of the output projection, entry by entry: the products it writes and the rows it finishes.
-/
module

public import proofs.«01_k».proof.Proof.OprojIdealStep
public import proofs.«01_k».proof.Proof.OprojRows

@[expose] public section

set_option maxRecDepth 65536

noncomputable section

namespace Cert.OprojIdeal.Hand

open Cert.OprojIdeal Cert.OprojIdeal.Gen Cert.OprojSpec Cert.Cells
open Cert.MlpSpec (lit aabs scaleOf quantOf num ext2 ext2_of ext2_fin)
open Idealize.ShloMosaic Idealize.ShloMosaic.ValueIdx
open Finset

/-- The input windows at point `n`: the codes of block row `n`, and the residual input and scales of the block row before. -/
structure Good (a : Arr) (n : ℕ) (x : Ins Ideal) : Prop where
  c : n < 18 → ∀ (r : Fin 256) (k : Fin 2048), num (x.a (ix2 r k)) = a.c (256 * n + r) k
  w : ∀ k d : Fin 2048, num (x.w (ix2 k d)) = a.w k d
  s : 0 < n → ∀ (r : Fin 256) (l : Fin 128), x.asb (ix2 r l) = a.s (256 * (n - 1) + r)
  so : ∀ d : Fin 2048, x.so (ix2 0 d) = a.so d
  g : ∀ d : Fin 2048, x.g (ix2 0 d) = a.g d
  x : 0 < n → ∀ (r : Fin 256) (d : Fin 2048), x.x (ix2 r d) = a.x (256 * (n - 1) + r) d

/-- A product with 256 columns of the weight, at an entry. -/
theorem dotO_apply (A : Vec Ideal S256x2048 .i8) (w : Vec Ideal S2048x256 .i8) (r : Fin 256) (c : Fin 256) :
    dotO A w (ix2 r c) = lit 0x00000000#32 + ∑ k : Fin 2048, num (A (ix2 r k)) * num (w (ix2 k c)) := by
  unfold dotO
  refine (Ideal.matmul_plain_apply (M := 256) (K := 2048) (N := 256) none _ _ _ r c).trans ?_
  refine congrArg (lit 0x00000000#32 + ·) (Finset.sum_congr rfl fun k _ => ?_)
  exact congrArg (num (A (ix2 r k)) * ·) (congrArg num (cast22 w shapeCasts_S2048x256_S2048x256 k c))

/-- The product of the window's codes with the whole weight. -/
def whole (x : Ins Ideal) (r : Fin 256) (d : Fin 2048) : EReal := lit 0x00000000#32 + ∑ k : Fin 2048, num (x.a (ix2 r k)) * num (x.w (ix2 k d))

/-- The scratch buffer after a point's product: the half the point writes holds it, the other half is as before. -/
theorem prod_eq (i : grid0.Coords) (x : Ins Ideal) (acc : Vec Ideal S2x256x2048 .f32) (b : Fin 2) (r : Fin 256) (d : Fin 2048) :
    prod i x acc (ix3 b r d) = if b.val = cur i then whole x r d else acc (ix3 b r d) := by
  have tile : ∀ (o : ℕ) (ho : o + 256 ≤ 2048) (i1) (h' : Vec Ideal S2x256x2048 .f32),
      VecWindow.put h' ![cur i, 0, o] S1x256x256.size
          (shapeCast S1x256x256 (dotO x.a (VecWindow.window x.w ![0, o] S2048x256.size i1)) shapeCasts_S256x256_S1x256x256) (ix3 b r d)
        = if cur i ≤ b.val ∧ b.val < cur i + 1 ∧ 0 ≤ r.val ∧ r.val < 0 + 256 ∧ o ≤ d.val ∧ d.val < o + 256 then whole x r d else h' (ix3 b r d) := by
    intro o ho i1 h'
    refine (put3 h' (cur i) 0 o _ (fun _ r d => ext2 (whole x) r d) (fun b' r' c' => ?_) b r d).trans ?_
    · refine (cast23 _ _ b' r' c').trans ((dotO_apply _ _ r' c').trans ?_)
      show _ = ext2 (whole x) (0 + r'.val) (o + c'.val)
      rw [Nat.zero_add]
      refine Eq.trans ?_ (ext2_of (whole x) r'.isLt (show o + c'.val < 2048 by omega)).symm
      unfold whole
      refine congrArg (lit 0x00000000#32 + ·) (Finset.sum_congr rfl fun k _ => ?_)
      refine congrArg (num (x.a (ix2 r' k)) * ·) (congrArg num ?_)
      refine (window2 x.w 0 o i1 k c' (by omega) (by omega)).trans ?_
      congr 2; apply Fin.ext; show 0 + k.val = k.val; omega
    · show (if _ then ext2 (whole x) r.val d.val else _) = _
      rw [ext2_fin]
  have hd := d.isLt; have hr := r.isLt
  unfold prod
  rw [tile 1792 (by decide), tile 1536 (by decide), tile 1280 (by decide), tile 1024 (by decide), tile 768 (by decide), tile 512 (by decide),
    tile 256 (by decide), tile 0 (by decide)]
  by_cases hb : b.val = cur i
  · rw [if_pos hb]
    split_ifs <;> first | (exfalso; omega) | rfl
  · rw [if_neg hb]
    split_ifs <;> first | (exfalso; omega) | rfl

variable {a : Arr} {n : ℕ} {x : Ins Ideal}

/-- At a point before the last the product is that of the point's rows. -/
theorem whole_eq (hx : Good a n x) (h : n < 18) (r : Fin 256) (d : Fin 2048) : whole x r d = dot a (256 * n + r) d := by
  rw [whole, dot, Finset.sum_range]
  refine congrArg _ (Finset.sum_congr rfl fun k _ => ?_)
  rw [hx.c h, hx.w]

/-- 32 rows of the residual stream. -/
theorem resid_eq (hx : Good a n x) (h0 : 0 < n) (i : grid0.Coords) (acc : Vec Ideal S2x256x2048 .f32)
    (hacc : ∀ (b : Fin 2) (r : Fin 256) (d : Fin 2048), b.val = prev i → acc (ix3 b r d) = dot a (256 * (n - 1) + r) d)
    (o : ℕ) (ho : o + 32 ≤ 256) (i1 i2 i3) (r : Fin 32) (d : Fin 2048) :
    resid (VecWindow.window x.asb ![o, 0] S32x1.size i1) (VecWindow.window x.x ![o, 0] S32x2048.size i2)
      (VecWindow.window acc ![prev i, o, 0] S1x32x2048.size i3) x.so (ix2 r d) = h1 a (256 * (n - 1) + o + r) d := by
  have hp : prev i < 2 := Nat.mod_lt _ (by decide)
  have e1 : broadcastTo S32x2048 (shapeCast S32x1 (VecWindow.window x.asb ![o, 0] S32x1.size i1) shapeCasts_S32x1_S32x1) broadcasts_S32x1_S32x2048 (ix2 r d)
      = a.s (256 * (n - 1) + o + r) := by
    refine (bcastCol _ _ r d).trans ((cast22 _ _ r 0).trans ((window2 x.asb o 0 i1 r (0 : Fin 1) (by omega) (by decide)).trans ?_))
    refine (hx.s h0 ⟨o + r.val, by omega⟩ ⟨0, by decide⟩).trans ?_
    rw [Nat.add_assoc]
  have e2 : VecWindow.window x.x ![o, 0] S32x2048.size i2 (ix2 r d) = a.x (256 * (n - 1) + o + r) d := by
    refine (window2 x.x o 0 i2 r d (by omega) (by omega)).trans ((hx.x h0 ⟨o + r.val, by omega⟩ ⟨0 + d.val, by omega⟩).trans ?_)
    show a.x (256 * (n - 1) + (o + r.val)) (0 + d.val) = _
    rw [Nat.zero_add, Nat.add_assoc]
  have e3 : shapeCast S32x2048 (VecWindow.window acc ![prev i, o, 0] S1x32x2048.size i3) shapeCasts_S1x32x2048_S32x2048 (ix2 r d) = dot a (256 * (n - 1) + o + r) d := by
    refine (cast32 _ _ r d).trans ((window3 acc (prev i) o 0 i3 (0 : Fin 1) r d (by show prev i + 0 < 2; omega) (by omega) (by omega)).trans ?_)
    refine (hacc ⟨prev i + (0 : Fin 1).val, by show prev i + 0 < 2; omega⟩ ⟨o + r.val, by omega⟩ ⟨0 + d.val, by omega⟩ rfl).trans ?_
    show dot a (256 * (n - 1) + (o + r.val)) (0 + d.val) = _
    rw [Nat.zero_add, Nat.add_assoc]
  have e4 : broadcastTo S32x2048 (shapeCast S1x2048 x.so shapeCasts_S1x2048_S1x2048) broadcasts_S1x2048_S32x2048 (ix2 r d) = a.so d :=
    (bcastRow _ _ r d).trans ((cast22 x.so _ 0 d).trans (hx.so d))
  unfold resid
  refine (resid_form _ _ _ _ _).trans ?_
  rw [extf_form, e1, e2, e3, e4, h1]

section
variable {H : FVec Ideal S32x2048 .f32} {g : Vec Ideal S1x2048 .f32} {R : ℕ}
  (hH : ∀ (r : Fin 32) (d : Fin 2048), H (ix2 r d) = h1 a (R + r) d) (hg : ∀ d : Fin 2048, g (ix2 0 d) = a.g d)
include hH hg

/-- The normalised rows. -/
theorem normed_eq (r : Fin 32) (d : Fin 2048) : normed H g (ix2 r d) = v a (R + r) d := by
  have e : rms H (ix2 r 0) = rootOf (∑ k : Fin 2048, h1 a (R + r) k * h1 a (R + r) k) :=
    root_apply H _ _ _ _ r (fun k : Fin 2048 => h1 a (R + r) k) (fun k => hH r k)
  unfold normed
  refine (norm_apply H (rms H) g _ _ _ r d).trans ?_
  rw [e, hH, hg, v]

/-- The rows' scales. -/
theorem scl_eq (r : Fin 32) : scl (normed H g) (ix2 r 0) = sc a (R + r) := by
  have e : rowAmax (normed H g) (ix2 r 0) = Finset.fold max (lit 0xFF800000#32) (fun d : Fin 2048 => aabs (v a (R + r) d)) univ :=
    amax_apply (normed H g) _ _ _ _ r (fun d : Fin 2048 => v a (R + r) d) (fun d => normed_eq hH hg r d)
  unfold scl
  refine (scale_form (rowAmax (normed H g)) _).trans ?_
  rw [e, sc]

/-- The codes. -/
theorem code_eq (r : Fin 32) (d : Fin 2048) : code (normed H g) (ix2 r d) = Ideal.fptosi 8 (q a (R + r) d) := by
  unfold code
  refine (code_apply (normed H g) (scl (normed H g)) _ r d).trans ?_
  rw [normed_eq hH hg, scl_eq hH hg, q]

/-- The scales in lanes. -/
theorem lanes_eq (r : Fin 32) (l : Fin 128) : lanes (normed H g) (ix2 r l) = sc a (R + r) := by
  unfold lanes
  exact (bcastCol _ _ r l).trans ((cast22 _ _ r 0).trans (scl_eq hH hg r))

end

/-- A block written by 32 rows at a time: the tile at row `o`, the rows above already written. -/
theorem rowTile {α : Type} {Q : ℕ} {G : ℕ → ℕ → α} (r : Fin 256) (d : Fin Q) (o : ℕ) (T : (⟨2, ![32, Q]⟩ : Shape).Idx → α)
    (hT : ∀ (r : Fin 32) (c : Fin Q), T (ix2 r c) = G (o + r) c) (h' : (⟨2, ![256, Q]⟩ : Shape).Idx → α)
    (hlt : r.val < o + 32) (hrest : r.val < o → h' (ix2 r d) = G r d) :
    VecWindow.put h' ![o, 0] (⟨2, ![32, Q]⟩ : Shape).size T (ix2 r d) = G r d := by
  have hd := d.isLt
  refine (put2 h' o 0 T G (fun r c => by rw [Nat.zero_add]; exact hT r c) r d).trans ?_
  by_cases c : o ≤ r.val
  · exact if_pos ⟨c, hlt, Nat.zero_le _, by omega⟩
  · exact (if_neg fun k => c k.1).trans (hrest (by omega))

section
variable (hx : Good a n x) (h0 : 0 < n) (i : grid0.Coords) (acc : Vec Ideal S2x256x2048 .f32)
  (hacc : ∀ (b : Fin 2) (r : Fin 256) (d : Fin 2048), b.val = prev i → acc (ix3 b r d) = dot a (256 * (n - 1) + r) d)
include hx h0 hacc

theorem hT0_eq (r : Fin 32) (d : Fin 2048) : hT0 i x acc (ix2 r d) = h1 a (256 * (n - 1) + 0 + r) d := resid_eq hx h0 i acc hacc 0 (by decide) _ _ _ r d
theorem hT1_eq (r : Fin 32) (d : Fin 2048) : hT1 i x acc (ix2 r d) = h1 a (256 * (n - 1) + 32 + r) d := resid_eq hx h0 i acc hacc 32 (by decide) _ _ _ r d
theorem hT2_eq (r : Fin 32) (d : Fin 2048) : hT2 i x acc (ix2 r d) = h1 a (256 * (n - 1) + 64 + r) d := resid_eq hx h0 i acc hacc 64 (by decide) _ _ _ r d
theorem hT3_eq (r : Fin 32) (d : Fin 2048) : hT3 i x acc (ix2 r d) = h1 a (256 * (n - 1) + 96 + r) d := resid_eq hx h0 i acc hacc 96 (by decide) _ _ _ r d
theorem hT4_eq (r : Fin 32) (d : Fin 2048) : hT4 i x acc (ix2 r d) = h1 a (256 * (n - 1) + 128 + r) d := resid_eq hx h0 i acc hacc 128 (by decide) _ _ _ r d
theorem hT5_eq (r : Fin 32) (d : Fin 2048) : hT5 i x acc (ix2 r d) = h1 a (256 * (n - 1) + 160 + r) d := resid_eq hx h0 i acc hacc 160 (by decide) _ _ _ r d
theorem hT6_eq (r : Fin 32) (d : Fin 2048) : hT6 i x acc (ix2 r d) = h1 a (256 * (n - 1) + 192 + r) d := resid_eq hx h0 i acc hacc 192 (by decide) _ _ _ r d
theorem hT7_eq (r : Fin 32) (d : Fin 2048) : hT7 i x acc (ix2 r d) = h1 a (256 * (n - 1) + 224 + r) d := resid_eq hx h0 i acc hacc 224 (by decide) _ _ _ r d

/-- The block of the residual stream. -/
theorem fin_h1_eq (old : Vec Ideal S256x2048 .f32) (r : Fin 256) (d : Fin 2048) : fin_h1 i x acc old (ix2 r d) = h1 a (256 * (n - 1) + r) d := by
  have hr := r.isLt
  have K : ∀ (o : ℕ) (T : FVec Ideal S32x2048 .f32) (hT : ∀ (r : Fin 32) (d : Fin 2048), T (ix2 r d) = h1 a (256 * (n - 1) + o + r) d)
      (h' : Vec Ideal S256x2048 .f32) (hlt : r.val < o + 32) (hrest : r.val < o → h' (ix2 r d) = h1 a (256 * (n - 1) + r) d),
      VecWindow.put h' ![o, 0] S32x2048.size T (ix2 r d) = h1 a (256 * (n - 1) + r) d := fun o T hT h' hlt hrest =>
    rowTile (G := fun r d => h1 a (256 * (n - 1) + r) d) r d o T (fun r c => by rw [hT, Nat.add_assoc]) h' hlt hrest
  unfold fin_h1
  refine K 224 _ (hT7_eq hx h0 i acc hacc) _ (by omega) fun h7 => ?_
  refine K 192 _ (hT6_eq hx h0 i acc hacc) _ (by omega) fun h6 => ?_
  refine K 160 _ (hT5_eq hx h0 i acc hacc) _ (by omega) fun h5 => ?_
  refine K 128 _ (hT4_eq hx h0 i acc hacc) _ (by omega) fun h4 => ?_
  refine K 96 _ (hT3_eq hx h0 i acc hacc) _ (by omega) fun h3 => ?_
  refine K 64 _ (hT2_eq hx h0 i acc hacc) _ (by omega) fun h2 => ?_
  refine K 32 _ (hT1_eq hx h0 i acc hacc) _ (by omega) fun h1 => ?_
  refine K 0 _ (hT0_eq hx h0 i acc hacc) _ (by omega) fun h => absurd h (Nat.not_lt_zero _)

/-- The block of the codes. -/
theorem fin_xc_eq (old : Vec Ideal S256x2048 .i8) (r : Fin 256) (d : Fin 2048) : fin_xc i x acc old (ix2 r d) = Ideal.fptosi 8 (q a (256 * (n - 1) + r) d) := by
  have hr := r.isLt
  have K : ∀ (o : ℕ) (T : FVec Ideal S32x2048 .f32) (hT : ∀ (r : Fin 32) (d : Fin 2048), T (ix2 r d) = h1 a (256 * (n - 1) + o + r) d)
      (h' : Vec Ideal S256x2048 .i8) (hlt : r.val < o + 32) (hrest : r.val < o → h' (ix2 r d) = Ideal.fptosi 8 (q a (256 * (n - 1) + r) d)),
      VecWindow.put h' ![o, 0] S32x2048.size (code (normed T x.g)) (ix2 r d) = Ideal.fptosi 8 (q a (256 * (n - 1) + r) d) := fun o T hT h' hlt hrest =>
    rowTile (G := fun r d => Ideal.fptosi 8 (q a (256 * (n - 1) + r) d)) r d o _ (fun r c => by rw [code_eq hT hx.g, Nat.add_assoc]) h' hlt hrest
  unfold fin_xc
  refine K 224 _ (hT7_eq hx h0 i acc hacc) _ (by omega) fun h7 => ?_
  refine K 192 _ (hT6_eq hx h0 i acc hacc) _ (by omega) fun h6 => ?_
  refine K 160 _ (hT5_eq hx h0 i acc hacc) _ (by omega) fun h5 => ?_
  refine K 128 _ (hT4_eq hx h0 i acc hacc) _ (by omega) fun h4 => ?_
  refine K 96 _ (hT3_eq hx h0 i acc hacc) _ (by omega) fun h3 => ?_
  refine K 64 _ (hT2_eq hx h0 i acc hacc) _ (by omega) fun h2 => ?_
  refine K 32 _ (hT1_eq hx h0 i acc hacc) _ (by omega) fun h1 => ?_
  refine K 0 _ (hT0_eq hx h0 i acc hacc) _ (by omega) fun h => absurd h (Nat.not_lt_zero _)

/-- The block of the scales in lanes. -/
theorem fin_xsb_eq (old : Vec Ideal S256x128 .f32) (r : Fin 256) (l : Fin 128) : fin_xsb i x acc old (ix2 r l) = sc a (256 * (n - 1) + r) := by
  have hr := r.isLt
  have K : ∀ (o : ℕ) (T : FVec Ideal S32x2048 .f32) (hT : ∀ (r : Fin 32) (d : Fin 2048), T (ix2 r d) = h1 a (256 * (n - 1) + o + r) d)
      (h' : Vec Ideal S256x128 .f32) (hlt : r.val < o + 32) (hrest : r.val < o → h' (ix2 r l) = sc a (256 * (n - 1) + r)),
      VecWindow.put h' ![o, 0] S32x128.size (lanes (normed T x.g)) (ix2 r l) = sc a (256 * (n - 1) + r) := fun o T hT h' hlt hrest =>
    rowTile (G := fun r _ => sc a (256 * (n - 1) + r)) r l o _ (fun r c => by rw [lanes_eq hT hx.g, Nat.add_assoc]) h' hlt hrest
  unfold fin_xsb
  refine K 224 _ (hT7_eq hx h0 i acc hacc) _ (by omega) fun h7 => ?_
  refine K 192 _ (hT6_eq hx h0 i acc hacc) _ (by omega) fun h6 => ?_
  refine K 160 _ (hT5_eq hx h0 i acc hacc) _ (by omega) fun h5 => ?_
  refine K 128 _ (hT4_eq hx h0 i acc hacc) _ (by omega) fun h4 => ?_
  refine K 96 _ (hT3_eq hx h0 i acc hacc) _ (by omega) fun h3 => ?_
  refine K 64 _ (hT2_eq hx h0 i acc hacc) _ (by omega) fun h2 => ?_
  refine K 32 _ (hT1_eq hx h0 i acc hacc) _ (by omega) fun h1 => ?_
  refine K 0 _ (hT0_eq hx h0 i acc hacc) _ (by omega) fun h => absurd h (Nat.not_lt_zero _)

end

/-- The row of scales written: the first lane's column. -/
theorem scaleRow_eq {R : ℕ} (s : Vec Ideal S256x128 .f32) (hs : ∀ (r : Fin 256) (l : Fin 128), s (ix2 r l) = sc a (R + r)) (u w : Fin 1) (r : Fin 256) :
    k0_pay8 s (ix3 u w r) = sc a (R + r) := by
  unfold k0_pay8
  refine (cast23 _ _ u w r).trans ?_
  refine Eq.trans ?_ (hs r 0)
  refine Eq.trans ?_ (cast22 s shapeCasts_S256x128_S256x128 r 0)
  unfold extractStridedSlice transpose
  refine congrArg (shapeCast S256x128 s shapeCasts_S256x128_S256x128) ?_
  funext d; apply Fin.ext
  fin_cases d
  · show 0 + r.val = r.val; omega
  · show 0 + w.val = 0; omega

end Cert.OprojIdeal.Hand

end
-- ==== Proof.OprojIdealInv.lean ====
/-
  What the output projection keeps in its scratch buffer from point to point, and what each point leaves in its results.
-/
module

public import proofs.«01_k».proof.Proof.OprojIdealVal

@[expose] public section

set_option maxRecDepth 65536

noncomputable section

namespace Cert.OprojIdeal.Hand

open Cert.OprojIdeal Cert.OprojIdeal.Gen Cert.OprojSpec
open Idealize.ShloMosaic Idealize.ShloMosaic.ValueIdx

variable {a : Arr}

/-- Before point `n` the half of the scratch buffer that the point reads holds the product of block row `n - 1`. -/
def Inv (a : Arr) (n : ℕ) (acc : Vec Ideal S2x256x2048 .f32) : Prop :=
  0 < n → n ≤ 18 → ∀ (b : Fin 2) (r : Fin 256) (d : Fin 2048), b.val = (n + 1) % 2 → acc (ix3 b r d) = dot a (256 * (n - 1) + r) d

/-- Point `n` of the grid: the halves it writes and reads and which conditionals it takes. -/
structure At (g : grid0.Coords) (n : ℕ) : Prop where
  le : n ≤ 18
  cur : cur g = n % 2
  prev : prev g = (n + 1) % 2
  c1 : k0_cond1 g = 1#1 ↔ n = 0
  c2 : k0_cond2 g = 1#1 ↔ 0 < n

theorem at_coords : ∀ t : Fin grid0.N, At (grid0.coords t) t.val := by
  have H : ∀ t : Fin grid0.N, cur (grid0.coords t) = t.val % 2 ∧ prev (grid0.coords t) = (t.val + 1) % 2
      ∧ (k0_cond1 (grid0.coords t) = 1#1 ↔ t.val = 0) ∧ (k0_cond2 (grid0.coords t) = 1#1 ↔ 0 < t.val) := by decide +kernel
  intro t
  obtain ⟨a1, a2, a3, a4⟩ := H t
  have ht : t.val < 19 := t.isLt
  exact ⟨by omega, a1, a2, a3, a4⟩

variable {n : ℕ} {g : grid0.Coords} {x : Ins Ideal}

/-- One point: the invariant at the next point, and the blocks of the results. -/
theorem step_keeps (hg : At g n) (hx : Good a n x) (s : St Ideal) (hI : Inv a n s.acc) :
    Inv a (n + 1) (step g x s).acc
    ∧ (0 < n → ∀ (r : Fin 256) (d : Fin 2048), (step g x s).h1 (ix2 r d) = h1 a (256 * (n - 1) + r) d)
    ∧ (0 < n → ∀ (r : Fin 256) (d : Fin 2048), (step g x s).xc (ix2 r d) = Ideal.fptosi 8 (q a (256 * (n - 1) + r) d))
    ∧ (0 < n → ∀ (u w : Fin 1) (r : Fin 256), (step g x s).xs (ix3 u w r) = sc a (256 * (n - 1) + r)) := by
  have hn := hg.le
  have hprod : Inv a (n + 1) (prod g x s.acc) := by
    intro _ h18 b r d hb
    rw [prod_eq, if_pos (by rw [hg.cur]; omega)]
    exact whole_eq hx (by omega) r d
  by_cases h0 : n = 0
  · have e : step g x s = { s with acc := prod g x s.acc } := by
      unfold step step4 step3 step2 step1
      have n2 : ¬ k0_cond2 g = 1#1 := fun k => absurd (hg.c2.1 k) (by omega)
      rw [if_neg n2, if_neg n2, if_neg n2, if_pos (hg.c1.2 h0)]
    rw [e]
    exact ⟨hprod, fun k => absurd k (by omega), fun k => absurd k (by omega), fun k => absurd k (by omega)⟩
  · have hp : 0 < n := by omega
    have hacc : ∀ (b : Fin 2) (r : Fin 256) (d : Fin 2048), b.val = prev g → prod g x s.acc (ix3 b r d) = dot a (256 * (n - 1) + r) d := by
      intro b r d hb
      have hb' := hg.prev
      rw [prod_eq, if_neg (by rw [hg.cur]; omega)]
      exact hI hp hn b r d (by omega)
    have e : step g x s = { h1 := fin_h1 g x (prod g x s.acc) s.h1, xc := fin_xc g x (prod g x s.acc) s.xc, xs := k0_pay8 (fin_xsb g x (prod g x s.acc) s.xsb), xsb := fin_xsb g x (prod g x s.acc) s.xsb, acc := prod g x s.acc } := by
      unfold step step4 step3 step2 step1
      have p2 := hg.c2.2 hp
      rw [if_pos p2, if_pos p2, if_pos p2, if_neg (fun k => h0 (hg.c1.1 k))]
    rw [e]
    exact ⟨hprod, fun _ r d => fin_h1_eq hx hp g _ hacc _ r d, fun _ r d => fin_xc_eq hx hp g _ hacc _ r d,
      fun _ u w r => scaleRow_eq _ (fun r l => fin_xsb_eq hx hp g _ hacc _ r l) u w r⟩

end Cert.OprojIdeal.Hand

end
-- ==== Proof.OprojIdealIn.lean ====
/-
  What the output projection's input windows hold at each point of the grid.
-/
module

public import proofs.«01_k».proof.Proof.OprojIdealRun
public import proofs.«01_k».proof.Proof.OprojIdealInv
public import Idealize.ShloMosaic.Lib.Pipeline.ValueKit.Basic
public import Idealize.ShloMosaic.Lib.Pipeline.ValueKit.Geometry
public import Idealize.ShloMosaic.Lib.Pipeline.ValueKit.Point

@[expose] public section

set_option maxRecDepth 65536

noncomputable section

namespace Cert.OprojIdeal.Hand

open Cert.OprojIdeal Cert.OprojIdeal.Gen Cert.OprojSpec
open Cert.MlpSpec (num ext2 ext2_of ext2_fin)
open Idealize.ShloMosaic Idealize.ShloMosaic.TcCoe

variable (m : (ℓ : Loc nD τ sig) → Buf (Elt Ideal) ℓ) (c : Dev nD)

/-- The launched arguments. -/
def arr : Arr := arrOf (m (c, main_arg0)) (m (c, main_arg1)) (m (c, main_arg2)) (m (c, main_arg3)) (m (c, main_arg4)) (m (c, main_arg5))

theorem N19 (t : Fin cfg0.N) : t.val < 19 := t.isLt

theorem idx0 : ∀ t : Fin grid0.N, win0_0.index t 0 = min t.val 17 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val - 1 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val - 1 ∧ win0_4.index t 1 = 0 := by decide +kernel
theorem idx5 : ∀ t : Fin grid0.N, win0_5.index t 0 = 0 ∧ win0_5.index t 1 = 0 := by decide +kernel

theorem read0 (t : Fin cfg0.N) (h : t.val < 18) (r : Fin 256) (k : Fin 2048) :
    iblk m c 0 t (ValueIdx.ix2 r k) = m (c, main_arg0) (ValueIdx.ix2 ⟨256 * t.val + r.val, by omega⟩ k) := by
  have e := idx0 t
  blk_ext [iblk, V]
  · show win0_0.index t 0 * 256 + r.val = 256 * t.val + r.val; rw [e.1]; omega
  · show win0_0.index t 1 * 2048 + k.val = k.val; rw [e.2]; omega

theorem read1 (t : Fin cfg0.N) (k d : Fin 2048) :
    iblk m c 1 t (ValueIdx.ix2 k d) = m (c, main_arg2) (ValueIdx.ix3 ⟨k.val / 128, by omega⟩ ⟨k.val % 128, by omega⟩ d) := by
  have e := idx1 t
  have e' : ((cfg0.win 1).blk t).view.emb (ValueIdx.ix2 k d) = ValueIdx.ix2 k d := by
    blk_ext
  show V m c main_v1 (((cfg0.win 1).blk t).view.emb (ValueIdx.ix2 k d)) = _
  rw [e']
  entry_read
  exact joined _ _ k d

theorem read2 (t : Fin cfg0.N) (r : Fin 256) (l : Fin 128) :
    iblk m c 2 t (ValueIdx.ix2 r l) = m (c, main_arg1) (ValueIdx.ix2 ⟨256 * (t.val - 1) + r.val, by have := N19 t; omega⟩ 0) := by
  have e := idx2 t
  have ht := N19 t
  have e' : ((cfg0.win 2).blk t).view.emb (ValueIdx.ix2 r l) = ValueIdx.ix2 ⟨256 * (t.val - 1) + r.val, by omega⟩ l := by
    blk_ext
    · show win0_2.index t 0 * 256 + r.val = 256 * (t.val - 1) + r.val; rw [e.1]; omega
    · show win0_2.index t 1 * 128 + l.val = l.val; rw [e.2]; omega
  show V m c main_v0 (((cfg0.win 2).blk t).view.emb (ValueIdx.ix2 r l)) = _
  rw [e']
  entry_read
  refine congrArg (m (c, main_arg1)) ?_
  funext a; apply Fin.ext
  fin_cases a <;> rfl

theorem read3 (t : Fin cfg0.N) (d : Fin 2048) : iblk m c 3 t (ValueIdx.ix2 0 d) = m (c, main_arg3) (ValueIdx.ix1 d) := by
  have e := idx3 t
  have e' : ((cfg0.win 3).blk t).view.emb (ValueIdx.ix2 0 d) = ValueIdx.ix2 0 d := by
    blk_ext
    all_goals first
      | (show win0_3.index t 0 * 1 + 0 = 0; rw [e.1])
      | (show win0_3.index t 1 * 2048 + d.val = d.val; rw [e.2]; omega)
  show V m c main_v2 (((cfg0.win 3).blk t).view.emb (ValueIdx.ix2 0 d)) = _
  rw [e']
  entry_read
  exact shapeCast_apply _ _ (ValueIdx.ix2 0 d) (ValueIdx.ix1 d) (by
    rw [Shape.rowMajor_val_two, Shape.rowMajor_val_one]; show d.val = 0 * 2048 + d.val; omega)

theorem read4 (t : Fin cfg0.N) (r : Fin 256) (d : Fin 2048) :
    iblk m c 4 t (ValueIdx.ix2 r d) = m (c, main_arg4) (ValueIdx.ix2 ⟨256 * (t.val - 1) + r.val, by have := N19 t; omega⟩ d) := by
  have e := idx4 t
  blk_ext [iblk, V]
  · show win0_4.index t 0 * 256 + r.val = 256 * (t.val - 1) + r.val; rw [e.1]; omega
  · show win0_4.index t 1 * 2048 + d.val = d.val; rw [e.2]; omega

theorem read5 (t : Fin cfg0.N) (d : Fin 2048) : iblk m c 5 t (ValueIdx.ix2 0 d) = m (c, main_arg5) (ValueIdx.ix1 d) := by
  have e := idx5 t
  have e' : ((cfg0.win 5).blk t).view.emb (ValueIdx.ix2 0 d) = ValueIdx.ix2 0 d := by
    blk_ext
    all_goals first
      | (show win0_5.index t 0 * 1 + 0 = 0; rw [e.1])
      | (show win0_5.index t 1 * 2048 + d.val = d.val; rw [e.2]; omega)
  show V m c main_v3 (((cfg0.win 5).blk t).view.emb (ValueIdx.ix2 0 d)) = _
  rw [e']
  entry_read
  exact shapeCast_apply _ _ (ValueIdx.ix2 0 d) (ValueIdx.ix1 d) (by
    rw [Shape.rowMajor_val_two, Shape.rowMajor_val_one]; show d.val = 0 * 2048 + d.val; omega)

/-- At every point the input windows hold the arguments' blocks. -/
theorem good (t : Fin cfg0.N) : Good (arr m c) t.val (ins m c t) where
  c h r k := by
    refine (congrArg num (read0 m c t h r k)).trans ?_
    exact (ext2_of (fun r k => num (m (c, main_arg0) (ValueIdx.ix2 r k))) _ k.isLt).symm
  w k d := by
    refine (congrArg num (read1 m c t k d)).trans ?_
    exact (ext2_of (P := 2048) (Q := 2048) (fun k d => num (m (c, main_arg2) (ValueIdx.ix3 ⟨k.val / 128, by omega⟩ ⟨k.val % 128, by omega⟩ d))) k.isLt d.isLt).symm
  s _ r l := (read2 m c t r l).trans (ext2_of (Q := 1) (fun r l => m (c, main_arg1) (ValueIdx.ix2 r l)) _ (by decide)).symm
  so d := (read3 m c t d).trans (ext2_of (Q := 1) (fun d _ => m (c, main_arg3) (ValueIdx.ix1 d)) d.isLt (by decide)).symm
  x _ r d := (read4 m c t r d).trans (ext2_of (fun r d => m (c, main_arg4) (ValueIdx.ix2 r d)) _ d.isLt).symm
  g d := (read5 m c t d).trans (ext2_of (Q := 1) (fun d _ => m (c, main_arg5) (ValueIdx.ix1 d)) d.isLt (by decide)).symm

end Cert.OprojIdeal.Hand
end
-- ==== Proof.OprojIdealOut.lean ====
/-
  The output projection's three result arrays are the reference's functions of its arguments.
-/
module

public import proofs.«01_k».proof.Proof.OprojIdealIn
public import Idealize.ShloMosaic.Lib.Pipeline.ArrRel

@[expose] public section

set_option maxRecDepth 65536

noncomputable section

namespace Cert.OprojIdeal.Hand

open Cert.OprojIdeal Cert.OprojIdeal.Gen Cert.OprojSpec
open Idealize.ShloMosaic Idealize.ShloMosaic.TcCoe
open Idealize.SL Idealize.SL.RA Idealize.SL.Sem
open Idealize.ShloMosaic.Pipeline (RDat Dat)

attribute [local irreducible] OprojSpec.sc OprojSpec.q OprojSpec.h1

variable (m : (ℓ : Loc nD τ sig) → Buf (Elt Ideal) ℓ) (ρ : Dev nD → PrngReg)

/-- What is kept of the scratch buffer, and what each point but the first leaves in the result blocks: the rows of the
    block before it. -/
def sch : Sch Ideal where
  inv c t acc := Inv (arr m c) t.val acc
  r6 c t _ X := 0 < t.val → ∀ (r : Fin 256) (d : Fin 2048), X (ValueIdx.ix2 r d) = h1 (arr m c) (256 * (t.val - 1) + r) d
  r7 c t _ X := 0 < t.val → ∀ (r : Fin 256) (d : Fin 2048), X (ValueIdx.ix2 r d) = Ideal.fptosi 8 (q (arr m c) (256 * (t.val - 1) + r) d)
  r8 c t _ X := 0 < t.val → ∀ (u w : Fin 1) (r : Fin 256), X (ValueIdx.ix3 u w r) = sc (arr m c) (256 * (t.val - 1) + r)
  r9 _ _ _ _ := True

/-- Every point keeps it. -/
theorem keeps : (sch m).Keeps m := by
  intro c t s hI
  have k := step_keeps (at_coords t) (good m c t) s hI
  exact ⟨k.1, k.2.1, k.2.2.1, k.2.2.2, trivial⟩

theorem start (c : Dev nD) (acc) : (sch m).inv c 0 acc := fun k => absurd k (Nat.lt_irrefl _)

theorem idx6 : ∀ t : Fin grid0.N, win0_6.index t 0 = t.val - 1 ∧ win0_6.index t 1 = 0 ∧ (win0_6.flush t = true → 0 < t.val) := by decide +kernel
theorem idx7 : ∀ t : Fin grid0.N, win0_7.index t 0 = t.val - 1 ∧ win0_7.index t 1 = 0 ∧ (win0_7.flush t = true → 0 < t.val) := by decide +kernel
theorem idx8 : ∀ t : Fin grid0.N, win0_8.index t 0 = t.val - 1 ∧ win0_8.index t 1 = 0 ∧ win0_8.index t 2 = 0 ∧ (win0_8.flush t = true → 0 < t.val) := by decide +kernel

section
variable {m}
variable {r : PUnit × MemSt nD τ sig (Elt Ideal)} (h : RDat.FramePost (cfgs 0) (rd m (sch m)) (V m) r) (c : Dev nD)
include h

/-- The residual stream. -/
theorem final_h : r.2.mem ((c.tc : Thread nD τ).loc main_v4_0) = resH (arr m c) := by
  obtain ⟨after, hL, hA⟩ := h.exists_exact c
  refine (hA 6).trans ?_
  refine Dat.arrAt_eq_of_covers (cfg := cfg0) ((rd m (sch m) c).withAfter after) 6 (resH (arr m c)) (by decide +kernel) fun t hf e => ?_
  obtain ⟨Y, _, hY⟩ := hL 6 t hf
  have i6 := idx6 t
  have ht := N19 t
  have hY' := hY (i6.2.2 hf)
  have k : ∀ (r : Fin 256) (d : Fin 2048), (ValueIdx.ix2 r d : S256x2048.Idx) = e →
      ((win0_6.blk t).view.emb e : S4608x2048.Idx) = ValueIdx.ix2 ⟨256 * (t.val - 1) + r.val, by omega⟩ d := by
    rintro r d rfl
    blk_ext
    · show win0_6.index t 0 * 256 + r.val = 256 * (t.val - 1) + r.val; rw [i6.1]; omega
    · show win0_6.index t 1 * 2048 + d.val = d.val; rw [i6.2.1]; omega
  obtain ⟨r, d, hrd⟩ : ∃ (r : Fin 256) (d : Fin 2048), (ValueIdx.ix2 r d : S256x2048.Idx) = e := ⟨e 0, e 1, by funext a; fin_cases a <;> rfl⟩
  have k' := k r d hrd
  blk_simp
  refine Eq.trans ?_ ((hY' r d).trans ?_)
  · rw [hrd]; rfl
  · exact (congrArg (resH (arr m c)) k').symm

/-- The codes. -/
theorem final_xc : r.2.mem ((c.tc : Thread nD τ).loc main_v4_1) = resXc (arr m c) := by
  obtain ⟨after, hL, hA⟩ := h.exists_exact c
  refine (hA 7).trans ?_
  refine Dat.arrAt_eq_of_covers (cfg := cfg0) ((rd m (sch m) c).withAfter after) 7 (resXc (arr m c)) (by decide +kernel) fun t hf e => ?_
  obtain ⟨Y, _, hY⟩ := hL 7 t hf
  have i7 := idx7 t
  have ht := N19 t
  have hY' := hY (i7.2.2 hf)
  have k : ∀ (r : Fin 256) (d : Fin 2048), (ValueIdx.ix2 r d : S256x2048.Idx) = e →
      ((win0_7.blk t).view.emb e : S4608x2048.Idx) = ValueIdx.ix2 ⟨256 * (t.val - 1) + r.val, by omega⟩ d := by
    rintro r d rfl
    blk_ext
    · show win0_7.index t 0 * 256 + r.val = 256 * (t.val - 1) + r.val; rw [i7.1]; omega
    · show win0_7.index t 1 * 2048 + d.val = d.val; rw [i7.2.1]; omega
  obtain ⟨r, d, hrd⟩ : ∃ (r : Fin 256) (d : Fin 2048), (ValueIdx.ix2 r d : S256x2048.Idx) = e := ⟨e 0, e 1, by funext a; fin_cases a <;> rfl⟩
  have k' := k r d hrd
  blk_simp
  refine Eq.trans ?_ ((hY' r d).trans ?_)
  · rw [hrd]; rfl
  · exact (congrArg (resXc (arr m c)) k').symm

/-- The scales. -/
theorem final_xs : r.2.mem ((c.tc : Thread nD τ).loc main_v4_2) = resXs (arr m c) := by
  obtain ⟨after, hL, hA⟩ := h.exists_exact c
  refine (hA 8).trans ?_
  refine Dat.arrAt_eq_of_covers (cfg := cfg0) ((rd m (sch m) c).withAfter after) 8 (resXs (arr m c)) (by decide +kernel) fun t hf e => ?_
  obtain ⟨Y, _, hY⟩ := hL 8 t hf
  have i8 := idx8 t
  have ht := N19 t
  have hY' := hY (i8.2.2.2 hf)
  have k : ∀ (u w : Fin 1) (r : Fin 256), (ValueIdx.ix3 u w r : S1x1x256.Idx) = e →
      ((win0_8.blk t).view.emb e : S18x1x256.Idx) = ValueIdx.ix3 ⟨t.val - 1, by omega⟩ 0 r := by
    rintro u w r rfl
    blk_ext
    show win0_8.index t 2 * 256 + r.val = r.val; rw [i8.2.2.1]; omega
  obtain ⟨u, w, r, huw⟩ : ∃ (u w : Fin 1) (r : Fin 256), (ValueIdx.ix3 u w r : S1x1x256.Idx) = e := ⟨e 0, e 1, e 2, by funext a; fin_cases a <;> rfl⟩
  have k' := k u w r huw
  blk_simp
  refine Eq.trans ?_ ((hY' u w r).trans ?_)
  · rw [huw]; rfl
  · exact (congrArg (resXs (arr m c)) k').symm

end

/-- The run: it terminates, leaves in the three results the reference's functions of the arguments, and the arguments as
    launched. -/
theorem value_run : θ_run defs (onTc (τ := τ) (main (F := Ideal))) (s₀ m ρ) (fun r => ∀ c : Dev nD,
    (r.2.mem ((c.tc : Thread nD τ).loc main_v4_0) = resH (arr m c)
      ∧ r.2.mem ((c.tc : Thread nD τ).loc main_v4_1) = resXc (arr m c)
      ∧ r.2.mem ((c.tc : Thread nD τ).loc main_v4_2) = resXs (arr m c))
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨⟨final_h h.1 c, final_xc h.1 c, final_xs h.1 c⟩, args_kept m h.1 c⟩)
    (run_main m ρ (sch m) (keeps m) (start m))

end Cert.OprojIdeal.Hand
end
-- ==== Proof.OprojRefPay.lean ====
/-
  What the output projection's reference computes, entry by entry.
-/
module

public import proofs.«01_k».proof.Proof.Gen.OprojRefIdeal.Skeleton
public import proofs.«01_k».proof.Proof.OprojRows

@[expose] public section

set_option maxRecDepth 65536

noncomputable section

namespace Cert.OprojRefIdeal.Hand

open Cert.OprojRefIdeal Cert.OprojRefIdeal.Gen Cert.OprojSpec Cert.Cells
open Cert.MlpSpec (lit aabs scaleOf quantOf num)
open Idealize.ShloMosaic Idealize.ShloMosaic.ValueIdx
open Finset

/-- The values the body loads are the arguments. -/
structure Loads (a : Arr) (v0 : Vec Ideal S4608x2048 .i8) (v2 : Vec Ideal S2048x2048 .i8) (v6 : Vec Ideal S4608x2048 .bf16) (v8 : Vec Ideal S4608x1 .f32)
    (v11 : Vec Ideal S1x2048 .f32) (v27 : Vec Ideal S1x2048 .f32) : Prop where
  c : ∀ (r : Fin 4608) (k : Fin 2048), num (v0 (ix2 r k)) = a.c r k
  s : ∀ r : Fin 4608, v8 (ix2 r 0) = a.s r
  w : ∀ k d : Fin 2048, num (v2 (ix2 k d)) = a.w k d
  so : ∀ d : Fin 2048, v11 (ix2 0 d) = a.so d
  x : ∀ (r : Fin 4608) (d : Fin 2048), v6 (ix2 r d) = a.x r d
  g : ∀ d : Fin 2048, v27 (ix2 0 d) = a.g d

/-- The product of the codes, as the body computes it. -/
def prod (v0 : Vec Ideal S4608x2048 .i8) (v2 : Vec Ideal S2048x2048 .i8) : FVec Ideal S4608x2048 .f32 :=
  matmul dot_S4608x2048_S2048x2048_S4608x2048_1_0_0_1_n_n none (sitofp (F := Ideal) .bf16 v0)
    (sitofp (F := Ideal) .bf16 (shapeCast S2048x2048 v2 shapeCasts_S2048x2048_S2048x2048)) (constant (F := Ideal) S4608x2048 .f32 0x00000000#32)

theorem prod_apply (v0 : Vec Ideal S4608x2048 .i8) (v2 : Vec Ideal S2048x2048 .i8) (r : Fin 4608) (d : Fin 2048) :
    prod v0 v2 (ix2 r d) = lit 0x00000000#32 + ∑ k : Fin 2048, num (v0 (ix2 r k)) * num (v2 (ix2 k d)) := by
  unfold prod
  refine (Ideal.matmul_plain_apply (M := 4608) (K := 2048) (N := 2048) none _ _ _ r d).trans ?_
  refine congrArg (lit 0x00000000#32 + ·) (Finset.sum_congr rfl fun k _ => ?_)
  exact congrArg (num (v0 (ix2 r k)) * ·) (congrArg num (cast22 v2 shapeCasts_S2048x2048_S2048x2048 k d))

/-- The roots of the rows' mean squares. -/
def rms (H : FVec Ideal S4608x2048 .f32) : FVec Ideal S4608x1 .f32 :=
  sqrt (addf (divf (shapeCast S4608x1 (multiReduction (F := Ideal) (φ := .f32) .add [1] S4608 (mulf H H) 0x00000000#32 reduces_S4608x2048_S4608 (.inl rfl) rfl) shapeCasts_S4608_S4608x1)
    (broadcast S4608x1 (Scalar.ofBits .f32 0x45000000#32))) (broadcast S4608x1 (Scalar.ofBits .f32 0x3727C5AC#32)))

/-- The rows' largest magnitudes. -/
def rowAmax (X : FVec Ideal S4608x2048 .f32) : FVec Ideal S4608x1 .f32 :=
  shapeCast S4608x1 (multiReduction (F := Ideal) (φ := .f32) .maximumf [1] S4608 (absf X) 0xFF800000#32 reduces_S4608x2048_S4608 (.inl rfl) rfl) shapeCasts_S4608_S4608x1

section
variable (v0 : Vec Ideal S4608x2048 .i8) (v2 : Vec Ideal S2048x2048 .i8) (v6 : Vec Ideal S4608x2048 .bf16) (v8 : Vec Ideal S4608x1 .f32)
  (v11 : Vec Ideal S1x2048 .f32) (v27 : Vec Ideal S1x2048 .f32)

theorem pay4_eq : k0_pay4 v0 v2 v6 v8 v11 = addf (extf .f32 v6 bitsLt_bf16_f32) (mulf (mulf (prod v0 v2) (broadcastTo S4608x2048 v8 broadcasts_S4608x1_S4608x2048))
    (broadcastTo S4608x2048 (shapeCast S1x2048 v11 shapeCasts_S1x2048_S1x2048) broadcasts_S1x2048_S4608x2048)) := rfl

theorem pay5_eq : k0_pay5 v0 v2 v6 v8 v11 v27 = mulf (divf (k0_pay4 v0 v2 v6 v8 v11) (broadcastTo S4608x2048 (rms (k0_pay4 v0 v2 v6 v8 v11)) broadcasts_S4608x1_S4608x2048))
    (broadcastTo S4608x2048 (shapeCast S1x2048 v27 shapeCasts_S1x2048_S1x2048) broadcasts_S1x2048_S4608x2048) := rfl

theorem pay6_eq : k0_pay6 v0 v2 v6 v8 v11 v27 = rowAmax (k0_pay5 v0 v2 v6 v8 v11 v27) := rfl

/-- The scales from the rows' largest magnitudes. -/
theorem pay1_eq : k0_pay1 (k0_pay7 v0 v2 v6 v8 v11 v27) (k0_pay8 v0 v2 v6 v8 v11 v27)
    = select (cmpf .oeq (k0_pay6 v0 v2 v6 v8 v11 v27) (broadcast S4608x1 (Scalar.ofBits .f32 0x00000000#32))) (broadcast S4608x1 (Scalar.ofBits .f32 0x3F800000#32))
      (divf (k0_pay6 v0 v2 v6 v8 v11 v27) (broadcast S4608x1 (Scalar.ofBits .f32 0x42FE0000#32))) := rfl

theorem pay2_eq (V : FVec Ideal S4608x2048 .f32) (p : IVec S4608x1 1) (z : FVec Ideal S4608x1 .f32) : k0_pay2 V p z
    = fptosi 8 (minimumf (broadcast S4608x2048 (Scalar.ofBits .f32 0x42FE0000#32))
      (maximumf (broadcast S4608x2048 (Scalar.ofBits .f32 0xC2FE0000#32)) (roundeven (divf V (broadcastTo S4608x2048 (k0_pay1 p z) broadcasts_S4608x1_S4608x2048))))) := rfl

end

section
variable {a : Arr} {v0 : Vec Ideal S4608x2048 .i8} {v2 : Vec Ideal S2048x2048 .i8} {v6 : Vec Ideal S4608x2048 .bf16} {v8 : Vec Ideal S4608x1 .f32}
  {v11 : Vec Ideal S1x2048 .f32} {v27 : Vec Ideal S1x2048 .f32} (h : Loads a v0 v2 v6 v8 v11 v27)
include h

/-- The residual stream. -/
theorem h1_eq (r : Fin 4608) (d : Fin 2048) : k0_pay4 v0 v2 v6 v8 v11 (ix2 r d) = h1 a r d := by
  have e : prod v0 v2 (ix2 r d) = dot a r d := by
    rw [prod_apply, dot, Finset.sum_range]
    refine congrArg _ (Finset.sum_congr rfl fun k _ => ?_)
    rw [h.c, h.w]
  rw [pay4_eq]
  refine (resid_form _ _ _ _ _).trans ?_
  rw [extf_form, e, bcastCol, bcastRow, cast22, h.s, h.so, h.x, h1]

/-- The normalised rows. -/
theorem v_eq (r : Fin 4608) (d : Fin 2048) : k0_pay5 v0 v2 v6 v8 v11 v27 (ix2 r d) = v a r d := by
  have e0 := h1_eq h
  rw [pay5_eq]
  generalize k0_pay4 v0 v2 v6 v8 v11 = H at e0 ⊢
  have e : rms H (ix2 r 0) = rootOf (∑ k : Fin 2048, h1 a r k * h1 a r k) :=
    root_apply H _ _ _ _ r (fun k : Fin 2048 => h1 a r k) (fun k => e0 r k)
  refine (norm_apply H (rms H) v27 _ _ _ r d).trans ?_
  rw [e, e0, h.g, v]

/-- The rows' scales. -/
theorem scale_eq (r : Fin 4608) : k0_pay1 (k0_pay7 v0 v2 v6 v8 v11 v27) (k0_pay8 v0 v2 v6 v8 v11 v27) (ix2 r 0) = sc a r := by
  have e0 := v_eq h
  have e6 := pay6_eq v0 v2 v6 v8 v11 v27
  rw [pay1_eq, e6]
  generalize k0_pay5 v0 v2 v6 v8 v11 v27 = X at e0 ⊢
  have e : rowAmax X (ix2 r 0) = Finset.fold max (lit 0xFF800000#32) (fun d : Fin 2048 => aabs (v a r d)) univ :=
    amax_apply X _ _ _ _ r (fun d : Fin 2048 => v a r d) (fun d => e0 r d)
  refine (scale_form (rowAmax X) _).trans ?_
  rw [e, sc]

/-- The codes. -/
theorem codes_eq (r : Fin 4608) (d : Fin 2048) :
    k0_pay2 (k0_pay5 v0 v2 v6 v8 v11 v27) (k0_pay7 v0 v2 v6 v8 v11 v27) (k0_pay8 v0 v2 v6 v8 v11 v27) (ix2 r d) = Ideal.fptosi 8 (q a r d) := by
  have e0 := v_eq h
  have e1 := scale_eq h r
  rw [pay2_eq]
  generalize k0_pay5 v0 v2 v6 v8 v11 v27 = X at e0 ⊢
  generalize k0_pay1 (k0_pay7 v0 v2 v6 v8 v11 v27) (k0_pay8 v0 v2 v6 v8 v11 v27) = S at e1 ⊢
  refine (code_apply X S _ r d).trans ?_
  rw [e0, e1, q]

/-- The scales laid out in blocks of 256 rows. -/
theorem scaleRows_eq (i : Fin 18) (u : Fin 1) (r : Fin 256) :
    k0_pay3 (k0_pay7 v0 v2 v6 v8 v11 v27) (k0_pay8 v0 v2 v6 v8 v11 v27) (ix3 i u r) = sc a (256 * i + r) := by
  refine Eq.trans ?_ (scale_eq h ⟨256 * i.val + r.val, by omega⟩)
  unfold k0_pay3
  generalize k0_pay1 (k0_pay7 v0 v2 v6 v8 v11 v27) (k0_pay8 v0 v2 v6 v8 v11 v27) = S
  exact shapeCast_apply _ shapeCasts_S4608x1_S18x1x256 (ix3 i u r) (ix2 ⟨256 * i.val + r.val, by omega⟩ 0) (by
    rw [Shape.rowMajor_val_two, Shape.rowMajor_val_three]
    show (256 * i.val + r.val) * 1 + 0 = (i.val * 1 + u.val) * 256 + r.val; omega)

end

end Cert.OprojRefIdeal.Hand

end
-- ==== Proof.OprojRefOut.lean ====
/-
  The output projection's reference: its three result arrays are functions of its arguments.
-/
module

public import proofs.«01_k».proof.Proof.Gen.OprojRefIdeal.Frame
public import proofs.«01_k».proof.Proof.OprojRefPay
public import Idealize.ShloMosaic.Lib.Pipeline.ValueKit.Basic
public import Idealize.ShloMosaic.Lib.Pipeline.ValueKit.Geometry
public import Idealize.ShloMosaic.Lib.Pipeline.ValueKit.Point

@[expose] public section

set_option maxRecDepth 65536

noncomputable section

namespace Cert.OprojRefIdeal.Hand

open Cert.OprojRefIdeal Cert.OprojRefIdeal.Gen Cert.OprojSpec Cert.Cells
open Cert.MlpSpec (num ext2 ext2_of ext2_fin)
open Idealize.ShloMosaic Idealize.ShloMosaic.TcCoe
open Idealize.SL.Sem
open Idealize.ShloMosaic.Pipeline (Dat)

attribute [local irreducible] OprojSpec.sc OprojSpec.q OprojSpec.h1

variable (m : (ℓ : Loc nD τ sig) → Buf (Elt Ideal) ℓ) (ρ : Dev nD → PrngReg) (c : Dev nD)

/-- The launched arguments. -/
def arr : Arr := arrOf (m (c, main_arg0)) (m (c, main_arg1)) (m (c, main_arg2)) (m (c, main_arg3)) (m (c, main_arg4)) (m (c, main_arg5))

theorem idx0 : ∀ t : Fin grid0.N, win0_0.index t 0 = 0 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 ∧ win0_8.index t 2 = 0 := by decide +kernel

theorem read0 (t : Fin cfg0.N) (r : Fin 4608) (k : Fin 2048) : iblk m c 0 t (ValueIdx.ix2 r k) = m (c, main_arg0) (ValueIdx.ix2 r k) := by
  have e := idx0 t
  blk_ext [iblk, V]

theorem read1 (t : Fin cfg0.N) (r : Fin 4608) : iblk m c 1 t (ValueIdx.ix2 r 0) = m (c, main_arg1) (ValueIdx.ix2 r 0) := by
  have e := idx1 t
  blk_ext [iblk, V]

theorem read2 (t : Fin cfg0.N) (k d : Fin 2048) :
    iblk m c 2 t (ValueIdx.ix2 k d) = m (c, main_arg2) (ValueIdx.ix3 ⟨k.val / 128, by omega⟩ ⟨k.val % 128, by omega⟩ d) := by
  have e := idx2 t
  have e' : ((cfg0.win 2).blk t).view.emb (ValueIdx.ix2 k d) = ValueIdx.ix2 k d := by
    blk_ext
  show V m c main_v0 (((cfg0.win 2).blk t).view.emb (ValueIdx.ix2 k d)) = _
  rw [e']
  entry_read
  exact joined _ _ k d

theorem read3 (t : Fin cfg0.N) (d : Fin 2048) : iblk m c 3 t (ValueIdx.ix2 0 d) = m (c, main_arg3) (ValueIdx.ix1 d) := by
  have e := idx3 t
  have e' : ((cfg0.win 3).blk t).view.emb (ValueIdx.ix2 0 d) = ValueIdx.ix2 0 d := by
    blk_ext
  show V m c main_v1 (((cfg0.win 3).blk t).view.emb (ValueIdx.ix2 0 d)) = _
  rw [e']
  entry_read
  exact shapeCast_apply _ _ (ValueIdx.ix2 0 d) (ValueIdx.ix1 d) (by
    rw [Shape.rowMajor_val_two, Shape.rowMajor_val_one]; show d.val = 0 * 2048 + d.val; omega)

theorem read4 (t : Fin cfg0.N) (r : Fin 4608) (d : Fin 2048) : iblk m c 4 t (ValueIdx.ix2 r d) = m (c, main_arg4) (ValueIdx.ix2 r d) := by
  have e := idx4 t
  blk_ext [iblk, V]

theorem read5 (t : Fin cfg0.N) (d : Fin 2048) : iblk m c 5 t (ValueIdx.ix2 0 d) = m (c, main_arg5) (ValueIdx.ix1 d) := by
  have e := idx5 t
  have e' : ((cfg0.win 5).blk t).view.emb (ValueIdx.ix2 0 d) = ValueIdx.ix2 0 d := by
    blk_ext
  show V m c main_v2 (((cfg0.win 5).blk t).view.emb (ValueIdx.ix2 0 d)) = _
  rw [e']
  entry_read
  exact shapeCast_apply _ _ (ValueIdx.ix2 0 d) (ValueIdx.ix1 d) (by
    rw [Shape.rowMajor_val_two, Shape.rowMajor_val_one]; show d.val = 0 * 2048 + d.val; omega)

/-- A load of a whole block is the block. -/
theorem whole0 {Val : EltTy → Type} {e : EltTy} (X : S4608x2048.Idx → Val e) : View.ld X r0_0 = X := View.ld_unit_lit _ X (by decide)
theorem whole1 {Val : EltTy → Type} {e : EltTy} (X : S2048x2048.Idx → Val e) : View.ld X r0_1 = X := View.ld_unit_lit _ X (by decide)
theorem whole2 {Val : EltTy → Type} {e : EltTy} (X : S4608x1.Idx → Val e) : View.ld X r0_2 = X := View.ld_unit_lit _ X (by decide)
theorem whole3 {Val : EltTy → Type} {e : EltTy} (X : S1x2048.Idx → Val e) : View.ld X r0_3 = X := View.ld_unit_lit _ X (by decide)

/-- What the body loads are the arguments. -/
theorem loads (t : Fin cfg0.N) : Loads (arr m c) (View.ld (iblk m c 0 t) r0_0) (View.ld (iblk m c 2 t) r0_1) (View.ld (iblk m c 4 t) r0_0)
    (View.ld (iblk m c 1 t) r0_2) (View.ld (iblk m c 3 t) r0_3) (View.ld (iblk m c 5 t) r0_3) where
  c r k := by
    refine (congrArg num (congrFun (whole0 (iblk m c 0 t)) (ValueIdx.ix2 r k))).trans ?_
    exact (congrArg num (read0 m c t r k)).trans (ext2_fin (fun r k => num (m (c, main_arg0) (ValueIdx.ix2 r k))) r k).symm
  s r := by
    refine (congrFun (whole2 (iblk m c 1 t)) (ValueIdx.ix2 r 0)).trans ?_
    exact (read1 m c t r).trans (ext2_of (Q := 1) (fun r l => m (c, main_arg1) (ValueIdx.ix2 r l)) r.isLt (by decide)).symm
  w k d := by
    refine (congrArg num (congrFun (whole1 (iblk m c 2 t)) (ValueIdx.ix2 k d))).trans ?_
    refine (congrArg num (read2 m c t k d)).trans ?_
    exact (ext2_of (P := 2048) (Q := 2048) (fun k d => num (m (c, main_arg2) (ValueIdx.ix3 ⟨k.val / 128, by omega⟩ ⟨k.val % 128, by omega⟩ d))) k.isLt d.isLt).symm
  so d := by
    refine (congrFun (whole3 (iblk m c 3 t)) (ValueIdx.ix2 0 d)).trans ?_
    exact (read3 m c t d).trans (ext2_of (Q := 1) (fun d _ => m (c, main_arg3) (ValueIdx.ix1 d)) d.isLt (by decide)).symm
  x r d := by
    refine (congrFun (whole0 (iblk m c 4 t)) (ValueIdx.ix2 r d)).trans ?_
    exact (read4 m c t r d).trans (ext2_fin (fun r d => m (c, main_arg4) (ValueIdx.ix2 r d)) r d).symm
  g d := by
    refine (congrFun (whole3 (iblk m c 5 t)) (ValueIdx.ix2 0 d)).trans ?_
    exact (read5 m c t d).trans (ext2_of (Q := 1) (fun d _ => m (c, main_arg5) (ValueIdx.ix1 d)) d.isLt (by decide)).symm

/-- The block of the residual stream. -/
theorem after_h (t : Fin cfg0.N) (r : Fin 4608) (d : Fin 2048) : (dats m 0 c).after 6 t (ValueIdx.ix2 r d) = h1 (arr m c) r d := by
  rw [after0_6]
  unfold out0_6
  rw [View.canon_cons_unit_lit _ _ _ (by decide)]
  exact h1_eq (loads m c t) r d

/-- The block of the codes. -/
theorem after_xc (t : Fin cfg0.N) (r : Fin 4608) (d : Fin 2048) : (dats m 0 c).after 7 t (ValueIdx.ix2 r d) = Ideal.fptosi 8 (q (arr m c) r d) := by
  rw [after0_7]
  unfold out0_7 k0_pay9 k0_pay10
  rw [View.canon_cons_unit_lit _ _ _ (by decide)]
  exact codes_eq (loads m c t) r d

/-- The block of the scales. -/
theorem after_xs (t : Fin cfg0.N) (i : Fin 18) (u : Fin 1) (r : Fin 256) : (dats m 0 c).after 8 t (ValueIdx.ix3 i u r) = sc (arr m c) (256 * i + r) := by
  rw [after0_8]
  unfold out0_8 k0_pay9 k0_pay10
  rw [View.canon_cons_unit_lit _ _ _ (by decide)]
  exact scaleRows_eq (loads m c t) i u r

/-- The residual stream. -/
theorem final_h : (dats m 0 c).arrAt 6 cfg0.N = resH (arr m c) := by
  refine Dat.arrAt_eq_of_covers (cfg := cfg0) (dats m 0 c) 6 (resH (arr m c)) (by decide +kernel) fun t hf e => ?_
  have i6 := idx6 t
  have k : ∀ (r : Fin 4608) (d : Fin 2048), (ValueIdx.ix2 r d : S4608x2048.Idx) = e →
      ((win0_6.blk t).view.emb e : S4608x2048.Idx) = ValueIdx.ix2 r d := by
    rintro r d rfl
    blk_ext
  obtain ⟨r, d, hrd⟩ : ∃ (r : Fin 4608) (d : Fin 2048), (ValueIdx.ix2 r d : S4608x2048.Idx) = e := ⟨e 0, e 1, by funext a; fin_cases a <;> rfl⟩
  have k' := k r d hrd
  blk_simp
  refine Eq.trans ?_ ((after_h m c t r d).trans ?_)
  · rw [hrd]
  · exact (congrArg (resH (arr m c)) k').symm

/-- The codes. -/
theorem final_xc : (dats m 0 c).arrAt 7 cfg0.N = resXc (arr m c) := by
  refine Dat.arrAt_eq_of_covers (cfg := cfg0) (dats m 0 c) 7 (resXc (arr m c)) (by decide +kernel) fun t hf e => ?_
  have i7 := idx7 t
  have k : ∀ (r : Fin 4608) (d : Fin 2048), (ValueIdx.ix2 r d : S4608x2048.Idx) = e →
      ((win0_7.blk t).view.emb e : S4608x2048.Idx) = ValueIdx.ix2 r d := by
    rintro r d rfl
    blk_ext
  obtain ⟨r, d, hrd⟩ : ∃ (r : Fin 4608) (d : Fin 2048), (ValueIdx.ix2 r d : S4608x2048.Idx) = e := ⟨e 0, e 1, by funext a; fin_cases a <;> rfl⟩
  have k' := k r d hrd
  blk_simp
  refine Eq.trans ?_ ((after_xc m c t r d).trans ?_)
  · rw [hrd]
  · exact (congrArg (resXc (arr m c)) k').symm

/-- The scales. -/
theorem final_xs : (dats m 0 c).arrAt 8 cfg0.N = resXs (arr m c) := by
  refine Dat.arrAt_eq_of_covers (cfg := cfg0) (dats m 0 c) 8 (resXs (arr m c)) (by decide +kernel) fun t hf e => ?_
  have i8 := idx8 t
  have k : ∀ (i : Fin 18) (u : Fin 1) (r : Fin 256), (ValueIdx.ix3 i u r : S18x1x256.Idx) = e →
      ((win0_8.blk t).view.emb e : S18x1x256.Idx) = ValueIdx.ix3 i u r := by
    rintro i u r rfl
    blk_ext
  obtain ⟨i, u, r, hur⟩ : ∃ (i : Fin 18) (u : Fin 1) (r : Fin 256), (ValueIdx.ix3 i u r : S18x1x256.Idx) = e := ⟨e 0, e 1, e 2, by funext a; fin_cases a <;> rfl⟩
  have k' := k i u r hur
  blk_simp
  refine Eq.trans ?_ ((after_xs m c t i u r).trans ?_)
  · rw [hur]
  · exact (congrArg (resXs (arr m c)) k').symm

/-- The run leaves the arguments as launched. -/
theorem args_kept {r : PUnit × MemSt nD τ sig (Elt Ideal)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have kept : ∀ w : Fin cfg0.W, (cfg0.win w).isOut = false → r.2.mem ((c : Thread nD τ).loc (Pipeline.arrRef spec0 w)) = V m c (Pipeline.arrRef spec0 w) :=
    fun w hw => ((h c).1 w).trans (((dats m 0 c).arrAt_in w hw _).trans (A_eq m c w))
  exact ⟨(kept 0 rfl).trans (V_main_arg0 m c), (kept 1 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (kept 4 rfl).trans (V_main_arg4 m c),
    ((h c).2 main_arg5 (Pipeline.mem_restRefs_of main_arg5 (by decide) (by decide))).trans (V_main_arg5 m c)⟩

/-- The run: it terminates, leaves in the three results the functions of the arguments, and the arguments as launched. -/
theorem value_run : θ_run defs (onTc (τ := τ) (main (F := Ideal))) (s₀ m ρ) (fun r => ∀ c : Dev nD,
    (r.2.mem ((c.tc : Thread nD τ).loc main_v3_0) = resH (arr m c)
      ∧ r.2.mem ((c.tc : Thread nD τ).loc main_v3_1) = resXc (arr m c)
      ∧ r.2.mem ((c.tc : Thread nD τ).loc main_v3_2) = resXs (arr m c))
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨⟨((h c).1 6).trans (final_h m c), ((h c).1 7).trans (final_xc m c), ((h c).1 8).trans (final_xs m c)⟩, args_kept m h c⟩) (run_main m ρ)

end Cert.OprojRefIdeal.Hand

end
-- ==== Proof.OprojEq.lean ====
/-
  Kernel and reference of the output projection leave the same results.
-/
module

public import proofs.«01_k».proof.Defs
public import proofs.«01_k».proof.Proof.OprojIdealOut
public import proofs.«01_k».proof.Proof.OprojRefOut

@[expose] public section

set_option maxRecDepth 65536

noncomputable section

namespace Cert.OprojHand

open Idealize.ShloMosaic Idealize.SL.Sem

/-- The reference's run terminates, leaves the arguments as launched, and every semaphore at zero. -/
theorem ref_frame (hF : Cert.OprojRefIdeal.Facts) : Cert.quiescent_OprojRefIdeal (hOprojRefIdeal := hF) := by
  intro m g _
  refine (θ_run _ _ _).mono (fun r h => ⟨fun c => ?_, h.2⟩) (Cert.OprojRefIdeal.Gen.run_main_quiescent m g)
  exact Cert.OprojRefIdeal.Hand.args_kept m h.1 c

/-- From the same arguments the two runs end with equal results. -/
theorem equal : Cert.algebraic_OprojIdeal_OprojRefIdeal (hOprojIdeal := Cert.OprojIdeal.Gen.facts) (hOprojRefIdeal := Cert.OprojRefIdeal.Gen.facts) := by
  intro m g m' g' _ hm
  have e : ∀ c, Cert.OprojRefIdeal.Hand.arr m' c = Cert.OprojIdeal.Hand.arr m c := by
    intro c
    obtain ⟨h0, h1, h2, h3, h4, h5⟩ := hm c
    unfold Cert.OprojRefIdeal.Hand.arr Cert.OprojIdeal.Hand.arr
    exact congr (congr (congr (congr (congr (congrArg Cert.OprojSpec.arrOf h0) h1) h2) h3) h4) h5
  refine ⟨fun c => Cert.OprojSpec.resH (Cert.OprojIdeal.Hand.arr m c), fun c => Cert.OprojSpec.resXc (Cert.OprojIdeal.Hand.arr m c),
    fun c => Cert.OprojSpec.resXs (Cert.OprojIdeal.Hand.arr m c), ?_, ?_⟩
  · refine (θ_run _ _ _).mono (fun r h c => ?_) (Cert.OprojIdeal.Hand.value_run m g)
    exact ⟨(h c).1.1, (h c).1.2.1, (h c).1.2.2, (h c).2⟩
  · refine (θ_run _ _ _).mono (fun r h c => ?_) (Cert.OprojRefIdeal.Hand.value_run m' g')
    have k := h c
    rw [e c] at k
    exact ⟨k.1.1, k.1.2.1, k.1.2.2, k.2⟩

end Cert.OprojHand

end
-- ==== Proof.QkvSeg.lean ====
/-
  The body of the query, key and value kernel, cut into the quantised rows, the row of their scales, and the three
  projections. Each is a program of its own, followed by what remains.
-/
module

public import proofs.«01_k».proof.Proof.Gen.Qkv.Frame
public import proofs.«01_k».proof.Proof.Gen.Qkv.Skeleton
public import Idealize.ShloMosaic.Lib.Tactic
public import Idealize.ShloMosaic.Lib.VecWindow

@[expose] public section

set_option maxRecDepth 65536

noncomputable section

namespace Cert.Qkv.Hand

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section

variable (i : grid0.Coords) (arg1 : Memref sig .tc .vmem S384x2048 .bf16) (harg1 : arg1.IsWhole) (arg2 : Memref sig .tc .vmem S1x2048 .f32) (harg2 : arg2.IsWhole) (arg3 : Memref sig .tc .vmem S2048x6144 .i8) (harg3 : arg3.IsWhole) (arg4 : Memref sig .tc .vmem S1x6144 .f32) (harg4 : arg4.IsWhole) (arg5 : Memref sig .tc .vmem S2x64x192 .f32) (harg5 : arg5.IsWhole) (arg6 : Memref sig .tc .vmem S2x64x192 .f32) (harg6 : arg6.IsWhole) (arg7 : Memref sig .tc .vmem S384x2048 .i8) (harg7 : arg7.IsWhole) (arg8 : Memref sig .tc .vmem S2x1x192 .f32) (harg8 : arg8.IsWhole) (arg9 : Memref sig .tc .vmem S384x2048 .bf16) (harg9 : arg9.IsWhole) (arg10 : Memref sig .tc .vmem S2x192x16x128 .i8) (harg10 : arg10.IsWhole) (arg11 : Memref sig .tc .vmem S2x16x192 .f32) (harg11 : arg11.IsWhole) (arg12 : Memref sig .tc .vmem S2x192x16x128 .i8) (harg12 : arg12.IsWhole) (arg13 : Memref sig .tc .vmem S2x16x192 .f32) (harg13 : arg13.IsWhole) (arg14 : Memref sig .tc .vmem S2x384x2048 .bf16) (harg14 : arg14.IsWhole) (arg15 : Memref sig .tc .vmem S2x384x128 .f32) (harg15 : arg15.IsWhole)
include i arg1 harg1 arg2 harg2 arg3 harg3 arg4 harg4 arg5 harg5 arg6 harg6 arg7 harg7 arg8 harg8 arg9 harg9 arg10 harg10 arg11 harg11 arg12 harg12 arg13 harg13 arg14 harg14 arg15 harg15

/-- The rows the first point quantises, followed by `rest`. -/
def seg1 (rest : Prog (TpuEff nD τ sig (Elt F) Λ₀ .tc) PUnit) : Prog (TpuEff nD τ sig (Elt F) Λ₀ .tc) PUnit := do
  let arg0 : BitVec 32 := BitVec.ofNat 32 (i 0).val
  let v0 : BitVec 1 := Scalar.cmpi .eq 2#32 0#32
  let v1 : BitVec 32 := Scalar.select v0 1#32 2#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  if k0_h1 : k0_cond1 i = 1#1 then do
    let ⟨v28, v67⟩ : Σ' (v28 : FVec F S1x2048 .f32), FVec F S32x128 .f32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h1
    let ⟨v94, v107⟩ : Σ' (v94 : FVec F S32x1 .f32), IVec S32x2048 8 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h1 v28 v67
    let ⟨v137, v150⟩ : Σ' (v137 : FVec F S32x1 .f32), IVec S32x2048 8 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h1 v28 v94 v107
    let ⟨v180, v187, v188⟩ : Σ' (v180 : FVec F S32x1 .f32) (v187 : FVec F S32x2048 .f32), FVec F S32x2048 .bf16 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h1 v28 v137 v150
    let ⟨v223, v230, v231⟩ : Σ' (v223 : FVec F S32x1 .f32) (v230 : FVec F S32x2048 .f32), FVec F S32x2048 .bf16 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h1 v28 v180 v187 v188
    let ⟨v266, v273⟩ : Σ' (v266 : FVec F S32x1 .f32), FVec F S32x2048 .f32 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h1 v28 v223 v230 v231
    let ⟨v309, v312, cst_120, v313⟩ : Σ' (v309 : FVec F S32x1 .f32) (v312 : FVec F S32x2048 .f32) (cst_120 : F .f32), FVec F S32x2048 .f32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h1 v28 v266 v273
    let ⟨v352, v355⟩ : Σ' (v352 : FVec F S32x1 .f32), FVec F S32x2048 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h1 v28 v309 v312 cst_120 v313
    let ⟨v386, v395⟩ : Σ' (v386 : FVec F S32x2048 .f32), FVec F S32x1 .f32 ← k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h1 v28 v352 v355
    let ⟨v429, v434, v436⟩ : Σ' (v429 : FVec F S32x2048 .f32) (v434 : IVec S32x1 1), FVec F S32x1 .f32 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h1 v28 v386 v395
    let ⟨v472, v475, v477⟩ : Σ' (v472 : FVec F S32x2048 .f32) (v475 : FVec F S32x1 .f32), IVec S32x1 1 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h1 v28 v429 v434 v436
    let ⟨v515, v518⟩ : Σ' (v515 : FVec F S32x2048 .f32), FVec F S32x1 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h1 v28 v472 v475 v477
    let v534 : Vec F S1x32x2048 .bf16 ← Prog.lift (.load arg14 (Rect.unit (s := S2x384x2048) (k0_off23 i) S1x32x2048.size (k0_off23_inb i k0_h1)).toLoadRect (View.loadsAt_vmem h_S1x32x2048))
    Prog.lift (.store arg14 (Rect.unit (s := S2x384x2048) (k0_off23 i) S1x32x2048.size (k0_off23_inb i k0_h1)) (k0_pay86 v515 v518) Finset.univ (View.stores_vmem h_S1x32x2048 (harg14.storeExact_slice rfl _ (k0_off23_packedbf16 i k0_h1)) (fun _ => rfl)) (.inl rfl))
    let v538 : Vec F S32x2048 .i8 ← Prog.lift (.load arg7 (Rect.unit (s := S384x2048) ![352, 0] S32x2048.size inb_S384x2048_S32x2048_352_0).toLoadRect (View.loadsAt_vmem h_S32x2048))
    Prog.lift (.store arg7 (Rect.unit (s := S384x2048) ![352, 0] S32x2048.size inb_S384x2048_S32x2048_352_0) (k0_pay87 v515 v518) Finset.univ (View.stores_vmem h_S32x2048 (harg7.storeExact_slice rfl _ packedi8_S384x2048_S32x2048_352_0) (fun _ => rfl)) (.inl rfl))
    let v542 : Vec F S1x32x128 .f32 ← Prog.lift (.load arg15 (Rect.unit (s := S2x384x128) (k0_off24 i) S1x32x128.size (k0_off24_inb i k0_h1)).toLoadRect (View.loadsAt_vmem h_S1x32x128))
    Prog.lift (.store arg15 (Rect.unit (s := S2x384x128) (k0_off24 i) S1x32x128.size (k0_off24_inb i k0_h1)) (k0_pay88 v518) Finset.univ (View.stores_vmem_bits_univ h_S1x32x128 rfl) (.inl rfl))
    rest
  else do
    rest

/-- The row of scales at the first point, followed by `rest`. -/
def seg2 (i : grid0.Coords) (arg1 : Memref sig .tc .vmem S384x2048 .bf16) (harg1 : arg1.IsWhole) (arg2 : Memref sig .tc .vmem S1x2048 .f32) (harg2 : arg2.IsWhole) (arg3 : Memref sig .tc .vmem S2048x6144 .i8) (harg3 : arg3.IsWhole) (arg4 : Memref sig .tc .vmem S1x6144 .f32) (harg4 : arg4.IsWhole) (arg5 : Memref sig .tc .vmem S2x64x192 .f32) (harg5 : arg5.IsWhole) (arg6 : Memref sig .tc .vmem S2x64x192 .f32) (harg6 : arg6.IsWhole) (arg7 : Memref sig .tc .vmem S384x2048 .i8) (harg7 : arg7.IsWhole) (arg8 : Memref sig .tc .vmem S2x1x192 .f32) (harg8 : arg8.IsWhole) (arg9 : Memref sig .tc .vmem S384x2048 .bf16) (harg9 : arg9.IsWhole) (arg10 : Memref sig .tc .vmem S2x192x16x128 .i8) (harg10 : arg10.IsWhole) (arg11 : Memref sig .tc .vmem S2x16x192 .f32) (harg11 : arg11.IsWhole) (arg12 : Memref sig .tc .vmem S2x192x16x128 .i8) (harg12 : arg12.IsWhole) (arg13 : Memref sig .tc .vmem S2x16x192 .f32) (harg13 : arg13.IsWhole) (arg14 : Memref sig .tc .vmem S2x384x2048 .bf16) (harg14 : arg14.IsWhole) (arg15 : Memref sig .tc .vmem S2x384x128 .f32) (harg15 : arg15.IsWhole) (rest : Prog (TpuEff nD τ sig (Elt F) Λ₀ .tc) PUnit) : Prog (TpuEff nD τ sig (Elt F) Λ₀ .tc) PUnit := do
  if k0_h1 : k0_cond1 i = 1#1 then do
    let v546 : Vec F S1x192x128 .f32 ← Prog.lift (.load arg15 (Rect.unit (s := S2x384x128) (k0_off25 i) S1x192x128.size (k0_off25_inb i k0_h1)).toLoadRect (View.loadsAt_vmem h_S1x192x128))
    let v550 : Vec F S1x1x192 .f32 ← Prog.lift (.load arg8 (Rect.unit (s := S2x1x192) ![0, 0, 0] S1x1x192.size inb_S2x1x192_S1x1x192_0_0_0).toLoadRect (View.loadsAt_vmem h_S1x1x192))
    Prog.lift (.store arg8 (Rect.unit (s := S2x1x192) ![0, 0, 0] S1x1x192.size inb_S2x1x192_S1x1x192_0_0_0) (k0_pay89 v546) Finset.univ (View.stores_vmem_bits_univ h_S1x1x192 rfl) (.inl rfl))
    let v554 : Vec F S1x192x128 .f32 ← Prog.lift (.load arg15 (Rect.unit (s := S2x384x128) (k0_off26 i) S1x192x128.size (k0_off26_inb i k0_h1)).toLoadRect (View.loadsAt_vmem h_S1x192x128))
    have v556 : FVec F S128x192 .f32 := k0_pay90 v554
    let v558 : Vec F S1x1x192 .f32 ← Prog.lift (.load arg8 (Rect.unit (s := S2x1x192) ![1, 0, 0] S1x1x192.size inb_S2x1x192_S1x1x192_1_0_0).toLoadRect (View.loadsAt_vmem h_S1x1x192))
    Prog.lift (.store arg8 (Rect.unit (s := S2x1x192) ![1, 0, 0] S1x1x192.size inb_S2x1x192_S1x1x192_1_0_0) (k0_pay1 v556) Finset.univ (View.stores_vmem_bits_univ h_S1x1x192 rfl) (.inl rfl))
    rest
  else do
    rest

/-- The rows a later point quantises, followed by `rest`. -/
def seg3 (rest : Prog (TpuEff nD τ sig (Elt F) Λ₀ .tc) PUnit) : Prog (TpuEff nD τ sig (Elt F) Λ₀ .tc) PUnit := do
  let arg0 : BitVec 32 := BitVec.ofNat 32 (i 0).val
  let v0 : BitVec 1 := Scalar.cmpi .eq 2#32 0#32
  let v1 : BitVec 32 := Scalar.select v0 1#32 2#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  if k0_h2 : k0_cond2 i = 1#1 then do
    let ⟨v28, v67⟩ : Σ' (v28 : FVec F S1x2048 .f32), FVec F S32x128 .f32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h2
    let ⟨v94, v107⟩ : Σ' (v94 : FVec F S32x1 .f32), IVec S32x2048 8 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h2 v28 v67
    let ⟨v137, v150⟩ : Σ' (v137 : FVec F S32x1 .f32), IVec S32x2048 8 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h2 v28 v94 v107
    let ⟨v180, v187, v188⟩ : Σ' (v180 : FVec F S32x1 .f32) (v187 : FVec F S32x2048 .f32), FVec F S32x2048 .bf16 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h2 v28 v137 v150
    let ⟨v223, v230, v231⟩ : Σ' (v223 : FVec F S32x1 .f32) (v230 : FVec F S32x2048 .f32), FVec F S32x2048 .bf16 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h2 v28 v180 v187 v188
    let ⟨v266, v273⟩ : Σ' (v266 : FVec F S32x1 .f32), FVec F S32x2048 .f32 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h2 v28 v223 v230 v231
    let ⟨v309, v312, cst_120, v313⟩ : Σ' (v309 : FVec F S32x1 .f32) (v312 : FVec F S32x2048 .f32) (cst_120 : F .f32), FVec F S32x2048 .f32 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h2 v28 v266 v273
    let ⟨v352, v355⟩ : Σ' (v352 : FVec F S32x1 .f32), FVec F S32x2048 .f32 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h2 v28 v309 v312 cst_120 v313
    let ⟨v386, v395⟩ : Σ' (v386 : FVec F S32x2048 .f32), FVec F S32x1 .f32 ← k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h2 v28 v352 v355
    let ⟨v429, v434, v436⟩ : Σ' (v429 : FVec F S32x2048 .f32) (v434 : IVec S32x1 1), FVec F S32x1 .f32 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h2 v28 v386 v395
    let ⟨v472, v475, v477⟩ : Σ' (v472 : FVec F S32x2048 .f32) (v475 : FVec F S32x1 .f32), IVec S32x1 1 ← k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h2 v28 v429 v434 v436
    let ⟨v515, v518⟩ : Σ' (v515 : FVec F S32x2048 .f32), FVec F S32x1 .f32 ← k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 k0_h2 v28 v472 v475 v477
    let v534 : Vec F S1x32x2048 .bf16 ← Prog.lift (.load arg14 (Rect.unit (s := S2x384x2048) (k0_off49 i) S1x32x2048.size (k0_off49_inb i k0_h2)).toLoadRect (View.loadsAt_vmem h_S1x32x2048))
    Prog.lift (.store arg14 (Rect.unit (s := S2x384x2048) (k0_off49 i) S1x32x2048.size (k0_off49_inb i k0_h2)) (k0_pay173 v515 v518) Finset.univ (View.stores_vmem h_S1x32x2048 (harg14.storeExact_slice rfl _ (k0_off49_packedbf16 i k0_h2)) (fun _ => rfl)) (.inl rfl))
    let v538 : Vec F S32x2048 .i8 ← Prog.lift (.load arg7 (Rect.unit (s := S384x2048) ![352, 0] S32x2048.size inb_S384x2048_S32x2048_352_0).toLoadRect (View.loadsAt_vmem h_S32x2048))
    Prog.lift (.store arg7 (Rect.unit (s := S384x2048) ![352, 0] S32x2048.size inb_S384x2048_S32x2048_352_0) (k0_pay174 v515 v518) Finset.univ (View.stores_vmem h_S32x2048 (harg7.storeExact_slice rfl _ packedi8_S384x2048_S32x2048_352_0) (fun _ => rfl)) (.inl rfl))
    let v542 : Vec F S1x32x128 .f32 ← Prog.lift (.load arg15 (Rect.unit (s := S2x384x128) (k0_off50 i) S1x32x128.size (k0_off50_inb i k0_h2)).toLoadRect (View.loadsAt_vmem h_S1x32x128))
    Prog.lift (.store arg15 (Rect.unit (s := S2x384x128) (k0_off50 i) S1x32x128.size (k0_off50_inb i k0_h2)) (k0_pay175 v518) Finset.univ (View.stores_vmem_bits_univ h_S1x32x128 rfl) (.inl rfl))
    rest
  else do
    rest

/-- The row of scales at a later point, followed by `rest`. -/
def seg4 (i : grid0.Coords) (arg1 : Memref sig .tc .vmem S384x2048 .bf16) (harg1 : arg1.IsWhole) (arg2 : Memref sig .tc .vmem S1x2048 .f32) (harg2 : arg2.IsWhole) (arg3 : Memref sig .tc .vmem S2048x6144 .i8) (harg3 : arg3.IsWhole) (arg4 : Memref sig .tc .vmem S1x6144 .f32) (harg4 : arg4.IsWhole) (arg5 : Memref sig .tc .vmem S2x64x192 .f32) (harg5 : arg5.IsWhole) (arg6 : Memref sig .tc .vmem S2x64x192 .f32) (harg6 : arg6.IsWhole) (arg7 : Memref sig .tc .vmem S384x2048 .i8) (harg7 : arg7.IsWhole) (arg8 : Memref sig .tc .vmem S2x1x192 .f32) (harg8 : arg8.IsWhole) (arg9 : Memref sig .tc .vmem S384x2048 .bf16) (harg9 : arg9.IsWhole) (arg10 : Memref sig .tc .vmem S2x192x16x128 .i8) (harg10 : arg10.IsWhole) (arg11 : Memref sig .tc .vmem S2x16x192 .f32) (harg11 : arg11.IsWhole) (arg12 : Memref sig .tc .vmem S2x192x16x128 .i8) (harg12 : arg12.IsWhole) (arg13 : Memref sig .tc .vmem S2x16x192 .f32) (harg13 : arg13.IsWhole) (arg14 : Memref sig .tc .vmem S2x384x2048 .bf16) (harg14 : arg14.IsWhole) (arg15 : Memref sig .tc .vmem S2x384x128 .f32) (harg15 : arg15.IsWhole) (rest : Prog (TpuEff nD τ sig (Elt F) Λ₀ .tc) PUnit) : Prog (TpuEff nD τ sig (Elt F) Λ₀ .tc) PUnit := do
  if k0_h2 : k0_cond2 i = 1#1 then do
    let v546 : Vec F S1x192x128 .f32 ← Prog.lift (.load arg15 (Rect.unit (s := S2x384x128) (k0_off51 i) S1x192x128.size (k0_off51_inb i k0_h2)).toLoadRect (View.loadsAt_vmem h_S1x192x128))
    let v550 : Vec F S1x1x192 .f32 ← Prog.lift (.load arg8 (Rect.unit (s := S2x1x192) ![0, 0, 0] S1x1x192.size inb_S2x1x192_S1x1x192_0_0_0).toLoadRect (View.loadsAt_vmem h_S1x1x192))
    Prog.lift (.store arg8 (Rect.unit (s := S2x1x192) ![0, 0, 0] S1x1x192.size inb_S2x1x192_S1x1x192_0_0_0) (k0_pay176 v546) Finset.univ (View.stores_vmem_bits_univ h_S1x1x192 rfl) (.inl rfl))
    let v554 : Vec F S1x192x128 .f32 ← Prog.lift (.load arg15 (Rect.unit (s := S2x384x128) (k0_off52 i) S1x192x128.size (k0_off52_inb i k0_h2)).toLoadRect (View.loadsAt_vmem h_S1x192x128))
    have v556 : FVec F S128x192 .f32 := k0_pay177 v554
    let v558 : Vec F S1x1x192 .f32 ← Prog.lift (.load arg8 (Rect.unit (s := S2x1x192) ![1, 0, 0] S1x1x192.size inb_S2x1x192_S1x1x192_1_0_0).toLoadRect (View.loadsAt_vmem h_S1x1x192))
    Prog.lift (.store arg8 (Rect.unit (s := S2x1x192) ![1, 0, 0] S1x1x192.size inb_S2x1x192_S1x1x192_1_0_0) (k0_pay178 v556) Finset.univ (View.stores_vmem_bits_univ h_S1x1x192 rfl) (.inl rfl))
    rest
  else do
    rest

/-- The queries of the block before, followed by `rest`. -/
def segQ (v581 : FVec F S384x128 .f32) (v582 : FVec F S384x128 .f32) (v585 : FVec F S384x2048 .bf16) (v588 : FVec F S384x128 .f32) (rest : Prog (TpuEff nD τ sig (Elt F) Λ₀ .tc) PUnit) : Prog (TpuEff nD τ sig (Elt F) Λ₀ .tc) PUnit := do
  let v590 : Vec F S2048x512 .i8 ← Prog.lift (.load arg3 (Rect.unit (s := S2048x6144) ![0, 0] S2048x512.size inb_S2048x6144_S2048x512_0_0).toLoadRect (View.loadsAt_vmem h_S2048x512))
  have v592 : FVec F S2048x512 .bf16 := k0_pay183 v590
  let ⟨v593, v631⟩ : Σ' (v593 : FVec F S384x512 .f32), FVec F S1x128 .f32 ← k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v585 v588 v592
  let ⟨v645, v670⟩ : Σ' (v645 : FVec F S384x512 .f32), Vec F S1x128 .f32 ← k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v585 v588 v593 v631
  let v697 : FVec F S384x512 .f32 ← k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v585 v588 v645 v670
  let v749 : FVec F S384x512 .f32 ← k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v585 v588 v697
  let ⟨v789, v790⟩ : Σ' (v789 : FVec F S384x128 .f32), FVec F S384x128 .f32 ← k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v588 v749
  let v797 : Vec F S384x128 .bf16 ← Prog.lift (.load arg9 (Rect.unit (s := S384x2048) ![0, 1920] S384x128.size inb_S384x2048_S384x128_0_1920).toLoadRect (View.loadsAt_vmem h_S384x128))
  Prog.lift (.store arg9 (Rect.unit (s := S384x2048) ![0, 1920] S384x128.size inb_S384x2048_S384x128_0_1920) (k0_pay206 v581 v582 v789 v790) Finset.univ (View.stores_vmem h_S384x128 (harg9.storeExact_slice rfl _ packedbf16_S384x2048_S384x128_0_1920) (fun _ => rfl)) (.inl rfl))
  rest

/-- The keys of the block before, followed by `rest`. -/
def segK (v581 : FVec F S384x128 .f32) (v582 : FVec F S384x128 .f32) (v585 : FVec F S384x2048 .bf16) (v588 : FVec F S384x128 .f32) (rest : Prog (TpuEff nD τ sig (Elt F) Λ₀ .tc) PUnit) : Prog (TpuEff nD τ sig (Elt F) Λ₀ .tc) PUnit := do
  have v589 : IVec S384x128 32 := iota .tc S384x128 32 [1] iota_S384x128_d1_w32
  let v799 : Vec F S2048x512 .i8 ← Prog.lift (.load arg3 (Rect.unit (s := S2048x6144) ![0, 2048] S2048x512.size inb_S2048x6144_S2048x512_0_2048).toLoadRect (View.loadsAt_vmem h_S2048x512))
  let v803 : Vec F S1x128 .f32 ← Prog.lift (.load arg4 (Rect.unit (s := S1x6144) ![0, 2048] S1x128.size inb_S1x6144_S1x128_0_2048).toLoadRect (View.loadsAt_vmem h_S1x128))
  have v798 : FVec F S384x128 .f32 := k0_pay207
  have v802 : FVec F S384x512 .f32 := k0_pay208 v585 v799
  have v829 : IVec S384x128 8 := k0_pay211 v581 v582 v585 v588 v799 v803
  have v831 : IVec S384x128 1 := k0_pay212 v589
  have v832 : FVec F S384x1 .f32 := k0_pay213 v581 v582 v585 v588 v799 v803
  let ⟨v861, v866, v876, v878⟩ : Σ' (v861 : IVec S384x128 8) (v866 : FVec F S384x128 .f32) (v876 : FVec F S384x128 .f32), FVec F S384 .f32 ← k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v588 v589 v798 v802 v831 v832
  let ⟨v893, v898, v917, v922, v923⟩ : Σ' (v893 : IVec S384x128 8) (v898 : FVec F S384x128 .f32) (v917 : FVec F S384x1 .f32) (v922 : FVec F S384x128 .f32), FVec F S384x128 .f32 ← k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v588 v589 v802 v866 v876 v878
  let ⟨v930, v958, v965, v966⟩ : Σ' (v930 : FVec F S384x128 .f32) (v958 : FVec F S384x512 .f32) (v965 : FVec F S384x128 .f32), FVec F S384x128 .f32 ← k0_part36 i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v585 v588 v589 v829 v861 v893 v898 v917 v922 v923
  let ⟨v985, v990, v1009, v1012⟩ : Σ' (v985 : IVec S384x128 8) (v990 : FVec F S384x128 .f32) (v1009 : FVec F S384x1 .f32), FVec F S384x128 .f32 ← k0_part37 i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v588 v589 v930 v958 v965 v966
  let ⟨v1017, v1049, v1054, v1056, v1057⟩ : Σ' (v1017 : IVec S384x128 8) (v1049 : IVec S384x128 8) (v1054 : FVec F S384x128 .f32) (v1056 : FVec F S1x128 .f32), FVec F S384x128 .f32 ← k0_part38 i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v588 v589 v958 v990 v1009 v1012
  let ⟨v1086, v1101, v1102, v1103, v1104⟩ : Σ' (v1086 : FVec F S384x128 .f32) (v1101 : IVec S192x128 8) (v1102 : IVec S192x128 8) (v1103 : IVec S192x1x128 8), IVec S192x1x128 8 ← k0_part39 i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v588 v589 v985 v1017 v1049 v1054 v1056 v1057
  let ⟨v1114, v1141, v1146⟩ : Σ' (v1114 : FVec F S384x512 .f32) (v1141 : IVec S384x128 8), FVec F S384x128 .f32 ← k0_part40 i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v585 v588 v589 v1086 v1101 v1102 v1103 v1104
  let ⟨v1173, v1178, v1188, v1191, cst_423⟩ : Σ' (v1173 : IVec S384x128 8) (v1178 : FVec F S384x128 .f32) (v1188 : FVec F S384x128 .f32) (v1191 : FVec F S384x1 .f32), F .f32 ← k0_part41 i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v588 v589 v1114 v1146
  let ⟨v1205, v1210, v1229, v1237⟩ : Σ' (v1205 : IVec S384x128 8) (v1210 : FVec F S384x128 .f32) (v1229 : FVec F S384x1 .f32), IVec S384x128 8 ← k0_part42 i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v588 v589 v1114 v1178 v1188 v1191 cst_423
  let ⟨v1242, v1270, v1280⟩ : Σ' (v1242 : FVec F S384x128 .f32) (v1270 : FVec F S384x512 .f32), FVec F S384x128 .f32 ← k0_part43 i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v585 v588 v589 v1141 v1173 v1205 v1210 v1229 v1237
  let ⟨v1297, v1302, v1321, v1324, cst_460, cst_461⟩ : Σ' (v1297 : IVec S384x128 8) (v1302 : FVec F S384x128 .f32) (v1321 : FVec F S384x1 .f32) (v1324 : FVec F S384x128 .f32) (cst_460 : F .f32), F .f32 ← k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v588 v589 v1242 v1270 v1280
  let ⟨v1329, v1361, v1366, v1370, v1371⟩ : Σ' (v1329 : IVec S384x128 8) (v1361 : IVec S384x128 8) (v1366 : FVec F S384x128 .f32) (v1370 : FVec F S384x128 .f32), FVec F S384x128 .f32 ← k0_part45 i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v588 v589 v1270 v1302 v1321 v1324 cst_460 cst_461
  let ⟨v1398, v1415, v1416, v1417, v1418⟩ : Σ' (v1398 : FVec F S384x128 .f32) (v1415 : IVec S192x1x128 8) (v1416 : IVec S192x1x128 8) (v1417 : IVec S192x1x128 8), IVec S192x1x128 8 ← k0_part46 i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v589 v1297 v1329 v1361 v1366 v1370 v1371
  let v1420 : Vec F S1x192x4x128 .i8 ← Prog.lift (.load arg10 (Rect.unit (s := S2x192x16x128) ![1, 0, 12, 0] S1x192x4x128.size inb_S2x192x16x128_S1x192x4x128_1_0_12_0).toLoadRect (View.loadsAt_vmem h_S1x192x4x128))
  Prog.lift (.store arg10 (Rect.unit (s := S2x192x16x128) ![1, 0, 12, 0] S1x192x4x128.size inb_S2x192x16x128_S1x192x4x128_1_0_12_0) (k0_pay303 v1415 v1416 v1417 v1418) Finset.univ (View.stores_vmem h_S1x192x4x128 (harg10.storeExact_slice rfl _ packedi8_S2x192x16x128_S1x192x4x128_1_0_12_0) (fun _ => rfl)) (.inl rfl))
  let v1426 : Vec F S1x16x192 .f32 ← Prog.lift (.load arg11 (Rect.unit (s := S2x16x192) ![0, 0, 0] S1x16x192.size inb_S2x16x192_S1x16x192_0_0_0).toLoadRect (View.loadsAt_vmem h_S1x16x192))
  Prog.lift (.store arg11 (Rect.unit (s := S2x16x192) ![0, 0, 0] S1x16x192.size inb_S2x16x192_S1x16x192_0_0_0) (k0_pay304 v1398) Finset.univ (View.stores_vmem_bits_univ h_S1x16x192 rfl) (.inl rfl))
  let v1432 : Vec F S1x16x192 .f32 ← Prog.lift (.load arg11 (Rect.unit (s := S2x16x192) ![1, 0, 0] S1x16x192.size inb_S2x16x192_S1x16x192_1_0_0).toLoadRect (View.loadsAt_vmem h_S1x16x192))
  Prog.lift (.store arg11 (Rect.unit (s := S2x16x192) ![1, 0, 0] S1x16x192.size inb_S2x16x192_S1x16x192_1_0_0) (k0_pay305 v1398) Finset.univ (View.stores_vmem_bits_univ h_S1x16x192 rfl) (.inl rfl))
  rest

/-- The values of the block before, followed by `rest`. -/
def segV (v581 : FVec F S384x128 .f32) (v582 : FVec F S384x128 .f32) (v585 : FVec F S384x2048 .bf16) (v588 : FVec F S384x128 .f32) (rest : Prog (TpuEff nD τ sig (Elt F) Λ₀ .tc) PUnit) : Prog (TpuEff nD τ sig (Elt F) Λ₀ .tc) PUnit := do
  have v589 : IVec S384x128 32 := iota .tc S384x128 32 [1] iota_S384x128_d1_w32
  let v1436 : Vec F S2048x512 .i8 ← Prog.lift (.load arg3 (Rect.unit (s := S2048x6144) ![0, 4096] S2048x512.size inb_S2048x6144_S2048x512_0_4096).toLoadRect (View.loadsAt_vmem h_S2048x512))
  let v1440 : Vec F S1x128 .f32 ← Prog.lift (.load arg4 (Rect.unit (s := S1x6144) ![0, 4096] S1x128.size inb_S1x6144_S1x128_0_4096).toLoadRect (View.loadsAt_vmem h_S1x128))
  have v1435 : FVec F S384x128 .f32 := k0_pay306
  have v1439 : FVec F S384x512 .f32 := k0_pay307 v585 v1436
  have v1445 : FVec F S384x128 .f32 := k0_pay308 v585 v588 v1436 v1440
  have v1454 : FVec F S384x1 .f32 := k0_pay309 v585 v588 v1436 v1440
  have v1455 : FVec F S384x128 .f32 := k0_pay310 v585 v588 v1436 v1440
  let ⟨v1462, v1490, v1495, v1501⟩ : Σ' (v1462 : IVec S384x128 8) (v1490 : IVec S384x128 8) (v1495 : FVec F S384x128 .f32), FVec F S384x128 .f32 ← k0_part48 i arg1 harg1 arg2 harg2 arg3 harg3 arg4 harg4 arg5 harg5 arg6 harg6 arg7 harg7 arg8 harg8 arg9 harg9 arg10 harg10 arg11 harg11 arg12 harg12 arg13 harg13 arg14 harg14 arg15 harg15 v588 v589 v1435 v1439 v1445 v1454 v1455
  let ⟨v1518, v1523, v1538, v1546⟩ : Σ' (v1518 : IVec S384x128 8) (v1523 : FVec F S384x128 .f32) (v1538 : FVec F S384x1 .f32), IVec S384x128 8 ← k0_part49 i arg1 harg1 arg2 harg2 arg3 harg3 arg4 harg4 arg5 harg5 arg6 harg6 arg7 harg7 arg8 harg8 arg9 harg9 arg10 harg10 arg11 harg11 arg12 harg12 arg13 harg13 arg14 harg14 arg15 harg15 v588 v589 v1439 v1495 v1501
  let ⟨v1551, v1579, v1585, v1588, cst_540⟩ : Σ' (v1551 : FVec F S384x128 .f32) (v1579 : FVec F S384x512 .f32) (v1585 : FVec F S384x128 .f32) (v1588 : FVec F S384x1 .f32), F .f32 ← k0_part50 i arg1 harg1 arg2 harg2 arg3 harg3 arg4 harg4 arg5 harg5 arg6 harg6 arg7 harg7 arg8 harg8 arg9 harg9 arg10 harg10 arg11 harg11 arg12 harg12 arg13 harg13 arg14 harg14 arg15 harg15 v585 v588 v589 v1462 v1490 v1518 v1523 v1538 v1546
  let ⟨v1602, v1607, v1630, v1632, v1634⟩ : Σ' (v1602 : IVec S384x128 8) (v1607 : FVec F S384x128 .f32) (v1630 : IVec S384x128 8) (v1632 : IVec S384x128 1), FVec F S384x128 .f32 ← k0_part51 i arg1 harg1 arg2 harg2 arg3 harg3 arg4 harg4 arg5 harg5 arg6 harg6 arg7 harg7 arg8 harg8 arg9 harg9 arg10 harg10 arg11 harg11 arg12 harg12 arg13 harg13 arg14 harg14 arg15 harg15 v588 v589 v1551 v1579 v1585 v1588 cst_540
  let ⟨v1658, v1663, v1669, v1678, v1679⟩ : Σ' (v1658 : IVec S384x128 8) (v1663 : FVec F S384x128 .f32) (v1669 : FVec F S384x128 .f32) (v1678 : FVec F S384x1 .f32), FVec F S384x128 .f32 ← k0_part52 i arg1 harg1 arg2 harg2 arg3 harg3 arg4 harg4 arg5 harg5 arg6 harg6 arg7 harg7 arg8 harg8 arg9 harg9 arg10 harg10 arg11 harg11 arg12 harg12 arg13 harg13 arg14 harg14 arg15 harg15 v588 v589 v1579 v1607 v1632 v1634
  let ⟨v1691, v1719, v1721⟩ : Σ' (v1691 : FVec F S384x128 .f32) (v1719 : FVec F S384x512 .f32), FVec F S1x128 .f32 ← k0_part53 i arg1 harg1 arg2 harg2 arg3 harg3 arg4 harg4 arg5 harg5 arg6 harg6 arg7 harg7 arg8 harg8 arg9 harg9 arg10 harg10 arg11 harg11 arg12 harg12 arg13 harg13 arg14 harg14 arg15 harg15 v585 v589 v1602 v1630 v1658 v1663 v1669 v1678 v1679
  let ⟨v1742, v1747, v1762, v1765, cst_595, v1766⟩ : Σ' (v1742 : IVec S384x128 8) (v1747 : FVec F S384x128 .f32) (v1762 : FVec F S384x1 .f32) (v1765 : FVec F S384x128 .f32) (cst_595 : F .f32), FVec F S384x128 .f32 ← k0_part54 i arg1 harg1 arg2 harg2 arg3 harg3 arg4 harg4 arg5 harg5 arg6 harg6 arg7 harg7 arg8 harg8 arg9 harg9 arg10 harg10 arg11 harg11 arg12 harg12 arg13 harg13 arg14 harg14 arg15 harg15 v588 v589 v1691 v1719 v1721
  let ⟨v1770, v1798, v1803, v1809, v1812, cst_607⟩ : Σ' (v1770 : IVec S384x128 8) (v1798 : IVec S384x128 8) (v1803 : FVec F S384x128 .f32) (v1809 : FVec F S384x128 .f32) (v1812 : FVec F S384x1 .f32), F .f32 ← k0_part55 i arg1 harg1 arg2 harg2 arg3 harg3 arg4 harg4 arg5 harg5 arg6 harg6 arg7 harg7 arg8 harg8 arg9 harg9 arg10 harg10 arg11 harg11 arg12 harg12 arg13 harg13 arg14 harg14 arg15 harg15 v588 v589 v1719 v1747 v1762 v1765 cst_595 v1766
  let v1831 : FVec F S384x128 .f32 ← k0_part56 i arg1 harg1 arg2 harg2 arg3 harg3 arg4 harg4 arg5 harg5 arg6 harg6 arg7 harg7 arg8 harg8 arg9 harg9 arg10 harg10 arg11 harg11 arg12 harg12 arg13 harg13 arg14 harg14 arg15 harg15 v589 v1742 v1770 v1798 v1803 v1809 v1812 cst_607
  let ⟨v1859, v1882, v1887, v1893, v1898, v1900⟩ : Σ' (v1859 : FVec F S384x512 .f32) (v1882 : IVec S384x128 8) (v1887 : FVec F S384x128 .f32) (v1893 : FVec F S384x128 .f32) (v1898 : IVec S384x1 1), FVec F S384x1 .f32 ← k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 v585 v588 v589 v1831
  let ⟨v1910, v1938, v1943, v1945⟩ : Σ' (v1910 : IVec S384x128 8) (v1938 : IVec S384x128 8) (v1943 : FVec F S384x128 .f32), FVec F S1x128 .f32 ← k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 v588 v589 v1859 v1887 v1893 v1898 v1900
  let ⟨v1971, v1992⟩ : Σ' (v1971 : FVec F S384x128 .f32), IVec S192x4x128 8 ← k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 v588 v589 v1859 v1882 v1910 v1938 v1943 v1945
  let v1993 : Vec F S1x192x4x128 .i8 ← Prog.lift (.load arg12 (Rect.unit (s := S2x192x16x128) ![1, 0, 12, 0] S1x192x4x128.size inb_S2x192x16x128_S1x192x4x128_1_0_12_0).toLoadRect (View.loadsAt_vmem h_S1x192x4x128))
  Prog.lift (.store arg12 (Rect.unit (s := S2x192x16x128) ![1, 0, 12, 0] S1x192x4x128.size inb_S2x192x16x128_S1x192x4x128_1_0_12_0) (k0_pay392 v1992) Finset.univ (View.stores_vmem h_S1x192x4x128 (harg12.storeExact_slice rfl _ packedi8_S2x192x16x128_S1x192x4x128_1_0_12_0) (fun _ => rfl)) (.inl rfl))
  let v1999 : Vec F S1x16x192 .f32 ← Prog.lift (.load arg13 (Rect.unit (s := S2x16x192) ![0, 0, 0] S1x16x192.size inb_S2x16x192_S1x16x192_0_0_0).toLoadRect (View.loadsAt_vmem h_S1x16x192))
  have v1998 : FVec F S16x192 .f32 := k0_pay393 v1971
  Prog.lift (.store arg13 (Rect.unit (s := S2x16x192) ![0, 0, 0] S1x16x192.size inb_S2x16x192_S1x16x192_0_0_0) (k0_pay2 v1998) Finset.univ (View.stores_vmem_bits_univ h_S1x16x192 rfl) (.inl rfl))
  let v2005 : Vec F S1x16x192 .f32 ← Prog.lift (.load arg13 (Rect.unit (s := S2x16x192) ![1, 0, 0] S1x16x192.size inb_S2x16x192_S1x16x192_1_0_0).toLoadRect (View.loadsAt_vmem h_S1x16x192))
  Prog.lift (.store arg13 (Rect.unit (s := S2x16x192) ![1, 0, 0] S1x16x192.size inb_S2x16x192_S1x16x192_1_0_0) (k0_pay3 v1971) Finset.univ (View.stores_vmem_bits_univ h_S1x16x192 rfl) (.inl rfl))
  rest

/-- The loads before the projections of the block before, followed by `next` of what they load, or by `rest` where there is no block before. -/
def seg5 (i : grid0.Coords) (arg1 : Memref sig .tc .vmem S384x2048 .bf16) (harg1 : arg1.IsWhole) (arg2 : Memref sig .tc .vmem S1x2048 .f32) (harg2 : arg2.IsWhole) (arg3 : Memref sig .tc .vmem S2048x6144 .i8) (harg3 : arg3.IsWhole) (arg4 : Memref sig .tc .vmem S1x6144 .f32) (harg4 : arg4.IsWhole) (arg5 : Memref sig .tc .vmem S2x64x192 .f32) (harg5 : arg5.IsWhole) (arg6 : Memref sig .tc .vmem S2x64x192 .f32) (harg6 : arg6.IsWhole) (arg7 : Memref sig .tc .vmem S384x2048 .i8) (harg7 : arg7.IsWhole) (arg8 : Memref sig .tc .vmem S2x1x192 .f32) (harg8 : arg8.IsWhole) (arg9 : Memref sig .tc .vmem S384x2048 .bf16) (harg9 : arg9.IsWhole) (arg10 : Memref sig .tc .vmem S2x192x16x128 .i8) (harg10 : arg10.IsWhole) (arg11 : Memref sig .tc .vmem S2x16x192 .f32) (harg11 : arg11.IsWhole) (arg12 : Memref sig .tc .vmem S2x192x16x128 .i8) (harg12 : arg12.IsWhole) (arg13 : Memref sig .tc .vmem S2x16x192 .f32) (harg13 : arg13.IsWhole) (arg14 : Memref sig .tc .vmem S2x384x2048 .bf16) (harg14 : arg14.IsWhole) (arg15 : Memref sig .tc .vmem S2x384x128 .f32) (harg15 : arg15.IsWhole) (next : FVec F S384x128 .f32 → FVec F S384x128 .f32 → FVec F S384x2048 .bf16 → FVec F S384x128 .f32 → Prog (TpuEff nD τ sig (Elt F) Λ₀ .tc) PUnit) (rest : Prog (TpuEff nD τ sig (Elt F) Λ₀ .tc) PUnit) : Prog (TpuEff nD τ sig (Elt F) Λ₀ .tc) PUnit := do
  if k0_h2 : k0_cond2 i = 1#1 then do
    let v561 : Vec F S1x64x192 .f32 ← Prog.lift (.load arg5 (Rect.unit (s := S2x64x192) ![0, 0, 0] S1x64x192.size inb_S2x64x192_S1x64x192_0_0_0).toLoadRect (View.loadsAt_vmem h_S1x64x192))
    let v563 : Vec F S1x64x192 .f32 ← Prog.lift (.load arg6 (Rect.unit (s := S2x64x192) ![0, 0, 0] S1x64x192.size inb_S2x64x192_S1x64x192_0_0_0).toLoadRect (View.loadsAt_vmem h_S1x64x192))
    let v571 : Vec F S1x64x192 .f32 ← Prog.lift (.load arg5 (Rect.unit (s := S2x64x192) ![1, 0, 0] S1x64x192.size inb_S2x64x192_S1x64x192_1_0_0).toLoadRect (View.loadsAt_vmem h_S1x64x192))
    let v573 : Vec F S1x64x192 .f32 ← Prog.lift (.load arg6 (Rect.unit (s := S2x64x192) ![1, 0, 0] S1x64x192.size inb_S2x64x192_S1x64x192_1_0_0).toLoadRect (View.loadsAt_vmem h_S1x64x192))
    let v584 : Vec F S1x384x2048 .bf16 ← Prog.lift (.load arg14 (Rect.unit (s := S2x384x2048) (k0_off53 i) S1x384x2048.size (k0_off53_inb i k0_h2)).toLoadRect (View.loadsAt_vmem h_S1x384x2048))
    let v587 : Vec F S1x384x128 .f32 ← Prog.lift (.load arg15 (Rect.unit (s := S2x384x128) (k0_off54 i) S1x384x128.size (k0_off54_inb i k0_h2)).toLoadRect (View.loadsAt_vmem h_S1x384x128))
    next (k0_pay179 v561 v571) (k0_pay180 v563 v573) (k0_pay181 v584) (k0_pay182 v587)
  else do
    rest

/-- The three projections, one after the other. -/
def proj (rest : Prog (TpuEff nD τ sig (Elt F) Λ₀ .tc) PUnit) (v581 : FVec F S384x128 .f32) (v582 : FVec F S384x128 .f32) (v585 : FVec F S384x2048 .bf16) (v588 : FVec F S384x128 .f32) : Prog (TpuEff nD τ sig (Elt F) Λ₀ .tc) PUnit :=
  segQ i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v585 v588 (segK i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v585 v588 (segV i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v585 v588 rest))

/-- The whole second conditional, followed by `rest`. -/
def seg0 (rest : Prog (TpuEff nD τ sig (Elt F) Λ₀ .tc) PUnit) : Prog (TpuEff nD τ sig (Elt F) Λ₀ .tc) PUnit := do
  let arg0 : BitVec 32 := BitVec.ofNat 32 (i 0).val
  let v0 : BitVec 1 := Scalar.cmpi .eq 2#32 0#32
  let v1 : BitVec 32 := Scalar.select v0 1#32 2#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  let v10 : BitVec 32 := Scalar.addi arg0 1#32
  let v11 : BitVec 1 := Scalar.cmpi .eq 2#32 0#32
  let v12 : BitVec 32 := Scalar.select v11 1#32 2#32
  let v13 : BitVec 32 := Scalar.remsi v10 v12
  let v14 : BitVec 1 := Scalar.cmpi .ne v13 0#32
  let v15 : BitVec 1 := Scalar.cmpi .slt v13 0#32
  let v16 : BitVec 1 := Scalar.cmpi .slt v12 0#32
  let v17 : BitVec 1 := Scalar.xori v15 v16
  let v18 : BitVec 1 := Scalar.andi v17 v14
  let v19 : BitVec 32 := Scalar.addi v13 v12
  let v20 : BitVec 32 := Scalar.select v18 v19 v13
  if k0_h2 : k0_cond2 i = 1#1 then do
    let ⟨v1971, v1998, v1999⟩ : Σ' (v1971 : FVec F S384x128 .f32) (v1998 : FVec F S16x192 .f32), Vec F S1x16x192 .f32 ← k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 v9 v20 k0_h2
    Prog.lift (.store arg13 (Rect.unit (s := S2x16x192) ![0, 0, 0] S1x16x192.size inb_S2x16x192_S1x16x192_0_0_0) (k0_pay2 v1998) Finset.univ (View.stores_vmem_bits_univ h_S1x16x192 rfl) (.inl rfl))
    let v2005 : Vec F S1x16x192 .f32 ← Prog.lift (.load arg13 (Rect.unit (s := S2x16x192) ![1, 0, 0] S1x16x192.size inb_S2x16x192_S1x16x192_1_0_0).toLoadRect (View.loadsAt_vmem h_S1x16x192))
    Prog.lift (.store arg13 (Rect.unit (s := S2x16x192) ![1, 0, 0] S1x16x192.size inb_S2x16x192_S1x16x192_1_0_0) (k0_pay3 v1971) Finset.univ (View.stores_vmem_bits_univ h_S1x16x192 rfl) (.inl rfl))
    rest
  else do
    rest

/-- The first conditional is its two pieces in order. -/
theorem skel_eq₀ : cc0_qkv_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = seg1 i arg1 harg1 arg2 harg2 arg3 harg3 arg4 harg4 arg5 harg5 arg6 harg6 arg7 harg7 arg8 harg8 arg9 harg9 arg10 harg10 arg11 harg11 arg12 harg12 arg13 harg13 arg14 harg14 arg15 harg15 (seg2 i arg1 harg1 arg2 harg2 arg3 harg3 arg4 harg4 arg5 harg5 arg6 harg6 arg7 harg7 arg8 harg8 arg9 harg9 arg10 harg10 arg11 harg11 arg12 harg12 arg13 harg13 arg14 harg14 arg15 harg15 (seg0 i arg1 harg1 arg2 harg2 arg3 harg3 arg4 harg4 arg5 harg5 arg6 harg6 arg7 harg7 arg8 harg8 arg9 harg9 arg10 harg10 arg11 harg11 arg12 harg12 arg13 harg13 arg14 harg14 arg15 harg15 (pure ⟨⟩))) := by
  unfold seg1 seg2 cc0_qkv_skel
  by_cases hc : k0_cond1 i = 1#1
  · simp only [dif_pos hc, k0_part13_eq_skeleton]
    rfl
  · simp only [dif_neg hc]
    rfl

/-- The second conditional is its pieces in order. -/
theorem seg0_eq (rest : Prog (TpuEff nD τ sig (Elt F) Λ₀ .tc) PUnit) : seg0 i arg1 harg1 arg2 harg2 arg3 harg3 arg4 harg4 arg5 harg5 arg6 harg6 arg7 harg7 arg8 harg8 arg9 harg9 arg10 harg10 arg11 harg11 arg12 harg12 arg13 harg13 arg14 harg14 arg15 harg15 rest = seg3 i arg1 harg1 arg2 harg2 arg3 harg3 arg4 harg4 arg5 harg5 arg6 harg6 arg7 harg7 arg8 harg8 arg9 harg9 arg10 harg10 arg11 harg11 arg12 harg12 arg13 harg13 arg14 harg14 arg15 harg15 (seg4 i arg1 harg1 arg2 harg2 arg3 harg3 arg4 harg4 arg5 harg5 arg6 harg6 arg7 harg7 arg8 harg8 arg9 harg9 arg10 harg10 arg11 harg11 arg12 harg12 arg13 harg13 arg14 harg14 arg15 harg15 (seg5 i arg1 harg1 arg2 harg2 arg3 harg3 arg4 harg4 arg5 harg5 arg6 harg6 arg7 harg7 arg8 harg8 arg9 harg9 arg10 harg10 arg11 harg11 arg12 harg12 arg13 harg13 arg14 harg14 arg15 harg15 (proj i arg1 harg1 arg2 harg2 arg3 harg3 arg4 harg4 arg5 harg5 arg6 harg6 arg7 harg7 arg8 harg8 arg9 harg9 arg10 harg10 arg11 harg11 arg12 harg12 arg13 harg13 arg14 harg14 arg15 harg15 rest) rest)) := by
  unfold seg0 seg3 seg4 seg5
  by_cases hc : k0_cond2 i = 1#1
  · simp only [dif_pos hc, k0_part60_eq_skeleton]
    unfold k0_part60_skel proj segQ segK segV
    simp only [k0_part26_eq_skeleton, k0_part27_eq_skeleton, k0_part33_eq_skeleton, k0_part47_eq_skeleton]
    rfl
  · simp only [dif_neg hc]

/-- The body is its pieces in order. -/
theorem skel_eq : cc0_qkv_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 = seg1 i arg1 harg1 arg2 harg2 arg3 harg3 arg4 harg4 arg5 harg5 arg6 harg6 arg7 harg7 arg8 harg8 arg9 harg9 arg10 harg10 arg11 harg11 arg12 harg12 arg13 harg13 arg14 harg14 arg15 harg15 (seg2 i arg1 harg1 arg2 harg2 arg3 harg3 arg4 harg4 arg5 harg5 arg6 harg6 arg7 harg7 arg8 harg8 arg9 harg9 arg10 harg10 arg11 harg11 arg12 harg12 arg13 harg13 arg14 harg14 arg15 harg15 (seg3 i arg1 harg1 arg2 harg2 arg3 harg3 arg4 harg4 arg5 harg5 arg6 harg6 arg7 harg7 arg8 harg8 arg9 harg9 arg10 harg10 arg11 harg11 arg12 harg12 arg13 harg13 arg14 harg14 arg15 harg15 (seg4 i arg1 harg1 arg2 harg2 arg3 harg3 arg4 harg4 arg5 harg5 arg6 harg6 arg7 harg7 arg8 harg8 arg9 harg9 arg10 harg10 arg11 harg11 arg12 harg12 arg13 harg13 arg14 harg14 arg15 harg15 (seg5 i arg1 harg1 arg2 harg2 arg3 harg3 arg4 harg4 arg5 harg5 arg6 harg6 arg7 harg7 arg8 harg8 arg9 harg9 arg10 harg10 arg11 harg11 arg12 harg12 arg13 harg13 arg14 harg14 arg15 harg15 (proj i arg1 harg1 arg2 harg2 arg3 harg3 arg4 harg4 arg5 harg5 arg6 harg6 arg7 harg7 arg8 harg8 arg9 harg9 arg10 harg10 arg11 harg11 arg12 harg12 arg13 harg13 arg14 harg14 arg15 harg15 (pure ⟨⟩)) (pure ⟨⟩))))) := by
  rw [skel_eq₀, seg0_eq]

end

end Cert.Qkv.Hand

end
-- ==== Proof.QkvStep.lean ====
/-
  What one point of the query, key and value kernel computes, as functions of the contents of its buffers. Of the
  queries nothing is said.
-/
module

public import proofs.«01_k».proof.Proof.QkvSeg

@[expose] public section

set_option maxRecDepth 65536

noncomputable section

namespace Cert.Qkv.Hand

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The contents of the kernel's input windows at one point. -/
structure Ins (F : FTy → Type) where
  x : Vec F S384x2048 .bf16
  g : Vec F S1x2048 .f32
  w : Vec F S2048x6144 .i8
  sc : Vec F S1x6144 .f32
  co : Vec F S2x64x192 .f32
  si : Vec F S2x64x192 .f32

/-- The contents of the kernel's output windows, but for the queries, and of its two scratch buffers. -/
@[ext] structure St (F : FTy → Type) where
  x1c : Vec F S384x2048 .i8
  x1s : Vec F S2x1x192 .f32
  kc : Vec F S2x192x16x128 .i8
  ks : Vec F S2x16x192 .f32
  vc : Vec F S2x192x16x128 .i8
  vs : Vec F S2x16x192 .f32
  xb : Vec F S2x384x2048 .bf16
  xs : Vec F S2x384x128 .f32

/-- The half of each scratch buffer a point writes. -/
def cur (i : grid0.Coords) : ℕ := (i 0).val % 2

/-- The half of each scratch buffer a point reads. -/
def prev (i : grid0.Coords) : ℕ := ((i 0).val + 1) % 2

/-- The rows of one sequence in the half a point writes lie in the scratch buffer. -/
theorem seq_inb (i : grid0.Coords) (o : ℕ) (ho : o + 192 ≤ 384) :
    ∀ a, (![cur i, o, 0] : Fin 3 → ℕ) a + S1x192x128.size a ≤ S2x384x128.size a := by
  have h : cur i < 2 := Nat.mod_lt _ (by decide)
  intro a
  fin_cases a
  · show cur i + 1 ≤ 2; omega
  · show o + 192 ≤ 384; omega
  · show 0 + 128 ≤ 128; omega

/-- The half of the codes a point reads lies in the scratch buffer. -/
theorem xb_inb (i : grid0.Coords) : ∀ a, (![prev i, 0, 0] : Fin 3 → ℕ) a + S1x384x2048.size a ≤ S2x384x2048.size a := by
  have h : prev i < 2 := Nat.mod_lt _ (by decide)
  intro a
  fin_cases a
  · show prev i + 1 ≤ 2; omega
  · show 0 + 384 ≤ 384; omega
  · show 0 + 2048 ≤ 2048; omega

/-- The half of the scales a point reads lies in the scratch buffer. -/
theorem xs_inb (i : grid0.Coords) : ∀ a, (![prev i, 0, 0] : Fin 3 → ℕ) a + S1x384x128.size a ≤ S2x384x128.size a := by
  have h : prev i < 2 := Nat.mod_lt _ (by decide)
  intro a
  fin_cases a
  · show prev i + 1 ≤ 2; omega
  · show 0 + 384 ≤ 384; omega
  · show 0 + 128 ≤ 128; omega

/-- The root of a row's mean square plus a small constant. -/
def rms (h : FVec F S32x2048 .f32) : FVec F S32x1 .f32 :=
  sqrt (addf (divf (shapeCast S32x1 (multiReduction .add [1] S32 (mulf h h) 0x00000000#32 reduces_S32x2048_S32 (.inl rfl) rfl) shapeCasts_S32_S32x1)
    (broadcast S32x1 (Scalar.ofBits .f32 0x45000000#32 : F .f32))) (broadcast S32x1 (Scalar.ofBits .f32 0x3727C5AC#32 : F .f32)))

/-- 32 rows divided by that root, times the gains of the columns. -/
def normed (x : Vec F S32x2048 .bf16) (g : Vec F S1x2048 .f32) : FVec F S32x2048 .f32 :=
  mulf (divf (extf .f32 x bitsLt_bf16_f32 : FVec F S32x2048 .f32) (broadcastTo S32x2048 (rms (extf .f32 x bitsLt_bf16_f32)) broadcasts_S32x1_S32x2048))
    (broadcastTo S32x2048 (shapeCast S1x2048 g shapeCasts_S1x2048_S1x2048) broadcasts_S1x2048_S32x2048)

/-- The largest magnitude of each row. -/
def rowAmax (v : FVec F S32x2048 .f32) : FVec F S32x1 .f32 :=
  shapeCast S32x1 (multiReduction .maximumf [1] S32 (absf v) 0xFF800000#32 reduces_S32x2048_S32 (.inl rfl) rfl) shapeCasts_S32_S32x1

/-- The scale of each row. -/
def scl (v : FVec F S32x2048 .f32) : FVec F S32x1 .f32 :=
  select (cmpf .oeq (rowAmax v) (broadcast S32x1 (Scalar.ofBits .f32 0x00000000#32 : F .f32)))
    (broadcast S32x1 (Scalar.ofBits .f32 0x3F800000#32 : F .f32)) (divf (rowAmax v) (broadcast S32x1 (Scalar.ofBits .f32 0x42FE0000#32 : F .f32)))

/-- The rows divided by their scales, rounded and clipped. -/
def clip (v : FVec F S32x2048 .f32) : FVec F S32x2048 .f32 :=
  minimumf (broadcast S32x2048 (Scalar.ofBits .f32 0x42FE0000#32 : F .f32))
    (maximumf (broadcast S32x2048 (Scalar.ofBits .f32 0xC2FE0000#32 : F .f32))
      (roundeven (divf v (broadcastTo S32x2048 (scl v) broadcasts_S32x1_S32x2048))))

/-- The scales in 128 equal lanes. -/
def lanes (v : FVec F S32x2048 .f32) : FVec F S32x128 .f32 :=
  broadcastTo S32x128 (shapeCast S32x1 (scl v) shapeCasts_S32x1_S32x1) broadcasts_S32x1_S32x128

/-- The scales of one sequence's rows as a row. -/
def seqRow (l : Vec F S1x192x128 .f32) : FVec F S1x1x192 .f32 :=
  shapeCast S1x1x192 (extractStridedSlice S1x192 ![0, 0] (transpose S128x192 [1, 0] (shapeCast S192x128 l shapeCasts_S1x192x128_S192x128)
    transposes_S192x128_p1_0_S128x192) slices_S128x192_o0_0_S1x192) shapeCasts_S1x192_S1x1x192

/-- The product of a block of codes with the weights of four heads. -/
def dotQ (a : FVec F S384x2048 .bf16) (w : Vec F S2048x512 .i8) : FVec F S384x512 .f32 :=
  matmul dot_S384x2048_S2048x512_S384x512_1_0_0_1_n_n none a
    (sitofp .bf16 (shapeCast S2048x512 w shapeCasts_S2048x512_S2048x512)) (constant S384x512 .f32 0x00000000#32)

/-- One head: its columns of the product, scaled by rows and by columns. -/
def head (d : FVec F S384x128 .f32) (xs : FVec F S384x128 .f32) (ws : Vec F S1x128 .f32) : FVec F S384x128 .f32 :=
  mulf (mulf d xs) (broadcastTo S384x128 (shapeCast S1x128 ws shapeCasts_S1x128_S1x128) broadcasts_S1x128_S384x128)

/-- The largest magnitude of each row of a head. -/
def hAmax (t : FVec F S384x128 .f32) : FVec F S384x1 .f32 :=
  shapeCast S384x1 (multiReduction .maximumf [1] S384 (absf t) 0xFF800000#32 reduces_S384x128_S384 (.inl rfl) rfl) shapeCasts_S384_S384x1

/-- The scale of each row of a head. -/
def hScl (t : FVec F S384x128 .f32) : FVec F S384x1 .f32 :=
  select (cmpf .oeq (hAmax t) (broadcast S384x1 (Scalar.ofBits .f32 0x00000000#32 : F .f32)))
    (broadcast S384x1 (Scalar.ofBits .f32 0x3F800000#32 : F .f32)) (divf (hAmax t) (broadcast S384x1 (Scalar.ofBits .f32 0x42FE0000#32 : F .f32)))

/-- The codes of a head. -/
def hCode (t : FVec F S384x128 .f32) : IVec S384x128 8 :=
  fptosi 8 (minimumf (broadcast S384x128 (Scalar.ofBits .f32 0x42FE0000#32 : F .f32))
    (maximumf (broadcast S384x128 (Scalar.ofBits .f32 0xC2FE0000#32 : F .f32))
      (roundeven (divf t (broadcastTo S384x128 (hScl t) broadcasts_S384x1_S384x128)))))

/-- The scales so far with those of head `n` in lane `n`. -/
def putLane (n : BitVec 32) (t acc : FVec F S384x128 .f32) : FVec F S384x128 .f32 :=
  select (cmpi .eq (iota .tc S384x128 32 [1] iota_S384x128_d1_w32) (broadcast S384x128 n))
    (broadcastTo S384x128 (shapeCast S384x1 (hScl t) shapeCasts_S384x1_S384x1) broadcasts_S384x1_S384x128) acc

/-- The codes of four heads for the rows of the first sequence, side by side. -/
def quad0 (a b c d : IVec S384x128 8) : IVec S1x192x4x128 8 :=
  shapeCast S1x192x4x128 (concatenate S192x4x128 1
    [⟨S192x1x128, shapeCast S192x1x128 (extractStridedSlice S192x128 ![0, 0] a slices_S384x128_o0_0_S192x128) shapeCasts_S192x128_S192x1x128⟩,
     ⟨S192x1x128, shapeCast S192x1x128 (extractStridedSlice S192x128 ![0, 0] b slices_S384x128_o0_0_S192x128) shapeCasts_S192x128_S192x1x128⟩,
     ⟨S192x1x128, shapeCast S192x1x128 (extractStridedSlice S192x128 ![0, 0] c slices_S384x128_o0_0_S192x128) shapeCasts_S192x128_S192x1x128⟩,
     ⟨S192x1x128, shapeCast S192x1x128 (extractStridedSlice S192x128 ![0, 0] d slices_S384x128_o0_0_S192x128) shapeCasts_S192x128_S192x1x128⟩]
    concatenates_S192x1x128_S192x1x128_S192x1x128_S192x1x128_S192x4x128_d1) shapeCasts_S192x4x128_S1x192x4x128

/-- The same for the second sequence. -/
def quad1 (a b c d : IVec S384x128 8) : IVec S1x192x4x128 8 :=
  shapeCast S1x192x4x128 (concatenate S192x4x128 1
    [⟨S192x1x128, shapeCast S192x1x128 (extractStridedSlice S192x128 ![192, 0] a slices_S384x128_o192_0_S192x128) shapeCasts_S192x128_S192x1x128⟩,
     ⟨S192x1x128, shapeCast S192x1x128 (extractStridedSlice S192x128 ![192, 0] b slices_S384x128_o192_0_S192x128) shapeCasts_S192x128_S192x1x128⟩,
     ⟨S192x1x128, shapeCast S192x1x128 (extractStridedSlice S192x128 ![192, 0] c slices_S384x128_o192_0_S192x128) shapeCasts_S192x128_S192x1x128⟩,
     ⟨S192x1x128, shapeCast S192x1x128 (extractStridedSlice S192x128 ![192, 0] d slices_S384x128_o192_0_S192x128) shapeCasts_S192x128_S192x1x128⟩]
    concatenates_S192x1x128_S192x1x128_S192x1x128_S192x1x128_S192x4x128_d1) shapeCasts_S192x4x128_S1x192x4x128

/-- The scales of the first sequence's rows, one row per head. -/
def sclRows0 (l : FVec F S384x128 .f32) : FVec F S1x16x192 .f32 :=
  shapeCast S1x16x192 (extractStridedSlice S16x192 ![0, 0] (transpose S128x192 [1, 0]
    (extractStridedSlice S192x128 ![0, 0] l slices_S384x128_o0_0_S192x128) transposes_S192x128_p1_0_S128x192) slices_S128x192_o0_0_S16x192) shapeCasts_S16x192_S1x16x192

/-- The same for the second sequence. -/
def sclRows1 (l : FVec F S384x128 .f32) : FVec F S1x16x192 .f32 :=
  shapeCast S1x16x192 (extractStridedSlice S16x192 ![0, 0] (transpose S128x192 [1, 0]
    (extractStridedSlice S192x128 ![192, 0] l slices_S384x128_o192_0_S192x128) transposes_S192x128_p1_0_S128x192) slices_S128x192_o0_0_S16x192) shapeCasts_S16x192_S1x16x192

/-- Rows 0–31, normalised. -/
def nT0 (x : Ins F) : FVec F S32x2048 .f32 :=
  normed (VecWindow.window x.x ![0, 0] S32x2048.size inb_S384x2048_S32x2048_0_0) x.g

/-- Rows 32–63, normalised. -/
def nT1 (x : Ins F) : FVec F S32x2048 .f32 :=
  normed (VecWindow.window x.x ![32, 0] S32x2048.size inb_S384x2048_S32x2048_32_0) x.g

/-- Rows 64–95, normalised. -/
def nT2 (x : Ins F) : FVec F S32x2048 .f32 :=
  normed (VecWindow.window x.x ![64, 0] S32x2048.size inb_S384x2048_S32x2048_64_0) x.g

/-- Rows 96–127, normalised. -/
def nT3 (x : Ins F) : FVec F S32x2048 .f32 :=
  normed (VecWindow.window x.x ![96, 0] S32x2048.size inb_S384x2048_S32x2048_96_0) x.g

/-- Rows 128–159, normalised. -/
def nT4 (x : Ins F) : FVec F S32x2048 .f32 :=
  normed (VecWindow.window x.x ![128, 0] S32x2048.size inb_S384x2048_S32x2048_128_0) x.g

/-- Rows 160–191, normalised. -/
def nT5 (x : Ins F) : FVec F S32x2048 .f32 :=
  normed (VecWindow.window x.x ![160, 0] S32x2048.size inb_S384x2048_S32x2048_160_0) x.g

/-- Rows 192–223, normalised. -/
def nT6 (x : Ins F) : FVec F S32x2048 .f32 :=
  normed (VecWindow.window x.x ![192, 0] S32x2048.size inb_S384x2048_S32x2048_192_0) x.g

/-- Rows 224–255, normalised. -/
def nT7 (x : Ins F) : FVec F S32x2048 .f32 :=
  normed (VecWindow.window x.x ![224, 0] S32x2048.size inb_S384x2048_S32x2048_224_0) x.g

/-- Rows 256–287, normalised. -/
def nT8 (x : Ins F) : FVec F S32x2048 .f32 :=
  normed (VecWindow.window x.x ![256, 0] S32x2048.size inb_S384x2048_S32x2048_256_0) x.g

/-- Rows 288–319, normalised. -/
def nT9 (x : Ins F) : FVec F S32x2048 .f32 :=
  normed (VecWindow.window x.x ![288, 0] S32x2048.size inb_S384x2048_S32x2048_288_0) x.g

/-- Rows 320–351, normalised. -/
def nT10 (x : Ins F) : FVec F S32x2048 .f32 :=
  normed (VecWindow.window x.x ![320, 0] S32x2048.size inb_S384x2048_S32x2048_320_0) x.g

/-- Rows 352–383, normalised. -/
def nT11 (x : Ins F) : FVec F S32x2048 .f32 :=
  normed (VecWindow.window x.x ![352, 0] S32x2048.size inb_S384x2048_S32x2048_352_0) x.g

/-- The codes of the rows. -/
def fin_x1c (i : grid0.Coords) (x : Ins F) (x1c : Vec F S384x2048 .i8) : Vec F S384x2048 .i8 :=
  VecWindow.put (VecWindow.put (VecWindow.put (VecWindow.put (VecWindow.put (VecWindow.put (VecWindow.put (VecWindow.put (VecWindow.put (VecWindow.put (VecWindow.put (VecWindow.put (x1c) ![0, 0] S32x2048.size
    (fptosi 8 (clip (nT0 x)))) ![32, 0] S32x2048.size
    (fptosi 8 (clip (nT1 x)))) ![64, 0] S32x2048.size
    (fptosi 8 (clip (nT2 x)))) ![96, 0] S32x2048.size
    (fptosi 8 (clip (nT3 x)))) ![128, 0] S32x2048.size
    (fptosi 8 (clip (nT4 x)))) ![160, 0] S32x2048.size
    (fptosi 8 (clip (nT5 x)))) ![192, 0] S32x2048.size
    (fptosi 8 (clip (nT6 x)))) ![224, 0] S32x2048.size
    (fptosi 8 (clip (nT7 x)))) ![256, 0] S32x2048.size
    (fptosi 8 (clip (nT8 x)))) ![288, 0] S32x2048.size
    (fptosi 8 (clip (nT9 x)))) ![320, 0] S32x2048.size
    (fptosi 8 (clip (nT10 x)))) ![352, 0] S32x2048.size
    (fptosi 8 (clip (nT11 x)))

/-- The scratch buffer of codes. -/
def fin_xb (i : grid0.Coords) (x : Ins F) (xb : Vec F S2x384x2048 .bf16) : Vec F S2x384x2048 .bf16 :=
  VecWindow.put (VecWindow.put (VecWindow.put (VecWindow.put (VecWindow.put (VecWindow.put (VecWindow.put (VecWindow.put (VecWindow.put (VecWindow.put (VecWindow.put (VecWindow.put (xb) ![cur i, 0, 0] S1x32x2048.size
    (shapeCast S1x32x2048 (truncf .bf16 (clip (nT0 x)) bitsLt_bf16_f32) shapeCasts_S32x2048_S1x32x2048)) ![cur i, 32, 0] S1x32x2048.size
    (shapeCast S1x32x2048 (truncf .bf16 (clip (nT1 x)) bitsLt_bf16_f32) shapeCasts_S32x2048_S1x32x2048)) ![cur i, 64, 0] S1x32x2048.size
    (shapeCast S1x32x2048 (truncf .bf16 (clip (nT2 x)) bitsLt_bf16_f32) shapeCasts_S32x2048_S1x32x2048)) ![cur i, 96, 0] S1x32x2048.size
    (shapeCast S1x32x2048 (truncf .bf16 (clip (nT3 x)) bitsLt_bf16_f32) shapeCasts_S32x2048_S1x32x2048)) ![cur i, 128, 0] S1x32x2048.size
    (shapeCast S1x32x2048 (truncf .bf16 (clip (nT4 x)) bitsLt_bf16_f32) shapeCasts_S32x2048_S1x32x2048)) ![cur i, 160, 0] S1x32x2048.size
    (shapeCast S1x32x2048 (truncf .bf16 (clip (nT5 x)) bitsLt_bf16_f32) shapeCasts_S32x2048_S1x32x2048)) ![cur i, 192, 0] S1x32x2048.size
    (shapeCast S1x32x2048 (truncf .bf16 (clip (nT6 x)) bitsLt_bf16_f32) shapeCasts_S32x2048_S1x32x2048)) ![cur i, 224, 0] S1x32x2048.size
    (shapeCast S1x32x2048 (truncf .bf16 (clip (nT7 x)) bitsLt_bf16_f32) shapeCasts_S32x2048_S1x32x2048)) ![cur i, 256, 0] S1x32x2048.size
    (shapeCast S1x32x2048 (truncf .bf16 (clip (nT8 x)) bitsLt_bf16_f32) shapeCasts_S32x2048_S1x32x2048)) ![cur i, 288, 0] S1x32x2048.size
    (shapeCast S1x32x2048 (truncf .bf16 (clip (nT9 x)) bitsLt_bf16_f32) shapeCasts_S32x2048_S1x32x2048)) ![cur i, 320, 0] S1x32x2048.size
    (shapeCast S1x32x2048 (truncf .bf16 (clip (nT10 x)) bitsLt_bf16_f32) shapeCasts_S32x2048_S1x32x2048)) ![cur i, 352, 0] S1x32x2048.size
    (shapeCast S1x32x2048 (truncf .bf16 (clip (nT11 x)) bitsLt_bf16_f32) shapeCasts_S32x2048_S1x32x2048)

/-- The scratch buffer of scales. -/
def fin_xs (i : grid0.Coords) (x : Ins F) (xs : Vec F S2x384x128 .f32) : Vec F S2x384x128 .f32 :=
  VecWindow.put (VecWindow.put (VecWindow.put (VecWindow.put (VecWindow.put (VecWindow.put (VecWindow.put (VecWindow.put (VecWindow.put (VecWindow.put (VecWindow.put (VecWindow.put (xs) ![cur i, 0, 0] S1x32x128.size
    (shapeCast S1x32x128 (lanes (nT0 x)) shapeCasts_S32x128_S1x32x128)) ![cur i, 32, 0] S1x32x128.size
    (shapeCast S1x32x128 (lanes (nT1 x)) shapeCasts_S32x128_S1x32x128)) ![cur i, 64, 0] S1x32x128.size
    (shapeCast S1x32x128 (lanes (nT2 x)) shapeCasts_S32x128_S1x32x128)) ![cur i, 96, 0] S1x32x128.size
    (shapeCast S1x32x128 (lanes (nT3 x)) shapeCasts_S32x128_S1x32x128)) ![cur i, 128, 0] S1x32x128.size
    (shapeCast S1x32x128 (lanes (nT4 x)) shapeCasts_S32x128_S1x32x128)) ![cur i, 160, 0] S1x32x128.size
    (shapeCast S1x32x128 (lanes (nT5 x)) shapeCasts_S32x128_S1x32x128)) ![cur i, 192, 0] S1x32x128.size
    (shapeCast S1x32x128 (lanes (nT6 x)) shapeCasts_S32x128_S1x32x128)) ![cur i, 224, 0] S1x32x128.size
    (shapeCast S1x32x128 (lanes (nT7 x)) shapeCasts_S32x128_S1x32x128)) ![cur i, 256, 0] S1x32x128.size
    (shapeCast S1x32x128 (lanes (nT8 x)) shapeCasts_S32x128_S1x32x128)) ![cur i, 288, 0] S1x32x128.size
    (shapeCast S1x32x128 (lanes (nT9 x)) shapeCasts_S32x128_S1x32x128)) ![cur i, 320, 0] S1x32x128.size
    (shapeCast S1x32x128 (lanes (nT10 x)) shapeCasts_S32x128_S1x32x128)) ![cur i, 352, 0] S1x32x128.size
    (shapeCast S1x32x128 (lanes (nT11 x)) shapeCasts_S32x128_S1x32x128)

/-- The row of scales. -/
def fin_x1s (i : grid0.Coords) (xs : Vec F S2x384x128 .f32) (x1s : Vec F S2x1x192 .f32) : Vec F S2x1x192 .f32 :=
  VecWindow.put (VecWindow.put x1s ![0, 0, 0] S1x1x192.size (seqRow (VecWindow.window xs ![cur i, 0, 0] S1x192x128.size (seq_inb i 0 (by decide)))))
    ![1, 0, 0] S1x1x192.size (seqRow (VecWindow.window xs ![cur i, 192, 0] S1x192x128.size (seq_inb i 192 (by decide))))

/-- The codes a point multiplies. -/
def xbR (i : grid0.Coords) (xb : Vec F S2x384x2048 .bf16) : FVec F S384x2048 .bf16 :=
  shapeCast S384x2048 (VecWindow.window xb ![prev i, 0, 0] S1x384x2048.size (xb_inb i)) shapeCasts_S1x384x2048_S384x2048

/-- Their scales. -/
def xsR (i : grid0.Coords) (xs : Vec F S2x384x128 .f32) : FVec F S384x128 .f32 :=
  shapeCast S384x128 (VecWindow.window xs ![prev i, 0, 0] S1x384x128.size (xs_inb i)) shapeCasts_S1x384x128_S384x128

/-- The cosines of a block's rows, twice side by side. -/
def cosR (x : Ins F) : FVec F S384x128 .f32 :=
  k0_pay179 (VecWindow.window x.co ![0, 0, 0] S1x64x192.size inb_S2x64x192_S1x64x192_0_0_0) (VecWindow.window x.co ![1, 0, 0] S1x64x192.size inb_S2x64x192_S1x64x192_1_0_0)

/-- The sines, first negated, then as they are. -/
def sinR (x : Ins F) : FVec F S384x128 .f32 :=
  k0_pay180 (VecWindow.window x.si ![0, 0, 0] S1x64x192.size inb_S2x64x192_S1x64x192_0_0_0) (VecWindow.window x.si ![1, 0, 0] S1x64x192.size inb_S2x64x192_S1x64x192_1_0_0)

/-- A head rotated by its positions. -/
def rope (t c s : FVec F S384x128 .f32) : FVec F S384x128 .f32 :=
  addf (mulf t c) (mulf (dynamicRotate 1 64#32 none t rotates_S384x128_d1) s)

/-- The product with the key weights of heads 0–3. -/
def kAcc0 (i : grid0.Coords) (x : Ins F) (xb : Vec F S2x384x2048 .bf16) : FVec F S384x512 .f32 :=
  dotQ (xbR i xb) (VecWindow.window x.w ![0, 2048] S2048x512.size inb_S2048x6144_S2048x512_0_2048)

/-- The product with the key weights of heads 4–7. -/
def kAcc1 (i : grid0.Coords) (x : Ins F) (xb : Vec F S2x384x2048 .bf16) : FVec F S384x512 .f32 :=
  dotQ (xbR i xb) (VecWindow.window x.w ![0, 2560] S2048x512.size inb_S2048x6144_S2048x512_0_2560)

/-- The product with the key weights of heads 8–11. -/
def kAcc2 (i : grid0.Coords) (x : Ins F) (xb : Vec F S2x384x2048 .bf16) : FVec F S384x512 .f32 :=
  dotQ (xbR i xb) (VecWindow.window x.w ![0, 3072] S2048x512.size inb_S2048x6144_S2048x512_0_3072)

/-- The product with the key weights of heads 12–15. -/
def kAcc3 (i : grid0.Coords) (x : Ins F) (xb : Vec F S2x384x2048 .bf16) : FVec F S384x512 .f32 :=
  dotQ (xbR i xb) (VecWindow.window x.w ![0, 3584] S2048x512.size inb_S2048x6144_S2048x512_0_3584)

/-- The keys, head by head, before they are rotated. -/
def kHeads (i : grid0.Coords) (x : Ins F) (xb : Vec F S2x384x2048 .bf16) (xs : Vec F S2x384x128 .f32) : Fin 16 → FVec F S384x128 .f32 :=
  ![head (extractStridedSlice S384x128 ![0, 0] (kAcc0 i x xb) slices_S384x512_o0_0_S384x128) (xsR i xs)
      (VecWindow.window x.sc ![0, 2048] S1x128.size inb_S1x6144_S1x128_0_2048),
    head (extractStridedSlice S384x128 ![0, 128] (kAcc0 i x xb) slices_S384x512_o0_128_S384x128) (xsR i xs)
      (VecWindow.window x.sc ![0, 2176] S1x128.size inb_S1x6144_S1x128_0_2176),
    head (extractStridedSlice S384x128 ![0, 256] (kAcc0 i x xb) slices_S384x512_o0_256_S384x128) (xsR i xs)
      (VecWindow.window x.sc ![0, 2304] S1x128.size inb_S1x6144_S1x128_0_2304),
    head (extractStridedSlice S384x128 ![0, 384] (kAcc0 i x xb) slices_S384x512_o0_384_S384x128) (xsR i xs)
      (VecWindow.window x.sc ![0, 2432] S1x128.size inb_S1x6144_S1x128_0_2432),
    head (extractStridedSlice S384x128 ![0, 0] (kAcc1 i x xb) slices_S384x512_o0_0_S384x128) (xsR i xs)
      (VecWindow.window x.sc ![0, 2560] S1x128.size inb_S1x6144_S1x128_0_2560),
    head (extractStridedSlice S384x128 ![0, 128] (kAcc1 i x xb) slices_S384x512_o0_128_S384x128) (xsR i xs)
      (VecWindow.window x.sc ![0, 2688] S1x128.size inb_S1x6144_S1x128_0_2688),
    head (extractStridedSlice S384x128 ![0, 256] (kAcc1 i x xb) slices_S384x512_o0_256_S384x128) (xsR i xs)
      (VecWindow.window x.sc ![0, 2816] S1x128.size inb_S1x6144_S1x128_0_2816),
    head (extractStridedSlice S384x128 ![0, 384] (kAcc1 i x xb) slices_S384x512_o0_384_S384x128) (xsR i xs)
      (VecWindow.window x.sc ![0, 2944] S1x128.size inb_S1x6144_S1x128_0_2944),
    head (extractStridedSlice S384x128 ![0, 0] (kAcc2 i x xb) slices_S384x512_o0_0_S384x128) (xsR i xs)
      (VecWindow.window x.sc ![0, 3072] S1x128.size inb_S1x6144_S1x128_0_3072),
    head (extractStridedSlice S384x128 ![0, 128] (kAcc2 i x xb) slices_S384x512_o0_128_S384x128) (xsR i xs)
      (VecWindow.window x.sc ![0, 3200] S1x128.size inb_S1x6144_S1x128_0_3200),
    head (extractStridedSlice S384x128 ![0, 256] (kAcc2 i x xb) slices_S384x512_o0_256_S384x128) (xsR i xs)
      (VecWindow.window x.sc ![0, 3328] S1x128.size inb_S1x6144_S1x128_0_3328),
    head (extractStridedSlice S384x128 ![0, 384] (kAcc2 i x xb) slices_S384x512_o0_384_S384x128) (xsR i xs)
      (VecWindow.window x.sc ![0, 3456] S1x128.size inb_S1x6144_S1x128_0_3456),
    head (extractStridedSlice S384x128 ![0, 0] (kAcc3 i x xb) slices_S384x512_o0_0_S384x128) (xsR i xs)
      (VecWindow.window x.sc ![0, 3584] S1x128.size inb_S1x6144_S1x128_0_3584),
    head (extractStridedSlice S384x128 ![0, 128] (kAcc3 i x xb) slices_S384x512_o0_128_S384x128) (xsR i xs)
      (VecWindow.window x.sc ![0, 3712] S1x128.size inb_S1x6144_S1x128_0_3712),
    head (extractStridedSlice S384x128 ![0, 256] (kAcc3 i x xb) slices_S384x512_o0_256_S384x128) (xsR i xs)
      (VecWindow.window x.sc ![0, 3840] S1x128.size inb_S1x6144_S1x128_0_3840),
    head (extractStridedSlice S384x128 ![0, 384] (kAcc3 i x xb) slices_S384x512_o0_384_S384x128) (xsR i xs)
      (VecWindow.window x.sc ![0, 3968] S1x128.size inb_S1x6144_S1x128_0_3968)]

/-- The product with the value weights of heads 0–3. -/
def vAcc0 (i : grid0.Coords) (x : Ins F) (xb : Vec F S2x384x2048 .bf16) : FVec F S384x512 .f32 :=
  dotQ (xbR i xb) (VecWindow.window x.w ![0, 4096] S2048x512.size inb_S2048x6144_S2048x512_0_4096)

/-- The product with the value weights of heads 4–7. -/
def vAcc1 (i : grid0.Coords) (x : Ins F) (xb : Vec F S2x384x2048 .bf16) : FVec F S384x512 .f32 :=
  dotQ (xbR i xb) (VecWindow.window x.w ![0, 4608] S2048x512.size inb_S2048x6144_S2048x512_0_4608)

/-- The product with the value weights of heads 8–11. -/
def vAcc2 (i : grid0.Coords) (x : Ins F) (xb : Vec F S2x384x2048 .bf16) : FVec F S384x512 .f32 :=
  dotQ (xbR i xb) (VecWindow.window x.w ![0, 5120] S2048x512.size inb_S2048x6144_S2048x512_0_5120)

/-- The product with the value weights of heads 12–15. -/
def vAcc3 (i : grid0.Coords) (x : Ins F) (xb : Vec F S2x384x2048 .bf16) : FVec F S384x512 .f32 :=
  dotQ (xbR i xb) (VecWindow.window x.w ![0, 5632] S2048x512.size inb_S2048x6144_S2048x512_0_5632)

/-- The values, head by head. -/
def vHeads (i : grid0.Coords) (x : Ins F) (xb : Vec F S2x384x2048 .bf16) (xs : Vec F S2x384x128 .f32) : Fin 16 → FVec F S384x128 .f32 :=
  ![head (extractStridedSlice S384x128 ![0, 0] (vAcc0 i x xb) slices_S384x512_o0_0_S384x128) (xsR i xs)
      (VecWindow.window x.sc ![0, 4096] S1x128.size inb_S1x6144_S1x128_0_4096),
    head (extractStridedSlice S384x128 ![0, 128] (vAcc0 i x xb) slices_S384x512_o0_128_S384x128) (xsR i xs)
      (VecWindow.window x.sc ![0, 4224] S1x128.size inb_S1x6144_S1x128_0_4224),
    head (extractStridedSlice S384x128 ![0, 256] (vAcc0 i x xb) slices_S384x512_o0_256_S384x128) (xsR i xs)
      (VecWindow.window x.sc ![0, 4352] S1x128.size inb_S1x6144_S1x128_0_4352),
    head (extractStridedSlice S384x128 ![0, 384] (vAcc0 i x xb) slices_S384x512_o0_384_S384x128) (xsR i xs)
      (VecWindow.window x.sc ![0, 4480] S1x128.size inb_S1x6144_S1x128_0_4480),
    head (extractStridedSlice S384x128 ![0, 0] (vAcc1 i x xb) slices_S384x512_o0_0_S384x128) (xsR i xs)
      (VecWindow.window x.sc ![0, 4608] S1x128.size inb_S1x6144_S1x128_0_4608),
    head (extractStridedSlice S384x128 ![0, 128] (vAcc1 i x xb) slices_S384x512_o0_128_S384x128) (xsR i xs)
      (VecWindow.window x.sc ![0, 4736] S1x128.size inb_S1x6144_S1x128_0_4736),
    head (extractStridedSlice S384x128 ![0, 256] (vAcc1 i x xb) slices_S384x512_o0_256_S384x128) (xsR i xs)
      (VecWindow.window x.sc ![0, 4864] S1x128.size inb_S1x6144_S1x128_0_4864),
    head (extractStridedSlice S384x128 ![0, 384] (vAcc1 i x xb) slices_S384x512_o0_384_S384x128) (xsR i xs)
      (VecWindow.window x.sc ![0, 4992] S1x128.size inb_S1x6144_S1x128_0_4992),
    head (extractStridedSlice S384x128 ![0, 0] (vAcc2 i x xb) slices_S384x512_o0_0_S384x128) (xsR i xs)
      (VecWindow.window x.sc ![0, 5120] S1x128.size inb_S1x6144_S1x128_0_5120),
    head (extractStridedSlice S384x128 ![0, 128] (vAcc2 i x xb) slices_S384x512_o0_128_S384x128) (xsR i xs)
      (VecWindow.window x.sc ![0, 5248] S1x128.size inb_S1x6144_S1x128_0_5248),
    head (extractStridedSlice S384x128 ![0, 256] (vAcc2 i x xb) slices_S384x512_o0_256_S384x128) (xsR i xs)
      (VecWindow.window x.sc ![0, 5376] S1x128.size inb_S1x6144_S1x128_0_5376),
    head (extractStridedSlice S384x128 ![0, 384] (vAcc2 i x xb) slices_S384x512_o0_384_S384x128) (xsR i xs)
      (VecWindow.window x.sc ![0, 5504] S1x128.size inb_S1x6144_S1x128_0_5504),
    head (extractStridedSlice S384x128 ![0, 0] (vAcc3 i x xb) slices_S384x512_o0_0_S384x128) (xsR i xs)
      (VecWindow.window x.sc ![0, 5632] S1x128.size inb_S1x6144_S1x128_0_5632),
    head (extractStridedSlice S384x128 ![0, 128] (vAcc3 i x xb) slices_S384x512_o0_128_S384x128) (xsR i xs)
      (VecWindow.window x.sc ![0, 5760] S1x128.size inb_S1x6144_S1x128_0_5760),
    head (extractStridedSlice S384x128 ![0, 256] (vAcc3 i x xb) slices_S384x512_o0_256_S384x128) (xsR i xs)
      (VecWindow.window x.sc ![0, 5888] S1x128.size inb_S1x6144_S1x128_0_5888),
    head (extractStridedSlice S384x128 ![0, 384] (vAcc3 i x xb) slices_S384x512_o0_384_S384x128) (xsR i xs)
      (VecWindow.window x.sc ![0, 6016] S1x128.size inb_S1x6144_S1x128_0_6016)]

/-- The keys, head by head. -/
def kRoped (i : grid0.Coords) (x : Ins F) (xb : Vec F S2x384x2048 .bf16) (xs : Vec F S2x384x128 .f32) (h : Fin 16) : FVec F S384x128 .f32 :=
  rope (kHeads i x xb xs h) (cosR x) (sinR x)

/-- The scales of the heads' rows, head `n`'s in lane `n`. -/
def lanes16 (T : Fin 16 → FVec F S384x128 .f32) : FVec F S384x128 .f32 :=
  putLane 15#32 (T 15) (putLane 14#32 (T 14) (putLane 13#32 (T 13) (putLane 12#32 (T 12) (putLane 11#32 (T 11) (putLane 10#32 (T 10) (putLane 9#32 (T 9) (putLane 8#32 (T 8) (putLane 7#32 (T 7) (putLane 6#32 (T 6) (putLane 5#32 (T 5) (putLane 4#32 (T 4) (putLane 3#32 (T 3) (putLane 2#32 (T 2) (putLane 1#32 (T 1) (putLane 0#32 (T 0) (broadcast S384x128 (Scalar.ofBits .f32 0x00000000#32 : F .f32)))))))))))))))))

/-- The codes of the heads. -/
def codes16 (T : Fin 16 → FVec F S384x128 .f32) (old : Vec F S2x192x16x128 .i8) : Vec F S2x192x16x128 .i8 :=
  VecWindow.put (VecWindow.put (VecWindow.put (VecWindow.put (VecWindow.put (VecWindow.put (VecWindow.put (VecWindow.put (old) ![0, 0, 0, 0] S1x192x4x128.size
    (quad0 (hCode (T 0)) (hCode (T 1)) (hCode (T 2)) (hCode (T 3)))) ![1, 0, 0, 0] S1x192x4x128.size
    (quad1 (hCode (T 0)) (hCode (T 1)) (hCode (T 2)) (hCode (T 3)))) ![0, 0, 4, 0] S1x192x4x128.size
    (quad0 (hCode (T 4)) (hCode (T 5)) (hCode (T 6)) (hCode (T 7)))) ![1, 0, 4, 0] S1x192x4x128.size
    (quad1 (hCode (T 4)) (hCode (T 5)) (hCode (T 6)) (hCode (T 7)))) ![0, 0, 8, 0] S1x192x4x128.size
    (quad0 (hCode (T 8)) (hCode (T 9)) (hCode (T 10)) (hCode (T 11)))) ![1, 0, 8, 0] S1x192x4x128.size
    (quad1 (hCode (T 8)) (hCode (T 9)) (hCode (T 10)) (hCode (T 11)))) ![0, 0, 12, 0] S1x192x4x128.size
    (quad0 (hCode (T 12)) (hCode (T 13)) (hCode (T 14)) (hCode (T 15)))) ![1, 0, 12, 0] S1x192x4x128.size
    (quad1 (hCode (T 12)) (hCode (T 13)) (hCode (T 14)) (hCode (T 15)))

/-- The scales of the heads' rows. -/
def scales16 (T : Fin 16 → FVec F S384x128 .f32) (old : Vec F S2x16x192 .f32) : Vec F S2x16x192 .f32 :=
  VecWindow.put (VecWindow.put old ![0, 0, 0] S1x16x192.size (sclRows0 (lanes16 T))) ![1, 0, 0] S1x16x192.size (sclRows1 (lanes16 T))

/-- The rows quantised into the buffers. -/
def quant (i : grid0.Coords) (x : Ins F) (s : St F) : St F :=
  { s with x1c := fin_x1c i x s.x1c, xb := fin_xb i x s.xb, xs := fin_xs i x s.xs }

/-- The row of their scales. -/
def rowOf (i : grid0.Coords) (s : St F) : St F := { s with x1s := fin_x1s i s.xs s.x1s }

/-- The keys of the block before. -/
def keys (i : grid0.Coords) (x : Ins F) (s : St F) : St F :=
  { s with kc := codes16 (kRoped i x s.xb s.xs) s.kc, ks := scales16 (kRoped i x s.xb s.xs) s.ks }

/-- The values of the block before. -/
def vals (i : grid0.Coords) (x : Ins F) (s : St F) : St F :=
  { s with vc := codes16 (vHeads i x s.xb s.xs) s.vc, vs := scales16 (vHeads i x s.xb s.xs) s.vs }

/-- The rows the first point quantises. -/
def step1 (i : grid0.Coords) (x : Ins F) (s : St F) : St F := if k0_cond1 i = 1#1 then quant i x s else s

/-- The row of their scales. -/
def step2 (i : grid0.Coords) (x : Ins F) (s : St F) : St F := if k0_cond1 i = 1#1 then rowOf i s else s

/-- The rows a later point quantises. -/
def step3 (i : grid0.Coords) (x : Ins F) (s : St F) : St F := if k0_cond2 i = 1#1 then quant i x s else s

/-- The row of their scales. -/
def step4 (i : grid0.Coords) (x : Ins F) (s : St F) : St F := if k0_cond2 i = 1#1 then rowOf i s else s

/-- The keys and values of the block before. -/
def step5 (i : grid0.Coords) (x : Ins F) (s : St F) : St F := if k0_cond2 i = 1#1 then vals i x (keys i x s) else s

/-- One point of the kernel. -/
def step (i : grid0.Coords) (x : Ins F) (s : St F) : St F :=
  step5 i x (step4 i x (step3 i x (step2 i x (step1 i x s))))

end Cert.Qkv.Hand

end
-- ==== Proof.QkvBody.lean ====
/-
  Each piece of the body takes the buffers where the step functions say, and so does the whole body.
-/
module

public import proofs.«01_k».proof.Proof.QkvStep

@[expose] public section

set_option maxRecDepth 65536

noncomputable section

namespace Cert.Qkv.Hand

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The kernel's fifteen buffers hold the contents `x` and `s`, that of the queries anything. -/
def Res (c : Dev nD) (arg1 : Memref sig .tc .vmem S384x2048 .bf16) (arg2 : Memref sig .tc .vmem S1x2048 .f32) (arg3 : Memref sig .tc .vmem S2048x6144 .i8) (arg4 : Memref sig .tc .vmem S1x6144 .f32) (arg5 : Memref sig .tc .vmem S2x64x192 .f32) (arg6 : Memref sig .tc .vmem S2x64x192 .f32) (arg7 : Memref sig .tc .vmem S384x2048 .i8) (arg8 : Memref sig .tc .vmem S2x1x192 .f32) (arg9 : Memref sig .tc .vmem S384x2048 .bf16) (arg10 : Memref sig .tc .vmem S2x192x16x128 .i8) (arg11 : Memref sig .tc .vmem S2x16x192 .f32) (arg12 : Memref sig .tc .vmem S2x192x16x128 .i8) (arg13 : Memref sig .tc .vmem S2x16x192 .f32) (arg14 : Memref sig .tc .vmem S2x384x2048 .bf16) (arg15 : Memref sig .tc .vmem S2x384x128 .f32) (x : Ins F) (s : St F) : sProp (MT nD τ sig Unit (Elt F) ℕ (UR sig nD τ) ℕ) :=
  iprop(owns (c : Thread nD τ) arg1 fullShare x.x ∗ owns (c : Thread nD τ) arg2 fullShare x.g ∗ owns (c : Thread nD τ) arg3 fullShare x.w ∗ owns (c : Thread nD τ) arg4 fullShare x.sc ∗ owns (c : Thread nD τ) arg5 fullShare x.co ∗ owns (c : Thread nD τ) arg6 fullShare x.si ∗ owns (c : Thread nD τ) arg7 fullShare s.x1c ∗ owns (c : Thread nD τ) arg8 fullShare s.x1s ∗ (∃ q, owns (c : Thread nD τ) arg9 fullShare q) ∗ owns (c : Thread nD τ) arg10 fullShare s.kc ∗ owns (c : Thread nD τ) arg11 fullShare s.ks ∗ owns (c : Thread nD τ) arg12 fullShare s.vc ∗ owns (c : Thread nD τ) arg13 fullShare s.vs ∗ owns (c : Thread nD τ) arg14 fullShare s.xb ∗ owns (c : Thread nD τ) arg15 fullShare s.xs)

/-- `put` of equal contents. -/
theorem put_congr {s : Shape} {α : Type} {x x' : s.Idx → α} {off size : Fin s.rank → ℕ} {w w' : ((a : Fin s.rank) → Fin (size a)) → α}
    (hx : x = x') (hw : w = w') : VecWindow.put x off size w = VecWindow.put x' off size w' := by rw [hx, hw]

/-- The half a point writes, as the kernel's words compute it. -/
theorem cur_word (i : grid0.Coords) : k0_off1 i 0 = cur i := by
  have h : ∀ n : Fin 13, k0_off1 (fun a => ⟨n.val, by fin_cases a; exact n.isLt⟩) 0 = n.val % 2 := by decide +kernel
  have e : i = fun a => ⟨(i 0).val, by fin_cases a; exact (i 0).isLt⟩ := by
    funext a; fin_cases a; rfl
  rw [e]; exact h (i 0)

/-- The half a point reads, as the kernel's words compute it. -/
theorem prev_word (i : grid0.Coords) : k0_off53 i 0 = prev i := by
  have h : ∀ n : Fin 13, k0_off53 (fun a => ⟨n.val, by fin_cases a; exact n.isLt⟩) 0 = (n.val + 1) % 2 := by decide +kernel
  have e : i = fun a => ⟨(i 0).val, by fin_cases a; exact (i 0).isLt⟩ := by
    funext a; fin_cases a; rfl
  rw [e]; exact h (i 0)

theorem k0_off1_eq (i : grid0.Coords) : k0_off1 i = ![cur i, 0, 0] := by
  show ![k0_off1 i 0, 0, 0] = _
  rw [cur_word]

theorem k0_off2_eq (i : grid0.Coords) : k0_off2 i = ![cur i, 0, 0] := by
  show ![k0_off1 i 0, 0, 0] = _
  rw [cur_word]

theorem k0_off3_eq (i : grid0.Coords) : k0_off3 i = ![cur i, 32, 0] := by
  show ![k0_off1 i 0, 32, 0] = _
  rw [cur_word]

theorem k0_off4_eq (i : grid0.Coords) : k0_off4 i = ![cur i, 32, 0] := by
  show ![k0_off1 i 0, 32, 0] = _
  rw [cur_word]

theorem k0_off5_eq (i : grid0.Coords) : k0_off5 i = ![cur i, 64, 0] := by
  show ![k0_off1 i 0, 64, 0] = _
  rw [cur_word]

theorem k0_off6_eq (i : grid0.Coords) : k0_off6 i = ![cur i, 64, 0] := by
  show ![k0_off1 i 0, 64, 0] = _
  rw [cur_word]

theorem k0_off7_eq (i : grid0.Coords) : k0_off7 i = ![cur i, 96, 0] := by
  show ![k0_off1 i 0, 96, 0] = _
  rw [cur_word]

theorem k0_off8_eq (i : grid0.Coords) : k0_off8 i = ![cur i, 96, 0] := by
  show ![k0_off1 i 0, 96, 0] = _
  rw [cur_word]

theorem k0_off9_eq (i : grid0.Coords) : k0_off9 i = ![cur i, 128, 0] := by
  show ![k0_off1 i 0, 128, 0] = _
  rw [cur_word]

theorem k0_off10_eq (i : grid0.Coords) : k0_off10 i = ![cur i, 128, 0] := by
  show ![k0_off1 i 0, 128, 0] = _
  rw [cur_word]

theorem k0_off11_eq (i : grid0.Coords) : k0_off11 i = ![cur i, 160, 0] := by
  show ![k0_off1 i 0, 160, 0] = _
  rw [cur_word]

theorem k0_off12_eq (i : grid0.Coords) : k0_off12 i = ![cur i, 160, 0] := by
  show ![k0_off1 i 0, 160, 0] = _
  rw [cur_word]

theorem k0_off13_eq (i : grid0.Coords) : k0_off13 i = ![cur i, 192, 0] := by
  show ![k0_off1 i 0, 192, 0] = _
  rw [cur_word]

theorem k0_off14_eq (i : grid0.Coords) : k0_off14 i = ![cur i, 192, 0] := by
  show ![k0_off1 i 0, 192, 0] = _
  rw [cur_word]

theorem k0_off15_eq (i : grid0.Coords) : k0_off15 i = ![cur i, 224, 0] := by
  show ![k0_off1 i 0, 224, 0] = _
  rw [cur_word]

theorem k0_off16_eq (i : grid0.Coords) : k0_off16 i = ![cur i, 224, 0] := by
  show ![k0_off1 i 0, 224, 0] = _
  rw [cur_word]

theorem k0_off17_eq (i : grid0.Coords) : k0_off17 i = ![cur i, 256, 0] := by
  show ![k0_off1 i 0, 256, 0] = _
  rw [cur_word]

theorem k0_off18_eq (i : grid0.Coords) : k0_off18 i = ![cur i, 256, 0] := by
  show ![k0_off1 i 0, 256, 0] = _
  rw [cur_word]

theorem k0_off19_eq (i : grid0.Coords) : k0_off19 i = ![cur i, 288, 0] := by
  show ![k0_off1 i 0, 288, 0] = _
  rw [cur_word]

theorem k0_off20_eq (i : grid0.Coords) : k0_off20 i = ![cur i, 288, 0] := by
  show ![k0_off1 i 0, 288, 0] = _
  rw [cur_word]

theorem k0_off21_eq (i : grid0.Coords) : k0_off21 i = ![cur i, 320, 0] := by
  show ![k0_off1 i 0, 320, 0] = _
  rw [cur_word]

theorem k0_off22_eq (i : grid0.Coords) : k0_off22 i = ![cur i, 320, 0] := by
  show ![k0_off1 i 0, 320, 0] = _
  rw [cur_word]

theorem k0_off23_eq (i : grid0.Coords) : k0_off23 i = ![cur i, 352, 0] := by
  show ![k0_off1 i 0, 352, 0] = _
  rw [cur_word]

theorem k0_off24_eq (i : grid0.Coords) : k0_off24 i = ![cur i, 352, 0] := by
  show ![k0_off1 i 0, 352, 0] = _
  rw [cur_word]

theorem k0_off25_eq (i : grid0.Coords) : k0_off25 i = ![cur i, 0, 0] := by
  show ![k0_off1 i 0, 0, 0] = _
  rw [cur_word]

theorem k0_off26_eq (i : grid0.Coords) : k0_off26 i = ![cur i, 192, 0] := by
  show ![k0_off1 i 0, 192, 0] = _
  rw [cur_word]

theorem k0_off27_eq (i : grid0.Coords) : k0_off27 i = ![cur i, 0, 0] := by
  show ![k0_off1 i 0, 0, 0] = _
  rw [cur_word]

theorem k0_off28_eq (i : grid0.Coords) : k0_off28 i = ![cur i, 0, 0] := by
  show ![k0_off1 i 0, 0, 0] = _
  rw [cur_word]

theorem k0_off29_eq (i : grid0.Coords) : k0_off29 i = ![cur i, 32, 0] := by
  show ![k0_off1 i 0, 32, 0] = _
  rw [cur_word]

theorem k0_off30_eq (i : grid0.Coords) : k0_off30 i = ![cur i, 32, 0] := by
  show ![k0_off1 i 0, 32, 0] = _
  rw [cur_word]

theorem k0_off31_eq (i : grid0.Coords) : k0_off31 i = ![cur i, 64, 0] := by
  show ![k0_off1 i 0, 64, 0] = _
  rw [cur_word]

theorem k0_off32_eq (i : grid0.Coords) : k0_off32 i = ![cur i, 64, 0] := by
  show ![k0_off1 i 0, 64, 0] = _
  rw [cur_word]

theorem k0_off33_eq (i : grid0.Coords) : k0_off33 i = ![cur i, 96, 0] := by
  show ![k0_off1 i 0, 96, 0] = _
  rw [cur_word]

theorem k0_off34_eq (i : grid0.Coords) : k0_off34 i = ![cur i, 96, 0] := by
  show ![k0_off1 i 0, 96, 0] = _
  rw [cur_word]

theorem k0_off35_eq (i : grid0.Coords) : k0_off35 i = ![cur i, 128, 0] := by
  show ![k0_off1 i 0, 128, 0] = _
  rw [cur_word]

theorem k0_off36_eq (i : grid0.Coords) : k0_off36 i = ![cur i, 128, 0] := by
  show ![k0_off1 i 0, 128, 0] = _
  rw [cur_word]

theorem k0_off37_eq (i : grid0.Coords) : k0_off37 i = ![cur i, 160, 0] := by
  show ![k0_off1 i 0, 160, 0] = _
  rw [cur_word]

theorem k0_off38_eq (i : grid0.Coords) : k0_off38 i = ![cur i, 160, 0] := by
  show ![k0_off1 i 0, 160, 0] = _
  rw [cur_word]

theorem k0_off39_eq (i : grid0.Coords) : k0_off39 i = ![cur i, 192, 0] := by
  show ![k0_off1 i 0, 192, 0] = _
  rw [cur_word]

theorem k0_off40_eq (i : grid0.Coords) : k0_off40 i = ![cur i, 192, 0] := by
  show ![k0_off1 i 0, 192, 0] = _
  rw [cur_word]

theorem k0_off41_eq (i : grid0.Coords) : k0_off41 i = ![cur i, 224, 0] := by
  show ![k0_off1 i 0, 224, 0] = _
  rw [cur_word]

theorem k0_off42_eq (i : grid0.Coords) : k0_off42 i = ![cur i, 224, 0] := by
  show ![k0_off1 i 0, 224, 0] = _
  rw [cur_word]

theorem k0_off43_eq (i : grid0.Coords) : k0_off43 i = ![cur i, 256, 0] := by
  show ![k0_off1 i 0, 256, 0] = _
  rw [cur_word]

theorem k0_off44_eq (i : grid0.Coords) : k0_off44 i = ![cur i, 256, 0] := by
  show ![k0_off1 i 0, 256, 0] = _
  rw [cur_word]

theorem k0_off45_eq (i : grid0.Coords) : k0_off45 i = ![cur i, 288, 0] := by
  show ![k0_off1 i 0, 288, 0] = _
  rw [cur_word]

theorem k0_off46_eq (i : grid0.Coords) : k0_off46 i = ![cur i, 288, 0] := by
  show ![k0_off1 i 0, 288, 0] = _
  rw [cur_word]

theorem k0_off47_eq (i : grid0.Coords) : k0_off47 i = ![cur i, 320, 0] := by
  show ![k0_off1 i 0, 320, 0] = _
  rw [cur_word]

theorem k0_off48_eq (i : grid0.Coords) : k0_off48 i = ![cur i, 320, 0] := by
  show ![k0_off1 i 0, 320, 0] = _
  rw [cur_word]

theorem k0_off49_eq (i : grid0.Coords) : k0_off49 i = ![cur i, 352, 0] := by
  show ![k0_off1 i 0, 352, 0] = _
  rw [cur_word]

theorem k0_off50_eq (i : grid0.Coords) : k0_off50 i = ![cur i, 352, 0] := by
  show ![k0_off1 i 0, 352, 0] = _
  rw [cur_word]

theorem k0_off51_eq (i : grid0.Coords) : k0_off51 i = ![cur i, 0, 0] := by
  show ![k0_off1 i 0, 0, 0] = _
  rw [cur_word]

theorem k0_off52_eq (i : grid0.Coords) : k0_off52 i = ![cur i, 192, 0] := by
  show ![k0_off1 i 0, 192, 0] = _
  rw [cur_word]

theorem k0_off53_eq (i : grid0.Coords) : k0_off53 i = ![prev i, 0, 0] := by
  show ![k0_off53 i 0, 0, 0] = _
  rw [prev_word]

theorem k0_off54_eq (i : grid0.Coords) : k0_off54 i = ![prev i, 0, 0] := by
  show ![k0_off53 i 0, 0, 0] = _
  rw [prev_word]

section

variable (c : Dev nD) (i : grid0.Coords) (arg1 : Memref sig .tc .vmem S384x2048 .bf16) (harg1 : arg1.IsWhole) (arg2 : Memref sig .tc .vmem S1x2048 .f32) (harg2 : arg2.IsWhole) (arg3 : Memref sig .tc .vmem S2048x6144 .i8) (harg3 : arg3.IsWhole) (arg4 : Memref sig .tc .vmem S1x6144 .f32) (harg4 : arg4.IsWhole) (arg5 : Memref sig .tc .vmem S2x64x192 .f32) (harg5 : arg5.IsWhole) (arg6 : Memref sig .tc .vmem S2x64x192 .f32) (harg6 : arg6.IsWhole) (arg7 : Memref sig .tc .vmem S384x2048 .i8) (harg7 : arg7.IsWhole) (arg8 : Memref sig .tc .vmem S2x1x192 .f32) (harg8 : arg8.IsWhole) (arg9 : Memref sig .tc .vmem S384x2048 .bf16) (harg9 : arg9.IsWhole) (arg10 : Memref sig .tc .vmem S2x192x16x128 .i8) (harg10 : arg10.IsWhole) (arg11 : Memref sig .tc .vmem S2x16x192 .f32) (harg11 : arg11.IsWhole) (arg12 : Memref sig .tc .vmem S2x192x16x128 .i8) (harg12 : arg12.IsWhole) (arg13 : Memref sig .tc .vmem S2x16x192 .f32) (harg13 : arg13.IsWhole) (arg14 : Memref sig .tc .vmem S2x384x2048 .bf16) (harg14 : arg14.IsWhole) (arg15 : Memref sig .tc .vmem S2x384x128 .f32) (harg15 : arg15.IsWhole)
include c i arg1 harg1 arg2 harg2 arg3 harg3 arg4 harg4 arg5 harg5 arg6 harg6 arg7 harg7 arg8 harg8 arg9 harg9 arg10 harg10 arg11 harg11 arg12 harg12 arg13 harg13 arg14 harg14 arg15 harg15

set_option maxHeartbeats 4000000 in
/-- Piece 1 takes the buffers from `s` to `step1 i x s`. -/
theorem seg1_run (x : Ins F) (s : St F) (rest : Prog (TpuEff nD τ sig (Elt F) Λ₀ .tc) PUnit) (K : PUnit → sProp 𝕄) :
    iprop(Res c arg1 arg2 arg3 arg4 arg5 arg6 arg7 arg8 arg9 arg10 arg11 arg12 arg13 arg14 arg15 x s ∗ (Res c arg1 arg2 arg3 arg4 arg5 arg6 arg7 arg8 arg9 arg10 arg11 arg12 arg13 arg14 arg15 x (step1 i x s) -∗ wp frame (wpE (defs₀ (F := F)) Variants.none c none) Set.univ rest K))
      ⊢ wp frame (wpE (defs₀ (F := F)) Variants.none c none) Set.univ (seg1 i arg1 harg1 arg2 harg2 arg3 harg3 arg4 harg4 arg5 harg5 arg6 harg6 arg7 harg7 arg8 harg8 arg9 harg9 arg10 harg10 arg11 harg11 arg12 harg12 arg13 harg13 arg14 harg14 arg15 harg15 rest) K := by
  by_cases hc : k0_cond1 i = 1#1
  · unfold seg1 step1 quant
    rw [dif_pos hc, if_pos hc]
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    obtain ⟨xx, g, w, sc, co, si⟩ := x
    obtain ⟨x1c, x1s, kc, ks, vc, vs, xb, xs⟩ := s
    unfold Res owns
    dsimp only
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%q9, %f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    subst hf1 hf2 hf3 hf4 hf5 hf6 hf7 hf8 hf9 hf10 hf11 hf12 hf13 hf14 hf15
    have e2 : arg2.view.readAt (Elt F) (Rect.unit (s := S1x2048) ![0, 0] ![1, 2048] inb_S1x2048_S1x2048_0_0).toLoadRect f2 = arg2.view.read (Elt F) f2 := View.readAt_full _ _ _
    sl_exec
    iapply Hk
    isplitl [H1]; swap; isplitl [H2]; swap; isplitl [H3]; swap; isplitl [H4]; swap; isplitl [H5]; swap; isplitl [H6]; swap
    isplitl [H7]
    · iexists _; isplitr; swap; · iexact H7
      ipureintro; unfold fin_x1c; (iterate 12 rw [View.read_writes_cons_put _ _ _ _ _ rfl]); rw [View.writes_nil]; refine put_congr (put_congr (put_congr (put_congr (put_congr (put_congr (put_congr (put_congr (put_congr (put_congr (put_congr (put_congr rfl ?_) ?_) ?_) ?_) ?_) ?_) ?_) ?_) ?_) ?_) ?_) ?_ <;> (sl_unfold_run_names; simp only [e2]; rfl)
    isplitl [H8]; swap
    isplitl [H9]
    · iexists _; iexists _; isplitr; swap; · iexact H9
      ipureintro; rfl
    isplitl [H10]; swap; isplitl [H11]; swap; isplitl [H12]; swap; isplitl [H13]; swap
    isplitl [H14]
    · iexists _; isplitr; swap; · iexact H14
      ipureintro; unfold fin_xb; rw [View.read_writes_cons_put _ _ _ _ _ (k0_off23_eq i), View.read_writes_cons_put _ _ _ _ _ (k0_off21_eq i), View.read_writes_cons_put _ _ _ _ _ (k0_off19_eq i), View.read_writes_cons_put _ _ _ _ _ (k0_off17_eq i), View.read_writes_cons_put _ _ _ _ _ (k0_off15_eq i), View.read_writes_cons_put _ _ _ _ _ (k0_off13_eq i), View.read_writes_cons_put _ _ _ _ _ (k0_off11_eq i), View.read_writes_cons_put _ _ _ _ _ (k0_off9_eq i), View.read_writes_cons_put _ _ _ _ _ (k0_off7_eq i), View.read_writes_cons_put _ _ _ _ _ (k0_off5_eq i), View.read_writes_cons_put _ _ _ _ _ (k0_off3_eq i), View.read_writes_cons_put _ _ _ _ _ (k0_off1_eq i), View.writes_nil]; refine put_congr (put_congr (put_congr (put_congr (put_congr (put_congr (put_congr (put_congr (put_congr (put_congr (put_congr (put_congr rfl ?_) ?_) ?_) ?_) ?_) ?_) ?_) ?_) ?_) ?_) ?_) ?_ <;> (sl_unfold_run_names; simp only [e2]; rfl)
    · iexists _; isplitr; swap; · iexact H15
      ipureintro; unfold fin_xs; rw [View.read_writes_cons_put _ _ _ _ _ (k0_off24_eq i), View.read_writes_cons_put _ _ _ _ _ (k0_off22_eq i), View.read_writes_cons_put _ _ _ _ _ (k0_off20_eq i), View.read_writes_cons_put _ _ _ _ _ (k0_off18_eq i), View.read_writes_cons_put _ _ _ _ _ (k0_off16_eq i), View.read_writes_cons_put _ _ _ _ _ (k0_off14_eq i), View.read_writes_cons_put _ _ _ _ _ (k0_off12_eq i), View.read_writes_cons_put _ _ _ _ _ (k0_off10_eq i), View.read_writes_cons_put _ _ _ _ _ (k0_off8_eq i), View.read_writes_cons_put _ _ _ _ _ (k0_off6_eq i), View.read_writes_cons_put _ _ _ _ _ (k0_off4_eq i), View.read_writes_cons_put _ _ _ _ _ (k0_off2_eq i), View.writes_nil]; refine put_congr (put_congr (put_congr (put_congr (put_congr (put_congr (put_congr (put_congr (put_congr (put_congr (put_congr (put_congr rfl ?_) ?_) ?_) ?_) ?_) ?_) ?_) ?_) ?_) ?_) ?_) ?_ <;> (sl_unfold_run_names; simp only [e2]; rfl)
    all_goals (iexists _; isplitr; swap; · iassumption)
    all_goals ipureintro; rfl
  · unfold seg1 step1
    rw [dif_neg hc, if_neg hc]
    iintro ⟨H, Hk⟩
    iapply Hk
    iexact H

set_option maxHeartbeats 4000000 in
/-- Piece 2 takes the buffers from `s` to `step2 i x s`. -/
theorem seg2_run (x : Ins F) (s : St F) (rest : Prog (TpuEff nD τ sig (Elt F) Λ₀ .tc) PUnit) (K : PUnit → sProp 𝕄) :
    iprop(Res c arg1 arg2 arg3 arg4 arg5 arg6 arg7 arg8 arg9 arg10 arg11 arg12 arg13 arg14 arg15 x s ∗ (Res c arg1 arg2 arg3 arg4 arg5 arg6 arg7 arg8 arg9 arg10 arg11 arg12 arg13 arg14 arg15 x (step2 i x s) -∗ wp frame (wpE (defs₀ (F := F)) Variants.none c none) Set.univ rest K))
      ⊢ wp frame (wpE (defs₀ (F := F)) Variants.none c none) Set.univ (seg2 i arg1 harg1 arg2 harg2 arg3 harg3 arg4 harg4 arg5 harg5 arg6 harg6 arg7 harg7 arg8 harg8 arg9 harg9 arg10 harg10 arg11 harg11 arg12 harg12 arg13 harg13 arg14 harg14 arg15 harg15 rest) K := by
  by_cases hc : k0_cond1 i = 1#1
  · unfold seg2 step2 rowOf
    rw [dif_pos hc, if_pos hc]

    obtain ⟨xx, g, w, sc, co, si⟩ := x
    obtain ⟨x1c, x1s, kc, ks, vc, vs, xb, xs⟩ := s
    unfold Res owns
    dsimp only
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%q9, %f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    subst hf1 hf2 hf3 hf4 hf5 hf6 hf7 hf8 hf9 hf10 hf11 hf12 hf13 hf14 hf15
    sl_exec
    iapply Hk
    isplitl [H1]; swap; isplitl [H2]; swap; isplitl [H3]; swap; isplitl [H4]; swap; isplitl [H5]; swap; isplitl [H6]; swap
    isplitl [H7]; swap
    isplitl [H8]
    · iexists _; isplitr; swap; · iexact H8
      ipureintro; unfold fin_x1s; rw [View.read_writes_cons_put _ _ _ _ _ rfl, View.read_writes_cons_put _ _ _ _ _ rfl, View.writes_nil]; refine put_congr (put_congr rfl ?_) ?_ <;> (sl_unfold_run_names; simp only [View.readAt_unit arg15.view _ _ (k0_off25_eq i) (seq_inb i 0 (by decide)), View.readAt_unit arg15.view _ _ (k0_off26_eq i) (seq_inb i 192 (by decide))]; rfl)
    isplitl [H9]
    · iexists _; iexists _; isplitr; swap; · iexact H9
      ipureintro; rfl
    isplitl [H10]; swap; isplitl [H11]; swap; isplitl [H12]; swap; isplitl [H13]; swap; isplitl [H14]; swap
    · iexists _; isplitr; swap; · iexact H15
      ipureintro; rfl
    all_goals (iexists _; isplitr; swap; · iassumption)
    all_goals ipureintro; rfl
  · unfold seg2 step2
    rw [dif_neg hc, if_neg hc]
    iintro ⟨H, Hk⟩
    iapply Hk
    iexact H

set_option maxHeartbeats 4000000 in
/-- Piece 3 takes the buffers from `s` to `step3 i x s`. -/
theorem seg3_run (x : Ins F) (s : St F) (rest : Prog (TpuEff nD τ sig (Elt F) Λ₀ .tc) PUnit) (K : PUnit → sProp 𝕄) :
    iprop(Res c arg1 arg2 arg3 arg4 arg5 arg6 arg7 arg8 arg9 arg10 arg11 arg12 arg13 arg14 arg15 x s ∗ (Res c arg1 arg2 arg3 arg4 arg5 arg6 arg7 arg8 arg9 arg10 arg11 arg12 arg13 arg14 arg15 x (step3 i x s) -∗ wp frame (wpE (defs₀ (F := F)) Variants.none c none) Set.univ rest K))
      ⊢ wp frame (wpE (defs₀ (F := F)) Variants.none c none) Set.univ (seg3 i arg1 harg1 arg2 harg2 arg3 harg3 arg4 harg4 arg5 harg5 arg6 harg6 arg7 harg7 arg8 harg8 arg9 harg9 arg10 harg10 arg11 harg11 arg12 harg12 arg13 harg13 arg14 harg14 arg15 harg15 rest) K := by
  by_cases hc : k0_cond2 i = 1#1
  · unfold seg3 step3 quant
    rw [dif_pos hc, if_pos hc]
    simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    obtain ⟨xx, g, w, sc, co, si⟩ := x
    obtain ⟨x1c, x1s, kc, ks, vc, vs, xb, xs⟩ := s
    unfold Res owns
    dsimp only
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%q9, %f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    subst hf1 hf2 hf3 hf4 hf5 hf6 hf7 hf8 hf9 hf10 hf11 hf12 hf13 hf14 hf15
    have e2 : arg2.view.readAt (Elt F) (Rect.unit (s := S1x2048) ![0, 0] ![1, 2048] inb_S1x2048_S1x2048_0_0).toLoadRect f2 = arg2.view.read (Elt F) f2 := View.readAt_full _ _ _
    sl_exec
    iapply Hk
    isplitl [H1]; swap; isplitl [H2]; swap; isplitl [H3]; swap; isplitl [H4]; swap; isplitl [H5]; swap; isplitl [H6]; swap
    isplitl [H7]
    · iexists _; isplitr; swap; · iexact H7
      ipureintro; unfold fin_x1c; (iterate 12 rw [View.read_writes_cons_put _ _ _ _ _ rfl]); rw [View.writes_nil]; refine put_congr (put_congr (put_congr (put_congr (put_congr (put_congr (put_congr (put_congr (put_congr (put_congr (put_congr (put_congr rfl ?_) ?_) ?_) ?_) ?_) ?_) ?_) ?_) ?_) ?_) ?_) ?_ <;> (sl_unfold_run_names; simp only [e2]; rfl)
    isplitl [H8]; swap
    isplitl [H9]
    · iexists _; iexists _; isplitr; swap; · iexact H9
      ipureintro; rfl
    isplitl [H10]; swap; isplitl [H11]; swap; isplitl [H12]; swap; isplitl [H13]; swap
    isplitl [H14]
    · iexists _; isplitr; swap; · iexact H14
      ipureintro; unfold fin_xb; rw [View.read_writes_cons_put _ _ _ _ _ (k0_off49_eq i), View.read_writes_cons_put _ _ _ _ _ (k0_off47_eq i), View.read_writes_cons_put _ _ _ _ _ (k0_off45_eq i), View.read_writes_cons_put _ _ _ _ _ (k0_off43_eq i), View.read_writes_cons_put _ _ _ _ _ (k0_off41_eq i), View.read_writes_cons_put _ _ _ _ _ (k0_off39_eq i), View.read_writes_cons_put _ _ _ _ _ (k0_off37_eq i), View.read_writes_cons_put _ _ _ _ _ (k0_off35_eq i), View.read_writes_cons_put _ _ _ _ _ (k0_off33_eq i), View.read_writes_cons_put _ _ _ _ _ (k0_off31_eq i), View.read_writes_cons_put _ _ _ _ _ (k0_off29_eq i), View.read_writes_cons_put _ _ _ _ _ (k0_off27_eq i), View.writes_nil]; refine put_congr (put_congr (put_congr (put_congr (put_congr (put_congr (put_congr (put_congr (put_congr (put_congr (put_congr (put_congr rfl ?_) ?_) ?_) ?_) ?_) ?_) ?_) ?_) ?_) ?_) ?_) ?_ <;> (sl_unfold_run_names; simp only [e2]; rfl)
    · iexists _; isplitr; swap; · iexact H15
      ipureintro; unfold fin_xs; rw [View.read_writes_cons_put _ _ _ _ _ (k0_off50_eq i), View.read_writes_cons_put _ _ _ _ _ (k0_off48_eq i), View.read_writes_cons_put _ _ _ _ _ (k0_off46_eq i), View.read_writes_cons_put _ _ _ _ _ (k0_off44_eq i), View.read_writes_cons_put _ _ _ _ _ (k0_off42_eq i), View.read_writes_cons_put _ _ _ _ _ (k0_off40_eq i), View.read_writes_cons_put _ _ _ _ _ (k0_off38_eq i), View.read_writes_cons_put _ _ _ _ _ (k0_off36_eq i), View.read_writes_cons_put _ _ _ _ _ (k0_off34_eq i), View.read_writes_cons_put _ _ _ _ _ (k0_off32_eq i), View.read_writes_cons_put _ _ _ _ _ (k0_off30_eq i), View.read_writes_cons_put _ _ _ _ _ (k0_off28_eq i), View.writes_nil]; refine put_congr (put_congr (put_congr (put_congr (put_congr (put_congr (put_congr (put_congr (put_congr (put_congr (put_congr (put_congr rfl ?_) ?_) ?_) ?_) ?_) ?_) ?_) ?_) ?_) ?_) ?_) ?_ <;> (sl_unfold_run_names; simp only [e2]; rfl)
    all_goals (iexists _; isplitr; swap; · iassumption)
    all_goals ipureintro; rfl
  · unfold seg3 step3
    rw [dif_neg hc, if_neg hc]
    iintro ⟨H, Hk⟩
    iapply Hk
    iexact H

set_option maxHeartbeats 4000000 in
/-- Piece 4 takes the buffers from `s` to `step4 i x s`. -/
theorem seg4_run (x : Ins F) (s : St F) (rest : Prog (TpuEff nD τ sig (Elt F) Λ₀ .tc) PUnit) (K : PUnit → sProp 𝕄) :
    iprop(Res c arg1 arg2 arg3 arg4 arg5 arg6 arg7 arg8 arg9 arg10 arg11 arg12 arg13 arg14 arg15 x s ∗ (Res c arg1 arg2 arg3 arg4 arg5 arg6 arg7 arg8 arg9 arg10 arg11 arg12 arg13 arg14 arg15 x (step4 i x s) -∗ wp frame (wpE (defs₀ (F := F)) Variants.none c none) Set.univ rest K))
      ⊢ wp frame (wpE (defs₀ (F := F)) Variants.none c none) Set.univ (seg4 i arg1 harg1 arg2 harg2 arg3 harg3 arg4 harg4 arg5 harg5 arg6 harg6 arg7 harg7 arg8 harg8 arg9 harg9 arg10 harg10 arg11 harg11 arg12 harg12 arg13 harg13 arg14 harg14 arg15 harg15 rest) K := by
  by_cases hc : k0_cond2 i = 1#1
  · unfold seg4 step4 rowOf
    rw [dif_pos hc, if_pos hc]

    obtain ⟨xx, g, w, sc, co, si⟩ := x
    obtain ⟨x1c, x1s, kc, ks, vc, vs, xb, xs⟩ := s
    unfold Res owns
    dsimp only
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%q9, %f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
    subst hf1 hf2 hf3 hf4 hf5 hf6 hf7 hf8 hf9 hf10 hf11 hf12 hf13 hf14 hf15
    sl_exec
    iapply Hk
    isplitl [H1]; swap; isplitl [H2]; swap; isplitl [H3]; swap; isplitl [H4]; swap; isplitl [H5]; swap; isplitl [H6]; swap
    isplitl [H7]; swap
    isplitl [H8]
    · iexists _; isplitr; swap; · iexact H8
      ipureintro; unfold fin_x1s; rw [View.read_writes_cons_put _ _ _ _ _ rfl, View.read_writes_cons_put _ _ _ _ _ rfl, View.writes_nil]; refine put_congr (put_congr rfl ?_) ?_ <;> (sl_unfold_run_names; simp only [View.readAt_unit arg15.view _ _ (k0_off51_eq i) (seq_inb i 0 (by decide)), View.readAt_unit arg15.view _ _ (k0_off52_eq i) (seq_inb i 192 (by decide))]; rfl)
    isplitl [H9]
    · iexists _; iexists _; isplitr; swap; · iexact H9
      ipureintro; rfl
    isplitl [H10]; swap; isplitl [H11]; swap; isplitl [H12]; swap; isplitl [H13]; swap; isplitl [H14]; swap
    · iexists _; isplitr; swap; · iexact H15
      ipureintro; rfl
    all_goals (iexists _; isplitr; swap; · iassumption)
    all_goals ipureintro; rfl
  · unfold seg4 step4
    rw [dif_neg hc, if_neg hc]
    iintro ⟨H, Hk⟩
    iapply Hk
    iexact H

end

end Cert.Qkv.Hand

end
-- ==== Proof.QkvProj.lean ====
/-
  The three projections of the block before, and the whole body.
-/
module

public import proofs.«01_k».proof.Proof.QkvBody

@[expose] public section

set_option maxRecDepth 65536

noncomputable section

namespace Cert.Qkv.Hand

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section

variable (c : Dev nD) (i : grid0.Coords) (arg1 : Memref sig .tc .vmem S384x2048 .bf16) (harg1 : arg1.IsWhole) (arg2 : Memref sig .tc .vmem S1x2048 .f32) (harg2 : arg2.IsWhole) (arg3 : Memref sig .tc .vmem S2048x6144 .i8) (harg3 : arg3.IsWhole) (arg4 : Memref sig .tc .vmem S1x6144 .f32) (harg4 : arg4.IsWhole) (arg5 : Memref sig .tc .vmem S2x64x192 .f32) (harg5 : arg5.IsWhole) (arg6 : Memref sig .tc .vmem S2x64x192 .f32) (harg6 : arg6.IsWhole) (arg7 : Memref sig .tc .vmem S384x2048 .i8) (harg7 : arg7.IsWhole) (arg8 : Memref sig .tc .vmem S2x1x192 .f32) (harg8 : arg8.IsWhole) (arg9 : Memref sig .tc .vmem S384x2048 .bf16) (harg9 : arg9.IsWhole) (arg10 : Memref sig .tc .vmem S2x192x16x128 .i8) (harg10 : arg10.IsWhole) (arg11 : Memref sig .tc .vmem S2x16x192 .f32) (harg11 : arg11.IsWhole) (arg12 : Memref sig .tc .vmem S2x192x16x128 .i8) (harg12 : arg12.IsWhole) (arg13 : Memref sig .tc .vmem S2x16x192 .f32) (harg13 : arg13.IsWhole) (arg14 : Memref sig .tc .vmem S2x384x2048 .bf16) (harg14 : arg14.IsWhole) (arg15 : Memref sig .tc .vmem S2x384x128 .f32) (harg15 : arg15.IsWhole)
include c i arg1 harg1 arg2 harg2 arg3 harg3 arg4 harg4 arg5 harg5 arg6 harg6 arg7 harg7 arg8 harg8 arg9 harg9 arg10 harg10 arg11 harg11 arg12 harg12 arg13 harg13 arg14 harg14 arg15 harg15

set_option maxHeartbeats 16000000 in
/-- The queries leave the other buffers as they were. -/
theorem segQ_run (v581 : FVec F S384x128 .f32) (v582 : FVec F S384x128 .f32) (v585 : FVec F S384x2048 .bf16) (v588 : FVec F S384x128 .f32) (x : Ins F) (s : St F) (rest : Prog (TpuEff nD τ sig (Elt F) Λ₀ .tc) PUnit) (K : PUnit → sProp 𝕄) :
    iprop(Res c arg1 arg2 arg3 arg4 arg5 arg6 arg7 arg8 arg9 arg10 arg11 arg12 arg13 arg14 arg15 x s ∗ (Res c arg1 arg2 arg3 arg4 arg5 arg6 arg7 arg8 arg9 arg10 arg11 arg12 arg13 arg14 arg15 x s -∗ wp frame (wpE (defs₀ (F := F)) Variants.none c none) Set.univ rest K))
      ⊢ wp frame (wpE (defs₀ (F := F)) Variants.none c none) Set.univ (segQ i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v585 v588 rest) K := by
  unfold segQ
  simp only [k0_part28_eq_skeleton, k0_part29_eq_skeleton, k0_part30_eq_skeleton, k0_part31_eq_skeleton, k0_part32_eq_skeleton]
  obtain ⟨xx, g, w, sc, co, si⟩ := x
  obtain ⟨x1c, x1s, kc, ks, vc, vs, xb, xs⟩ := s
  unfold Res owns
  dsimp only
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%q9, %f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  iapply Hk
  isplitl [H1]; swap; isplitl [H2]; swap; isplitl [H3]; swap; isplitl [H4]; swap; isplitl [H5]; swap; isplitl [H6]; swap
  isplitl [H7]; swap; isplitl [H8]; swap
  isplitl [H9]
  · iexists _; iexists _; isplitr; swap; · iexact H9
    ipureintro; rfl
  isplitl [H10]; swap; isplitl [H11]; swap; isplitl [H12]; swap; isplitl [H13]; swap; isplitl [H14]; swap
  · iexists _; isplitr; swap; · iexact H15
    ipureintro; rfl
  all_goals (iexists _; isplitr; swap; · iassumption)
  all_goals ipureintro; rfl

set_option maxHeartbeats 16000000 in
/-- The keys. -/
theorem segK_run (v581 : FVec F S384x128 .f32) (v582 : FVec F S384x128 .f32) (v585 : FVec F S384x2048 .bf16) (v588 : FVec F S384x128 .f32) (x : Ins F) (s : St F) (h1 : v581 = cosR x) (h2 : v582 = sinR x) (h5 : v585 = xbR i s.xb) (h8 : v588 = xsR i s.xs) (rest : Prog (TpuEff nD τ sig (Elt F) Λ₀ .tc) PUnit) (K : PUnit → sProp 𝕄) :
    iprop(Res c arg1 arg2 arg3 arg4 arg5 arg6 arg7 arg8 arg9 arg10 arg11 arg12 arg13 arg14 arg15 x s ∗ (Res c arg1 arg2 arg3 arg4 arg5 arg6 arg7 arg8 arg9 arg10 arg11 arg12 arg13 arg14 arg15 x (keys i x s) -∗ wp frame (wpE (defs₀ (F := F)) Variants.none c none) Set.univ rest K))
      ⊢ wp frame (wpE (defs₀ (F := F)) Variants.none c none) Set.univ (segK i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v585 v588 rest) K := by
  unfold keys
  subst h1 h2 h5 h8
  unfold segK
  simp only [k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
  obtain ⟨xx, g, w, sc, co, si⟩ := x
  obtain ⟨x1c, x1s, kc, ks, vc, vs, xb, xs⟩ := s
  unfold Res owns
  dsimp only
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%q9, %f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  iapply Hk
  isplitl [H1]; swap; isplitl [H2]; swap; isplitl [H3]; swap; isplitl [H4]; swap; isplitl [H5]; swap; isplitl [H6]; swap
  isplitl [H7]; swap; isplitl [H8]; swap
  isplitl [H9]
  · iexists _; iexists _; isplitr; swap; · iexact H9
    ipureintro; rfl
  isplitl [H10]
  · iexists _; isplitr; swap; · iexact H10
    ipureintro; unfold codes16; (iterate 8 rw [View.read_writes_cons_put _ _ _ _ _ rfl]); rw [View.writes_nil]; refine put_congr (put_congr (put_congr (put_congr (put_congr (put_congr (put_congr (put_congr rfl ?_) ?_) ?_) ?_) ?_) ?_) ?_) ?_ <;> (sl_unfold_run_names; rfl)
  isplitl [H11]
  · iexists _; isplitr; swap; · iexact H11
    ipureintro; unfold scales16; rw [View.read_writes_cons_put _ _ _ _ _ rfl, View.read_writes_cons_put _ _ _ _ _ rfl, View.writes_nil]; refine put_congr (put_congr rfl ?_) ?_ <;> (sl_unfold_run_names; rfl)
  isplitl [H12]; swap; isplitl [H13]; swap; isplitl [H14]; swap
  · iexists _; isplitr; swap; · iexact H15
    ipureintro; rfl
  all_goals (iexists _; isplitr; swap; · iassumption)
  all_goals ipureintro; rfl

set_option maxHeartbeats 16000000 in
/-- The values. -/
theorem segV_run (v581 : FVec F S384x128 .f32) (v582 : FVec F S384x128 .f32) (v585 : FVec F S384x2048 .bf16) (v588 : FVec F S384x128 .f32) (x : Ins F) (s : St F) (h5 : v585 = xbR i s.xb) (h8 : v588 = xsR i s.xs) (rest : Prog (TpuEff nD τ sig (Elt F) Λ₀ .tc) PUnit) (K : PUnit → sProp 𝕄) :
    iprop(Res c arg1 arg2 arg3 arg4 arg5 arg6 arg7 arg8 arg9 arg10 arg11 arg12 arg13 arg14 arg15 x s ∗ (Res c arg1 arg2 arg3 arg4 arg5 arg6 arg7 arg8 arg9 arg10 arg11 arg12 arg13 arg14 arg15 x (vals i x s) -∗ wp frame (wpE (defs₀ (F := F)) Variants.none c none) Set.univ rest K))
      ⊢ wp frame (wpE (defs₀ (F := F)) Variants.none c none) Set.univ (segV i arg1 harg1 arg2 harg2 arg3 harg3 arg4 harg4 arg5 harg5 arg6 harg6 arg7 harg7 arg8 harg8 arg9 harg9 arg10 harg10 arg11 harg11 arg12 harg12 arg13 harg13 arg14 harg14 arg15 harg15 v581 v582 v585 v588 rest) K := by
  unfold vals
  subst h5 h8
  unfold segV
  simp only [k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
  obtain ⟨xx, g, w, sc, co, si⟩ := x
  obtain ⟨x1c, x1s, kc, ks, vc, vs, xb, xs⟩ := s
  unfold Res owns
  dsimp only
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%q9, %f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  sl_exec
  iapply Hk
  isplitl [H1]; swap; isplitl [H2]; swap; isplitl [H3]; swap; isplitl [H4]; swap; isplitl [H5]; swap; isplitl [H6]; swap
  isplitl [H7]; swap; isplitl [H8]; swap
  isplitl [H9]
  · iexists _; iexists _; isplitr; swap; · iexact H9
    ipureintro; rfl
  isplitl [H10]; swap; isplitl [H11]; swap
  isplitl [H12]
  · iexists _; isplitr; swap; · iexact H12
    ipureintro; unfold codes16; (iterate 8 rw [View.read_writes_cons_put _ _ _ _ _ rfl]); rw [View.writes_nil]; refine put_congr (put_congr (put_congr (put_congr (put_congr (put_congr (put_congr (put_congr rfl ?_) ?_) ?_) ?_) ?_) ?_) ?_) ?_ <;> (sl_unfold_run_names; rfl)
  isplitl [H13]
  · iexists _; isplitr; swap; · iexact H13
    ipureintro; unfold scales16; rw [View.read_writes_cons_put _ _ _ _ _ rfl, View.read_writes_cons_put _ _ _ _ _ rfl, View.writes_nil]; refine put_congr (put_congr rfl ?_) ?_ <;> (sl_unfold_run_names; rfl)
  isplitl [H14]; swap
  · iexists _; isplitr; swap; · iexact H15
    ipureintro; rfl
  all_goals (iexists _; isplitr; swap; · iassumption)
  all_goals ipureintro; rfl

/-- The projections' loads: what they load of the scratch buffers is the half the point reads. -/
theorem seg5_run (next : FVec F S384x128 .f32 → FVec F S384x128 .f32 → FVec F S384x2048 .bf16 → FVec F S384x128 .f32 → Prog (TpuEff nD τ sig (Elt F) Λ₀ .tc) PUnit) (hc : k0_cond2 i = 1#1) (x : Ins F) (s : St F) (rest : Prog (TpuEff nD τ sig (Elt F) Λ₀ .tc) PUnit) (K : PUnit → sProp 𝕄) :
    iprop(Res c arg1 arg2 arg3 arg4 arg5 arg6 arg7 arg8 arg9 arg10 arg11 arg12 arg13 arg14 arg15 x s ∗ (Res c arg1 arg2 arg3 arg4 arg5 arg6 arg7 arg8 arg9 arg10 arg11 arg12 arg13 arg14 arg15 x s -∗ wp frame (wpE (defs₀ (F := F)) Variants.none c none) Set.univ
        (next (cosR x) (sinR x)
          (xbR i s.xb) (xsR i s.xs)) K))
      ⊢ wp frame (wpE (defs₀ (F := F)) Variants.none c none) Set.univ (seg5 i arg1 harg1 arg2 harg2 arg3 harg3 arg4 harg4 arg5 harg5 arg6 harg6 arg7 harg7 arg8 harg8 arg9 harg9 arg10 harg10 arg11 harg11 arg12 harg12 arg13 harg13 arg14 harg14 arg15 harg15 next rest) K := by
  unfold seg5
  rw [dif_pos hc]
  obtain ⟨xx, g, w, sc, co, si⟩ := x
  obtain ⟨x1c, x1s, kc, ks, vc, vs, xb, xs⟩ := s
  unfold Res owns
  dsimp only
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%q9, %f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩, Hk⟩
  subst hf1 hf2 hf3 hf4 hf5 hf6 hf7 hf8 hf9 hf10 hf11 hf12 hf13 hf14 hf15
  rw [show xbR i (View.read (Elt F) arg14.view f14) = k0_pay181 (arg14.view.readAt (Elt F) (Rect.unit (s := S2x384x2048) (k0_off53 i) S1x384x2048.size (k0_off53_inb i hc)).toLoadRect f14) from
    by rw [View.readAt_unit arg14.view f14 _ (k0_off53_eq i) (xb_inb i)]; rfl,
    show xsR i (View.read (Elt F) arg15.view f15) = k0_pay182 (arg15.view.readAt (Elt F) (Rect.unit (s := S2x384x128) (k0_off54 i) S1x384x128.size (k0_off54_inb i hc)).toLoadRect f15) from
    by rw [View.readAt_unit arg15.view f15 _ (k0_off54_eq i) (xs_inb i)]; rfl]
  sl_exec
  iapply Hk
  isplitl [H1]; swap; isplitl [H2]; swap; isplitl [H3]; swap; isplitl [H4]; swap; isplitl [H5]; swap; isplitl [H6]; swap
  isplitl [H7]; swap; isplitl [H8]; swap
  isplitl [H9]
  · iexists _; iexists _; isplitr; swap; · iexact H9
    ipureintro; rfl
  isplitl [H10]; swap; isplitl [H11]; swap; isplitl [H12]; swap; isplitl [H13]; swap; isplitl [H14]; swap
  · iexists _; isplitr; swap; · iexact H15
    ipureintro; rfl
  all_goals (iexists _; isplitr; swap; · iassumption)
  all_goals ipureintro; rfl

/-- The three projections take the buffers from `s` to `step5 i x s`. -/
theorem proj_run (x : Ins F) (s : St F) (rest : Prog (TpuEff nD τ sig (Elt F) Λ₀ .tc) PUnit) (K : PUnit → sProp 𝕄) :
    iprop(Res c arg1 arg2 arg3 arg4 arg5 arg6 arg7 arg8 arg9 arg10 arg11 arg12 arg13 arg14 arg15 x s ∗ (Res c arg1 arg2 arg3 arg4 arg5 arg6 arg7 arg8 arg9 arg10 arg11 arg12 arg13 arg14 arg15 x (step5 i x s) -∗ wp frame (wpE (defs₀ (F := F)) Variants.none c none) Set.univ rest K))
      ⊢ wp frame (wpE (defs₀ (F := F)) Variants.none c none) Set.univ (seg5 i arg1 harg1 arg2 harg2 arg3 harg3 arg4 harg4 arg5 harg5 arg6 harg6 arg7 harg7 arg8 harg8 arg9 harg9 arg10 harg10 arg11 harg11 arg12 harg12 arg13 harg13 arg14 harg14 arg15 harg15 (proj i arg1 harg1 arg2 harg2 arg3 harg3 arg4 harg4 arg5 harg5 arg6 harg6 arg7 harg7 arg8 harg8 arg9 harg9 arg10 harg10 arg11 harg11 arg12 harg12 arg13 harg13 arg14 harg14 arg15 harg15 rest) rest) K := by
  by_cases hc : k0_cond2 i = 1#1
  · unfold step5
    rw [if_pos hc]
    iintro ⟨H, Hk⟩
    iapply (seg5_run c _ _ _ _ _ _ _ _ _ _ _ _ _ _ _ _ _ _ _ _ _ _ _ _ _ _ _ _ _ _ _ _ hc)
    isplitl [H]; · iexact H
    iintro H
    unfold proj
    iapply segQ_run
    isplitl [H]; · iexact H
    iintro H
    iapply (segK_run c _ _ _ _ _ _ _ _ _ _ _ _ _ _ _ _ _ _ _ _ _ _ _ _ _ _ _ _ _ _ _ _ _ _ _ x s rfl rfl rfl rfl)
    isplitl [H]; · iexact H
    iintro H
    iapply (segV_run c _ _ _ _ _ _ _ _ _ _ _ _ _ _ _ _ _ _ _ _ _ _ _ _ _ _ _ _ _ _ _ _ _ _ _ x (keys i x s) rfl rfl)
    isplitl [H]; · iexact H
    iintro H
    iapply Hk
    iexact H
  · unfold seg5 step5
    rw [dif_neg hc, if_neg hc]
    iintro ⟨H, Hk⟩
    iapply Hk
    iexact H

/-- The body of the kernel at one point takes the buffers from `s` to `step i x s`. -/
theorem body_run (x : Ins F) (s : St F) (K : PUnit → sProp 𝕄) :
    iprop(Res c arg1 arg2 arg3 arg4 arg5 arg6 arg7 arg8 arg9 arg10 arg11 arg12 arg13 arg14 arg15 x s ∗ (Res c arg1 arg2 arg3 arg4 arg5 arg6 arg7 arg8 arg9 arg10 arg11 arg12 arg13 arg14 arg15 x (step i x s) -∗ K ⟨⟩))
      ⊢ wp frame (wpE (defs₀ (F := F)) Variants.none c none) Set.univ (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  rw [cc0_qkv_eq_skeleton, skel_eq]
  iintro ⟨H, Hk⟩
  iapply seg1_run
  isplitl [H]; · iexact H
  iintro H
  iapply seg2_run
  isplitl [H]; · iexact H
  iintro H
  iapply seg3_run
  isplitl [H]; · iexact H
  iintro H
  iapply seg4_run
  isplitl [H]; · iexact H
  iintro H
  iapply proj_run
  isplitl [H]; · iexact H
  iintro H
  sl_step
  iapply Hk
  iexact H

end

end Cert.Qkv.Hand

end
-- ==== Proof.QkvRun.lean ====
/-
  The whole pipeline of the kernel, from any invariant of its scratch buffers that each point keeps and any relations
  of its result blocks that each point establishes.
-/
module

public import proofs.«01_k».proof.Proof.QkvProj

@[expose] public section

set_option maxRecDepth 65536

noncomputable section

namespace Cert.Qkv.Hand

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (RDat)

local notation "𝕄" => MT nD τ sig Unit (Elt F) ℕ (UR sig nD τ) ℕ

variable (m : (ℓ : Loc nD τ sig) → Buf (Elt F) ℓ) (ρ : Dev nD → PrngReg)

/-- The contents of the input windows at point `t`: the arrays' blocks there. -/
def ins (c : Dev nD) (t : Fin cfg0.N) : Ins F :=
  ⟨iblk m c 0 t, iblk m c 1 t, iblk m c 2 t, iblk m c 3 t, iblk m c 4 t, iblk m c 5 t⟩

/-- What a proof says of the pipeline: of the scratch buffers before each point (`inv`), and, of each result window's
    buffer, what the body leaves at a point given what it found there. -/
structure Sch (F : FTy → Type) where
  inv : Dev nD → Fin (cfg0.N + 1) → Vec F S2x384x2048 .bf16 → Vec F S2x384x128 .f32 → Prop
  r6 : Dev nD → Fin cfg0.N → (Y X : Vec F S384x2048 .i8) → Prop
  r7 : Dev nD → Fin cfg0.N → (Y X : Vec F S2x1x192 .f32) → Prop
  r9 : Dev nD → Fin cfg0.N → (Y X : Vec F S2x192x16x128 .i8) → Prop
  r10 : Dev nD → Fin cfg0.N → (Y X : Vec F S2x16x192 .f32) → Prop
  r11 : Dev nD → Fin cfg0.N → (Y X : Vec F S2x192x16x128 .i8) → Prop
  r12 : Dev nD → Fin cfg0.N → (Y X : Vec F S2x16x192 .f32) → Prop

/-- The invariant before point `t`: the scratch buffers at some contents of which `inv` holds, and the generator register. -/
def InvP (S : Sch F) (c : Dev nD) (t : Fin (cfg0.N + 1)) : sProp 𝕄 :=
  iprop((∃ (xb : Vec F S2x384x2048 .bf16) (xs : Vec F S2x384x128 .f32), ⌜S.inv c t xb xs⌝ ∗ owns (c : Thread nD τ) (Memref.whole cc0_scratch0) fullShare xb
      ∗ owns (c : Thread nD τ) (Memref.whole cc0_scratch1) fullShare xs)
    ∗ ∃ r, prngReg c r)

/-- The proof data: inputs kept as found, results in the stated relations, the scratch buffers at some contents of which
    the invariant holds. -/
def rd (S : Sch F) (c : Dev nD) : RDat τ (Elt F) Unit ℕ (UR sig nD τ) ℕ cfg0 c where
  A w := V m c (Pipeline.arrRef spec0 w)
  after w t := match w with
    | 0 => fun Y X => X = Y
    | 1 => fun Y X => X = Y
    | 2 => fun Y X => X = Y
    | 3 => fun Y X => X = Y
    | 4 => fun Y X => X = Y
    | 5 => fun Y X => X = Y
    | 6 => fun Y X => S.r6 c t Y X
    | 7 => fun Y X => S.r7 c t Y X
    | 8 => fun _ _ => True
    | 9 => fun Y X => S.r9 c t Y X
    | 10 => fun Y X => S.r10 c t Y X
    | 11 => fun Y X => S.r11 c t Y X
    | 12 => fun Y X => S.r12 c t Y X
  Φ t := InvP S c t
  q w := Pipeline.shareOf spec0 w
  owed _ := 0

/-- Every point keeps the invariant and establishes the relations. -/
def Sch.Keeps (S : Sch F) : Prop := ∀ (c : Dev nD) (t : Fin cfg0.N) (s : St F), S.inv c t.castSucc s.xb s.xs →
  S.inv c t.succ (step (grid0.coords t) (ins m c t) s).xb (step (grid0.coords t) (ins m c t) s).xs
    ∧ S.r6 c t s.x1c (step (grid0.coords t) (ins m c t) s).x1c
    ∧ S.r7 c t s.x1s (step (grid0.coords t) (ins m c t) s).x1s
    ∧ S.r9 c t s.kc (step (grid0.coords t) (ins m c t) s).kc
    ∧ S.r10 c t s.ks (step (grid0.coords t) (ins m c t) s).ks
    ∧ S.r11 c t s.vc (step (grid0.coords t) (ins m c t) s).vc
    ∧ S.r12 c t s.vs (step (grid0.coords t) (ins m c t) s).vs

/-- At every point input window 0's buffer holds its array's block there. -/
theorem finds_0 (S : Sch F) (c : Dev nD) (t : Fin cfg0.N) (Y : (cfg0.win 0).block.Idx → Elt F (cfg0.win 0).elt)
    (h : (rd m S c).Finds 0 t Y) : Y = (ins m c t).x := by
  obtain ⟨d, hd⟩ := (rd m S c).finds_in_eq_fetched 0 rfl (fun _ _ _ => rfl) (fun _ _ _ h => h) t Y h
  exact hd

/-- At every point input window 1's buffer holds its array's block there. -/
theorem finds_1 (S : Sch F) (c : Dev nD) (t : Fin cfg0.N) (Y : (cfg0.win 1).block.Idx → Elt F (cfg0.win 1).elt)
    (h : (rd m S c).Finds 1 t Y) : Y = (ins m c t).g := by
  obtain ⟨d, hd⟩ := (rd m S c).finds_in_eq_fetched 1 rfl (fun _ _ _ => rfl) (fun _ _ _ h => h) t Y h
  exact hd

/-- At every point input window 2's buffer holds its array's block there. -/
theorem finds_2 (S : Sch F) (c : Dev nD) (t : Fin cfg0.N) (Y : (cfg0.win 2).block.Idx → Elt F (cfg0.win 2).elt)
    (h : (rd m S c).Finds 2 t Y) : Y = (ins m c t).w := by
  obtain ⟨d, hd⟩ := (rd m S c).finds_in_eq_fetched 2 rfl (fun _ _ _ => rfl) (fun _ _ _ h => h) t Y h
  exact hd

/-- At every point input window 3's buffer holds its array's block there. -/
theorem finds_3 (S : Sch F) (c : Dev nD) (t : Fin cfg0.N) (Y : (cfg0.win 3).block.Idx → Elt F (cfg0.win 3).elt)
    (h : (rd m S c).Finds 3 t Y) : Y = (ins m c t).sc := by
  obtain ⟨d, hd⟩ := (rd m S c).finds_in_eq_fetched 3 rfl (fun _ _ _ => rfl) (fun _ _ _ h => h) t Y h
  exact hd

/-- At every point input window 4's buffer holds its array's block there. -/
theorem finds_4 (S : Sch F) (c : Dev nD) (t : Fin cfg0.N) (Y : (cfg0.win 4).block.Idx → Elt F (cfg0.win 4).elt)
    (h : (rd m S c).Finds 4 t Y) : Y = (ins m c t).co := by
  obtain ⟨d, hd⟩ := (rd m S c).finds_in_eq_fetched 4 rfl (fun _ _ _ => rfl) (fun _ _ _ h => h) t Y h
  exact hd

/-- At every point input window 5's buffer holds its array's block there. -/
theorem finds_5 (S : Sch F) (c : Dev nD) (t : Fin cfg0.N) (Y : (cfg0.win 5).block.Idx → Elt F (cfg0.win 5).elt)
    (h : (rd m S c).Finds 5 t Y) : Y = (ins m c t).si := by
  obtain ⟨d, hd⟩ := (rd m S c).finds_in_eq_fetched 5 rfl (fun _ _ _ => rfl) (fun _ _ _ h => h) t Y h
  exact hd

theorem defs₀_row (t : Fin cfg0.N) : defs₀ (F := F) .tc cfg0.body (cfg0.bodyArgs t (cfg0.slots t)) = bodyAt0 t := by
  unfold defs₀; rw [Defs.onTc_tc]

set_option maxHeartbeats 1000000 in
/-- The body at one point, from the invariant and the windows' buffers to the same at the next point. -/
theorem body_at (S : Sch F) (hS : S.Keeps m) (c : Dev nD) (t : Fin cfg0.N) (Y : (w : Fin cfg0.W) → (cfg0.win w).block.Idx → Elt F (cfg0.win w).elt)
    (hY : ∀ w, (rd m S c).Finds w t (Y w)) :
    iprop((rd m S c).Φ t.castSucc ∗ (rd m S c).owesAt () t.castSucc
        ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9) ∗ owns (c : Thread nD τ) (win0_10.stage (cfg0.slots t 10)) fullShare (Y 10) ∗ owns (c : Thread nD τ) (win0_11.stage (cfg0.slots t 11)) fullShare (Y 11) ∗ owns (c : Thread nD τ) (win0_12.stage (cfg0.slots t 12)) fullShare (Y 12))
      ⊢ wp frame (wpE (defs₀ (F := F)) Variants.none c none) Set.univ (bodyAt0 t) fun _ =>
        iprop((rd m S c).Φ t.succ ∗ (rd m S c).owesAt () t.succ
          ∗ (∃ X, ⌜(rd m S c).after 0 t (Y 0) X⌝ ∗ owns (c : Thread nD τ) (win0_0.stage (cfg0.slots t 0)) fullShare X) ∗ (∃ X, ⌜(rd m S c).after 1 t (Y 1) X⌝ ∗ owns (c : Thread nD τ) (win0_1.stage (cfg0.slots t 1)) fullShare X) ∗ (∃ X, ⌜(rd m S c).after 2 t (Y 2) X⌝ ∗ owns (c : Thread nD τ) (win0_2.stage (cfg0.slots t 2)) fullShare X) ∗ (∃ X, ⌜(rd m S c).after 3 t (Y 3) X⌝ ∗ owns (c : Thread nD τ) (win0_3.stage (cfg0.slots t 3)) fullShare X) ∗ (∃ X, ⌜(rd m S c).after 4 t (Y 4) X⌝ ∗ owns (c : Thread nD τ) (win0_4.stage (cfg0.slots t 4)) fullShare X) ∗ (∃ X, ⌜(rd m S c).after 5 t (Y 5) X⌝ ∗ owns (c : Thread nD τ) (win0_5.stage (cfg0.slots t 5)) fullShare X) ∗ (∃ X, ⌜(rd m S c).after 6 t (Y 6) X⌝ ∗ owns (c : Thread nD τ) (win0_6.stage (cfg0.slots t 6)) fullShare X) ∗ (∃ X, ⌜(rd m S c).after 7 t (Y 7) X⌝ ∗ owns (c : Thread nD τ) (win0_7.stage (cfg0.slots t 7)) fullShare X) ∗ (∃ X, ⌜(rd m S c).after 8 t (Y 8) X⌝ ∗ owns (c : Thread nD τ) (win0_8.stage (cfg0.slots t 8)) fullShare X) ∗ (∃ X, ⌜(rd m S c).after 9 t (Y 9) X⌝ ∗ owns (c : Thread nD τ) (win0_9.stage (cfg0.slots t 9)) fullShare X) ∗ (∃ X, ⌜(rd m S c).after 10 t (Y 10) X⌝ ∗ owns (c : Thread nD τ) (win0_10.stage (cfg0.slots t 10)) fullShare X) ∗ (∃ X, ⌜(rd m S c).after 11 t (Y 11) X⌝ ∗ owns (c : Thread nD τ) (win0_11.stage (cfg0.slots t 11)) fullShare X) ∗ (∃ X, ⌜(rd m S c).after 12 t (Y 12) X⌝ ∗ owns (c : Thread nD τ) (win0_12.stage (cfg0.slots t 12)) fullShare X)) := by
  have h0 := finds_0 m S c t (Y 0) (hY 0); have h1 := finds_1 m S c t (Y 1) (hY 1); have h2 := finds_2 m S c t (Y 2) (hY 2); have h3 := finds_3 m S c t (Y 3) (hY 3); have h4 := finds_4 m S c t (Y 4) (hY 4); have h5 := finds_5 m S c t (Y 5) (hY 5)
  rw [h0, h1, h2, h3, h4, h5]
  unfold bodyAt0 Pipeline.RDat.owesAt Pipeline.owesWithin
  rw [show (rd m S c).Φ t.castSucc = InvP S c t.castSucc from rfl, show (rd m S c).Φ t.succ = InvP S c t.succ from rfl]
  unfold InvP
  rw [show (rd m S c).owed t.castSucc = 0 from rfl, show (rd m S c).owed t.succ = 0 from rfl]
  iintro ⟨⟨⟨%xb, %xs, %hi, S0, S1⟩, Hg⟩, ⟨%W, %hW, HO⟩, W0, W1, W2, W3, W4, W5, W6, W7, W8, W9, W10, W11, W12⟩
  obtain ⟨hi', k6, k7, k9, k10, k11, k12⟩ := hS c t ⟨Y 6, Y 7, Y 9, Y 10, Y 11, Y 12, xb, xs⟩ hi
  iapply (body_run c (grid0.coords t) _ _ _ _ _ _ _ _ _ _ _ _ _ _ _ _ _ _ _ _ _ _ _ _ _ _ _ _ _ _ (ins m c t) ⟨Y 6, Y 7, Y 9, Y 10, Y 11, Y 12, xb, xs⟩)
  isplitl [S0 S1 W0 W1 W2 W3 W4 W5 W6 W7 W8 W9 W10 W11 W12]
  · unfold Res
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexists _; iexact W8
    isplitl [W9]; · iexact W9
    isplitl [W10]; · iexact W10
    isplitl [W11]; · iexact W11
    isplitl [W12]; · iexact W12
    isplitl [S0]; · iexact S0
    iexact S1
  unfold Res
  iintro ⟨W0, W1, W2, W3, W4, W5, W6, W7, ⟨%q8, W8⟩, W9, W10, W11, W12, S0, S1⟩
  isplitl [S0 S1 Hg]
  · isplitl [S0 S1]
    · iexists _; iexists _
      isplitr; swap
      · isplitl [S0]; · iexact S0
        iexact S1
      ipureintro; exact hi'
    iexact Hg
  isplitl [HO]
  · iexists W; isplitr; · ipureintro; exact fun _ _ => Or.inl trivial
    iexact HO
  isplitl [W0]
  · iexists _; isplitr; swap; · iexact W0
    ipureintro; exact rfl
  isplitl [W1]
  · iexists _; isplitr; swap; · iexact W1
    ipureintro; exact rfl
  isplitl [W2]
  · iexists _; isplitr; swap; · iexact W2
    ipureintro; exact rfl
  isplitl [W3]
  · iexists _; isplitr; swap; · iexact W3
    ipureintro; exact rfl
  isplitl [W4]
  · iexists _; isplitr; swap; · iexact W4
    ipureintro; exact rfl
  isplitl [W5]
  · iexists _; isplitr; swap; · iexact W5
    ipureintro; exact rfl
  isplitl [W6]
  · iexists _; isplitr; swap; · iexact W6
    ipureintro; exact k6
  isplitl [W7]
  · iexists _; isplitr; swap; · iexact W7
    ipureintro; exact k7
  isplitl [W8]
  · iexists _; isplitr; swap; · iexact W8
    ipureintro; exact trivial
  isplitl [W9]
  · iexists _; isplitr; swap; · iexact W9
    ipureintro; exact k9
  isplitl [W10]
  · iexists _; isplitr; swap; · iexact W10
    ipureintro; exact k10
  isplitl [W11]
  · iexists _; isplitr; swap; · iexact W11
    ipureintro; exact k11
  iexists _; isplitr; swap; · iexact W12
  ipureintro; exact k12

/-- The library's body obligation. -/
theorem body_obligation (S : Sch F) (hS : S.Keeps m) (c : Dev nD) : (rd m S c).BodyObligation (defs₀ (F := F)) Variants.none () Set.univ :=
  fun t Y hY => by
    rw [bigSep_W0, bigSep_W0, defs₀_row]
    exact triple_restated (body_at m S hS c t Y hY) rfl .rfl fun _ => .rfl

/-- The scratch buffers at any contents is the invariant's scratch buffer at some contents. -/
theorem inv_in (S : Sch F) (h0 : ∀ c xb xs, S.inv c 0 xb xs) (c : Dev nD) :
    (Pipeline.ΦA spec0 c : sProp 𝕄) ⊢ (rd m S c).Φ 0 := by
  rw [show (rd m S c).Φ 0 = InvP S c 0 from rfl]
  unfold Pipeline.ΦA InvP
  rw [scopedRest0_eq]
  iintro ⟨⟨⟨%f0, H0⟩, ⟨%f1, H1⟩⟩, Hg⟩
  isplitl [H0 H1]
  · iexists f0; iexists f1
    rw [owns_whole, owns_whole]
    isplitr; · ipureintro; exact h0 _ _ _
    isplitl [H0]; · iexact H0
    iexact H1
  iexact Hg

/-- And back. -/
theorem inv_out (S : Sch F) (c : Dev nD) : (rd m S c).Φ (Fin.last cfg0.N) ⊢ (Pipeline.ΦA spec0 c : sProp 𝕄) := by
  rw [show (rd m S c).Φ (Fin.last cfg0.N) = InvP S c (Fin.last cfg0.N) from rfl]
  unfold Pipeline.ΦA InvP
  rw [scopedRest0_eq]
  simp only [owns_whole]
  iintro ⟨⟨%xb, %xs, -, H0, H1⟩, Hg⟩
  isplitl [H0 H1]
  · isplitl [H0]; · iexists _; iexact H0
    iexists _; iexact H1
  iexact Hg

set_option backward.isDefEq.respectTransparency.types false in
/-- The run: from any memory with zero counters, every weakly fair execution terminates with every counter at zero and with the
    windows' arrays as the relations say. -/
theorem run_main (S : Sch F) (hS : S.Keeps m) (h0 : ∀ c xb xs, S.inv c 0 xb xs) :
    θ_run defs (onTc (τ := τ) (main (F := F))) (s₀ m ρ)
      (fun r => RDat.FramePost (cfgs 0) (rd m S) (V m) r ∧ r.2.sem = fun _ => 0) :=
  Pipeline.RDat.θ_run_frame_track_shared (Q' := _) cfgs (0 : Fin 1) launch0.to₀ defs₀ Variants.none (rd m S) m ρ main
    (hbody := body_obligation m S hS) (hq := fun _ _ _ => rfl) (howed := fun _ _ => rfl) (V := V m) (hmain := hmain m Variants.none)
    (hA := fun _ _ => rfl) (hin := inv_in m S h0) (hout := inv_out m S) (hQ' := fun _ h => h)

/-- The run leaves the kernel's arguments as launched. -/
theorem args_kept {S : Sch F} {r : PUnit × MemSt nD τ sig (Elt F)} (h : RDat.FramePost (cfgs 0) (rd m S) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- Nothing said of scratch and results. -/
def anySch : Sch F := ⟨fun _ _ _ _ => True, fun _ _ _ _ => True, fun _ _ _ _ => True, fun _ _ _ _ => True, fun _ _ _ _ => True, fun _ _ _ _ => True, fun _ _ _ _ => True⟩

/-- The frame: the run terminates, leaves its arguments as launched and every counter at zero. -/
theorem frame_run : θ_run defs (onTc (τ := τ) (main (F := F))) (s₀ m ρ) (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨args_kept m h.1, h.2⟩)
    (run_main m ρ anySch (fun _ _ _ _ => ⟨trivial, trivial, trivial, trivial, trivial, trivial, trivial⟩) fun _ _ _ => trivial)

end Cert.Qkv.Hand

end
-- ==== Proof.QkvSpec.lean ====
/-
  What the query, key and value projection computes of codes, scales, keys and values, as functions of its arguments at
  natural indices.
-/
module

public import proofs.«01_k».proof.Proof.OprojSpec

@[expose] public section

noncomputable section

namespace Cert.QkvSpec

open Cert.MlpSpec (lit aabs scaleOf quantOf num ext2)
open Cert.OprojSpec (rootOf)
open Idealize.ShloMosaic Idealize.ShloMosaic.ValueIdx
open Finset

/-- The arguments: the rows `x`, the gains `g`, the codes `w` and column scales `ws` of the joined weights, the cosines and
    sines of each row's position. -/
structure Arr where
  x : ℕ → ℕ → EReal
  g : ℕ → EReal
  w : ℕ → ℕ → EReal
  ws : ℕ → EReal
  co : ℕ → ℕ → EReal
  si : ℕ → ℕ → EReal

variable (a : Arr)

/-- The normalised rows. -/
def v (r d : ℕ) : EReal := Ideal.div (a.x r d) (rootOf (∑ k : Fin 2048, a.x r k * a.x r k)) * a.g d

/-- A row's scale. -/
def sc (r : ℕ) : EReal := scaleOf (Finset.fold max (lit 0xFF800000#32) (fun d : Fin 2048 => aabs (v a r d)) univ)

/-- The codes, as numbers. -/
def q (r d : ℕ) : EReal := quantOf (v a r d) (sc a r)

/-- The scaled product of the codes with column `c` of the joined weights. -/
def t (r c : ℕ) : EReal := (lit 0x00000000#32 + ∑ k : Fin 2048, q a r k * a.w k c) * sc a r * a.ws c

/-- Entry `e` of the values of head `h`. -/
def val (r h e : ℕ) : EReal := t a r (4096 + 128 * h + e)

/-- Entry `e` of the keys of head `h`, rotated. -/
def key (r h e : ℕ) : EReal :=
  if e < 64 then t a r (2048 + 128 * h + e) * a.co r e + t a r (2048 + 128 * h + (e + 64)) * -a.si r e
  else t a r (2048 + 128 * h + e) * a.co r (e - 64) + t a r (2048 + 128 * h + (e - 64)) * a.si r (e - 64)

/-- The scale of a head's row. -/
def hsc (f : ℕ → ℕ → ℕ → EReal) (r h : ℕ) : EReal :=
  scaleOf (Finset.fold max (lit 0xFF800000#32) (fun e : Fin 128 => aabs (f r h e)) univ)

/-- The code of an entry of a head. -/
def hq (f : ℕ → ℕ → ℕ → EReal) (r h e : ℕ) : BitVec 8 := Ideal.fptosi 8 (quantOf (f r h e) (hsc f r h))

/-- The six argument arrays as one `Arr`. -/
def arrOf (A0 : Vec Ideal (⟨2, ![4608, 2048]⟩ : Shape) .bf16) (A1 : Vec Ideal (⟨1, ![2048]⟩ : Shape) .f32)
    (A2 : Vec Ideal (⟨4, ![2048, 3, 16, 128]⟩ : Shape) .i8) (A3 : Vec Ideal (⟨3, ![3, 16, 128]⟩ : Shape) .f32)
    (A4 : Vec Ideal (⟨3, ![24, 192, 64]⟩ : Shape) .f32) (A5 : Vec Ideal (⟨3, ![24, 192, 64]⟩ : Shape) .f32) : Arr where
  x r d := ext2 (fun r d => A0 (ix2 r d)) r d
  g d := ext2 (P := 2048) (Q := 1) (fun d _ => A1 (ix1 d)) d 0
  w k c := ext2 (P := 2048) (Q := 6144) (fun k c => num (A2 (ix4 k ⟨c.val / 2048, by omega⟩ ⟨c.val % 2048 / 128, by omega⟩ ⟨c.val % 128, by omega⟩))) k c
  ws c := ext2 (P := 6144) (Q := 1) (fun c _ => A3 (ix3 ⟨c.val / 2048, by omega⟩ ⟨c.val % 2048 / 128, by omega⟩ ⟨c.val % 128, by omega⟩)) c 0
  co r e := ext2 (P := 4608) (Q := 64) (fun r e => A4 (ix3 ⟨r.val / 192, by omega⟩ ⟨r.val % 192, by omega⟩ e)) r e
  si r e := ext2 (P := 4608) (Q := 64) (fun r e => A5 (ix3 ⟨r.val / 192, by omega⟩ ⟨r.val % 192, by omega⟩ e)) r e

/-- The results, as arrays: the codes of the rows and their scales, by sequence, and the codes and scales of a function of
    row, head and entry. -/
def resXc : Vec Ideal (⟨2, ![4608, 2048]⟩ : Shape) .i8 := fun e => Ideal.fptosi 8 (q a (e 0).val (e 1).val)
def resXs : Vec Ideal (⟨3, ![24, 1, 192]⟩ : Shape) .f32 := fun e => sc a (192 * (e 0).val + (e 2).val)
def resC (f : ℕ → ℕ → ℕ → EReal) : Vec Ideal (⟨4, ![24, 192, 16, 128]⟩ : Shape) .i8 :=
  fun e => hq f (192 * (e 0).val + (e 1).val) (e 2).val (e 3).val
def resS (f : ℕ → ℕ → ℕ → EReal) : Vec Ideal (⟨3, ![24, 16, 192]⟩ : Shape) .f32 :=
  fun e => hsc f (192 * (e 0).val + (e 2).val) (e 1).val

end Cert.QkvSpec

end
-- ==== Proof.QkvRows.lean ====
/-
  Heads of 128 columns quantised row by row, at an entry, and their codes and scales laid out by sequence and head.
-/
module

public import proofs.«01_k».proof.Proof.QkvSpec
public import proofs.«01_k».proof.Proof.OprojRows
public import proofs.«01_k».proof.Proof.Concat4

@[expose] public section

set_option maxRecDepth 65536

noncomputable section

namespace Cert.QkvSpec

open Cert.MlpSpec (lit aabs scaleOf quantOf num)
open Cert.Cells
open Idealize.ShloMosaic Idealize.ShloMosaic.ValueIdx
open Finset

variable {P Q : ℕ}

theorem abs_form {s : Shape} (X : FVec Ideal s .f32) (z) : absf X z = aabs (X z) := rfl

theorem scale_form {s : Shape} (X : FVec Ideal s .f32) (z) :
    select (cmpf .oeq X (broadcast s (Scalar.ofBits .f32 0x00000000#32))) (broadcast s (Scalar.ofBits .f32 0x3F800000#32))
      (divf X (broadcast s (Scalar.ofBits .f32 0x42FE0000#32))) z = scaleOf (X z) := rfl

theorem clip_form {s : Shape} (V B : FVec Ideal s .f32) (z) :
    minimumf (broadcast s (Scalar.ofBits .f32 0x42FE0000#32))
      (maximumf (broadcast s (Scalar.ofBits .f32 0xC2FE0000#32)) (roundeven (divf V B))) z = quantOf (V z) (B z) := rfl

theorem code_form {s : Shape} (V B : FVec Ideal s .f32) (z) :
    fptosi 8 (minimumf (broadcast s (Scalar.ofBits .f32 0x42FE0000#32))
      (maximumf (broadcast s (Scalar.ofBits .f32 0xC2FE0000#32)) (roundeven (divf V B)))) z = Ideal.fptosi 8 (quantOf (V z) (B z)) := rfl

/-- The rows' largest magnitudes, as a column. -/
theorem hamax_apply (V : FVec Ideal (⟨2, ![P, Q]⟩ : Shape) .f32) (hr hφ hacc hc) (r : Fin P) (f : Fin Q → EReal) (hf : ∀ d, V (ix2 r d) = f d) :
    shapeCast (⟨2, ![P, 1]⟩ : Shape) (multiReduction (F := Ideal) (φ := .f32) .maximumf [1] (⟨1, ![P]⟩ : Shape) (absf V) 0xFF800000#32 hr hφ hacc) hc (ix2 r 0)
      = Finset.fold max (lit 0xFF800000#32) (fun d => aabs (f d)) univ := by
  rw [OprojSpec.asColumn]
  exact rowMax (absf V) _ hr hφ hacc r (fun d => aabs (f d)) (fun d => by rw [abs_form, hf])

/-- A window put into an array of rank four, read at an index. -/
theorem put4 {α : Type} {A B C D P Q R S : ℕ} (x : (⟨4, ![A, B, C, D]⟩ : Shape).Idx → α) (o0 o1 o2 o3 : ℕ) (w : (⟨4, ![P, Q, R, S]⟩ : Shape).Idx → α)
    (G : ℕ → ℕ → ℕ → ℕ → α)
    (hw : ∀ (b : Fin P) (r : Fin Q) (c : Fin R) (d : Fin S), w (ix4 b r c d) = G (o0 + b) (o1 + r) (o2 + c) (o3 + d)) (b : Fin A) (r : Fin B) (c : Fin C) (d : Fin D) :
    VecWindow.put x ![o0, o1, o2, o3] (⟨4, ![P, Q, R, S]⟩ : Shape).size w (ix4 b r c d)
      = if o0 ≤ b.val ∧ b.val < o0 + P ∧ o1 ≤ r.val ∧ r.val < o1 + Q ∧ o2 ≤ c.val ∧ c.val < o2 + R ∧ o3 ≤ d.val ∧ d.val < o3 + S
        then G b r c d else x (ix4 b r c d) := by
  unfold VecWindow.put
  by_cases h : o0 ≤ b.val ∧ b.val < o0 + P ∧ o1 ≤ r.val ∧ r.val < o1 + Q ∧ o2 ≤ c.val ∧ c.val < o2 + R ∧ o3 ≤ d.val ∧ d.val < o3 + S
  · have h' : ∀ a : Fin 4, (![o0, o1, o2, o3] : Fin 4 → ℕ) a ≤ ((ix4 b r c d : (⟨4, ![A, B, C, D]⟩ : Shape).Idx) a).val
        ∧ ((ix4 b r c d : (⟨4, ![A, B, C, D]⟩ : Shape).Idx) a).val < (![o0, o1, o2, o3] : Fin 4 → ℕ) a + (⟨4, ![P, Q, R, S]⟩ : Shape).size a := by
      intro a; fin_cases a
      · exact ⟨h.1, h.2.1⟩
      · exact ⟨h.2.2.1, h.2.2.2.1⟩
      · exact ⟨h.2.2.2.2.1, h.2.2.2.2.2.1⟩
      · exact ⟨h.2.2.2.2.2.2.1, h.2.2.2.2.2.2.2⟩
    rw [if_pos h, dif_pos h']
    have e := hw ⟨b.val - o0, by omega⟩ ⟨r.val - o1, by omega⟩ ⟨c.val - o2, by omega⟩ ⟨d.val - o3, by omega⟩
    rw [Nat.add_sub_cancel' h.1, Nat.add_sub_cancel' h.2.2.1, Nat.add_sub_cancel' h.2.2.2.2.1, Nat.add_sub_cancel' h.2.2.2.2.2.2.1] at e
    rw [← e]
    congr 1
    funext a; fin_cases a <;> rfl
  · rw [if_neg h, dif_neg (fun h' => h ⟨(h' 0).1, (h' 0).2, (h' 1).1, (h' 1).2, (h' 2).1, (h' 2).2, (h' 3).1, (h' 3).2⟩)]

/-- A leading axis of one added to an array of rank three. -/
theorem cast34 {α : Type} {A B C : ℕ} (x : (⟨3, ![A, B, C]⟩ : Shape).Idx → α) (h) (b : Fin 1) (r : Fin A) (c : Fin B) (d : Fin C) :
    shapeCast ⟨4, ![1, A, B, C]⟩ x h (ix4 b r c d) = x (ix3 r c d) :=
  shapeCast_apply x h _ _ (by
    rw [Shape.rowMajor_val_three, Shape.rowMajor_val_four]
    have hb : b.val = 0 := by omega
    show (r.val * B + c.val) * C + d.val = ((b.val * A + r.val) * B + c.val) * C + d.val; rw [hb, Nat.zero_mul, Nat.zero_add])

/-- A middle axis of one added to a matrix. -/
theorem castMid {α : Type} {A B : ℕ} (x : (⟨2, ![A, B]⟩ : Shape).Idx → α) (h) (r : Fin A) (u : Fin 1) (c : Fin B) :
    shapeCast ⟨3, ![A, 1, B]⟩ x h (ix3 r u c) = x (ix2 r c) :=
  shapeCast_apply x h _ _ (by
    rw [Shape.rowMajor_val_three, Shape.rowMajor_val_two]
    have hu : u.val = 0 := by omega
    show r.val * B + c.val = (r.val * 1 + u.val) * B + c.val; rw [hu, Nat.mul_one, Nat.add_zero])

/-- A slice of a matrix's rows, read at an index. -/
theorem sliceRows {α : Type} {A B Q : ℕ} (o : ℕ) (x : (⟨2, ![A, B]⟩ : Shape).Idx → α) (h) (r : Fin Q) (c : Fin B) (hr : o + r.val < A) :
    extractStridedSlice ⟨2, ![Q, B]⟩ ![o, 0] x h (ix2 r c) = x (ix2 ⟨o + r, hr⟩ c) :=
  extractStridedSlice_apply _ x h (ix2 r c) (ix2 ⟨o + r, hr⟩ c) (fun a => by
    fin_cases a
    · rfl
    · show c.val = 0 + c.val; omega)

/-- A matrix transposed, read at an index. -/
theorem transposed {α : Type} {A B : ℕ} (x : (⟨2, ![A, B]⟩ : Shape).Idx → α) (h) (r : Fin B) (c : Fin A) :
    transpose ⟨2, ![B, A]⟩ [1, 0] x h (ix2 r c) = x (ix2 c r) :=
  transpose_apply _ x h (ix2 r c) (ix2 c r) (fun a => by fin_cases a <;> rfl)

end Cert.QkvSpec

end
-- ==== Proof.QkvVal.lean ====
/-
  The rows one point of the query, key and value kernel quantises, entry by entry.
-/
module

public import proofs.«01_k».proof.Proof.QkvStep
public import proofs.«01_k».proof.Proof.QkvRows

@[expose] public section

set_option maxRecDepth 65536

noncomputable section

namespace Cert.Qkv.Hand

open Cert.Qkv Cert.Qkv.Gen Cert.QkvSpec Cert.Cells
open Cert.MlpSpec (lit aabs scaleOf quantOf num ext2 ext2_of ext2_fin)
open Cert.OprojSpec (rootOf root_apply norm_apply amax_apply code_apply extf_form asColumn)
open Idealize.ShloMosaic Idealize.ShloMosaic.ValueIdx
open Finset

/-- The input windows at point `n`: the rows of block `n`, at the last point those of block 11 again, and the cosines and
    sines of the block before. -/
structure Good (a : Arr) (n : ℕ) (x : Ins Ideal) : Prop where
  rows : ∀ (r : Fin 384) (d : Fin 2048), x.x (ix2 r d) = a.x (384 * min n 11 + r) d
  g : ∀ d : Fin 2048, x.g (ix2 0 d) = a.g d
  w : ∀ (k : Fin 2048) (c : Fin 6144), num (x.w (ix2 k c)) = a.w k c
  ws : ∀ c : Fin 6144, x.sc (ix2 0 c) = a.ws c
  co : ∀ (b : Fin 2) (e : Fin 64) (s : Fin 192), x.co (ix3 b e s) = a.co (384 * (n - 1) + 192 * b + s) e
  si : ∀ (b : Fin 2) (e : Fin 64) (s : Fin 192), x.si (ix3 b e s) = a.si (384 * (n - 1) + 192 * b + s) e

variable {a : Arr} {n : ℕ} {x : Ins Ideal}

section
variable {X : Vec Ideal S32x2048 .bf16} {g : Vec Ideal S1x2048 .f32} {R : ℕ}
  (hX : ∀ (r : Fin 32) (d : Fin 2048), X (ix2 r d) = a.x (R + r) d) (hg : ∀ d : Fin 2048, g (ix2 0 d) = a.g d)
include hX hg

/-- The normalised rows. -/
theorem normed_eq (r : Fin 32) (d : Fin 2048) : normed X g (ix2 r d) = v a (R + r) d := by
  have hE : ∀ d : Fin 2048, (extf .f32 X bitsLt_bf16_f32 : FVec Ideal S32x2048 .f32) (ix2 r d) = a.x (R + r) d := fun d => (extf_form X _ _).trans (hX r d)
  have e : rms (F := Ideal) (extf .f32 X bitsLt_bf16_f32) (ix2 r 0) = rootOf (∑ k : Fin 2048, a.x (R + r) k * a.x (R + r) k) :=
    root_apply (extf .f32 X bitsLt_bf16_f32) _ _ _ _ r (fun k : Fin 2048 => a.x (R + r) k) hE
  unfold normed
  refine (norm_apply (extf .f32 X bitsLt_bf16_f32) (rms (F := Ideal) (extf .f32 X bitsLt_bf16_f32)) g _ _ _ r d).trans ?_
  rw [e, hE, hg, v]

/-- The rows' scales. -/
theorem scl_eq (r : Fin 32) : scl (normed X g) (ix2 r 0) = sc a (R + r) := by
  have e : rowAmax (normed X g) (ix2 r 0) = Finset.fold max (lit 0xFF800000#32) (fun d : Fin 2048 => aabs (v a (R + r) d)) univ :=
    amax_apply (normed X g) _ _ _ _ r (fun d : Fin 2048 => v a (R + r) d) (fun d => normed_eq hX hg r d)
  unfold scl
  refine (scale_form (rowAmax (normed X g)) _).trans ?_
  rw [e, sc]

/-- The rows divided by their scales, rounded and clipped. -/
theorem clip_eq (r : Fin 32) (d : Fin 2048) : clip (normed X g) (ix2 r d) = q a (R + r) d := by
  unfold clip
  refine (clip_form (normed X g) _ _).trans ?_
  rw [bcastCol, normed_eq hX hg, scl_eq hX hg, q]

/-- The codes. -/
theorem code_eq (r : Fin 32) (d : Fin 2048) : fptosi 8 (clip (normed X g)) (ix2 r d) = Ideal.fptosi 8 (q a (R + r) d) :=
  congrArg (Ideal.fptosi 8) (clip_eq hX hg r d)

/-- The scales in lanes. -/
theorem lanes_eq (r : Fin 32) (l : Fin 128) : lanes (normed X g) (ix2 r l) = sc a (R + r) := by
  unfold lanes
  exact (bcastCol _ _ r l).trans ((cast22 _ _ r 0).trans (scl_eq hX hg r))

end

/-- A block written by 32 rows at a time: the tile at row `o`, the rows above already written. -/
theorem rowTile {α : Type} {Q : ℕ} {G : ℕ → ℕ → α} (r : Fin 384) (d : Fin Q) (o : ℕ) (T : (⟨2, ![32, Q]⟩ : Shape).Idx → α)
    (hT : ∀ (r : Fin 32) (c : Fin Q), T (ix2 r c) = G (o + r) c) (h' : (⟨2, ![384, Q]⟩ : Shape).Idx → α)
    (hlt : r.val < o + 32) (hrest : r.val < o → h' (ix2 r d) = G r d) :
    VecWindow.put h' ![o, 0] (⟨2, ![32, Q]⟩ : Shape).size T (ix2 r d) = G r d := by
  have hd := d.isLt
  refine (put2 h' o 0 T G (fun r c => by rw [Nat.zero_add]; exact hT r c) r d).trans ?_
  by_cases c : o ≤ r.val
  · exact if_pos ⟨c, hlt, Nat.zero_le _, by omega⟩
  · exact (if_neg fun k => c k.1).trans (hrest (by omega))

/-- The same in half `h` of a scratch buffer. -/
theorem halfTile {α : Type} {Q : ℕ} {G : ℕ → ℕ → α} (b : Fin 2) (h : ℕ) (hb : b.val = h) (r : Fin 384) (d : Fin Q) (o : ℕ) (T : (⟨2, ![32, Q]⟩ : Shape).Idx → α)
    (hT : ∀ (r : Fin 32) (c : Fin Q), T (ix2 r c) = G (o + r) c) (hc) (h' : (⟨3, ![2, 384, Q]⟩ : Shape).Idx → α)
    (hlt : r.val < o + 32) (hrest : r.val < o → h' (ix3 b r d) = G r d) :
    VecWindow.put h' ![h, o, 0] (⟨3, ![1, 32, Q]⟩ : Shape).size (shapeCast (⟨3, ![1, 32, Q]⟩ : Shape) T hc) (ix3 b r d) = G r d := by
  have hd := d.isLt
  refine (put3 h' h o 0 _ (fun _ => G) (fun b r c => by rw [Nat.zero_add]; exact (cast23 T hc b r c).trans (hT r c)) b r d).trans ?_
  by_cases c : o ≤ r.val
  · exact if_pos ⟨by omega, by omega, c, hlt, Nat.zero_le _, by omega⟩
  · exact (if_neg fun k => c k.2.2.1).trans (hrest (by omega))

/-- A tile put in one half leaves the other. -/
theorem otherHalf {α : Type} {A Q W : ℕ} (b : Fin 2) (h : ℕ) (hb : b.val ≠ h) (r : Fin A) (d : Fin Q) (o : ℕ) (h' : (⟨3, ![2, A, Q]⟩ : Shape).Idx → α)
    (T : (⟨3, ![1, W, Q]⟩ : Shape).Idx → α) :
    VecWindow.put h' ![h, o, 0] (⟨3, ![1, W, Q]⟩ : Shape).size T (ix3 b r d) = h' (ix3 b r d) := by
  unfold VecWindow.put
  exact dif_neg fun k => hb (by
    have k0 : h ≤ b.val := (k 0).1
    have k1 : b.val < h + 1 := (k 0).2
    omega)

section
variable (hx : Good a n x)
include hx

/-- 32 rows of the window. -/
theorem rows_eq (o : ℕ) (ho : o + 32 ≤ 384) (i1) (r : Fin 32) (d : Fin 2048) :
    VecWindow.window x.x ![o, 0] S32x2048.size i1 (ix2 r d) = a.x (384 * min n 11 + o + r) d := by
  refine (window2 x.x o 0 i1 r d (by omega) (by omega)).trans ((hx.rows ⟨o + r.val, by omega⟩ ⟨0 + d.val, by omega⟩).trans ?_)
  show a.x (384 * min n 11 + (o + r.val)) (0 + d.val) = _
  rw [Nat.zero_add, Nat.add_assoc]

/-- The block of the codes. -/
theorem fin_x1c_eq (i : grid0.Coords) (old : Vec Ideal S384x2048 .i8) (r : Fin 384) (d : Fin 2048) :
    fin_x1c i x old (ix2 r d) = Ideal.fptosi 8 (q a (384 * min n 11 + r) d) := by
  have hr := r.isLt
  have K : ∀ (o : ℕ) (ho : o + 32 ≤ 384) (i1) (h' : Vec Ideal S384x2048 .i8) (hlt : r.val < o + 32) (hrest : r.val < o → h' (ix2 r d) = Ideal.fptosi 8 (q a (384 * min n 11 + r) d)),
      VecWindow.put h' ![o, 0] S32x2048.size (fptosi 8 (clip (normed (VecWindow.window x.x ![o, 0] S32x2048.size i1) x.g))) (ix2 r d) = Ideal.fptosi 8 (q a (384 * min n 11 + r) d) := fun o ho i1 h' hlt hrest =>
    rowTile (G := fun r d => Ideal.fptosi 8 (q a (384 * min n 11 + r) d)) r d o _ (fun r c => by rw [code_eq (rows_eq hx o ho i1) hx.g, Nat.add_assoc]) h' hlt hrest
  unfold fin_x1c nT0 nT1 nT2 nT3 nT4 nT5 nT6 nT7 nT8 nT9 nT10 nT11
  refine K 352 (by decide) _ _ (by omega) fun h11 => ?_
  refine K 320 (by decide) _ _ (by omega) fun h10 => ?_
  refine K 288 (by decide) _ _ (by omega) fun h9 => ?_
  refine K 256 (by decide) _ _ (by omega) fun h8 => ?_
  refine K 224 (by decide) _ _ (by omega) fun h7 => ?_
  refine K 192 (by decide) _ _ (by omega) fun h6 => ?_
  refine K 160 (by decide) _ _ (by omega) fun h5 => ?_
  refine K 128 (by decide) _ _ (by omega) fun h4 => ?_
  refine K 96 (by decide) _ _ (by omega) fun h3 => ?_
  refine K 64 (by decide) _ _ (by omega) fun h2 => ?_
  refine K 32 (by decide) _ _ (by omega) fun h1 => ?_
  refine K 0 (by decide) _ _ (by omega) fun h => absurd h (Nat.not_lt_zero _)

/-- The half of the scratch buffer of codes. -/
theorem fin_xb_eq (i : grid0.Coords) (old : Vec Ideal S2x384x2048 .bf16) (b : Fin 2) (hb : b.val = cur i) (r : Fin 384) (d : Fin 2048) :
    fin_xb i x old (ix3 b r d) = q a (384 * min n 11 + r) d := by
  have hr := r.isLt
  have K : ∀ (o : ℕ) (ho : o + 32 ≤ 384) (i1) (h' : Vec Ideal S2x384x2048 .bf16) (hlt : r.val < o + 32) (hrest : r.val < o → h' (ix3 b r d) = q a (384 * min n 11 + r) d),
      VecWindow.put h' ![cur i, o, 0] S1x32x2048.size (shapeCast S1x32x2048 (truncf .bf16 (clip (normed (VecWindow.window x.x ![o, 0] S32x2048.size i1) x.g)) bitsLt_bf16_f32) shapeCasts_S32x2048_S1x32x2048) (ix3 b r d) = q a (384 * min n 11 + r) d := fun o ho i1 h' hlt hrest =>
    halfTile (G := fun r d => q a (384 * min n 11 + r) d) b (cur i) hb r d o _ (fun r c => (show truncf (F := Ideal) .bf16 (clip (normed (VecWindow.window x.x ![o, 0] S32x2048.size i1) x.g)) bitsLt_bf16_f32 (ix2 r c) = clip (normed (VecWindow.window x.x ![o, 0] S32x2048.size i1) x.g) (ix2 r c) from rfl).trans (by rw [clip_eq (rows_eq hx o ho i1) hx.g, Nat.add_assoc])) _ h' hlt hrest
  unfold fin_xb nT0 nT1 nT2 nT3 nT4 nT5 nT6 nT7 nT8 nT9 nT10 nT11
  refine K 352 (by decide) _ _ (by omega) fun h11 => ?_
  refine K 320 (by decide) _ _ (by omega) fun h10 => ?_
  refine K 288 (by decide) _ _ (by omega) fun h9 => ?_
  refine K 256 (by decide) _ _ (by omega) fun h8 => ?_
  refine K 224 (by decide) _ _ (by omega) fun h7 => ?_
  refine K 192 (by decide) _ _ (by omega) fun h6 => ?_
  refine K 160 (by decide) _ _ (by omega) fun h5 => ?_
  refine K 128 (by decide) _ _ (by omega) fun h4 => ?_
  refine K 96 (by decide) _ _ (by omega) fun h3 => ?_
  refine K 64 (by decide) _ _ (by omega) fun h2 => ?_
  refine K 32 (by decide) _ _ (by omega) fun h1 => ?_
  refine K 0 (by decide) _ _ (by omega) fun h => absurd h (Nat.not_lt_zero _)

/-- The half of the scratch buffer of scales. -/
theorem fin_xs_eq (i : grid0.Coords) (old : Vec Ideal S2x384x128 .f32) (b : Fin 2) (hb : b.val = cur i) (r : Fin 384) (d : Fin 128) :
    fin_xs i x old (ix3 b r d) = sc a (384 * min n 11 + r) := by
  have hr := r.isLt
  have K : ∀ (o : ℕ) (ho : o + 32 ≤ 384) (i1) (h' : Vec Ideal S2x384x128 .f32) (hlt : r.val < o + 32) (hrest : r.val < o → h' (ix3 b r d) = sc a (384 * min n 11 + r)),
      VecWindow.put h' ![cur i, o, 0] S1x32x128.size (shapeCast S1x32x128 (lanes (normed (VecWindow.window x.x ![o, 0] S32x2048.size i1) x.g)) shapeCasts_S32x128_S1x32x128) (ix3 b r d) = sc a (384 * min n 11 + r) := fun o ho i1 h' hlt hrest =>
    halfTile (G := fun r _ => sc a (384 * min n 11 + r)) b (cur i) hb r d o _ (fun r c => by rw [lanes_eq (rows_eq hx o ho i1) hx.g, Nat.add_assoc]) _ h' hlt hrest
  unfold fin_xs nT0 nT1 nT2 nT3 nT4 nT5 nT6 nT7 nT8 nT9 nT10 nT11
  refine K 352 (by decide) _ _ (by omega) fun h11 => ?_
  refine K 320 (by decide) _ _ (by omega) fun h10 => ?_
  refine K 288 (by decide) _ _ (by omega) fun h9 => ?_
  refine K 256 (by decide) _ _ (by omega) fun h8 => ?_
  refine K 224 (by decide) _ _ (by omega) fun h7 => ?_
  refine K 192 (by decide) _ _ (by omega) fun h6 => ?_
  refine K 160 (by decide) _ _ (by omega) fun h5 => ?_
  refine K 128 (by decide) _ _ (by omega) fun h4 => ?_
  refine K 96 (by decide) _ _ (by omega) fun h3 => ?_
  refine K 64 (by decide) _ _ (by omega) fun h2 => ?_
  refine K 32 (by decide) _ _ (by omega) fun h1 => ?_
  refine K 0 (by decide) _ _ (by omega) fun h => absurd h (Nat.not_lt_zero _)

end

/-- The other half of the scratch buffer of codes stays. -/
theorem fin_xb_other (i : grid0.Coords) (old : Vec Ideal S2x384x2048 .bf16) (b : Fin 2) (hb : b.val ≠ cur i) (r : Fin 384) (d : Fin 2048) :
    fin_xb i x old (ix3 b r d) = old (ix3 b r d) := by
  have K := @otherHalf (Elt Ideal .bf16) 384 2048 32 b (cur i) hb r d
  unfold fin_xb
  refine (K 352 _ _).trans ?_
  refine (K 320 _ _).trans ?_
  refine (K 288 _ _).trans ?_
  refine (K 256 _ _).trans ?_
  refine (K 224 _ _).trans ?_
  refine (K 192 _ _).trans ?_
  refine (K 160 _ _).trans ?_
  refine (K 128 _ _).trans ?_
  refine (K 96 _ _).trans ?_
  refine (K 64 _ _).trans ?_
  refine (K 32 _ _).trans ?_
  refine (K 0 _ _).trans ?_
  rfl

/-- And that of scales. -/
theorem fin_xs_other (i : grid0.Coords) (old : Vec Ideal S2x384x128 .f32) (b : Fin 2) (hb : b.val ≠ cur i) (r : Fin 384) (d : Fin 128) :
    fin_xs i x old (ix3 b r d) = old (ix3 b r d) := by
  have K := @otherHalf (Elt Ideal .f32) 384 128 32 b (cur i) hb r d
  unfold fin_xs
  refine (K 352 _ _).trans ?_
  refine (K 320 _ _).trans ?_
  refine (K 288 _ _).trans ?_
  refine (K 256 _ _).trans ?_
  refine (K 224 _ _).trans ?_
  refine (K 192 _ _).trans ?_
  refine (K 160 _ _).trans ?_
  refine (K 128 _ _).trans ?_
  refine (K 96 _ _).trans ?_
  refine (K 64 _ _).trans ?_
  refine (K 32 _ _).trans ?_
  refine (K 0 _ _).trans ?_
  rfl

/-- The scales of one sequence as a row: the first lane's column. -/
theorem seqRow_eq (l : Vec Ideal S1x192x128 .f32) (G : ℕ → EReal) (hl : ∀ (r : Fin 192) (c : Fin 128), l (ix3 0 r c) = G r) (b u : Fin 1) (r : Fin 192) :
    seqRow l (ix3 b u r) = G r := by
  unfold seqRow
  refine (cast23 _ _ b u r).trans ?_
  refine (sliceRows 0 _ _ u r (by omega)).trans ?_
  refine (transposed _ _ _ r).trans ?_
  exact (cast32 _ _ r _).trans (hl r _)

/-- The two rows of scales. -/
theorem fin_x1s_eq (i : grid0.Coords) (xs : Vec Ideal S2x384x128 .f32) (old : Vec Ideal S2x1x192 .f32) (R : ℕ)
    (hxs : ∀ (b : Fin 2) (r : Fin 384) (l : Fin 128), b.val = cur i → xs (ix3 b r l) = sc a (R + r)) (b : Fin 2) (u : Fin 1) (r : Fin 192) :
    fin_x1s i xs old (ix3 b u r) = sc a (R + 192 * b + r) := by
  have hc : cur i < 2 := Nat.mod_lt _ (by decide)
  have row : ∀ (o : ℕ) (ho : o + 192 ≤ 384) (i1) (r : Fin 192) (l : Fin 128),
      VecWindow.window xs ![cur i, o, 0] S1x192x128.size i1 (ix3 0 r l) = sc a (R + o + r) := fun o ho i1 r l => by
    refine (window3 xs (cur i) o 0 i1 (0 : Fin 1) r l (by show cur i + 0 < 2; omega) (by omega) (by omega)).trans ?_
    refine (hxs ⟨cur i + (0 : Fin 1).val, by show cur i + 0 < 2; omega⟩ ⟨o + r.val, by omega⟩ _ rfl).trans ?_
    show sc a (R + (o + r.val)) = _
    rw [Nat.add_assoc]
  have hb := b.isLt; have hu := u.isLt; have hr := r.isLt
  unfold fin_x1s
  refine (put3 _ 1 0 0 _ (fun b _ r => sc a (R + 192 * b + r)) (fun b u r => ?_) b u r).trans ?_
  · have hb : b.val = 0 := by omega
    refine (seqRow_eq _ (fun r => sc a (R + 192 + r)) (row 192 (by decide) _) b u r).trans ?_
    show sc a (R + 192 + r.val) = sc a (R + 192 * (1 + b.val) + (0 + r.val))
    congr 1; omega
  refine Eq.trans (congrArg (ite _ _) (put3 old 0 0 0 _ (fun b _ r => sc a (R + 192 * b + r)) (fun b u r => ?_) b u r)) ?_
  · have hb : b.val = 0 := by omega
    refine (seqRow_eq _ (fun r => sc a (R + 0 + r)) (row 0 (by decide) _) b u r).trans ?_
    show sc a (R + 0 + r.val) = sc a (R + 192 * (0 + b.val) + (0 + r.val))
    congr 1; omega
  split_ifs <;> first | (exfalso; omega) | rfl

end Cert.Qkv.Hand

end
-- ==== Proof.QkvHeads.lean ====
/-
  The keys and values of the block before, entry by entry.
-/
module

public import proofs.«01_k».proof.Proof.QkvVal
public import Idealize.ShloMosaic.Lib.KernelVsHost

@[expose] public section

set_option maxRecDepth 65536

noncomputable section

namespace Cert.Qkv.Hand

open Cert.Qkv Cert.Qkv.Gen Cert.QkvSpec Cert.Cells
open Cert.MlpSpec (lit aabs scaleOf quantOf num ext2 ext2_of ext2_fin)
open Cert.OprojSpec (rootOf root_apply norm_apply amax_apply code_apply extf_form asColumn)
open Idealize.ShloMosaic Idealize.ShloMosaic.ValueIdx
open Finset

variable {a : Arr} {n : ℕ} {x : Ins Ideal}

/-- A product with 512 columns of the weights, at an entry. -/
theorem dotQ_apply (A : FVec Ideal S384x2048 .bf16) (w : Vec Ideal S2048x512 .i8) (r : Fin 384) (c : Fin 512) :
    dotQ A w (ix2 r c) = lit 0x00000000#32 + ∑ k : Fin 2048, A (ix2 r k) * num (w (ix2 k c)) := by
  unfold dotQ
  refine (Ideal.matmul_plain_apply (M := 384) (K := 2048) (N := 512) none _ _ _ r c).trans ?_
  refine congrArg (lit 0x00000000#32 + ·) (Finset.sum_congr rfl fun k _ => ?_)
  exact congrArg (A (ix2 r k) * ·) (congrArg num (cast22 w shapeCasts_S2048x512_S2048x512 k c))

theorem head_form (D S W : FVec Ideal S384x128 .f32) (z) : mulf (mulf D S) W z = D z * S z * W z := rfl

/-- The scratch buffers' half the point reads holds block row `R`'s codes and scales. -/
structure Half (a : Arr) (R : ℕ) (i : grid0.Coords) (xb : Vec Ideal S2x384x2048 .bf16) (xs : Vec Ideal S2x384x128 .f32) : Prop where
  b : ∀ (b : Fin 2) (r : Fin 384) (d : Fin 2048), b.val = prev i → xb (ix3 b r d) = q a (R + r) d
  s : ∀ (b : Fin 2) (r : Fin 384) (l : Fin 128), b.val = prev i → xs (ix3 b r l) = sc a (R + r)

section
variable (hx : Good a n x) {R : ℕ} {i : grid0.Coords} {xb : Vec Ideal S2x384x2048 .bf16} {xs : Vec Ideal S2x384x128 .f32} (hh : Half a R i xb xs)
include hh

theorem xbR_eq (r : Fin 384) (d : Fin 2048) : xbR i xb (ix2 r d) = q a (R + r) d := by
  have hp : prev i < 2 := Nat.mod_lt _ (by decide)
  unfold xbR
  refine (cast32 _ _ r d).trans ((window3 xb (prev i) 0 0 _ (0 : Fin 1) r d (by show prev i + 0 < 2; omega) (by omega) (by omega)).trans ?_)
  refine (hh.b ⟨prev i + (0 : Fin 1).val, by show prev i + 0 < 2; omega⟩ ⟨0 + r.val, by omega⟩ ⟨0 + d.val, by omega⟩ rfl).trans ?_
  show q a (R + (0 + r.val)) (0 + d.val) = _
  rw [Nat.zero_add, Nat.zero_add]

theorem xsR_eq (r : Fin 384) (l : Fin 128) : xsR i xs (ix2 r l) = sc a (R + r) := by
  have hp : prev i < 2 := Nat.mod_lt _ (by decide)
  unfold xsR
  refine (cast32 _ _ r l).trans ((window3 xs (prev i) 0 0 _ (0 : Fin 1) r l (by show prev i + 0 < 2; omega) (by omega) (by omega)).trans ?_)
  refine (hh.s ⟨prev i + (0 : Fin 1).val, by show prev i + 0 < 2; omega⟩ ⟨0 + r.val, by omega⟩ ⟨0 + l.val, by omega⟩ rfl).trans ?_
  show sc a (R + (0 + r.val)) = _
  rw [Nat.zero_add]

include hx

/-- One head before it is rotated: 128 columns of the scaled product. -/
theorem head_eq (o j c : ℕ) (hc : o + j = c) (hj : j + 128 ≤ 512) (ho : o + 512 ≤ 6144) (i1 hs i2) (r : Fin 384) (e : Fin 128) :
    head (extractStridedSlice S384x128 ![0, j] (dotQ (xbR i xb) (VecWindow.window x.w ![0, o] S2048x512.size i1)) hs) (xsR i xs)
      (VecWindow.window x.sc ![0, c] S1x128.size i2) (ix2 r e) = t a (R + r) (c + e) := by
  have e1 : extractStridedSlice S384x128 ![0, j] (dotQ (xbR i xb) (VecWindow.window x.w ![0, o] S2048x512.size i1)) hs (ix2 r e)
      = lit 0x00000000#32 + ∑ k : Fin 2048, q a (R + r) k * a.w k (c + e) := by
    refine (sliceCols j _ hs r e (by omega)).trans ((dotQ_apply _ _ _ _).trans ?_)
    refine congrArg (lit 0x00000000#32 + ·) (Finset.sum_congr rfl fun k _ => ?_)
    rw [xbR_eq hh]
    refine congrArg (q a (R + r) k * ·) ?_
    refine (congrArg num (window2 x.w 0 o i1 k _ (by omega) (by show o + (j + e.val) < 6144; omega))).trans ((hx.w _ _).trans ?_)
    show a.w (0 + k.val) (o + (j + e.val)) = _
    rw [Nat.zero_add, ← Nat.add_assoc, hc]
  have e2 : broadcastTo S384x128 (shapeCast S1x128 (VecWindow.window x.sc ![0, c] S1x128.size i2) shapeCasts_S1x128_S1x128) broadcasts_S1x128_S384x128 (ix2 r e)
      = a.ws (c + e) := by
    refine (bcastRow _ _ r e).trans ((cast22 _ _ 0 e).trans ?_)
    refine (window2 x.sc 0 c i2 (0 : Fin 1) e (by decide) (by omega)).trans ?_
    exact hx.ws ⟨c + e.val, by omega⟩
  unfold head
  refine (head_form _ _ _ _).trans ?_
  rw [e1, e2, xsR_eq hh, t]

theorem vHeads_eq (h : Fin 16) (r : Fin 384) (e : Fin 128) : vHeads i x xb xs h (ix2 r e) = val a (R + r) h e := by
  have K := fun o j c hc hj ho i1 hs i2 => head_eq hx hh o j c hc hj ho i1 hs i2 r e
  unfold QkvSpec.val
  fin_cases h
  · exact K 4096 0 4096 rfl (by decide) (by decide) _ _ _
  · exact K 4096 128 4224 rfl (by decide) (by decide) _ _ _
  · exact K 4096 256 4352 rfl (by decide) (by decide) _ _ _
  · exact K 4096 384 4480 rfl (by decide) (by decide) _ _ _
  · exact K 4608 0 4608 rfl (by decide) (by decide) _ _ _
  · exact K 4608 128 4736 rfl (by decide) (by decide) _ _ _
  · exact K 4608 256 4864 rfl (by decide) (by decide) _ _ _
  · exact K 4608 384 4992 rfl (by decide) (by decide) _ _ _
  · exact K 5120 0 5120 rfl (by decide) (by decide) _ _ _
  · exact K 5120 128 5248 rfl (by decide) (by decide) _ _ _
  · exact K 5120 256 5376 rfl (by decide) (by decide) _ _ _
  · exact K 5120 384 5504 rfl (by decide) (by decide) _ _ _
  · exact K 5632 0 5632 rfl (by decide) (by decide) _ _ _
  · exact K 5632 128 5760 rfl (by decide) (by decide) _ _ _
  · exact K 5632 256 5888 rfl (by decide) (by decide) _ _ _
  · exact K 5632 384 6016 rfl (by decide) (by decide) _ _ _

theorem kHeads_eq (h : Fin 16) (r : Fin 384) (e : Fin 128) : kHeads i x xb xs h (ix2 r e) = t a (R + r) (2048 + 128 * h + e) := by
  have K := fun o j c hc hj ho i1 hs i2 => head_eq hx hh o j c hc hj ho i1 hs i2 r e
  fin_cases h
  · exact K 2048 0 2048 rfl (by decide) (by decide) _ _ _
  · exact K 2048 128 2176 rfl (by decide) (by decide) _ _ _
  · exact K 2048 256 2304 rfl (by decide) (by decide) _ _ _
  · exact K 2048 384 2432 rfl (by decide) (by decide) _ _ _
  · exact K 2560 0 2560 rfl (by decide) (by decide) _ _ _
  · exact K 2560 128 2688 rfl (by decide) (by decide) _ _ _
  · exact K 2560 256 2816 rfl (by decide) (by decide) _ _ _
  · exact K 2560 384 2944 rfl (by decide) (by decide) _ _ _
  · exact K 3072 0 3072 rfl (by decide) (by decide) _ _ _
  · exact K 3072 128 3200 rfl (by decide) (by decide) _ _ _
  · exact K 3072 256 3328 rfl (by decide) (by decide) _ _ _
  · exact K 3072 384 3456 rfl (by decide) (by decide) _ _ _
  · exact K 3584 0 3584 rfl (by decide) (by decide) _ _ _
  · exact K 3584 128 3712 rfl (by decide) (by decide) _ _ _
  · exact K 3584 256 3840 rfl (by decide) (by decide) _ _ _
  · exact K 3584 384 3968 rfl (by decide) (by decide) _ _ _

end

/-- The rows of one sequence of a table, from its two halves `p` and `p'` of 64 entries. -/
theorem tableRows (X Y : FVec Ideal S64x192 .f32) (s : Fin 192) (e : Fin 128) (f : ℕ → EReal)
    (hX : ∀ k : Fin 64, X (ix2 k s) = f k) (hY : ∀ k : Fin 64, Y (ix2 k s) = f (64 + k)) :
    transpose S192x128 [1, 0] (concatenate S128x192 0 [⟨S64x192, X⟩, ⟨S64x192, Y⟩] concatenates_S64x192_S64x192_S128x192_d0) transposes_S128x192_p1_0_S192x128 (ix2 s e) = f e := by
  refine (transposed _ _ s e).trans ?_
  by_cases h : e.val < 64
  · exact (concatenate_pair_apply_left 0 X Y _ (ix2 e s) rfl (ix2 ⟨e.val, h⟩ s) (fun b => by fin_cases b <;> rfl)).trans (hX _)
  · refine (concatenate_pair_apply_right 0 X Y _ (ix2 e s) rfl rfl (ix2 ⟨e.val - 64, by omega⟩ s) (fun b hb => ?_) ?_).trans ((hY _).trans ?_)
    · fin_cases b
      · exact absurd rfl hb
      · rfl
    · show e.val - 64 + 64 = e.val; omega
    · show f (64 + (e.val - 64)) = f e.val
      congr 1; omega

/-- Two sequences' rows, one above the other. -/
theorem twoSeq (X Y : FVec Ideal S192x128 .f32) (r : Fin 384) (e : Fin 128) (f : ℕ → EReal)
    (hX : ∀ s : Fin 192, X (ix2 s e) = f s) (hY : ∀ s : Fin 192, Y (ix2 s e) = f (192 + s)) :
    concatenate S384x128 0 [⟨S192x128, X⟩, ⟨S192x128, Y⟩] concatenates_S192x128_S192x128_S384x128_d0 (ix2 r e) = f r := by
  by_cases h : r.val < 192
  · exact (concatenate_pair_apply_left 0 X Y _ (ix2 r e) rfl (ix2 ⟨r.val, h⟩ e) (fun b => by fin_cases b <;> rfl)).trans (hX _)
  · refine (concatenate_pair_apply_right 0 X Y _ (ix2 r e) rfl rfl (ix2 ⟨r.val - 192, by omega⟩ e) (fun b hb => ?_) ?_).trans ((hY _).trans ?_)
    · fin_cases b
      · exact absurd rfl hb
      · rfl
    · show r.val - 192 + 192 = r.val; omega
    · show f (192 + (r.val - 192)) = f r.val
      congr 1; omega

theorem neg_form (X : FVec Ideal S64x192 .f32) (z) : subf (broadcast S64x192 (Scalar.ofBits .f32 0x00000000#32)) X z = -X z := by
  show lit 0x00000000#32 - X z = -X z
  rw [show lit 0x00000000#32 = 0 from Ideal.ofBits_zero_f32, zero_sub]

/-- One sequence's table in a window. -/
theorem tableWin (Z : Vec Ideal S2x64x192 .f32) (o : ℕ) (ho : o < 2) (i1) (k : Fin 64) (s : Fin 192) :
    shapeCast S64x192 (VecWindow.window Z ![o, 0, 0] S1x64x192.size i1) shapeCasts_S1x64x192_S64x192 (ix2 k s) = Z (ix3 ⟨o, ho⟩ k s) := by
  refine (cast32 _ _ k s).trans ((window3 Z o 0 0 i1 (0 : Fin 1) k s (by show o + 0 < 2; omega) (by omega) (by omega)).trans ?_)
  refine congrArg Z ?_
  funext b; apply Fin.ext
  fin_cases b
  · show o + 0 = o; omega
  · show 0 + k.val = k.val; omega
  · show 0 + s.val = s.val; omega

section
variable (hx : Good a n x)
include hx

/-- The cosines, twice. -/
theorem cosR_eq (r : Fin 384) (e : Fin 128) : cosR x (ix2 r e) = if e.val < 64 then a.co (384 * (n - 1) + r) e else a.co (384 * (n - 1) + r) (e - 64) := by
  have one : ∀ (o : ℕ) (ho : o < 2) (i1) (k : Fin 64) (s : Fin 192), shapeCast S64x192 (VecWindow.window x.co ![o, 0, 0] S1x64x192.size i1) shapeCasts_S1x64x192_S64x192 (ix2 k s)
      = a.co (384 * (n - 1) + 192 * o + s) k := fun o ho i1 k s => (tableWin x.co o ho i1 k s).trans (hx.co _ _ _)
  have seq : ∀ (o : ℕ) (ho : o < 2) (i1) (s : Fin 192), transpose S192x128 [1, 0] (concatenate S128x192 0
      [⟨S64x192, shapeCast S64x192 (VecWindow.window x.co ![o, 0, 0] S1x64x192.size i1) shapeCasts_S1x64x192_S64x192⟩,
       ⟨S64x192, shapeCast S64x192 (VecWindow.window x.co ![o, 0, 0] S1x64x192.size i1) shapeCasts_S1x64x192_S64x192⟩] concatenates_S64x192_S64x192_S128x192_d0)
      transposes_S128x192_p1_0_S192x128 (ix2 s e)
      = (fun r : ℕ => if e.val < 64 then a.co (384 * (n - 1) + r) e else a.co (384 * (n - 1) + r) (e - 64)) (192 * o + s) := fun o ho i1 s => by
    refine (tableRows _ _ s e (fun e => if e < 64 then a.co (384 * (n - 1) + (192 * o + s)) e else a.co (384 * (n - 1) + (192 * o + s)) (e - 64)) (fun k => ?_) (fun k => ?_)).trans rfl
    · rw [one o ho, if_pos k.isLt, Nat.add_assoc]
    · rw [one o ho, if_neg (by omega), Nat.add_assoc, Nat.add_sub_cancel_left]
  unfold cosR k0_pay179
  refine twoSeq _ _ r e (fun r : ℕ => if e.val < 64 then a.co (384 * (n - 1) + r) e else a.co (384 * (n - 1) + r) (e - 64)) (fun s => ?_) (fun s => ?_)
  · refine (seq 0 (by decide) _ s).trans ?_
    rw [Nat.mul_zero, Nat.zero_add]
  · exact seq 1 (by decide) _ s

/-- The sines, first negated. -/
theorem sinR_eq (r : Fin 384) (e : Fin 128) : sinR x (ix2 r e) = if e.val < 64 then -a.si (384 * (n - 1) + r) e else a.si (384 * (n - 1) + r) (e - 64) := by
  have one : ∀ (o : ℕ) (ho : o < 2) (i1) (k : Fin 64) (s : Fin 192), shapeCast S64x192 (VecWindow.window x.si ![o, 0, 0] S1x64x192.size i1) shapeCasts_S1x64x192_S64x192 (ix2 k s)
      = a.si (384 * (n - 1) + 192 * o + s) k := fun o ho i1 k s => (tableWin x.si o ho i1 k s).trans (hx.si _ _ _)
  have seq : ∀ (o : ℕ) (ho : o < 2) (i1) (s : Fin 192), transpose S192x128 [1, 0] (concatenate S128x192 0
      [⟨S64x192, subf (broadcast S64x192 (Scalar.ofBits .f32 0x00000000#32 : Ideal .f32)) (shapeCast S64x192 (VecWindow.window x.si ![o, 0, 0] S1x64x192.size i1) shapeCasts_S1x64x192_S64x192)⟩,
       ⟨S64x192, shapeCast S64x192 (VecWindow.window x.si ![o, 0, 0] S1x64x192.size i1) shapeCasts_S1x64x192_S64x192⟩] concatenates_S64x192_S64x192_S128x192_d0)
      transposes_S128x192_p1_0_S192x128 (ix2 s e)
      = (fun r : ℕ => if e.val < 64 then -a.si (384 * (n - 1) + r) e else a.si (384 * (n - 1) + r) (e - 64)) (192 * o + s) := fun o ho i1 s => by
    refine (tableRows _ _ s e (fun e => if e < 64 then -a.si (384 * (n - 1) + (192 * o + s)) e else a.si (384 * (n - 1) + (192 * o + s)) (e - 64)) (fun k => ?_) (fun k => ?_)).trans rfl
    · rw [neg_form, one o ho, if_pos k.isLt, Nat.add_assoc]
    · rw [one o ho, if_neg (by omega), Nat.add_assoc, Nat.add_sub_cancel_left]
  unfold sinR k0_pay180
  refine twoSeq _ _ r e (fun r : ℕ => if e.val < 64 then -a.si (384 * (n - 1) + r) e else a.si (384 * (n - 1) + r) (e - 64)) (fun s => ?_) (fun s => ?_)
  · refine (seq 0 (by decide) _ s).trans ?_
    rw [Nat.mul_zero, Nat.zero_add]
  · exact seq 1 (by decide) _ s

omit hx in
theorem rope_form (T C S : FVec Ideal S384x128 .f32) (z) :
    rope T C S z = T z * C z + dynamicRotate 1 64#32 none T rotates_S384x128_d1 z * S z := rfl

/-- The keys, rotated. -/
theorem kRoped_eq {i : grid0.Coords} {xb : Vec Ideal S2x384x2048 .bf16} {xs : Vec Ideal S2x384x128 .f32} (hh : Half a (384 * (n - 1)) i xb xs)
    (h : Fin 16) (r : Fin 384) (e : Fin 128) : kRoped i x xb xs h (ix2 r e) = key a (384 * (n - 1) + r) h e := by
  have he := e.isLt
  have rot : ∀ k : Fin 128, (k.val = if e.val < 64 then e.val + 64 else e.val - 64) →
      dynamicRotate 1 64#32 none (kHeads i x xb xs h) rotates_S384x128_d1 (ix2 r e) = t a (384 * (n - 1) + r) (2048 + 128 * h + k) := fun k hk => by
    refine (dynamicRotate_apply 1 64#32 _ _ (ix2 r e) (ix2 r k) (fun b => ?_)).trans (kHeads_eq hx hh h r k)
    fin_cases b
    · rfl
    · show k.val = (e.val + 128 - 64 % 128) % 128
      rw [hk]
      split_ifs <;> omega
  unfold kRoped
  refine (rope_form _ _ _ _).trans ?_
  rw [kHeads_eq hx hh, cosR_eq hx, sinR_eq hx, key]
  by_cases h64 : e.val < 64
  · rw [if_pos h64, if_pos h64, if_pos h64, rot ⟨e.val + 64, by omega⟩ (by rw [if_pos h64])]
  · rw [if_neg h64, if_neg h64, if_neg h64, rot ⟨e.val - 64, by omega⟩ (by rw [if_neg h64])]

end

end Cert.Qkv.Hand

end
-- ==== Proof.QkvQuant.lean ====
/-
  The codes and scales of sixteen heads, entry by entry.
-/
module

public import proofs.«01_k».proof.Proof.QkvVal

@[expose] public section

set_option maxRecDepth 65536

noncomputable section

namespace Cert.Qkv.Hand

open Cert.Qkv Cert.Qkv.Gen Cert.QkvSpec Cert.Cells
open Cert.MlpSpec (lit aabs scaleOf quantOf num ext2 ext2_of ext2_fin)
open Cert.OprojSpec (rootOf root_apply norm_apply amax_apply code_apply extf_form asColumn)
open Idealize.ShloMosaic Idealize.ShloMosaic.ValueIdx
open Finset

variable {f : ℕ → ℕ → ℕ → EReal} {R : ℕ}

theorem hScl_eq (T : FVec Ideal S384x128 .f32) (h : ℕ) (hT : ∀ (r : Fin 384) (e : Fin 128), T (ix2 r e) = f (R + r) h e) (r : Fin 384) :
    hScl T (ix2 r 0) = hsc f (R + r) h := by
  unfold hScl
  refine (scale_form (hAmax T) (ix2 r 0)).trans ?_
  unfold hAmax hsc
  exact congrArg scaleOf (hamax_apply T _ _ _ _ r (fun e : Fin 128 => f (R + r) h e) (hT r))

theorem hCode_eq (T : FVec Ideal S384x128 .f32) (h : ℕ) (hT : ∀ (r : Fin 384) (e : Fin 128), T (ix2 r e) = f (R + r) h e) (r : Fin 384) (e : Fin 128) :
    hCode T (ix2 r e) = hq f (R + r) h e := by
  unfold hCode
  refine (code_form T _ (ix2 r e)).trans ?_
  rw [hT r e, bcastCol, hScl_eq T h hT, hq]

/-- The four codes side by side, for the rows from `o` on. -/
theorem quad_eq (o : ℕ) (ho : o + 192 ≤ 384) (A B C D : IVec S384x128 8) (hs hs' hc hcc) (G : ℕ → ℕ → ℕ → BitVec 8)
    (hA : ∀ (r : Fin 384) (e : Fin 128), A (ix2 r e) = G r 0 e) (hB : ∀ (r : Fin 384) (e : Fin 128), B (ix2 r e) = G r 1 e)
    (hC : ∀ (r : Fin 384) (e : Fin 128), C (ix2 r e) = G r 2 e) (hD : ∀ (r : Fin 384) (e : Fin 128), D (ix2 r e) = G r 3 e)
    (b : Fin 1) (s : Fin 192) (j : Fin 4) (e : Fin 128) :
    shapeCast S1x192x4x128 (concatenate S192x4x128 1
      [⟨S192x1x128, shapeCast S192x1x128 (extractStridedSlice S192x128 ![o, 0] A hs) hs'⟩,
       ⟨S192x1x128, shapeCast S192x1x128 (extractStridedSlice S192x128 ![o, 0] B hs) hs'⟩,
       ⟨S192x1x128, shapeCast S192x1x128 (extractStridedSlice S192x128 ![o, 0] C hs) hs'⟩,
       ⟨S192x1x128, shapeCast S192x1x128 (extractStridedSlice S192x128 ![o, 0] D hs) hs'⟩] hc) hcc (ix4 b s j e) = G (o + s) j e := by
  have one : ∀ (X : IVec S384x128 8) (k : ℕ), (∀ (r : Fin 384) (e : Fin 128), X (ix2 r e) = G r k e) →
      shapeCast S192x1x128 (extractStridedSlice S192x128 ![o, 0] X hs) hs' (ix3 s 0 e) = G (o + s) k e := fun X k hX =>
    (castMid _ _ s 0 e).trans ((sliceRows o X _ s e (by omega)).trans (hX _ _))
  exact (cast34 _ _ b s j e).trans (stack4 _ _ _ _ hc s j e (fun k => G (o + s) k e) (one A 0 hA) (one B 1 hB) (one C 2 hC) (one D 3 hD))

section
variable (T : Fin 16 → FVec Ideal S384x128 .f32) (hT : ∀ (h : Fin 16) (r : Fin 384) (e : Fin 128), T h (ix2 r e) = f (R + r) h e)
include hT

theorem quad0_eq (c : ℕ) (h0 h1 h2 h3 : Fin 16) (e0 : h0.val = c + 0) (e1 : h1.val = c + 1) (e2 : h2.val = c + 2) (e3 : h3.val = c + 3) (b : Fin 1) (s : Fin 192) (j : Fin 4) (e : Fin 128) :
    quad0 (hCode (T h0)) (hCode (T h1)) (hCode (T h2)) (hCode (T h3)) (ix4 b s j e) = hq f (R + (0 + s)) (c + j) e := by
  unfold quad0
  exact quad_eq 0 (by decide) _ _ _ _ _ _ _ _ (fun r j e => hq f (R + r) (c + j) e)
    (fun r e => e0 ▸ hCode_eq (T h0) h0 (hT h0) r e) (fun r e => e1 ▸ hCode_eq (T h1) h1 (hT h1) r e)
    (fun r e => e2 ▸ hCode_eq (T h2) h2 (hT h2) r e) (fun r e => e3 ▸ hCode_eq (T h3) h3 (hT h3) r e) b s j e

theorem quad1_eq (c : ℕ) (h0 h1 h2 h3 : Fin 16) (e0 : h0.val = c + 0) (e1 : h1.val = c + 1) (e2 : h2.val = c + 2) (e3 : h3.val = c + 3) (b : Fin 1) (s : Fin 192) (j : Fin 4) (e : Fin 128) :
    quad1 (hCode (T h0)) (hCode (T h1)) (hCode (T h2)) (hCode (T h3)) (ix4 b s j e) = hq f (R + (192 + s)) (c + j) e := by
  unfold quad1
  exact quad_eq 192 (by decide) _ _ _ _ _ _ _ _ (fun r j e => hq f (R + r) (c + j) e)
    (fun r e => e0 ▸ hCode_eq (T h0) h0 (hT h0) r e) (fun r e => e1 ▸ hCode_eq (T h1) h1 (hT h1) r e)
    (fun r e => e2 ▸ hCode_eq (T h2) h2 (hT h2) r e) (fun r e => e3 ▸ hCode_eq (T h3) h3 (hT h3) r e) b s j e

/-- The codes of the sixteen heads. -/
theorem codes16_eq (old : Vec Ideal S2x192x16x128 .i8) (b : Fin 2) (s : Fin 192) (h : Fin 16) (e : Fin 128) :
    codes16 T old (ix4 b s h e) = hq f (R + 192 * b + s) h e := by
  have p0 : ∀ (c : ℕ) (W : IVec S1x192x4x128 8), (∀ (b : Fin 1) (s : Fin 192) (j : Fin 4) (e : Fin 128), W (ix4 b s j e) = hq f (R + (0 + s)) (c + j) e) →
      ∀ (b : Fin 1) (s : Fin 192) (j : Fin 4) (e : Fin 128), W (ix4 b s j e) = (fun b s h e => hq f (R + 192 * b + s) h e) (0 + b.val) (0 + s.val) (c + j.val) (0 + e.val) := fun c W hW b s j e => by
    have hb : b.val = 0 := by omega
    refine (hW b s j e).trans ?_
    show hq f (R + (0 + s.val)) (c + j.val) e.val = hq f (R + 192 * (0 + b.val) + (0 + s.val)) (c + j.val) (0 + e.val)
    congr 1 <;> omega
  have p1 : ∀ (c : ℕ) (W : IVec S1x192x4x128 8), (∀ (b : Fin 1) (s : Fin 192) (j : Fin 4) (e : Fin 128), W (ix4 b s j e) = hq f (R + (192 + s)) (c + j) e) →
      ∀ (b : Fin 1) (s : Fin 192) (j : Fin 4) (e : Fin 128), W (ix4 b s j e) = (fun b s h e => hq f (R + 192 * b + s) h e) (1 + b.val) (0 + s.val) (c + j.val) (0 + e.val) := fun c W hW b s j e => by
    have hb : b.val = 0 := by omega
    refine (hW b s j e).trans ?_
    show hq f (R + (192 + s.val)) (c + j.val) e.val = hq f (R + 192 * (1 + b.val) + (0 + s.val)) (c + j.val) (0 + e.val)
    congr 1 <;> omega
  have Q0 := fun c h0 h1 h2 h3 e0 e1 e2 e3 => p0 c _ (quad0_eq T hT c h0 h1 h2 h3 e0 e1 e2 e3)
  have Q1 := fun c h0 h1 h2 h3 e0 e1 e2 e3 => p1 c _ (quad1_eq T hT c h0 h1 h2 h3 e0 e1 e2 e3)
  have hb := b.isLt
  have hs := s.isLt
  have hh := h.isLt
  have he := e.isLt
  unfold codes16
  refine (put4 _ 1 0 12 0 _ (fun b s h e => hq f (R + 192 * b + s) h e) (Q1 12 12 13 14 15 rfl rfl rfl rfl) b s h e).trans ?_
  by_cases c31 : 1 ≤ b.val ∧ b.val < 1 + 1 ∧ 0 ≤ s.val ∧ s.val < 0 + 192 ∧ 12 ≤ h.val ∧ h.val < 12 + 4 ∧ 0 ≤ e.val ∧ e.val < 0 + 128
  · exact if_pos c31
  refine (if_neg c31).trans ?_
  refine (put4 _ 0 0 12 0 _ (fun b s h e => hq f (R + 192 * b + s) h e) (Q0 12 12 13 14 15 rfl rfl rfl rfl) b s h e).trans ?_
  by_cases c30 : 0 ≤ b.val ∧ b.val < 0 + 1 ∧ 0 ≤ s.val ∧ s.val < 0 + 192 ∧ 12 ≤ h.val ∧ h.val < 12 + 4 ∧ 0 ≤ e.val ∧ e.val < 0 + 128
  · exact if_pos c30
  refine (if_neg c30).trans ?_
  refine (put4 _ 1 0 8 0 _ (fun b s h e => hq f (R + 192 * b + s) h e) (Q1 8 8 9 10 11 rfl rfl rfl rfl) b s h e).trans ?_
  by_cases c21 : 1 ≤ b.val ∧ b.val < 1 + 1 ∧ 0 ≤ s.val ∧ s.val < 0 + 192 ∧ 8 ≤ h.val ∧ h.val < 8 + 4 ∧ 0 ≤ e.val ∧ e.val < 0 + 128
  · exact if_pos c21
  refine (if_neg c21).trans ?_
  refine (put4 _ 0 0 8 0 _ (fun b s h e => hq f (R + 192 * b + s) h e) (Q0 8 8 9 10 11 rfl rfl rfl rfl) b s h e).trans ?_
  by_cases c20 : 0 ≤ b.val ∧ b.val < 0 + 1 ∧ 0 ≤ s.val ∧ s.val < 0 + 192 ∧ 8 ≤ h.val ∧ h.val < 8 + 4 ∧ 0 ≤ e.val ∧ e.val < 0 + 128
  · exact if_pos c20
  refine (if_neg c20).trans ?_
  refine (put4 _ 1 0 4 0 _ (fun b s h e => hq f (R + 192 * b + s) h e) (Q1 4 4 5 6 7 rfl rfl rfl rfl) b s h e).trans ?_
  by_cases c11 : 1 ≤ b.val ∧ b.val < 1 + 1 ∧ 0 ≤ s.val ∧ s.val < 0 + 192 ∧ 4 ≤ h.val ∧ h.val < 4 + 4 ∧ 0 ≤ e.val ∧ e.val < 0 + 128
  · exact if_pos c11
  refine (if_neg c11).trans ?_
  refine (put4 _ 0 0 4 0 _ (fun b s h e => hq f (R + 192 * b + s) h e) (Q0 4 4 5 6 7 rfl rfl rfl rfl) b s h e).trans ?_
  by_cases c10 : 0 ≤ b.val ∧ b.val < 0 + 1 ∧ 0 ≤ s.val ∧ s.val < 0 + 192 ∧ 4 ≤ h.val ∧ h.val < 4 + 4 ∧ 0 ≤ e.val ∧ e.val < 0 + 128
  · exact if_pos c10
  refine (if_neg c10).trans ?_
  refine (put4 _ 1 0 0 0 _ (fun b s h e => hq f (R + 192 * b + s) h e) (Q1 0 0 1 2 3 rfl rfl rfl rfl) b s h e).trans ?_
  by_cases c01 : 1 ≤ b.val ∧ b.val < 1 + 1 ∧ 0 ≤ s.val ∧ s.val < 0 + 192 ∧ 0 ≤ h.val ∧ h.val < 0 + 4 ∧ 0 ≤ e.val ∧ e.val < 0 + 128
  · exact if_pos c01
  refine (if_neg c01).trans ?_
  refine (put4 _ 0 0 0 0 _ (fun b s h e => hq f (R + 192 * b + s) h e) (Q0 0 0 1 2 3 rfl rfl rfl rfl) b s h e).trans ?_
  by_cases c00 : 0 ≤ b.val ∧ b.val < 0 + 1 ∧ 0 ≤ s.val ∧ s.val < 0 + 192 ∧ 0 ≤ h.val ∧ h.val < 0 + 4 ∧ 0 ≤ e.val ∧ e.val < 0 + 128
  · exact if_pos c00
  refine (if_neg c00).trans ?_
  exfalso; omega

omit hT in
theorem putLane_eq (n : ℕ) (hn : n < 16) (X : FVec Ideal S384x128 .f32) (h : ℕ) (hX : ∀ (r : Fin 384) (e : Fin 128), X (ix2 r e) = f (R + r) h e) (acc : FVec Ideal S384x128 .f32) (r : Fin 384) (l : Fin 128) :
    putLane (BitVec.ofNat 32 n) X acc (ix2 r l) = if l.val = n then hsc f (R + r) h else acc (ix2 r l) := by
  have e1 : broadcastTo S384x128 (shapeCast S384x1 (hScl X) shapeCasts_S384x1_S384x1) broadcasts_S384x1_S384x128 (ix2 r l) = hsc f (R + r) h := by
    rw [bcastCol]
    exact (cast22 _ _ r 0).trans (hScl_eq X h hX r)
  have e2 : cmpi .eq (iota .tc S384x128 32 [1] iota_S384x128_d1_w32) (broadcast S384x128 (BitVec.ofNat 32 n)) (ix2 r l) = if l.val = n then 1#1 else 0#1 := by
    have hl := l.isLt
    show BitVec.ofBool (BitVec.ofNat 32 (0 * 128 + l.val) == BitVec.ofNat 32 n) = _
    have : (BitVec.ofNat 32 (0 * 128 + l.val) == BitVec.ofNat 32 n) = decide (l.val = n) := by
      rw [Nat.zero_mul, Nat.zero_add]
      by_cases c : l.val = n
      · rw [c]; simp
      · have : BitVec.ofNat 32 l.val ≠ BitVec.ofNat 32 n := fun e => c (by
          have := congrArg BitVec.toNat e
          rw [BitVec.toNat_ofNat, BitVec.toNat_ofNat, Nat.mod_eq_of_lt (by omega), Nat.mod_eq_of_lt (by omega)] at this
          exact this)
        rw [beq_eq_false_iff_ne.mpr this, decide_eq_false c]
    rw [this]
    by_cases c : l.val = n
    · rw [decide_eq_true c, if_pos c]; rfl
    · rw [decide_eq_false c, if_neg c]; rfl
  unfold putLane
  refine (show select _ _ acc (ix2 r l) = if (cmpi .eq (iota .tc S384x128 32 [1] iota_S384x128_d1_w32) (broadcast S384x128 (BitVec.ofNat 32 n)) (ix2 r l)) = 1#1 then
    broadcastTo S384x128 (shapeCast S384x1 (hScl X) shapeCasts_S384x1_S384x1) broadcasts_S384x1_S384x128 (ix2 r l) else acc (ix2 r l) from rfl).trans ?_
  rw [e1, e2]
  by_cases c : l.val = n
  · rw [if_pos c, if_pos c, if_pos rfl]
  · rw [if_neg c, if_neg c, if_neg (by decide)]

/-- The scales of the heads, one lane per head. -/
theorem lanes16_eq (r : Fin 384) (l : Fin 128) (hl : l.val < 16) : lanes16 T (ix2 r l) = hsc f (R + r) l := by
  unfold lanes16
  refine (putLane_eq 15 (by decide) (T 15) 15 (hT 15) _ r l).trans ?_
  by_cases c15 : l.val = 15
  · rw [if_pos c15, c15]
  rw [if_neg c15]
  refine (putLane_eq 14 (by decide) (T 14) 14 (hT 14) _ r l).trans ?_
  by_cases c14 : l.val = 14
  · rw [if_pos c14, c14]
  rw [if_neg c14]
  refine (putLane_eq 13 (by decide) (T 13) 13 (hT 13) _ r l).trans ?_
  by_cases c13 : l.val = 13
  · rw [if_pos c13, c13]
  rw [if_neg c13]
  refine (putLane_eq 12 (by decide) (T 12) 12 (hT 12) _ r l).trans ?_
  by_cases c12 : l.val = 12
  · rw [if_pos c12, c12]
  rw [if_neg c12]
  refine (putLane_eq 11 (by decide) (T 11) 11 (hT 11) _ r l).trans ?_
  by_cases c11 : l.val = 11
  · rw [if_pos c11, c11]
  rw [if_neg c11]
  refine (putLane_eq 10 (by decide) (T 10) 10 (hT 10) _ r l).trans ?_
  by_cases c10 : l.val = 10
  · rw [if_pos c10, c10]
  rw [if_neg c10]
  refine (putLane_eq 9 (by decide) (T 9) 9 (hT 9) _ r l).trans ?_
  by_cases c9 : l.val = 9
  · rw [if_pos c9, c9]
  rw [if_neg c9]
  refine (putLane_eq 8 (by decide) (T 8) 8 (hT 8) _ r l).trans ?_
  by_cases c8 : l.val = 8
  · rw [if_pos c8, c8]
  rw [if_neg c8]
  refine (putLane_eq 7 (by decide) (T 7) 7 (hT 7) _ r l).trans ?_
  by_cases c7 : l.val = 7
  · rw [if_pos c7, c7]
  rw [if_neg c7]
  refine (putLane_eq 6 (by decide) (T 6) 6 (hT 6) _ r l).trans ?_
  by_cases c6 : l.val = 6
  · rw [if_pos c6, c6]
  rw [if_neg c6]
  refine (putLane_eq 5 (by decide) (T 5) 5 (hT 5) _ r l).trans ?_
  by_cases c5 : l.val = 5
  · rw [if_pos c5, c5]
  rw [if_neg c5]
  refine (putLane_eq 4 (by decide) (T 4) 4 (hT 4) _ r l).trans ?_
  by_cases c4 : l.val = 4
  · rw [if_pos c4, c4]
  rw [if_neg c4]
  refine (putLane_eq 3 (by decide) (T 3) 3 (hT 3) _ r l).trans ?_
  by_cases c3 : l.val = 3
  · rw [if_pos c3, c3]
  rw [if_neg c3]
  refine (putLane_eq 2 (by decide) (T 2) 2 (hT 2) _ r l).trans ?_
  by_cases c2 : l.val = 2
  · rw [if_pos c2, c2]
  rw [if_neg c2]
  refine (putLane_eq 1 (by decide) (T 1) 1 (hT 1) _ r l).trans ?_
  by_cases c1 : l.val = 1
  · rw [if_pos c1, c1]
  rw [if_neg c1]
  refine (putLane_eq 0 (by decide) (T 0) 0 (hT 0) _ r l).trans ?_
  by_cases c0 : l.val = 0
  · rw [if_pos c0, c0]
  rw [if_neg c0]
  exfalso; omega

/-- The scales of the heads, by sequence. -/
theorem scales16_eq (old : Vec Ideal S2x16x192 .f32) (b : Fin 2) (h : Fin 16) (s : Fin 192) :
    scales16 T old (ix3 b h s) = hsc f (R + 192 * b + s) h := by
  have row : ∀ (o : ℕ) (ho : o + 192 ≤ 384) (hs hp hs' hc) (b : Fin 1) (h : Fin 16) (s : Fin 192),
      shapeCast S1x16x192 (extractStridedSlice S16x192 ![0, 0] (transpose S128x192 [1, 0]
        (extractStridedSlice S192x128 ![o, 0] (lanes16 T) hs) hp) hs') hc (ix3 b h s) = hsc f (R + (o + s)) h := fun o ho hs hp hs' hc b h s => by
    refine (cast23 _ _ b h s).trans ?_
    refine (sliceRows 0 _ _ h s (by omega)).trans ?_
    refine (transposed _ _ _ s).trans ?_
    refine (sliceRows o _ _ s _ (by omega)).trans ?_
    refine (lanes16_eq T hT _ _ (by show 0 + h.val < 16; omega)).trans ?_
    show hsc f (R + (o + s.val)) (0 + h.val) = _
    rw [Nat.zero_add]
  have hb := b.isLt
  have hh := h.isLt
  have hs := s.isLt
  unfold scales16
  refine (put3 _ 1 0 0 _ (fun b h s => hsc f (R + 192 * b + s) h) (fun b h s => ?_) b h s).trans ?_
  · have hb : b.val = 0 := by omega
    refine (row 192 (by decide) _ _ _ _ b h s).trans ?_
    show hsc f (R + (192 + s.val)) h.val = hsc f (R + 192 * (1 + b.val) + (0 + s.val)) (0 + h.val)
    congr 1 <;> omega
  refine Eq.trans (congrArg (ite _ _) (put3 old 0 0 0 _ (fun b h s => hsc f (R + 192 * b + s) h) (fun b h s => ?_) b h s)) ?_
  · have hb : b.val = 0 := by omega
    refine (row 0 (by decide) _ _ _ _ b h s).trans ?_
    show hsc f (R + (0 + s.val)) h.val = hsc f (R + 192 * (0 + b.val) + (0 + s.val)) (0 + h.val)
    congr 1 <;> omega
  split_ifs <;> first | (exfalso; omega) | rfl

end

end Cert.Qkv.Hand

end
-- ==== Proof.QkvInv.lean ====
/-
  What the projection keeps in its scratch buffers from point to point, and what each point leaves in its results.
-/
module

public import proofs.«01_k».proof.Proof.QkvHeads
public import proofs.«01_k».proof.Proof.QkvQuant

@[expose] public section

set_option maxRecDepth 65536

noncomputable section

namespace Cert.Qkv.Hand

open Cert.Qkv Cert.Qkv.Gen Cert.QkvSpec Cert.Cells
open Cert.MlpSpec (lit aabs scaleOf quantOf num ext2 ext2_of ext2_fin)
open Cert.OprojSpec (rootOf root_apply norm_apply amax_apply code_apply extf_form asColumn)
open Idealize.ShloMosaic Idealize.ShloMosaic.ValueIdx
open Finset

variable {a : Arr}

/-- Before point `n` the halves of the scratch buffers that the point reads hold the codes and scales of block row `n - 1`. -/
def Inv (a : Arr) (n : ℕ) (xb : Vec Ideal S2x384x2048 .bf16) (xs : Vec Ideal S2x384x128 .f32) : Prop :=
  0 < n → n ≤ 12 → (∀ (b : Fin 2) (r : Fin 384) (d : Fin 2048), b.val = (n + 1) % 2 → xb (ix3 b r d) = q a (384 * (n - 1) + r) d)
    ∧ (∀ (b : Fin 2) (r : Fin 384) (l : Fin 128), b.val = (n + 1) % 2 → xs (ix3 b r l) = sc a (384 * (n - 1) + r))

/-- Point `n` of the grid: the halves it writes and reads and which conditionals it takes. -/
structure At (g : grid0.Coords) (n : ℕ) : Prop where
  le : n ≤ 12
  cur : cur g = n % 2
  prev : prev g = (n + 1) % 2
  c1 : k0_cond1 g = 1#1 ↔ n = 0
  c2 : k0_cond2 g = 1#1 ↔ 0 < n

theorem at_coords : ∀ t : Fin grid0.N, At (grid0.coords t) t.val := by
  have H : ∀ t : Fin grid0.N, cur (grid0.coords t) = t.val % 2 ∧ prev (grid0.coords t) = (t.val + 1) % 2
      ∧ (k0_cond1 (grid0.coords t) = 1#1 ↔ t.val = 0) ∧ (k0_cond2 (grid0.coords t) = 1#1 ↔ 0 < t.val) := by decide +kernel
  intro t
  obtain ⟨a1, a2, a3, a4⟩ := H t
  have ht : t.val < 13 := t.isLt
  exact ⟨by omega, a1, a2, a3, a4⟩

variable {n : ℕ} {g : grid0.Coords} {x : Ins Ideal}

/-- The buffers after the rows are quantised satisfy the invariant at the next point. -/
theorem quant_keeps (hg : At g n) (hx : Good a n x) (xb : Vec Ideal S2x384x2048 .bf16) (xs : Vec Ideal S2x384x128 .f32) :
    Inv a (n + 1) (fin_xb g x xb) (fin_xs g x xs) := by
  intro _ h12
  have e : 384 * min n 11 = 384 * (n + 1 - 1) := by omega
  refine ⟨fun b r d hb => ?_, fun b r l hb => ?_⟩
  · rw [← e]
    exact fin_xb_eq hx g xb b (by rw [hg.cur]; omega) r d
  · rw [← e]
    exact fin_xs_eq hx g xs b (by rw [hg.cur]; omega) r l

/-- One point: the invariant at the next point, and the blocks of the results. -/
theorem step_keeps (hg : At g n) (hx : Good a n x) (s : St Ideal) (hI : Inv a n s.xb s.xs) :
    Inv a (n + 1) (step g x s).xb (step g x s).xs
    ∧ (∀ (r : Fin 384) (d : Fin 2048), (step g x s).x1c (ix2 r d) = Ideal.fptosi 8 (q a (384 * min n 11 + r) d))
    ∧ (∀ (b : Fin 2) (u : Fin 1) (r : Fin 192), (step g x s).x1s (ix3 b u r) = sc a (384 * min n 11 + 192 * b + r))
    ∧ (0 < n → ∀ (b : Fin 2) (r : Fin 192) (h : Fin 16) (e : Fin 128), (step g x s).kc (ix4 b r h e) = hq (key a) (384 * (n - 1) + 192 * b + r) h e)
    ∧ (0 < n → ∀ (b : Fin 2) (h : Fin 16) (r : Fin 192), (step g x s).ks (ix3 b h r) = hsc (key a) (384 * (n - 1) + 192 * b + r) h)
    ∧ (0 < n → ∀ (b : Fin 2) (r : Fin 192) (h : Fin 16) (e : Fin 128), (step g x s).vc (ix4 b r h e) = hq (QkvSpec.val a) (384 * (n - 1) + 192 * b + r) h e)
    ∧ (0 < n → ∀ (b : Fin 2) (h : Fin 16) (r : Fin 192), (step g x s).vs (ix3 b h r) = hsc (QkvSpec.val a) (384 * (n - 1) + 192 * b + r) h) := by
  have hn := hg.le
  have hrow : ∀ (b : Fin 2) (u : Fin 1) (r : Fin 192), fin_x1s g (fin_xs g x s.xs) s.x1s (ix3 b u r) = sc a (384 * min n 11 + 192 * b + r) := fun b u r =>
    fin_x1s_eq g _ _ (384 * min n 11) (fun b r l hb => fin_xs_eq hx g _ b hb r l) b u r
  by_cases h0 : n = 0
  · have e : step g x s = rowOf g (quant g x s) := by
      unfold step step5 step4 step3 step2 step1
      have n2 : ¬ k0_cond2 g = 1#1 := fun k => absurd (hg.c2.1 k) (by omega)
      rw [if_neg n2, if_neg n2, if_neg n2, if_pos (hg.c1.2 h0), if_pos (hg.c1.2 h0)]
    rw [e]
    exact ⟨quant_keeps hg hx _ _, fun r d => fin_x1c_eq hx g _ r d, hrow, fun k => absurd k (by omega), fun k => absurd k (by omega), fun k => absurd k (by omega), fun k => absurd k (by omega)⟩
  · have hp : 0 < n := by omega
    have hh : Half a (384 * (n - 1)) g (fin_xb g x s.xb) (fin_xs g x s.xs) := by
      have hc := hg.cur
      have hpv := hg.prev
      refine ⟨fun b r d hb => ?_, fun b r l hb => ?_⟩
      · exact (fin_xb_other g _ b (by omega) r d).trans ((hI hp hn).1 b r d (by omega))
      · exact (fin_xs_other g _ b (by omega) r l).trans ((hI hp hn).2 b r l (by omega))
    have e : step g x s = vals g x (keys g x (rowOf g (quant g x s))) := by
      unfold step step5 step4 step3 step2 step1
      have p2 := hg.c2.2 hp
      rw [if_pos p2, if_pos p2, if_pos p2, if_neg (fun k => h0 (hg.c1.1 k)), if_neg (fun k => h0 (hg.c1.1 k))]
    rw [e]
    exact ⟨quant_keeps hg hx _ _, fun r d => fin_x1c_eq hx g _ r d, hrow,
      fun _ b r h e => codes16_eq (f := key a) _ (kRoped_eq hx hh) _ b r h e, fun _ b h r => scales16_eq (f := key a) _ (kRoped_eq hx hh) _ b h r,
      fun _ b r h e => codes16_eq (f := QkvSpec.val a) _ (vHeads_eq hx hh) _ b r h e, fun _ b h r => scales16_eq (f := QkvSpec.val a) _ (vHeads_eq hx hh) _ b h r⟩

end Cert.Qkv.Hand

end
-- ==== Proof.QkvIn.lean ====
/-
  What the projection's input windows hold at each point of the grid.
-/
module

public import proofs.«01_k».proof.Proof.QkvRun
public import proofs.«01_k».proof.Proof.QkvInv
public import Idealize.ShloMosaic.Lib.Pipeline.ValueKit.Basic
public import Idealize.ShloMosaic.Lib.Pipeline.ValueKit.Geometry
public import Idealize.ShloMosaic.Lib.Pipeline.ValueKit.Point

@[expose] public section

set_option maxRecDepth 65536

noncomputable section

namespace Cert.Qkv.Hand

open Cert.Qkv Cert.Qkv.Gen Cert.QkvSpec
open Cert.MlpSpec (num ext2 ext2_of ext2_fin)
open Idealize.ShloMosaic Idealize.ShloMosaic.TcCoe

variable (m : (ℓ : Loc nD τ sig) → Buf (Elt Ideal) ℓ) (c : Dev nD)

/-- The launched arguments. -/
def arr : Arr := arrOf (m (c, main_arg0)) (m (c, main_arg1)) (m (c, main_arg2)) (m (c, main_arg3)) (m (c, main_arg4)) (m (c, main_arg5))

theorem N13 (t : Fin cfg0.N) : t.val < 13 := t.isLt

theorem idx0 : ∀ t : Fin grid0.N, win0_0.index t 0 = min t.val 11 ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = t.val - 1 ∧ win0_4.index t 1 = 0 ∧ win0_4.index t 2 = 0 := by decide +kernel
theorem idx5 : ∀ t : Fin grid0.N, win0_5.index t 0 = t.val - 1 ∧ win0_5.index t 1 = 0 ∧ win0_5.index t 2 = 0 := by decide +kernel

theorem read0 (t : Fin cfg0.N) (r : Fin 384) (k : Fin 2048) :
    iblk m c 0 t (ValueIdx.ix2 r k) = m (c, main_arg0) (ValueIdx.ix2 ⟨384 * min t.val 11 + r.val, by omega⟩ k) := by
  have e := idx0 t
  blk_ext [iblk, V]
  · show win0_0.index t 0 * 384 + r.val = 384 * min t.val 11 + r.val; rw [e.1]; omega
  · show win0_0.index t 1 * 2048 + k.val = k.val; rw [e.2]; omega

theorem read1 (t : Fin cfg0.N) (d : Fin 2048) : iblk m c 1 t (ValueIdx.ix2 0 d) = m (c, main_arg1) (ValueIdx.ix1 d) := by
  have e := idx1 t
  have e' : ((cfg0.win 1).blk t).view.emb (ValueIdx.ix2 0 d) = ValueIdx.ix2 0 d := by
    blk_ext
    all_goals first
      | (show win0_1.index t 0 * 1 + 0 = 0; rw [e.1])
      | (show win0_1.index t 1 * 2048 + d.val = d.val; rw [e.2]; omega)
  show V m c main_v0 (((cfg0.win 1).blk t).view.emb (ValueIdx.ix2 0 d)) = _
  rw [e']
  entry_read
  exact shapeCast_apply _ _ (ValueIdx.ix2 0 d) (ValueIdx.ix1 d) (by
    rw [Shape.rowMajor_val_two, Shape.rowMajor_val_one]; show d.val = 0 * 2048 + d.val; omega)

theorem read2 (t : Fin cfg0.N) (k : Fin 2048) (d : Fin 6144) :
    iblk m c 2 t (ValueIdx.ix2 k d) = m (c, main_arg2) (ValueIdx.ix4 k ⟨d.val / 2048, by omega⟩ ⟨d.val % 2048 / 128, by omega⟩ ⟨d.val % 128, by omega⟩) := by
  have e := idx2 t
  have e' : ((cfg0.win 2).blk t).view.emb (ValueIdx.ix2 k d) = ValueIdx.ix2 k d := by
    blk_ext
  show V m c main_v1 (((cfg0.win 2).blk t).view.emb (ValueIdx.ix2 k d)) = _
  rw [e']
  entry_read
  exact shapeCast_apply _ _ (ValueIdx.ix2 k d) (ValueIdx.ix4 k ⟨d.val / 2048, by omega⟩ ⟨d.val % 2048 / 128, by omega⟩ ⟨d.val % 128, by omega⟩) (by
    rw [Shape.rowMajor_val_two, Shape.rowMajor_val_four]
    show ((k.val * 3 + d.val / 2048) * 16 + d.val % 2048 / 128) * 128 + d.val % 128 = k.val * 6144 + d.val; omega)

theorem read3 (t : Fin cfg0.N) (d : Fin 6144) :
    iblk m c 3 t (ValueIdx.ix2 0 d) = m (c, main_arg3) (ValueIdx.ix3 ⟨d.val / 2048, by omega⟩ ⟨d.val % 2048 / 128, by omega⟩ ⟨d.val % 128, by omega⟩) := by
  have e := idx3 t
  have e' : ((cfg0.win 3).blk t).view.emb (ValueIdx.ix2 0 d) = ValueIdx.ix2 0 d := by
    blk_ext
    all_goals first
      | (show win0_3.index t 0 * 1 + 0 = 0; rw [e.1])
      | (show win0_3.index t 1 * 6144 + d.val = d.val; rw [e.2]; omega)
  show V m c main_v2 (((cfg0.win 3).blk t).view.emb (ValueIdx.ix2 0 d)) = _
  rw [e']
  entry_read
  exact shapeCast_apply _ _ (ValueIdx.ix2 0 d) (ValueIdx.ix3 ⟨d.val / 2048, by omega⟩ ⟨d.val % 2048 / 128, by omega⟩ ⟨d.val % 128, by omega⟩) (by
    rw [Shape.rowMajor_val_two, Shape.rowMajor_val_three]
    show (d.val / 2048 * 16 + d.val % 2048 / 128) * 128 + d.val % 128 = 0 * 6144 + d.val; omega)

theorem read4 (t : Fin cfg0.N) (b : Fin 2) (e : Fin 64) (s : Fin 192) :
    iblk m c 4 t (ValueIdx.ix3 b e s) = m (c, main_arg4) (ValueIdx.ix3 ⟨2 * (t.val - 1) + b.val, by have := N13 t; omega⟩ s e) := by
  have e1 := idx4 t
  have ht := N13 t
  have e' : ((cfg0.win 4).blk t).view.emb (ValueIdx.ix3 b e s) = ValueIdx.ix3 ⟨2 * (t.val - 1) + b.val, by omega⟩ e s := by
    blk_ext
    · show win0_4.index t 0 * 2 + b.val = 2 * (t.val - 1) + b.val; rw [e1.1]; omega
    · show win0_4.index t 1 * 64 + e.val = e.val; rw [e1.2.1]; omega
    · show win0_4.index t 2 * 192 + s.val = s.val; rw [e1.2.2]; omega
  show V m c main_v3 (((cfg0.win 4).blk t).view.emb (ValueIdx.ix3 b e s)) = _
  rw [e']
  entry_read
  exact transpose_apply _ _ _ (ValueIdx.ix3 ⟨2 * (t.val - 1) + b.val, by omega⟩ e s) (ValueIdx.ix3 ⟨2 * (t.val - 1) + b.val, by omega⟩ s e) (fun a => by fin_cases a <;> rfl)

theorem table4 (t : Fin cfg0.N) (b : Fin 2) (e : Fin 64) (s : Fin 192) :
    iblk m c 4 t (ValueIdx.ix3 b e s) = ext2 (P := 4608) (Q := 64) (fun r e => m (c, main_arg4) (ValueIdx.ix3 ⟨r.val / 192, by omega⟩ ⟨r.val % 192, by omega⟩ e)) (384 * (t.val - 1) + 192 * b + s) e := by
  have ht := N13 t
  refine (read4 m c t b e s).trans (Eq.trans ?_ (ext2_of (P := 4608) (Q := 64) _ (by omega) e.isLt).symm)
  refine congrArg (m (c, main_arg4)) ?_
  funext a; apply Fin.ext
  fin_cases a
  · show 2 * (t.val - 1) + b.val = (384 * (t.val - 1) + 192 * b.val + s.val) / 192; omega
  · show s.val = (384 * (t.val - 1) + 192 * b.val + s.val) % 192; omega
  · rfl

theorem read5 (t : Fin cfg0.N) (b : Fin 2) (e : Fin 64) (s : Fin 192) :
    iblk m c 5 t (ValueIdx.ix3 b e s) = m (c, main_arg5) (ValueIdx.ix3 ⟨2 * (t.val - 1) + b.val, by have := N13 t; omega⟩ s e) := by
  have e1 := idx5 t
  have ht := N13 t
  have e' : ((cfg0.win 5).blk t).view.emb (ValueIdx.ix3 b e s) = ValueIdx.ix3 ⟨2 * (t.val - 1) + b.val, by omega⟩ e s := by
    blk_ext
    · show win0_5.index t 0 * 2 + b.val = 2 * (t.val - 1) + b.val; rw [e1.1]; omega
    · show win0_5.index t 1 * 64 + e.val = e.val; rw [e1.2.1]; omega
    · show win0_5.index t 2 * 192 + s.val = s.val; rw [e1.2.2]; omega
  show V m c main_v4 (((cfg0.win 5).blk t).view.emb (ValueIdx.ix3 b e s)) = _
  rw [e']
  entry_read
  exact transpose_apply _ _ _ (ValueIdx.ix3 ⟨2 * (t.val - 1) + b.val, by omega⟩ e s) (ValueIdx.ix3 ⟨2 * (t.val - 1) + b.val, by omega⟩ s e) (fun a => by fin_cases a <;> rfl)

theorem table5 (t : Fin cfg0.N) (b : Fin 2) (e : Fin 64) (s : Fin 192) :
    iblk m c 5 t (ValueIdx.ix3 b e s) = ext2 (P := 4608) (Q := 64) (fun r e => m (c, main_arg5) (ValueIdx.ix3 ⟨r.val / 192, by omega⟩ ⟨r.val % 192, by omega⟩ e)) (384 * (t.val - 1) + 192 * b + s) e := by
  have ht := N13 t
  refine (read5 m c t b e s).trans (Eq.trans ?_ (ext2_of (P := 4608) (Q := 64) _ (by omega) e.isLt).symm)
  refine congrArg (m (c, main_arg5)) ?_
  funext a; apply Fin.ext
  fin_cases a
  · show 2 * (t.val - 1) + b.val = (384 * (t.val - 1) + 192 * b.val + s.val) / 192; omega
  · show s.val = (384 * (t.val - 1) + 192 * b.val + s.val) % 192; omega
  · rfl

/-- At every point the input windows hold the arguments' blocks. -/
theorem good (t : Fin cfg0.N) : Good (arr m c) t.val (ins m c t) where
  rows r d := (read0 m c t r d).trans (ext2_of (P := 4608) (Q := 2048) (fun r d => m (c, main_arg0) (ValueIdx.ix2 r d)) (by omega) d.isLt).symm
  g d := (read1 m c t d).trans (ext2_of (P := 2048) (Q := 1) (fun d _ => m (c, main_arg1) (ValueIdx.ix1 d)) d.isLt (by decide)).symm
  w k d := by
    refine (congrArg num (read2 m c t k d)).trans ?_
    exact (ext2_of (P := 2048) (Q := 6144) (fun k c' => num (m (c, main_arg2) (ValueIdx.ix4 k ⟨c'.val / 2048, by omega⟩ ⟨c'.val % 2048 / 128, by omega⟩ ⟨c'.val % 128, by omega⟩))) k.isLt d.isLt).symm
  ws d := (read3 m c t d).trans (ext2_of (P := 6144) (Q := 1) (fun c' _ => m (c, main_arg3) (ValueIdx.ix3 ⟨c'.val / 2048, by omega⟩ ⟨c'.val % 2048 / 128, by omega⟩ ⟨c'.val % 128, by omega⟩)) d.isLt (by decide)).symm
  co b e s := table4 m c t b e s
  si b e s := table5 m c t b e s

end Cert.Qkv.Hand
end
-- ==== Proof.QkvOut.lean ====
/-
  The projection's result arrays are the reference's functions of its arguments.
-/
module

public import proofs.«01_k».proof.Proof.QkvIn
public import Idealize.ShloMosaic.Lib.Pipeline.ArrRel

@[expose] public section

set_option maxRecDepth 65536

noncomputable section

namespace Cert.Qkv.Hand

open Cert.Qkv Cert.Qkv.Gen Cert.QkvSpec
open Idealize.ShloMosaic Idealize.ShloMosaic.TcCoe
open Idealize.SL Idealize.SL.RA Idealize.SL.Sem
open Idealize.ShloMosaic.Pipeline (RDat Dat)

attribute [local irreducible] QkvSpec.sc QkvSpec.q QkvSpec.hq QkvSpec.hsc QkvSpec.key QkvSpec.val

variable (m : (ℓ : Loc nD τ sig) → Buf (Elt Ideal) ℓ) (ρ : Dev nD → PrngReg)

/-- The codes and scales of the heads in a block of two sequences. -/
def CodesAre (f : ℕ → ℕ → ℕ → EReal) (t : ℕ) (X : Vec Ideal S2x192x16x128 .i8) : Prop :=
  0 < t → ∀ (b : Fin 2) (r : Fin 192) (h : Fin 16) (e : Fin 128), X (ValueIdx.ix4 b r h e) = hq f (384 * (t - 1) + 192 * b + r) h e
def ScalesAre (f : ℕ → ℕ → ℕ → EReal) (t : ℕ) (X : Vec Ideal S2x16x192 .f32) : Prop :=
  0 < t → ∀ (b : Fin 2) (h : Fin 16) (r : Fin 192), X (ValueIdx.ix3 b h r) = hsc f (384 * (t - 1) + 192 * b + r) h

/-- What is kept of the scratch buffers, and what each point leaves in the result blocks: the codes and scales of its own
    rows, the keys and values of the block before it. -/
def sch : Sch Ideal where
  inv c t xb xs := Inv (arr m c) t.val xb xs
  r6 c t _ X := ∀ (r : Fin 384) (d : Fin 2048), X (ValueIdx.ix2 r d) = Ideal.fptosi 8 (q (arr m c) (384 * min t.val 11 + r) d)
  r7 c t _ X := ∀ (b : Fin 2) (u : Fin 1) (r : Fin 192), X (ValueIdx.ix3 b u r) = sc (arr m c) (384 * min t.val 11 + 192 * b + r)
  r9 c t _ X := CodesAre (key (arr m c)) t.val X
  r10 c t _ X := ScalesAre (key (arr m c)) t.val X
  r11 c t _ X := CodesAre (QkvSpec.val (arr m c)) t.val X
  r12 c t _ X := ScalesAre (QkvSpec.val (arr m c)) t.val X

/-- Every point keeps it. -/
theorem keeps : (sch m).Keeps m := by
  intro c t s hI
  exact step_keeps (at_coords t) (good m c t) s hI

theorem start (c : Dev nD) (xb xs) : (sch m).inv c 0 xb xs := fun k => absurd k (Nat.lt_irrefl _)

theorem idx6 : ∀ t : Fin grid0.N, win0_6.index t 0 = min t.val 11 ∧ win0_6.index t 1 = 0 := by decide +kernel
theorem idx7 : ∀ t : Fin grid0.N, win0_7.index t 0 = min t.val 11 ∧ win0_7.index t 1 = 0 ∧ win0_7.index t 2 = 0 := by decide +kernel
theorem idx9 : ∀ t : Fin grid0.N, win0_9.index t 0 = t.val - 1 ∧ win0_9.index t 1 = 0 ∧ win0_9.index t 2 = 0 ∧ win0_9.index t 3 = 0 ∧ (win0_9.flush t = true → 0 < t.val) := by decide +kernel
theorem idx10 : ∀ t : Fin grid0.N, win0_10.index t 0 = t.val - 1 ∧ win0_10.index t 1 = 0 ∧ win0_10.index t 2 = 0 ∧ (win0_10.flush t = true → 0 < t.val) := by decide +kernel
theorem idx11 : ∀ t : Fin grid0.N, win0_11.index t 0 = t.val - 1 ∧ win0_11.index t 1 = 0 ∧ win0_11.index t 2 = 0 ∧ win0_11.index t 3 = 0 ∧ (win0_11.flush t = true → 0 < t.val) := by decide +kernel
theorem idx12 : ∀ t : Fin grid0.N, win0_12.index t 0 = t.val - 1 ∧ win0_12.index t 1 = 0 ∧ win0_12.index t 2 = 0 ∧ (win0_12.flush t = true → 0 < t.val) := by decide +kernel

section
variable {m}
variable {r : PUnit × MemSt nD τ sig (Elt Ideal)} (hR : RDat.FramePost (cfgs 0) (rd m (sch m)) (V m) r) (c : Dev nD)
include hR

/-- The codes of the rows. -/
theorem final_xc : r.2.mem ((c.tc : Thread nD τ).loc main_v5_0) = resXc (arr m c) := by
  obtain ⟨after, hL, hA⟩ := hR.exists_exact c
  refine (hA 6).trans ?_
  refine Dat.arrAt_eq_of_covers (cfg := cfg0) ((rd m (sch m) c).withAfter after) 6 (resXc (arr m c)) (by decide +kernel) fun t hf e => ?_
  obtain ⟨Y, _, hY⟩ := hL 6 t hf
  have i := idx6 t
  have ht := N13 t
  have hY' := hY
  have k : ∀ (r : Fin 384) (d : Fin 2048), (ValueIdx.ix2 r d : S384x2048.Idx) = e →
      ((win0_6.blk t).view.emb e : S4608x2048.Idx) = ValueIdx.ix2 ⟨384 * min t.val 11 + r.val, by omega⟩ d := by
    rintro r d rfl
    blk_ext
    · show win0_6.index t 0 * 384 + r.val = 384 * min t.val 11 + r.val; rw [i.1]; omega
    · show win0_6.index t 1 * 2048 + d.val = d.val; rw [i.2]; omega
  obtain ⟨r, d, hrd⟩ : ∃ (r : Fin 384) (d : Fin 2048), (ValueIdx.ix2 r d : S384x2048.Idx) = e := ⟨e 0, e 1, by funext a; fin_cases a <;> rfl⟩
  have k' := k r d hrd
  blk_simp
  refine Eq.trans ?_ ((hY' r d).trans (Eq.trans ?_ (congrArg (resXc (arr m c)) k').symm))
  · rw [hrd]; rfl
  · rfl

/-- Their scales. -/
theorem final_xs : r.2.mem ((c.tc : Thread nD τ).loc main_v5_1) = resXs (arr m c) := by
  obtain ⟨after, hL, hA⟩ := hR.exists_exact c
  refine (hA 7).trans ?_
  refine Dat.arrAt_eq_of_covers (cfg := cfg0) ((rd m (sch m) c).withAfter after) 7 (resXs (arr m c)) (by decide +kernel) fun t hf e => ?_
  obtain ⟨Y, _, hY⟩ := hL 7 t hf
  have i := idx7 t
  have ht := N13 t
  have hY' := hY
  have k : ∀ (b : Fin 2) (u : Fin 1) (s : Fin 192), (ValueIdx.ix3 b u s : S2x1x192.Idx) = e →
      ((win0_7.blk t).view.emb e : S24x1x192.Idx) = ValueIdx.ix3 ⟨2 * min t.val 11 + b.val, by omega⟩ u s := by
    rintro b u s rfl
    blk_ext
    · show win0_7.index t 0 * 2 + b.val = 2 * min t.val 11 + b.val; rw [i.1]; omega
    · show win0_7.index t 2 * 192 + s.val = s.val; rw [i.2.2]; omega
  obtain ⟨b, u, s, hrd⟩ : ∃ (b : Fin 2) (u : Fin 1) (s : Fin 192), (ValueIdx.ix3 b u s : S2x1x192.Idx) = e := ⟨e 0, e 1, e 2, by funext a; fin_cases a <;> rfl⟩
  have k' := k b u s hrd
  blk_simp
  refine Eq.trans ?_ ((hY' b u s).trans (Eq.trans ?_ (congrArg (resXs (arr m c)) k').symm))
  · rw [hrd]; rfl
  · show sc (arr m c) (384 * min t.val 11 + 192 * b.val + s.val) = sc (arr m c) (192 * (2 * min t.val 11 + b.val) + s.val); congr 1; omega

/-- The codes of the keys. -/
theorem final_kc : r.2.mem ((c.tc : Thread nD τ).loc main_v5_3) = resC (key (arr m c)) := by
  obtain ⟨after, hL, hA⟩ := hR.exists_exact c
  refine (hA 9).trans ?_
  refine Dat.arrAt_eq_of_covers (cfg := cfg0) ((rd m (sch m) c).withAfter after) 9 (resC (key (arr m c))) (by decide +kernel) fun t hf e => ?_
  obtain ⟨Y, _, hY⟩ := hL 9 t hf
  have i := idx9 t
  have ht := N13 t
  have hY' := hY (i.2.2.2.2 hf)
  have k : ∀ (b : Fin 2) (s : Fin 192) (h : Fin 16) (d : Fin 128), (ValueIdx.ix4 b s h d : S2x192x16x128.Idx) = e →
      ((win0_9.blk t).view.emb e : S24x192x16x128.Idx) = ValueIdx.ix4 ⟨2 * (t.val - 1) + b.val, by omega⟩ s h d := by
    rintro b s h d rfl
    blk_ext
    · show win0_9.index t 0 * 2 + b.val = 2 * (t.val - 1) + b.val; rw [i.1]; omega
    · show win0_9.index t 1 * 192 + s.val = s.val; rw [i.2.1]; omega
    · show win0_9.index t 2 * 16 + h.val = h.val; rw [i.2.2.1]; omega
    · show win0_9.index t 3 * 128 + d.val = d.val; rw [i.2.2.2.1]; omega
  obtain ⟨b, s, h, d, hrd⟩ : ∃ (b : Fin 2) (s : Fin 192) (h : Fin 16) (d : Fin 128), (ValueIdx.ix4 b s h d : S2x192x16x128.Idx) = e := ⟨e 0, e 1, e 2, e 3, by funext a; fin_cases a <;> rfl⟩
  have k' := k b s h d hrd
  blk_simp
  refine Eq.trans ?_ ((hY' b s h d).trans (Eq.trans ?_ (congrArg (resC (key (arr m c))) k').symm))
  · rw [hrd]; rfl
  · show hq (key (arr m c)) (384 * (t.val - 1) + 192 * b.val + s.val) h.val d.val = hq (key (arr m c)) (192 * (2 * (t.val - 1) + b.val) + s.val) h.val d.val; congr 1; omega

/-- The codes of the values. -/
theorem final_vc : r.2.mem ((c.tc : Thread nD τ).loc main_v5_5) = resC (QkvSpec.val (arr m c)) := by
  obtain ⟨after, hL, hA⟩ := hR.exists_exact c
  refine (hA 11).trans ?_
  refine Dat.arrAt_eq_of_covers (cfg := cfg0) ((rd m (sch m) c).withAfter after) 11 (resC (QkvSpec.val (arr m c))) (by decide +kernel) fun t hf e => ?_
  obtain ⟨Y, _, hY⟩ := hL 11 t hf
  have i := idx11 t
  have ht := N13 t
  have hY' := hY (i.2.2.2.2 hf)
  have k : ∀ (b : Fin 2) (s : Fin 192) (h : Fin 16) (d : Fin 128), (ValueIdx.ix4 b s h d : S2x192x16x128.Idx) = e →
      ((win0_11.blk t).view.emb e : S24x192x16x128.Idx) = ValueIdx.ix4 ⟨2 * (t.val - 1) + b.val, by omega⟩ s h d := by
    rintro b s h d rfl
    blk_ext
    · show win0_11.index t 0 * 2 + b.val = 2 * (t.val - 1) + b.val; rw [i.1]; omega
    · show win0_11.index t 1 * 192 + s.val = s.val; rw [i.2.1]; omega
    · show win0_11.index t 2 * 16 + h.val = h.val; rw [i.2.2.1]; omega
    · show win0_11.index t 3 * 128 + d.val = d.val; rw [i.2.2.2.1]; omega
  obtain ⟨b, s, h, d, hrd⟩ : ∃ (b : Fin 2) (s : Fin 192) (h : Fin 16) (d : Fin 128), (ValueIdx.ix4 b s h d : S2x192x16x128.Idx) = e := ⟨e 0, e 1, e 2, e 3, by funext a; fin_cases a <;> rfl⟩
  have k' := k b s h d hrd
  blk_simp
  refine Eq.trans ?_ ((hY' b s h d).trans (Eq.trans ?_ (congrArg (resC (QkvSpec.val (arr m c))) k').symm))
  · rw [hrd]; rfl
  · show hq (QkvSpec.val (arr m c)) (384 * (t.val - 1) + 192 * b.val + s.val) h.val d.val = hq (QkvSpec.val (arr m c)) (192 * (2 * (t.val - 1) + b.val) + s.val) h.val d.val; congr 1; omega

/-- The scales of the keys. -/
theorem final_ks : r.2.mem ((c.tc : Thread nD τ).loc main_v5_4) = resS (key (arr m c)) := by
  obtain ⟨after, hL, hA⟩ := hR.exists_exact c
  refine (hA 10).trans ?_
  refine Dat.arrAt_eq_of_covers (cfg := cfg0) ((rd m (sch m) c).withAfter after) 10 (resS (key (arr m c))) (by decide +kernel) fun t hf e => ?_
  obtain ⟨Y, _, hY⟩ := hL 10 t hf
  have i := idx10 t
  have ht := N13 t
  have hY' := hY (i.2.2.2 hf)
  have k : ∀ (b : Fin 2) (h : Fin 16) (s : Fin 192), (ValueIdx.ix3 b h s : S2x16x192.Idx) = e →
      ((win0_10.blk t).view.emb e : S24x16x192.Idx) = ValueIdx.ix3 ⟨2 * (t.val - 1) + b.val, by omega⟩ h s := by
    rintro b h s rfl
    blk_ext
    · show win0_10.index t 0 * 2 + b.val = 2 * (t.val - 1) + b.val; rw [i.1]; omega
    · show win0_10.index t 1 * 16 + h.val = h.val; rw [i.2.1]; omega
    · show win0_10.index t 2 * 192 + s.val = s.val; rw [i.2.2.1]; omega
  obtain ⟨b, h, s, hrd⟩ : ∃ (b : Fin 2) (h : Fin 16) (s : Fin 192), (ValueIdx.ix3 b h s : S2x16x192.Idx) = e := ⟨e 0, e 1, e 2, by funext a; fin_cases a <;> rfl⟩
  have k' := k b h s hrd
  blk_simp
  refine Eq.trans ?_ ((hY' b h s).trans (Eq.trans ?_ (congrArg (resS (key (arr m c))) k').symm))
  · rw [hrd]; rfl
  · show hsc (key (arr m c)) (384 * (t.val - 1) + 192 * b.val + s.val) h.val = hsc (key (arr m c)) (192 * (2 * (t.val - 1) + b.val) + s.val) h.val; congr 1; omega

/-- The scales of the values. -/
theorem final_vs : r.2.mem ((c.tc : Thread nD τ).loc main_v5_6) = resS (QkvSpec.val (arr m c)) := by
  obtain ⟨after, hL, hA⟩ := hR.exists_exact c
  refine (hA 12).trans ?_
  refine Dat.arrAt_eq_of_covers (cfg := cfg0) ((rd m (sch m) c).withAfter after) 12 (resS (QkvSpec.val (arr m c))) (by decide +kernel) fun t hf e => ?_
  obtain ⟨Y, _, hY⟩ := hL 12 t hf
  have i := idx12 t
  have ht := N13 t
  have hY' := hY (i.2.2.2 hf)
  have k : ∀ (b : Fin 2) (h : Fin 16) (s : Fin 192), (ValueIdx.ix3 b h s : S2x16x192.Idx) = e →
      ((win0_12.blk t).view.emb e : S24x16x192.Idx) = ValueIdx.ix3 ⟨2 * (t.val - 1) + b.val, by omega⟩ h s := by
    rintro b h s rfl
    blk_ext
    · show win0_12.index t 0 * 2 + b.val = 2 * (t.val - 1) + b.val; rw [i.1]; omega
    · show win0_12.index t 1 * 16 + h.val = h.val; rw [i.2.1]; omega
    · show win0_12.index t 2 * 192 + s.val = s.val; rw [i.2.2.1]; omega
  obtain ⟨b, h, s, hrd⟩ : ∃ (b : Fin 2) (h : Fin 16) (s : Fin 192), (ValueIdx.ix3 b h s : S2x16x192.Idx) = e := ⟨e 0, e 1, e 2, by funext a; fin_cases a <;> rfl⟩
  have k' := k b h s hrd
  blk_simp
  refine Eq.trans ?_ ((hY' b h s).trans (Eq.trans ?_ (congrArg (resS (QkvSpec.val (arr m c))) k').symm))
  · rw [hrd]; rfl
  · show hsc (QkvSpec.val (arr m c)) (384 * (t.val - 1) + 192 * b.val + s.val) h.val = hsc (QkvSpec.val (arr m c)) (192 * (2 * (t.val - 1) + b.val) + s.val) h.val; congr 1; omega

end

/-- The run: it terminates, leaves in the six results the reference's functions of the arguments, and the arguments as
    launched. -/
theorem value_run : θ_run defs (onTc (τ := τ) (main (F := Ideal))) (s₀ m ρ) (fun r => ∀ c : Dev nD,
    (r.2.mem ((c.tc : Thread nD τ).loc main_v5_0) = resXc (arr m c)
      ∧ r.2.mem ((c.tc : Thread nD τ).loc main_v5_1) = resXs (arr m c)
      ∧ r.2.mem ((c.tc : Thread nD τ).loc main_v5_3) = resC (key (arr m c))
      ∧ r.2.mem ((c.tc : Thread nD τ).loc main_v5_4) = resS (key (arr m c))
      ∧ r.2.mem ((c.tc : Thread nD τ).loc main_v5_5) = resC (QkvSpec.val (arr m c))
      ∧ r.2.mem ((c.tc : Thread nD τ).loc main_v5_6) = resS (QkvSpec.val (arr m c)))
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨⟨final_xc h.1 c, final_xs h.1 c, final_kc h.1 c, final_ks h.1 c, final_vc h.1 c, final_vs h.1 c⟩, args_kept m h.1 c⟩)
    (run_main m ρ (sch m) (keeps m) (start m))

end Cert.Qkv.Hand
end
-- ==== Proof.QkvSame.lean ====
/-
  The idealized projection is the same program as the projection itself.
-/
module

public import proofs.«01_k».proof.Proof.Gen.QkvIdeal.Frame
public import proofs.«01_k».proof.Proof.QkvOut

@[expose] public section

set_option maxRecDepth 65536

noncomputable section

namespace Cert.QkvIdeal.Hand

open Idealize.ShloMosaic Idealize.ShloMosaic.TcCoe Idealize.SL.Sem

variable {F : FTy → Type} [FloatOps F]

theorem body_eq : Cert.QkvIdeal.cc0_qkv (F := F) = Cert.Qkv.cc0_qkv (F := F) := rfl

theorem main_eq : Cert.QkvIdeal.main (F := F) = Cert.Qkv.main (F := F) := rfl

set_option maxHeartbeats 4000000 in
theorem defs₀_eq : Cert.QkvIdeal.defs₀ (F := F) = Cert.Qkv.defs₀ (F := F) := by
  unfold Cert.QkvIdeal.defs₀ Cert.Qkv.defs₀
  refine congrArg _ ?_
  funext l x
  match l, x with
  | 0, (t, s) =>
    show Cert.QkvIdeal.cc0_qkv (F := F) _ _ _ _ _ _ _ _ _ _ _ _ _ _ _ _ _ _ _ _ _ _ _ _ _ _ _ _ _ _ _ = _
    rw [body_eq]
    rfl

theorem defs_eq : Cert.QkvIdeal.defs (F := F) = Cert.Qkv.defs (F := F) := by
  unfold Cert.QkvIdeal.defs Cert.Qkv.defs
  exact congrArg (Pipeline.defs _) defs₀_eq

/-- The frame of the idealized program is the frame of the program. -/
theorem frame_run (m : (ℓ : Loc Cert.Qkv.nD Cert.Qkv.τ Cert.Qkv.sig) → Buf (Elt F) ℓ) (ρ : Dev Cert.Qkv.nD → PrngReg) :
    θ_run (Cert.QkvIdeal.defs (F := F)) (onTc (τ := Cert.QkvIdeal.τ) (Cert.QkvIdeal.main (F := F))) ⟨m, fun _ => 0, ρ⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0) := by
  rw [defs_eq, main_eq]
  exact Cert.Qkv.Hand.frame_run m ρ

end Cert.QkvIdeal.Hand

end
-- ==== Proof.QkvRefPay.lean ====
/-
  What the projection's reference computes, entry by entry.
-/
module

public import proofs.«01_k».proof.Proof.Gen.QkvRefIdeal.Skeleton
public import proofs.«01_k».proof.Proof.QkvRows

@[expose] public section

set_option maxRecDepth 65536

noncomputable section

namespace Cert.QkvRefIdeal.Hand

open Cert.QkvRefIdeal Cert.QkvRefIdeal.Gen Cert.QkvSpec Cert.Cells
open Cert.MlpSpec (lit aabs scaleOf quantOf num sitofp_quantOf)
open Cert.OprojSpec (rootOf root_apply norm_apply amax_apply extf_form)
open Idealize.ShloMosaic Idealize.ShloMosaic.ValueIdx
open Finset

/-- The rows and gains the body loads are the arguments. -/
structure Rows (a : Arr) (v0 : Vec Ideal S4608x2048 .bf16) (v12 : Vec Ideal S1x2048 .f32) : Prop where
  x : ∀ (r : Fin 4608) (d : Fin 2048), v0 (ix2 r d) = a.x r d
  g : ∀ d : Fin 2048, v12 (ix2 0 d) = a.g d

/-- One part of the weights it loads: the columns from `p` on. -/
structure Part (a : Arr) (p : ℕ) (w : Vec Ideal S2048x1x2048 .i8) (s : Vec Ideal S1x2048 .f32) : Prop where
  w : ∀ k c : Fin 2048, num (w (ix3 k 0 c)) = a.w k (p + c)
  s : ∀ c : Fin 2048, s (ix2 0 c) = a.ws (p + c)

/-- The tables of the rotation. -/
structure Tables (a : Arr) (co si : Vec Ideal S24x192x64 .f32) : Prop where
  co : ∀ (b : Fin 24) (s : Fin 192) (e : Fin 64), co (ix3 b s e) = a.co (192 * b + s) e
  si : ∀ (b : Fin 24) (s : Fin 192) (e : Fin 64), si (ix3 b s e) = a.si (192 * b + s) e

/-- The roots of the rows' mean squares. -/
def rms (H : FVec Ideal S4608x2048 .f32) : FVec Ideal S4608x1 .f32 :=
  sqrt (addf (divf (shapeCast S4608x1 (multiReduction (F := Ideal) (φ := .f32) .add [1] S4608 (mulf H H) 0x00000000#32 reduces_S4608x2048_S4608 (.inl rfl) rfl) shapeCasts_S4608_S4608x1)
    (broadcast S4608x1 (Scalar.ofBits .f32 0x45000000#32))) (broadcast S4608x1 (Scalar.ofBits .f32 0x3727C5AC#32)))

/-- The rows' largest magnitudes. -/
def rowAmax (X : FVec Ideal S4608x2048 .f32) : FVec Ideal S4608x1 .f32 :=
  shapeCast S4608x1 (multiReduction (F := Ideal) (φ := .f32) .maximumf [1] S4608 (absf X) 0xFF800000#32 reduces_S4608x2048_S4608 (.inl rfl) rfl) shapeCasts_S4608_S4608x1

/-- The scales from the largest magnitudes. -/
def sclOf {s : Shape} (X : FVec Ideal s .f32) : FVec Ideal s .f32 :=
  select (cmpf .oeq X (broadcast s (Scalar.ofBits .f32 0x00000000#32))) (broadcast s (Scalar.ofBits .f32 0x3F800000#32))
    (divf X (broadcast s (Scalar.ofBits .f32 0x42FE0000#32)))

/-- The codes of values at scales. -/
def codeOf {s : Shape} (V S : FVec Ideal s .f32) : IVec s 8 :=
  fptosi 8 (minimumf (broadcast s (Scalar.ofBits .f32 0x42FE0000#32)) (maximumf (broadcast s (Scalar.ofBits .f32 0xC2FE0000#32)) (roundeven (divf V S))))

theorem sclOf_apply {s : Shape} (X : FVec Ideal s .f32) (z) : sclOf X z = scaleOf (X z) := scale_form X z
theorem codeOf_apply {s : Shape} (V S : FVec Ideal s .f32) (z) : codeOf V S z = Ideal.fptosi 8 (quantOf (V z) (S z)) := code_form V S z

section
variable (v0 : Vec Ideal S4608x2048 .bf16) (v12 : Vec Ideal S1x2048 .f32)

theorem pay2_eq : k0_pay2 v0 v12 = mulf (divf (extf .f32 v0 bitsLt_bf16_f32) (broadcastTo S4608x2048 (rms (extf .f32 v0 bitsLt_bf16_f32)) broadcasts_S4608x1_S4608x2048))
    (broadcastTo S4608x2048 (shapeCast S1x2048 v12 shapeCasts_S1x2048_S1x2048) broadcasts_S1x2048_S4608x2048) := rfl
theorem pay3_eq : k0_pay3 v0 v12 = sclOf (rowAmax (k0_pay2 v0 v12)) := rfl
theorem pay4_eq : k0_pay4 v0 v12 = codeOf (k0_pay2 v0 v12) (broadcastTo S4608x2048 (k0_pay3 v0 v12) broadcasts_S4608x1_S4608x2048) := rfl

end

section
variable {a : Arr} {v0 : Vec Ideal S4608x2048 .bf16} {v12 : Vec Ideal S1x2048 .f32} (h : Rows a v0 v12)
include h

/-- The normalised rows. -/
theorem v_eq (r : Fin 4608) (d : Fin 2048) : k0_pay2 v0 v12 (ix2 r d) = v a r d := by
  have e0 : ∀ (r : Fin 4608) (d : Fin 2048), (extf .f32 v0 bitsLt_bf16_f32 : FVec Ideal S4608x2048 .f32) (ix2 r d) = a.x r d := fun r d => (extf_form v0 _ _).trans (h.x r d)
  rw [pay2_eq]
  generalize (extf .f32 v0 bitsLt_bf16_f32 : FVec Ideal S4608x2048 .f32) = H at e0 ⊢
  have e : rms H (ix2 r 0) = rootOf (∑ k : Fin 2048, a.x r k * a.x r k) :=
    root_apply H _ _ _ _ r (fun k : Fin 2048 => a.x r k) (fun k => e0 r k)
  refine (norm_apply H (rms H) v12 _ _ _ r d).trans ?_
  rw [e, e0, h.g, v]

/-- The rows' scales. -/
theorem scale_eq (r : Fin 4608) : k0_pay3 v0 v12 (ix2 r 0) = sc a r := by
  have e0 := v_eq h
  rw [pay3_eq]
  generalize k0_pay2 v0 v12 = X at e0 ⊢
  have e : rowAmax X (ix2 r 0) = Finset.fold max (lit 0xFF800000#32) (fun d : Fin 2048 => aabs (v a r d)) univ :=
    amax_apply X _ _ _ _ r (fun d : Fin 2048 => v a r d) (fun d => e0 r d)
  rw [sclOf_apply, e, sc]

/-- The codes. -/
theorem codes_eq (r : Fin 4608) (d : Fin 2048) : k0_pay4 v0 v12 (ix2 r d) = Ideal.fptosi 8 (q a r d) := by
  rw [pay4_eq, codeOf_apply, v_eq h, bcastCol, scale_eq h, q]

/-- The codes as numbers. -/
theorem num_eq (r : Fin 4608) (d : Fin 2048) : num (k0_pay4 v0 v12 (ix2 r d)) = q a r d := by
  rw [codes_eq h]
  exact sitofp_quantOf _ _

/-- The scales by sequence. -/
theorem scaleRows_eq (b : Fin 24) (u : Fin 1) (s : Fin 192) : k0_pay5 v0 v12 (ix3 b u s) = sc a (192 * b + s) := by
  refine Eq.trans ?_ (scale_eq h ⟨192 * b.val + s.val, by omega⟩)
  unfold k0_pay5
  generalize k0_pay3 v0 v12 = S
  exact shapeCast_apply _ shapeCasts_S4608x1_S24x1x192 (ix3 b u s) (ix2 ⟨192 * b.val + s.val, by omega⟩ 0) (by
    rw [Shape.rowMajor_val_two, Shape.rowMajor_val_three]
    show (192 * b.val + s.val) * 1 + 0 = (b.val * 1 + u.val) * 192 + s.val; omega)

end

/-- One part of the scaled product, by head. -/
def proj (S : FVec Ideal S4608x1 .f32) (X : FVec Ideal S4608x2048 .bf16) (w : Vec Ideal S2048x1x2048 .i8) (s : Vec Ideal S1x2048 .f32) : FVec Ideal S4608x16x128 .f32 :=
  shapeCast S4608x16x128 (mulf (mulf (matmul dot_S4608x2048_S2048x2048_S4608x2048_1_0_0_1_n_n none X
      (sitofp (F := Ideal) .bf16 (shapeCast S2048x2048 w shapeCasts_S2048x1x2048_S2048x2048)) (constant (F := Ideal) S4608x2048 .f32 0x00000000#32))
    (broadcastTo S4608x2048 S broadcasts_S4608x1_S4608x2048)) (broadcastTo S4608x2048 (shapeCast S1x2048 s shapeCasts_S1x2048_S1x2048) broadcasts_S1x2048_S4608x2048))
    shapeCasts_S4608x2048_S4608x16x128

theorem proj_form (D S W : FVec Ideal S4608x2048 .f32) (z) : mulf (mulf D S) W z = D z * S z * W z := rfl

/-- The head's entries are the columns of its part. -/
theorem proj_eq {a : Arr} {p : ℕ} (S : FVec Ideal S4608x1 .f32) (X : FVec Ideal S4608x2048 .bf16) (w : Vec Ideal S2048x1x2048 .i8) (s : Vec Ideal S1x2048 .f32)
    (hS : ∀ r : Fin 4608, S (ix2 r 0) = sc a r) (hX : ∀ (r : Fin 4608) (d : Fin 2048), X (ix2 r d) = q a r d) (hp : Part a p w s)
    (r : Fin 4608) (h : Fin 16) (e : Fin 128) : proj S X w s (ix3 r h e) = t a r (p + 128 * h + e) := by
  have hc : 128 * h.val + e.val < 2048 := by omega
  unfold proj
  refine (shapeCast_apply _ shapeCasts_S4608x2048_S4608x16x128 (ix3 r h e) (ix2 r ⟨128 * h.val + e.val, hc⟩) (by
    rw [Shape.rowMajor_val_two, Shape.rowMajor_val_three]
    show r.val * 2048 + (128 * h.val + e.val) = (r.val * 16 + h.val) * 128 + e.val; omega)).trans ?_
  refine (proj_form _ _ _ _).trans ?_
  rw [bcastCol, bcastRow, cast22, hS, hp.s]
  have e1 : matmul dot_S4608x2048_S2048x2048_S4608x2048_1_0_0_1_n_n none X
      (sitofp (F := Ideal) .bf16 (shapeCast S2048x2048 w shapeCasts_S2048x1x2048_S2048x2048)) (constant (F := Ideal) S4608x2048 .f32 0x00000000#32) (ix2 r ⟨128 * h.val + e.val, hc⟩)
      = lit 0x00000000#32 + ∑ k : Fin 2048, q a r k * a.w k (p + (128 * h + e)) := by
    refine (Ideal.matmul_plain_apply (M := 4608) (K := 2048) (N := 2048) none _ _ _ r ⟨128 * h.val + e.val, hc⟩).trans ?_
    refine congrArg (lit 0x00000000#32 + ·) (Finset.sum_congr rfl fun k _ => ?_)
    rw [hX]
    refine congrArg (q a r k * ·) (Eq.trans ?_ (hp.w k ⟨128 * h.val + e.val, hc⟩))
    exact congrArg num (shapeCast_apply w shapeCasts_S2048x1x2048_S2048x2048 (ix2 k ⟨128 * h.val + e.val, hc⟩) (ix3 k 0 ⟨128 * h.val + e.val, hc⟩) (by
      rw [Shape.rowMajor_val_two, Shape.rowMajor_val_three]
      show (k.val * 1 + 0) * 2048 + (128 * h.val + e.val) = k.val * 2048 + (128 * h.val + e.val); omega))
  rw [e1, t, ← Nat.add_assoc]

/-- The largest magnitude of each head's row. -/
def hAmax (X : FVec Ideal S4608x16x128 .f32) : FVec Ideal S4608x16x1 .f32 :=
  shapeCast S4608x16x1 (multiReduction (F := Ideal) (φ := .f32) .maximumf [2] S4608x16 (absf X) 0xFF800000#32 reduces_S4608x16x128_S4608x16 (.inl rfl) rfl) shapeCasts_S4608x16_S4608x16x1

theorem hAmax_eq (X : FVec Ideal S4608x16x128 .f32) (r : Fin 4608) (h : Fin 16) (g : Fin 128 → EReal) (hg : ∀ e, X (ix3 r h e) = g e) :
    hAmax X (ix3 r h 0) = Finset.fold max (lit 0xFF800000#32) (fun e => aabs (g e)) univ := by
  unfold hAmax
  refine (shapeCast_apply _ shapeCasts_S4608x16_S4608x16x1 (ix3 r h 0) (ix2 r h) (by
    rw [Shape.rowMajor_val_two, Shape.rowMajor_val_three]
    show r.val * 16 + h.val = (r.val * 16 + h.val) * 1 + 0; omega)).trans ?_
  refine (Ideal.multiReduction_maximumf_single (absf X) _ reduces_S4608x16x128_S4608x16 _ _ (ix2 r h)).trans ?_
  have e : absf X ∘ reduces_S4608x16x128_S4608x16.lift (ix2 r h) = fun e => aabs (g e) := by
    funext k
    refine Eq.trans (congrArg (absf X) ?_) ((abs_form X (ix3 r h k)).trans (congrArg aabs (hg k)))
    funext d; apply Fin.ext
    fin_cases d <;> rfl
  rw [e]
  rfl

/-- The codes and scales of sixteen heads whose entries are `f`. -/
def hScl (X : FVec Ideal S4608x16x128 .f32) : FVec Ideal S4608x16x1 .f32 := sclOf (hAmax X)
def hCode (X : FVec Ideal S4608x16x128 .f32) : IVec S4608x16x128 8 := codeOf X (broadcastTo S4608x16x128 (hScl X) broadcasts_S4608x16x1_S4608x16x128)
def codes4 (C : IVec S4608x16x128 8) : IVec S24x192x16x128 8 := shapeCast S24x192x16x128 C shapeCasts_S4608x16x128_S24x192x16x128
def scales3 (S : FVec Ideal S4608x16x1 .f32) : FVec Ideal S24x16x192 .f32 :=
  transpose S24x16x192 [0, 2, 1] (shapeCast S24x192x16 S shapeCasts_S4608x16x1_S24x192x16) transposes_S24x192x16_p0_2_1_S24x16x192

section
variable {f : ℕ → ℕ → ℕ → EReal} {X : FVec Ideal S4608x16x128 .f32} (hX : ∀ (r : Fin 4608) (h : Fin 16) (e : Fin 128), X (ix3 r h e) = f r h e)
include hX

theorem hScl_eq (r : Fin 4608) (h : Fin 16) : hScl X (ix3 r h 0) = hsc f r h := by
  unfold hScl
  rw [sclOf_apply, hAmax_eq X r h (fun e : Fin 128 => f r h e) (hX r h), hsc]

theorem hCode_eq (r : Fin 4608) (h : Fin 16) (e : Fin 128) : hCode X (ix3 r h e) = hq f r h e := by
  have eb : broadcastTo S4608x16x128 (hScl X) broadcasts_S4608x16x1_S4608x16x128 (ix3 r h e) = hScl X (ix3 r h 0) :=
    broadcastTo_apply _ _ (ix3 r h e) (ix3 r h 0) (fun a => by fin_cases a <;> rfl)
  unfold hCode
  rw [codeOf_apply, eb, hX, hScl_eq hX, hq]

/-- The codes laid out by sequence. -/
theorem codes4_eq (b : Fin 24) (s : Fin 192) (h : Fin 16) (e : Fin 128) : codes4 (hCode X) (ix4 b s h e) = hq f (192 * b + s) h e := by
  refine Eq.trans ?_ (hCode_eq hX ⟨192 * b.val + s.val, by omega⟩ h e)
  unfold codes4
  generalize hCode X = C
  exact shapeCast_apply _ shapeCasts_S4608x16x128_S24x192x16x128 (ix4 b s h e) (ix3 ⟨192 * b.val + s.val, by omega⟩ h e) (by
    rw [Shape.rowMajor_val_four, Shape.rowMajor_val_three]
    show ((192 * b.val + s.val) * 16 + h.val) * 128 + e.val = ((b.val * 192 + s.val) * 16 + h.val) * 128 + e.val; omega)

/-- The scales laid out by sequence and head. -/
theorem scales3_eq (b : Fin 24) (h : Fin 16) (s : Fin 192) : scales3 (hScl X) (ix3 b h s) = hsc f (192 * b + s) h := by
  refine Eq.trans ?_ (hScl_eq hX ⟨192 * b.val + s.val, by omega⟩ h)
  unfold scales3
  generalize hScl X = C
  refine (transpose_apply _ _ _ (ix3 b h s) (ix3 b s h) (fun a => by fin_cases a <;> rfl)).trans ?_
  exact shapeCast_apply _ shapeCasts_S4608x16x1_S24x192x16 (ix3 b s h) (ix3 ⟨192 * b.val + s.val, by omega⟩ h 0) (by
    rw [Shape.rowMajor_val_three, Shape.rowMajor_val_three]
    show ((192 * b.val + s.val) * 16 + h.val) * 1 + 0 = (b.val * 192 + s.val) * 16 + h.val; omega)

end

/-- A table's row for each head. -/
def tab (T : Vec Ideal S24x192x64 .f32) : FVec Ideal S4608x16x64 .f32 :=
  broadcastTo S4608x16x64 (shapeCast S4608x1x64 T shapeCasts_S24x192x64_S4608x1x64) broadcasts_S4608x1x64_S4608x16x64

theorem tab_eq (T : Vec Ideal S24x192x64 .f32) (f : ℕ → ℕ → EReal) (hT : ∀ (b : Fin 24) (s : Fin 192) (e : Fin 64), T (ix3 b s e) = f (192 * b + s) e)
    (r : Fin 4608) (h : Fin 16) (e : Fin 64) : tab T (ix3 r h e) = f r e := by
  unfold tab
  refine (broadcastTo_apply _ _ (ix3 r h e) (ix3 r 0 e) (fun a => by fin_cases a <;> rfl)).trans ?_
  refine (shapeCast_apply _ _ (ix3 r 0 e) (ix3 ⟨r.val / 192, by omega⟩ ⟨r.val % 192, by omega⟩ e) (by
    rw [Shape.rowMajor_val_three, Shape.rowMajor_val_three]
    show (r.val / 192 * 192 + r.val % 192) * 64 + e.val = (r.val * 1 + 0) * 64 + e.val; omega)).trans ?_
  refine (hT _ _ _).trans ?_
  show f (192 * (r.val / 192) + r.val % 192) e.val = f r.val e.val
  rw [Nat.div_add_mod]

/-- The heads' halves rotated. -/
def rot (T : FVec Ideal S4608x16x128 .f32) (C S : FVec Ideal S4608x16x64 .f32) : FVec Ideal S4608x16x128 .f32 :=
  concatenate S4608x16x128 2
    [⟨S4608x16x64, subf (mulf (extractStridedSlice S4608x16x64 ![0, 0, 0] T slices_S4608x16x128_o0_0_0_S4608x16x64) C) (mulf (extractStridedSlice S4608x16x64 ![0, 0, 64] T slices_S4608x16x128_o0_0_64_S4608x16x64) S)⟩,
     ⟨S4608x16x64, addf (mulf (extractStridedSlice S4608x16x64 ![0, 0, 64] T slices_S4608x16x128_o0_0_64_S4608x16x64) C) (mulf (extractStridedSlice S4608x16x64 ![0, 0, 0] T slices_S4608x16x128_o0_0_0_S4608x16x64) S)⟩]
    concatenates_S4608x16x64_S4608x16x64_S4608x16x128_d2

theorem sub_form (A C B S : FVec Ideal S4608x16x64 .f32) (z) : subf (mulf A C) (mulf B S) z = A z * C z + B z * -S z := by
  show A z * C z - B z * S z = A z * C z + B z * -S z
  rw [sub_eq_add_neg, mul_neg]

theorem add_form (A C B S : FVec Ideal S4608x16x64 .f32) (z) : addf (mulf A C) (mulf B S) z = A z * C z + B z * S z := rfl

theorem cat_lo (X Y : FVec Ideal S4608x16x64 .f32) (r : Fin 4608) (h : Fin 16) (e : Fin 128) (h64 : e.val < 64) :
    concatenate S4608x16x128 2 [⟨S4608x16x64, X⟩, ⟨S4608x16x64, Y⟩] concatenates_S4608x16x64_S4608x16x64_S4608x16x128_d2 (ix3 r h e) = X (ix3 r h ⟨e.val, h64⟩) :=
  concatenate_pair_apply_left 2 X Y _ (ix3 r h e) rfl (ix3 r h ⟨e.val, h64⟩) (fun b => by fin_cases b <;> rfl)

theorem cat_hi (X Y : FVec Ideal S4608x16x64 .f32) (r : Fin 4608) (h : Fin 16) (e : Fin 128) (h64 : ¬ e.val < 64) :
    concatenate S4608x16x128 2 [⟨S4608x16x64, X⟩, ⟨S4608x16x64, Y⟩] concatenates_S4608x16x64_S4608x16x64_S4608x16x128_d2 (ix3 r h e) = Y (ix3 r h ⟨e.val - 64, by omega⟩) := by
  refine concatenate_pair_apply_right 2 X Y _ (ix3 r h e) rfl rfl (ix3 r h ⟨e.val - 64, by omega⟩) (fun b hb => ?_) ?_
  · fin_cases b
    · rfl
    · rfl
    · exact absurd rfl hb
  · show e.val - 64 + 64 = e.val; omega

theorem rot_eq {a : Arr} (T : FVec Ideal S4608x16x128 .f32) (C S : FVec Ideal S4608x16x64 .f32)
    (hT : ∀ (r : Fin 4608) (h : Fin 16) (e : Fin 128), T (ix3 r h e) = t a r (2048 + 128 * h + e))
    (hC : ∀ (r : Fin 4608) (h : Fin 16) (e : Fin 64), C (ix3 r h e) = a.co r e) (hS : ∀ (r : Fin 4608) (h : Fin 16) (e : Fin 64), S (ix3 r h e) = a.si r e)
    (r : Fin 4608) (h : Fin 16) (e : Fin 128) : rot T C S (ix3 r h e) = key a r h e := by
  have lo : ∀ e : Fin 64, extractStridedSlice S4608x16x64 ![0, 0, 0] T slices_S4608x16x128_o0_0_0_S4608x16x64 (ix3 r h e) = t a r (2048 + 128 * h + e) := fun e =>
    (extractStridedSlice_apply _ T _ (ix3 r h e) (ix3 r h ⟨e.val, by omega⟩) (fun b => by
      fin_cases b
      · show r.val = 0 + r.val; omega
      · show h.val = 0 + h.val; omega
      · show e.val = 0 + e.val; omega)).trans (hT _ _ _)
  have hi : ∀ e : Fin 64, extractStridedSlice S4608x16x64 ![0, 0, 64] T slices_S4608x16x128_o0_0_64_S4608x16x64 (ix3 r h e) = t a r (2048 + 128 * h + (e + 64)) := fun e =>
    (extractStridedSlice_apply _ T _ (ix3 r h e) (ix3 r h ⟨e.val + 64, by omega⟩) (fun b => by
      fin_cases b
      · show r.val = 0 + r.val; omega
      · show h.val = 0 + h.val; omega
      · show e.val + 64 = 64 + e.val; omega)).trans (hT _ _ _)
  unfold rot key
  by_cases h64 : e.val < 64
  · rw [if_pos h64]
    refine (cat_lo _ _ r h e h64).trans ?_
    refine (sub_form _ _ _ _ _).trans ?_
    rw [lo, hi, hC, hS]
  · rw [if_neg h64]
    refine (cat_hi _ _ r h e h64).trans ?_
    refine (add_form _ _ _ _ _).trans ?_
    rw [lo, hi, hC, hS]
    show t a r (2048 + 128 * h + (e.val - 64 + 64)) * _ + _ = _
    rw [Nat.sub_add_cancel (by omega)]

section
variable (S : FVec Ideal S4608x1 .f32) (X : FVec Ideal S4608x2048 .bf16) (C : IVec S4608x2048 8) (w : Vec Ideal S2048x1x2048 .i8) (s : Vec Ideal S1x2048 .f32) (co si : Vec Ideal S24x192x64 .f32)

theorem pay7_eq : k0_pay7 S X w s co si = rot (proj S X w s) (tab co) (tab si) := rfl
theorem pay8_eq : k0_pay8 S X w s co si = hScl (k0_pay7 S X w s co si) := rfl
theorem pay9_eq : k0_pay9 S X w s co si = hCode (k0_pay7 S X w s co si) := rfl
theorem pay10_eq (K : IVec S4608x16x128 8) : k0_pay10 K = codes4 K := rfl
theorem pay11_eq (K : FVec Ideal S4608x16x1 .f32) : k0_pay11 K = scales3 K := rfl
theorem pay1_eq (K : FVec Ideal S4608x16x1 .f32) : k0_pay1 K = scales3 K := rfl
theorem pay12_eq : k0_pay12 S C w s = proj S (sitofp (F := Ideal) .bf16 C) w s := rfl
theorem pay13_eq : k0_pay13 S C w s = hScl (k0_pay12 S C w s) := rfl
theorem pay14_eq : k0_pay14 S C w s = codes4 (hCode (k0_pay12 S C w s)) := rfl

end

section
variable {a : Arr} {v0 : Vec Ideal S4608x2048 .bf16} {v12 : Vec Ideal S1x2048 .f32} (h : Rows a v0 v12)
  {w : Vec Ideal S2048x1x2048 .i8} {s : Vec Ideal S1x2048 .f32} {co si : Vec Ideal S24x192x64 .f32}
include h

/-- The keys. -/
theorem key_eq (hp : Part a 2048 w s) (ht : Tables a co si) (r : Fin 4608) (j : Fin 16) (e : Fin 128) :
    k0_pay7 (k0_pay3 v0 v12) (k0_pay6 v0 v12) w s co si (ix3 r j e) = key a r j e := by
  rw [pay7_eq]
  refine rot_eq _ _ _ (proj_eq _ _ w s (scale_eq h) (fun r d => ?_) hp) (tab_eq co a.co ht.co) (tab_eq si a.si ht.si) r j e
  exact num_eq h r d

/-- The values. -/
theorem val_eq (hp : Part a 4096 w s) (r : Fin 4608) (j : Fin 16) (e : Fin 128) :
    k0_pay12 (k0_pay3 v0 v12) (k0_pay4 v0 v12) w s (ix3 r j e) = QkvSpec.val a r j e := by
  rw [pay12_eq]
  exact proj_eq _ _ w s (scale_eq h) (fun r d => num_eq h r d) hp r j e

end

end Cert.QkvRefIdeal.Hand

end
-- ==== Proof.QkvRefOut.lean ====
/-
  The projection's reference: its six result arrays are functions of its arguments.
-/
module

public import proofs.«01_k».proof.Proof.Gen.QkvRefIdeal.Frame
public import proofs.«01_k».proof.Proof.QkvRefPay
public import Idealize.ShloMosaic.Lib.Pipeline.ValueKit.Basic
public import Idealize.ShloMosaic.Lib.Pipeline.ValueKit.Geometry
public import Idealize.ShloMosaic.Lib.Pipeline.ValueKit.Point

@[expose] public section

set_option maxRecDepth 65536

noncomputable section

namespace Cert.QkvRefIdeal.Hand

open Cert.QkvRefIdeal Cert.QkvRefIdeal.Gen Cert.QkvSpec Cert.Cells
open Cert.MlpSpec (num ext2 ext2_of ext2_fin)
open Idealize.ShloMosaic Idealize.ShloMosaic.TcCoe
open Idealize.SL.Sem
open Idealize.ShloMosaic.Pipeline (Dat)

attribute [local irreducible] QkvSpec.sc QkvSpec.q QkvSpec.hq QkvSpec.hsc QkvSpec.key QkvSpec.val

variable (m : (ℓ : Loc nD τ sig) → Buf (Elt Ideal) ℓ) (ρ : Dev nD → PrngReg) (c : Dev nD)

/-- The launched arguments. -/
def arr : Arr := arrOf (m (c, main_arg0)) (m (c, main_arg1)) (m (c, main_arg2)) (m (c, main_arg3)) (m (c, main_arg4)) (m (c, main_arg5))

theorem read0 (t : Fin cfg0.N) (r : Fin 4608) (k : Fin 2048) : iblk m c 0 t (ValueIdx.ix2 r k) = m (c, main_arg0) (ValueIdx.ix2 r k) := by
  have i : ∀ (t : Fin cfg0.N) a, win0_0.index t a = 0 := by decide +kernel
  blk_ext [iblk, V]
  · have := i t 0; omega
  · have := i t 1; omega

theorem read1 (t : Fin cfg0.N) (d : Fin 2048) : iblk m c 1 t (ValueIdx.ix2 0 d) = m (c, main_arg1) (ValueIdx.ix1 d) := by
  have e' : ((cfg0.win 1).blk t).view.emb (ValueIdx.ix2 0 d) = ValueIdx.ix2 0 d := by
    have i : ∀ (t : Fin cfg0.N) a, win0_1.index t a = 0 := by decide +kernel
    blk_ext
    · have := i t 0; omega
    · have := i t 1; omega
  show V m c main_v0 (((cfg0.win 1).blk t).view.emb (ValueIdx.ix2 0 d)) = _
  rw [e']
  entry_read
  exact shapeCast_apply _ _ (ValueIdx.ix2 0 d) (ValueIdx.ix1 d) (by
    rw [Shape.rowMajor_val_two, Shape.rowMajor_val_one]; show d.val = 0 * 2048 + d.val; omega)

theorem read2 (t : Fin cfg0.N) (k : Fin 2048) (p : Fin 3) (d : Fin 2048) :
    iblk m c 2 t (ValueIdx.ix3 k p d) = m (c, main_arg2) (ValueIdx.ix4 k p ⟨d.val / 128, by omega⟩ ⟨d.val % 128, by omega⟩) := by
  have e' : ((cfg0.win 2).blk t).view.emb (ValueIdx.ix3 k p d) = ValueIdx.ix3 k p d := by
    have i : ∀ (t : Fin cfg0.N) a, win0_2.index t a = 0 := by decide +kernel
    blk_ext
    · have := i t 0; omega
    · have := i t 1; omega
    · have := i t 2; omega
  show V m c main_v1 (((cfg0.win 2).blk t).view.emb (ValueIdx.ix3 k p d)) = _
  rw [e']
  entry_read
  exact shapeCast_apply _ _ (ValueIdx.ix3 k p d) (ValueIdx.ix4 k p ⟨d.val / 128, by omega⟩ ⟨d.val % 128, by omega⟩) (by
    rw [Shape.rowMajor_val_three, Shape.rowMajor_val_four]
    show ((k.val * 3 + p.val) * 16 + d.val / 128) * 128 + d.val % 128 = (k.val * 3 + p.val) * 2048 + d.val; omega)

theorem read3 (t : Fin cfg0.N) (p : Fin 3) (d : Fin 2048) :
    iblk m c 3 t (ValueIdx.ix2 p d) = m (c, main_arg3) (ValueIdx.ix3 p ⟨d.val / 128, by omega⟩ ⟨d.val % 128, by omega⟩) := by
  have e' : ((cfg0.win 3).blk t).view.emb (ValueIdx.ix2 p d) = ValueIdx.ix2 p d := by
    have i : ∀ (t : Fin cfg0.N) a, win0_3.index t a = 0 := by decide +kernel
    blk_ext
    · have := i t 0; omega
    · have := i t 1; omega
  show V m c main_v2 (((cfg0.win 3).blk t).view.emb (ValueIdx.ix2 p d)) = _
  rw [e']
  entry_read
  exact shapeCast_apply _ _ (ValueIdx.ix2 p d) (ValueIdx.ix3 p ⟨d.val / 128, by omega⟩ ⟨d.val % 128, by omega⟩) (by
    rw [Shape.rowMajor_val_two, Shape.rowMajor_val_three]
    show (p.val * 16 + d.val / 128) * 128 + d.val % 128 = p.val * 2048 + d.val; omega)

theorem read4 (t : Fin cfg0.N) (b : Fin 24) (s : Fin 192) (e : Fin 64) : iblk m c 4 t (ValueIdx.ix3 b s e) = m (c, main_arg4) (ValueIdx.ix3 b s e) := by
  have i : ∀ (t : Fin cfg0.N) a, win0_4.index t a = 0 := by decide +kernel
  blk_ext [iblk, V]
  · have := i t 0; omega
  · have := i t 1; omega
  · have := i t 2; omega

theorem read5 (t : Fin cfg0.N) (b : Fin 24) (s : Fin 192) (e : Fin 64) : iblk m c 5 t (ValueIdx.ix3 b s e) = m (c, main_arg5) (ValueIdx.ix3 b s e) := by
  have i : ∀ (t : Fin cfg0.N) a, win0_5.index t a = 0 := by decide +kernel
  blk_ext [iblk, V]
  · have := i t 0; omega
  · have := i t 1; omega
  · have := i t 2; omega

/-- A load of a whole block is the block. -/
theorem whole0 {Val : EltTy → Type} {e : EltTy} (X : S4608x2048.Idx → Val e) : View.ld X r0_0 = X := View.ld_unit_lit _ X (by decide)
theorem whole1 {Val : EltTy → Type} {e : EltTy} (X : S1x2048.Idx → Val e) : View.ld X r0_1 = X := View.ld_unit_lit _ X (by decide)
theorem whole5 {Val : EltTy → Type} {e : EltTy} (X : S24x192x64.Idx → Val e) : View.ld X r0_5 = X := View.ld_unit_lit _ X (by decide)

/-- The rows and gains loaded are the arguments. -/
theorem rows (t : Fin cfg0.N) : Rows (arr m c) (View.ld (iblk m c 0 t) r0_0) (View.ld (iblk m c 1 t) r0_1) where
  x r d := by
    refine (congrFun (whole0 (iblk m c 0 t)) (ValueIdx.ix2 r d)).trans ?_
    exact (read0 m c t r d).trans (ext2_fin (fun r d => m (c, main_arg0) (ValueIdx.ix2 r d)) r d).symm
  g d := by
    refine (congrFun (whole1 (iblk m c 1 t)) (ValueIdx.ix2 0 d)).trans ?_
    exact (read1 m c t d).trans (ext2_of (P := 2048) (Q := 1) (fun d _ => m (c, main_arg1) (ValueIdx.ix1 d)) d.isLt (by decide)).symm

theorem wPart (p : Fin 3) (k d : Fin 2048) : num (m (c, main_arg2) (ValueIdx.ix4 k p ⟨d.val / 128, by omega⟩ ⟨d.val % 128, by omega⟩)) = (arr m c).w k (2048 * p + d) := by
  refine Eq.trans (congrArg num (congrArg (m (c, main_arg2)) ?_)) (ext2_of (P := 2048) (Q := 6144) (fun k c' => num (m (c, main_arg2) (ValueIdx.ix4 k ⟨c'.val / 2048, by omega⟩ ⟨c'.val % 2048 / 128, by omega⟩ ⟨c'.val % 128, by omega⟩))) k.isLt (by omega)).symm
  funext a; apply Fin.ext
  fin_cases a
  · rfl
  · show p.val = (2048 * p.val + d.val) / 2048; omega
  · show d.val / 128 = (2048 * p.val + d.val) % 2048 / 128; omega
  · show d.val % 128 = (2048 * p.val + d.val) % 128; omega

theorem sPart (p : Fin 3) (d : Fin 2048) : m (c, main_arg3) (ValueIdx.ix3 p ⟨d.val / 128, by omega⟩ ⟨d.val % 128, by omega⟩) = (arr m c).ws (2048 * p + d) := by
  refine Eq.trans (congrArg (m (c, main_arg3)) ?_) (ext2_of (P := 6144) (Q := 1) (fun c' _ => m (c, main_arg3) (ValueIdx.ix3 ⟨c'.val / 2048, by omega⟩ ⟨c'.val % 2048 / 128, by omega⟩ ⟨c'.val % 128, by omega⟩)) (by omega) (by decide)).symm
  funext a; apply Fin.ext
  fin_cases a
  · show p.val = (2048 * p.val + d.val) / 2048; omega
  · show d.val / 128 = (2048 * p.val + d.val) % 2048 / 128; omega
  · show d.val % 128 = (2048 * p.val + d.val) % 128; omega

/-- The weights and scales of the keys. -/
theorem kPart (t : Fin cfg0.N) : Part (arr m c) 2048 (View.ld (iblk m c 2 t) r0_3) (View.ld (iblk m c 3 t) r0_4) where
  w k d := by
    have e : View.ld (iblk m c 2 t) r0_3 (ValueIdx.ix3 k 0 d) = iblk m c 2 t (ValueIdx.ix3 k 1 d) := by
      refine (congrFun (View.ld_unit (iblk m c 2 t) _ _ _) (ValueIdx.ix3 k 0 d)).trans ?_
      exact extractStridedSlice_apply _ (iblk m c 2 t) _ (ValueIdx.ix3 k 0 d) (ValueIdx.ix3 k 1 d) (fun a => by
        fin_cases a
        · show k.val = 0 + k.val; omega
        · rfl
        · show d.val = 0 + d.val; omega)
    exact (congrArg num (e.trans (read2 m c t k 1 d))).trans (wPart m c 1 k d)
  s d := by
    have e : View.ld (iblk m c 3 t) r0_4 (ValueIdx.ix2 0 d) = iblk m c 3 t (ValueIdx.ix2 1 d) := by
      refine (congrFun (View.ld_unit (iblk m c 3 t) _ _ _) (ValueIdx.ix2 0 d)).trans ?_
      exact extractStridedSlice_apply _ (iblk m c 3 t) _ (ValueIdx.ix2 0 d) (ValueIdx.ix2 1 d) (fun a => by
        fin_cases a
        · rfl
        · show d.val = 0 + d.val; omega)
    exact (e.trans (read3 m c t 1 d)).trans (sPart m c 1 d)

/-- The weights and scales of the values. -/
theorem vPart (t : Fin cfg0.N) : Part (arr m c) 4096 (View.ld (iblk m c 2 t) r0_8) (View.ld (iblk m c 3 t) r0_9) where
  w k d := by
    have e : View.ld (iblk m c 2 t) r0_8 (ValueIdx.ix3 k 0 d) = iblk m c 2 t (ValueIdx.ix3 k 2 d) := by
      refine (congrFun (View.ld_unit (iblk m c 2 t) _ _ _) (ValueIdx.ix3 k 0 d)).trans ?_
      exact extractStridedSlice_apply _ (iblk m c 2 t) _ (ValueIdx.ix3 k 0 d) (ValueIdx.ix3 k 2 d) (fun a => by
        fin_cases a
        · show k.val = 0 + k.val; omega
        · rfl
        · show d.val = 0 + d.val; omega)
    exact (congrArg num (e.trans (read2 m c t k 2 d))).trans (wPart m c 2 k d)
  s d := by
    have e : View.ld (iblk m c 3 t) r0_9 (ValueIdx.ix2 0 d) = iblk m c 3 t (ValueIdx.ix2 2 d) := by
      refine (congrFun (View.ld_unit (iblk m c 3 t) _ _ _) (ValueIdx.ix2 0 d)).trans ?_
      exact extractStridedSlice_apply _ (iblk m c 3 t) _ (ValueIdx.ix2 0 d) (ValueIdx.ix2 2 d) (fun a => by
        fin_cases a
        · rfl
        · show d.val = 0 + d.val; omega)
    exact (e.trans (read3 m c t 2 d)).trans (sPart m c 2 d)

/-- The tables of the rotation. -/
theorem tables (t : Fin cfg0.N) : Tables (arr m c) (View.ld (iblk m c 4 t) r0_5) (View.ld (iblk m c 5 t) r0_5) where
  co b s e := by
    refine (congrFun (whole5 (iblk m c 4 t)) (ValueIdx.ix3 b s e)).trans ((read4 m c t b s e).trans ?_)
    refine Eq.trans (congrArg (m (c, main_arg4)) ?_) (ext2_of (P := 4608) (Q := 64) (fun r e => m (c, main_arg4) (ValueIdx.ix3 ⟨r.val / 192, by omega⟩ ⟨r.val % 192, by omega⟩ e)) (by omega) e.isLt).symm
    funext a; apply Fin.ext
    fin_cases a
    · show b.val = (192 * b.val + s.val) / 192; omega
    · show s.val = (192 * b.val + s.val) % 192; omega
    · rfl
  si b s e := by
    refine (congrFun (whole5 (iblk m c 5 t)) (ValueIdx.ix3 b s e)).trans ((read5 m c t b s e).trans ?_)
    refine Eq.trans (congrArg (m (c, main_arg5)) ?_) (ext2_of (P := 4608) (Q := 64) (fun r e => m (c, main_arg5) (ValueIdx.ix3 ⟨r.val / 192, by omega⟩ ⟨r.val % 192, by omega⟩ e)) (by omega) e.isLt).symm
    funext a; apply Fin.ext
    fin_cases a
    · show b.val = (192 * b.val + s.val) / 192; omega
    · show s.val = (192 * b.val + s.val) % 192; omega
    · rfl

/-- The block of the codes. -/
theorem after_xc (t : Fin cfg0.N) (r : Fin 4608) (d : Fin 2048) : (dats m 0 c).after 6 t (ValueIdx.ix2 r d) = Ideal.fptosi 8 (q (arr m c) r d) := by
  rw [after0_6]
  unfold out0_6
  rw [View.canon_cons_unit_lit _ _ _ (by decide)]
  exact codes_eq (rows m c t) r d

/-- The block of their scales. -/
theorem after_xs (t : Fin cfg0.N) (b : Fin 24) (u : Fin 1) (s : Fin 192) : (dats m 0 c).after 7 t (ValueIdx.ix3 b u s) = sc (arr m c) (192 * b + s) := by
  rw [after0_7]
  unfold out0_7
  rw [View.canon_cons_unit_lit _ _ _ (by decide)]
  exact scaleRows_eq (rows m c t) b u s

/-- The block of the keys' codes. -/
theorem after_kc (t : Fin cfg0.N) (b : Fin 24) (s : Fin 192) (h : Fin 16) (e : Fin 128) : (dats m 0 c).after 8 t (ValueIdx.ix4 b s h e) = hq (key (arr m c)) (192 * b + s) h e := by
  rw [after0_8]
  unfold out0_8 k0_pay17 k0_pay15
  rw [View.canon_cons_unit_lit _ _ _ (by decide)]
  rw [pay10_eq, pay9_eq]
  exact codes4_eq (key_eq (rows m c t) (kPart m c t) (tables m c t)) b s h e

/-- The block of the keys' scales. -/
theorem after_ks (t : Fin cfg0.N) (b : Fin 24) (h : Fin 16) (s : Fin 192) : (dats m 0 c).after 9 t (ValueIdx.ix3 b h s) = hsc (key (arr m c)) (192 * b + s) h := by
  rw [after0_9]
  unfold out0_9 k0_pay17 k0_pay15
  rw [View.canon_cons_unit_lit _ _ _ (by decide)]
  rw [pay11_eq, pay8_eq]
  exact scales3_eq (key_eq (rows m c t) (kPart m c t) (tables m c t)) b h s

/-- The block of the values' codes. -/
theorem after_vc (t : Fin cfg0.N) (b : Fin 24) (s : Fin 192) (h : Fin 16) (e : Fin 128) : (dats m 0 c).after 10 t (ValueIdx.ix4 b s h e) = hq (QkvSpec.val (arr m c)) (192 * b + s) h e := by
  rw [after0_10]
  unfold out0_10 k0_pay16 k0_pay15
  rw [View.canon_cons_unit_lit _ _ _ (by decide)]
  rw [pay14_eq]
  exact codes4_eq (val_eq (rows m c t) (vPart m c t)) b s h e

/-- The block of the values' scales. -/
theorem after_vs (t : Fin cfg0.N) (b : Fin 24) (h : Fin 16) (s : Fin 192) : (dats m 0 c).after 11 t (ValueIdx.ix3 b h s) = hsc (QkvSpec.val (arr m c)) (192 * b + s) h := by
  rw [after0_11]
  unfold out0_11 k0_pay16 k0_pay15
  rw [View.canon_cons_unit_lit _ _ _ (by decide)]
  rw [pay1_eq, pay13_eq]
  exact scales3_eq (val_eq (rows m c t) (vPart m c t)) b h s

/-- The codes. -/
theorem final_xc : (dats m 0 c).arrAt 6 cfg0.N = resXc (arr m c) := by
  refine Dat.arrAt_eq_of_covers (cfg := cfg0) (dats m 0 c) 6 (resXc (arr m c)) (by decide +kernel) fun t hf e => ?_
  have k : ∀ (r : Fin 4608) (d : Fin 2048), (ValueIdx.ix2 r d : S4608x2048.Idx) = e →
      ((win0_6.blk t).view.emb e : S4608x2048.Idx) = ValueIdx.ix2 r d := by
    rintro r d rfl
    have i : ∀ (t : Fin cfg0.N) a, win0_6.index t a = 0 := by decide +kernel
    blk_ext
    · have := i t 0; omega
    · have := i t 1; omega
  obtain ⟨r, d, hrd⟩ : ∃ (r : Fin 4608) (d : Fin 2048), (ValueIdx.ix2 r d : S4608x2048.Idx) = e := ⟨e 0, e 1, by funext a; fin_cases a <;> rfl⟩
  have k' := k r d hrd
  blk_simp
  refine Eq.trans ?_ ((after_xc m c t r d).trans ?_)
  · rw [hrd]
  · exact (congrArg (resXc (arr m c)) k').symm

/-- Their scales. -/
theorem final_xs : (dats m 0 c).arrAt 7 cfg0.N = resXs (arr m c) := by
  refine Dat.arrAt_eq_of_covers (cfg := cfg0) (dats m 0 c) 7 (resXs (arr m c)) (by decide +kernel) fun t hf e => ?_
  have k : ∀ (b : Fin 24) (u : Fin 1) (s : Fin 192), (ValueIdx.ix3 b u s : S24x1x192.Idx) = e →
      ((win0_7.blk t).view.emb e : S24x1x192.Idx) = ValueIdx.ix3 b u s := by
    rintro b u s rfl
    have i : ∀ (t : Fin cfg0.N) a, win0_7.index t a = 0 := by decide +kernel
    blk_ext
    · have := i t 0; omega
    · have := i t 1; omega
    · have := i t 2; omega
  obtain ⟨b, u, s, hrd⟩ : ∃ (b : Fin 24) (u : Fin 1) (s : Fin 192), (ValueIdx.ix3 b u s : S24x1x192.Idx) = e := ⟨e 0, e 1, e 2, by funext a; fin_cases a <;> rfl⟩
  have k' := k b u s hrd
  blk_simp
  refine Eq.trans ?_ ((after_xs m c t b u s).trans ?_)
  · rw [hrd]
  · exact (congrArg (resXs (arr m c)) k').symm

/-- The keys' codes. -/
theorem final_kc : (dats m 0 c).arrAt 8 cfg0.N = resC (key (arr m c)) := by
  refine Dat.arrAt_eq_of_covers (cfg := cfg0) (dats m 0 c) 8 (resC (key (arr m c))) (by decide +kernel) fun t hf e => ?_
  have k : ∀ (b : Fin 24) (s : Fin 192) (h : Fin 16) (d : Fin 128), (ValueIdx.ix4 b s h d : S24x192x16x128.Idx) = e →
      ((win0_8.blk t).view.emb e : S24x192x16x128.Idx) = ValueIdx.ix4 b s h d := by
    rintro b s h d rfl
    have i : ∀ (t : Fin cfg0.N) a, win0_8.index t a = 0 := by decide +kernel
    blk_ext
    · have := i t 0; omega
    · have := i t 1; omega
    · have := i t 2; omega
    · have := i t 3; omega
  obtain ⟨b, s, h, d, hrd⟩ : ∃ (b : Fin 24) (s : Fin 192) (h : Fin 16) (d : Fin 128), (ValueIdx.ix4 b s h d : S24x192x16x128.Idx) = e := ⟨e 0, e 1, e 2, e 3, by funext a; fin_cases a <;> rfl⟩
  have k' := k b s h d hrd
  blk_simp
  refine Eq.trans ?_ ((after_kc m c t b s h d).trans ?_)
  · rw [hrd]
  · exact (congrArg (resC (key (arr m c))) k').symm

/-- The keys' scales. -/
theorem final_ks : (dats m 0 c).arrAt 9 cfg0.N = resS (key (arr m c)) := by
  refine Dat.arrAt_eq_of_covers (cfg := cfg0) (dats m 0 c) 9 (resS (key (arr m c))) (by decide +kernel) fun t hf e => ?_
  have k : ∀ (b : Fin 24) (h : Fin 16) (s : Fin 192), (ValueIdx.ix3 b h s : S24x16x192.Idx) = e →
      ((win0_9.blk t).view.emb e : S24x16x192.Idx) = ValueIdx.ix3 b h s := by
    rintro b h s rfl
    have i : ∀ (t : Fin cfg0.N) a, win0_9.index t a = 0 := by decide +kernel
    blk_ext
    · have := i t 0; omega
    · have := i t 1; omega
    · have := i t 2; omega
  obtain ⟨b, h, s, hrd⟩ : ∃ (b : Fin 24) (h : Fin 16) (s : Fin 192), (ValueIdx.ix3 b h s : S24x16x192.Idx) = e := ⟨e 0, e 1, e 2, by funext a; fin_cases a <;> rfl⟩
  have k' := k b h s hrd
  blk_simp
  refine Eq.trans ?_ ((after_ks m c t b h s).trans ?_)
  · rw [hrd]
  · exact (congrArg (resS (key (arr m c))) k').symm

/-- The values' codes. -/
theorem final_vc : (dats m 0 c).arrAt 10 cfg0.N = resC (QkvSpec.val (arr m c)) := by
  refine Dat.arrAt_eq_of_covers (cfg := cfg0) (dats m 0 c) 10 (resC (QkvSpec.val (arr m c))) (by decide +kernel) fun t hf e => ?_
  have k : ∀ (b : Fin 24) (s : Fin 192) (h : Fin 16) (d : Fin 128), (ValueIdx.ix4 b s h d : S24x192x16x128.Idx) = e →
      ((win0_10.blk t).view.emb e : S24x192x16x128.Idx) = ValueIdx.ix4 b s h d := by
    rintro b s h d rfl
    have i : ∀ (t : Fin cfg0.N) a, win0_10.index t a = 0 := by decide +kernel
    blk_ext
    · have := i t 0; omega
    · have := i t 1; omega
    · have := i t 2; omega
    · have := i t 3; omega
  obtain ⟨b, s, h, d, hrd⟩ : ∃ (b : Fin 24) (s : Fin 192) (h : Fin 16) (d : Fin 128), (ValueIdx.ix4 b s h d : S24x192x16x128.Idx) = e := ⟨e 0, e 1, e 2, e 3, by funext a; fin_cases a <;> rfl⟩
  have k' := k b s h d hrd
  blk_simp
  refine Eq.trans ?_ ((after_vc m c t b s h d).trans ?_)
  · rw [hrd]
  · exact (congrArg (resC (QkvSpec.val (arr m c))) k').symm

/-- The values' scales. -/
theorem final_vs : (dats m 0 c).arrAt 11 cfg0.N = resS (QkvSpec.val (arr m c)) := by
  refine Dat.arrAt_eq_of_covers (cfg := cfg0) (dats m 0 c) 11 (resS (QkvSpec.val (arr m c))) (by decide +kernel) fun t hf e => ?_
  have k : ∀ (b : Fin 24) (h : Fin 16) (s : Fin 192), (ValueIdx.ix3 b h s : S24x16x192.Idx) = e →
      ((win0_11.blk t).view.emb e : S24x16x192.Idx) = ValueIdx.ix3 b h s := by
    rintro b h s rfl
    have i : ∀ (t : Fin cfg0.N) a, win0_11.index t a = 0 := by decide +kernel
    blk_ext
    · have := i t 0; omega
    · have := i t 1; omega
    · have := i t 2; omega
  obtain ⟨b, h, s, hrd⟩ : ∃ (b : Fin 24) (h : Fin 16) (s : Fin 192), (ValueIdx.ix3 b h s : S24x16x192.Idx) = e := ⟨e 0, e 1, e 2, by funext a; fin_cases a <;> rfl⟩
  have k' := k b h s hrd
  blk_simp
  refine Eq.trans ?_ ((after_vs m c t b h s).trans ?_)
  · rw [hrd]
  · exact (congrArg (resS (QkvSpec.val (arr m c))) k').symm

/-- The run leaves the arguments as launched. -/
theorem args_kept {r : PUnit × MemSt nD τ sig (Elt Ideal)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have kept : ∀ w : Fin cfg0.W, (cfg0.win w).isOut = false → r.2.mem ((c : Thread nD τ).loc (Pipeline.arrRef spec0 w)) = V m c (Pipeline.arrRef spec0 w) :=
    fun w hw => ((h c).1 w).trans (((dats m 0 c).arrAt_in w hw _).trans (A_eq m c w))
  exact ⟨(kept 0 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (kept 4 rfl).trans (V_main_arg4 m c), (kept 5 rfl).trans (V_main_arg5 m c)⟩

/-- The run: it terminates, leaves in the six results the functions of the arguments, and the arguments as launched. -/
theorem value_run : θ_run defs (onTc (τ := τ) (main (F := Ideal))) (s₀ m ρ) (fun r => ∀ c : Dev nD,
    (r.2.mem ((c.tc : Thread nD τ).loc main_v3_0) = resXc (arr m c)
      ∧ r.2.mem ((c.tc : Thread nD τ).loc main_v3_1) = resXs (arr m c)
      ∧ r.2.mem ((c.tc : Thread nD τ).loc main_v3_2) = resC (key (arr m c))
      ∧ r.2.mem ((c.tc : Thread nD τ).loc main_v3_3) = resS (key (arr m c))
      ∧ r.2.mem ((c.tc : Thread nD τ).loc main_v3_4) = resC (QkvSpec.val (arr m c))
      ∧ r.2.mem ((c.tc : Thread nD τ).loc main_v3_5) = resS (QkvSpec.val (arr m c)))
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨⟨((h c).1 6).trans (final_xc m c), ((h c).1 7).trans (final_xs m c), ((h c).1 8).trans (final_kc m c),
    ((h c).1 9).trans (final_ks m c), ((h c).1 10).trans (final_vc m c), ((h c).1 11).trans (final_vs m c)⟩, args_kept m h c⟩) (run_main m ρ)

end Cert.QkvRefIdeal.Hand

end
-- ==== Proof.QkvEq.lean ====
/-
  Kernel and reference of the projection leave the same results.
-/
module

public import proofs.«01_k».proof.Defs
public import proofs.«01_k».proof.Proof.QkvSame
public import proofs.«01_k».proof.Proof.QkvRefOut

@[expose] public section

set_option maxRecDepth 65536

noncomputable section

namespace Cert.QkvHand

open Idealize.ShloMosaic Idealize.SL.Sem

/-- The kernel's frame, of its idealized program. -/
theorem ideal_frame (hF : Cert.QkvIdeal.Facts) : Cert.quiescent_QkvIdeal (hQkvIdeal := hF) := by
  intro m g _
  exact Cert.QkvIdeal.Hand.frame_run (F := Ideal) m g

/-- The reference's run terminates, leaves the arguments as launched, and every semaphore at zero. -/
theorem ref_frame (hF : Cert.QkvRefIdeal.Facts) : Cert.quiescent_QkvRefIdeal (hQkvRefIdeal := hF) := by
  intro m g _
  refine (θ_run _ _ _).mono (fun r h => ⟨fun c => ?_, h.2⟩) (Cert.QkvRefIdeal.Gen.run_main_quiescent m g)
  exact Cert.QkvRefIdeal.Hand.args_kept m h.1 c

/-- From the same arguments the two runs end with equal results. -/
theorem equal : Cert.algebraic_QkvIdeal_QkvRefIdeal (hQkvIdeal := Cert.QkvIdeal.Gen.facts) (hQkvRefIdeal := Cert.QkvRefIdeal.Gen.facts) := by
  intro m g m' g' _ hm
  have e : ∀ c, Cert.QkvRefIdeal.Hand.arr m' c = Cert.Qkv.Hand.arr m c := by
    intro c
    obtain ⟨h0, h1, h2, h3, h4, h5⟩ := hm c
    unfold Cert.QkvRefIdeal.Hand.arr Cert.Qkv.Hand.arr
    exact congr (congr (congr (congr (congr (congrArg Cert.QkvSpec.arrOf h0) h1) h2) h3) h4) h5
  refine ⟨fun c => Cert.QkvSpec.resXc (Cert.Qkv.Hand.arr m c), fun c => Cert.QkvSpec.resXs (Cert.Qkv.Hand.arr m c),
    fun c => Cert.QkvSpec.resC (Cert.QkvSpec.key (Cert.Qkv.Hand.arr m c)), fun c => Cert.QkvSpec.resS (Cert.QkvSpec.key (Cert.Qkv.Hand.arr m c)),
    fun c => Cert.QkvSpec.resC (Cert.QkvSpec.val (Cert.Qkv.Hand.arr m c)), fun c => Cert.QkvSpec.resS (Cert.QkvSpec.val (Cert.Qkv.Hand.arr m c)), ?_, ?_⟩
  · rw [Cert.QkvIdeal.Hand.defs_eq, Cert.QkvIdeal.Hand.main_eq]
    refine (θ_run _ _ _).mono (fun r h c => ?_) (Cert.Qkv.Hand.value_run m g)
    have k := h c
    exact ⟨k.1.1, k.1.2.1, k.1.2.2.1, k.1.2.2.2.1, k.1.2.2.2.2.1, k.1.2.2.2.2.2, k.2⟩
  · refine (θ_run _ _ _).mono (fun r h c => ?_) (Cert.QkvRefIdeal.Hand.value_run m' g')
    have k := h c
    rw [e c] at k
    exact ⟨k.1.1, k.1.2.1, k.1.2.2.1, k.1.2.2.2.1, k.1.2.2.2.2.1, k.1.2.2.2.2.2, k.2⟩

end Cert.QkvHand

end
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Skeleton
public import proofs.«01_k».proof.Proof.Gen.MlpRefIdeal.Launch
public import proofs.«01_k».proof.Proof.Gen.MlpRefIdeal.Points
public import proofs.«01_k».proof.Proof.Gen.MlpRefIdeal.Frame
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.Gen.Oproj.Frame
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojIdeal.Frame
public import proofs.«01_k».proof.Proof.Gen.OprojRefIdeal
public import proofs.«01_k».proof.Proof.Gen.OprojRefIdeal.Skeleton
public import proofs.«01_k».proof.Proof.Gen.OprojRefIdeal.Launch
public import proofs.«01_k».proof.Proof.Gen.OprojRefIdeal.Points
public import proofs.«01_k».proof.Proof.Gen.OprojRefIdeal.Frame
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.MlpSame
public import proofs.«01_k».proof.Proof.MlpEq
public import proofs.«01_k».proof.Proof.OprojSame
public import proofs.«01_k».proof.Proof.OprojEq
public import proofs.«01_k».proof.Proof.QkvEq
public import Idealize.ShloMosaic.Adequacy
public import Idealize.ShloMosaic.Init

@[expose] public section

noncomputable section

namespace Cert.Proof

open Idealize.ShloMosaic Idealize.SL.Sem Cert.Mlp

theorem claim : Cert.Claim := ⟨Cert.Mlp.Gen.facts, Cert.MlpIdeal.Gen.facts, Cert.MlpRefIdeal.Gen.facts,
  Cert.Oproj.Gen.facts, Cert.OprojIdeal.Gen.facts, Cert.OprojRefIdeal.Gen.facts,
  Cert.Qkv.Gen.facts, Cert.QkvIdeal.Gen.facts, Cert.QkvRefIdeal.Gen.facts,
  fun m g _ => Cert.Mlp.Hand.frame_run m g,
  fun m g _ => Cert.MlpIdeal.Hand.frame_run m g,
  Cert.MlpHand.ref_frame _,
  fun m g _ => Cert.Oproj.Hand.frame_run m g,
  fun m g _ => Cert.OprojIdeal.Hand.frame_run m g,
  Cert.OprojHand.ref_frame _,
  fun m g _ => Cert.Qkv.Hand.frame_run m g,
  Cert.QkvHand.ideal_frame _,
  Cert.QkvHand.ref_frame _,
  trivial,
  Cert.MlpHand.equal,
  trivial,
  Cert.OprojHand.equal,
  trivial,
  Cert.QkvHand.equal⟩

end Cert.Proof

end
